-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15)
      ∧ r.2.mem ((c.tc : Thread Cert.Kernel8.nD Cert.Kernel8.τ).loc Cert.Kernel8.main_arg16) = m ((c.tc : Thread Cert.Kernel8.nD Cert.Kernel8.τ).loc Cert.Kernel8.main_arg16)
      ∧ r.2.mem ((c.tc : Thread Cert.Kernel8.nD Cert.Kernel8.τ).loc Cert.Kernel8.main_arg17) = m ((c.tc : Thread Cert.Kernel8.nD Cert.Kernel8.τ).loc Cert.Kernel8.main_arg17)
      ∧ r.2.mem ((c.tc : Thread Cert.Kernel8.nD Cert.Kernel8.τ).loc Cert.Kernel8.main_arg18) = m ((c.tc : Thread Cert.Kernel8.nD Cert.Kernel8.τ).loc Cert.Kernel8.main_arg18)
      ∧ r.2.mem ((c.tc : Thread Cert.Kernel8.nD Cert.Kernel8.τ).loc Cert.Kernel8.main_arg19) = m ((c.tc : Thread Cert.Kernel8.nD Cert.Kernel8.τ).loc Cert.Kernel8.main_arg19)
      ∧ r.2.mem ((c.tc : Thread Cert.Kernel8.nD Cert.Kernel8.τ).loc Cert.Kernel8.main_arg20) = m ((c.tc : Thread Cert.Kernel8.nD Cert.Kernel8.τ).loc Cert.Kernel8.main_arg20)
      ∧ r.2.mem ((c.tc : Thread Cert.Kernel8.nD Cert.Kernel8.τ).loc Cert.Kernel8.main_arg21) = m ((c.tc : Thread Cert.Kernel8.nD Cert.Kernel8.τ).loc Cert.Kernel8.main_arg21)
      ∧ r.2.mem ((c.tc : Thread Cert.Kernel8.nD Cert.Kernel8.τ).loc Cert.Kernel8.main_arg22) = m ((c.tc : Thread Cert.Kernel8.nD Cert.Kernel8.τ).loc Cert.Kernel8.main_arg22)
      ∧ r.2.mem ((c.tc : Thread Cert.Kernel8.nD Cert.Kernel8.τ).loc Cert.Kernel8.main_arg23) = m ((c.tc : Thread Cert.Kernel8.nD Cert.Kernel8.τ).loc Cert.Kernel8.main_arg23)
      ∧ r.2.mem ((c.tc : Thread Cert.Kernel8.nD Cert.Kernel8.τ).loc Cert.Kernel8.main_arg24) = m ((c.tc : Thread Cert.Kernel8.nD Cert.Kernel8.τ).loc Cert.Kernel8.main_arg24)
      ∧ r.2.mem ((c.tc : Thread Cert.Kernel8.nD Cert.Kernel8.τ).loc Cert.Kernel8.main_arg25) = m ((c.tc : Thread Cert.Kernel8.nD Cert.Kernel8.τ).loc Cert.Kernel8.main_arg25)
      ∧ r.2.mem ((c.tc : Thread Cert.Kernel8.nD Cert.Kernel8.τ).loc Cert.Kernel8.main_arg26) = m ((c.tc : Thread Cert.Kernel8.nD Cert.Kernel8.τ).loc Cert.Kernel8.main_arg26)
      ∧ r.2.mem ((c.tc : Thread Cert.Kernel8.nD Cert.Kernel8.τ).loc Cert.Kernel8.main_arg27) = m ((c.tc : Thread Cert.Kernel8.nD Cert.Kernel8.τ).loc Cert.Kernel8.main_arg27)
      ∧ r.2.mem ((c.tc : Thread Cert.Kernel8.nD Cert.Kernel8.τ).loc Cert.Kernel8.main_arg28) = m ((c.tc : Thread Cert.Kernel8.nD Cert.Kernel8.τ).loc Cert.Kernel8.main_arg28)
      ∧ r.2.mem ((c.tc : Thread Cert.Kernel8.nD Cert.Kernel8.τ).loc Cert.Kernel8.main_arg29) = m ((c.tc : Thread Cert.Kernel8.nD Cert.Kernel8.τ).loc Cert.Kernel8.main_arg29)
      ∧ r.2.mem ((c.tc : Thread Cert.Kernel8.nD Cert.Kernel8.τ).loc Cert.Kernel8.main_arg30) = m ((c.tc : Thread Cert.Kernel8.nD Cert.Kernel8.τ).loc Cert.Kernel8.main_arg30)
      ∧ r.2.mem ((c.tc : Thread Cert.Kernel8.nD Cert.Kernel8.τ).loc Cert.Kernel8.main_arg31) = m ((c.tc : Thread Cert.Kernel8.nD Cert.Kernel8.τ).loc Cert.Kernel8.main_arg31)
      ∧ r.2.mem ((c.tc : Thread Cert.Kernel8.nD Cert.Kernel8.τ).loc Cert.Kernel8.main_arg32) = m ((c.tc : Thread Cert.Kernel8.nD Cert.Kernel8.τ).loc Cert.Kernel8.main_arg32))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
      ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
      ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19)
      ∧ r.2.mem ((c.tc : Thread Cert.Kernel8Ideal.nD Cert.Kernel8Ideal.τ).loc Cert.Kernel8Ideal.main_arg20) = m ((c.tc : Thread Cert.Kernel8Ideal.nD Cert.Kernel8Ideal.τ).loc Cert.Kernel8Ideal.main_arg20)
      ∧ r.2.mem ((c.tc : Thread Cert.Kernel8Ideal.nD Cert.Kernel8Ideal.τ).loc Cert.Kernel8Ideal.main_arg21) = m ((c.tc : Thread Cert.Kernel8Ideal.nD Cert.Kernel8Ideal.τ).loc Cert.Kernel8Ideal.main_arg21)
      ∧ r.2.mem ((c.tc : Thread Cert.Kernel8Ideal.nD Cert.Kernel8Ideal.τ).loc Cert.Kernel8Ideal.main_arg22) = m ((c.tc : Thread Cert.Kernel8Ideal.nD Cert.Kernel8Ideal.τ).loc Cert.Kernel8Ideal.main_arg22)
      ∧ r.2.mem ((c.tc : Thread Cert.Kernel8Ideal.nD Cert.Kernel8Ideal.τ).loc Cert.Kernel8Ideal.main_arg23) = m ((c.tc : Thread Cert.Kernel8Ideal.nD Cert.Kernel8Ideal.τ).loc Cert.Kernel8Ideal.main_arg23)
      ∧ r.2.mem ((c.tc : Thread Cert.Kernel8Ideal.nD Cert.Kernel8Ideal.τ).loc Cert.Kernel8Ideal.main_arg24) = m ((c.tc : Thread Cert.Kernel8Ideal.nD Cert.Kernel8Ideal.τ).loc Cert.Kernel8Ideal.main_arg24)
      ∧ r.2.mem ((c.tc : Thread Cert.Kernel8Ideal.nD Cert.Kernel8Ideal.τ).loc Cert.Kernel8Ideal.main_arg25) = m ((c.tc : Thread Cert.Kernel8Ideal.nD Cert.Kernel8Ideal.τ).loc Cert.Kernel8Ideal.main_arg25)
      ∧ r.2.mem ((c.tc : Thread Cert.Kernel8Ideal.nD Cert.Kernel8Ideal.τ).loc Cert.Kernel8Ideal.main_arg26) = m ((c.tc : Thread Cert.Kernel8Ideal.nD Cert.Kernel8Ideal.τ).loc Cert.Kernel8Ideal.main_arg26)
      ∧ r.2.mem ((c.tc : Thread Cert.Kernel8Ideal.nD Cert.Kernel8Ideal.τ).loc Cert.Kernel8Ideal.main_arg27) = m ((c.tc : Thread Cert.Kernel8Ideal.nD Cert.Kernel8Ideal.τ).loc Cert.Kernel8Ideal.main_arg27)
      ∧ r.2.mem ((c.tc : Thread Cert.Kernel8Ideal.nD Cert.Kernel8Ideal.τ).loc Cert.Kernel8Ideal.main_arg28) = m ((c.tc : Thread Cert.Kernel8Ideal.nD Cert.Kernel8Ideal.τ).loc Cert.Kernel8Ideal.main_arg28)
      ∧ r.2.mem ((c.tc : Thread Cert.Kernel8Ideal.nD Cert.Kernel8Ideal.τ).loc Cert.Kernel8Ideal.main_arg29) = m ((c.tc : Thread Cert.Kernel8Ideal.nD Cert.Kernel8Ideal.τ).loc Cert.Kernel8Ideal.main_arg29)
      ∧ r.2.mem ((c.tc : Thread Cert.Kernel8Ideal.nD Cert.Kernel8Ideal.τ).loc Cert.Kernel8Ideal.main_arg30) = m ((c.tc : Thread Cert.Kernel8Ideal.nD Cert.Kernel8Ideal.τ).loc Cert.Kernel8Ideal.main_arg30)
      ∧ r.2.mem ((c.tc : Thread Cert.Kernel8Ideal.nD Cert.Kernel8Ideal.τ).loc Cert.Kernel8Ideal.main_arg31) = m ((c.tc : Thread Cert.Kernel8Ideal.nD Cert.Kernel8Ideal.τ).loc Cert.Kernel8Ideal.main_arg31)
      ∧ r.2.mem ((c.tc : Thread Cert.Kernel8Ideal.nD Cert.Kernel8Ideal.τ).loc Cert.Kernel8Ideal.main_arg32) = m ((c.tc : Thread Cert.Kernel8Ideal.nD Cert.Kernel8Ideal.τ).loc Cert.Kernel8Ideal.main_arg32))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17)
      ∧ r.2.mem ((c.tc : Thread Cert.Reference8Ideal.nD Cert.Reference8Ideal.τ).loc Cert.Reference8Ideal.main_arg18) = m ((c.tc : Thread Cert.Reference8Ideal.nD Cert.Reference8Ideal.τ).loc Cert.Reference8Ideal.main_arg18)
      ∧ r.2.mem ((c.tc : Thread Cert.Reference8Ideal.nD Cert.Reference8Ideal.τ).loc Cert.Reference8Ideal.main_arg19) = m ((c.tc : Thread Cert.Reference8Ideal.nD Cert.Reference8Ideal.τ).loc Cert.Reference8Ideal.main_arg19)
      ∧ r.2.mem ((c.tc : Thread Cert.Reference8Ideal.nD Cert.Reference8Ideal.τ).loc Cert.Reference8Ideal.main_arg20) = m ((c.tc : Thread Cert.Reference8Ideal.nD Cert.Reference8Ideal.τ).loc Cert.Reference8Ideal.main_arg20)
      ∧ r.2.mem ((c.tc : Thread Cert.Reference8Ideal.nD Cert.Reference8Ideal.τ).loc Cert.Reference8Ideal.main_arg21) = m ((c.tc : Thread Cert.Reference8Ideal.nD Cert.Reference8Ideal.τ).loc Cert.Reference8Ideal.main_arg21)
      ∧ r.2.mem ((c.tc : Thread Cert.Reference8Ideal.nD Cert.Reference8Ideal.τ).loc Cert.Reference8Ideal.main_arg22) = m ((c.tc : Thread Cert.Reference8Ideal.nD Cert.Reference8Ideal.τ).loc Cert.Reference8Ideal.main_arg22)
      ∧ r.2.mem ((c.tc : Thread Cert.Reference8Ideal.nD Cert.Reference8Ideal.τ).loc Cert.Reference8Ideal.main_arg23) = m ((c.tc : Thread Cert.Reference8Ideal.nD Cert.Reference8Ideal.τ).loc Cert.Reference8Ideal.main_arg23)
      ∧ r.2.mem ((c.tc : Thread Cert.Reference8Ideal.nD Cert.Reference8Ideal.τ).loc Cert.Reference8Ideal.main_arg24) = m ((c.tc : Thread Cert.Reference8Ideal.nD Cert.Reference8Ideal.τ).loc Cert.Reference8Ideal.main_arg24)
      ∧ r.2.mem ((c.tc : Thread Cert.Reference8Ideal.nD Cert.Reference8Ideal.τ).loc Cert.Reference8Ideal.main_arg25) = m ((c.tc : Thread Cert.Reference8Ideal.nD Cert.Reference8Ideal.τ).loc Cert.Reference8Ideal.main_arg25)
      ∧ r.2.mem ((c.tc : Thread Cert.Reference8Ideal.nD Cert.Reference8Ideal.τ).loc Cert.Reference8Ideal.main_arg26) = m ((c.tc : Thread Cert.Reference8Ideal.nD Cert.Reference8Ideal.τ).loc Cert.Reference8Ideal.main_arg26)
      ∧ r.2.mem ((c.tc : Thread Cert.Reference8Ideal.nD Cert.Reference8Ideal.τ).loc Cert.Reference8Ideal.main_arg27) = m ((c.tc : Thread Cert.Reference8Ideal.nD Cert.Reference8Ideal.τ).loc Cert.Reference8Ideal.main_arg27)
      ∧ r.2.mem ((c.tc : Thread Cert.Reference8Ideal.nD Cert.Reference8Ideal.τ).loc Cert.Reference8Ideal.main_arg28) = m ((c.tc : Thread Cert.Reference8Ideal.nD Cert.Reference8Ideal.τ).loc Cert.Reference8Ideal.main_arg28)
      ∧ r.2.mem ((c.tc : Thread Cert.Reference8Ideal.nD Cert.Reference8Ideal.τ).loc Cert.Reference8Ideal.main_arg29) = m ((c.tc : Thread Cert.Reference8Ideal.nD Cert.Reference8Ideal.τ).loc Cert.Reference8Ideal.main_arg29)
      ∧ r.2.mem ((c.tc : Thread Cert.Reference8Ideal.nD Cert.Reference8Ideal.τ).loc Cert.Reference8Ideal.main_arg30) = m ((c.tc : Thread Cert.Reference8Ideal.nD Cert.Reference8Ideal.τ).loc Cert.Reference8Ideal.main_arg30)
      ∧ r.2.mem ((c.tc : Thread Cert.Reference8Ideal.nD Cert.Reference8Ideal.τ).loc Cert.Reference8Ideal.main_arg31) = m ((c.tc : Thread Cert.Reference8Ideal.nD Cert.Reference8Ideal.τ).loc Cert.Reference8Ideal.main_arg31)
      ∧ r.2.mem ((c.tc : Thread Cert.Reference8Ideal.nD Cert.Reference8Ideal.τ).loc Cert.Reference8Ideal.main_arg32) = m ((c.tc : Thread Cert.Reference8Ideal.nD Cert.Reference8Ideal.τ).loc Cert.Reference8Ideal.main_arg32))
      ∧ r.2.sem = fun _ => 0)

def preserves_Kernel_KernelIdeal : Prop :=
  True

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 768]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v4_0) i = v0 c i)
          ∧ (∀ i : (⟨3, ![4, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v4_1) i = v1 c i)
          ∧ (∀ i : (⟨2, ![8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v4_2) i = v2 c i)
          ∧ (∀ i : (⟨2, ![8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.KernelIdeal.nD Cert.KernelIdeal.τ).loc Cert.KernelIdeal.main_v4_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 768]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v83) i = v0 c i)
          ∧ (∀ i : (⟨3, ![4, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v58) i = v1 c i)
          ∧ (∀ i : (⟨2, ![8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v84) i = v2 c i)
          ∧ (∀ i : (⟨2, ![8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.ReferenceIdeal.nD Cert.ReferenceIdeal.τ).loc Cert.ReferenceIdeal.main_v85) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_v44) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_v26) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12_3)) (v1 : (c : Dev Cert.Kernel4Ideal.nD) → Buf (Elt Ideal) ((c.tc : Thread Cert.Kernel4Ideal.nD Cert.Kernel4Ideal.τ).loc Cert.Kernel4Ideal.main_v12_0)) (v2 : (c : Dev Cert.Kernel4Ideal.nD) → Buf (Elt Ideal) ((c.tc : Thread Cert.Kernel4Ideal.nD Cert.Kernel4Ideal.τ).loc Cert.Kernel4Ideal.main_v12_1)) (v3 : (c : Dev Cert.Kernel4Ideal.nD) → Buf (Elt Ideal) ((c.tc : Thread Cert.Kernel4Ideal.nD Cert.Kernel4Ideal.τ).loc Cert.Kernel4Ideal.main_v12_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_3) = v0 c
          ∧ r.2.mem ((c.tc : Thread Cert.Kernel4Ideal.nD Cert.Kernel4Ideal.τ).loc Cert.Kernel4Ideal.main_v12_0) = v1 c
          ∧ r.2.mem ((c.tc : Thread Cert.Kernel4Ideal.nD Cert.Kernel4Ideal.τ).loc Cert.Kernel4Ideal.main_v12_1) = v2 c
          ∧ r.2.mem ((c.tc : Thread Cert.Kernel4Ideal.nD Cert.Kernel4Ideal.τ).loc Cert.Kernel4Ideal.main_v12_2) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v26) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)
      ∧ m' ((c.tc : Thread Cert.Reference8Ideal.nD Cert.Reference8Ideal.τ).loc Cert.Reference8Ideal.main_arg16) = m ((c.tc : Thread Cert.Kernel8Ideal.nD Cert.Kernel8Ideal.τ).loc Cert.Kernel8Ideal.main_arg16)
      ∧ m' ((c.tc : Thread Cert.Reference8Ideal.nD Cert.Reference8Ideal.τ).loc Cert.Reference8Ideal.main_arg17) = m ((c.tc : Thread Cert.Kernel8Ideal.nD Cert.Kernel8Ideal.τ).loc Cert.Kernel8Ideal.main_arg17)
      ∧ m' ((c.tc : Thread Cert.Reference8Ideal.nD Cert.Reference8Ideal.τ).loc Cert.Reference8Ideal.main_arg18) = m ((c.tc : Thread Cert.Kernel8Ideal.nD Cert.Kernel8Ideal.τ).loc Cert.Kernel8Ideal.main_arg18)
      ∧ m' ((c.tc : Thread Cert.Reference8Ideal.nD Cert.Reference8Ideal.τ).loc Cert.Reference8Ideal.main_arg19) = m ((c.tc : Thread Cert.Kernel8Ideal.nD Cert.Kernel8Ideal.τ).loc Cert.Kernel8Ideal.main_arg19)
      ∧ m' ((c.tc : Thread Cert.Reference8Ideal.nD Cert.Reference8Ideal.τ).loc Cert.Reference8Ideal.main_arg20) = m ((c.tc : Thread Cert.Kernel8Ideal.nD Cert.Kernel8Ideal.τ).loc Cert.Kernel8Ideal.main_arg20)
      ∧ m' ((c.tc : Thread Cert.Reference8Ideal.nD Cert.Reference8Ideal.τ).loc Cert.Reference8Ideal.main_arg21) = m ((c.tc : Thread Cert.Kernel8Ideal.nD Cert.Kernel8Ideal.τ).loc Cert.Kernel8Ideal.main_arg21)
      ∧ m' ((c.tc : Thread Cert.Reference8Ideal.nD Cert.Reference8Ideal.τ).loc Cert.Reference8Ideal.main_arg22) = m ((c.tc : Thread Cert.Kernel8Ideal.nD Cert.Kernel8Ideal.τ).loc Cert.Kernel8Ideal.main_arg22)
      ∧ m' ((c.tc : Thread Cert.Reference8Ideal.nD Cert.Reference8Ideal.τ).loc Cert.Reference8Ideal.main_arg23) = m ((c.tc : Thread Cert.Kernel8Ideal.nD Cert.Kernel8Ideal.τ).loc Cert.Kernel8Ideal.main_arg23)
      ∧ m' ((c.tc : Thread Cert.Reference8Ideal.nD Cert.Reference8Ideal.τ).loc Cert.Reference8Ideal.main_arg24) = m ((c.tc : Thread Cert.Kernel8Ideal.nD Cert.Kernel8Ideal.τ).loc Cert.Kernel8Ideal.main_arg24)
      ∧ m' ((c.tc : Thread Cert.Reference8Ideal.nD Cert.Reference8Ideal.τ).loc Cert.Reference8Ideal.main_arg25) = m ((c.tc : Thread Cert.Kernel8Ideal.nD Cert.Kernel8Ideal.τ).loc Cert.Kernel8Ideal.main_arg25)
      ∧ m' ((c.tc : Thread Cert.Reference8Ideal.nD Cert.Reference8Ideal.τ).loc Cert.Reference8Ideal.main_arg26) = m ((c.tc : Thread Cert.Kernel8Ideal.nD Cert.Kernel8Ideal.τ).loc Cert.Kernel8Ideal.main_arg26)
      ∧ m' ((c.tc : Thread Cert.Reference8Ideal.nD Cert.Reference8Ideal.τ).loc Cert.Reference8Ideal.main_arg27) = m ((c.tc : Thread Cert.Kernel8Ideal.nD Cert.Kernel8Ideal.τ).loc Cert.Kernel8Ideal.main_arg27)
      ∧ m' ((c.tc : Thread Cert.Reference8Ideal.nD Cert.Reference8Ideal.τ).loc Cert.Reference8Ideal.main_arg28) = m ((c.tc : Thread Cert.Kernel8Ideal.nD Cert.Kernel8Ideal.τ).loc Cert.Kernel8Ideal.main_arg28)
      ∧ m' ((c.tc : Thread Cert.Reference8Ideal.nD Cert.Reference8Ideal.τ).loc Cert.Reference8Ideal.main_arg29) = m ((c.tc : Thread Cert.Kernel8Ideal.nD Cert.Kernel8Ideal.τ).loc Cert.Kernel8Ideal.main_arg29)
      ∧ m' ((c.tc : Thread Cert.Reference8Ideal.nD Cert.Reference8Ideal.τ).loc Cert.Reference8Ideal.main_arg30) = m ((c.tc : Thread Cert.Kernel8Ideal.nD Cert.Kernel8Ideal.τ).loc Cert.Kernel8Ideal.main_arg30)
      ∧ m' ((c.tc : Thread Cert.Reference8Ideal.nD Cert.Reference8Ideal.τ).loc Cert.Reference8Ideal.main_arg31) = m ((c.tc : Thread Cert.Kernel8Ideal.nD Cert.Kernel8Ideal.τ).loc Cert.Kernel8Ideal.main_arg31)
      ∧ m' ((c.tc : Thread Cert.Reference8Ideal.nD Cert.Reference8Ideal.τ).loc Cert.Reference8Ideal.main_arg32) = m ((c.tc : Thread Cert.Kernel8Ideal.nD Cert.Kernel8Ideal.τ).loc Cert.Kernel8Ideal.main_arg32)) →
    ∃ (v0 : (c : Dev Cert.Kernel8Ideal.nD) → Buf (Elt Ideal) ((c.tc : Thread Cert.Kernel8Ideal.nD Cert.Kernel8Ideal.τ).loc Cert.Kernel8Ideal.main_v22_0)) (v1 : (c : Dev Cert.Kernel8Ideal.nD) → Buf (Elt Ideal) ((c.tc : Thread Cert.Kernel8Ideal.nD Cert.Kernel8Ideal.τ).loc Cert.Kernel8Ideal.main_v22_1)) (v2 : (c : Dev Cert.Kernel8Ideal.nD) → Buf (Elt Ideal) ((c.tc : Thread Cert.Kernel8Ideal.nD Cert.Kernel8Ideal.τ).loc Cert.Kernel8Ideal.main_v22_5)) (v3 : (c : Dev Cert.Kernel8Ideal.nD) → Buf (Elt Ideal) ((c.tc : Thread Cert.Kernel8Ideal.nD Cert.Kernel8Ideal.τ).loc Cert.Kernel8Ideal.main_v22_9)) (v4 : (c : Dev Cert.Kernel8Ideal.nD) → Buf (Elt Ideal) ((c.tc : Thread Cert.Kernel8Ideal.nD Cert.Kernel8Ideal.τ).loc Cert.Kernel8Ideal.main_v22_13)) (v5 : (c : Dev Cert.Kernel8Ideal.nD) → Buf (Elt Ideal) ((c.tc : Thread Cert.Kernel8Ideal.nD Cert.Kernel8Ideal.τ).loc Cert.Kernel8Ideal.main_v22_17)) (v6 : (c : Dev Cert.Kernel8Ideal.nD) → Buf (Elt Ideal) ((c.tc : Thread Cert.Kernel8Ideal.nD Cert.Kernel8Ideal.τ).loc Cert.Kernel8Ideal.main_v22_21)) (v7 : (c : Dev Cert.Kernel8Ideal.nD) → Buf (Elt Ideal) ((c.tc : Thread Cert.Kernel8Ideal.nD Cert.Kernel8Ideal.τ).loc Cert.Kernel8Ideal.main_v22_25)) (v8 : (c : Dev Cert.Kernel8Ideal.nD) → Buf (Elt Ideal) ((c.tc : Thread Cert.Kernel8Ideal.nD Cert.Kernel8Ideal.τ).loc Cert.Kernel8Ideal.main_v22_29)) (v9 : (c : Dev Cert.Kernel8Ideal.nD) → Buf (Elt Ideal) ((c.tc : Thread Cert.Kernel8Ideal.nD Cert.Kernel8Ideal.τ).loc Cert.Kernel8Ideal.main_v22_2)) (v10 : (c : Dev Cert.Kernel8Ideal.nD) → Buf (Elt Ideal) ((c.tc : Thread Cert.Kernel8Ideal.nD Cert.Kernel8Ideal.τ).loc Cert.Kernel8Ideal.main_v22_6)) (v11 : (c : Dev Cert.Kernel8Ideal.nD) → Buf (Elt Ideal) ((c.tc : Thread Cert.Kernel8Ideal.nD Cert.Kernel8Ideal.τ).loc Cert.Kernel8Ideal.main_v22_10)) (v12 : (c : Dev Cert.Kernel8Ideal.nD) → Buf (Elt Ideal) ((c.tc : Thread Cert.Kernel8Ideal.nD Cert.Kernel8Ideal.τ).loc Cert.Kernel8Ideal.main_v22_14)) (v13 : (c : Dev Cert.Kernel8Ideal.nD) → Buf (Elt Ideal) ((c.tc : Thread Cert.Kernel8Ideal.nD Cert.Kernel8Ideal.τ).loc Cert.Kernel8Ideal.main_v22_18)) (v14 : (c : Dev Cert.Kernel8Ideal.nD) → Buf (Elt Ideal) ((c.tc : Thread Cert.Kernel8Ideal.nD Cert.Kernel8Ideal.τ).loc Cert.Kernel8Ideal.main_v22_22)) (v15 : (c : Dev Cert.Kernel8Ideal.nD) → Buf (Elt Ideal) ((c.tc : Thread Cert.Kernel8Ideal.nD Cert.Kernel8Ideal.τ).loc Cert.Kernel8Ideal.main_v22_26)) (v16 : (c : Dev Cert.Kernel8Ideal.nD) → Buf (Elt Ideal) ((c.tc : Thread Cert.Kernel8Ideal.nD Cert.Kernel8Ideal.τ).loc Cert.Kernel8Ideal.main_v22_30)) (v17 : (c : Dev Cert.Kernel8Ideal.nD) → Buf (Elt Ideal) ((c.tc : Thread Cert.Kernel8Ideal.nD Cert.Kernel8Ideal.τ).loc Cert.Kernel8Ideal.main_v22_3)) (v18 : (c : Dev Cert.Kernel8Ideal.nD) → Buf (Elt Ideal) ((c.tc : Thread Cert.Kernel8Ideal.nD Cert.Kernel8Ideal.τ).loc Cert.Kernel8Ideal.main_v22_7)) (v19 : (c : Dev Cert.Kernel8Ideal.nD) → Buf (Elt Ideal) ((c.tc : Thread Cert.Kernel8Ideal.nD Cert.Kernel8Ideal.τ).loc Cert.Kernel8Ideal.main_v22_11)) (v20 : (c : Dev Cert.Kernel8Ideal.nD) → Buf (Elt Ideal) ((c.tc : Thread Cert.Kernel8Ideal.nD Cert.Kernel8Ideal.τ).loc Cert.Kernel8Ideal.main_v22_15)) (v21 : (c : Dev Cert.Kernel8Ideal.nD) → Buf (Elt Ideal) ((c.tc : Thread Cert.Kernel8Ideal.nD Cert.Kernel8Ideal.τ).loc Cert.Kernel8Ideal.main_v22_19)) (v22 : (c : Dev Cert.Kernel8Ideal.nD) → Buf (Elt Ideal) ((c.tc : Thread Cert.Kernel8Ideal.nD Cert.Kernel8Ideal.τ).loc Cert.Kernel8Ideal.main_v22_23)) (v23 : (c : Dev Cert.Kernel8Ideal.nD) → Buf (Elt Ideal) ((c.tc : Thread Cert.Kernel8Ideal.nD Cert.Kernel8Ideal.τ).loc Cert.Kernel8Ideal.main_v22_27)) (v24 : (c : Dev Cert.Kernel8Ideal.nD) → Buf (Elt Ideal) ((c.tc : Thread Cert.Kernel8Ideal.nD Cert.Kernel8Ideal.τ).loc Cert.Kernel8Ideal.main_v22_31)) (v25 : (c : Dev Cert.Kernel8Ideal.nD) → Buf (Elt Ideal) ((c.tc : Thread Cert.Kernel8Ideal.nD Cert.Kernel8Ideal.τ).loc Cert.Kernel8Ideal.main_v22_4)) (v26 : (c : Dev Cert.Kernel8Ideal.nD) → Buf (Elt Ideal) ((c.tc : Thread Cert.Kernel8Ideal.nD Cert.Kernel8Ideal.τ).loc Cert.Kernel8Ideal.main_v22_8)) (v27 : (c : Dev Cert.Kernel8Ideal.nD) → Buf (Elt Ideal) ((c.tc : Thread Cert.Kernel8Ideal.nD Cert.Kernel8Ideal.τ).loc Cert.Kernel8Ideal.main_v22_12)) (v28 : (c : Dev Cert.Kernel8Ideal.nD) → Buf (Elt Ideal) ((c.tc : Thread Cert.Kernel8Ideal.nD Cert.Kernel8Ideal.τ).loc Cert.Kernel8Ideal.main_v22_16)) (v29 : (c : Dev Cert.Kernel8Ideal.nD) → Buf (Elt Ideal) ((c.tc : Thread Cert.Kernel8Ideal.nD Cert.Kernel8Ideal.τ).loc Cert.Kernel8Ideal.main_v22_20)) (v30 : (c : Dev Cert.Kernel8Ideal.nD) → Buf (Elt Ideal) ((c.tc : Thread Cert.Kernel8Ideal.nD Cert.Kernel8Ideal.τ).loc Cert.Kernel8Ideal.main_v22_24)) (v31 : (c : Dev Cert.Kernel8Ideal.nD) → Buf (Elt Ideal) ((c.tc : Thread Cert.Kernel8Ideal.nD Cert.Kernel8Ideal.τ).loc Cert.Kernel8Ideal.main_v22_28)) (v32 : (c : Dev Cert.Kernel8Ideal.nD) → Buf (Elt Ideal) ((c.tc : Thread Cert.Kernel8Ideal.nD Cert.Kernel8Ideal.τ).loc Cert.Kernel8Ideal.main_v22_32)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v22_0) = v0 c
          ∧ r.2.mem ((c.tc : Thread Cert.Kernel8Ideal.nD Cert.Kernel8Ideal.τ).loc Cert.Kernel8Ideal.main_v22_1) = v1 c
          ∧ r.2.mem ((c.tc : Thread Cert.Kernel8Ideal.nD Cert.Kernel8Ideal.τ).loc Cert.Kernel8Ideal.main_v22_5) = v2 c
          ∧ r.2.mem ((c.tc : Thread Cert.Kernel8Ideal.nD Cert.Kernel8Ideal.τ).loc Cert.Kernel8Ideal.main_v22_9) = v3 c
          ∧ r.2.mem ((c.tc : Thread Cert.Kernel8Ideal.nD Cert.Kernel8Ideal.τ).loc Cert.Kernel8Ideal.main_v22_13) = v4 c
          ∧ r.2.mem ((c.tc : Thread Cert.Kernel8Ideal.nD Cert.Kernel8Ideal.τ).loc Cert.Kernel8Ideal.main_v22_17) = v5 c
          ∧ r.2.mem ((c.tc : Thread Cert.Kernel8Ideal.nD Cert.Kernel8Ideal.τ).loc Cert.Kernel8Ideal.main_v22_21) = v6 c
          ∧ r.2.mem ((c.tc : Thread Cert.Kernel8Ideal.nD Cert.Kernel8Ideal.τ).loc Cert.Kernel8Ideal.main_v22_25) = v7 c
          ∧ r.2.mem ((c.tc : Thread Cert.Kernel8Ideal.nD Cert.Kernel8Ideal.τ).loc Cert.Kernel8Ideal.main_v22_29) = v8 c
          ∧ r.2.mem ((c.tc : Thread Cert.Kernel8Ideal.nD Cert.Kernel8Ideal.τ).loc Cert.Kernel8Ideal.main_v22_2) = v9 c
          ∧ r.2.mem ((c.tc : Thread Cert.Kernel8Ideal.nD Cert.Kernel8Ideal.τ).loc Cert.Kernel8Ideal.main_v22_6) = v10 c
          ∧ r.2.mem ((c.tc : Thread Cert.Kernel8Ideal.nD Cert.Kernel8Ideal.τ).loc Cert.Kernel8Ideal.main_v22_10) = v11 c
          ∧ r.2.mem ((c.tc : Thread Cert.Kernel8Ideal.nD Cert.Kernel8Ideal.τ).loc Cert.Kernel8Ideal.main_v22_14) = v12 c
          ∧ r.2.mem ((c.tc : Thread Cert.Kernel8Ideal.nD Cert.Kernel8Ideal.τ).loc Cert.Kernel8Ideal.main_v22_18) = v13 c
          ∧ r.2.mem ((c.tc : Thread Cert.Kernel8Ideal.nD Cert.Kernel8Ideal.τ).loc Cert.Kernel8Ideal.main_v22_22) = v14 c
          ∧ r.2.mem ((c.tc : Thread Cert.Kernel8Ideal.nD Cert.Kernel8Ideal.τ).loc Cert.Kernel8Ideal.main_v22_26) = v15 c
          ∧ r.2.mem ((c.tc : Thread Cert.Kernel8Ideal.nD Cert.Kernel8Ideal.τ).loc Cert.Kernel8Ideal.main_v22_30) = v16 c
          ∧ r.2.mem ((c.tc : Thread Cert.Kernel8Ideal.nD Cert.Kernel8Ideal.τ).loc Cert.Kernel8Ideal.main_v22_3) = v17 c
          ∧ r.2.mem ((c.tc : Thread Cert.Kernel8Ideal.nD Cert.Kernel8Ideal.τ).loc Cert.Kernel8Ideal.main_v22_7) = v18 c
          ∧ r.2.mem ((c.tc : Thread Cert.Kernel8Ideal.nD Cert.Kernel8Ideal.τ).loc Cert.Kernel8Ideal.main_v22_11) = v19 c
          ∧ r.2.mem ((c.tc : Thread Cert.Kernel8Ideal.nD Cert.Kernel8Ideal.τ).loc Cert.Kernel8Ideal.main_v22_15) = v20 c
          ∧ r.2.mem ((c.tc : Thread Cert.Kernel8Ideal.nD Cert.Kernel8Ideal.τ).loc Cert.Kernel8Ideal.main_v22_19) = v21 c
          ∧ r.2.mem ((c.tc : Thread Cert.Kernel8Ideal.nD Cert.Kernel8Ideal.τ).loc Cert.Kernel8Ideal.main_v22_23) = v22 c
          ∧ r.2.mem ((c.tc : Thread Cert.Kernel8Ideal.nD Cert.Kernel8Ideal.τ).loc Cert.Kernel8Ideal.main_v22_27) = v23 c
          ∧ r.2.mem ((c.tc : Thread Cert.Kernel8Ideal.nD Cert.Kernel8Ideal.τ).loc Cert.Kernel8Ideal.main_v22_31) = v24 c
          ∧ r.2.mem ((c.tc : Thread Cert.Kernel8Ideal.nD Cert.Kernel8Ideal.τ).loc Cert.Kernel8Ideal.main_v22_4) = v25 c
          ∧ r.2.mem ((c.tc : Thread Cert.Kernel8Ideal.nD Cert.Kernel8Ideal.τ).loc Cert.Kernel8Ideal.main_v22_8) = v26 c
          ∧ r.2.mem ((c.tc : Thread Cert.Kernel8Ideal.nD Cert.Kernel8Ideal.τ).loc Cert.Kernel8Ideal.main_v22_12) = v27 c
          ∧ r.2.mem ((c.tc : Thread Cert.Kernel8Ideal.nD Cert.Kernel8Ideal.τ).loc Cert.Kernel8Ideal.main_v22_16) = v28 c
          ∧ r.2.mem ((c.tc : Thread Cert.Kernel8Ideal.nD Cert.Kernel8Ideal.τ).loc Cert.Kernel8Ideal.main_v22_20) = v29 c
          ∧ r.2.mem ((c.tc : Thread Cert.Kernel8Ideal.nD Cert.Kernel8Ideal.τ).loc Cert.Kernel8Ideal.main_v22_24) = v30 c
          ∧ r.2.mem ((c.tc : Thread Cert.Kernel8Ideal.nD Cert.Kernel8Ideal.τ).loc Cert.Kernel8Ideal.main_v22_28) = v31 c
          ∧ r.2.mem ((c.tc : Thread Cert.Kernel8Ideal.nD Cert.Kernel8Ideal.τ).loc Cert.Kernel8Ideal.main_v22_32) = v32 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
          ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
          ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
          ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
          ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19)
          ∧ r.2.mem ((c.tc : Thread Cert.Kernel8Ideal.nD Cert.Kernel8Ideal.τ).loc Cert.Kernel8Ideal.main_arg20) = m ((c.tc : Thread Cert.Kernel8Ideal.nD Cert.Kernel8Ideal.τ).loc Cert.Kernel8Ideal.main_arg20)
          ∧ r.2.mem ((c.tc : Thread Cert.Kernel8Ideal.nD Cert.Kernel8Ideal.τ).loc Cert.Kernel8Ideal.main_arg21) = m ((c.tc : Thread Cert.Kernel8Ideal.nD Cert.Kernel8Ideal.τ).loc Cert.Kernel8Ideal.main_arg21)
          ∧ r.2.mem ((c.tc : Thread Cert.Kernel8Ideal.nD Cert.Kernel8Ideal.τ).loc Cert.Kernel8Ideal.main_arg22) = m ((c.tc : Thread Cert.Kernel8Ideal.nD Cert.Kernel8Ideal.τ).loc Cert.Kernel8Ideal.main_arg22)
          ∧ r.2.mem ((c.tc : Thread Cert.Kernel8Ideal.nD Cert.Kernel8Ideal.τ).loc Cert.Kernel8Ideal.main_arg23) = m ((c.tc : Thread Cert.Kernel8Ideal.nD Cert.Kernel8Ideal.τ).loc Cert.Kernel8Ideal.main_arg23)
          ∧ r.2.mem ((c.tc : Thread Cert.Kernel8Ideal.nD Cert.Kernel8Ideal.τ).loc Cert.Kernel8Ideal.main_arg24) = m ((c.tc : Thread Cert.Kernel8Ideal.nD Cert.Kernel8Ideal.τ).loc Cert.Kernel8Ideal.main_arg24)
          ∧ r.2.mem ((c.tc : Thread Cert.Kernel8Ideal.nD Cert.Kernel8Ideal.τ).loc Cert.Kernel8Ideal.main_arg25) = m ((c.tc : Thread Cert.Kernel8Ideal.nD Cert.Kernel8Ideal.τ).loc Cert.Kernel8Ideal.main_arg25)
          ∧ r.2.mem ((c.tc : Thread Cert.Kernel8Ideal.nD Cert.Kernel8Ideal.τ).loc Cert.Kernel8Ideal.main_arg26) = m ((c.tc : Thread Cert.Kernel8Ideal.nD Cert.Kernel8Ideal.τ).loc Cert.Kernel8Ideal.main_arg26)
          ∧ r.2.mem ((c.tc : Thread Cert.Kernel8Ideal.nD Cert.Kernel8Ideal.τ).loc Cert.Kernel8Ideal.main_arg27) = m ((c.tc : Thread Cert.Kernel8Ideal.nD Cert.Kernel8Ideal.τ).loc Cert.Kernel8Ideal.main_arg27)
          ∧ r.2.mem ((c.tc : Thread Cert.Kernel8Ideal.nD Cert.Kernel8Ideal.τ).loc Cert.Kernel8Ideal.main_arg28) = m ((c.tc : Thread Cert.Kernel8Ideal.nD Cert.Kernel8Ideal.τ).loc Cert.Kernel8Ideal.main_arg28)
          ∧ r.2.mem ((c.tc : Thread Cert.Kernel8Ideal.nD Cert.Kernel8Ideal.τ).loc Cert.Kernel8Ideal.main_arg29) = m ((c.tc : Thread Cert.Kernel8Ideal.nD Cert.Kernel8Ideal.τ).loc Cert.Kernel8Ideal.main_arg29)
          ∧ r.2.mem ((c.tc : Thread Cert.Kernel8Ideal.nD Cert.Kernel8Ideal.τ).loc Cert.Kernel8Ideal.main_arg30) = m ((c.tc : Thread Cert.Kernel8Ideal.nD Cert.Kernel8Ideal.τ).loc Cert.Kernel8Ideal.main_arg30)
          ∧ r.2.mem ((c.tc : Thread Cert.Kernel8Ideal.nD Cert.Kernel8Ideal.τ).loc Cert.Kernel8Ideal.main_arg31) = m ((c.tc : Thread Cert.Kernel8Ideal.nD Cert.Kernel8Ideal.τ).loc Cert.Kernel8Ideal.main_arg31)
          ∧ r.2.mem ((c.tc : Thread Cert.Kernel8Ideal.nD Cert.Kernel8Ideal.τ).loc Cert.Kernel8Ideal.main_arg32) = m ((c.tc : Thread Cert.Kernel8Ideal.nD Cert.Kernel8Ideal.τ).loc Cert.Kernel8Ideal.main_arg32))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v198) = v0 c
          ∧ r.2.mem ((c.tc : Thread Cert.Reference8Ideal.nD Cert.Reference8Ideal.τ).loc Cert.Reference8Ideal.main_arg1) = v1 c
          ∧ r.2.mem ((c.tc : Thread Cert.Reference8Ideal.nD Cert.Reference8Ideal.τ).loc Cert.Reference8Ideal.main_v199) = v2 c
          ∧ r.2.mem ((c.tc : Thread Cert.Reference8Ideal.nD Cert.Reference8Ideal.τ).loc Cert.Reference8Ideal.main_v200) = v3 c
          ∧ r.2.mem ((c.tc : Thread Cert.Reference8Ideal.nD Cert.Reference8Ideal.τ).loc Cert.Reference8Ideal.main_arg4) = v4 c
          ∧ r.2.mem ((c.tc : Thread Cert.Reference8Ideal.nD Cert.Reference8Ideal.τ).loc Cert.Reference8Ideal.main_arg5) = v5 c
          ∧ r.2.mem ((c.tc : Thread Cert.Reference8Ideal.nD Cert.Reference8Ideal.τ).loc Cert.Reference8Ideal.main_arg6) = v6 c
          ∧ r.2.mem ((c.tc : Thread Cert.Reference8Ideal.nD Cert.Reference8Ideal.τ).loc Cert.Reference8Ideal.main_arg7) = v7 c
          ∧ r.2.mem ((c.tc : Thread Cert.Reference8Ideal.nD Cert.Reference8Ideal.τ).loc Cert.Reference8Ideal.main_arg8) = v8 c
          ∧ r.2.mem ((c.tc : Thread Cert.Reference8Ideal.nD Cert.Reference8Ideal.τ).loc Cert.Reference8Ideal.main_v29) = v9 c
          ∧ r.2.mem ((c.tc : Thread Cert.Reference8Ideal.nD Cert.Reference8Ideal.τ).loc Cert.Reference8Ideal.main_v201) = v10 c
          ∧ r.2.mem ((c.tc : Thread Cert.Reference8Ideal.nD Cert.Reference8Ideal.τ).loc Cert.Reference8Ideal.main_v202) = v11 c
          ∧ r.2.mem ((c.tc : Thread Cert.Reference8Ideal.nD Cert.Reference8Ideal.τ).loc Cert.Reference8Ideal.main_v101) = v12 c
          ∧ r.2.mem ((c.tc : Thread Cert.Reference8Ideal.nD Cert.Reference8Ideal.τ).loc Cert.Reference8Ideal.main_v125) = v13 c
          ∧ r.2.mem ((c.tc : Thread Cert.Reference8Ideal.nD Cert.Reference8Ideal.τ).loc Cert.Reference8Ideal.main_v149) = v14 c
          ∧ r.2.mem ((c.tc : Thread Cert.Reference8Ideal.nD Cert.Reference8Ideal.τ).loc Cert.Reference8Ideal.main_v173) = v15 c
          ∧ r.2.mem ((c.tc : Thread Cert.Reference8Ideal.nD Cert.Reference8Ideal.τ).loc Cert.Reference8Ideal.main_v197) = v16 c
          ∧ r.2.mem ((c.tc : Thread Cert.Reference8Ideal.nD Cert.Reference8Ideal.τ).loc Cert.Reference8Ideal.main_v10) = v17 c
          ∧ r.2.mem ((c.tc : Thread Cert.Reference8Ideal.nD Cert.Reference8Ideal.τ).loc Cert.Reference8Ideal.main_v203) = v18 c
          ∧ r.2.mem ((c.tc : Thread Cert.Reference8Ideal.nD Cert.Reference8Ideal.τ).loc Cert.Reference8Ideal.main_v204) = v19 c
          ∧ r.2.mem ((c.tc : Thread Cert.Reference8Ideal.nD Cert.Reference8Ideal.τ).loc Cert.Reference8Ideal.main_v82) = v20 c
          ∧ r.2.mem ((c.tc : Thread Cert.Reference8Ideal.nD Cert.Reference8Ideal.τ).loc Cert.Reference8Ideal.main_v106) = v21 c
          ∧ r.2.mem ((c.tc : Thread Cert.Reference8Ideal.nD Cert.Reference8Ideal.τ).loc Cert.Reference8Ideal.main_v130) = v22 c
          ∧ r.2.mem ((c.tc : Thread Cert.Reference8Ideal.nD Cert.Reference8Ideal.τ).loc Cert.Reference8Ideal.main_v154) = v23 c
          ∧ r.2.mem ((c.tc : Thread Cert.Reference8Ideal.nD Cert.Reference8Ideal.τ).loc Cert.Reference8Ideal.main_v178) = v24 c
          ∧ r.2.mem ((c.tc : Thread Cert.Reference8Ideal.nD Cert.Reference8Ideal.τ).loc Cert.Reference8Ideal.main_v16) = v25 c
          ∧ r.2.mem ((c.tc : Thread Cert.Reference8Ideal.nD Cert.Reference8Ideal.τ).loc Cert.Reference8Ideal.main_v205) = v26 c
          ∧ r.2.mem ((c.tc : Thread Cert.Reference8Ideal.nD Cert.Reference8Ideal.τ).loc Cert.Reference8Ideal.main_v206) = v27 c
          ∧ r.2.mem ((c.tc : Thread Cert.Reference8Ideal.nD Cert.Reference8Ideal.τ).loc Cert.Reference8Ideal.main_v88) = v28 c
          ∧ r.2.mem ((c.tc : Thread Cert.Reference8Ideal.nD Cert.Reference8Ideal.τ).loc Cert.Reference8Ideal.main_v112) = v29 c
          ∧ r.2.mem ((c.tc : Thread Cert.Reference8Ideal.nD Cert.Reference8Ideal.τ).loc Cert.Reference8Ideal.main_v136) = v30 c
          ∧ r.2.mem ((c.tc : Thread Cert.Reference8Ideal.nD Cert.Reference8Ideal.τ).loc Cert.Reference8Ideal.main_v160) = v31 c
          ∧ r.2.mem ((c.tc : Thread Cert.Reference8Ideal.nD Cert.Reference8Ideal.τ).loc Cert.Reference8Ideal.main_v184) = v32 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15)
          ∧ r.2.mem ((c.tc : Thread Cert.Reference8Ideal.nD Cert.Reference8Ideal.τ).loc Cert.Reference8Ideal.main_arg16) = m' ((c.tc : Thread Cert.Reference8Ideal.nD Cert.Reference8Ideal.τ).loc Cert.Reference8Ideal.main_arg16)
          ∧ r.2.mem ((c.tc : Thread Cert.Reference8Ideal.nD Cert.Reference8Ideal.τ).loc Cert.Reference8Ideal.main_arg17) = m' ((c.tc : Thread Cert.Reference8Ideal.nD Cert.Reference8Ideal.τ).loc Cert.Reference8Ideal.main_arg17)
          ∧ r.2.mem ((c.tc : Thread Cert.Reference8Ideal.nD Cert.Reference8Ideal.τ).loc Cert.Reference8Ideal.main_arg18) = m' ((c.tc : Thread Cert.Reference8Ideal.nD Cert.Reference8Ideal.τ).loc Cert.Reference8Ideal.main_arg18)
          ∧ r.2.mem ((c.tc : Thread Cert.Reference8Ideal.nD Cert.Reference8Ideal.τ).loc Cert.Reference8Ideal.main_arg19) = m' ((c.tc : Thread Cert.Reference8Ideal.nD Cert.Reference8Ideal.τ).loc Cert.Reference8Ideal.main_arg19)
          ∧ r.2.mem ((c.tc : Thread Cert.Reference8Ideal.nD Cert.Reference8Ideal.τ).loc Cert.Reference8Ideal.main_arg20) = m' ((c.tc : Thread Cert.Reference8Ideal.nD Cert.Reference8Ideal.τ).loc Cert.Reference8Ideal.main_arg20)
          ∧ r.2.mem ((c.tc : Thread Cert.Reference8Ideal.nD Cert.Reference8Ideal.τ).loc Cert.Reference8Ideal.main_arg21) = m' ((c.tc : Thread Cert.Reference8Ideal.nD Cert.Reference8Ideal.τ).loc Cert.Reference8Ideal.main_arg21)
          ∧ r.2.mem ((c.tc : Thread Cert.Reference8Ideal.nD Cert.Reference8Ideal.τ).loc Cert.Reference8Ideal.main_arg22) = m' ((c.tc : Thread Cert.Reference8Ideal.nD Cert.Reference8Ideal.τ).loc Cert.Reference8Ideal.main_arg22)
          ∧ r.2.mem ((c.tc : Thread Cert.Reference8Ideal.nD Cert.Reference8Ideal.τ).loc Cert.Reference8Ideal.main_arg23) = m' ((c.tc : Thread Cert.Reference8Ideal.nD Cert.Reference8Ideal.τ).loc Cert.Reference8Ideal.main_arg23)
          ∧ r.2.mem ((c.tc : Thread Cert.Reference8Ideal.nD Cert.Reference8Ideal.τ).loc Cert.Reference8Ideal.main_arg24) = m' ((c.tc : Thread Cert.Reference8Ideal.nD Cert.Reference8Ideal.τ).loc Cert.Reference8Ideal.main_arg24)
          ∧ r.2.mem ((c.tc : Thread Cert.Reference8Ideal.nD Cert.Reference8Ideal.τ).loc Cert.Reference8Ideal.main_arg25) = m' ((c.tc : Thread Cert.Reference8Ideal.nD Cert.Reference8Ideal.τ).loc Cert.Reference8Ideal.main_arg25)
          ∧ r.2.mem ((c.tc : Thread Cert.Reference8Ideal.nD Cert.Reference8Ideal.τ).loc Cert.Reference8Ideal.main_arg26) = m' ((c.tc : Thread Cert.Reference8Ideal.nD Cert.Reference8Ideal.τ).loc Cert.Reference8Ideal.main_arg26)
          ∧ r.2.mem ((c.tc : Thread Cert.Reference8Ideal.nD Cert.Reference8Ideal.τ).loc Cert.Reference8Ideal.main_arg27) = m' ((c.tc : Thread Cert.Reference8Ideal.nD Cert.Reference8Ideal.τ).loc Cert.Reference8Ideal.main_arg27)
          ∧ r.2.mem ((c.tc : Thread Cert.Reference8Ideal.nD Cert.Reference8Ideal.τ).loc Cert.Reference8Ideal.main_arg28) = m' ((c.tc : Thread Cert.Reference8Ideal.nD Cert.Reference8Ideal.τ).loc Cert.Reference8Ideal.main_arg28)
          ∧ r.2.mem ((c.tc : Thread Cert.Reference8Ideal.nD Cert.Reference8Ideal.τ).loc Cert.Reference8Ideal.main_arg29) = m' ((c.tc : Thread Cert.Reference8Ideal.nD Cert.Reference8Ideal.τ).loc Cert.Reference8Ideal.main_arg29)
          ∧ r.2.mem ((c.tc : Thread Cert.Reference8Ideal.nD Cert.Reference8Ideal.τ).loc Cert.Reference8Ideal.main_arg30) = m' ((c.tc : Thread Cert.Reference8Ideal.nD Cert.Reference8Ideal.τ).loc Cert.Reference8Ideal.main_arg30)
          ∧ r.2.mem ((c.tc : Thread Cert.Reference8Ideal.nD Cert.Reference8Ideal.τ).loc Cert.Reference8Ideal.main_arg31) = m' ((c.tc : Thread Cert.Reference8Ideal.nD Cert.Reference8Ideal.τ).loc Cert.Reference8Ideal.main_arg31)
          ∧ r.2.mem ((c.tc : Thread Cert.Reference8Ideal.nD Cert.Reference8Ideal.τ).loc Cert.Reference8Ideal.main_arg32) = m' ((c.tc : Thread Cert.Reference8Ideal.nD Cert.Reference8Ideal.τ).loc Cert.Reference8Ideal.main_arg32))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== On_written.lean ====
abbrev S4096x3328 : Shape := ⟨2, ![4096, 3328]⟩
abbrev S4096x1024 : Shape := ⟨2, ![4096, 1024]⟩
abbrev S4x64 : Shape := ⟨2, ![4, 64]⟩
abbrev S4x128x128 : Shape := ⟨3, ![4, 128, 128]⟩
abbrev S4x128 : Shape := ⟨2, ![4, 128]⟩
abbrev S4096x768 : Shape := ⟨2, ![4096, 768]⟩
abbrev S_ : Shape := ⟨0, ![]⟩
abbrev S8x128 : Shape := ⟨2, ![8, 128]⟩

class Facts : Prop where
  bcast_S_S4096x768 : S_.BroadcastsInDim S4096x768 (![] : Fin 0 → Fin S4096x768.rank)
  bcast_S_S4x128x128 : S_.BroadcastsInDim S4x128x128 (![] : Fin 0 → Fin S4x128x128.rank)
  bcast_S_S8x128 : S_.BroadcastsInDim S8x128 (![] : Fin 0 → Fin S8x128.rank)

variable [Facts]

def fn {F : FTy → Type} [FloatOps F] (main_arg0 : FVec F S4096x3328 .f32) (main_arg1 : FVec F S4096x1024 .f32) (main_arg2 : FVec F S4x64 .f32) (main_arg3 : FVec F S4x128x128 .f32) (main_arg4 : FVec F S4x128 .f32) : IVec S4096x768 1 × IVec S4x128x128 1 × IVec S8x128 1 × IVec S8x128 1 :=
  let main_v0 : IVec S4096x768 32 := iotaInDim S4096x768 32 0
  let main_c : IVec S_ 32 := constantI S_ 32 0#32
  let main_v1 : IVec S4096x768 32 := broadcastInDim S4096x768 ![] bcast_S_S4096x768 main_c
  let main_v2 : IVec S4096x768 1 := cmpi .sge main_v0 main_v1
  let main_v3 : IVec S4x128x128 32 := iotaInDim S4x128x128 32 0
  let main_c_0 : IVec S_ 32 := constantI S_ 32 0#32
  let main_v4 : IVec S4x128x128 32 := broadcastInDim S4x128x128 ![] bcast_S_S4x128x128 main_c_0
  let main_v5 : IVec S4x128x128 1 := cmpi .sge main_v3 main_v4
  let main_v6 : IVec S8x128 32 := iotaInDim S8x128 32 0
  let main_c_1 : IVec S_ 32 := constantI S_ 32 0#32
  let main_v7 : IVec S8x128 32 := broadcastInDim S8x128 ![] bcast_S_S8x128 main_c_1
  let main_v8 : IVec S8x128 1 := cmpi .sge main_v6 main_v7
  let main_v9 : IVec S8x128 32 := iotaInDim S8x128 32 1
  let main_c_2 : IVec S_ 32 := constantI S_ 32 64#32
  let main_v10 : IVec S8x128 32 := broadcastInDim S8x128 ![] bcast_S_S8x128 main_c_2
  let main_v11 : IVec S8x128 1 := cmpi .slt main_v9 main_v10
  (main_v2, main_v5, main_v8, main_v11)
-- ==== Pre_finite.lean ====
abbrev S4096x3328 : Shape := ⟨2, ![4096, 3328]⟩
abbrev S4096x1024 : Shape := ⟨2, ![4096, 1024]⟩
abbrev S4x64 : Shape := ⟨2, ![4, 64]⟩
abbrev S4x128x128 : Shape := ⟨3, ![4, 128, 128]⟩
abbrev S4x128 : Shape := ⟨2, ![4, 128]⟩
abbrev S4096x768 : Shape := ⟨2, ![4096, 768]⟩
abbrev S_ : Shape := ⟨0, ![]⟩
abbrev S4096x256 : Shape := ⟨2, ![4096, 256]⟩

class Facts : Prop where
  slices_S4096x3328_S4096x768_0_0 : S4096x3328.Slices ![0, 0] S4096x768
  bcast_S_S4096x768 : S_.BroadcastsInDim S4096x768 (![] : Fin 0 → Fin S4096x768.rank)
  slices_S4096x1024_S4096x256_0_0 : S4096x1024.Slices ![0, 0] S4096x256
  bcast_S_S4096x256 : S_.BroadcastsInDim S4096x256 (![] : Fin 0 → Fin S4096x256.rank)
  bcast_S_S4x64 : S_.BroadcastsInDim S4x64 (![] : Fin 0 → Fin S4x64.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn {F : FTy → Type} [FloatOps F] (main_arg0 : FVec F S4096x3328 .f32) (main_arg1 : FVec F S4096x1024 .f32) (main_arg2 : FVec F S4x64 .f32) (main_arg3 : FVec F S4x128x128 .f32) (main_arg4 : FVec F S4x128 .f32) : IVec S4096x768 1 × IVec S4096x256 1 × IVec S4x64 1 × IVec S4x128x128 1 × IVec S4x128 1 :=
  let main_v0 : FVec F S4096x768 .f32 := (extractStridedSlice S4096x768 ![0, 0] · slices_S4096x3328_S4096x768_0_0) main_arg0
  let main_v1 : FVec F S4096x768 .f32 := Host.absf main_v0
  let main_cst : FVec F S_ .f32 := constant S_ .f32 0x7F800000#32
  let main_v2 : FVec F S4096x768 .f32 := broadcastInDim S4096x768 ![] bcast_S_S4096x768 main_cst
  let main_v3 : IVec S4096x768 1 := cmpf .olt main_v1 main_v2
  let main_v4 : FVec F S4096x256 .f32 := (extractStridedSlice S4096x256 ![0, 0] · slices_S4096x1024_S4096x256_0_0) main_arg1
  let main_v5 : FVec F S4096x256 .f32 := Host.absf main_v4
  let main_cst_0 : FVec F S_ .f32 := constant S_ .f32 0x7F800000#32
  let main_v6 : FVec F S4096x256 .f32 := broadcastInDim S4096x256 ![] bcast_S_S4096x256 main_cst_0
  let main_v7 : IVec S4096x256 1 := cmpf .olt main_v5 main_v6
  let main_v8 : FVec F S4x64 .f32 := Host.absf main_arg2
  let main_cst_1 : FVec F S_ .f32 := constant S_ .f32 0x7F800000#32
  let main_v9 : FVec F S4x64 .f32 := broadcastInDim S4x64 ![] bcast_S_S4x64 main_cst_1
  let main_v10 : IVec S4x64 1 := cmpf .olt main_v8 main_v9
  let main_v11 : FVec F S4x128x128 .f32 := Host.absf main_arg3
  let main_cst_2 : FVec F S_ .f32 := constant S_ .f32 0x7F800000#32
  let main_v12 : FVec F S4x128x128 .f32 := broadcastInDim S4x128x128 ![] bcast_S_S4x128x128 main_cst_2
  let main_v13 : IVec S4x128x128 1 := cmpf .olt main_v11 main_v12
  let main_v14 : FVec F S4x128 .f32 := Host.absf main_arg4
  let main_cst_3 : FVec F S_ .f32 := constant S_ .f32 0x7F800000#32
  let main_v15 : FVec F S4x128 .f32 := broadcastInDim S4x128 ![] bcast_S_S4x128 main_cst_3
  let main_v16 : IVec S4x128 1 := cmpf .olt main_v14 main_v15
  (main_v3, main_v7, main_v10, main_v13, main_v16)
-- ==== Kernel.lean ====
abbrev S4096x3328 : Shape := ⟨2, ![4096, 3328]⟩
abbrev S4096x1024 : Shape := ⟨2, ![4096, 1024]⟩
abbrev S4x64 : Shape := ⟨2, ![4, 64]⟩
abbrev S4x128x128 : Shape := ⟨3, ![4, 128, 128]⟩
abbrev S4x128 : Shape := ⟨2, ![4, 128]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S4096x768 : Shape := ⟨2, ![4096, 768]⟩
abbrev S8x128 : Shape := ⟨2, ![8, 128]⟩
abbrev S1024x768 : Shape := ⟨2, ![1024, 768]⟩
abbrev S1024x256 : Shape := ⟨2, ![1024, 256]⟩
abbrev S128x128 : Shape := ⟨2, ![128, 128]⟩
abbrev S1x128x128 : Shape := ⟨3, ![1, 128, 128]⟩
abbrev S16x128 : Shape := ⟨2, ![16, 128]⟩
abbrev S1x128 : Shape := ⟨2, ![1, 128]⟩
abbrev S128 : Shape := ⟨1, ![128]⟩

abbrev nBuf : Space → Nat
  | .hbm => 13
  | .vmem => 12
  | .smem => 0
  | _ => 0

abbrev bufTy : (tb : Table) → Fin (tcTables nBuf tb) → BufTy
  | .hbm, ⟨0, _⟩ => ⟨S4096x3328, .f32⟩
  | .hbm, ⟨1, _⟩ => ⟨S4096x1024, .f32⟩
  | .hbm, ⟨2, _⟩ => ⟨S4x64, .f32⟩
  | .hbm, ⟨3, _⟩ => ⟨S4x128x128, .f32⟩
  | .hbm, ⟨4, _⟩ => ⟨S4x128, .f32⟩
  | .hbm, ⟨5, _⟩ => ⟨S1x256, .f32⟩
  | .hbm, ⟨6, _⟩ => ⟨S128x4, .f32⟩
  | .hbm, ⟨7, _⟩ => ⟨S128x4x64, .f32⟩
  | .hbm, ⟨8, _⟩ => ⟨S128x256, .f32⟩
  | .hbm, ⟨9, _⟩ => ⟨S4096x768, .bf16⟩
  | .hbm, ⟨10, _⟩ => ⟨S4x128x128, .f32⟩
  | .hbm, ⟨11, _⟩ => ⟨S8x128, .f32⟩
  | .hbm, ⟨12, _⟩ => ⟨S8x128, .f32⟩
  | .local _ .vmem, ⟨0, _⟩ => ⟨S1024x768, .f32⟩
  | .local _ .vmem, ⟨1, _⟩ => ⟨S1024x768, .f32⟩
  | .local _ .vmem, ⟨2, _⟩ => ⟨S1024x256, .f32⟩
  | .local _ .vmem, ⟨3, _⟩ => ⟨S1024x256, .f32⟩
  | .local _ .vmem, ⟨4, _⟩ => ⟨S1x256, .f32⟩
  | .local _ .vmem, ⟨5, _⟩ => ⟨S4x128x128, .f32⟩
  | .local _ .vmem, ⟨6, _⟩ => ⟨S128x256, .f32⟩
  | .local _ .vmem, ⟨7, _⟩ => ⟨S1024x768, .bf16⟩
  | .local _ .vmem, ⟨8, _⟩ => ⟨S1024x768, .bf16⟩
  | .local _ .vmem, ⟨9, _⟩ => ⟨S4x128x128, .f32⟩
  | .local _ .vmem, ⟨10, _⟩ => ⟨S8x128, .f32⟩
  | .local _ .vmem, ⟨11, _⟩ => ⟨S8x128, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x3328 : Shape := ⟨2, ![4096, 3328]⟩
abbrev S4096x1024 : Shape := ⟨2, ![4096, 1024]⟩
abbrev S4x64 : Shape := ⟨2, ![4, 64]⟩
abbrev S4x128x128 : Shape := ⟨3, ![4, 128, 128]⟩
abbrev S4x128 : Shape := ⟨2, ![4, 128]⟩
abbrev S4096x256 : Shape := ⟨2, ![4096, 256]⟩
abbrev S4096x4x64 : Shape := ⟨3, ![4096, 4, 64]⟩
abbrev S_ : Shape := ⟨0, ![]⟩
abbrev S4096x4 : Shape := ⟨2, ![4096, 4]⟩
abbrev S4096x4x1 : Shape := ⟨3, ![4096, 4, 1]⟩
abbrev S1x4x64 : Shape := ⟨3, ![1, 4, 64]⟩
abbrev S32x128x4x64 : Shape := ⟨4, ![32, 128, 4, 64]⟩
abbrev S128x128 : Shape := ⟨2, ![128, 128]⟩
abbrev S1x128x128 : Shape := ⟨3, ![1, 128, 128]⟩
abbrev S4x32x64x128 : Shape := ⟨4, ![4, 32, 64, 128]⟩
abbrev S128x4 : Shape := ⟨2, ![128, 4]⟩
abbrev S128x4x1 : Shape := ⟨3, ![128, 4, 1]⟩
abbrev S1x128x4x1 : Shape := ⟨4, ![1, 128, 4, 1]⟩
abbrev S4096x768 : Shape := ⟨2, ![4096, 768]⟩
abbrev S8x128 : Shape := ⟨2, ![8, 128]⟩

abbrev nBuf : Space → Nat
  | .hbm => 131
  | .vmem => 0
  | .smem => 0
  | _ => 0

abbrev hbmTy0_0 (i : Nat) : BufTy := match i % 128 with
  | 0 => ⟨S4096x3328, .f32⟩
  | 1 => ⟨S4096x1024, .f32⟩
  | 2 => ⟨S4x64, .f32⟩
  | 3 => ⟨S4x128x128, .f32⟩
  | 4 => ⟨S4x128, .f32⟩
  | 5 => ⟨S4096x256, .f32⟩
  | 6 => ⟨S4096x256, .f32⟩
  | 7 => ⟨S4096x256, .f32⟩
  | 8 => ⟨S4096x4x64, .f32⟩
  | 9 => ⟨S4096x4x64, .f32⟩
  | 10 => ⟨S4096x4x64, .f32⟩
  | 11 => ⟨S_, .f32⟩
  | 12 => ⟨S4096x4, .f32⟩
  | 13 => ⟨S4096x4x1, .f32⟩
  | 14 => ⟨S_, .f32⟩
  | 15 => ⟨S4096x4x1, .f32⟩
  | 16 => ⟨S4096x4x1, .f32⟩
  | 17 => ⟨S_, .f32⟩
  | 18 => ⟨S4096x4x1, .f32⟩
  | 19 => ⟨S4096x4x1, .f32⟩
  | 20 => ⟨S4096x4x1, .f32⟩
  | 21 => ⟨S4096x4x1, .f32⟩
  | 22 => ⟨S_, .f32⟩
  | 23 => ⟨S4096x4x1, .f32⟩
  | 24 => ⟨S4096x4x1, .f32⟩
  | 25 => ⟨S4096x4x64, .f32⟩
  | 26 => ⟨S4096x4x64, .f32⟩
  | 27 => ⟨S1x4x64, .f32⟩
  | 28 => ⟨S4096x4x64, .f32⟩
  | 29 => ⟨S4096x4x64, .f32⟩
  | 30 => ⟨S32x128x4x64, .f32⟩
  | 31 => ⟨S_, .f32⟩
  | 32 => ⟨S128x128, .f32⟩
  | 33 => ⟨S128x128, .i32⟩
  | 34 => ⟨S_, .i32⟩
  | 35 => ⟨S128x128, .i32⟩
  | 36 => ⟨S128x128, .i32⟩
  | 37 => ⟨S128x128, .i32⟩
  | 38 => ⟨S128x128, .i1⟩
  | 39 => ⟨S_, .f32⟩
  | 40 => ⟨S128x128, .f32⟩
  | 41 => ⟨S128x128, .f32⟩
  | 42 => ⟨S1x128x128, .f32⟩
  | 43 => ⟨S4x128x128, .f32⟩
  | 44 => ⟨S4x128x128, .f32⟩
  | 45 => ⟨S4x32x64x128, .f32⟩
  | 46 => ⟨S32x128x4x64, .f32⟩
  | 47 => ⟨S128x4, .f32⟩
  | 48 => ⟨S128x4x1, .f32⟩
  | 49 => ⟨S1x128x4x1, .f32⟩
  | 50 => ⟨S32x128x4x64, .f32⟩
  | 51 => ⟨S32x128x4x64, .f32⟩
  | 52 => ⟨S4096x4x64, .f32⟩
  | 53 => ⟨S4096x4x64, .f32⟩
  | 54 => ⟨S4096x256, .f32⟩
  | 55 => ⟨S4096x256, .f32⟩
  | 56 => ⟨S4096x256, .f32⟩
  | 57 => ⟨S_, .f32⟩
  | 58 => ⟨S4096x256, .f32⟩
  | 59 => ⟨S4096x256, .f32⟩
  | 60 => ⟨S_, .f32⟩
  | 61 => ⟨S4096x256, .f32⟩
  | 62 => ⟨S4096x256, .f32⟩
  | 63 => ⟨S_, .f32⟩
  | 64 => ⟨S4096x256, .f32⟩
  | 65 => ⟨S4096x256, .f32⟩
  | 66 => ⟨S4096x256, .f32⟩
  | 67 => ⟨S4096x256, .f32⟩
  | 68 => ⟨S4096x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S4096x256, .f32⟩
  | 75 => ⟨S4096x256, .f32⟩
  | 76 => ⟨S4096x4x64, .f32⟩
  | 77 => ⟨S4096x4x64, .f32⟩
  | 78 => ⟨S4096x4x64, .f32⟩
  | 79 => ⟨S32x128x4x64, .f32⟩
  | 80 => ⟨S_, .f32⟩
  | 81 => ⟨S128x4, .f32⟩
  | 82 => ⟨S1x128x4x1, .f32⟩
  | 83 => ⟨S_, .f32⟩
  | 84 => ⟨S128x4, .f32⟩
  | 85 => ⟨S128x4x1, .f32⟩
  | 86 => ⟨S_, .f32⟩
  | 87 => ⟨S128x4, .f32⟩
  | 88 => ⟨S4x128, .f32⟩
  | 89 => ⟨S4x32x64x128, .f32⟩
  | 90 => ⟨S4x128x128, .f32⟩
  | 91 => ⟨S4x32x64x128, .f32⟩
  | 92 => ⟨S32x128x4x64, .f32⟩
  | 93 => ⟨S4x128x128, .f32⟩
  | 94 => ⟨S4x128x128, .f32⟩
  | 95 => ⟨S4096x4x64, .f32⟩
  | 96 => ⟨S4096x4x64, .f32⟩
  | 97 => ⟨S_, .f32⟩
  | 98 => ⟨S4x64, .f32⟩
  | 99 => ⟨S1x4x64, .f32⟩
  | 100 => ⟨S4096x4x64, .f32⟩
  | 101 => ⟨S4096x4x64, .f32⟩
  | 102 => ⟨S_, .f32⟩
  | 103 => ⟨S4x64, .f32⟩
  | 104 => ⟨S4096x4x64, .f32⟩
  | 105 => ⟨S_, .f32⟩
  | 106 => ⟨S4096x4, .f32⟩
  | 107 => ⟨S4096x4x1, .f32⟩
  | 108 => ⟨S4096x4x64, .f32⟩
  | 109 => ⟨S4096x4x64, .f32⟩
  | 110 => ⟨S4096x4x1, .f32⟩
  | 111 => ⟨S_, .f32⟩
  | 112 => ⟨S4096x4x1, .f32⟩
  | 113 => ⟨S4096x4x1, .f32⟩
  | 114 => ⟨S_, .f32⟩
  | 115 => ⟨S4096x4, .f32⟩
  | 116 => ⟨S4096x4x64, .f32⟩
  | 117 => ⟨S4096x4x64, .f32⟩
  | 118 => ⟨S4096x4x64, .f32⟩
  | 119 => ⟨S4096x4x64, .f32⟩
  | 120 => ⟨S4096x4x64, .f32⟩
  | 121 => ⟨S4096x256, .f32⟩
  | 122 => ⟨S4096x256, .f32⟩
  | 123 => ⟨S4096x768, .f32⟩
  | 124 => ⟨S4096x768, .bf16⟩
  | 125 => ⟨S_, .i32⟩
  | 126 => ⟨S_, .f32⟩
  | 127 => ⟨S8x128, .f32⟩
  | _ => ⟨S4096x3328, .f32⟩

abbrev hbmTy0_1 (i : Nat) : BufTy := match i % 128 with
  | 0 => ⟨S_, .i32⟩
  | 1 => ⟨S_, .f32⟩
  | 2 => ⟨S8x128, .f32⟩
  | _ => ⟨S4096x3328, .f32⟩

abbrev hbmTy (i : Nat) : BufTy := match i / 128 with
  | 0 => hbmTy0_0 i
  | 1 => hbmTy0_1 i
  | _ => ⟨S4096x3328, .f32⟩

abbrev bufTy : (tb : Table) → Fin (tcTables nBuf tb) → BufTy
  | .hbm, ⟨i, _⟩ => hbmTy i
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_cst : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_v37_2 : Ref sig .tc := ⟨.hbm, 62, rfl⟩
abbrev main_call1_cst_1 : Ref sig .tc := ⟨.hbm, 63, rfl⟩
abbrev main_call1_v6 : Ref sig .tc := ⟨.hbm, 64, rfl⟩
abbrev main_call1_v7 : Ref sig .tc := ⟨.hbm, 65, rfl⟩
abbrev main_v37_1 : Ref sig .tc := ⟨.hbm, 66, rfl⟩
abbrev main_v37_0 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_4 : Ref sig .tc := ⟨.hbm, 80, rfl⟩
abbrev main_v47 : Ref sig .tc := ⟨.hbm, 81, rfl⟩
abbrev main_v48 : Ref sig .tc := ⟨.hbm, 82, rfl⟩
abbrev main_cst_5 : Ref sig .tc := ⟨.hbm, 83, rfl⟩
abbrev main_v49 : Ref sig .tc := ⟨.hbm, 84, rfl⟩
abbrev main_v50 : Ref sig .tc := ⟨.hbm, 85, rfl⟩
abbrev main_cst_6 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_7 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_8 : Ref sig .tc := ⟨.hbm, 102, rfl⟩
abbrev main_v65 : Ref sig .tc := ⟨.hbm, 103, rfl⟩
abbrev main_v66 : Ref sig .tc := ⟨.hbm, 104, rfl⟩
abbrev main_cst_9 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_10 : Ref sig .tc := ⟨.hbm, 111, rfl⟩
abbrev main_v72 : Ref sig .tc := ⟨.hbm, 112, rfl⟩
abbrev main_v73 : Ref sig .tc := ⟨.hbm, 113, rfl⟩
abbrev main_cst_11 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c : Ref sig .tc := ⟨.hbm, 125, rfl⟩
abbrev main_call3_v0 : Ref sig .tc := ⟨.hbm, 126, rfl⟩
abbrev main_v84 : Ref sig .tc := ⟨.hbm, 127, rfl⟩
abbrev main_c_12 : Ref sig .tc := ⟨.hbm, 128, rfl⟩
abbrev main_call4_v0 : Ref sig .tc := ⟨.hbm, 129, rfl⟩
abbrev main_v85 : Ref sig .tc := ⟨.hbm, 130, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x3328 : Shape := ⟨2, ![1024, 3328]⟩
abbrev S4096x3328 : Shape := ⟨2, ![4096, 3328]⟩
abbrev S4096x768 : Shape := ⟨2, ![4096, 768]⟩
abbrev S4096x512 : Shape := ⟨2, ![4096, 512]⟩
abbrev S4096x256 : Shape := ⟨2, ![4096, 256]⟩
abbrev S3328x1024 : Shape := ⟨2, ![3328, 1024]⟩
abbrev S8x128 : Shape := ⟨2, ![8, 128]⟩
abbrev S512x1024 : Shape := ⟨2, ![512, 1024]⟩
abbrev S512x768 : Shape := ⟨2, ![512, 768]⟩
abbrev S512x512 : Shape := ⟨2, ![512, 512]⟩
abbrev S512x256 : Shape := ⟨2, ![512, 256]⟩
abbrev S_ : Shape := ⟨0, ![]⟩
abbrev S7 : Shape := ⟨1, ![7]⟩
abbrev S512 : Shape := ⟨1, ![512]⟩
abbrev S512x1 : Shape := ⟨2, ![512, 1]⟩
abbrev S768x1024 : Shape := ⟨2, ![768, 1024]⟩
abbrev S1 : Shape := ⟨1, ![1]⟩
abbrev S256x1024 : Shape := ⟨2, ![256, 1024]⟩
abbrev S1024 : Shape := ⟨1, ![1024]⟩
abbrev S1x128 : Shape := ⟨2, ![1, 128]⟩

abbrev nBuf : Space → Nat
  | .hbm => 24
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3328, .f32⟩
  | .hbm, ⟨4, _⟩ => ⟨S4096x3328, .f32⟩
  | .hbm, ⟨5, _⟩ => ⟨S4096x768, .f32⟩
  | .hbm, ⟨6, _⟩ => ⟨S4096x768, .bf16⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S4096x512, .f32⟩
  | .hbm, ⟨12, _⟩ => ⟨S4096x512, .bf16⟩
  | .hbm, ⟨13, _⟩ => ⟨S4096x512, .f32⟩
  | .hbm, ⟨14, _⟩ => ⟨S4096x512, .bf16⟩
  | .hbm, ⟨15, _⟩ => ⟨S4096x256, .f32⟩
  | .hbm, ⟨16, _⟩ => ⟨S4096x256, .bf16⟩
  | .hbm, ⟨17, _⟩ => ⟨S4096x256, .f32⟩
  | .hbm, ⟨18, _⟩ => ⟨S4096x256, .bf16⟩
  | .hbm, ⟨19, _⟩ => ⟨S3328x1024, .f32⟩
  | .hbm, ⟨20, _⟩ => ⟨S3328x1024, .bf16⟩
  | .hbm, ⟨21, _⟩ => ⟨S4096x1024, .f32⟩
  | .hbm, ⟨22, _⟩ => ⟨S3328x1024, .f32⟩
  | .hbm, ⟨23, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x768, .bf16⟩
  | .local _ .vmem, ⟨6, _⟩ => ⟨S512x768, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x1024, .f32⟩
  | .local _ .vmem, ⟨20, _⟩ => ⟨S512x1024, .f32⟩
  | .local _ .vmem, ⟨21, _⟩ => ⟨S8x128, .f32⟩
  | .local _ .vmem, ⟨22, _⟩ => ⟨S3328x1024, .bf16⟩
  | .local _ .vmem, ⟨23, _⟩ => ⟨S3328x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4096x1024 : Shape := ⟨2, ![4096, 1024]⟩
abbrev S1x1024 : Shape := ⟨2, ![1, 1024]⟩
abbrev S1024x3328 : Shape := ⟨2, ![1024, 3328]⟩
abbrev S4096x3328 : Shape := ⟨2, ![4096, 3328]⟩
abbrev S1024 : Shape := ⟨1, ![1024]⟩
abbrev S_ : Shape := ⟨0, ![]⟩
abbrev S4096 : Shape := ⟨1, ![4096]⟩
abbrev S4096x1 : Shape := ⟨2, ![4096, 1]⟩
abbrev S3328x1024 : Shape := ⟨2, ![3328, 1024]⟩
abbrev S8x128 : Shape := ⟨2, ![8, 128]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3328, .f32⟩
  | .hbm, ⟨4, _⟩ => ⟨S4096x3328, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x3328, .f32⟩
  | .hbm, ⟨27, _⟩ => ⟨S3328x1024, .f32⟩
  | .hbm, ⟨28, _⟩ => ⟨S1024x3328, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S3328x1024, .f32⟩
  | .hbm, ⟨58, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel3.lean ====
abbrev S4096x256 : Shape := ⟨2, ![4096, 256]⟩
abbrev S4096x512 : Shape := ⟨2, ![4096, 512]⟩
abbrev S4096x1024 : Shape := ⟨2, ![4096, 1024]⟩
abbrev S1024x1024 : Shape := ⟨2, ![1024, 1024]⟩
abbrev S8x128 : Shape := ⟨2, ![8, 128]⟩
abbrev S512x256 : Shape := ⟨2, ![512, 256]⟩
abbrev S512x512 : Shape := ⟨2, ![512, 512]⟩
abbrev S512x1024 : Shape := ⟨2, ![512, 1024]⟩
abbrev S256x1024 : Shape := ⟨2, ![256, 1024]⟩
abbrev S1024 : Shape := ⟨1, ![1024]⟩
abbrev S1x1024 : Shape := ⟨2, ![1, 1024]⟩
abbrev S1x128 : Shape := ⟨2, ![1, 128]⟩

abbrev nBuf : Space → Nat
  | .hbm => 14
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S4096x256, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x256, .bf16⟩
  | .hbm, ⟨7, _⟩ => ⟨S4096x512, .bf16⟩
  | .hbm, ⟨8, _⟩ => ⟨S4096x256, .bf16⟩
  | .hbm, ⟨9, _⟩ => ⟨S1024x1024, .bf16⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S8x128, .f32⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1024x1024, .f32⟩
  | .local _ .vmem, ⟨16, _⟩ => ⟨S8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x256 : Shape := ⟨2, ![4096, 256]⟩
abbrev S4096x512 : Shape := ⟨2, ![4096, 512]⟩
abbrev S4096x1024 : Shape := ⟨2, ![4096, 1024]⟩
abbrev S1024x1024 : Shape := ⟨2, ![1024, 1024]⟩
abbrev S_ : Shape := ⟨0, ![]⟩
abbrev S4096 : Shape := ⟨1, ![4096]⟩
abbrev S1024 : Shape := ⟨1, ![1024]⟩
abbrev S8x128 : Shape := ⟨2, ![8, 128]⟩

abbrev nBuf : Space → Nat
  | .hbm => 42
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S4096x256, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1024, .f32⟩
  | .hbm, ⟨31, _⟩ => ⟨S4096x1024, .f32⟩
  | .hbm, ⟨32, _⟩ => ⟨S1024x1024, .f32⟩
  | .hbm, ⟨33, _⟩ => ⟨S1024x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S8x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_cst_4 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_cst_6 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel4.lean ====
abbrev S1x1024x832 : Shape := ⟨3, ![1, 1024, 832]⟩
abbrev S1024x832 : Shape := ⟨2, ![1024, 832]⟩
abbrev S832x1024 : Shape := ⟨2, ![832, 1024]⟩
abbrev S832x256 : Shape := ⟨2, ![832, 256]⟩
abbrev S208x1024 : Shape := ⟨2, ![208, 1024]⟩
abbrev S208x256 : Shape := ⟨2, ![208, 256]⟩

abbrev nBuf : Space → Nat
  | .hbm => 20
  | .vmem => 22
  | .smem => 0
  | _ => 0

abbrev bufTy : (tb : Table) → Fin (tcTables nBuf tb) → BufTy
  | .hbm, ⟨0, _⟩ => ⟨S1x1024x832, .f32⟩
  | .hbm, ⟨1, _⟩ => ⟨S1x1024x832, .f32⟩
  | .hbm, ⟨2, _⟩ => ⟨S1x1024x832, .f32⟩
  | .hbm, ⟨3, _⟩ => ⟨S1x1024x832, .f32⟩
  | .hbm, ⟨4, _⟩ => ⟨S1024x832, .f32⟩
  | .hbm, ⟨5, _⟩ => ⟨S832x1024, .f32⟩
  | .hbm, ⟨6, _⟩ => ⟨S832x256, .f32⟩
  | .hbm, ⟨7, _⟩ => ⟨S832x256, .f32⟩
  | .hbm, ⟨8, _⟩ => ⟨S832x256, .f32⟩
  | .hbm, ⟨9, _⟩ => ⟨S832x256, .f32⟩
  | .hbm, ⟨10, _⟩ => ⟨S1024x832, .f32⟩
  | .hbm, ⟨11, _⟩ => ⟨S832x1024, .f32⟩
  | .hbm, ⟨12, _⟩ => ⟨S1024x832, .f32⟩
  | .hbm, ⟨13, _⟩ => ⟨S832x1024, .f32⟩
  | .hbm, ⟨14, _⟩ => ⟨S1024x832, .f32⟩
  | .hbm, ⟨15, _⟩ => ⟨S832x1024, .f32⟩
  | .hbm, ⟨16, _⟩ => ⟨S832x1024, .f32⟩
  | .hbm, ⟨17, _⟩ => ⟨S832x1024, .f32⟩
  | .hbm, ⟨18, _⟩ => ⟨S832x1024, .f32⟩
  | .hbm, ⟨19, _⟩ => ⟨S832x1024, .f32⟩
  | .local _ .vmem, ⟨0, _⟩ => ⟨S208x1024, .f32⟩
  | .local _ .vmem, ⟨1, _⟩ => ⟨S208x1024, .f32⟩
  | .local _ .vmem, ⟨2, _⟩ => ⟨S208x1024, .f32⟩
  | .local _ .vmem, ⟨3, _⟩ => ⟨S208x1024, .f32⟩
  | .local _ .vmem, ⟨4, _⟩ => ⟨S208x1024, .f32⟩
  | .local _ .vmem, ⟨5, _⟩ => ⟨S208x1024, .f32⟩
  | .local _ .vmem, ⟨6, _⟩ => ⟨S208x256, .f32⟩
  | .local _ .vmem, ⟨7, _⟩ => ⟨S208x256, .f32⟩
  | .local _ .vmem, ⟨8, _⟩ => ⟨S208x256, .f32⟩
  | .local _ .vmem, ⟨9, _⟩ => ⟨S208x256, .f32⟩
  | .local _ .vmem, ⟨10, _⟩ => ⟨S208x256, .f32⟩
  | .local _ .vmem, ⟨11, _⟩ => ⟨S208x256, .f32⟩
  | .local _ .vmem, ⟨12, _⟩ => ⟨S208x256, .f32⟩
  | .local _ .vmem, ⟨13, _⟩ => ⟨S208x256, .f32⟩
  | .local _ .vmem, ⟨14, _⟩ => ⟨S208x1024, .f32⟩
  | .local _ .vmem, ⟨15, _⟩ => ⟨S208x1024, .f32⟩
  | .local _ .vmem, ⟨16, _⟩ => ⟨S208x1024, .f32⟩
  | .local _ .vmem, ⟨17, _⟩ => ⟨S208x1024, .f32⟩
  | .local _ .vmem, ⟨18, _⟩ => ⟨S208x1024, .f32⟩
  | .local _ .vmem, ⟨19, _⟩ => ⟨S208x1024, .f32⟩
  | .local _ .vmem, ⟨20, _⟩ => ⟨S208x1024, .f32⟩
  | .local _ .vmem, ⟨21, _⟩ => ⟨S208x1024, .f32⟩
  | _, _ => ⟨S1x1024x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S208x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S208x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S208x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S1x1024x832 : Shape := ⟨3, ![1, 1024, 832]⟩
abbrev S_ : Shape := ⟨0, ![]⟩
abbrev S1024x832 : Shape := ⟨2, ![1024, 832]⟩
abbrev S832x1024 : Shape := ⟨2, ![832, 1024]⟩

abbrev nBuf : Space → Nat
  | .hbm => 45
  | .vmem => 0
  | .smem => 0
  | _ => 0

abbrev bufTy : (tb : Table) → Fin (tcTables nBuf tb) → BufTy
  | .hbm, ⟨0, _⟩ => ⟨S1x1024x832, .f32⟩
  | .hbm, ⟨1, _⟩ => ⟨S1x1024x832, .f32⟩
  | .hbm, ⟨2, _⟩ => ⟨S1x1024x832, .f32⟩
  | .hbm, ⟨3, _⟩ => ⟨S1x1024x832, .f32⟩
  | .hbm, ⟨4, _⟩ => ⟨S_, .f32⟩
  | .hbm, ⟨5, _⟩ => ⟨S1x1024x832, .f32⟩
  | .hbm, ⟨6, _⟩ => ⟨S1x1024x832, .f32⟩
  | .hbm, ⟨7, _⟩ => ⟨S_, .f32⟩
  | .hbm, ⟨8, _⟩ => ⟨S1x1024x832, .f32⟩
  | .hbm, ⟨9, _⟩ => ⟨S1x1024x832, .f32⟩
  | .hbm, ⟨10, _⟩ => ⟨S1x1024x832, .f32⟩
  | .hbm, ⟨11, _⟩ => ⟨S_, .f32⟩
  | .hbm, ⟨12, _⟩ => ⟨S1x1024x832, .f32⟩
  | .hbm, ⟨13, _⟩ => ⟨S1x1024x832, .f32⟩
  | .hbm, ⟨14, _⟩ => ⟨S1x1024x832, .f32⟩
  | .hbm, ⟨15, _⟩ => ⟨S_, .f32⟩
  | .hbm, ⟨16, _⟩ => ⟨S1x1024x832, .f32⟩
  | .hbm, ⟨17, _⟩ => ⟨S1x1024x832, .f32⟩
  | .hbm, ⟨18, _⟩ => ⟨S1x1024x832, .f32⟩
  | .hbm, ⟨19, _⟩ => ⟨S_, .f32⟩
  | .hbm, ⟨20, _⟩ => ⟨S1x1024x832, .f32⟩
  | .hbm, ⟨21, _⟩ => ⟨S1x1024x832, .f32⟩
  | .hbm, ⟨22, _⟩ => ⟨S_, .f32⟩
  | .hbm, ⟨23, _⟩ => ⟨S1x1024x832, .f32⟩
  | .hbm, ⟨24, _⟩ => ⟨S1x1024x832, .f32⟩
  | .hbm, ⟨25, _⟩ => ⟨S1x1024x832, .f32⟩
  | .hbm, ⟨26, _⟩ => ⟨S_, .f32⟩
  | .hbm, ⟨27, _⟩ => ⟨S1x1024x832, .f32⟩
  | .hbm, ⟨28, _⟩ => ⟨S1x1024x832, .f32⟩
  | .hbm, ⟨29, _⟩ => ⟨S1x1024x832, .f32⟩
  | .hbm, ⟨30, _⟩ => ⟨S_, .f32⟩
  | .hbm, ⟨31, _⟩ => ⟨S1x1024x832, .f32⟩
  | .hbm, ⟨32, _⟩ => ⟨S1x1024x832, .f32⟩
  | .hbm, ⟨33, _⟩ => ⟨S1x1024x832, .f32⟩
  | .hbm, ⟨34, _⟩ => ⟨S_, .f32⟩
  | .hbm, ⟨35, _⟩ => ⟨S1x1024x832, .f32⟩
  | .hbm, ⟨36, _⟩ => ⟨S1x1024x832, .f32⟩
  | .hbm, ⟨37, _⟩ => ⟨S1024x832, .f32⟩
  | .hbm, ⟨38, _⟩ => ⟨S832x1024, .f32⟩
  | .hbm, ⟨39, _⟩ => ⟨S1024x832, .f32⟩
  | .hbm, ⟨40, _⟩ => ⟨S832x1024, .f32⟩
  | .hbm, ⟨41, _⟩ => ⟨S1024x832, .f32⟩
  | .hbm, ⟨42, _⟩ => ⟨S832x1024, .f32⟩
  | .hbm, ⟨43, _⟩ => ⟨S1024x832, .f32⟩
  | .hbm, ⟨44, _⟩ => ⟨S832x1024, .f32⟩
  | _, _ => ⟨S1x1024x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel5.lean ====
abbrev S1x4x128x128 : Shape := ⟨4, ![1, 4, 128, 128]⟩
abbrev S512x128 : Shape := ⟨2, ![512, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S1x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S1x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S1x4x128x128 : Shape := ⟨4, ![1, 4, 128, 128]⟩
abbrev S_ : Shape := ⟨0, ![]⟩
abbrev S512x128 : Shape := ⟨2, ![512, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S_, .f32⟩
  | .hbm, ⟨5, _⟩ => ⟨S1x4x128x128, .f32⟩
  | .hbm, ⟨6, _⟩ => ⟨S1x4x128x128, .f32⟩
  | .hbm, ⟨7, _⟩ => ⟨S_, .f32⟩
  | .hbm, ⟨8, _⟩ => ⟨S1x4x128x128, .f32⟩
  | .hbm, ⟨9, _⟩ => ⟨S1x4x128x128, .f32⟩
  | .hbm, ⟨10, _⟩ => ⟨S1x4x128x128, .f32⟩
  | .hbm, ⟨11, _⟩ => ⟨S_, .f32⟩
  | .hbm, ⟨12, _⟩ => ⟨S1x4x128x128, .f32⟩
  | .hbm, ⟨13, _⟩ => ⟨S1x4x128x128, .f32⟩
  | .hbm, ⟨14, _⟩ => ⟨S1x4x128x128, .f32⟩
  | .hbm, ⟨15, _⟩ => ⟨S_, .f32⟩
  | .hbm, ⟨16, _⟩ => ⟨S1x4x128x128, .f32⟩
  | .hbm, ⟨17, _⟩ => ⟨S1x4x128x128, .f32⟩
  | .hbm, ⟨18, _⟩ => ⟨S1x4x128x128, .f32⟩
  | .hbm, ⟨19, _⟩ => ⟨S_, .f32⟩
  | .hbm, ⟨20, _⟩ => ⟨S1x4x128x128, .f32⟩
  | .hbm, ⟨21, _⟩ => ⟨S1x4x128x128, .f32⟩
  | .hbm, ⟨22, _⟩ => ⟨S_, .f32⟩
  | .hbm, ⟨23, _⟩ => ⟨S1x4x128x128, .f32⟩
  | .hbm, ⟨24, _⟩ => ⟨S1x4x128x128, .f32⟩
  | .hbm, ⟨25, _⟩ => ⟨S1x4x128x128, .f32⟩
  | .hbm, ⟨26, _⟩ => ⟨S_, .f32⟩
  | .hbm, ⟨27, _⟩ => ⟨S1x4x128x128, .f32⟩
  | .hbm, ⟨28, _⟩ => ⟨S1x4x128x128, .f32⟩
  | .hbm, ⟨29, _⟩ => ⟨S1x4x128x128, .f32⟩
  | .hbm, ⟨30, _⟩ => ⟨S_, .f32⟩
  | .hbm, ⟨31, _⟩ => ⟨S1x4x128x128, .f32⟩
  | .hbm, ⟨32, _⟩ => ⟨S1x4x128x128, .f32⟩
  | .hbm, ⟨33, _⟩ => ⟨S1x4x128x128, .f32⟩
  | .hbm, ⟨34, _⟩ => ⟨S_, .f32⟩
  | .hbm, ⟨35, _⟩ => ⟨S1x4x128x128, .f32⟩
  | .hbm, ⟨36, _⟩ => ⟨S1x4x128x128, .f32⟩
  | .hbm, ⟨37, _⟩ => ⟨S512x128, .f32⟩
  | .hbm, ⟨38, _⟩ => ⟨S512x128, .f32⟩
  | .hbm, ⟨39, _⟩ => ⟨S512x128, .f32⟩
  | _, _ => ⟨S1x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel6.lean ====
abbrev S1x256x512 : Shape := ⟨3, ![1, 256, 512]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S1x256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference6Ideal.lean ====
abbrev S1x256x512 : Shape := ⟨3, ![1, 256, 512]⟩
abbrev S_ : Shape := ⟨0, ![]⟩
abbrev S256x512 : Shape := ⟨2, ![256, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S1x256x512, .f32⟩
  | .hbm, ⟨4, _⟩ => ⟨S_, .f32⟩
  | .hbm, ⟨5, _⟩ => ⟨S1x256x512, .f32⟩
  | .hbm, ⟨6, _⟩ => ⟨S1x256x512, .f32⟩
  | .hbm, ⟨7, _⟩ => ⟨S_, .f32⟩
  | .hbm, ⟨8, _⟩ => ⟨S1x256x512, .f32⟩
  | .hbm, ⟨9, _⟩ => ⟨S1x256x512, .f32⟩
  | .hbm, ⟨10, _⟩ => ⟨S1x256x512, .f32⟩
  | .hbm, ⟨11, _⟩ => ⟨S_, .f32⟩
  | .hbm, ⟨12, _⟩ => ⟨S1x256x512, .f32⟩
  | .hbm, ⟨13, _⟩ => ⟨S1x256x512, .f32⟩
  | .hbm, ⟨14, _⟩ => ⟨S1x256x512, .f32⟩
  | .hbm, ⟨15, _⟩ => ⟨S_, .f32⟩
  | .hbm, ⟨16, _⟩ => ⟨S1x256x512, .f32⟩
  | .hbm, ⟨17, _⟩ => ⟨S1x256x512, .f32⟩
  | .hbm, ⟨18, _⟩ => ⟨S1x256x512, .f32⟩
  | .hbm, ⟨19, _⟩ => ⟨S_, .f32⟩
  | .hbm, ⟨20, _⟩ => ⟨S1x256x512, .f32⟩
  | .hbm, ⟨21, _⟩ => ⟨S1x256x512, .f32⟩
  | .hbm, ⟨22, _⟩ => ⟨S_, .f32⟩
  | .hbm, ⟨23, _⟩ => ⟨S1x256x512, .f32⟩
  | .hbm, ⟨24, _⟩ => ⟨S1x256x512, .f32⟩
  | .hbm, ⟨25, _⟩ => ⟨S1x256x512, .f32⟩
  | .hbm, ⟨26, _⟩ => ⟨S_, .f32⟩
  | .hbm, ⟨27, _⟩ => ⟨S1x256x512, .f32⟩
  | .hbm, ⟨28, _⟩ => ⟨S1x256x512, .f32⟩
  | .hbm, ⟨29, _⟩ => ⟨S1x256x512, .f32⟩
  | .hbm, ⟨30, _⟩ => ⟨S_, .f32⟩
  | .hbm, ⟨31, _⟩ => ⟨S1x256x512, .f32⟩
  | .hbm, ⟨32, _⟩ => ⟨S1x256x512, .f32⟩
  | .hbm, ⟨33, _⟩ => ⟨S1x256x512, .f32⟩
  | .hbm, ⟨34, _⟩ => ⟨S_, .f32⟩
  | .hbm, ⟨35, _⟩ => ⟨S1x256x512, .f32⟩
  | .hbm, ⟨36, _⟩ => ⟨S1x256x512, .f32⟩
  | .hbm, ⟨37, _⟩ => ⟨S256x512, .f32⟩
  | .hbm, ⟨38, _⟩ => ⟨S256x512, .f32⟩
  | .hbm, ⟨39, _⟩ => ⟨S256x512, .f32⟩
  | _, _ => ⟨S1x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel7.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference7Ideal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel8.lean ====
abbrev S32768x1024 : Shape := ⟨2, ![32768, 1024]⟩
abbrev S1x1024 : Shape := ⟨2, ![1, 1024]⟩
abbrev S1x4x64 : Shape := ⟨3, ![1, 4, 64]⟩
abbrev S1x4x128 : Shape := ⟨3, ![1, 4, 128]⟩
abbrev S1x64 : Shape := ⟨2, ![1, 64]⟩
abbrev S_ : Shape := ⟨0, ![]⟩
abbrev S1024 : Shape := ⟨1, ![1024]⟩
abbrev S8x128 : Shape := ⟨2, ![8, 128]⟩
abbrev S4x64 : Shape := ⟨2, ![4, 64]⟩
abbrev S4x128 : Shape := ⟨2, ![4, 128]⟩
abbrev S72x128 : Shape := ⟨2, ![72, 128]⟩
abbrev S1x1 : Shape := ⟨2, ![1, 1]⟩
abbrev S1x8x128 : Shape := ⟨3, ![1, 8, 128]⟩
abbrev S1 : Shape := ⟨1, ![1]⟩
abbrev S1x1x1 : Shape := ⟨3, ![1, 1, 1]⟩
abbrev S1x128 : Shape := ⟨2, ![1, 128]⟩

abbrev nBuf : Space → Nat
  | .hbm => 105
  | .vmem => 58
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x4x64, .f32⟩
  | .hbm, ⟨3, _⟩ => ⟨S1x4x128, .f32⟩
  | .hbm, ⟨4, _⟩ => ⟨S1x64, .f32⟩
  | .hbm, ⟨5, _⟩ => ⟨S1x64, .f32⟩
  | .hbm, ⟨6, _⟩ => ⟨S1x1024, .f32⟩
  | .hbm, ⟨7, _⟩ => ⟨S1x64, .f32⟩
  | .hbm, ⟨8, _⟩ => ⟨S1x64, .f32⟩
  | .hbm, ⟨9, _⟩ => ⟨S1x1024, .f32⟩
  | .hbm, ⟨10, _⟩ => ⟨S1x4x64, .f32⟩
  | .hbm, ⟨11, _⟩ => ⟨S1x4x128, .f32⟩
  | .hbm, ⟨12, _⟩ => ⟨S1x64, .f32⟩
  | .hbm, ⟨13, _⟩ => ⟨S1x64, .f32⟩
  | .hbm, ⟨14, _⟩ => ⟨S1x1024, .f32⟩
  | .hbm, ⟨15, _⟩ => ⟨S1x64, .f32⟩
  | .hbm, ⟨16, _⟩ => ⟨S1x64, .f32⟩
  | .hbm, ⟨17, _⟩ => ⟨S1x1024, .f32⟩
  | .hbm, ⟨18, _⟩ => ⟨S1x4x64, .f32⟩
  | .hbm, ⟨19, _⟩ => ⟨S1x4x128, .f32⟩
  | .hbm, ⟨20, _⟩ => ⟨S1x64, .f32⟩
  | .hbm, ⟨21, _⟩ => ⟨S1x64, .f32⟩
  | .hbm, ⟨22, _⟩ => ⟨S1x1024, .f32⟩
  | .hbm, ⟨23, _⟩ => ⟨S1x64, .f32⟩
  | .hbm, ⟨24, _⟩ => ⟨S1x64, .f32⟩
  | .hbm, ⟨25, _⟩ => ⟨S1x1024, .f32⟩
  | .hbm, ⟨26, _⟩ => ⟨S1x4x64, .f32⟩
  | .hbm, ⟨27, _⟩ => ⟨S1x4x128, .f32⟩
  | .hbm, ⟨28, _⟩ => ⟨S1x64, .f32⟩
  | .hbm, ⟨29, _⟩ => ⟨S1x64, .f32⟩
  | .hbm, ⟨30, _⟩ => ⟨S1x1024, .f32⟩
  | .hbm, ⟨31, _⟩ => ⟨S1x64, .f32⟩
  | .hbm, ⟨32, _⟩ => ⟨S1x64, .f32⟩
  | .hbm, ⟨33, _⟩ => ⟨S32768x1024, .f32⟩
  | .hbm, ⟨34, _⟩ => ⟨S_, .f32⟩
  | .hbm, ⟨35, _⟩ => ⟨S1024, .f32⟩
  | .hbm, ⟨36, _⟩ => ⟨S8x128, .f32⟩
  | .hbm, ⟨37, _⟩ => ⟨S8x128, .f32⟩
  | .hbm, ⟨38, _⟩ => ⟨S_, .i32⟩
  | .hbm, ⟨39, _⟩ => ⟨S_, .f32⟩
  | .hbm, ⟨40, _⟩ => ⟨S8x128, .f32⟩
  | .hbm, ⟨41, _⟩ => ⟨S4x64, .f32⟩
  | .hbm, ⟨42, _⟩ => ⟨S_, .i32⟩
  | .hbm, ⟨43, _⟩ => ⟨S_, .f32⟩
  | .hbm, ⟨44, _⟩ => ⟨S8x128, .f32⟩
  | .hbm, ⟨45, _⟩ => ⟨S4x128, .f32⟩
  | .hbm, ⟨46, _⟩ => ⟨S_, .i32⟩
  | .hbm, ⟨47, _⟩ => ⟨S_, .f32⟩
  | .hbm, ⟨48, _⟩ => ⟨S8x128, .f32⟩
  | .hbm, ⟨49, _⟩ => ⟨S_, .i32⟩
  | .hbm, ⟨50, _⟩ => ⟨S_, .f32⟩
  | .hbm, ⟨51, _⟩ => ⟨S8x128, .f32⟩
  | .hbm, ⟨52, _⟩ => ⟨S_, .i32⟩
  | .hbm, ⟨53, _⟩ => ⟨S_, .f32⟩
  | .hbm, ⟨54, _⟩ => ⟨S8x128, .f32⟩
  | .hbm, ⟨55, _⟩ => ⟨S8x128, .f32⟩
  | .hbm, ⟨56, _⟩ => ⟨S_, .i32⟩
  | .hbm, ⟨57, _⟩ => ⟨S_, .f32⟩
  | .hbm, ⟨58, _⟩ => ⟨S8x128, .f32⟩
  | .hbm, ⟨59, _⟩ => ⟨S_, .i32⟩
  | .hbm, ⟨60, _⟩ => ⟨S_, .f32⟩
  | .hbm, ⟨61, _⟩ => ⟨S8x128, .f32⟩
  | .hbm, ⟨62, _⟩ => ⟨S_, .i32⟩
  | .hbm, ⟨63, _⟩ => ⟨S_, .f32⟩
  | .hbm, ⟨64, _⟩ => ⟨S8x128, .f32⟩
  | .hbm, ⟨65, _⟩ => ⟨S72x128, .f32⟩
  | .hbm, ⟨66, _⟩ => ⟨S4x64, .f32⟩
  | .hbm, ⟨67, _⟩ => ⟨S4x128, .f32⟩
  | .hbm, ⟨68, _⟩ => ⟨S4x64, .f32⟩
  | .hbm, ⟨69, _⟩ => ⟨S4x128, .f32⟩
  | .hbm, ⟨70, _⟩ => ⟨S4x64, .f32⟩
  | .hbm, ⟨71, _⟩ => ⟨S4x128, .f32⟩
  | .hbm, ⟨72, _⟩ => ⟨S1x1, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S4x64, .f32⟩
  | .hbm, ⟨78, _⟩ => ⟨S4x64, .f32⟩
  | .hbm, ⟨79, _⟩ => ⟨S4x64, .f32⟩
  | .hbm, ⟨80, _⟩ => ⟨S4x64, .f32⟩
  | .hbm, ⟨81, _⟩ => ⟨S4x128, .f32⟩
  | .hbm, ⟨82, _⟩ => ⟨S4x128, .f32⟩
  | .hbm, ⟨83, _⟩ => ⟨S4x128, .f32⟩
  | .hbm, ⟨84, _⟩ => ⟨S4x128, .f32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S1x64, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S1x64, .f32⟩
  | .local _ .vmem, ⟨0, _⟩ => ⟨S72x128, .f32⟩
  | .local _ .vmem, ⟨1, _⟩ => ⟨S1x1024, .f32⟩
  | .local _ .vmem, ⟨2, _⟩ => ⟨S4x64, .f32⟩
  | .local _ .vmem, ⟨3, _⟩ => ⟨S4x128, .f32⟩
  | .local _ .vmem, ⟨4, _⟩ => ⟨S1x64, .f32⟩
  | .local _ .vmem, ⟨5, _⟩ => ⟨S1x64, .f32⟩
  | .local _ .vmem, ⟨6, _⟩ => ⟨S1x1024, .f32⟩
  | .local _ .vmem, ⟨7, _⟩ => ⟨S1x64, .f32⟩
  | .local _ .vmem, ⟨8, _⟩ => ⟨S1x64, .f32⟩
  | .local _ .vmem, ⟨9, _⟩ => ⟨S1x1024, .f32⟩
  | .local _ .vmem, ⟨10, _⟩ => ⟨S4x64, .f32⟩
  | .local _ .vmem, ⟨11, _⟩ => ⟨S4x128, .f32⟩
  | .local _ .vmem, ⟨12, _⟩ => ⟨S1x64, .f32⟩
  | .local _ .vmem, ⟨13, _⟩ => ⟨S1x64, .f32⟩
  | .local _ .vmem, ⟨14, _⟩ => ⟨S1x1024, .f32⟩
  | .local _ .vmem, ⟨15, _⟩ => ⟨S1x64, .f32⟩
  | .local _ .vmem, ⟨16, _⟩ => ⟨S1x64, .f32⟩
  | .local _ .vmem, ⟨17, _⟩ => ⟨S1x1024, .f32⟩
  | .local _ .vmem, ⟨18, _⟩ => ⟨S4x64, .f32⟩
  | .local _ .vmem, ⟨19, _⟩ => ⟨S4x128, .f32⟩
  | .local _ .vmem, ⟨20, _⟩ => ⟨S1x64, .f32⟩
  | .local _ .vmem, ⟨21, _⟩ => ⟨S1x64, .f32⟩
  | .local _ .vmem, ⟨22, _⟩ => ⟨S1x1024, .f32⟩
  | .local _ .vmem, ⟨23, _⟩ => ⟨S1x64, .f32⟩
  | .local _ .vmem, ⟨24, _⟩ => ⟨S1x64, .f32⟩
  | .local _ .vmem, ⟨25, _⟩ => ⟨S1x1, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S4x64, .f32⟩
  | .local _ .vmem, ⟨31, _⟩ => ⟨S4x64, .f32⟩
  | .local _ .vmem, ⟨32, _⟩ => ⟨S4x64, .f32⟩
  | .local _ .vmem, ⟨33, _⟩ => ⟨S4x64, .f32⟩
  | .local _ .vmem, ⟨34, _⟩ => ⟨S4x128, .f32⟩
  | .local _ .vmem, ⟨35, _⟩ => ⟨S4x128, .f32⟩
  | .local _ .vmem, ⟨36, _⟩ => ⟨S4x128, .f32⟩
  | .local _ .vmem, ⟨37, _⟩ => ⟨S4x128, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_cst : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_c : Ref sig .tc := ⟨.hbm, 38, rfl⟩
abbrev main_call0_v0 : Ref sig .tc := ⟨.hbm, 39, rfl⟩
abbrev main_v4 : Ref sig .tc := ⟨.hbm, 40, rfl⟩
abbrev main_v5 : Ref sig .tc := ⟨.hbm, 41, rfl⟩
abbrev main_c_0 : Ref sig .tc := ⟨.hbm, 42, rfl⟩
abbrev main_call1_v0 : Ref sig .tc := ⟨.hbm, 43, rfl⟩
abbrev main_v6 : Ref sig .tc := ⟨.hbm, 44, rfl⟩
abbrev main_v7 : Ref sig .tc := ⟨.hbm, 45, rfl⟩
abbrev main_c_1 : Ref sig .tc := ⟨.hbm, 46, rfl⟩
abbrev main_call2_v0 : Ref sig .tc := ⟨.hbm, 47, rfl⟩
abbrev main_v8 : Ref sig .tc := ⟨.hbm, 48, rfl⟩
abbrev main_c_2 : Ref sig .tc := ⟨.hbm, 49, rfl⟩
abbrev main_call3_v0 : Ref sig .tc := ⟨.hbm, 50, rfl⟩
abbrev main_v9 : Ref sig .tc := ⟨.hbm, 51, rfl⟩
abbrev main_c_3 : Ref sig .tc := ⟨.hbm, 52, rfl⟩
abbrev main_call4_v0 : Ref sig .tc := ⟨.hbm, 53, rfl⟩
abbrev main_v10 : Ref sig .tc := ⟨.hbm, 54, rfl⟩
abbrev main_v11 : Ref sig .tc := ⟨.hbm, 55, rfl⟩
abbrev main_c_4 : Ref sig .tc := ⟨.hbm, 56, rfl⟩
abbrev main_call5_v0 : Ref sig .tc := ⟨.hbm, 57, rfl⟩
abbrev main_v12 : Ref sig .tc := ⟨.hbm, 58, rfl⟩
abbrev main_c_5 : Ref sig .tc := ⟨.hbm, 59, rfl⟩
abbrev main_call6_v0 : Ref sig .tc := ⟨.hbm, 60, rfl⟩
abbrev main_v13 : Ref sig .tc := ⟨.hbm, 61, rfl⟩
abbrev main_c_6 : Ref sig .tc := ⟨.hbm, 62, rfl⟩
abbrev main_call7_v0 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22_0 : Ref sig .tc := ⟨.hbm, 72, rfl⟩
abbrev main_v22_1 : Ref sig .tc := ⟨.hbm, 73, rfl⟩
abbrev main_v22_2 : Ref sig .tc := ⟨.hbm, 74, rfl⟩
abbrev main_v22_3 : Ref sig .tc := ⟨.hbm, 75, rfl⟩
abbrev main_v22_4 : Ref sig .tc := ⟨.hbm, 76, rfl⟩
abbrev main_v22_5 : Ref sig .tc := ⟨.hbm, 77, rfl⟩
abbrev main_v22_6 : Ref sig .tc := ⟨.hbm, 78, rfl⟩
abbrev main_v22_7 : Ref sig .tc := ⟨.hbm, 79, rfl⟩
abbrev main_v22_8 : Ref sig .tc := ⟨.hbm, 80, rfl⟩
abbrev main_v22_9 : Ref sig .tc := ⟨.hbm, 81, rfl⟩
abbrev main_v22_10 : Ref sig .tc := ⟨.hbm, 82, rfl⟩
abbrev main_v22_11 : Ref sig .tc := ⟨.hbm, 83, rfl⟩
abbrev main_v22_12 : Ref sig .tc := ⟨.hbm, 84, rfl⟩
abbrev main_v22_13 : Ref sig .tc := ⟨.hbm, 85, rfl⟩
abbrev main_v22_14 : Ref sig .tc := ⟨.hbm, 86, rfl⟩
abbrev main_v22_15 : Ref sig .tc := ⟨.hbm, 87, rfl⟩
abbrev main_v22_16 : Ref sig .tc := ⟨.hbm, 88, rfl⟩
abbrev main_v22_17 : Ref sig .tc := ⟨.hbm, 89, rfl⟩
abbrev main_v22_18 : Ref sig .tc := ⟨.hbm, 90, rfl⟩
abbrev main_v22_19 : Ref sig .tc := ⟨.hbm, 91, rfl⟩
abbrev main_v22_20 : Ref sig .tc := ⟨.hbm, 92, rfl⟩
abbrev main_v22_21 : Ref sig .tc := ⟨.hbm, 93, rfl⟩
abbrev main_v22_22 : Ref sig .tc := ⟨.hbm, 94, rfl⟩
abbrev main_v22_23 : Ref sig .tc := ⟨.hbm, 95, rfl⟩
abbrev main_v22_24 : Ref sig .tc := ⟨.hbm, 96, rfl⟩
abbrev main_v22_25 : Ref sig .tc := ⟨.hbm, 97, rfl⟩
abbrev main_v22_26 : Ref sig .tc := ⟨.hbm, 98, rfl⟩
abbrev main_v22_27 : Ref sig .tc := ⟨.hbm, 99, rfl⟩
abbrev main_v22_28 : Ref sig .tc := ⟨.hbm, 100, rfl⟩
abbrev main_v22_29 : Ref sig .tc := ⟨.hbm, 101, rfl⟩
abbrev main_v22_30 : Ref sig .tc := ⟨.hbm, 102, rfl⟩
abbrev main_v22_31 : Ref sig .tc := ⟨.hbm, 103, rfl⟩
abbrev main_v22_32 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57

abbrev nD : Nat := 1
abbrev τ : Topo := Topo.v7x

variable {F : FTy → Type} [FloatOps F]

abbrev grid0 : Pipeline.Grid := .none

abbrev stage0_0 : Fin 1 → Memref sig .tc .vmem S72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S4x64 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S4x64 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S4x64 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S4x64 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S4x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S4x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S4x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S4x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x64 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x64 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x64 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x64 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x64 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x64 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x64 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x64 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x64 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x64 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x64 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x64 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x64 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x64 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x64 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x64 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))
-- ==== Reference8Ideal.lean ====
abbrev S32768x1024 : Shape := ⟨2, ![32768, 1024]⟩
abbrev S1x1024 : Shape := ⟨2, ![1, 1024]⟩
abbrev S1x4x64 : Shape := ⟨3, ![1, 4, 64]⟩
abbrev S1x4x128 : Shape := ⟨3, ![1, 4, 128]⟩
abbrev S1x64 : Shape := ⟨2, ![1, 64]⟩
abbrev S_ : Shape := ⟨0, ![]⟩
abbrev S32768 : Shape := ⟨1, ![32768]⟩
abbrev S1x1 : Shape := ⟨2, ![1, 1]⟩
abbrev S4x64 : Shape := ⟨2, ![4, 64]⟩
abbrev S4x128 : Shape := ⟨2, ![4, 128]⟩

abbrev nBuf : Space → Nat
  | .hbm => 316
  | .vmem => 0
  | .smem => 0
  | _ => 0

abbrev hbmTy0_0 (i : Nat) : BufTy := match i % 128 with
  | 0 => ⟨S32768x1024, .f32⟩
  | 1 => ⟨S1x1024, .f32⟩
  | 2 => ⟨S1x4x64, .f32⟩
  | 3 => ⟨S1x4x128, .f32⟩
  | 4 => ⟨S1x64, .f32⟩
  | 5 => ⟨S1x64, .f32⟩
  | 6 => ⟨S1x1024, .f32⟩
  | 7 => ⟨S1x64, .f32⟩
  | 8 => ⟨S1x64, .f32⟩
  | 9 => ⟨S1x1024, .f32⟩
  | 10 => ⟨S1x4x64, .f32⟩
  | 11 => ⟨S1x4x128, .f32⟩
  | 12 => ⟨S1x64, .f32⟩
  | 13 => ⟨S1x64, .f32⟩
  | 14 => ⟨S1x1024, .f32⟩
  | 15 => ⟨S1x64, .f32⟩
  | 16 => ⟨S1x64, .f32⟩
  | 17 => ⟨S1x1024, .f32⟩
  | 18 => ⟨S1x4x64, .f32⟩
  | 19 => ⟨S1x4x128, .f32⟩
  | 20 => ⟨S1x64, .f32⟩
  | 21 => ⟨S1x64, .f32⟩
  | 22 => ⟨S1x1024, .f32⟩
  | 23 => ⟨S1x64, .f32⟩
  | 24 => ⟨S1x64, .f32⟩
  | 25 => ⟨S1x1024, .f32⟩
  | 26 => ⟨S1x4x64, .f32⟩
  | 27 => ⟨S1x4x128, .f32⟩
  | 28 => ⟨S1x64, .f32⟩
  | 29 => ⟨S1x64, .f32⟩
  | 30 => ⟨S1x1024, .f32⟩
  | 31 => ⟨S1x64, .f32⟩
  | 32 => ⟨S1x64, .f32⟩
  | 33 => ⟨S32768x1024, .f32⟩
  | 34 => ⟨S_, .f32⟩
  | 35 => ⟨S32768, .f32⟩
  | 36 => ⟨S_, .f32⟩
  | 37 => ⟨S32768, .f32⟩
  | 38 => ⟨S32768, .f32⟩
  | 39 => ⟨S_, .f32⟩
  | 40 => ⟨S_, .f32⟩
  | 41 => ⟨S_, .f32⟩
  | 42 => ⟨S_, .f32⟩
  | 43 => ⟨S_, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S_, .f32⟩
  | 77 => ⟨S1x4x64, .f32⟩
  | 78 => ⟨S1x4x64, .f32⟩
  | 79 => ⟨S_, .f32⟩
  | 80 => ⟨S1x4x64, .f32⟩
  | 81 => ⟨S1x4x64, .f32⟩
  | 82 => ⟨S1x4x64, .f32⟩
  | 83 => ⟨S_, .f32⟩
  | 84 => ⟨S1x4x64, .f32⟩
  | 85 => ⟨S1x4x64, .f32⟩
  | 86 => ⟨S1x4x64, .f32⟩
  | 87 => ⟨S_, .f32⟩
  | 88 => ⟨S1x4x64, .f32⟩
  | 89 => ⟨S1x4x64, .f32⟩
  | 90 => ⟨S1x4x64, .f32⟩
  | 91 => ⟨S_, .f32⟩
  | 92 => ⟨S1x4x64, .f32⟩
  | 93 => ⟨S1x4x64, .f32⟩
  | 94 => ⟨S_, .f32⟩
  | 95 => ⟨S1x4x64, .f32⟩
  | 96 => ⟨S1x4x64, .f32⟩
  | 97 => ⟨S1x4x64, .f32⟩
  | 98 => ⟨S_, .f32⟩
  | 99 => ⟨S1x4x64, .f32⟩
  | 100 => ⟨S1x4x64, .f32⟩
  | 101 => ⟨S1x4x64, .f32⟩
  | 102 => ⟨S_, .f32⟩
  | 103 => ⟨S1x4x64, .f32⟩
  | 104 => ⟨S1x4x64, .f32⟩
  | 105 => ⟨S1x4x64, .f32⟩
  | 106 => ⟨S_, .f32⟩
  | 107 => ⟨S1x4x64, .f32⟩
  | 108 => ⟨S1x4x64, .f32⟩
  | 109 => ⟨S_, .f32⟩
  | 110 => ⟨S1x4x128, .f32⟩
  | 111 => ⟨S1x4x128, .f32⟩
  | 112 => ⟨S_, .f32⟩
  | 113 => ⟨S1x4x128, .f32⟩
  | 114 => ⟨S1x4x128, .f32⟩
  | 115 => ⟨S1x4x128, .f32⟩
  | 116 => ⟨S_, .f32⟩
  | 117 => ⟨S1x4x128, .f32⟩
  | 118 => ⟨S1x4x128, .f32⟩
  | 119 => ⟨S1x4x128, .f32⟩
  | 120 => ⟨S_, .f32⟩
  | 121 => ⟨S1x4x128, .f32⟩
  | 122 => ⟨S1x4x128, .f32⟩
  | 123 => ⟨S1x4x128, .f32⟩
  | 124 => ⟨S_, .f32⟩
  | 125 => ⟨S1x4x128, .f32⟩
  | 126 => ⟨S1x4x128, .f32⟩
  | 127 => ⟨S_, .f32⟩
  | _ => ⟨S32768x1024, .f32⟩

abbrev hbmTy0_1 (i : Nat) : BufTy := match i % 128 with
  | 0 => ⟨S1x4x128, .f32⟩
  | 1 => ⟨S1x4x128, .f32⟩
  | 2 => ⟨S1x4x128, .f32⟩
  | 3 => ⟨S_, .f32⟩
  | 4 => ⟨S1x4x128, .f32⟩
  | 5 => ⟨S1x4x128, .f32⟩
  | 6 => ⟨S1x4x128, .f32⟩
  | 7 => ⟨S_, .f32⟩
  | 8 => ⟨S1x4x128, .f32⟩
  | 9 => ⟨S1x4x128, .f32⟩
  | 10 => ⟨S1x4x128, .f32⟩
  | 11 => ⟨S_, .f32⟩
  | 12 => ⟨S1x4x128, .f32⟩
  | 13 => ⟨S1x4x128, .f32⟩
  | 14 => ⟨S_, .f32⟩
  | 15 => ⟨S1x64, .f32⟩
  | 16 => ⟨S1x64, .f32⟩
  | 17 => ⟨S_, .f32⟩
  | 18 => ⟨S1x64, .f32⟩
  | 19 => ⟨S1x64, .f32⟩
  | 20 => ⟨S1x64, .f32⟩
  | 21 => ⟨S_, .f32⟩
  | 22 => ⟨S1x64, .f32⟩
  | 23 => ⟨S1x64, .f32⟩
  | 24 => ⟨S1x64, .f32⟩
  | 25 => ⟨S_, .f32⟩
  | 26 => ⟨S1x64, .f32⟩
  | 27 => ⟨S1x64, .f32⟩
  | 28 => ⟨S1x64, .f32⟩
  | 29 => ⟨S_, .f32⟩
  | 30 => ⟨S1x64, .f32⟩
  | 31 => ⟨S1x64, .f32⟩
  | 32 => ⟨S_, .f32⟩
  | 33 => ⟨S1x64, .f32⟩
  | 34 => ⟨S1x64, .f32⟩
  | 35 => ⟨S1x64, .f32⟩
  | 36 => ⟨S_, .f32⟩
  | 37 => ⟨S1x64, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S1x64, .f32⟩
  | 44 => ⟨S_, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S1x64, .f32⟩
  | 54 => ⟨S_, .f32⟩
  | 55 => ⟨S1x64, .f32⟩
  | 56 => ⟨S1x64, .f32⟩
  | 57 => ⟨S1x64, .f32⟩
  | 58 => ⟨S_, .f32⟩
  | 59 => ⟨S1x64, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S_, .f32⟩
  | 66 => ⟨S1x64, .f32⟩
  | 67 => ⟨S1x64, .f32⟩
  | 68 => ⟨S1x64, .f32⟩
  | 69 => ⟨S_, .f32⟩
  | 70 => ⟨S1x64, .f32⟩
  | 71 => ⟨S1x64, .f32⟩
  | 72 => ⟨S1x64, .f32⟩
  | 73 => ⟨S_, .f32⟩
  | 74 => ⟨S1x64, .f32⟩
  | 75 => ⟨S1x64, .f32⟩
  | 76 => ⟨S1x64, .f32⟩
  | 77 => ⟨S_, .f32⟩
  | 78 => ⟨S1x64, .f32⟩
  | 79 => ⟨S1x64, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S_, .f32⟩
  | 114 => ⟨S1x64, .f32⟩
  | 115 => ⟨S1x64, .f32⟩
  | 116 => ⟨S_, .f32⟩
  | 117 => ⟨S1x64, .f32⟩
  | 118 => ⟨S1x64, .f32⟩
  | 119 => ⟨S1x64, .f32⟩
  | 120 => ⟨S_, .f32⟩
  | 121 => ⟨S1x64, .f32⟩
  | 122 => ⟨S1x64, .f32⟩
  | 123 => ⟨S1x64, .f32⟩
  | 124 => ⟨S_, .f32⟩
  | 125 => ⟨S1x64, .f32⟩
  | 126 => ⟨S1x64, .f32⟩
  | 127 => ⟨S1x64, .f32⟩
  | _ => ⟨S32768x1024, .f32⟩

abbrev hbmTy0_2 (i : Nat) : BufTy := match i % 128 with
  | 0 => ⟨S_, .f32⟩
  | 1 => ⟨S1x64, .f32⟩
  | 2 => ⟨S1x64, .f32⟩
  | 3 => ⟨S_, .f32⟩
  | 4 => ⟨S1x64, .f32⟩
  | 5 => ⟨S1x64, .f32⟩
  | 6 => ⟨S1x64, .f32⟩
  | 7 => ⟨S_, .f32⟩
  | 8 => ⟨S1x64, .f32⟩
  | 9 => ⟨S1x64, .f32⟩
  | 10 => ⟨S1x64, .f32⟩
  | 11 => ⟨S_, .f32⟩
  | 12 => ⟨S1x64, .f32⟩
  | 13 => ⟨S1x64, .f32⟩
  | 14 => ⟨S1x64, .f32⟩
  | 15 => ⟨S_, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S_, .f32⟩
  | 22 => ⟨S1x64, .f32⟩
  | 23 => ⟨S1x64, .f32⟩
  | 24 => ⟨S1x64, .f32⟩
  | 25 => ⟨S_, .f32⟩
  | 26 => ⟨S1x64, .f32⟩
  | 27 => ⟨S1x64, .f32⟩
  | 28 => ⟨S1x64, .f32⟩
  | 29 => ⟨S_, .f32⟩
  | 30 => ⟨S1x64, .f32⟩
  | 31 => ⟨S1x64, .f32⟩
  | 32 => ⟨S1x64, .f32⟩
  | 33 => ⟨S_, .f32⟩
  | 34 => ⟨S1x64, .f32⟩
  | 35 => ⟨S1x64, .f32⟩
  | 36 => ⟨S_, .f32⟩
  | 37 => ⟨S1x64, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S1x64, .f32⟩
  | 44 => ⟨S_, .f32⟩
  | 45 => ⟨S1x64, .f32⟩
  | 46 => ⟨S1x64, .f32⟩
  | 47 => ⟨S1x64, .f32⟩
  | 48 => ⟨S_, .f32⟩
  | 49 => ⟨S1x64, .f32⟩
  | 50 => ⟨S1x64, .f32⟩
  | 51 => ⟨S1x1, .f32⟩
  | 52 => ⟨S4x64, .f32⟩
  | 53 => ⟨S4x128, .f32⟩
  | 54 => ⟨S4x64, .f32⟩
  | 55 => ⟨S4x128, .f32⟩
  | 56 => ⟨S4x64, .f32⟩
  | 57 => ⟨S4x128, .f32⟩
  | 58 => ⟨S4x64, .f32⟩
  | 59 => ⟨S4x128, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_cst : Ref sig .tc := ⟨.hbm, 34, rfl⟩
abbrev main_v1 : Ref sig .tc := ⟨.hbm, 35, rfl⟩
abbrev main_cst_0 : Ref sig .tc := ⟨.hbm, 36, rfl⟩
abbrev main_v2 : Ref sig .tc := ⟨.hbm, 37, rfl⟩
abbrev main_v3 : Ref sig .tc := ⟨.hbm, 38, rfl⟩
abbrev main_cst_1 : Ref sig .tc := ⟨.hbm, 39, rfl⟩
abbrev main_v4 : Ref sig .tc := ⟨.hbm, 40, rfl⟩
abbrev main_cst_2 : Ref sig .tc := ⟨.hbm, 41, rfl⟩
abbrev main_v5 : Ref sig .tc := ⟨.hbm, 42, rfl⟩
abbrev main_cst_3 : Ref sig .tc := ⟨.hbm, 43, rfl⟩
abbrev main_v6 : Ref sig .tc := ⟨.hbm, 44, rfl⟩
abbrev main_v7 : Ref sig .tc := ⟨.hbm, 45, rfl⟩
abbrev main_cst_4 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst_5 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_6 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_7 : Ref sig .tc := ⟨.hbm, 58, rfl⟩
abbrev main_v17 : Ref sig .tc := ⟨.hbm, 59, rfl⟩
abbrev main_v18 : Ref sig .tc := ⟨.hbm, 60, rfl⟩
abbrev main_cst_8 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_9 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_cst_10 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_11 : Ref sig .tc := ⟨.hbm, 73, rfl⟩
abbrev main_v28 : Ref sig .tc := ⟨.hbm, 74, rfl⟩
abbrev main_v29 : Ref sig .tc := ⟨.hbm, 75, rfl⟩
abbrev main_cst_12 : Ref sig .tc := ⟨.hbm, 76, rfl⟩
abbrev main_v30 : Ref sig .tc := ⟨.hbm, 77, rfl⟩
abbrev main_v31 : Ref sig .tc := ⟨.hbm, 78, rfl⟩
abbrev main_cst_13 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_14 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_cst_15 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_16 : Ref sig .tc := ⟨.hbm, 91, rfl⟩
abbrev main_v41 : Ref sig .tc := ⟨.hbm, 92, rfl⟩
abbrev main_v42 : Ref sig .tc := ⟨.hbm, 93, rfl⟩
abbrev main_cst_17 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_cst_18 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_19 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_20 : Ref sig .tc := ⟨.hbm, 106, rfl⟩
abbrev main_v52 : Ref sig .tc := ⟨.hbm, 107, rfl⟩
abbrev main_v53 : Ref sig .tc := ⟨.hbm, 108, rfl⟩
abbrev main_cst_21 : Ref sig .tc := ⟨.hbm, 109, rfl⟩
abbrev main_v54 : Ref sig .tc := ⟨.hbm, 110, rfl⟩
abbrev main_v55 : Ref sig .tc := ⟨.hbm, 111, rfl⟩
abbrev main_cst_22 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_cst_23 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_24 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_cst_25 : Ref sig .tc := ⟨.hbm, 124, rfl⟩
abbrev main_v65 : Ref sig .tc := ⟨.hbm, 125, rfl⟩
abbrev main_v66 : Ref sig .tc := ⟨.hbm, 126, rfl⟩
abbrev main_cst_26 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_cst_27 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_28 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_cst_29 : Ref sig .tc := ⟨.hbm, 139, rfl⟩
abbrev main_v76 : Ref sig .tc := ⟨.hbm, 140, rfl⟩
abbrev main_v77 : Ref sig .tc := ⟨.hbm, 141, rfl⟩
abbrev main_cst_30 : Ref sig .tc := ⟨.hbm, 142, rfl⟩
abbrev main_v78 : Ref sig .tc := ⟨.hbm, 143, rfl⟩
abbrev main_v79 : Ref sig .tc := ⟨.hbm, 144, rfl⟩
abbrev main_cst_31 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_cst_32 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_cst_33 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_cst_34 : Ref sig .tc := ⟨.hbm, 157, rfl⟩
abbrev main_v89 : Ref sig .tc := ⟨.hbm, 158, rfl⟩
abbrev main_v90 : Ref sig .tc := ⟨.hbm, 159, rfl⟩
abbrev main_cst_35 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_cst_36 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_37 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_cst_38 : Ref sig .tc := ⟨.hbm, 172, rfl⟩
abbrev main_v100 : Ref sig .tc := ⟨.hbm, 173, rfl⟩
abbrev main_v101 : Ref sig .tc := ⟨.hbm, 174, rfl⟩
abbrev main_cst_39 : Ref sig .tc := ⟨.hbm, 175, rfl⟩
abbrev main_v102 : Ref sig .tc := ⟨.hbm, 176, rfl⟩
abbrev main_v103 : Ref sig .tc := ⟨.hbm, 177, rfl⟩
abbrev main_cst_40 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_cst_41 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_cst_42 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_cst_43 : Ref sig .tc := ⟨.hbm, 190, rfl⟩
abbrev main_v113 : Ref sig .tc := ⟨.hbm, 191, rfl⟩
abbrev main_v114 : Ref sig .tc := ⟨.hbm, 192, rfl⟩
abbrev main_cst_44 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_cst_45 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_cst_46 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_cst_47 : Ref sig .tc := ⟨.hbm, 205, rfl⟩
abbrev main_v124 : Ref sig .tc := ⟨.hbm, 206, rfl⟩
abbrev main_v125 : Ref sig .tc := ⟨.hbm, 207, rfl⟩
abbrev main_cst_48 : Ref sig .tc := ⟨.hbm, 208, rfl⟩
abbrev main_v126 : Ref sig .tc := ⟨.hbm, 209, rfl⟩
abbrev main_v127 : Ref sig .tc := ⟨.hbm, 210, rfl⟩
abbrev main_cst_49 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_cst_50 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_cst_51 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_cst_52 : Ref sig .tc := ⟨.hbm, 223, rfl⟩
abbrev main_v137 : Ref sig .tc := ⟨.hbm, 224, rfl⟩
abbrev main_v138 : Ref sig .tc := ⟨.hbm, 225, rfl⟩
abbrev main_cst_53 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_cst_54 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_cst_55 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_cst_56 : Ref sig .tc := ⟨.hbm, 238, rfl⟩
abbrev main_v148 : Ref sig .tc := ⟨.hbm, 239, rfl⟩
abbrev main_v149 : Ref sig .tc := ⟨.hbm, 240, rfl⟩
abbrev main_cst_57 : Ref sig .tc := ⟨.hbm, 241, rfl⟩
abbrev main_v150 : Ref sig .tc := ⟨.hbm, 242, rfl⟩
abbrev main_v151 : Ref sig .tc := ⟨.hbm, 243, rfl⟩
abbrev main_cst_58 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_cst_59 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_cst_60 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_cst_61 : Ref sig .tc := ⟨.hbm, 256, rfl⟩
abbrev main_v161 : Ref sig .tc := ⟨.hbm, 257, rfl⟩
abbrev main_v162 : Ref sig .tc := ⟨.hbm, 258, rfl⟩
abbrev main_cst_62 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_cst_63 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_cst_64 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_cst_65 : Ref sig .tc := ⟨.hbm, 271, rfl⟩
abbrev main_v172 : Ref sig .tc := ⟨.hbm, 272, rfl⟩
abbrev main_v173 : Ref sig .tc := ⟨.hbm, 273, rfl⟩
abbrev main_cst_66 : Ref sig .tc := ⟨.hbm, 274, rfl⟩
abbrev main_v174 : Ref sig .tc := ⟨.hbm, 275, rfl⟩
abbrev main_v175 : Ref sig .tc := ⟨.hbm, 276, rfl⟩
abbrev main_cst_67 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_cst_68 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_cst_69 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_cst_70 : Ref sig .tc := ⟨.hbm, 289, rfl⟩
abbrev main_v185 : Ref sig .tc := ⟨.hbm, 290, rfl⟩
abbrev main_v186 : Ref sig .tc := ⟨.hbm, 291, rfl⟩
abbrev main_cst_71 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_cst_72 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_cst_73 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_cst_74 : Ref sig .tc := ⟨.hbm, 304, rfl⟩
abbrev main_v196 : Ref sig .tc := ⟨.hbm, 305, rfl⟩
abbrev main_v197 : Ref sig .tc := ⟨.hbm, 306, rfl⟩
abbrev main_v198 : Ref sig .tc := ⟨.hbm, 307, rfl⟩
abbrev main_v199 : Ref sig .tc := ⟨.hbm, 308, rfl⟩
abbrev main_v200 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩

abbrev nD : Nat := 1
abbrev τ : Topo := Topo.v7x

variable {F : FTy → Type} [FloatOps F]
-- ==== Proof.GmlpReal.lean ====
module

public import Idealize.ShloMosaic.Lib.Pointwise

/-!
  The gradient of the chunked, gated MLP over the real numbers, written once and read off both programs. A token is the
  pair of its chunk `c` (128 tokens each) and its place `r` in the chunk; a column of one of the three parts of the
  projection is the pair of a head `h` (64 columns each) and its place `k` in the head.
-/

@[expose] public section

noncomputable section

open Idealize.ShloMosaic

namespace Proof.Gmlp

/-- The constant that the normalisation adds to the mean square. -/
def eps : ℝ := 8796093 * (2 : ℝ) ^ (-43 : ℤ)

theorem eps_pos : 0 < eps := by unfold eps; positivity

/-- The 32-bit word of the two programs stands for this real. -/
theorem ofBits_eps : Ideal.ofBits .f32 0x358637BD#32 = ((eps : ℝ) : EReal) := by
  simp [Ideal.ofBits, Ideal.ieee, -EReal.coe_mul, eps]

/-- The 32-bit word of 1/64. -/
theorem ofBits_64th : Ideal.ofBits .f32 0x3C800000#32 = ((1 / 64 : ℝ) : EReal) := by
  simp [Ideal.ofBits, Ideal.ieee, -EReal.coe_mul]; norm_num

/-- The 32-bit word of 64. -/
theorem ofBits_64 : Ideal.ofBits .f32 0x42800000#32 = ((64 : ℝ) : EReal) := by
  simp [Ideal.ofBits, Ideal.ieee, -EReal.coe_mul]; norm_num

/-- A finite sum of reals is a real. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The five inputs: the projection `P` and the gradient `D` of the block's output by row and column, the gain `g` by
    head and column, the chunk weights `W` by head, row and column, and the bias `B` by head and row. -/
structure Data where
  P : ℕ → ℕ → ℝ
  D : ℕ → ℕ → ℝ
  g : ℕ → ℕ → ℝ
  W : ℕ → ℕ → ℕ → ℝ
  B : ℕ → ℕ → ℝ

namespace Data
variable (d : Data) (c r h k : ℕ)

/-- The gated half `u`, the values `v`, the gate `t`, and the gradient `y` of the block's output. -/
def u : ℝ := d.P (128 * c + r) (64 * h + k)
def v : ℝ := d.P (128 * c + r) (256 + 64 * h + k)
def t : ℝ := d.P (128 * c + r) (512 + 64 * h + k)
def y : ℝ := d.D (128 * c + r) (64 * h + k)

/-- The mean square of a head's values plus the constant. -/
def ms : ℝ := (∑ k : Fin 64, d.v c r h k * d.v c r h k) * (1 / 64) + eps
/-- The reciprocal root mean square. -/
def rr : ℝ := (Real.sqrt (d.ms c r h))⁻¹
/-- The normalised values, without and with the gain. -/
def z : ℝ := d.v c r h k * d.rr c r h
def vn : ℝ := d.z c r h k * d.g h k
/-- The causal half of the weights. -/
def M (h r s : ℕ) : ℝ := if s ≤ r then d.W h r s else 0
/-- The mixed values plus the bias. -/
def sp : ℝ := ∑ s : Fin 128, d.M h r s * d.vn c s h k + d.B h r
/-- The logistic of the gate, and the gate times it. -/
def sg : ℝ := (1 + Real.exp (-d.t c r h k))⁻¹
def sl : ℝ := d.t c r h k * d.sg c r h k
/-- The gradients of `u` and of the gate. -/
def gu : ℝ := d.y c r h k * d.sp c r h k * d.sl c r h k
def gt : ℝ := d.y c r h k * d.u c r h k * d.sp c r h k * (d.sg c r h k * (1 + d.t c r h k * (1 - d.sg c r h k)))
/-- The gradient of the mixed values, and through the weights that of the normalised values. -/
def dsp : ℝ := d.y c r h k * d.u c r h k * d.sl c r h k
def dvn : ℝ := ∑ s : Fin 128, d.M h s r * d.dsp c s h k
/-- The gradient of the values. -/
def dz : ℝ := d.dvn c r h k * d.g h k
def gv : ℝ := d.rr c r h * (d.dz c r h k - d.z c r h k * ((∑ k : Fin 64, d.dz c r h k * d.z c r h k) * (1 / 64)))
/-- One chunk's part of the gradients of the weights, the bias and the gain. -/
def gWc (c h r s : ℕ) : ℝ := ∑ k : Fin 64, d.dsp c r h k * d.vn c s h k
def gBc : ℝ := ∑ k : Fin 64, d.dsp c r h k
def gGc : ℝ := ∑ r : Fin 128, d.dvn c r h k * d.z c r h k

/-- The gradient of the projection by row and column: the columns of `u`, of `v`, and of the gate. -/
def gP (R C : ℕ) : ℝ :=
  if C < 256 then d.gu (R / 128) (R % 128) (C / 64) (C % 64)
  else if C < 512 then d.gv (R / 128) (R % 128) (C / 64 - 4) (C % 64)
  else d.gt (R / 128) (R % 128) (C / 64 - 8) (C % 64)

theorem ms_pos : 0 < d.ms c r h := by
  unfold ms
  have := eps_pos
  have : 0 ≤ ∑ k : Fin 64, d.v c r h k * d.v c r h k := Finset.sum_nonneg fun _ _ => mul_self_nonneg _
  positivity

/-- The reciprocal square root of the mean square, at the ideal values. -/
theorem rsqrt_ms : Ideal.rsqrt ((d.ms c r h : ℝ) : EReal) = ((d.rr c r h : ℝ) : EReal) := by
  have := d.ms_pos c r h
  rw [Ideal.rsqrt_coe, if_neg (by linarith), if_neg (by linarith)]; rfl

theorem rr_sq : d.rr c r h * d.rr c r h = (d.ms c r h)⁻¹ := by
  unfold rr
  rw [← mul_inv, Real.mul_self_sqrt (d.ms_pos c r h).le]

/-- The logistic function, at the ideal values. -/
theorem logistic (x : ℝ) : Ideal.div 1 (((1 + Real.exp (-x) : ℝ) : ℝ) : EReal) = (((1 + Real.exp (-x))⁻¹ : ℝ) : EReal) := by
  have : 0 < 1 + Real.exp (-x) := by positivity
  rw [Ideal.div_coe this.ne', one_mul, one_div]

end Data
end Proof.Gmlp
-- ==== Proof.GmlpTile.lean ====
module

public import proofs.«01_k».proof.Proof.Gen.KernelIdeal.Skeleton
public import proofs.«01_k».proof.Proof.GmlpReal

/-!
  One 128 × 128 tile of the gated MLP's gradient, at real values. The kernel works tile by tile: the 128 tokens of one
  chunk, and the 128 columns of one pair of heads. Each lemma reads one of the kernel's tile computations at finite
  inputs as the matching real expression.
-/

@[expose] public section

noncomputable section

open Idealize.ShloMosaic Idealize.ShloMosaic.TcCoe

namespace Proof.Gmlp

open Cert.KernelIdeal Cert.KernelIdeal.Gen

/-- The tile of chunk `c` and of the pair `p` of heads holds the numbers `X` by chunk, row, head and column. -/
abbrev Tile {φ : FTy} (v : FVec Ideal S128x128 φ) (X : ℕ → ℕ → ℕ → ℕ → ℝ) (c p : ℕ) : Prop :=
  ∀ (r l : Fin 128), v (ix2 r l) = ((X c r (2 * p + l / 64) (l % 64) : ℝ) : EReal)

/-- A sum over 128 lanes that keeps one half is the sum over the 64 lanes of that half. -/
theorem sum_half (f : ℕ → ℝ) (h : ℕ) (hh : h < 2) :
    ∑ k : Fin 128, (if (k : ℕ) / 64 = h then f k else 0) = ∑ k : Fin 64, f (64 * h + k) := by
  have e := Fin.sum_univ_add (M := ℝ) (a := 64) (b := 64) fun k => if (k : ℕ) / 64 = h then f k else 0
  refine e.trans ?_
  simp only [Fin.val_castAdd, Fin.val_natAdd]
  obtain rfl | rfl : h = 0 ∨ h = 1 := by omega
  · have a : ∀ k : Fin 64, (k : ℕ) / 64 = 0 := fun k => by omega
    have b : ∀ k : Fin 64, ¬ (64 + (k : ℕ)) / 64 = 0 := fun k => by omega
    simp only [a, b, if_true, if_false, Finset.sum_const_zero, add_zero, Nat.mul_zero, Nat.zero_add]
  · have a : ∀ k : Fin 64, ¬ (k : ℕ) / 64 = 1 := fun k => by omega
    have b : ∀ k : Fin 64, (64 + (k : ℕ)) / 64 = 1 := fun k => by omega
    simp only [a, b, if_true, if_false, Finset.sum_const_zero, zero_add, Nat.mul_one]

/-- The same for numbers given by head and column. -/
theorem sum_head (X : ℕ → ℕ → ℝ) (p h : ℕ) (hh : h < 2) :
    ∑ k : Fin 128, (if (k : ℕ) / 64 = h then X (2 * p + k / 64) (k % 64) else 0) = ∑ k : Fin 64, X (2 * p + h) k := by
  rw [sum_half (fun k => X (2 * p + k / 64) (k % 64)) h hh]
  refine Finset.sum_congr rfl fun k _ => ?_
  rw [show (64 * h + (k : ℕ)) / 64 = h by omega, show (64 * h + (k : ℕ)) % 64 = k by omega]

/-- The number one or zero chosen by a decided bit. -/
theorem select_bit (p : Prop) [Decidable p] :
    Scalar.select (if p then 1#1 else 0#1) (1 : EReal) 0 = (((if p then 1 else 0 : ℝ) : ℝ) : EReal) := by
  split <;> simp [Scalar.select]

/-- The 0/1 matrix of the pairs of lanes that lie in one head. -/
theorem bd_apply (k l : Fin 128) :
    (k0_pay6 (F := Ideal) (ix2 k l)) = (((if (k : ℕ) / 64 = (l : ℕ) / 64 then 1 else 0 : ℝ) : ℝ) : EReal) := by
  pointwise [k0_pay6]
  have e : IntOp.cmpi CmpIPredicate.eq (IntOp.shrui ArithUnit.vector (BitVec.ofNat 32 k) 6#32)
      (IntOp.shrui ArithUnit.vector (BitVec.ofNat 32 l) 6#32) = if (k : ℕ) / 64 = (l : ℕ) / 64 then 1#1 else 0#1 := by
    revert k l; decide +kernel
  rw [e]
  split <;> simp [Scalar.select]

/-- The lanes of the first head of a pair. -/
theorem lo_apply (k l : Fin 128) : k0_pay7 (ix2 k l) = if (l : ℕ) / 64 = 0 then 1#1 else 0#1 := by
  pointwise [k0_pay7]
  revert l; decide +kernel

/-- The causal half of a 128 × 128 matrix. -/
theorem tri_apply (k l : Fin 128) : k0_pay8 (ix2 k l) = if (l : ℕ) ≤ k then 1#1 else 0#1 := by
  pointwise [k0_pay8]
  revert k l; decide +kernel

/-- A select by a decided bit. -/
theorem select_ite {α : Type} (p : Prop) [Decidable p] (a b : α) :
    Scalar.select (if p then 1#1 else 0#1) a b = if p then a else b := by
  split <;> simp [Scalar.select]

theorem coe_ite (p : Prop) [Decidable p] (a b : ℝ) : (if p then (a : EReal) else (b : EReal)) = ((if p then a else b : ℝ) : EReal) := by
  split <;> rfl

/-- A weight matrix of which the upper half is cleared. -/
theorem w_apply (d : Data) (h : ℕ) (w : Vec Ideal S1x128x128 .f32) (hw : ∀ r s : Fin 128, w (ix3 0 r s) = ((d.W h r s : ℝ) : EReal))
    (r s : Fin 128) : (k0_pay9 (F := Ideal) w) (ix2 r s) = ((d.M h r s : ℝ) : EReal) := by
  pointwise [k0_pay9]
  rw [tri_apply, select_ite, hw, ← EReal.coe_zero, coe_ite]; rfl

variable (d : Data) (c p : ℕ)

/-- The row sums within a head, through the 0/1 matrix; the kernel adds the product's rounding error, which is nothing here. -/
theorem headsum (x : ℕ → ℕ → ℕ → ℕ → ℝ) (r l : Fin 128) :
    ∑ k : Fin 128, ((x c r (2 * p + k / 64) (k % 64) : ℝ) : EReal) * (((if (k : ℕ) / 64 = (l : ℕ) / 64 then 1 else 0 : ℝ) : ℝ) : EReal)
      = ((∑ k : Fin 64, x c r (2 * p + l / 64) k : ℝ) : EReal) := by
  simp only [← EReal.coe_mul, coe_sum, mul_ite, mul_one, mul_zero]
  rw [sum_head (fun h k => x c r h k) p (l / 64) (by omega)]

theorem headsum_err (x : ℕ → ℕ → ℕ → ℕ → ℝ) (r l : Fin 128) :
    ∑ k : Fin 128, (((x c r (2 * p + k / 64) (k % 64) : ℝ) : EReal) - ((x c r (2 * p + k / 64) (k % 64) : ℝ) : EReal))
        * (((if (k : ℕ) / 64 = (l : ℕ) / 64 then 1 else 0 : ℝ) : ℝ) : EReal) = 0 := by
  simp only [← EReal.coe_sub, sub_self, ← EReal.coe_mul, coe_sum, zero_mul, Finset.sum_const_zero, EReal.coe_zero]

section Forward
variable {v : Vec Ideal S128x128 .f32} {g : Vec Ideal S1x128 .f32} {b u t y : Vec Ideal S128x128 .f32}
  {wa wb : FVec Ideal S128x128 .bf16}

/-- The reciprocal root mean square of each head's values. -/
theorem r_tile (hv : Tile (φ := .f32) v d.v c p) :
    Tile (k0_pay18 (F := Ideal) k0_pay6 v) (fun c r h _ => d.rr c r h) c p := by
  intro r l
  pointwise [k0_pay18]
  simp only [hv _ _, bd_apply]
  simp only [← EReal.coe_mul (d.v _ _ _ _)]
  rw [headsum c p (fun c r h k => d.v c r h k * d.v c r h k), headsum_err c p (fun c r h k => d.v c r h k * d.v c r h k), add_zero,
    ofBits_64th, ofBits_eps, ← EReal.coe_mul, ← EReal.coe_add]
  exact d.rsqrt_ms c r _

/-- The normalised values. -/
theorem z_tile {r : FVec Ideal S128x128 .f32} (hv : Tile (φ := .f32) v d.v c p) (hr : Tile r (fun c r h _ => d.rr c r h) c p) :
    Tile (k0_pay48 (F := Ideal) v r) d.z c p := by
  intro a l
  pointwise [k0_pay48]
  rw [hv, hr, ← EReal.coe_mul]; rfl

/-- The normalised values times the gain. -/
theorem vn_tile {r : FVec Ideal S128x128 .f32} (hv : Tile (φ := .f32) v d.v c p) (hr : Tile r (fun c r h _ => d.rr c r h) c p)
    (hg : ∀ l : Fin 128, g (ix2 0 l) = ((d.g (2 * p + l / 64) (l % 64) : ℝ) : EReal)) :
    Tile (k0_pay64 (F := Ideal) v r g) d.vn c p := by
  intro a l
  pointwise [k0_pay64]
  rw [z_tile d c p hv hr, hg, ← EReal.coe_mul]; rfl

/-- The mixed values plus the bias. -/
theorem sp_tile {x : FVec Ideal S128x128 .bf16} (hx : Tile x d.vn c p)
    (ha : ∀ r s : Fin 128, wa (ix2 r s) = ((d.M (2 * p) r s : ℝ) : EReal))
    (hb : ∀ r s : Fin 128, wb (ix2 r s) = ((d.M (2 * p + 1) r s : ℝ) : EReal))
    (hB : Tile (φ := .f32) b (fun _ r h _ => d.B h r) c p) :
    Tile (k0_pay81 (F := Ideal) k0_pay7 wa wb x b) d.sp c p := by
  intro r l
  pointwise [k0_pay81]
  simp only [hx _ _, ha _ _, hb _ _, hB _ _, lo_apply, select_ite, ← EReal.coe_mul, coe_sum, coe_ite, ← EReal.coe_add]
  congr 2
  split
  · next h => simp only [h]; rfl
  · next h => simp only [show (l : ℕ) / 64 = 1 by omega]

/-- The logistic of the gate. -/
theorem sg_tile (ht : Tile (φ := .f32) t d.t c p) : Tile (k0_pay99 (F := Ideal) t) d.sg c p := by
  intro r l
  pointwise [k0_pay99]
  rw [ht, zero_sub, ← EReal.coe_neg, Ideal.exp_coe, ← EReal.coe_one, ← EReal.coe_add, EReal.coe_one]
  exact Data.logistic _

theorem sl_tile (ht : Tile (φ := .f32) t d.t c p) : Tile (k0_pay100 (F := Ideal) t) d.sl c p := by
  intro r l
  pointwise [k0_pay100]
  rw [ht, sg_tile d c p ht, ← EReal.coe_mul]; rfl

/-- The gradient of the gated half. -/
theorem gu_tile {s : FVec Ideal S128x128 .f32} (hs : Tile s d.sp c p) (ht : Tile (φ := .f32) t d.t c p) (hy : Tile (φ := .f32) y d.y c p) :
    Tile (k0_pay101 (F := Ideal) s t y) d.gu c p := by
  intro r l
  pointwise [k0_pay101]
  rw [hs, hy, sl_tile d c p ht, ← EReal.coe_mul, ← EReal.coe_mul]; rfl

/-- The gradient of the gate. -/
theorem gt_tile {s : FVec Ideal S128x128 .f32} (hs : Tile s d.sp c p) (hu : Tile (φ := .f32) u d.u c p)
    (ht : Tile (φ := .f32) t d.t c p) (hy : Tile (φ := .f32) y d.y c p) :
    Tile (k0_pay102 (F := Ideal) s u t y) d.gt c p := by
  intro r l
  pointwise [k0_pay102]
  rw [hs, hy, hu, ht, sg_tile d c p ht, ← EReal.coe_one]
  simp only [← EReal.coe_mul, ← EReal.coe_sub, ← EReal.coe_add]; rfl

/-- The gradient of the mixed values. -/
theorem dsp_tile (hu : Tile (φ := .f32) u d.u c p) (ht : Tile (φ := .f32) t d.t c p) (hy : Tile (φ := .f32) y d.y c p) :
    Tile (k0_pay103 (F := Ideal) u t y) d.dsp c p := by
  intro r l
  pointwise [k0_pay103]
  rw [hy, hu, sl_tile d c p ht]
  simp only [← EReal.coe_mul]; rfl

end Forward

section Backward
variable {x : FVec Ideal S128x128 .bf16} {e : FVec Ideal S128x128 .f32} {wa wb : FVec Ideal S128x128 .bf16}

/-- The gradient of the normalised values. -/
theorem dvn_tile (hx : Tile x d.dsp c p)
    (ha : ∀ r s : Fin 128, wa (ix2 r s) = ((d.M (2 * p) r s : ℝ) : EReal))
    (hb : ∀ r s : Fin 128, wb (ix2 r s) = ((d.M (2 * p + 1) r s : ℝ) : EReal)) :
    Tile (k0_pay211 (F := Ideal) k0_pay7 wa wb x) d.dvn c p := by
  intro r l
  pointwise [k0_pay211]
  simp only [hx _ _, ha _ _, hb _ _, lo_apply, select_ite, ← EReal.coe_mul, coe_sum, coe_ite]
  congr 1
  split
  · next h => simp only [h]; rfl
  · next h => simp only [show (l : ℕ) / 64 = 1 by omega]; rfl

/-- One chunk's part of the weights' gradient, for the first head of the pair. -/
theorem gwLo_tile (hx : Tile x d.vn c p) (he : Tile e d.dsp c p) (r s : Fin 128) :
    (k0_pay230 (F := Ideal) k0_pay7 x e) (ix2 r s) = ((d.gWc c (2 * p) r s : ℝ) : EReal) := by
  pointwise [k0_pay230]
  simp only [hx _ _, he _ _, lo_apply, select_ite, ite_mul, zero_mul, ← EReal.coe_mul, ← EReal.coe_zero, coe_ite, coe_sum]
  rw [sum_head (fun h k => d.dsp c r h k * d.vn c s h k) p 0 (by omega)]; rfl

/-- The same for the second head. -/
theorem gwHi_tile (hx : Tile x d.vn c p) (he : Tile e d.dsp c p) (r s : Fin 128) :
    (k0_pay231 (F := Ideal) k0_pay7 x e) (ix2 r s) = ((d.gWc c (2 * p + 1) r s : ℝ) : EReal) := by
  pointwise [k0_pay231]
  have hl : ∀ l : Fin 128, ¬ (l : ℕ) / 64 = 0 ↔ (l : ℕ) / 64 = 1 := fun l => by omega
  simp only [hx _ _, he _ _, lo_apply, select_ite, ite_mul, zero_mul, ← EReal.coe_mul, ← EReal.coe_zero, coe_ite, coe_sum]
  refine congrArg _ (Eq.trans ?_ (sum_head (fun h k => d.dsp c r h k * d.vn c s h k) p 1 (by omega)))
  refine Finset.sum_congr rfl fun l _ => ?_
  by_cases h : (l : ℕ) / 64 = 0
  · rw [if_pos h, if_neg (by omega)]
  · rw [if_neg h, if_pos ((hl l).1 h)]

/-- The gradient of the values. -/
theorem gv_tile {r z : FVec Ideal S128x128 .f32} {g : Vec Ideal S1x128 .f32} (he : Tile e d.dvn c p)
    (hr : Tile r (fun c r h _ => d.rr c r h) c p) (hz : Tile z d.z c p)
    (hg : ∀ l : Fin 128, g (ix2 0 l) = ((d.g (2 * p + l / 64) (l % 64) : ℝ) : EReal)) :
    Tile (k0_pay298 (F := Ideal) k0_pay6 r z e g) d.gv c p := by
  intro a l
  pointwise [k0_pay298]
  simp only [he _ _, hr _ _, hz _ _, hg _, bd_apply, ← EReal.coe_mul (d.dvn _ _ _ _)]
  simp only [← EReal.coe_mul (d.dvn _ _ _ _ * _)]
  rw [headsum c p (fun c r h k => d.dvn c r h k * d.g h k * d.z c r h k),
    headsum_err c p (fun c r h k => d.dvn c r h k * d.g h k * d.z c r h k), add_zero, ofBits_64th]
  simp only [← EReal.coe_mul, ← EReal.coe_sub]; rfl

/-- One chunk's part of the gain's gradient, lane by lane. -/
theorem gg_tile {z : FVec Ideal S128x128 .f32} (he : Tile e d.dvn c p) (hz : Tile z d.z c p) (l : Fin 128) :
    ∑ r : Fin 128, (e (ix2 r l) * z (ix2 r l)) = ((d.gGc c (2 * p + l / 64) (l % 64) : ℝ) : EReal) := by
  simp only [he _ _, hz _ _, ← EReal.coe_mul, coe_sum]; rfl

/-- The 0/1 matrix whose row `q` marks the lanes of head `q`, for the first pair of heads and for the second. -/
theorem rows0_apply (q : Fin 16) (l : Fin 128) :
    k0_pay13 (F := Ideal) (iota .tc S16x128 32 [0] iota_S16x128_d0_w32) (ix2 q l)
      = (((if (q : ℕ) = 2 * 0 + l / 64 then 1 else 0 : ℝ) : ℝ) : EReal) := by
  pointwise [k0_pay13]
  have e : IntOp.ori
        (IntOp.andi (IntOp.cmpi CmpIPredicate.eq (BitVec.ofNat 32 q) 0#32)
          (IntOp.cmpi CmpIPredicate.slt (BitVec.ofNat 32 l) 64#32))
        (IntOp.andi (IntOp.cmpi CmpIPredicate.eq (BitVec.ofNat 32 q) 1#32)
          (IntOp.cmpi CmpIPredicate.sge (BitVec.ofNat 32 l) 64#32)) = if (q : ℕ) = 2 * 0 + l / 64 then 1#1 else 0#1 := by
    revert q l; decide +kernel
  rw [e]
  refine (select_bit ((q : ℕ) = 2 * 0 + l / 64)).trans ?_
  simp only [Nat.mul_zero, Nat.zero_add]

theorem rows1_apply (q : Fin 16) (l : Fin 128) :
    k0_pay14 (F := Ideal) (iota .tc S16x128 32 [0] iota_S16x128_d0_w32) (ix2 q l)
      = (((if (q : ℕ) = 2 * 1 + l / 64 then 1 else 0 : ℝ) : ℝ) : EReal) := by
  pointwise [k0_pay14]
  have e : IntOp.ori
        (IntOp.andi (IntOp.cmpi CmpIPredicate.eq (BitVec.ofNat 32 q) 2#32)
          (IntOp.cmpi CmpIPredicate.slt (BitVec.ofNat 32 l) 64#32))
        (IntOp.andi (IntOp.cmpi CmpIPredicate.eq (BitVec.ofNat 32 q) 3#32)
          (IntOp.cmpi CmpIPredicate.sge (BitVec.ofNat 32 l) 64#32)) = if (q : ℕ) = 2 * 1 + l / 64 then 1#1 else 0#1 := by
    revert q l; decide +kernel
  rw [e]
  exact select_bit ((q : ℕ) = 2 * 1 + l / 64)

/-- One chunk's part of the bias's gradient: row `q` is that of head `q` where `q` is in the pair, and zero elsewhere. -/
theorem gb_tile {hr : FVec Ideal S16x128 .bf16} (hx : Tile x d.dsp c p) (he : Tile e d.dsp c p)
    (hhr : ∀ (q : Fin 16) (l : Fin 128), hr (ix2 q l) = (((if (q : ℕ) = 2 * p + l / 64 then 1 else 0 : ℝ) : ℝ) : EReal))
    (q : Fin 8) (r : Fin 128) :
    k0_pay263 (F := Ideal) hr e x (ix2 q r) = ((if (q : ℕ) / 2 = p then d.gBc c r q else 0 : ℝ) : EReal) := by
  pointwise [k0_pay263]
  simp only [hx _ _, he _ _, hhr _ _, ← EReal.coe_sub, sub_self, ← EReal.coe_mul, mul_zero, coe_sum, Finset.sum_const_zero,
    ← EReal.coe_add, add_zero, ite_mul, one_mul, zero_mul]
  refine congrArg _ ?_
  by_cases h : (q : ℕ) / 2 = p
  · rw [if_pos h, show (q : ℕ) = 2 * p + q % 2 by omega]
    refine Eq.trans (Finset.sum_congr rfl fun l _ => if_congr ?_ rfl rfl) (sum_head (fun h k => d.dsp c r h k) p (q % 2) (by omega))
    omega
  · rw [if_neg h]
    exact Finset.sum_eq_zero fun l _ => if_neg (by omega)

end Backward
end Proof.Gmlp
-- ==== Proof.GmlpUnit.lean ====
module

public import proofs.«01_k».proof.Proof.Gen.KernelIdeal.Value
public import Idealize.ShloMosaic.Lib.Pipeline.ReadBack

/-!
  What one grid point of the gated MLP's gradient leaves in its four output blocks, with the sixteen unrolled units (chunk
  `n` of eight, pair `p` of two heads) written as one unit: the block of the projection's gradient is 48 tiles, three for
  each unit, and the three accumulators take the sum of the units.
-/

@[expose] public section

noncomputable section

open Idealize.ShloMosaic Idealize.ShloMosaic.TcCoe Idealize.SL.Sem
open Idealize.ShloMosaic.Pipeline (Dat)

namespace Proof.Gmlp

open Cert.KernelIdeal Cert.KernelIdeal.Gen

variable {F : FTy → Type} [FloatOps F]

/-- The five input blocks of one grid point. -/
structure Ins (F : FTy → Type) [FloatOps F] where
  x0 : Vec F S1024x768 .f32
  x1 : Vec F S1024x256 .f32
  x2 : Vec F S1x256 .f32
  x3 : Vec F S4x128x128 .f32
  x4 : Vec F S128x256 .f32

theorem inb2 {m n a b k l : ℕ} (h1 : a + k ≤ m) (h2 : b + l ≤ n) :
    ∀ i : Fin 2, (![a, b] : Fin 2 → ℕ) i + (![k, l] : Fin 2 → ℕ) i ≤ (![m, n] : Fin 2 → ℕ) i := by
  intro i; match i with | 0 => exact h1 | 1 => exact h2

theorem inb3 {a : ℕ} (h : a < 4) :
    ∀ i : Fin 3, (![a, 0, 0] : Fin 3 → ℕ) i + (![1, 128, 128] : Fin 3 → ℕ) i ≤ (![4, 128, 128] : Fin 3 → ℕ) i := by
  intro i; match i with | 0 => exact (by show a + 1 ≤ 4; omega) | 1 => exact le_refl 128 | 2 => exact le_refl 128

/-- The tile of the projection's block at chunk `n`, part `q` and pair `p`, and that of the incoming gradient's. -/
abbrev rP (n q p : ℕ) (h : n < 8 ∧ q < 3 ∧ p < 2) : Rect S1024x768 :=
  Rect.unit ![128 * n, 256 * q + 128 * p] ![128, 128] (inb2 (by omega) (by omega))
abbrev rD (n p : ℕ) (h : n < 8 ∧ p < 2) : Rect S1024x256 :=
  Rect.unit ![128 * n, 128 * p] ![128, 128] (inb2 (by omega) (by omega))
abbrev rG (p : ℕ) (h : p < 2) : Rect S1x256 := Rect.unit ![0, 128 * p] ![1, 128] (inb2 (by omega) (by omega))
abbrev rB (p : ℕ) (h : p < 2) : Rect S128x256 := Rect.unit ![0, 128 * p] ![128, 128] (inb2 (by omega) (by omega))
abbrev rW (a : ℕ) (h : a < 4) : Rect S4x128x128 := Rect.unit ![a, 0, 0] ![1, 128, 128] (inb3 h)

section Unit
variable (I : Ins F) (n p : ℕ) (h : n < 8 ∧ p < 2)

/-- One unit's inputs: the gated half, the values, the gate, the gradient, the gain, the bias, the two weight matrices. -/
def uT : Vec F S128x128 .f32 := View.ld I.x0 (rP n 0 p ⟨h.1, by decide, h.2⟩)
def vT : Vec F S128x128 .f32 := View.ld I.x0 (rP n 1 p ⟨h.1, by decide, h.2⟩)
def tT : Vec F S128x128 .f32 := View.ld I.x0 (rP n 2 p ⟨h.1, by decide, h.2⟩)
def yT : Vec F S128x128 .f32 := View.ld I.x1 (rD n p h)
def gT : Vec F S1x128 .f32 := View.ld I.x2 (rG p h.2)
def bT : Vec F S128x128 .f32 := View.ld I.x4 (rB p h.2)
def waT : FVec F S128x128 .bf16 := k0_pay9 (View.ld I.x3 (rW (2 * p) (by omega)))
def wbT : FVec F S128x128 .bf16 := k0_pay9 (View.ld I.x3 (rW (2 * p + 1) (by omega)))
/-- Its intermediate tiles: the reciprocal root mean squares, the normalised values without and with the gain, the mixed
    values, their gradient and that of the normalised values. -/
def rT : FVec F S128x128 .f32 := k0_pay18 k0_pay6 (vT I n p h)
def zT : FVec F S128x128 .f32 := k0_pay48 (vT I n p h) (rT I n p h)
def vnT : FVec F S128x128 .bf16 := k0_pay64 (vT I n p h) (rT I n p h) (gT I n p h)
def spT : FVec F S128x128 .f32 := k0_pay81 k0_pay7 (waT I n p h) (wbT I n p h) (vnT I n p h) (bT I n p h)
def dspT : FVec F S128x128 .f32 := k0_pay103 (uT I n p h) (tT I n p h) (yT I n p h)
def dspbT : FVec F S128x128 .bf16 := truncf .bf16 (dspT I n p h) bitsLt_bf16_f32
def dvnT : FVec F S128x128 .f32 := k0_pay211 k0_pay7 (waT I n p h) (wbT I n p h) (dspbT I n p h)
/-- Its results: the three tiles of the projection's gradient, and its parts of the gradients of the two weight
    matrices, the bias and the gain. -/
def guT : FVec F S128x128 .bf16 := k0_pay101 (spT I n p h) (tT I n p h) (yT I n p h)
def gtT : FVec F S128x128 .bf16 := k0_pay102 (spT I n p h) (uT I n p h) (tT I n p h) (yT I n p h)
def gvT : FVec F S128x128 .bf16 := k0_pay298 k0_pay6 (rT I n p h) (zT I n p h) (dvnT I n p h) (gT I n p h)
def gwLoT : FVec F S128x128 .f32 := k0_pay230 k0_pay7 (vnT I n p h) (dspT I n p h)
def gwHiT : FVec F S128x128 .f32 := k0_pay231 k0_pay7 (vnT I n p h) (dspT I n p h)
def gbT (hr : FVec F S16x128 .bf16) : FVec F S8x128 .f32 := k0_pay263 hr (dspT I n p h) (dspbT I n p h)
def ggT : FVec F S1x128 .f32 := k0_pay285 (zT I n p h) (dvnT I n p h)

/-- A store of a 128 × 128 tile in the block of the projection's gradient, at each of the three parts. -/
def pu : View.Piece (Elt F) S1024x768 .bf16 := ⟨rP n 0 p ⟨h.1, by decide, h.2⟩, guT I n p h⟩
def pv : View.Piece (Elt F) S1024x768 .bf16 := ⟨rP n 1 p ⟨h.1, by decide, h.2⟩, gvT I n p h⟩
def pt : View.Piece (Elt F) S1024x768 .bf16 := ⟨rP n 2 p ⟨h.1, by decide, h.2⟩, gtT I n p h⟩

end Unit

variable (I : Ins F)

/-- The 48 stores of one grid point in the block of the projection's gradient, the last first. -/
def pieces5 : List (View.Piece (Elt F) S1024x768 .bf16) :=
  [pv I 7 1 (by decide), pv I 7 0 (by decide), pv I 6 1 (by decide), pv I 6 0 (by decide),
   pv I 5 1 (by decide), pv I 5 0 (by decide), pv I 4 1 (by decide), pv I 4 0 (by decide),
   pv I 3 1 (by decide), pv I 3 0 (by decide), pv I 2 1 (by decide), pv I 2 0 (by decide),
   pv I 1 1 (by decide), pv I 1 0 (by decide), pv I 0 1 (by decide), pv I 0 0 (by decide),
   pt I 7 1 (by decide), pu I 7 1 (by decide), pt I 7 0 (by decide), pu I 7 0 (by decide),
   pt I 6 1 (by decide), pu I 6 1 (by decide), pt I 6 0 (by decide), pu I 6 0 (by decide),
   pt I 5 1 (by decide), pu I 5 1 (by decide), pt I 5 0 (by decide), pu I 5 0 (by decide),
   pt I 4 1 (by decide), pu I 4 1 (by decide), pt I 4 0 (by decide), pu I 4 0 (by decide),
   pt I 3 1 (by decide), pu I 3 1 (by decide), pt I 3 0 (by decide), pu I 3 0 (by decide),
   pt I 2 1 (by decide), pu I 2 1 (by decide), pt I 2 0 (by decide), pu I 2 0 (by decide),
   pt I 1 1 (by decide), pu I 1 1 (by decide), pt I 1 0 (by decide), pu I 1 0 (by decide),
   pt I 0 1 (by decide), pu I 0 1 (by decide), pt I 0 0 (by decide), pu I 0 0 (by decide)]

/-- The sum of eight 128 × 128 tiles, and an accumulator's matrix plus it. -/
def sum8 {s : Shape} (f : (n : ℕ) → n < 8 → FVec F s .f32) : FVec F s .f32 :=
  addf (addf (addf (addf (addf (addf (addf (addf (broadcast s (Scalar.ofBits .f32 0x00000000#32)) (f 0 (by decide))) (f 1 (by decide))) (f 2 (by decide))) (f 3 (by decide))) (f 4 (by decide))) (f 5 (by decide))) (f 6 (by decide))) (f 7 (by decide))

def gwLoS (p : ℕ) (h : p < 2) (o : Vec F S1x128x128 .f32) : FVec F S1x128x128 .f32 :=
  shapeCast S1x128x128 (addf (shapeCast S128x128 o shapeCasts_S1x128x128_S128x128) (sum8 fun n hn => gwLoT I n p ⟨hn, h⟩))
    shapeCasts_S128x128_S1x128x128
def gwHiS (p : ℕ) (h : p < 2) (o : Vec F S1x128x128 .f32) : FVec F S1x128x128 .f32 :=
  shapeCast S1x128x128 (addf (shapeCast S128x128 o shapeCasts_S1x128x128_S128x128) (sum8 fun n hn => gwHiT I n p ⟨hn, h⟩))
    shapeCasts_S128x128_S1x128x128

/-- The four stores in the accumulator of the weights' gradient, over the four matrices it held. -/
def pieces6 (o : (a : ℕ) → a < 4 → Vec F S1x128x128 .f32) : List (View.Piece (Elt F) S4x128x128 .f32) :=
  [⟨rW 3 (by decide), gwHiS I 1 (by decide) (o 3 (by decide))⟩, ⟨rW 2 (by decide), gwLoS I 1 (by decide) (o 2 (by decide))⟩,
   ⟨rW 1 (by decide), gwHiS I 0 (by decide) (o 1 (by decide))⟩, ⟨rW 0 (by decide), gwLoS I 0 (by decide) (o 0 (by decide))⟩]

/-- The rows of head numbers that the two 0/1 matrices of the bias's gradient are made of. -/
def hr0 : FVec F S16x128 .bf16 := k0_pay13 (iota .tc S16x128 32 [0] iota_S16x128_d0_w32)
def hr1 : FVec F S16x128 .bf16 := k0_pay14 (iota .tc S16x128 32 [0] iota_S16x128_d0_w32)

/-- The accumulator of the bias's gradient plus the sixteen units. -/
def gbS (o : Vec F S8x128 .f32) : FVec F S8x128 .f32 :=
  addf (shapeCast S8x128 o shapeCasts_S8x128_S8x128) (addf (addf (addf (addf (addf (addf (addf (addf (addf (addf (addf (addf (addf (addf (addf (addf (broadcast S8x128 (Scalar.ofBits .f32 0x00000000#32)) (gbT I 0 0 (by decide) hr0)) (gbT I 0 1 (by decide) hr1)) (gbT I 1 0 (by decide) hr0)) (gbT I 1 1 (by decide) hr1)) (gbT I 2 0 (by decide) hr0)) (gbT I 2 1 (by decide) hr1)) (gbT I 3 0 (by decide) hr0)) (gbT I 3 1 (by decide) hr1)) (gbT I 4 0 (by decide) hr0)) (gbT I 4 1 (by decide) hr1)) (gbT I 5 0 (by decide) hr0)) (gbT I 5 1 (by decide) hr1)) (gbT I 6 0 (by decide) hr0)) (gbT I 6 1 (by decide) hr1)) (gbT I 7 0 (by decide) hr0)) (gbT I 7 1 (by decide) hr1))

/-- A row of the accumulator of the gain's gradient plus the sum of eight units, as it is and turned by half a tile. -/
def ggLoS (p : ℕ) (h : p < 2) (o : Vec F S1x128 .f32) : FVec F S1x128 .f32 :=
  addf (shapeCast S1x128 o shapeCasts_S1x128_S1x128) (sum8 fun n hn => ggT I n p ⟨hn, h⟩)
def ggHiS (p : ℕ) (h : p < 2) (o : Vec F S1x128 .f32) : FVec F S1x128 .f32 :=
  addf (shapeCast S1x128 o shapeCasts_S1x128_S1x128) (dynamicRotate 1 64#32 none (sum8 fun n hn => ggT I n p ⟨hn, h⟩) rotates_S1x128_d1)

abbrev rV (a : ℕ) (h : a < 4) : Rect S8x128 := Rect.unit ![a, 0] ![1, 128] (inb2 (by omega) (by omega))

/-- The four stores in the accumulator of the gain's gradient, over the four rows it held. -/
def pieces8 (o : (a : ℕ) → a < 4 → Vec F S1x128 .f32) : List (View.Piece (Elt F) S8x128 .f32) :=
  [⟨rV 3 (by decide), ggHiS I 1 (by decide) (o 3 (by decide))⟩, ⟨rV 2 (by decide), ggLoS I 1 (by decide) (o 2 (by decide))⟩,
   ⟨rV 1 (by decide), ggHiS I 0 (by decide) (o 1 (by decide))⟩, ⟨rV 0 (by decide), ggLoS I 0 (by decide) (o 0 (by decide))⟩]

section Cases
set_option maxRecDepth 65536
/-- The last point's four further stores, which clear the upper halves of the weights' gradient. -/
def piecesM (o : (a : ℕ) → a < 4 → Vec F S1x128x128 .f32) : List (View.Piece (Elt F) S4x128x128 .f32) :=
  [⟨rW 3 (by decide), k0_pay5 k0_pay8 (gwHiS I 1 (by decide) (o 3 (by decide)))⟩,
   ⟨rW 2 (by decide), k0_pay4 k0_pay8 (gwLoS I 1 (by decide) (o 2 (by decide)))⟩,
   ⟨rW 1 (by decide), k0_pay3 k0_pay8 (gwHiS I 0 (by decide) (o 1 (by decide)))⟩,
   ⟨rW 0 (by decide), k0_pay2 k0_pay8 (gwLoS I 0 (by decide) (o 0 (by decide)))⟩]

variable (c : Dev nD) (i : grid0.Coords) (a1 : Memref sig .tc .vmem S1024x768 .f32) (h1 : a1.IsWhole) (a2 : Memref sig .tc .vmem S1024x256 .f32) (h2 : a2.IsWhole) (a3 : Memref sig .tc .vmem S1x256 .f32) (h3 : a3.IsWhole) (a4 : Memref sig .tc .vmem S4x128x128 .f32) (h4 : a4.IsWhole) (a5 : Memref sig .tc .vmem S128x256 .f32) (h5 : a5.IsWhole) (a6 : Memref sig .tc .vmem S1024x768 .bf16) (h6 : a6.IsWhole) (a7 : Memref sig .tc .vmem S4x128x128 .f32) (h7 : a7.IsWhole) (a8 : Memref sig .tc .vmem S8x128 .f32) (h8 : a8.IsWhole) (a9 : Memref sig .tc .vmem S8x128 .f32) (h9 : a9.IsWhole)
  (x0 : Vec F S1024x768 .f32) (x1 : Vec F S1024x256 .f32) (x2 : Vec F S1x256 .f32) (x3 : Vec F S4x128x128 .f32) (x4 : Vec F S128x256 .f32)
  (o6 : Vec F S4x128x128 .f32) (o7 : Vec F S8x128 .f32) (o8 : Vec F S8x128 .f32)

/-- The block of the projection's gradient at a first point is the 48 tiles. -/
theorem out5_A (hc0 : cond0_0 i) (hc1 : ¬cond0_1 i) :
    out0_A_5 c i a1 h1 a2 h2 a3 h3 a4 h4 a5 h5 a6 h6 a7 h7 a8 h8 a9 h9 hc0 hc1 x0 x1 x2 x3 x4  =
      View.canon (pieces5 ⟨x0, x1, x2, x3, x4⟩) := by
  unfold out0_A_5
  rw [View.read_writes_eq_canon _ _ _ (cover0_A_5 c i a1 h1 a2 h2 a3 h3 a4 h4 a5 h5 a6 h6 a7 h7 a8 h8 a9 h9 hc0 hc1 x0 x1 x2 x3 x4 )]
  unfold kernelRun0_A
  dsimp only
  sl_unfold_words
  simp only [View.readAt_eq_ld, h1.read_unread, h2.read_unread, h3.read_unread, h4.read_unread, h5.read_unread]
  rfl

/-- The block of the projection's gradient at a middle point is the 48 tiles. -/
theorem out5_B (hc0 : ¬cond0_0 i) (hc1 : ¬cond0_1 i) :
    out0_B_5 c i a1 h1 a2 h2 a3 h3 a4 h4 a5 h5 a6 h6 a7 h7 a8 h8 a9 h9 hc0 hc1 x0 x1 x2 x3 x4 o6 o7 o8 =
      View.canon (pieces5 ⟨x0, x1, x2, x3, x4⟩) := by
  unfold out0_B_5
  rw [View.read_writes_eq_canon _ _ _ (cover0_B_5 c i a1 h1 a2 h2 a3 h3 a4 h4 a5 h5 a6 h6 a7 h7 a8 h8 a9 h9 hc0 hc1 x0 x1 x2 x3 x4 o6 o7 o8)]
  unfold kernelRun0_B
  dsimp only
  sl_unfold_words
  simp only [View.readAt_eq_ld, h1.read_unread, h2.read_unread, h3.read_unread, h4.read_unread, h5.read_unread]
  rfl

/-- The block of the projection's gradient at a last point is the 48 tiles. -/
theorem out5_C (hc0 : ¬cond0_0 i) (hc1 : cond0_1 i) :
    out0_C_5 c i a1 h1 a2 h2 a3 h3 a4 h4 a5 h5 a6 h6 a7 h7 a8 h8 a9 h9 hc0 hc1 x0 x1 x2 x3 x4 o6 o7 o8 =
      View.canon (pieces5 ⟨x0, x1, x2, x3, x4⟩) := by
  unfold out0_C_5
  rw [View.read_writes_eq_canon _ _ _ (cover0_C_5 c i a1 h1 a2 h2 a3 h3 a4 h4 a5 h5 a6 h6 a7 h7 a8 h8 a9 h9 hc0 hc1 x0 x1 x2 x3 x4 o6 o7 o8)]
  unfold kernelRun0_C
  dsimp only
  sl_unfold_words
  simp only [View.readAt_eq_ld, h1.read_unread, h2.read_unread, h3.read_unread, h4.read_unread, h5.read_unread]
  rfl

/-- The accumulator of the weights' gradient after a middle point. -/
theorem out6_B (hc0 : ¬cond0_0 i) (hc1 : ¬cond0_1 i) :
    out0_B_6 c i a1 h1 a2 h2 a3 h3 a4 h4 a5 h5 a6 h6 a7 h7 a8 h8 a9 h9 hc0 hc1 x0 x1 x2 x3 x4 o6 o7 o8 =
      View.canon (pieces6 ⟨x0, x1, x2, x3, x4⟩ fun a h => View.ld o6 (rW a h)) := by
  unfold out0_B_6
  rw [View.read_writes_eq_canon _ _ _ (cover0_B_6 c i a1 h1 a2 h2 a3 h3 a4 h4 a5 h5 a6 h6 a7 h7 a8 h8 a9 h9 hc0 hc1 x0 x1 x2 x3 x4 o6 o7 o8)]
  unfold kernelRun0_B
  dsimp only
  sl_unfold_words
  simp only [View.readAt_eq_ld, h1.read_unread, h2.read_unread, h3.read_unread, h4.read_unread, h5.read_unread, h7.read_unread]
  rfl

/-- The accumulator of the bias's gradient after a middle and after the last point. -/
theorem out7_B (hc0 : ¬cond0_0 i) (hc1 : ¬cond0_1 i) :
    out0_B_7 c i a1 h1 a2 h2 a3 h3 a4 h4 a5 h5 a6 h6 a7 h7 a8 h8 a9 h9 hc0 hc1 x0 x1 x2 x3 x4 o6 o7 o8 =
      View.canon [⟨Rect.unit ![0, 0] ![8, 128] inb_S8x128_S8x128_0_0, gbS ⟨x0, x1, x2, x3, x4⟩ (View.ld o7 (Rect.unit ![0, 0] ![8, 128] inb_S8x128_S8x128_0_0))⟩] := by
  unfold out0_B_7
  rw [View.read_writes_eq_canon _ _ _ (cover0_B_7 c i a1 h1 a2 h2 a3 h3 a4 h4 a5 h5 a6 h6 a7 h7 a8 h8 a9 h9 hc0 hc1 x0 x1 x2 x3 x4 o6 o7 o8)]
  unfold kernelRun0_B
  dsimp only
  sl_unfold_words
  simp only [View.readAt_eq_ld, h1.read_unread, h2.read_unread, h3.read_unread, h4.read_unread, h5.read_unread, h8.read_unread]
  rfl

theorem out7_C (hc0 : ¬cond0_0 i) (hc1 : cond0_1 i) :
    out0_C_7 c i a1 h1 a2 h2 a3 h3 a4 h4 a5 h5 a6 h6 a7 h7 a8 h8 a9 h9 hc0 hc1 x0 x1 x2 x3 x4 o6 o7 o8 =
      View.canon [⟨Rect.unit ![0, 0] ![8, 128] inb_S8x128_S8x128_0_0, gbS ⟨x0, x1, x2, x3, x4⟩ (View.ld o7 (Rect.unit ![0, 0] ![8, 128] inb_S8x128_S8x128_0_0))⟩] := by
  unfold out0_C_7
  rw [View.read_writes_eq_canon _ _ _ (cover0_C_7 c i a1 h1 a2 h2 a3 h3 a4 h4 a5 h5 a6 h6 a7 h7 a8 h8 a9 h9 hc0 hc1 x0 x1 x2 x3 x4 o6 o7 o8)]
  unfold kernelRun0_C
  dsimp only
  sl_unfold_words
  simp only [View.readAt_eq_ld, h1.read_unread, h2.read_unread, h3.read_unread, h4.read_unread, h5.read_unread, h8.read_unread]
  rfl

/-- The accumulator of the bias's gradient after the first point, which clears it. -/
theorem out7_A (hc0 : cond0_0 i) (hc1 : ¬cond0_1 i) :
    out0_A_7 c i a1 h1 a2 h2 a3 h3 a4 h4 a5 h5 a6 h6 a7 h7 a8 h8 a9 h9 hc0 hc1 x0 x1 x2 x3 x4  =
      View.canon [⟨Rect.unit ![0, 0] ![8, 128] inb_S8x128_S8x128_0_0, gbS ⟨x0, x1, x2, x3, x4⟩ k0_pay16⟩, ⟨Rect.unit ![0, 0] ![8, 128] inb_S8x128_S8x128_0_0, k0_pay16⟩] := by
  unfold out0_A_7
  rw [View.read_writes_eq_canon _ _ _ (cover0_A_7 c i a1 h1 a2 h2 a3 h3 a4 h4 a5 h5 a6 h6 a7 h7 a8 h8 a9 h9 hc0 hc1 x0 x1 x2 x3 x4 )]
  unfold kernelRun0_A
  dsimp only
  sl_unfold_words
  simp only [View.readAt_eq_ld, h1.read_unread, h2.read_unread, h3.read_unread, h4.read_unread, h5.read_unread, View.readCov_cons_toLoadRect]
  rfl

/-- The accumulator of the gain's gradient after a middle and after the last point. -/
theorem out8_B (hc0 : ¬cond0_0 i) (hc1 : ¬cond0_1 i) :
    out0_B_8 c i a1 h1 a2 h2 a3 h3 a4 h4 a5 h5 a6 h6 a7 h7 a8 h8 a9 h9 hc0 hc1 x0 x1 x2 x3 x4 o6 o7 o8 =
      View.read (Elt F) a9.view (a9.view.writes (Elt F) (h9.unread o8) (pieces8 ⟨x0, x1, x2, x3, x4⟩ fun a h => View.ld o8 (rV a h))) := by
  unfold out0_B_8
  unfold kernelRun0_B
  dsimp only
  sl_unfold_words
  simp only [View.readAt_eq_ld, h1.read_unread, h2.read_unread, h3.read_unread, h4.read_unread, h5.read_unread, h9.read_unread]
  rfl

theorem out8_C (hc0 : ¬cond0_0 i) (hc1 : cond0_1 i) :
    out0_C_8 c i a1 h1 a2 h2 a3 h3 a4 h4 a5 h5 a6 h6 a7 h7 a8 h8 a9 h9 hc0 hc1 x0 x1 x2 x3 x4 o6 o7 o8 =
      View.read (Elt F) a9.view (a9.view.writes (Elt F) (h9.unread o8) (pieces8 ⟨x0, x1, x2, x3, x4⟩ fun a h => View.ld o8 (rV a h))) := by
  unfold out0_C_8
  unfold kernelRun0_C
  dsimp only
  sl_unfold_words
  simp only [View.readAt_eq_ld, h1.read_unread, h2.read_unread, h3.read_unread, h4.read_unread, h5.read_unread, h9.read_unread]
  rfl

/-- The accumulator of the weights' gradient after the last point, which clears the upper halves. -/
theorem out6_C (hc0 : ¬cond0_0 i) (hc1 : cond0_1 i) :
    out0_C_6 c i a1 h1 a2 h2 a3 h3 a4 h4 a5 h5 a6 h6 a7 h7 a8 h8 a9 h9 hc0 hc1 x0 x1 x2 x3 x4 o6 o7 o8 =
      View.canon
        ((piecesM ⟨x0, x1, x2, x3, x4⟩ fun a h => View.ld o6 (rW a h)) ++ pieces6 ⟨x0, x1, x2, x3, x4⟩ fun a h => View.ld o6 (rW a h)) := by
  unfold out0_C_6
  rw [View.read_writes_eq_canon _ _ _ (cover0_C_6 c i a1 h1 a2 h2 a3 h3 a4 h4 a5 h5 a6 h6 a7 h7 a8 h8 a9 h9 hc0 hc1 x0 x1 x2 x3 x4 o6 o7 o8)]
  unfold kernelRun0_C
  dsimp only
  sl_unfold_words
  simp only [View.readAt_eq_ld, h1.read_unread, h2.read_unread, h3.read_unread, h4.read_unread, h5.read_unread, h7.read_unread]
  simp (disch := decide) only [View.readCov_skip, View.readCov_cons_toLoadRect]
  rfl

/-- The accumulator of the weights' gradient after the first point, which clears it. -/
theorem out6_A (hc0 : cond0_0 i) (hc1 : ¬cond0_1 i) :
    out0_A_6 c i a1 h1 a2 h2 a3 h3 a4 h4 a5 h5 a6 h6 a7 h7 a8 h8 a9 h9 hc0 hc1 x0 x1 x2 x3 x4  =
      View.canon (pieces6 ⟨x0, x1, x2, x3, x4⟩ (fun a h => View.ld k0_pay15 (rW a h)) ++ [⟨Rect.unit ![0, 0, 0] ![4, 128, 128] inb_S4x128x128_S4x128x128_0_0_0, k0_pay15⟩]) := by
  unfold out0_A_6
  rw [View.read_writes_eq_canon _ _ _ (cover0_A_6 c i a1 h1 a2 h2 a3 h3 a4 h4 a5 h5 a6 h6 a7 h7 a8 h8 a9 h9 hc0 hc1 x0 x1 x2 x3 x4 )]
  unfold kernelRun0_A
  dsimp only
  sl_unfold_words
  simp only [View.readAt_eq_ld, h1.read_unread, h2.read_unread, h3.read_unread, h4.read_unread, h5.read_unread]
  simp (disch := decide) only [View.readCov_skip]
  rw [View.readCov_fill _ _ _ _ (rW 0 (by decide)) (by decide),
    View.readCov_fill _ _ _ _ (rW 1 (by decide)) (by decide),
    View.readCov_fill _ _ _ _ (rW 2 (by decide)) (by decide),
    View.readCov_fill _ _ _ _ (rW 3 (by decide)) (by decide)]
  rfl

/-- The accumulator of the gain's gradient after the first point, which clears it. -/
theorem out8_A (hc0 : cond0_0 i) (hc1 : ¬cond0_1 i) :
    out0_A_8 c i a1 h1 a2 h2 a3 h3 a4 h4 a5 h5 a6 h6 a7 h7 a8 h8 a9 h9 hc0 hc1 x0 x1 x2 x3 x4  =
      View.canon (pieces8 ⟨x0, x1, x2, x3, x4⟩ (fun a h => View.ld k0_pay17 (rV a h)) ++ [⟨Rect.unit ![0, 0] ![8, 128] inb_S8x128_S8x128_0_0, k0_pay17⟩]) := by
  unfold out0_A_8
  rw [View.read_writes_eq_canon _ _ _ (cover0_A_8 c i a1 h1 a2 h2 a3 h3 a4 h4 a5 h5 a6 h6 a7 h7 a8 h8 a9 h9 hc0 hc1 x0 x1 x2 x3 x4 )]
  unfold kernelRun0_A
  dsimp only
  sl_unfold_words
  simp only [View.readAt_eq_ld, h1.read_unread, h2.read_unread, h3.read_unread, h4.read_unread, h5.read_unread]
  simp (disch := decide) only [View.readCov_skip]
  rw [View.readCov_fill _ _ _ _ (rV 0 (by decide)) (by decide),
    View.readCov_fill _ _ _ _ (rV 1 (by decide)) (by decide),
    View.readCov_fill _ _ _ _ (rV 2 (by decide)) (by decide),
    View.readCov_fill _ _ _ _ (rV 3 (by decide)) (by decide)]
  rfl

end Cases
end Proof.Gmlp
-- ==== Proof.GmlpBlock.lean ====
module

public import proofs.«01_k».proof.Proof.GmlpTile
public import proofs.«01_k».proof.Proof.GmlpUnit

/-!
  The blocks of one grid point of the gated MLP's gradient, at finite inputs: the block of the projection's gradient is
  the real gradient, and each accumulator grows by the real sums over the point's eight chunks.
-/

@[expose] public section

noncomputable section

open Idealize.ShloMosaic Idealize.ShloMosaic.TcCoe

namespace Proof.Gmlp

open Cert.KernelIdeal Cert.KernelIdeal.Gen

/-- The five blocks of grid point `t` hold the reals of `d`. -/
structure Blk (d : Data) (t : ℕ) (I : Ins Ideal) : Prop where
  h0 : ∀ (R : Fin 1024) (C : Fin 768), I.x0 (ix2 R C) = ((d.P (1024 * t + R) C : ℝ) : EReal)
  h1 : ∀ (R : Fin 1024) (C : Fin 256), I.x1 (ix2 R C) = ((d.D (1024 * t + R) C : ℝ) : EReal)
  h2 : ∀ C : Fin 256, I.x2 (ix2 0 C) = ((d.g (C / 64) (C % 64) : ℝ) : EReal)
  h3 : ∀ (a : Fin 4) (r s : Fin 128), I.x3 (ix3 a r s) = ((d.W a r s : ℝ) : EReal)
  h4 : ∀ (r : Fin 128) (C : Fin 256), I.x4 (ix2 r C) = ((d.B (C / 64) r : ℝ) : EReal)

/-- The projection's gradient at the columns of one tile, part by part. -/
theorem gP_u (d : Data) (t n p r l : ℕ) (h : n < 8 ∧ p < 2) (hr : r < 128) (hl : l < 128) :
    d.gP (1024 * t + (128 * n + 1 * r)) (256 * 0 + 128 * p + 1 * l) = d.gu (8 * t + n) r (2 * p + l / 64) (l % 64) := by
  unfold Data.gP
  rw [if_pos (by omega), show (1024 * t + (128 * n + 1 * r)) / 128 = 8 * t + n by omega,
    show (1024 * t + (128 * n + 1 * r)) % 128 = r by omega, show (256 * 0 + 128 * p + 1 * l) / 64 = 2 * p + l / 64 by omega,
    show (256 * 0 + 128 * p + 1 * l) % 64 = l % 64 by omega]

theorem gP_v (d : Data) (t n p r l : ℕ) (h : n < 8 ∧ p < 2) (hr : r < 128) (hl : l < 128) :
    d.gP (1024 * t + (128 * n + 1 * r)) (256 * 1 + 128 * p + 1 * l) = d.gv (8 * t + n) r (2 * p + l / 64) (l % 64) := by
  unfold Data.gP
  rw [if_neg (by omega), if_pos (by omega), show (1024 * t + (128 * n + 1 * r)) / 128 = 8 * t + n by omega,
    show (1024 * t + (128 * n + 1 * r)) % 128 = r by omega, show (256 * 1 + 128 * p + 1 * l) / 64 - 4 = 2 * p + l / 64 by omega,
    show (256 * 1 + 128 * p + 1 * l) % 64 = l % 64 by omega]

theorem gP_t (d : Data) (t n p r l : ℕ) (h : n < 8 ∧ p < 2) (hr : r < 128) (hl : l < 128) :
    d.gP (1024 * t + (128 * n + 1 * r)) (256 * 2 + 128 * p + 1 * l) = d.gt (8 * t + n) r (2 * p + l / 64) (l % 64) := by
  unfold Data.gP
  rw [if_neg (by omega), if_neg (by omega), show (1024 * t + (128 * n + 1 * r)) / 128 = 8 * t + n by omega,
    show (1024 * t + (128 * n + 1 * r)) % 128 = r by omega, show (256 * 2 + 128 * p + 1 * l) / 64 - 8 = 2 * p + l / 64 by omega,
    show (256 * 2 + 128 * p + 1 * l) % 64 = l % 64 by omega]

section Unit
variable {d : Data} {t : ℕ} {I : Ins Ideal} (H : Blk d t I) (n p : ℕ) (h : n < 8 ∧ p < 2)
include H

theorem u_ok : Tile (φ := .f32) (uT I n p h) d.u (8 * t + n) p := by
  intro r l
  refine (H.h0 ⟨128 * n + 1 * r, by omega⟩ ⟨256 * 0 + 128 * p + 1 * l, by omega⟩ |> fun e => Eq.trans (congrArg I.x0 (eq_ix2 _)) e).trans ?_
  unfold Data.u
  congr 2 <;> simp only [] <;> omega

theorem v_ok : Tile (φ := .f32) (vT I n p h) d.v (8 * t + n) p := by
  intro r l
  refine (Eq.trans (congrArg I.x0 (eq_ix2 _)) (H.h0 ⟨128 * n + 1 * r, by omega⟩ ⟨256 * 1 + 128 * p + 1 * l, by omega⟩)).trans ?_
  unfold Data.v
  congr 2 <;> simp only [] <;> omega

theorem t_ok : Tile (φ := .f32) (tT I n p h) d.t (8 * t + n) p := by
  intro r l
  refine (Eq.trans (congrArg I.x0 (eq_ix2 _)) (H.h0 ⟨128 * n + 1 * r, by omega⟩ ⟨256 * 2 + 128 * p + 1 * l, by omega⟩)).trans ?_
  unfold Data.t
  congr 2 <;> simp only [] <;> omega

theorem y_ok : Tile (φ := .f32) (yT I n p h) d.y (8 * t + n) p := by
  intro r l
  refine (Eq.trans (congrArg I.x1 (eq_ix2 _)) (H.h1 ⟨128 * n + 1 * r, by omega⟩ ⟨128 * p + 1 * l, by omega⟩)).trans ?_
  unfold Data.y
  congr 2 <;> simp only [] <;> omega

theorem g_ok (l : Fin 128) : gT I n p h (ix2 0 l) = ((d.g (2 * p + l / 64) (l % 64) : ℝ) : EReal) := by
  refine (Eq.trans (congrArg I.x2 ((eq_ix2 _).trans (congrArg₂ ix2 (Subsingleton.elim _ _) rfl))) (H.h2 ⟨128 * p + 1 * l, by omega⟩)).trans ?_
  congr 2 <;> simp only [] <;> omega

theorem b_ok : Tile (φ := .f32) (bT I n p h) (fun _ r h _ => d.B h r) (8 * t + n) p := by
  intro r l
  refine (Eq.trans (congrArg I.x4 (eq_ix2 _)) (H.h4 ⟨0 + 1 * r, by omega⟩ ⟨128 * p + 1 * l, by omega⟩)).trans ?_
  congr 2 <;> simp only [] <;> omega

theorem wa_ok (r s : Fin 128) : waT I n p h (ix2 r s) = ((d.M (2 * p) r s : ℝ) : EReal) := by
  refine w_apply d (2 * p) _ (fun r s => ?_) r s
  refine (Eq.trans (congrArg I.x3 (eq_ix3 _)) (H.h3 ⟨2 * p + 1 * 0, by omega⟩ ⟨0 + 1 * r, by omega⟩ ⟨0 + 1 * s, by omega⟩)).trans ?_
  congr 2 <;> simp only [] <;> omega

theorem wb_ok (r s : Fin 128) : wbT I n p h (ix2 r s) = ((d.M (2 * p + 1) r s : ℝ) : EReal) := by
  refine w_apply d (2 * p + 1) _ (fun r s => ?_) r s
  refine (Eq.trans (congrArg I.x3 (eq_ix3 _)) (H.h3 ⟨2 * p + 1 + 1 * 0, by omega⟩ ⟨0 + 1 * r, by omega⟩ ⟨0 + 1 * s, by omega⟩)).trans ?_
  congr 2 <;> simp only [] <;> omega

theorem r_ok : Tile (rT I n p h) (fun c r h _ => d.rr c r h) (8 * t + n) p := r_tile d _ p (v_ok H n p h)
theorem z_ok : Tile (zT I n p h) d.z (8 * t + n) p := z_tile d _ p (v_ok H n p h) (r_ok H n p h)
theorem vn_ok : Tile (vnT I n p h) d.vn (8 * t + n) p := vn_tile d _ p (v_ok H n p h) (r_ok H n p h) (g_ok H n p h)
theorem sp_ok : Tile (spT I n p h) d.sp (8 * t + n) p :=
  sp_tile d _ p (vn_ok H n p h) (wa_ok H n p h) (wb_ok H n p h) (b_ok H n p h)
theorem dsp_ok : Tile (dspT I n p h) d.dsp (8 * t + n) p := dsp_tile d _ p (u_ok H n p h) (t_ok H n p h) (y_ok H n p h)
theorem dvn_ok : Tile (dvnT I n p h) d.dvn (8 * t + n) p :=
  dvn_tile d _ p (x := dspbT I n p h) (dsp_ok H n p h) (wa_ok H n p h) (wb_ok H n p h)
theorem gu_ok : Tile (guT I n p h) d.gu (8 * t + n) p := gu_tile d _ p (sp_ok H n p h) (t_ok H n p h) (y_ok H n p h)
theorem gt_ok : Tile (gtT I n p h) d.gt (8 * t + n) p :=
  gt_tile d _ p (sp_ok H n p h) (u_ok H n p h) (t_ok H n p h) (y_ok H n p h)
theorem gv_ok : Tile (gvT I n p h) d.gv (8 * t + n) p :=
  gv_tile d _ p (dvn_ok H n p h) (r_ok H n p h) (z_ok H n p h) (g_ok H n p h)

/-- The block of the projection's gradient at point `t`. -/
def blk5 (d : Data) (t : ℕ) (y : S1024x768.Idx) : EReal := ((d.gP (1024 * t + (y 0 : ℕ)) (y 1) : ℝ) : EReal)

theorem pu_ok (x) : (pu I n p h).2 x = blk5 d t ((pu I n p h).1.emb x) := by
  rw [eq_ix2 x]
  exact (gu_ok H n p h (x 0) (x 1)).trans (congrArg _ (gP_u d t n p (x 0) (x 1) h (x 0).isLt (x 1).isLt).symm)

theorem pv_ok (x) : (pv I n p h).2 x = blk5 d t ((pv I n p h).1.emb x) := by
  rw [eq_ix2 x]
  exact (gv_ok H n p h (x 0) (x 1)).trans (congrArg _ (gP_v d t n p (x 0) (x 1) h (x 0).isLt (x 1).isLt).symm)

theorem pt_ok (x) : (pt I n p h).2 x = blk5 d t ((pt I n p h).1.emb x) := by
  rw [eq_ix2 x]
  exact (gt_ok H n p h (x 0) (x 1)).trans (congrArg _ (gP_t d t n p (x 0) (x 1) h (x 0).isLt (x 1).isLt).symm)

end Unit

variable {d : Data} {t : ℕ} {I : Ins Ideal} (H : Blk d t I)
include H

/-- The 48 tiles are the tiles of the real gradient, and they fill the block. -/
theorem pieces5_ok : View.PiecesOf (blk5 d t) (pieces5 I) :=
  ⟨pv_ok H 7 1 _, pv_ok H 7 0 _, pv_ok H 6 1 _, pv_ok H 6 0 _, pv_ok H 5 1 _, pv_ok H 5 0 _,
   pv_ok H 4 1 _, pv_ok H 4 0 _, pv_ok H 3 1 _, pv_ok H 3 0 _, pv_ok H 2 1 _, pv_ok H 2 0 _,
   pv_ok H 1 1 _, pv_ok H 1 0 _, pv_ok H 0 1 _, pv_ok H 0 0 _, pt_ok H 7 1 _, pu_ok H 7 1 _,
   pt_ok H 7 0 _, pu_ok H 7 0 _, pt_ok H 6 1 _, pu_ok H 6 1 _, pt_ok H 6 0 _, pu_ok H 6 0 _,
   pt_ok H 5 1 _, pu_ok H 5 1 _, pt_ok H 5 0 _, pu_ok H 5 0 _, pt_ok H 4 1 _, pu_ok H 4 1 _,
   pt_ok H 4 0 _, pu_ok H 4 0 _, pt_ok H 3 1 _, pu_ok H 3 1 _, pt_ok H 3 0 _, pu_ok H 3 0 _,
   pt_ok H 2 1 _, pu_ok H 2 1 _, pt_ok H 2 0 _, pu_ok H 2 0 _, pt_ok H 1 1 _, pu_ok H 1 1 _,
   pt_ok H 1 0 _, pu_ok H 1 0 _, pt_ok H 0 1 _, pu_ok H 0 1 _, pt_ok H 0 0 _, pu_ok H 0 0 _, trivial⟩

omit H in
/-- Sums of eight chunks. -/
theorem sum8_apply {s : Shape} (f : (n : ℕ) → n < 8 → FVec Ideal s .f32) (y : s.Idx) (g : ℕ → ℝ)
    (hf : ∀ n hn, f n hn y = ((g n : ℝ) : EReal)) : sum8 f y = ((∑ n ∈ Finset.range 8, g n : ℝ) : EReal) := by
  have e : sum8 f y = 0 + f 0 (by decide) y + f 1 (by decide) y + f 2 (by decide) y + f 3 (by decide) y + f 4 (by decide) y
      + f 5 (by decide) y + f 6 (by decide) y + f 7 (by decide) y := by
    pointwise [sum8]
  rw [e]
  simp only [hf, Finset.sum_range_succ, Finset.sum_range_zero, EReal.coe_add, EReal.coe_zero]

/-- The accumulators' stores. -/
theorem gwLoS_ok (p : ℕ) (h : p < 2) (o : Vec Ideal S1x128x128 .f32) (A : ℕ → ℕ → ℝ)
    (ho : ∀ r s : Fin 128, o (ix3 0 r s) = ((A r s : ℝ) : EReal)) (r s : Fin 128) :
    gwLoS I p h o (ix3 0 r s) = ((A r s + ∑ n ∈ Finset.range 8, d.gWc (8 * t + n) (2 * p) r s : ℝ) : EReal) := by
  have e := sum8_apply (fun n hn => gwLoT I n p ⟨hn, h⟩) (ix2 r s) (fun n => d.gWc (8 * t + n) (2 * p) r s)
    fun n hn => gwLo_tile d _ p (vn_ok H n p ⟨hn, h⟩) (dsp_ok H n p ⟨hn, h⟩) r s
  pointwise [gwLoS]
  rw [ho, e, ← EReal.coe_add]

theorem gwHiS_ok (p : ℕ) (h : p < 2) (o : Vec Ideal S1x128x128 .f32) (A : ℕ → ℕ → ℝ)
    (ho : ∀ r s : Fin 128, o (ix3 0 r s) = ((A r s : ℝ) : EReal)) (r s : Fin 128) :
    gwHiS I p h o (ix3 0 r s) = ((A r s + ∑ n ∈ Finset.range 8, d.gWc (8 * t + n) (2 * p + 1) r s : ℝ) : EReal) := by
  have e := sum8_apply (fun n hn => gwHiT I n p ⟨hn, h⟩) (ix2 r s) (fun n => d.gWc (8 * t + n) (2 * p + 1) r s)
    fun n hn => gwHi_tile d _ p (vn_ok H n p ⟨hn, h⟩) (dsp_ok H n p ⟨hn, h⟩) r s
  pointwise [gwHiS]
  rw [ho, e, ← EReal.coe_add]

/-- One unit's row of the gain's gradient. -/
theorem ggT_ok (n p : ℕ) (h : n < 8 ∧ p < 2) (l : Fin 128) :
    ggT I n p h (ix2 0 l) = ((d.gGc (8 * t + n) (2 * p + l / 64) (l % 64) : ℝ) : EReal) := by
  unfold ggT
  pointwise [k0_pay285]
  exact gg_tile d _ p (dvn_ok H n p h) (z_ok H n p h) l

theorem ggLoS_ok (p : ℕ) (h : p < 2) (o : Vec Ideal S1x128 .f32) (l : Fin 128) (A : ℝ) (ho : o (ix2 0 l) = ((A : ℝ) : EReal)) :
    ggLoS I p h o (ix2 0 l)
      = ((A + ∑ n ∈ Finset.range 8, d.gGc (8 * t + n) (2 * p + l / 64) (l % 64) : ℝ) : EReal) := by
  have e := sum8_apply (fun n hn => ggT I n p ⟨hn, h⟩) (ix2 0 l) (fun n => d.gGc (8 * t + n) (2 * p + l / 64) (l % 64))
    fun n hn => ggT_ok H n p ⟨hn, h⟩ l
  pointwise [ggLoS]
  rw [ho, e, ← EReal.coe_add]

theorem ggHiS_ok (p : ℕ) (h : p < 2) (o : Vec Ideal S1x128 .f32) (l : Fin 128) (hl : (l : ℕ) < 64) (A : ℝ)
    (ho : o (ix2 0 l) = ((A : ℝ) : EReal)) :
    ggHiS I p h o (ix2 0 l) = ((A + ∑ n ∈ Finset.range 8, d.gGc (8 * t + n) (2 * p + 1) l : ℝ) : EReal) := by
  have e := sum8_apply (fun n hn => ggT I n p ⟨hn, h⟩) (ix2 0 ⟨l + 64, by omega⟩) (fun n => d.gGc (8 * t + n) (2 * p + 1) l)
    fun n hn => (ggT_ok H n p ⟨hn, h⟩ ⟨l + 64, by omega⟩).trans (by
      simp only [show ((l : ℕ) + 64) / 64 = 1 by omega, show ((l : ℕ) + 64) % 64 = l by omega])
  pointwise [ggHiS]
  rw [ho, show (⟨((l : ℕ) + 128 - 64) % 128, by omega⟩ : Fin 128) = ⟨l + 64, by omega⟩ from Fin.ext (by show (_ : ℕ) = _; simp only []; omega),
    e, ← EReal.coe_add]

/-- The store in the bias's accumulator: the rows of the four heads grow, the others stay. -/
theorem gbS_ok (o : Vec Ideal S8x128 .f32) (A : ℕ → ℕ → ℝ) (ho : ∀ (q : Fin 8) (r : Fin 128), o (ix2 q r) = ((A q r : ℝ) : EReal))
    (q : Fin 8) (r : Fin 128) :
    gbS I o (ix2 q r) = ((A q r + ∑ n ∈ Finset.range 8, (if (q : ℕ) < 4 then d.gBc (8 * t + n) r q else 0) : ℝ) : EReal) := by
  have e : ∀ n p (h : n < 8 ∧ p < 2) hr, (∀ (q : Fin 16) (l : Fin 128), hr (ix2 q l) = (((if (q : ℕ) = 2 * p + l / 64 then 1 else 0 : ℝ) : ℝ) : EReal))
      → gbT I n p h hr (ix2 q r) = ((if (q : ℕ) / 2 = p then d.gBc (8 * t + n) r q else 0 : ℝ) : EReal) :=
    fun n p h hr hhr => gb_tile d _ p (x := dspbT I n p h) (dsp_ok H n p h) (dsp_ok H n p h) hhr q r
  have e0 := fun n h => e n 0 h hr0 rows0_apply
  have e1 := fun n h => e n 1 h hr1 rows1_apply
  pointwise [gbS]
  simp only [ho, e0, e1, ← EReal.coe_add, zero_add, ← EReal.coe_zero]
  refine congrArg _ ?_
  simp only [Finset.sum_range_succ, Finset.sum_range_zero]
  have hq := q.isLt
  obtain h | h | h : (q : ℕ) / 2 = 0 ∨ (q : ℕ) / 2 = 1 ∨ 4 ≤ (q : ℕ) := by omega
  · rw [h]; simp only [show (q : ℕ) < 4 by omega]; simp
  · rw [h]; simp only [show (q : ℕ) < 4 by omega]; simp
  · simp only [show ¬ (q : ℕ) < 4 by omega, show ¬ (q : ℕ) / 2 = 0 by omega, show ¬ (q : ℕ) / 2 = 1 by omega]; simp

/-- The block of the projection's gradient. -/
theorem val5 : View.canon (pieces5 I) = blk5 d t :=
  funext fun y => View.canon_apply_of_pieces _ _ (pieces5_ok H).mem y
    (View.cover_of_tiledL (pieces5 I) S128x128.size (by sl_kernel_rfl) y)

/-- An array of reals by head, row and column. -/
def arr3 (A : ℕ → ℕ → ℕ → ℝ) (y : S4x128x128.Idx) : EReal := ((A (y 0) (y 1) (y 2) : ℝ) : EReal)

omit H in
/-- A 1 × 128 × 128 tile stored as matrix `a` is that matrix of the array. -/
theorem tile3 (a : ℕ) (h : a < 4) (v : Vec Ideal S1x128x128 .f32) (A : ℕ → ℕ → ℕ → ℝ)
    (hv : ∀ r s : Fin 128, v (ix3 0 r s) = ((A a r s : ℝ) : EReal)) (x : S1x128x128.Idx) : v x = arr3 A ((rW a h).emb x) := by
  have e : x = ix3 0 (x 1) (x 2) := (eq_ix3 x).trans (congrArg (fun z => ix3 z (x 1) (x 2)) (Subsingleton.elim _ _))
  refine (congrArg v e).trans ((hv _ _).trans ?_)
  have h0 : (x 0 : ℕ) = 0 := Nat.lt_one_iff.1 (x 0).isLt
  show _ = ((A (a + 1 * (x 0 : ℕ)) (0 + 1 * (x 1 : ℕ)) (0 + 1 * (x 2 : ℕ)) : ℝ) : EReal)
  simp only [h0, Nat.mul_zero, Nat.add_zero, Nat.one_mul, Nat.zero_add]

theorem pieces6_ok (o : (a : ℕ) → a < 4 → Vec Ideal S1x128x128 .f32) (A : ℕ → ℕ → ℕ → ℝ)
    (ho : ∀ a h, ∀ r s : Fin 128, o a h (ix3 0 r s) = ((A a r s : ℝ) : EReal)) :
    View.PiecesOf (arr3 fun a r s => A a r s + ∑ n ∈ Finset.range 8, d.gWc (8 * t + n) a r s) (pieces6 I o) :=
  ⟨tile3 3 (by decide) _ _ (gwHiS_ok H 1 (by decide) _ (A 3) (ho 3 _)), tile3 2 (by decide) _ _ (gwLoS_ok H 1 (by decide) _ (A 2) (ho 2 _)),
   tile3 1 (by decide) _ _ (gwHiS_ok H 0 (by decide) _ (A 1) (ho 1 _)), tile3 0 (by decide) _ _ (gwLoS_ok H 0 (by decide) _ (A 0) (ho 0 _)), trivial⟩

omit H in
theorem cover6 (o : (a : ℕ) → a < 4 → Vec Ideal S1x128x128 .f32) (y) : ∃ p ∈ pieces6 I o, y ∈ p.1.set :=
  View.cover_of_tiledL (pieces6 I o) S1x128x128.size (by sl_kernel_rfl) y

omit H in
theorem ld3 (o : Vec Ideal S4x128x128 .f32) (A : ℕ → ℕ → ℕ → ℝ) (ho : o = arr3 A) (a : ℕ) (h : a < 4) (r s : Fin 128) :
    View.ld o (rW a h) (ix3 0 r s) = ((A a r s : ℝ) : EReal) := by
  rw [ho]
  show ((A (a + 1 * 0) (0 + 1 * (r : ℕ)) (0 + 1 * (s : ℕ)) : ℝ) : EReal) = _
  simp only [Nat.mul_zero, Nat.add_zero, Nat.one_mul, Nat.zero_add]

/-- The accumulator of the weights' gradient: after a middle point, the first, the last. -/
theorem val6_B (o : Vec Ideal S4x128x128 .f32) (A : ℕ → ℕ → ℕ → ℝ) (ho : o = arr3 A) :
    View.canon (pieces6 I fun a h => View.ld o (rW a h))
      = arr3 fun a r s => A a r s + ∑ n ∈ Finset.range 8, d.gWc (8 * t + n) a r s :=
  funext fun y => View.canon_apply_of_pieces _ _ (pieces6_ok H _ A (ld3 o A ho)).mem y (cover6 _ y)

omit H in
theorem zero15 : k0_pay15 (F := Ideal) = arr3 fun _ _ _ => 0 := by
  funext y
  pointwise [k0_pay15]
  exact EReal.coe_zero.symm

theorem val6_A (L : List (View.Piece (Elt Ideal) S4x128x128 .f32)) :
    View.canon (pieces6 I (fun a h => View.ld (k0_pay15 (F := Ideal)) (rW a h)) ++ L)
      = arr3 fun a r s => 0 + ∑ n ∈ Finset.range 8, d.gWc (8 * t + n) a r s :=
  funext fun y => View.canon_append_of_piecesOf _ _ _ (pieces6_ok H _ (fun _ _ _ => 0) (ld3 _ _ zero15)) y (cover6 _ y)

omit H in
/-- The last point's second store of a matrix clears its upper half. -/
theorem mask_ok (v : Vec Ideal S1x128x128 .f32) (A : ℕ → ℕ → ℝ) (hv : ∀ r s : Fin 128, v (ix3 0 r s) = ((A r s : ℝ) : EReal))
    (r s : Fin 128) : k0_pay2 k0_pay8 v (ix3 0 r s) = ((if (s : ℕ) ≤ r then A r s else 0 : ℝ) : EReal) := by
  pointwise [k0_pay2]
  rw [tri_apply, select_ite, hv, ← EReal.coe_zero, coe_ite]

omit H in
theorem coverM (o : (a : ℕ) → a < 4 → Vec Ideal S1x128x128 .f32) (y) : ∃ p ∈ piecesM I o, y ∈ p.1.set :=
  View.cover_of_tiledL (piecesM I o) S1x128x128.size (by sl_kernel_rfl) y

omit H in
theorem mask3 (a : ℕ) (h : a < 4) (v : Vec Ideal S1x128x128 .f32) (A : ℕ → ℕ → ℕ → ℝ)
    (hv : ∀ r s : Fin 128, v (ix3 0 r s) = ((A a r s : ℝ) : EReal)) (x : S1x128x128.Idx) :
    k0_pay2 k0_pay8 v x = arr3 (fun a r s => if s ≤ r then A a r s else 0) ((rW a h).emb x) :=
  tile3 a h (k0_pay2 k0_pay8 v) (fun a r s => if s ≤ r then A a r s else 0) (mask_ok v (A a) hv) x

theorem piecesM_ok (o : (a : ℕ) → a < 4 → Vec Ideal S1x128x128 .f32) (A : ℕ → ℕ → ℕ → ℝ)
    (ho : ∀ a h, ∀ r s : Fin 128, o a h (ix3 0 r s) = ((A a r s : ℝ) : EReal)) :
    View.PiecesOf (arr3 fun a r s => if s ≤ r then A a r s + ∑ n ∈ Finset.range 8, d.gWc (8 * t + n) a r s else 0) (piecesM I o) :=
  ⟨mask3 3 (by decide) _ (fun a r s => A a r s + ∑ n ∈ Finset.range 8, d.gWc (8 * t + n) a r s) (gwHiS_ok H 1 (by decide) _ (A 3) (ho 3 _)),
   mask3 2 (by decide) _ (fun a r s => A a r s + ∑ n ∈ Finset.range 8, d.gWc (8 * t + n) a r s) (gwLoS_ok H 1 (by decide) _ (A 2) (ho 2 _)),
   mask3 1 (by decide) _ (fun a r s => A a r s + ∑ n ∈ Finset.range 8, d.gWc (8 * t + n) a r s) (gwHiS_ok H 0 (by decide) _ (A 1) (ho 1 _)),
   mask3 0 (by decide) _ (fun a r s => A a r s + ∑ n ∈ Finset.range 8, d.gWc (8 * t + n) a r s) (gwLoS_ok H 0 (by decide) _ (A 0) (ho 0 _)), trivial⟩

/-- The accumulator of the weights' gradient after the last point. -/
theorem val6_C (o : Vec Ideal S4x128x128 .f32) (A : ℕ → ℕ → ℕ → ℝ) (ho : o = arr3 A) (L : List (View.Piece (Elt Ideal) S4x128x128 .f32)) :
    View.canon ((piecesM I fun a h => View.ld o (rW a h)) ++ L)
      = arr3 fun a r s => if s ≤ r then A a r s + ∑ n ∈ Finset.range 8, d.gWc (8 * t + n) a r s else 0 :=
  funext fun y => View.canon_append_of_piecesOf _ _ _ (piecesM_ok H _ A (ld3 o A ho)) y (coverM _ y)

/-- An array of reals by row and lane. -/
def arr2 (A : ℕ → ℕ → ℝ) (y : S8x128.Idx) : EReal := ((A (y 0) (y 1) : ℝ) : EReal)

theorem gbS_arr (o : Vec Ideal S8x128 .f32) (A : ℕ → ℕ → ℝ) (ho : o = arr2 A) :
    gbS I o = arr2 fun q r => A q r + ∑ n ∈ Finset.range 8, (if q < 4 then d.gBc (8 * t + n) r q else 0) := by
  funext y
  rw [eq_ix2 y]
  exact gbS_ok H o A (fun q r => by rw [ho]; rfl) (y 0) (y 1)

omit H in
theorem zero16 : k0_pay16 (F := Ideal) = arr2 fun _ _ => 0 := by
  funext y
  pointwise [k0_pay16]
  exact EReal.coe_zero.symm

omit H in
theorem off0 : (![0, 0] : Fin 2 → ℕ) = fun _ => 0 := by funext a; fin_cases a <;> rfl

/-- The accumulator of the bias's gradient: after a middle or the last point, and after the first. -/
theorem val7_B (o : Vec Ideal S8x128 .f32) (A : ℕ → ℕ → ℝ) (ho : o = arr2 A) :
    View.canon ([⟨Rect.unit ![0, 0] ![8, 128] inb_S8x128_S8x128_0_0, gbS I (View.ld o (Rect.unit ![0, 0] ![8, 128] inb_S8x128_S8x128_0_0))⟩] : List (View.Piece (Elt Ideal) S8x128 .f32))
      = arr2 fun q r => A q r + ∑ n ∈ Finset.range 8, (if q < 4 then d.gBc (8 * t + n) r q else 0) := by
  refine (View.canon_unit_zero (S := S8x128) off0 inb_S8x128_S8x128_0_0 _).trans ?_
  refine gbS_arr H _ A (Eq.trans ?_ ho)
  exact View.ld_unit_zero (S := S8x128) off0 inb_S8x128_S8x128_0_0 o

theorem val7_A (L : List (View.Piece (Elt Ideal) S8x128 .f32)) :
    View.canon (⟨Rect.unit ![0, 0] ![8, 128] inb_S8x128_S8x128_0_0, gbS I (k0_pay16 (F := Ideal))⟩ :: L)
      = arr2 fun q r => 0 + ∑ n ∈ Finset.range 8, (if q < 4 then d.gBc (8 * t + n) r q else 0) :=
  (View.canon_cons_unit_zero (S := S8x128) off0 inb_S8x128_S8x128_0_0 _ L).trans (gbS_arr H _ _ zero16)

/-- The rows that the four stores of the gain's gradient leave. -/
def rows8 (I : Ins Ideal) (o : (a : ℕ) → a < 4 → Vec Ideal S1x128 .f32) (y : S8x128.Idx) : EReal :=
  if (y 0 : ℕ) = 3 then ggHiS I 1 (by decide) (o 3 (by decide)) (ix2 0 (y 1))
  else if (y 0 : ℕ) = 2 then ggLoS I 1 (by decide) (o 2 (by decide)) (ix2 0 (y 1))
  else if (y 0 : ℕ) = 1 then ggHiS I 0 (by decide) (o 1 (by decide)) (ix2 0 (y 1))
  else ggLoS I 0 (by decide) (o 0 (by decide)) (ix2 0 (y 1))

omit H in
theorem row8 (a : ℕ) (h : a < 4) (x : S1x128.Idx) : x = ix2 0 (((rV a h).emb x) 1) ∧ (((rV a h).emb x) 0 : ℕ) = a := by
  refine ⟨(eq_ix2 x).trans ?_, ?_⟩
  · refine congrArg₂ ix2 (Subsingleton.elim _ _) (Fin.ext ?_)
    show ((x 1 : ℕ)) = 0 + 1 * (x 1 : ℕ)
    omega
  · have : (x 0 : ℕ) = 0 := by have := (x 0).isLt; exact Nat.lt_one_iff.1 this
    show a + 1 * (x 0 : ℕ) = a
    omega

omit H in
theorem rows8_3 {o : (a : ℕ) → a < 4 → Vec Ideal S1x128 .f32} (y : S8x128.Idx) (e : (y 0 : ℕ) = 3) :
    rows8 I o y = ggHiS I 1 (by decide) (o 3 (by decide)) (ix2 0 (y 1)) := if_pos e

omit H in
theorem rows8_2 {o : (a : ℕ) → a < 4 → Vec Ideal S1x128 .f32} (y : S8x128.Idx) (e : (y 0 : ℕ) = 2) :
    rows8 I o y = ggLoS I 1 (by decide) (o 2 (by decide)) (ix2 0 (y 1)) := (if_neg (by omega)).trans (if_pos e)

omit H in
theorem rows8_1 {o : (a : ℕ) → a < 4 → Vec Ideal S1x128 .f32} (y : S8x128.Idx) (e : (y 0 : ℕ) = 1) :
    rows8 I o y = ggHiS I 0 (by decide) (o 1 (by decide)) (ix2 0 (y 1)) :=
  (if_neg (by omega)).trans ((if_neg (by omega)).trans (if_pos e))

omit H in
theorem rows8_0 {o : (a : ℕ) → a < 4 → Vec Ideal S1x128 .f32} (y : S8x128.Idx) (e : (y 0 : ℕ) = 0) :
    rows8 I o y = ggLoS I 0 (by decide) (o 0 (by decide)) (ix2 0 (y 1)) :=
  (if_neg (by omega)).trans ((if_neg (by omega)).trans (if_neg (by omega)))

omit H in
theorem pieces8_ok (o : (a : ℕ) → a < 4 → Vec Ideal S1x128 .f32) : View.PiecesOf (rows8 I o) (pieces8 I o) := by
  refine ⟨fun x => ?_, fun x => ?_, fun x => ?_, fun x => ?_, trivial⟩
  · obtain ⟨e1, e2⟩ := row8 3 (by decide) x
    exact (congrArg _ e1).trans (rows8_3 _ e2).symm
  · obtain ⟨e1, e2⟩ := row8 2 (by decide) x
    exact (congrArg _ e1).trans (rows8_2 _ e2).symm
  · obtain ⟨e1, e2⟩ := row8 1 (by decide) x
    exact (congrArg _ e1).trans (rows8_1 _ e2).symm
  · obtain ⟨e1, e2⟩ := row8 0 (by decide) x
    exact (congrArg _ e1).trans (rows8_0 _ e2).symm

omit H in
theorem mem8 (a : ℕ) (h : a < 4) (q : Fin 8) (l : Fin 128) : ix2 q l ∈ (rV a h).set ↔ (q : ℕ) = a := by
  rw [Rect.mem_set_unit]
  constructor
  · intro hy
    have := hy 0
    have h1 : a ≤ (q : ℕ) ∧ (q : ℕ) < a + 1 := this
    omega
  · intro e i
    match i with
    | 0 => exact (show a ≤ (q : ℕ) ∧ (q : ℕ) < a + 1 by omega)
    | 1 => exact (show 0 ≤ (l : ℕ) ∧ (l : ℕ) < 0 + 128 by omega)

omit H in
theorem cover8 (o : (a : ℕ) → a < 4 → Vec Ideal S1x128 .f32) (q : Fin 8) (l : Fin 128) (hq : (q : ℕ) < 4) :
    ∃ p ∈ pieces8 I o, ix2 q l ∈ p.1.set := by
  unfold pieces8
  obtain h | h | h | h : (q : ℕ) = 0 ∨ (q : ℕ) = 1 ∨ (q : ℕ) = 2 ∨ (q : ℕ) = 3 := by omega
  · exact ⟨_, List.mem_cons_of_mem _ (List.mem_cons_of_mem _ (List.mem_cons_of_mem _ List.mem_cons_self)), (mem8 0 (by decide) q l).2 h⟩
  · exact ⟨_, List.mem_cons_of_mem _ (List.mem_cons_of_mem _ List.mem_cons_self), (mem8 1 (by decide) q l).2 h⟩
  · exact ⟨_, List.mem_cons_of_mem _ List.mem_cons_self, (mem8 2 (by decide) q l).2 h⟩
  · exact ⟨_, List.mem_cons_self, (mem8 3 (by decide) q l).2 h⟩

omit H in
theorem off8 (o : (a : ℕ) → a < 4 → Vec Ideal S1x128 .f32) (q : Fin 8) (l : Fin 128) (hq : ¬ (q : ℕ) < 4) :
    ∀ p ∈ pieces8 I o, ix2 q l ∉ p.1.set := by
  unfold pieces8
  simp only [List.forall_mem_cons, mem8]
  exact ⟨by omega, by omega, by omega, by omega, fun _ h => absurd h List.not_mem_nil⟩

/-- The rows of the four heads in the accumulator of the gain's gradient, lane by lane of the first half. -/
theorem rows8_ok (o : (a : ℕ) → a < 4 → Vec Ideal S1x128 .f32) (A : ℕ → ℕ → ℝ) (l : Fin 128) (hl : (l : ℕ) < 64)
    (ho : ∀ a h, o a h (ix2 0 l) = ((A a l : ℝ) : EReal)) (q : Fin 8) (hq : (q : ℕ) < 4) :
    rows8 I o (ix2 q l) = ((A q l + ∑ n ∈ Finset.range 8, d.gGc (8 * t + n) q l : ℝ) : EReal) := by
  have e0 := ggLoS_ok H 0 (by decide) (o 0 (by decide)) l _ (ho 0 _)
  have e1 := ggHiS_ok H 0 (by decide) (o 1 (by decide)) l hl _ (ho 1 _)
  have e2 := ggLoS_ok H 1 (by decide) (o 2 (by decide)) l _ (ho 2 _)
  have e3 := ggHiS_ok H 1 (by decide) (o 3 (by decide)) l hl _ (ho 3 _)
  simp only [show (l : ℕ) / 64 = 0 by omega, show (l : ℕ) % 64 = l by omega, Nat.mul_zero, Nat.add_zero, Nat.zero_add, Nat.mul_one] at e0 e1 e2 e3
  obtain h | h | h | h : (q : ℕ) = 0 ∨ (q : ℕ) = 1 ∨ (q : ℕ) = 2 ∨ (q : ℕ) = 3 := by omega
  · exact (rows8_0 (ix2 q l) h).trans (e0.trans (by rw [h]))
  · exact (rows8_1 (ix2 q l) h).trans (e1.trans (by rw [h]))
  · exact (rows8_2 (ix2 q l) h).trans (e2.trans (by rw [h]))
  · exact (rows8_3 (ix2 q l) h).trans (e3.trans (by rw [h]))

/-- What the accumulator of the gain's gradient holds: the numbers `A` in the first 64 lanes, and anything in the others. -/
abbrev Rows (o : Vec Ideal S8x128 .f32) (A : ℕ → ℕ → ℝ) : Prop :=
  ∀ (q : Fin 8) (l : Fin 128), (l : ℕ) < 64 → o (ix2 q l) = ((A q l : ℝ) : EReal)

omit H in
theorem ld8 (o : Vec Ideal S8x128 .f32) (A : ℕ → ℕ → ℝ) (ho : Rows o A) (l : Fin 128) (hl : (l : ℕ) < 64) (a : ℕ) (h : a < 4) :
    View.ld o (rV a h) (ix2 0 l) = ((A a l : ℝ) : EReal) := by
  refine Eq.trans (congrArg o (eq_ix2 _)) ((ho ⟨a + 1 * 0, by omega⟩ ⟨0 + 1 * l, by omega⟩ (by show 0 + 1 * (l : ℕ) < 64; omega)).trans ?_)
  simp only [Nat.mul_zero, Nat.add_zero, Nat.one_mul, Nat.zero_add]

theorem val8_B {κ : Kind} {sp : Space} (m : View sig κ sp S8x128 .f32) (f : m.ty.Contents (Elt Ideal)) (A : ℕ → ℕ → ℝ)
    (ho : Rows (m.read (Elt Ideal) f) A) :
    Rows (m.read (Elt Ideal) (m.writes (Elt Ideal) f (pieces8 I fun a h => View.ld (m.read (Elt Ideal) f) (rV a h))))
      fun q l => A q l + ∑ n ∈ Finset.range 8, (if q < 4 then d.gGc (8 * t + n) q l else 0) := by
  intro q l hl
  by_cases hq : (q : ℕ) < 4
  · rw [View.read_writes_apply_of_pieces _ _ _ _ (pieces8_ok _).mem _ (cover8 _ q l hq), rows8_ok H _ A l hl (fun a h => ld8 _ A ho l hl a h) q hq]
    simp only [hq, if_true]
  · rw [View.read_writes_apply_of_forall_not_mem _ _ _ _ (off8 _ q l hq), ho q l hl]
    simp only [hq, if_false, Finset.sum_const_zero, add_zero]

omit H in
theorem zero17 (y) : k0_pay17 (F := Ideal) y = ((0 : ℝ) : EReal) := by
  pointwise [k0_pay17]
  exact EReal.coe_zero.symm

omit H in
/-- An index outside every rectangle of the later stores keeps what the earlier ones left. -/
theorem canon_append_off {s : Shape} {e : EltTy} (L L' : List (View.Piece (Elt Ideal) s e)) (y : s.Idx) (h : ∀ p ∈ L, y ∉ p.1.set) :
    View.canon (L ++ L') y = View.canon L' y := by
  induction L with
  | nil => rfl
  | cons p L ih =>
    rw [List.cons_append, View.canon_cons_of_not_mem p _ (h p List.mem_cons_self)]
    exact ih fun q hq => h q (List.mem_cons_of_mem _ hq)

theorem val8_A :
    Rows (View.canon (pieces8 I (fun a h => View.ld (k0_pay17 (F := Ideal)) (rV a h)) ++ [⟨Rect.unit ![0, 0] ![8, 128] inb_S8x128_S8x128_0_0, k0_pay17 (F := Ideal)⟩]))
      fun q l => 0 + ∑ n ∈ Finset.range 8, (if q < 4 then d.gGc (8 * t + n) q l else 0) := by
  intro q l hl
  by_cases hq : (q : ℕ) < 4
  · rw [View.canon_append_of_piecesOf _ _ _ (pieces8_ok _) _ (cover8 _ q l hq),
      rows8_ok H _ (fun _ _ => 0) l hl (fun a h => zero17 _) q hq]
    simp only [hq, if_true]
  · have e := off8 (I := I) (fun a h => View.ld (k0_pay17 (F := Ideal)) (rV a h)) q l hq
    rw [canon_append_off _ _ _ e]
    simp only [hq, if_false, Finset.sum_const_zero, add_zero]
    exact (congrFun (View.canon_unit_zero (S := S8x128) off0 inb_S8x128_S8x128_0_0 _) _).trans (zero17 _)

end Proof.Gmlp
-- ==== Proof.GmlpAcc.lean ====
module

public import proofs.«01_k».proof.Proof.GmlpBlock
public import proofs.«01_k».proof.Proof.Gen.KernelIdeal.Value

@[expose] public section

noncomputable section

open Idealize.ShloMosaic Idealize.ShloMosaic.TcCoe Idealize.SL.Sem
open Idealize.ShloMosaic.Pipeline (Dat)

namespace Proof.Gmlp

open Cert.KernelIdeal Cert.KernelIdeal.Gen Cert.KernelIdeal.Value

/-- The kernel's five arguments hold the reals of `d` (of the first, the 768 columns that it reads). -/
structure Src (d : Data) (m : (ℓ : Loc nD τ sig) → Buf (Elt Ideal) ℓ) (c : Dev nD) : Prop where
  h0 : ∀ (R : Fin 4096) (C : Fin 3328), (C : ℕ) < 768 → m ((c : Thread nD τ).loc main_arg0) (ix2 R C) = ((d.P R C : ℝ) : EReal)
  h1 : ∀ (R : Fin 4096) (C : Fin 1024), (C : ℕ) < 256 → m ((c : Thread nD τ).loc main_arg1) (ix2 R C) = ((d.D R C : ℝ) : EReal)
  h2 : ∀ (h : Fin 4) (k : Fin 64), m ((c : Thread nD τ).loc main_arg2) (ix2 h k) = ((d.g h k : ℝ) : EReal)
  h3 : ∀ (a : Fin 4) (r s : Fin 128), m ((c : Thread nD τ).loc main_arg3) (ix3 a r s) = ((d.W a r s : ℝ) : EReal)
  h4 : ∀ (a : Fin 4) (r : Fin 128), m ((c : Thread nD τ).loc main_arg4) (ix2 a r) = ((d.B a r : ℝ) : EReal)

/-- The flat gain and the bias repeated over a head's lanes, read at an index. -/
theorem gain_apply (v : Vec Ideal S4x64 .f32) (C : Fin 256) :
    shapeCast S1x256 v shapeCasts_S4x64_S1x256 (ix2 0 C) = v (ix2 ⟨C / 64, by omega⟩ ⟨C % 64, by omega⟩) := by
  pointwise []

theorem bias_apply (v : Vec Ideal S4x128 .f32) (r : Fin 128) (C : Fin 256) :
    shapeCast S128x256 (broadcastInDim S128x4x64 ![0, 1] bcast_S128x4_S128x4x64_0_1
      (transpose S128x4 [1, 0] v transposes_S4x128_S128x4_1_0)) shapeCasts_S128x4x64_S128x256 (ix2 r C)
      = v (ix2 ⟨C / 64, by omega⟩ r) := by
  pointwise []

variable (m : (ℓ : Loc nD τ sig) → Buf (Elt Ideal) ℓ) (c : Dev nD)

theorem V_v0 : V m c main_v0 = shapeCast S1x256 (m ((c : Thread nD τ).loc main_arg2)) shapeCasts_S4x64_S1x256 := by
  unfold_abbrev_sides
  after_results
  rfl

theorem V_v3 : V m c main_v3 = shapeCast S128x256 (broadcastInDim S128x4x64 ![0, 1] bcast_S128x4_S128x4x64_0_1
    (transpose S128x4 [1, 0] (m ((c : Thread nD τ).loc main_arg4)) transposes_S4x128_S128x4_1_0)) shapeCasts_S128x4x64_S128x256 := by
  unfold_abbrev_sides
  after_results
  rfl

theorem idx : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0 ∧ win0_3.index t 2 = 0
    ∧ win0_4.index t 0 = 0 ∧ win0_4.index t 1 = 0 :=
  (by decide +kernel : ∀ t : Fin grid0.N, _)

variable {m c} {d : Data} (H : Src d m c)
include H

theorem blk (t : Fin cfg0.N) : Blk d t ⟨X0_0 m c t, iblk m c 1 t, iblk m c 2 t, iblk m c 3 t, iblk m c 4 t⟩ := by
  have hN : cfg0.N = 4 := N_0
  have ht : t.val < 4 := hN ▸ t.isLt
  obtain ⟨i00, i01, i10, i11, i20, i21, i30, i31, i32, i40, i41⟩ := idx t
  constructor
  · intro R C
    show X0_0 m c t (ix2 R C) = _
    unfold X0_0 Pipeline.Window.fill
    rw [dif_pos (moved0_0 t _)]
    refine Eq.trans ?_ (H.h0 ⟨1024 * t + R, by omega⟩ ⟨C, by omega⟩ C.isLt)
    show V m c main_arg0 _ = _
    rw [V_main_arg0]
    refine congrArg _ (funext fun a => Fin.ext ?_)
    match a with
    | ⟨0, _⟩ => show win0_0.index t 0 * 1024 + 1 * (R : ℕ) = 1024 * t + R; rw [i00]; omega
    | ⟨1, _⟩ => show win0_0.index t 1 * 768 + 1 * (C : ℕ) = C; rw [i01]; omega
  · intro R C
    refine Eq.trans ?_ (H.h1 ⟨1024 * t + R, by omega⟩ ⟨C, by omega⟩ C.isLt)
    show V m c main_arg1 _ = _
    rw [V_main_arg1]
    refine congrArg _ (funext fun a => Fin.ext ?_)
    match a with
    | ⟨0, _⟩ => show win0_1.index t 0 * 1024 + 1 * (R : ℕ) = 1024 * t + R; rw [i10]; omega
    | ⟨1, _⟩ => show win0_1.index t 1 * 256 + 1 * (C : ℕ) = C; rw [i11]; omega
  · intro C
    refine Eq.trans ?_ (H.h2 ⟨C / 64, by omega⟩ ⟨C % 64, by omega⟩)
    show V m c main_v0 _ = _
    rw [V_v0]
    refine Eq.trans (congrArg _ (?_ : _ = ix2 (0 : Fin 1) C)) ?_
    · refine (funext fun a => Fin.ext ?_)
      match a with
      | ⟨0, _⟩ => show win0_2.index t 0 * 1 + 1 * 0 = 0; rw [i20]
      | ⟨1, _⟩ => show win0_2.index t 1 * 256 + 1 * (C : ℕ) = C; rw [i21]; omega
    · exact gain_apply _ C
  · intro a r s
    refine Eq.trans ?_ (H.h3 a r s)
    show V m c main_arg3 _ = _
    rw [V_main_arg3]
    refine congrArg _ (funext fun x => Fin.ext ?_)
    match x with
    | ⟨0, _⟩ => show win0_3.index t 0 * 4 + 1 * (a : ℕ) = a; rw [i30]; omega
    | ⟨1, _⟩ => show win0_3.index t 1 * 128 + 1 * (r : ℕ) = r; rw [i31]; omega
    | ⟨2, _⟩ => show win0_3.index t 2 * 128 + 1 * (s : ℕ) = s; rw [i32]; omega
  · intro r C
    refine Eq.trans ?_ (H.h4 ⟨C / 64, by omega⟩ r)
    show V m c main_v3 _ = _
    rw [V_v3]
    refine Eq.trans (congrArg _ (?_ : _ = ix2 r C)) ?_
    · refine (funext fun a => Fin.ext ?_)
      match a with
      | ⟨0, _⟩ => show win0_4.index t 0 * 128 + 1 * (r : ℕ) = r; rw [i40]; omega
      | ⟨1, _⟩ => show win0_4.index t 1 * 256 + 1 * (C : ℕ) = C; rw [i41]; omega
    · exact bias_apply _ r C

omit H in
/-- A sum over the chunks of the first `t + 1` points, split at the last point. -/
theorem sum_chunks (f : ℕ → ℝ) (t : ℕ) :
    ∑ n ∈ Finset.range (8 * t), f n + ∑ n ∈ Finset.range 8, f (8 * t + n) = ∑ n ∈ Finset.range (8 * (t + 1)), f n :=
  (Finset.sum_range_add f (8 * t) 8).symm

/-- What the four result blocks hold after point `t`. -/
structure After (d : Data) (t : ℕ) (o5 : Vec Ideal S1024x768 .bf16) (o6 : Vec Ideal S4x128x128 .f32) (o7 o8 : Vec Ideal S8x128 .f32) : Prop where
  h5 : o5 = blk5 d t
  h6 : o6 = arr3 fun a r s => if t = 3 ∧ ¬ s ≤ r then 0 else ∑ n ∈ Finset.range (8 * (t + 1)), d.gWc n a r s
  h7 : o7 = arr2 fun q r => ∑ n ∈ Finset.range (8 * (t + 1)), (if q < 4 then d.gBc n r q else 0)
  h8 : Rows o8 fun q l => ∑ n ∈ Finset.range (8 * (t + 1)), (if q < 4 then d.gGc n q l else 0)

/-- The results that point `t` leaves, as one quadruple. -/
abbrev AfterQ (d : Data) (t : ℕ) (o : Vec Ideal S1024x768 .bf16 × Vec Ideal S4x128x128 .f32 × Vec Ideal S8x128 .f32 × Vec Ideal S8x128 .f32) : Prop :=
  After d t o.1 o.2.1 o.2.2.1 o.2.2.2

theorem step_A (t : Fin cfg0.N) (h0 : t.val % 4 = 0) (h1 : ¬ t.val % 4 = 3) : AfterQ d t (outsAt0 m c t.val t.isLt) := by
  have hN : cfg0.N = 4 := N_0
  have ht : t.val = 0 := by have := t.isLt; omega
  have B := blk H t
  rw [outsAt0_A m c t h0 h1, out5_A, out6_A, out7_A, out8_A]
  constructor
  · dsimp only
    exact val5 B
  · dsimp only
    have e := fun L => val6_A B L
    rw [e]
    simp [ht]
  · dsimp only
    rw [val7_A B]
    simp [ht]
  · dsimp only
    have := val8_A B
    intro q l hl
    refine (this q l hl).trans ?_
    simp [ht]

theorem step_B (t : Fin cfg0.N) (h0 : ¬ t.val % 4 = 0) (h1 : ¬ t.val % 4 = 3) (n : ℕ) (hn : t.val = n + 1)
    (P : AfterQ d n (outsAt0 m c (t.val - 1) (Nat.lt_of_le_of_lt (Nat.sub_le _ _) t.isLt))) :
    AfterQ d t (outsAt0 m c t.val t.isLt) := by
  have hN : cfg0.N = 4 := N_0
  have B := blk H t
  have ht := t.isLt
  rw [outsAt0_B m c t h0 h1, out5_B, out6_B, out7_B, out8_B]
  generalize outsAt0 m c (t.val - 1) _ = o at P ⊢
  obtain ⟨o5, o6, o7, o8⟩ := o
  obtain ⟨-, P6, P7, P8⟩ := P
  dsimp only at P6 P7 P8 ⊢
  simp only [show ¬ n = 3 by omega, false_and, if_false, ← hn] at P6 P7 P8
  constructor
  · exact val5 B
  · dsimp only
    have e := val6_B B _ _ P6
    rw [e]
    congr 1
    funext a r s
    rw [if_neg (fun h => by omega)]; exact sum_chunks (fun n => d.gWc n a r s) t
  · dsimp only
    rw [val7_B B _ _ P7]
    congr 1
    funext q r
    exact sum_chunks (fun n => if q < 4 then d.gBc n r q else 0) t
  · dsimp only
    have := val8_B B (ms0_8 t).view ((hs0_8 t).unread o8) _ (by rw [(hs0_8 t).read_unread]; exact P8)
    rw [(hs0_8 t).read_unread] at this
    intro q l hl
    exact (this q l hl).trans (congrArg _ (sum_chunks (fun n => if (q : ℕ) < 4 then d.gGc n q l else 0) t))

theorem step_C (t : Fin cfg0.N) (h0 : ¬ t.val % 4 = 0) (h1 : t.val % 4 = 3) (n : ℕ) (hn : t.val = n + 1)
    (P : AfterQ d n (outsAt0 m c (t.val - 1) (Nat.lt_of_le_of_lt (Nat.sub_le _ _) t.isLt))) :
    AfterQ d t (outsAt0 m c t.val t.isLt) := by
  have hN : cfg0.N = 4 := N_0
  have B := blk H t
  have ht := t.isLt
  rw [outsAt0_C m c t h0 h1, out5_C, out6_C, out7_C, out8_C]
  generalize outsAt0 m c (t.val - 1) _ = o at P ⊢
  obtain ⟨o5, o6, o7, o8⟩ := o
  obtain ⟨-, P6, P7, P8⟩ := P
  dsimp only at P6 P7 P8 ⊢
  simp only [show ¬ n = 3 by omega, false_and, if_false, ← hn] at P6 P7 P8
  constructor
  · exact val5 B
  · dsimp only
    have e := fun L => val6_C B _ _ P6 L
    rw [e]
    congr 1
    funext a r s
    by_cases hs : s ≤ r
    · rw [if_pos hs, if_neg (fun h => h.2 hs)]; exact sum_chunks (fun n => d.gWc n a r s) t
    · rw [if_neg hs, if_pos ⟨by omega, hs⟩]
  · dsimp only
    rw [val7_B B _ _ P7]
    congr 1
    funext q r
    exact sum_chunks (fun n => if q < 4 then d.gBc n r q else 0) t
  · dsimp only
    have := val8_B B (ms0_8 t).view ((hs0_8 t).unread o8) _ (by rw [(hs0_8 t).read_unread]; exact P8)
    rw [(hs0_8 t).read_unread] at this
    intro q l hl
    exact (this q l hl).trans (congrArg _ (sum_chunks (fun n => if (q : ℕ) < 4 then d.gGc n q l else 0) t))

theorem after (n : ℕ) (hn : n < cfg0.N) : AfterQ d n (outsAt0 m c n hn) := by
  have hN : cfg0.N = 4 := N_0
  induction n with
  | zero => exact step_A H ⟨0, hn⟩ rfl (by dsimp only; omega)
  | succ n ih =>
    have P := ih (by omega)
    by_cases h1 : (⟨n + 1, hn⟩ : Fin cfg0.N).val % 4 = 3
    · exact step_C H ⟨n + 1, hn⟩ (by dsimp only; omega) h1 n rfl P
    · exact step_B H ⟨n + 1, hn⟩ (by dsimp only; omega) h1 n rfl P

/-! ## The result arrays -/

omit H in
theorem oidx : ∀ t : Fin cfg0.N, win0_5.index t 0 = t.val ∧ win0_5.index t 1 = 0 ∧ win0_6.index t 0 = 0 ∧ win0_6.index t 1 = 0
    ∧ win0_6.index t 2 = 0 ∧ win0_7.index t 0 = 0 ∧ win0_7.index t 1 = 0 ∧ win0_8.index t 0 = 0 ∧ win0_8.index t 1 = 0 :=
  (by decide +kernel : ∀ t : Fin grid0.N, _)

/-- The projection's gradient, as the whole array. -/
def arr5 (d : Data) (y : S4096x768.Idx) : EReal := ((d.gP (y 0) (y 1) : ℝ) : EReal)

theorem final5 : (dats m 0 c).arrAt 5 cfg0.N = arr5 d := by
  have hN : cfg0.N = 4 := N_0
  refine (dats m 0 c).arrAt_eq_of_cover 5 (arr5 d) (fun t _ => ?_) fun i => ?_
  · rw [flushed5, (after H t.val t.isLt).h5]
    obtain ⟨i0, i1, -⟩ := oidx t
    funext y
    show ((d.gP (1024 * t + (y 0 : ℕ)) (y 1 : ℕ) : ℝ) : EReal) = ((d.gP (win0_5.index t 0 * 1024 + 1 * (y 0 : ℕ)) (win0_5.index t 1 * 768 + 1 * (y 1 : ℕ)) : ℝ) : EReal)
    rw [i0, i1, Nat.mul_comm t.val 1024, Nat.one_mul, Nat.one_mul, Nat.zero_mul, Nat.zero_add]
  · have h0 : (i 0 : ℕ) < 4096 := (i 0).isLt
    have h1 : (i 1 : ℕ) < 768 := (i 1).isLt
    have ht : (i 0 : ℕ) / 1024 < cfg0.N := by rw [hN]; omega
    obtain ⟨i0, i1, -⟩ := oidx ⟨_, ht⟩
    refine ⟨⟨_, ht⟩, flush0_5 _, ?_⟩
    show i ∈ ((View.whole main_v4_0).slice (win0_5.rect ⟨_, ht⟩)).set
    rw [View.set_slice_whole, Rect.mem_set_unit]
    intro a
    match a with
    | ⟨0, _⟩ =>
      show win0_5.index ⟨_, ht⟩ 0 * 1024 ≤ (i 0 : ℕ) ∧ (i 0 : ℕ) < win0_5.index ⟨_, ht⟩ 0 * 1024 + 1024
      rw [i0]; dsimp only; omega
    | ⟨1, _⟩ =>
      show win0_5.index ⟨_, ht⟩ 1 * 768 ≤ (i 1 : ℕ) ∧ (i 1 : ℕ) < win0_5.index ⟨_, ht⟩ 1 * 768 + 768
      rw [i1]; omega

omit H in
/-- The last point, which alone writes the three accumulators back. -/
theorem h3lt : 3 < cfg0.N := by rw [show cfg0.N = 4 from N_0]; decide

omit H in
theorem final6 : (dats m 0 c).arrAt 6 cfg0.N = (outsAt0 m c 3 h3lt).2.1 := by
  have hN : cfg0.N = 4 := N_0
  refine (dats m 0 c).arrAt_eq_of_cover 6 (outsAt0 m c 3 h3lt).2.1 (fun t hf => ?_) fun i => ?_
  · have h3 : t.val = 3 := by have := (flush0_6 t).mp hf; have := t.isLt; omega
    obtain rfl : t = ⟨3, h3lt⟩ := Fin.ext h3
    rw [flushed6]
    have hz : (fun a => win0_6.index ⟨3, h3lt⟩ a * main_v4_1.ty.shape.size a) = fun _ => 0 := funext fun a => by
      obtain ⟨-, -, i0, i1, i2, -⟩ := oidx ⟨3, h3lt⟩
      match a with
      | ⟨0, _⟩ => exact (congrArg (· * 4) i0).trans (Nat.zero_mul _)
      | ⟨1, _⟩ => exact (congrArg (· * 128) i1).trans (Nat.zero_mul _)
      | ⟨2, _⟩ => exact (congrArg (· * 128) i2).trans (Nat.zero_mul _)
    exact (Memref.read_access_unit_zero (Elt Ideal) main_v4_1 hz (fun a => by rw [congrFun hz a]; simp) (outsAt0 m c 3 h3lt).2.1).symm
  · obtain ⟨-, -, i0, i1, i2, -⟩ := oidx ⟨3, h3lt⟩
    refine ⟨⟨3, h3lt⟩, (flush0_6 _).mpr rfl, ?_⟩
    show i ∈ ((View.whole main_v4_1).slice (win0_6.rect ⟨3, h3lt⟩)).set
    rw [View.set_slice_whole, Rect.mem_set_unit]
    have h0 : (i 0 : ℕ) < 4 := (i 0).isLt
    have h1 : (i 1 : ℕ) < 128 := (i 1).isLt
    have h2 : (i 2 : ℕ) < 128 := (i 2).isLt
    intro a
    match a with
    | ⟨0, _⟩ => show win0_6.index ⟨3, h3lt⟩ 0 * 4 ≤ (i 0 : ℕ) ∧ (i 0 : ℕ) < win0_6.index ⟨3, h3lt⟩ 0 * 4 + 4; rw [i0]; omega
    | ⟨1, _⟩ => show win0_6.index ⟨3, h3lt⟩ 1 * 128 ≤ (i 1 : ℕ) ∧ (i 1 : ℕ) < win0_6.index ⟨3, h3lt⟩ 1 * 128 + 128; rw [i1]; omega
    | ⟨2, _⟩ => show win0_6.index ⟨3, h3lt⟩ 2 * 128 ≤ (i 2 : ℕ) ∧ (i 2 : ℕ) < win0_6.index ⟨3, h3lt⟩ 2 * 128 + 128; rw [i2]; omega

omit H in
theorem final7 : (dats m 0 c).arrAt 7 cfg0.N = (outsAt0 m c 3 h3lt).2.2.1 := by
  have hN : cfg0.N = 4 := N_0
  refine (dats m 0 c).arrAt_eq_of_cover 7 (outsAt0 m c 3 h3lt).2.2.1 (fun t hf => ?_) fun i => ?_
  · have h3 : t.val = 3 := by have := (flush0_7 t).mp hf; have := t.isLt; omega
    obtain rfl : t = ⟨3, h3lt⟩ := Fin.ext h3
    rw [flushed7]
    have hz : (fun a => win0_7.index ⟨3, h3lt⟩ a * main_v4_2.ty.shape.size a) = fun _ => 0 := funext fun a => by
      obtain ⟨-, -, -, -, -, i0, i1, -⟩ := oidx ⟨3, h3lt⟩
      match a with
      | ⟨0, _⟩ => exact (congrArg (· * 8) i0).trans (Nat.zero_mul _)
      | ⟨1, _⟩ => exact (congrArg (· * 128) i1).trans (Nat.zero_mul _)
    exact (Memref.read_access_unit_zero (Elt Ideal) main_v4_2 hz (fun a => by rw [congrFun hz a]; simp) (outsAt0 m c 3 h3lt).2.2.1).symm
  · obtain ⟨-, -, -, -, -, i0, i1, -⟩ := oidx ⟨3, h3lt⟩
    refine ⟨⟨3, h3lt⟩, (flush0_7 _).mpr rfl, ?_⟩
    show i ∈ ((View.whole main_v4_2).slice (win0_7.rect ⟨3, h3lt⟩)).set
    rw [View.set_slice_whole, Rect.mem_set_unit]
    have h0 : (i 0 : ℕ) < 8 := (i 0).isLt
    have h1 : (i 1 : ℕ) < 128 := (i 1).isLt
    intro a
    match a with
    | ⟨0, _⟩ => show win0_7.index ⟨3, h3lt⟩ 0 * 8 ≤ (i 0 : ℕ) ∧ (i 0 : ℕ) < win0_7.index ⟨3, h3lt⟩ 0 * 8 + 8; rw [i0]; omega
    | ⟨1, _⟩ => show win0_7.index ⟨3, h3lt⟩ 1 * 128 ≤ (i 1 : ℕ) ∧ (i 1 : ℕ) < win0_7.index ⟨3, h3lt⟩ 1 * 128 + 128; rw [i1]; omega

omit H in
theorem final8 : (dats m 0 c).arrAt 8 cfg0.N = (outsAt0 m c 3 h3lt).2.2.2 := by
  have hN : cfg0.N = 4 := N_0
  refine (dats m 0 c).arrAt_eq_of_cover 8 (outsAt0 m c 3 h3lt).2.2.2 (fun t hf => ?_) fun i => ?_
  · have h3 : t.val = 3 := by have := (flush0_8 t).mp hf; have := t.isLt; omega
    obtain rfl : t = ⟨3, h3lt⟩ := Fin.ext h3
    rw [flushed8]
    have hz : (fun a => win0_8.index ⟨3, h3lt⟩ a * main_v4_3.ty.shape.size a) = fun _ => 0 := funext fun a => by
      obtain ⟨-, -, -, -, -, -, -, i0, i1⟩ := oidx ⟨3, h3lt⟩
      match a with
      | ⟨0, _⟩ => exact (congrArg (· * 8) i0).trans (Nat.zero_mul _)
      | ⟨1, _⟩ => exact (congrArg (· * 128) i1).trans (Nat.zero_mul _)
    exact (Memref.read_access_unit_zero (Elt Ideal) main_v4_3 hz (fun a => by rw [congrFun hz a]; simp) (outsAt0 m c 3 h3lt).2.2.2).symm
  · obtain ⟨-, -, -, -, -, -, -, i0, i1⟩ := oidx ⟨3, h3lt⟩
    refine ⟨⟨3, h3lt⟩, (flush0_8 _).mpr rfl, ?_⟩
    show i ∈ ((View.whole main_v4_3).slice (win0_8.rect ⟨3, h3lt⟩)).set
    rw [View.set_slice_whole, Rect.mem_set_unit]
    have h0 : (i 0 : ℕ) < 8 := (i 0).isLt
    have h1 : (i 1 : ℕ) < 128 := (i 1).isLt
    intro a
    match a with
    | ⟨0, _⟩ => show win0_8.index ⟨3, h3lt⟩ 0 * 8 ≤ (i 0 : ℕ) ∧ (i 0 : ℕ) < win0_8.index ⟨3, h3lt⟩ 0 * 8 + 8; rw [i0]; omega
    | ⟨1, _⟩ => show win0_8.index ⟨3, h3lt⟩ 1 * 128 ≤ (i 1 : ℕ) ∧ (i 1 : ℕ) < win0_8.index ⟨3, h3lt⟩ 1 * 128 + 128; rw [i1]; omega

/-- What the four result arrays end holding: the real gradients. -/
structure Res (d : Data) (r5 : Vec Ideal S4096x768 .bf16) (r6 : Vec Ideal S4x128x128 .f32) (r7 r8 : Vec Ideal S8x128 .f32) : Prop where
  h5 : ∀ (R : Fin 4096) (C : Fin 768), r5 (ix2 R C) = ((d.gP R C : ℝ) : EReal)
  h6 : ∀ (a : Fin 4) (r s : Fin 128), r6 (ix3 a r s)
    = ((if (s : ℕ) ≤ r then ∑ n ∈ Finset.range 32, d.gWc n a r s else 0 : ℝ) : EReal)
  h7 : ∀ (q : Fin 8) (r : Fin 128), r7 (ix2 q r)
    = ((if (q : ℕ) < 4 then ∑ n ∈ Finset.range 32, d.gBc n r q else 0 : ℝ) : EReal)
  h8 : ∀ (q : Fin 8) (l : Fin 128), (l : ℕ) < 64 → r8 (ix2 q l)
    = ((if (q : ℕ) < 4 then ∑ n ∈ Finset.range 32, d.gGc n q l else 0 : ℝ) : EReal)

theorem res : Res d ((dats m 0 c).arrAt 5 cfg0.N) ((dats m 0 c).arrAt 6 cfg0.N) ((dats m 0 c).arrAt 7 cfg0.N) ((dats m 0 c).arrAt 8 cfg0.N) := by
  have A := after H 3 h3lt
  rw [final5 H, final6, final7, final8]
  refine ⟨fun R C => rfl, fun a r s => ?_, fun q r => ?_, fun q l hl => ?_⟩
  · rw [A.h6]
    show ((if 3 = 3 ∧ ¬ (s : ℕ) ≤ r then 0 else ∑ n ∈ Finset.range 32, d.gWc n a r s : ℝ) : EReal) = _
    congr 1
    by_cases hs : (s : ℕ) ≤ r <;> simp [hs]
  · rw [A.h7]
    show ((∑ n ∈ Finset.range 32, (if (q : ℕ) < 4 then d.gBc n r q else 0) : ℝ) : EReal) = _
    congr 1
    by_cases hq : (q : ℕ) < 4 <;> simp [hq]
  · rw [A.h8 q l hl]
    congr 1
    by_cases hq : (q : ℕ) < 4 <;> simp [hq]

end Proof.Gmlp
-- ==== Proof.GmlpRef.lean ====
module

public import proofs.«01_k».proof.Proof.GmlpReal
public import proofs.«01_k».proof.Proof.Gen.ReferenceIdeal.Read
public import Idealize.ShloMosaic.Lib.Pointwise

/-!
  The reference of the gated MLP's gradient at finite inputs: its results are the same real gradients.
-/

@[expose] public section

noncomputable section

open Idealize.ShloMosaic Idealize.ShloMosaic.TcCoe

namespace Proof.Gmlp

open Cert.ReferenceIdeal Cert.ReferenceIdeal.Gen Cert.ReferenceIdeal.Read

/-- The reference's five arguments hold the reals of `d`. -/
structure RSrc (d : Data) (x0 : Vec Ideal S4096x3328 .f32) (x1 : Vec Ideal S4096x1024 .f32) (x2 : Vec Ideal S4x64 .f32)
    (x3 : Vec Ideal S4x128x128 .f32) (x4 : Vec Ideal S4x128 .f32) : Prop where
  h0 : ∀ (R : Fin 4096) (C : Fin 3328), (C : ℕ) < 768 → x0 (ix2 R C) = ((d.P R C : ℝ) : EReal)
  h1 : ∀ (R : Fin 4096) (C : Fin 1024), (C : ℕ) < 256 → x1 (ix2 R C) = ((d.D R C : ℝ) : EReal)
  h2 : ∀ (h : Fin 4) (k : Fin 64), x2 (ix2 h k) = ((d.g h k : ℝ) : EReal)
  h3 : ∀ (a : Fin 4) (r s : Fin 128), x3 (ix3 a r s) = ((d.W a r s : ℝ) : EReal)
  h4 : ∀ (a : Fin 4) (r : Fin 128), x4 (ix2 a r) = ((d.B a r : ℝ) : EReal)

/-- An array by row, head and lane holds the reals `X` by chunk, row of the chunk, head and lane. -/
abbrev Is3 (v : Vec Ideal S4096x4x64 .f32) (X : ℕ → ℕ → ℕ → ℕ → ℝ) : Prop :=
  ∀ (R : Fin 4096) (h : Fin 4) (k : Fin 64), v (ix3 R h k) = ((X (R / 128) (R % 128) h k : ℝ) : EReal)

/-- The same by row and head. -/
abbrev Is1 (v : Vec Ideal S4096x4x1 .f32) (X : ℕ → ℕ → ℕ → ℝ) : Prop :=
  ∀ (R : Fin 4096) (h : Fin 4), v (ix3 R h 0) = ((X (R / 128) (R % 128) h : ℝ) : EReal)

/-- The same by row and column. -/
abbrev Is2 (v : Vec Ideal S4096x256 .f32) (X : ℕ → ℕ → ℕ → ℕ → ℝ) : Prop :=
  ∀ (R : Fin 4096) (C : Fin 256), v (ix2 R C) = ((X (R / 128) (R % 128) (C / 64) (C % 64) : ℝ) : EReal)

/-- The same by chunk, row of the chunk, head and lane. -/
abbrev Is4 (v : Vec Ideal S32x128x4x64 .f32) (X : ℕ → ℕ → ℕ → ℕ → ℝ) : Prop :=
  ∀ (c : Fin 32) (r : Fin 128) (h : Fin 4) (k : Fin 64), v (ix4 c r h k) = ((X c r h k : ℝ) : EReal)

/-- The rank-4 reduction over the first and the last axis, as a double sum. -/
theorem reduce_0_3 {n0 n1 n2 n3 : ℕ} (h : (⟨4, ![n0, n1, n2, n3]⟩ : Shape).ReducesTo [0, 3] (⟨2, ![n1, n2]⟩ : Shape))
    (v : (⟨4, ![n0, n1, n2, n3]⟩ : Shape).Idx → EReal) (init : EReal) (r : Fin n1) (q : Fin n2) :
    Ideal.hostReduceAdd h v init (ix2 r q) = init + ∑ a : Fin n0, ∑ b : Fin n3, v (ix4 a r q b) := by
  refine congrArg (init + ·) ?_
  refine (Finset.sum_filter_eq_sum_of_fiber _ (fun k : Fin n0 × Fin n3 => ix4 k.1 r q k.2)
    (fun _ _ e => Prod.ext (congrFun e 0) (congrFun e 3)) (fun i => ?_) v).trans ?_
  · constructor
    · intro e
      refine ⟨(i 0, i 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext b; apply Fin.ext
      match b with
      | ⟨0, _⟩ => rfl
      | ⟨1, _⟩ => rfl
  · simp only [Fintype.sum_prod_type]

variable {d : Data} {x0 : Vec Ideal S4096x3328 .f32} {x1 : Vec Ideal S4096x1024 .f32} {x2 : Vec Ideal S4x64 .f32}
  {x3 : Vec Ideal S4x128x128 .f32} {x4 : Vec Ideal S4x128 .f32} (H : RSrc d x0 x1 x2 x3 x4)
include H

theorem ref_u : Is3 (val_main_v3 x0) d.u := by
  intro R h k
  pointwise [val_main_v3, val_main_v0]
  refine (H.h0 R ⟨h * 64 + k, by omega⟩ (by dsimp only; omega)).trans ?_
  unfold Data.u
  congr 2 <;> (try simp only []) <;> omega

theorem ref_v : Is3 (val_main_v4 x0) d.v := by
  intro R h k
  pointwise [val_main_v4, val_main_v1]
  refine (H.h0 R ⟨256 + (h * 64 + k), by omega⟩ (by dsimp only; omega)).trans ?_
  unfold Data.v
  congr 2 <;> (try simp only []) <;> omega

theorem ref_t : Is2 (val_main_v2 x0) d.t := by
  intro R C
  pointwise [val_main_v2]
  refine (H.h0 R ⟨512 + C, by omega⟩ (by dsimp only; omega)).trans ?_
  unfold Data.t
  congr 2 <;> (try simp only []) <;> omega

theorem ref_y : Is2 (val_main_v39 x1) d.y := by
  intro R C
  pointwise [val_main_v39]
  refine (H.h1 R ⟨C, by omega⟩ (by dsimp only; omega)).trans ?_
  unfold Data.y
  congr 2 <;> (try simp only []) <;> omega

theorem ref_ms : Is1 (val_main_v11 x0) d.ms := by
  intro R h
  pointwise [val_main_v5, val_main_cst, val_main_v6, val_main_v7, val_main_cst_0, val_main_v8, val_main_v9, val_main_cst_1, val_main_v10, val_main_v11]
  simp only [ref_v H R h]
  rw [ofBits_eps, ofBits_64, Ideal.div_coe (by norm_num)]
  simp only [← EReal.coe_mul, coe_sum, ← EReal.coe_add]
  rfl

theorem ref_r : Is1 (val_main_v12 x0) d.rr := by
  intro R h
  pointwise [val_main_v12]
  rw [ref_ms H R h, d.rsqrt_ms]

theorem ref_z : Is3 (val_main_v17 x0) d.z := by
  intro R h k
  pointwise [val_main_v17, val_main_v16]
  rw [ref_v H R h k, ref_r H R h, ← EReal.coe_mul]
  rfl

theorem ref_vn : Is4 (val_main_v21 x0 x2) d.vn := by
  intro c r h k
  have e : val_main_v21 x0 x2 (ix4 c r h k) = val_main_v17 x0 (ix3 ⟨c * 128 + r, by omega⟩ h k) * x2 (ix2 h k) := by
    revert h
    pointwise [val_main_v18, val_main_v19, val_main_v20, val_main_v21]
  rw [e, ref_z H, H.h2, ← EReal.coe_mul]
  have h1 : ((c : ℕ) * 128 + r) / 128 = c := by omega
  have h2 : ((c : ℕ) * 128 + r) % 128 = r := by omega
  dsimp only
  rw [h1, h2]
  rfl

omit H in
theorem ref_tri (a : Fin 4) (r s : Fin 128) : val_main_v25 (F := Ideal) (ix3 a r s) = (((if (s : ℕ) ≤ r then 1 else 0 : ℝ) : ℝ) : EReal) := by
  have e : val_main_v25 (F := Ideal) (ix3 a r s)
      = Scalar.select (IntOp.cmpi CmpIPredicate.sge (IntOp.addi (BitVec.ofNat 32 r) 0#32) (BitVec.ofNat 32 s)) (1 : EReal) 0 := by
    pointwise [val_main_v25, val_main_v24, val_main_v23, val_main_v22, val_main_cst_3, val_main_call0_v0, val_main_call0_v1, val_main_call0_v2, val_main_call0_v3, val_main_call0_v4, val_main_call0_v5, val_main_call0_c, val_main_call0_cst]
  rw [e, show IntOp.cmpi CmpIPredicate.sge (IntOp.addi (BitVec.ofNat 32 r) 0#32) (BitVec.ofNat 32 s) = if (s : ℕ) ≤ r then 1#1 else 0#1 by
    clear e; revert r s; decide +kernel]
  split <;> simp [Scalar.select]

theorem ref_M (a : Fin 4) (r s : Fin 128) : val_main_v26 x3 (ix3 a r s) = ((d.M a r s : ℝ) : EReal) := by
  show x3 (ix3 a r s) * val_main_v25 (F := Ideal) (ix3 a r s) = _
  rw [H.h3, ref_tri, ← EReal.coe_mul]
  unfold Data.M
  split <;> simp

theorem ref_sp : Is3 (val_main_v34 x0 x2 x3 x4) d.sp := by
  intro R h k
  pointwise [val_main_v34, val_main_v33, val_main_v32, val_main_v31, val_main_v30, val_main_v29, val_main_v28, val_main_v27]
  simp only [ref_vn H, ref_M H, H.h4, ← EReal.coe_mul, coe_sum, ← EReal.coe_add]
  unfold Data.sp
  simp only [mul_comm]

theorem ref_sg : Is2 (val_main_v37_2 x0) d.sg := by
  intro R C
  pointwise [val_main_call1_v0, val_main_call1_v1, val_main_call1_cst, val_main_call1_v2, val_main_call1_v3, val_main_call1_cst_0, val_main_call1_v4, val_main_v37_2]
  rw [ref_t H R C, ← EReal.coe_neg, Ideal.exp_coe, ← EReal.coe_one, ← EReal.coe_add, EReal.coe_one, Data.logistic]
  rfl

theorem ref_sl : Is2 (val_main_v37_0 x0) d.sl := by
  intro R C
  pointwise [val_main_v37_0]
  rw [ref_t H R C, ref_sg H R C, ← EReal.coe_mul]
  rfl

/-- The derivative's second factor, σ(1 − σ). -/
theorem ref_ds : Is2 (val_main_v37_1 x0) fun c r h k => d.sg c r h k * (1 - d.sg c r h k) := by
  intro R C
  pointwise [val_main_v37_1, val_main_call1_v7, val_main_call1_v6, val_main_call1_cst_1]
  rw [ref_sg H R C, ← EReal.coe_one, ← EReal.coe_sub, ← EReal.coe_mul]

theorem ref_gt : Is2 (val_main_v42 x0 x1 x2 x3 x4) d.gt := by
  intro R C
  have e40 : val_main_v40 x0 x1 x2 x3 x4 (ix2 R C)
      = ((d.u (R / 128) (R % 128) (C / 64) (C % 64) * d.sp (R / 128) (R % 128) (C / 64) (C % 64)
        * d.y (R / 128) (R % 128) (C / 64) (C % 64) : ℝ) : EReal) := by
    pointwise [val_main_v40, val_main_v36, val_main_v35]
    rw [ref_u H, ref_sp H, ref_y H, ← EReal.coe_mul, ← EReal.coe_mul]
  pointwise [val_main_v42, val_main_call2_v1, val_main_call2_v2, val_main_call2_v0]
  rw [e40, ref_sg H, ref_ds H, ref_t H, ← EReal.coe_mul, ← EReal.coe_mul, ← EReal.coe_mul, ← EReal.coe_add]
  unfold Data.gt
  congr 1
  ring

/-- The gradient of the mixed product: the incoming gradient times the gate. -/
theorem ref_ys : Is3 (val_main_v43 x0 x1) fun c r h k => d.y c r h k * d.sl c r h k := by
  intro R h k
  pointwise [val_main_v43, val_main_v41]
  rw [ref_y H, ref_sl H, ← EReal.coe_mul]
  have h1 : ((h : ℕ) * 64 + k) / 64 = h := by omega
  have h2 : ((h : ℕ) * 64 + k) % 64 = k := by omega
  dsimp only
  rw [h1, h2]

theorem ref_gu : Is3 (val_main_v45 x0 x1 x2 x3 x4) d.gu := by
  intro R h k
  pointwise [val_main_v45]
  rw [ref_ys H R h k, ref_sp H R h k, ← EReal.coe_mul]
  unfold Data.gu
  congr 1
  ring

theorem ref_dsp : Is4 (val_main_v46 x0 x1) d.dsp := by
  intro c r h k
  have e : val_main_v46 x0 x1 (ix4 c r h k) = val_main_v3 x0 (ix3 ⟨c * 128 + r, by omega⟩ h k) * val_main_v43 x0 x1 (ix3 ⟨c * 128 + r, by omega⟩ h k) := by
    revert h
    pointwise [val_main_v46, val_main_v44]
  rw [e, ref_u H, ref_ys H, ← EReal.coe_mul]
  have h1 : ((c : ℕ) * 128 + r) / 128 = c := by omega
  have h2 : ((c : ℕ) * 128 + r) % 128 = r := by omega
  dsimp only
  rw [h1, h2]
  unfold Data.dsp
  congr 1
  ring

theorem ref_dvn : Is3 (val_main_v59 x0 x1 x3) d.dvn := by
  intro R h k
  pointwise [val_main_v59, val_main_v56, val_main_v55, val_main_v53]
  simp only [ref_dsp H, ref_M H, ← EReal.coe_mul, coe_sum]
  unfold Data.dvn
  simp only [mul_comm]

theorem ref_dz : Is3 (val_main_v64 x0 x1 x2 x3) d.dz := by
  intro R h k
  pointwise [val_main_v64, val_main_v63, val_main_v18]
  rw [ref_dvn H R h k, H.h2, ← EReal.coe_mul]
  rfl

omit H in
theorem ofBits_mhalf : Ideal.ofBits .f32 0xBF000000#32 = ((-1 / 2 : ℝ) : EReal) := by
  simp [Ideal.ofBits, Ideal.ieee, -EReal.coe_mul]; norm_num

/-- The derivative of the reciprocal square root, and the mean's. -/
theorem ref_q (R : Fin 4096) (h : Fin 4) : val_main_v74 x0 x1 x2 x3 (ix2 R h)
    = (((∑ k : Fin 64, d.v (R / 128) (R % 128) h k * d.dz (R / 128) (R % 128) h k)
      * (-1 / 2 * (d.rr (R / 128) (R % 128) h * (d.ms (R / 128) (R % 128) h)⁻¹)) * (1 / 64) : ℝ) : EReal) := by
  pointwise [val_main_v74, val_main_v73, val_main_v72, val_main_cst_10, val_main_cst_11, val_main_v71, val_main_v68, val_main_v67, val_main_cst_9, val_main_v66, val_main_v15, val_main_v14, val_main_cst_2, val_main_v13]
  simp only [Fin.sum_univ_one, ref_v H, ref_dz H, ref_r H, ref_ms H, ofBits_64, ofBits_mhalf]
  rw [Ideal.div_coe (by norm_num), Ideal.div_coe (d.ms_pos _ _ _).ne']
  simp only [← EReal.coe_mul, coe_sum, one_div]

theorem ref_gv : Is3 (val_main_v79 x0 x1 x2 x3) d.gv := by
  intro R h k
  pointwise [val_main_v79, val_main_v78, val_main_v77, val_main_v76, val_main_v75, val_main_v70, val_main_v69]
  rw [ref_v H R h k, ref_q H R h, ref_dz H R h k, ref_r H R h]
  simp only [← EReal.coe_mul, ← EReal.coe_add]
  congr 1
  unfold Data.gv Data.z
  have e : ∀ k : Fin 64, d.dz (R / 128) (R % 128) h k * (d.v (R / 128) (R % 128) h k * d.rr (R / 128) (R % 128) h)
    = d.v (R / 128) (R % 128) h k * d.dz (R / 128) (R % 128) h k * d.rr (R / 128) (R % 128) h := fun k => by ring
  simp only [e, ← Finset.sum_mul, ← d.rr_sq]
  ring

/-! ## The results -/

omit H in
theorem sitofp_zero : FloatOps.sitofp (F := Ideal) FTy.f32 0#32 = ((0 : ℝ) : EReal) := by
  show (((0#32 : BitVec 32).toInt : ℝ) : EReal) = _
  simp

theorem ref_0 (R : Fin 4096) (C : Fin 768) : val_main_v83 x0 x1 x2 x3 x4 (ix2 R C) = ((d.gP R C : ℝ) : EReal) := by
  have e81 : Is2 (val_main_v81 x0 x1 x2 x3 x4) d.gu := by
    intro R C
    pointwise [val_main_v81]
    exact ref_gu H _ _ _
  have e80 : Is2 (val_main_v80 x0 x1 x2 x3) d.gv := by
    intro R C
    pointwise [val_main_v80]
    exact ref_gv H _ _ _
  pointwise [val_main_v83, val_main_v82]
  unfold Data.gP
  by_cases h1 : (C : ℕ) < 256
  · rw [dif_pos h1, if_pos h1, e81]
  · rw [dif_neg h1, if_neg h1]
    by_cases h2 : (C : ℕ) < 512
    · rw [dif_pos (by omega), if_pos h2, e80]
      dsimp only
      rw [show ((C : ℕ) - 256) / 64 = C / 64 - 4 by omega, show ((C : ℕ) - 256) % 64 = C % 64 by omega]
    · rw [dif_neg (by omega), if_neg h2, ref_gt H]
      dsimp only
      rw [show ((C : ℕ) - 256 - 256) / 64 = C / 64 - 8 by omega, show ((C : ℕ) - 256 - 256) % 64 = C % 64 by omega]

omit H in
/-- A double sum over rows by chunk and row of the chunk. -/
theorem sum_rows (f : ℕ → ℕ → ℝ) : ∑ R : Fin 4096, f (R / 128) (R % 128) = ∑ n ∈ Finset.range 32, ∑ r : Fin 128, f n r := by
  have e := Fintype.sum_equiv (finProdFinEquiv (m := 32) (n := 128)).symm (fun R : Fin 4096 => f (R / 128) (R % 128)) (fun p => f p.1 p.2) fun R => rfl
  rw [e, Fintype.sum_prod_type, Finset.sum_range]

theorem ref_1 (a : Fin 4) (r s : Fin 128) : val_main_v58 x0 x1 x2 (ix3 a r s)
    = ((if (s : ℕ) ≤ r then ∑ n ∈ Finset.range 32, d.gWc n a r s else 0 : ℝ) : EReal) := by
  show val_main_v54 x0 x1 x2 (ix3 a r s) * val_main_v25 (F := Ideal) (ix3 a r s) = _
  have e : val_main_v54 x0 x1 x2 (ix3 a r s) = ((∑ n ∈ Finset.range 32, d.gWc n a r s : ℝ) : EReal) := by
    pointwise [val_main_v54, val_main_v53]
    simp only [ref_dsp H, ref_vn H, ← EReal.coe_mul, coe_sum]
    rw [Finset.sum_range]
    rfl
  rw [e, ref_tri, ← EReal.coe_mul]
  split <;> simp

theorem ref_gb (a : Fin 4) (r : Fin 128) : val_main_v52 x0 x1 (ix2 a r) = ((∑ n ∈ Finset.range 32, d.gBc n r a : ℝ) : EReal) := by
  have e47 : val_main_v47 x0 x1 (ix2 r a) = ((∑ n ∈ Finset.range 32, d.gBc n r a : ℝ) : EReal) := by
    refine (reduce_0_3 _ _ _ r a).trans ?_
    simp only [ref_dsp H, coe_sum]
    rw [Finset.sum_range]
    pointwise [val_main_cst_4]
    rfl
  have e49 : val_main_v49 x0 x1 (ix2 r a) = ((∑ n ∈ Finset.range 32, d.gBc n r a : ℝ) : EReal) := by
    refine (reduce_0_3 _ _ _ r a).trans ?_
    rw [← e47]
    pointwise [val_main_cst_5, val_main_v48]
    simp only [Fin.sum_univ_one]
  pointwise [val_main_v52, val_main_v51, val_main_v50, val_main_cst_6]
  simp only [Fin.sum_univ_one]
  exact e49

theorem ref_2 (q : Fin 8) (r : Fin 128) : val_main_v84 x0 x1 (ix2 q r)
    = ((if (q : ℕ) < 4 then ∑ n ∈ Finset.range 32, d.gBc n r q else 0 : ℝ) : EReal) := by
  pointwise [val_main_v84, val_main_call3_v0, val_main_c]
  by_cases hq : (q : ℕ) < 4
  · rw [dif_pos hq, if_pos hq, ref_gb H]
  · rw [dif_neg hq, if_neg hq]
    exact sitofp_zero

theorem ref_gg (a : Fin 4) (k : Fin 64) : val_main_v65 x0 x1 x3 (ix2 a k) = ((∑ n ∈ Finset.range 32, d.gGc n a k : ℝ) : EReal) := by
  have e : val_main_v65 x0 x1 x3 (ix2 a k) = ∑ R : Fin 4096, val_main_v17 x0 (ix3 R a k) * val_main_v59 x0 x1 x3 (ix3 R a k) := by
    pointwise [val_main_v65, val_main_cst_8, val_main_v62, val_main_v61, val_main_cst_7, val_main_v60]
    simp only [Fin.sum_univ_one]
  rw [e]
  simp only [ref_z H, ref_dvn H, ← EReal.coe_mul, coe_sum]
  congr 1
  refine (sum_rows fun n r => d.z n r a k * d.dvn n r a k).trans ?_
  unfold Data.gGc
  simp only [mul_comm]

theorem ref_3 (q : Fin 8) (l : Fin 128) (hl : (l : ℕ) < 64) : val_main_v85 x0 x1 x3 (ix2 q l)
    = ((if (q : ℕ) < 4 then ∑ n ∈ Finset.range 32, d.gGc n q l else 0 : ℝ) : EReal) := by
  pointwise [val_main_v85, val_main_call4_v0, val_main_c_12]
  by_cases hq : (q : ℕ) < 4
  · rw [dif_pos ⟨hq, hl⟩, if_pos hq, ref_gg H]
  · rw [dif_neg (fun h => hq h.1), if_neg hq]
    exact sitofp_zero

end Proof.Gmlp
-- ==== Proof.GmlpValue.lean ====
module

public import proofs.«01_k».proof.Defs
public import proofs.«01_k».proof.Proof.GmlpAcc
public import proofs.«01_k».proof.Proof.GmlpRef
public import proofs.«01_k».proof.Proof.Gen.ReferenceIdeal.Run
public import proofs.«01_k».proof.Proof.Gen.Pre_finite
public import proofs.«01_k».proof.Proof.Gen.On_written

/-!
  The gated MLP's gradient: at finite inputs the kernel and the reference end with equal results.
-/

@[expose] public section

noncomputable section

open Idealize.ShloMosaic Idealize.ShloMosaic.TcCoe Idealize.SL.Sem

namespace Proof.Gmlp

/-- An extended real whose absolute value compares below infinity is real. -/
theorem real_of_abs (x : EReal) (h : Ideal.cmp .olt (max x (-x)) (Ideal.ofBits .f32 0x7F800000#32) = 1#1) : x = ((x.toReal : ℝ) : EReal) := by
  have ht : Ideal.ofBits .f32 0x7F800000#32 = ⊤ := by
    unfold Ideal.ofBits Ideal.ieee
    dsimp only
    rw [if_pos (by decide), if_pos (by decide), if_neg (by decide)]
  rw [ht] at h
  induction x using EReal.rec with
  | bot => exact absurd h (by simp [Ideal.cmp])
  | top => exact absurd h (by simp [Ideal.cmp])
  | coe r => rfl

/-- The reals of five arrays: zero outside their bounds. -/
def dataOf (x0 : Vec Ideal ⟨2, ![4096, 3328]⟩ .f32) (x1 : Vec Ideal ⟨2, ![4096, 1024]⟩ .f32) (x2 : Vec Ideal ⟨2, ![4, 64]⟩ .f32)
    (x3 : Vec Ideal ⟨3, ![4, 128, 128]⟩ .f32) (x4 : Vec Ideal ⟨2, ![4, 128]⟩ .f32) : Data where
  P R C := if h : R < 4096 ∧ C < 3328 then (x0 (ix2 ⟨R, h.1⟩ ⟨C, h.2⟩) : EReal).toReal else 0
  D R C := if h : R < 4096 ∧ C < 1024 then (x1 (ix2 ⟨R, h.1⟩ ⟨C, h.2⟩) : EReal).toReal else 0
  g a k := if h : a < 4 ∧ k < 64 then (x2 (ix2 ⟨a, h.1⟩ ⟨k, h.2⟩) : EReal).toReal else 0
  W a r s := if h : a < 4 ∧ r < 128 ∧ s < 128 then (x3 (ix3 ⟨a, h.1⟩ ⟨r, h.2.1⟩ ⟨s, h.2.2⟩) : EReal).toReal else 0
  B a r := if h : a < 4 ∧ r < 128 then (x4 (ix2 ⟨a, h.1⟩ ⟨r, h.2⟩) : EReal).toReal else 0

/-- Arrays whose precondition array is all ones hold the reals of `dataOf`. -/
theorem rsrc_of_finite (x0 : Vec Ideal ⟨2, ![4096, 3328]⟩ .f32) (x1 : Vec Ideal ⟨2, ![4096, 1024]⟩ .f32) (x2 : Vec Ideal ⟨2, ![4, 64]⟩ .f32)
    (x3 : Vec Ideal ⟨3, ![4, 128, 128]⟩ .f32) (x4 : Vec Ideal ⟨2, ![4, 128]⟩ .f32)
    (f0 : (Cert.Pre_finite.fn (F := Ideal) x0 x1 x2 x3 x4).1 = fun _ => 1#1)
    (f1 : (Cert.Pre_finite.fn (F := Ideal) x0 x1 x2 x3 x4).2.1 = fun _ => 1#1)
    (f2 : (Cert.Pre_finite.fn (F := Ideal) x0 x1 x2 x3 x4).2.2.1 = fun _ => 1#1)
    (f3 : (Cert.Pre_finite.fn (F := Ideal) x0 x1 x2 x3 x4).2.2.2.1 = fun _ => 1#1)
    (f4 : (Cert.Pre_finite.fn (F := Ideal) x0 x1 x2 x3 x4).2.2.2.2 = fun _ => 1#1) :
    RSrc (dataOf x0 x1 x2 x3 x4) x0 x1 x2 x3 x4 := by
  refine ⟨fun R C hC => ?_, fun R C hC => ?_, fun a k => ?_, fun a r s => ?_, fun a r => ?_⟩
  · simp only [dataOf]
    rw [dif_pos ⟨R.2, C.2⟩]
    have q := congrFun f0 (ix2 R ⟨C, hC⟩)
    have e : (Cert.Pre_finite.fn (F := Ideal) x0 x1 x2 x3 x4).1 (ix2 R ⟨C, hC⟩)
        = Ideal.cmp .olt (max (x0 (ix2 R C)) (-(x0 (ix2 R C)))) (Ideal.ofBits .f32 0x7F800000#32) := by
      pointwise [Cert.Pre_finite.fn]
      rfl
    exact real_of_abs _ (e.symm.trans q)
  · simp only [dataOf]
    rw [dif_pos ⟨R.2, C.2⟩]
    have q := congrFun f1 (ix2 R ⟨C, hC⟩)
    have e : (Cert.Pre_finite.fn (F := Ideal) x0 x1 x2 x3 x4).2.1 (ix2 R ⟨C, hC⟩)
        = Ideal.cmp .olt (max (x1 (ix2 R C)) (-(x1 (ix2 R C)))) (Ideal.ofBits .f32 0x7F800000#32) := by
      pointwise [Cert.Pre_finite.fn]
      rfl
    exact real_of_abs _ (e.symm.trans q)
  · simp only [dataOf]
    rw [dif_pos ⟨a.2, k.2⟩]
    exact real_of_abs _ (congrFun f2 (ix2 a k))
  · simp only [dataOf]
    rw [dif_pos ⟨a.2, r.2, s.2⟩]
    exact real_of_abs _ (congrFun f3 (ix3 a r s))
  · simp only [dataOf]
    rw [dif_pos ⟨a.2, r.2⟩]
    exact real_of_abs _ (congrFun f4 (ix2 a r))

/-- Where the mask of the gain gradient is one, the lane is below 64. -/
theorem lane_of_written (x0 : Vec Ideal ⟨2, ![4096, 3328]⟩ .f32) (x1 : Vec Ideal ⟨2, ![4096, 1024]⟩ .f32) (x2 : Vec Ideal ⟨2, ![4, 64]⟩ .f32)
    (x3 : Vec Ideal ⟨3, ![4, 128, 128]⟩ .f32) (x4 : Vec Ideal ⟨2, ![4, 128]⟩ .f32) (q : Fin 8) (l : Fin 128)
    (h : (Cert.On_written.fn (F := Ideal) x0 x1 x2 x3 x4).2.2.2 (ix2 q l) = 1#1) : (l : ℕ) < 64 := by
  have e : (Cert.On_written.fn (F := Ideal) x0 x1 x2 x3 x4).2.2.2 (ix2 q l) = Scalar.cmpi .slt (BitVec.ofNat 32 l) 64#32 := rfl
  rw [e] at h
  clear e
  revert h; revert l
  decide +kernel

/-- The algebraic claim of the gated MLP's gradient. -/
theorem algebraic : Cert.algebraic_KernelIdeal_ReferenceIdeal_on_written_pre_finite := by
  intro m g m' g' hpre hargs
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, fun c => (Cert.KernelIdeal.Gen.dats m 0 c).arrAt 8 Cert.KernelIdeal.cfg0.N, ?_, ?_⟩
  · refine (θ_run _ _ _).mono (fun r h c => ?_) (Cert.KernelIdeal.Value.run_blocks m g)
    obtain ⟨h5, h6, h7, h8, hk⟩ := h c
    exact ⟨fun i _ => congrFun h5 i, fun i _ => congrFun h6 i, fun i _ => congrFun h7 i, fun i _ => congrFun h8 i, hk⟩
  · refine (θ_run _ _ _).mono (fun r h c => ?_) (Cert.ReferenceIdeal.Value.run m' g')
    obtain ⟨h5, h6, h7, h8, hk⟩ := h c
    obtain ⟨a0, a1, a2, a3, a4⟩ := hargs c
    obtain ⟨f0, f1, f2, f3, f4⟩ := hpre c
    have S := rsrc_of_finite _ _ _ _ _ f0 f1 f2 f3 f4
    have K := res (m := m) (c := c) ⟨S.h0, S.h1, S.h2, S.h3, S.h4⟩
    refine ⟨fun i _ => ?_, fun i _ => ?_, fun i _ => ?_, fun i hi => ?_, hk⟩
    · rw [h5, Cert.ReferenceIdeal.Read.val_main_v83_eq, a0, a1, a2, a3, a4]
      rw [show i = ix2 (i 0) (i 1) from by funext a; fin_cases a <;> rfl]
      exact (ref_0 S (i 0) (i 1)).trans (K.h5 (i 0) (i 1)).symm
    · rw [h6.trans (Cert.ReferenceIdeal.Read.val_main_v58_eq _ _ _), a0, a1, a2]
      rw [show i = ix3 (i 0) (i 1) (i 2) from by funext a; fin_cases a <;> rfl]
      exact (ref_1 S (i 0) (i 1) (i 2)).trans (K.h6 (i 0) (i 1) (i 2)).symm
    · rw [h7.trans (Cert.ReferenceIdeal.Read.val_main_v84_eq _ _), a0, a1]
      rw [show i = ix2 (i 0) (i 1) from by funext a; fin_cases a <;> rfl]
      exact (ref_2 S (i 0) (i 1)).trans (K.h7 (i 0) (i 1)).symm
    · rw [show i = ix2 (i 0) (i 1) from by funext a; fin_cases a <;> rfl] at hi ⊢
      have hl := lane_of_written _ _ _ _ _ _ _ hi
      rw [h8.trans (Cert.ReferenceIdeal.Read.val_main_v85_eq _ _ _), a0, a1, a3]
      exact (ref_3 S (i 0) (i 1) hl).trans (K.h8 (i 0) (i 1) hl).symm

end Proof.Gmlp

end

end
-- ==== Proof.ProjBody.lean ====
module

public import proofs.«01_k».proof.Proof.Gen.Kernel2Ideal.Frame
public import proofs.«01_k».proof.Proof.Gen.Kernel2Ideal.Skeleton
public import Idealize.ShloMosaic.Lib.Claim
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Proof.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! # The body of the projections' backward kernel, point by point

The kernel walks over eight blocks of 512 rows.  At the first block it fetches the transposed weights from
their array into a scratch and clears its accumulators; at every block it adds the block's terms to the
gradient of the weights (kept in a scratch) and of the gain; at the last block it copies the seven row groups
of the accumulated gradient out, all seven copies in flight at once, each counted on its own semaphore, into
disjoint rows of the result.  The three theorems below are the body's triples at the first, a middle and the
last block, over any float values. -/

variable {F : FTy → Type} [FloatOps F]

local notation "𝕄" => MT nD τ sig Unit (Elt F) ℕ (Pipeline.UD sig nD τ) ℕ

/-- The on-chip buffers of one point: the ten staged inputs, the two staged results, the two scratches. -/
structure Bufs where
  x : Memref sig .tc .vmem S512x1024 .f32
  dy : Memref sig .tc .vmem S512x1024 .f32
  g : Memref sig .tc .vmem S1x1024 .f32
  p0 : Memref sig .tc .vmem S512x768 .bf16
  p1 : Memref sig .tc .vmem S512x512 .bf16
  p2 : Memref sig .tc .vmem S512x512 .bf16
  p3 : Memref sig .tc .vmem S512x512 .bf16
  p4 : Memref sig .tc .vmem S512x512 .bf16
  p5 : Memref sig .tc .vmem S512x256 .bf16
  p6 : Memref sig .tc .vmem S512x256 .bf16
  gx : Memref sig .tc .vmem S512x1024 .f32
  gg : Memref sig .tc .vmem S8x128 .f32
  wt : Memref sig .tc .vmem S3328x1024 .bf16
  acc : Memref sig .tc .vmem S3328x1024 .f32
  hx : x.IsWhole
  hdy : dy.IsWhole
  hg : g.IsWhole
  hp0 : p0.IsWhole
  hp1 : p1.IsWhole
  hp2 : p2.IsWhole
  hp3 : p3.IsWhole
  hp4 : p4.IsWhole
  hp5 : p5.IsWhole
  hp6 : p6.IsWhole
  hgx : gx.IsWhole
  hgg : gg.IsWhole
  hwt : wt.IsWhole
  hacc : acc.IsWhole

/-- The contents of the ten staged inputs at one point. -/
structure Ins (F : FTy → Type) where
  x : Vec F S512x1024 .f32
  dy : Vec F S512x1024 .f32
  g : Vec F S1x1024 .f32
  p0 : Vec F S512x768 .bf16
  p1 : Vec F S512x512 .bf16
  p2 : Vec F S512x512 .bf16
  p3 : Vec F S512x512 .bf16
  p4 : Vec F S512x512 .bf16
  p5 : Vec F S512x256 .bf16
  p6 : Vec F S512x256 .bf16

/-- What a point leaves: the stores into the two results and the two scratches, and the contents of the
gradient's array. -/
structure Left (F : FTy → Type) (c : Dev nD) where
  gx : List (View.Piece (Elt F) S512x1024 .f32)
  gg : List (View.Piece (Elt F) S8x128 .f32)
  wt : List (View.Piece (Elt F) S3328x1024 .bf16)
  acc : List (View.Piece (Elt F) S3328x1024 .f32)
  gwt : Buf (Elt F) ((Memref.whole main_v16_1 : Memref sig .tc .hbm S3328x1024 .f32).view.loc (c : Thread nD τ))

/-- The array of the transposed weights. -/
abbrev hbWt : Memref sig .tc .hbm S3328x1024 .bf16 := Memref.whole main_v15
/-- The array of the weights' gradient. -/
abbrev hbGwt : Memref sig .tc .hbm S3328x1024 .f32 := Memref.whole main_v16_1
/-- The contents of an array left in place, on core `c`. -/
abbrev HbBuf (F : FTy → Type) (c : Dev nD) {sp : Space} {S : Shape} {e : EltTy} (M : Memref sig .tc sp S e) : Type :=
  Buf (Elt F) (M.view.loc (c : Thread nD τ))
/-- An array left in place, held whole at `f`. -/
abbrev hbPt (c : Dev nD) {sp : Space} {S : Shape} {e : EltTy} (M : Memref sig .tc sp S e) (f : HbBuf F c M) : sProp 𝕄 :=
  M.view.loc (c : Thread nD τ) ↦{fullShare} f

/-- The kernel's own eight semaphores at zero: the fetch's and the seven copies'. -/
abbrev semsZero (c : Dev nD) : sProp 𝕄 :=
  iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0)

/-- The ten staged inputs held at `x`. -/
abbrev insHeld (c : Dev nD) (B : Bufs) (x : Ins F) : sProp 𝕄 :=
  iprop(owns (c : Thread nD τ) B.x fullShare x.x ∗ owns (c : Thread nD τ) B.dy fullShare x.dy ∗ owns (c : Thread nD τ) B.g fullShare x.g ∗ owns (c : Thread nD τ) B.p0 fullShare x.p0 ∗ owns (c : Thread nD τ) B.p1 fullShare x.p1 ∗ owns (c : Thread nD τ) B.p2 fullShare x.p2 ∗ owns (c : Thread nD τ) B.p3 fullShare x.p3 ∗ owns (c : Thread nD τ) B.p4 fullShare x.p4 ∗ owns (c : Thread nD τ) B.p5 fullShare x.p5 ∗ owns (c : Thread nD τ) B.p6 fullShare x.p6)

/-- The body at grid position `i` on the buffers `B`. -/
abbrev body (i : grid0.Coords) (B : Bufs) : Prog (TpuEff nD τ sig (Elt F) Λ₀ .tc) PUnit :=
  cc0_proj_bwd i B.x B.hx B.dy B.hdy B.g B.hg hbWt (Memref.isWhole_whole _)
    B.p0 B.hp0 B.p1 B.hp1 B.p2 B.hp2 B.p3 B.hp3 B.p4 B.hp4 B.p5 B.hp5 B.p6 B.hp6
    B.gx B.hgx hbGwt (Memref.isWhole_whole _) B.gg B.hgg B.wt B.hwt B.acc B.hacc cc0_scratch2 cc0_scratch3

/-- The test of the first block. -/
abbrev isFirst (i : grid0.Coords) : Prop := (Scalar.cmpi .ne (Scalar.extui (Scalar.cmpi .eq (BitVec.ofNat 32 (i 0).val) 0#32)) 0#32) = 1#1
/-- The test of the last block. -/
abbrev isLast (i : grid0.Coords) : Prop := (Scalar.cmpi .ne (Scalar.extui (Scalar.cmpi .eq (BitVec.ofNat 32 (i 0).val) 7#32)) 0#32) = 1#1

set_option maxHeartbeats 2000000 in set_option sl_exec.dmaWindow true in set_option sl_exec.dmaWindowSet true in
/-- The body at the first block: it fetches the weights, clears the accumulators and adds the block's terms. -/
def runA (c : Dev nD) (i : grid0.Coords) (B : Bufs) (h0 : isFirst i) (h7 : ¬isLast i) (x : Ins F)
    (fw : HbBuf F c hbWt) (fg : HbBuf F c hbGwt) :
    { l : Left F c //
      ∀ (W : Waits sig Unit) (K : PUnit → sProp 𝕄),
        iprop(insHeld c B x ∗ (∃ d, owns (c : Thread nD τ) B.gx fullShare d) ∗ (∃ d, owns (c : Thread nD τ) B.gg fullShare d) ∗ (∃ d, owns (c : Thread nD τ) B.wt fullShare d) ∗ (∃ d, owns (c : Thread nD τ) B.acc fullShare d)
            ∗ semsZero c ∗ hbPt c hbWt fw ∗ hbPt c hbGwt fg ∗ owes (c : Thread nD τ) 0 W
            ∗ (iprop(insHeld c B x ∗ (∃ f, B.gx.view.loc (c : Thread nD τ) ↦[B.gx.view.set]{fullShare} B.gx.view.writes (Elt F) f l.gx) ∗ (∃ f, B.gg.view.loc (c : Thread nD τ) ↦[B.gg.view.set]{fullShare} B.gg.view.writes (Elt F) f l.gg) ∗ (∃ f, B.wt.view.loc (c : Thread nD τ) ↦[B.wt.view.set]{fullShare} B.wt.view.writes (Elt F) f l.wt) ∗ (∃ f, B.acc.view.loc (c : Thread nD τ) ↦[B.acc.view.set]{fullShare} B.acc.view.writes (Elt F) f l.acc)
                ∗ semsZero c ∗ hbPt c hbWt fw ∗ hbPt c hbGwt l.gwt ∗ (∃ W', owes (c : Thread nD τ) 0 W')) -∗ K ⟨⟩))
          ⊢ wp frame (wpE (defs₀ (F := F)) Variants.none c none) Set.univ (body i B) K } := by
  refine ⟨⟨?gx, ?gg, ?wt, ?acc, ?gwt⟩, fun W K => ?run⟩
  case run =>
    unfold body insHeld semsZero
    dsimp only
    simp only [cc0_proj_bwd_eq_skeleton]; unfold cc0_proj_bwd_skel
    simp only [k0_part7_eq_skeleton, k0_part6_eq_skeleton, k0_part1_eq_skeleton, k0_part2_eq_skeleton, k0_part3_eq_skeleton, k0_part4_eq_skeleton, k0_part5_eq_skeleton]
    unfold owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, ⟨%d10, %f10, -, H10⟩, ⟨%d11, %f11, -, H11⟩, ⟨%d12, %f12, -, H12⟩, ⟨%d13, %f13, -, H13⟩, ⟨Q0, Q1, Q2, Q3, Q4, Q5, Q6, Q7⟩, A0, A1, HW, Hk⟩
    obtain rfl := B.hx.eq_unread e0; obtain rfl := B.hdy.eq_unread e1; obtain rfl := B.hg.eq_unread e2; obtain rfl := B.hp0.eq_unread e3; obtain rfl := B.hp1.eq_unread e4; obtain rfl := B.hp2.eq_unread e5; obtain rfl := B.hp3.eq_unread e6; obtain rfl := B.hp4.eq_unread e7; obtain rfl := B.hp5.eq_unread e8; obtain rfl := B.hp6.eq_unread e9
    sl_exec (disch := first | sl_exact h0 | sl_exact h7)
    sl_step
    iapply Hk
    isplitl [H0 H1 H2 H3 H4 H5 H6 H7 H8 H9]
    · isplitl [H0]
      · iexists _; isplitr; · ipureintro; exact B.hx.read_unread _
        iexact H0
      isplitl [H1]
      · iexists _; isplitr; · ipureintro; exact B.hdy.read_unread _
        iexact H1
      isplitl [H2]
      · iexists _; isplitr; · ipureintro; exact B.hg.read_unread _
        iexact H2
      isplitl [H3]
      · iexists _; isplitr; · ipureintro; exact B.hp0.read_unread _
        iexact H3
      isplitl [H4]
      · iexists _; isplitr; · ipureintro; exact B.hp1.read_unread _
        iexact H4
      isplitl [H5]
      · iexists _; isplitr; · ipureintro; exact B.hp2.read_unread _
        iexact H5
      isplitl [H6]
      · iexists _; isplitr; · ipureintro; exact B.hp3.read_unread _
        iexact H6
      isplitl [H7]
      · iexists _; isplitr; · ipureintro; exact B.hp4.read_unread _
        iexact H7
      isplitl [H8]
      · iexists _; isplitr; · ipureintro; exact B.hp5.read_unread _
        iexact H8
      iexists _; isplitr; · ipureintro; exact B.hp6.read_unread _
      iexact H9
    isplitl [H10]; · iexists _; iexact H10
    isplitl [H11]; · iexists _; iexact H11
    isplitl [H12]; · iexists _; iexact H12
    isplitl [H13]; · iexists _; iexact H13
    isplitl [Q0 Q1 Q2 Q3 Q4 Q5 Q6 Q7]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      iexact Q7
    isplitl [A0]; · iexact A0
    isplitl [A1]; · iexact A1
    iexists _; iexact HW

set_option maxHeartbeats 2000000 in set_option sl_exec.dmaWindow true in set_option sl_exec.dmaWindowSet true in
/-- The body at a block that is neither the first nor the last: it adds the block's terms. -/
def runB (c : Dev nD) (i : grid0.Coords) (B : Bufs) (h0 : ¬isFirst i) (h7 : ¬isLast i) (x : Ins F)
    (gg : Vec F S8x128 .f32) (wt : Vec F S3328x1024 .bf16) (acc : Vec F S3328x1024 .f32)
    (fw : HbBuf F c hbWt) (fg : HbBuf F c hbGwt) :
    { l : Left F c //
      ∀ (W : Waits sig Unit) (K : PUnit → sProp 𝕄),
        iprop(insHeld c B x ∗ (∃ d, owns (c : Thread nD τ) B.gx fullShare d) ∗ owns (c : Thread nD τ) B.gg fullShare gg ∗ owns (c : Thread nD τ) B.wt fullShare wt ∗ owns (c : Thread nD τ) B.acc fullShare acc
            ∗ semsZero c ∗ hbPt c hbWt fw ∗ hbPt c hbGwt fg ∗ owes (c : Thread nD τ) 0 W
            ∗ (iprop(insHeld c B x ∗ (∃ f, B.gx.view.loc (c : Thread nD τ) ↦[B.gx.view.set]{fullShare} B.gx.view.writes (Elt F) f l.gx) ∗ (∃ f, B.gg.view.loc (c : Thread nD τ) ↦[B.gg.view.set]{fullShare} B.gg.view.writes (Elt F) f l.gg) ∗ owns (c : Thread nD τ) B.wt fullShare wt ∗ (∃ f, B.acc.view.loc (c : Thread nD τ) ↦[B.acc.view.set]{fullShare} B.acc.view.writes (Elt F) f l.acc)
                ∗ semsZero c ∗ hbPt c hbWt fw ∗ hbPt c hbGwt l.gwt ∗ (∃ W', owes (c : Thread nD τ) 0 W')) -∗ K ⟨⟩))
          ⊢ wp frame (wpE (defs₀ (F := F)) Variants.none c none) Set.univ (body i B) K } := by
  refine ⟨⟨?gx, ?gg, [], ?acc, ?gwt⟩, fun W K => ?run⟩
  case run =>
    unfold body insHeld semsZero
    dsimp only
    simp only [cc0_proj_bwd_eq_skeleton]; unfold cc0_proj_bwd_skel
    simp only [k0_part7_eq_skeleton, k0_part6_eq_skeleton, k0_part1_eq_skeleton, k0_part2_eq_skeleton, k0_part3_eq_skeleton, k0_part4_eq_skeleton, k0_part5_eq_skeleton]
    unfold owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, ⟨%d10, %f10, -, H10⟩, ⟨%f11, %e11, H11⟩, ⟨%f12, %e12, H12⟩, ⟨%f13, %e13, H13⟩, ⟨Q0, Q1, Q2, Q3, Q4, Q5, Q6, Q7⟩, A0, A1, HW, Hk⟩
    obtain rfl := B.hx.eq_unread e0; obtain rfl := B.hdy.eq_unread e1; obtain rfl := B.hg.eq_unread e2; obtain rfl := B.hp0.eq_unread e3; obtain rfl := B.hp1.eq_unread e4; obtain rfl := B.hp2.eq_unread e5; obtain rfl := B.hp3.eq_unread e6; obtain rfl := B.hp4.eq_unread e7; obtain rfl := B.hp5.eq_unread e8; obtain rfl := B.hp6.eq_unread e9; obtain rfl := B.hgg.eq_unread e11; obtain rfl := B.hwt.eq_unread e12; obtain rfl := B.hacc.eq_unread e13
    sl_exec (disch := first | sl_exact h0 | sl_exact h7)
    sl_step
    iapply Hk
    isplitl [H0 H1 H2 H3 H4 H5 H6 H7 H8 H9]
    · isplitl [H0]
      · iexists _; isplitr; · ipureintro; exact B.hx.read_unread _
        iexact H0
      isplitl [H1]
      · iexists _; isplitr; · ipureintro; exact B.hdy.read_unread _
        iexact H1
      isplitl [H2]
      · iexists _; isplitr; · ipureintro; exact B.hg.read_unread _
        iexact H2
      isplitl [H3]
      · iexists _; isplitr; · ipureintro; exact B.hp0.read_unread _
        iexact H3
      isplitl [H4]
      · iexists _; isplitr; · ipureintro; exact B.hp1.read_unread _
        iexact H4
      isplitl [H5]
      · iexists _; isplitr; · ipureintro; exact B.hp2.read_unread _
        iexact H5
      isplitl [H6]
      · iexists _; isplitr; · ipureintro; exact B.hp3.read_unread _
        iexact H6
      isplitl [H7]
      · iexists _; isplitr; · ipureintro; exact B.hp4.read_unread _
        iexact H7
      isplitl [H8]
      · iexists _; isplitr; · ipureintro; exact B.hp5.read_unread _
        iexact H8
      iexists _; isplitr; · ipureintro; exact B.hp6.read_unread _
      iexact H9
    isplitl [H10]; · iexists _; iexact H10
    isplitl [H11]; · iexists _; iexact H11
    isplitl [H12]
    · iexists _; isplitr; · ipureintro; exact B.hwt.read_unread _
      iexact H12
    isplitl [H13]; · iexists _; iexact H13
    isplitl [Q0 Q1 Q2 Q3 Q4 Q5 Q6 Q7]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      iexact Q7
    isplitl [A0]; · iexact A0
    isplitl [A1]; · iexact A1
    iexists _; iexact HW

set_option maxHeartbeats 2000000 in set_option sl_exec.dmaWindow true in set_option sl_exec.dmaWindowSet true in
/-- The body at the last block: it adds the block's terms and copies the seven row groups of the weights' gradient out. -/
def runC (c : Dev nD) (i : grid0.Coords) (B : Bufs) (h0 : ¬isFirst i) (h7 : isLast i) (x : Ins F)
    (gg : Vec F S8x128 .f32) (wt : Vec F S3328x1024 .bf16) (acc : Vec F S3328x1024 .f32)
    (fw : HbBuf F c hbWt) (fg : HbBuf F c hbGwt) :
    { l : Left F c //
      ∀ (W : Waits sig Unit) (K : PUnit → sProp 𝕄),
        iprop(insHeld c B x ∗ (∃ d, owns (c : Thread nD τ) B.gx fullShare d) ∗ owns (c : Thread nD τ) B.gg fullShare gg ∗ owns (c : Thread nD τ) B.wt fullShare wt ∗ owns (c : Thread nD τ) B.acc fullShare acc
            ∗ semsZero c ∗ hbPt c hbWt fw ∗ hbPt c hbGwt fg ∗ owes (c : Thread nD τ) 0 W
            ∗ (iprop(insHeld c B x ∗ (∃ f, B.gx.view.loc (c : Thread nD τ) ↦[B.gx.view.set]{fullShare} B.gx.view.writes (Elt F) f l.gx) ∗ (∃ f, B.gg.view.loc (c : Thread nD τ) ↦[B.gg.view.set]{fullShare} B.gg.view.writes (Elt F) f l.gg) ∗ owns (c : Thread nD τ) B.wt fullShare wt ∗ (∃ f, B.acc.view.loc (c : Thread nD τ) ↦[B.acc.view.set]{fullShare} B.acc.view.writes (Elt F) f l.acc)
                ∗ semsZero c ∗ hbPt c hbWt fw ∗ hbPt c hbGwt l.gwt ∗ (∃ W', owes (c : Thread nD τ) 0 W')) -∗ K ⟨⟩))
          ⊢ wp frame (wpE (defs₀ (F := F)) Variants.none c none) Set.univ (body i B) K } := by
  refine ⟨⟨?gx, ?gg, [], ?acc, ?gwt⟩, fun W K => ?run⟩
  case run =>
    unfold body insHeld semsZero
    dsimp only
    simp only [cc0_proj_bwd_eq_skeleton]; unfold cc0_proj_bwd_skel
    simp only [k0_part7_eq_skeleton, k0_part6_eq_skeleton, k0_part1_eq_skeleton, k0_part2_eq_skeleton, k0_part3_eq_skeleton, k0_part4_eq_skeleton, k0_part5_eq_skeleton]
    unfold owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, ⟨%d10, %f10, -, H10⟩, ⟨%f11, %e11, H11⟩, ⟨%f12, %e12, H12⟩, ⟨%f13, %e13, H13⟩, ⟨Q0, Q1, Q2, Q3, Q4, Q5, Q6, Q7⟩, A0, A1, HW, Hk⟩
    obtain rfl := B.hx.eq_unread e0; obtain rfl := B.hdy.eq_unread e1; obtain rfl := B.hg.eq_unread e2; obtain rfl := B.hp0.eq_unread e3; obtain rfl := B.hp1.eq_unread e4; obtain rfl := B.hp2.eq_unread e5; obtain rfl := B.hp3.eq_unread e6; obtain rfl := B.hp4.eq_unread e7; obtain rfl := B.hp5.eq_unread e8; obtain rfl := B.hp6.eq_unread e9; obtain rfl := B.hgg.eq_unread e11; obtain rfl := B.hwt.eq_unread e12; obtain rfl := B.hacc.eq_unread e13
    sl_exec (disch := first | sl_exact h0 | sl_exact h7)
    sl_step
    iapply Hk
    isplitl [H0 H1 H2 H3 H4 H5 H6 H7 H8 H9]
    · isplitl [H0]
      · iexists _; isplitr; · ipureintro; exact B.hx.read_unread _
        iexact H0
      isplitl [H1]
      · iexists _; isplitr; · ipureintro; exact B.hdy.read_unread _
        iexact H1
      isplitl [H2]
      · iexists _; isplitr; · ipureintro; exact B.hg.read_unread _
        iexact H2
      isplitl [H3]
      · iexists _; isplitr; · ipureintro; exact B.hp0.read_unread _
        iexact H3
      isplitl [H4]
      · iexists _; isplitr; · ipureintro; exact B.hp1.read_unread _
        iexact H4
      isplitl [H5]
      · iexists _; isplitr; · ipureintro; exact B.hp2.read_unread _
        iexact H5
      isplitl [H6]
      · iexists _; isplitr; · ipureintro; exact B.hp3.read_unread _
        iexact H6
      isplitl [H7]
      · iexists _; isplitr; · ipureintro; exact B.hp4.read_unread _
        iexact H7
      isplitl [H8]
      · iexists _; isplitr; · ipureintro; exact B.hp5.read_unread _
        iexact H8
      iexists _; isplitr; · ipureintro; exact B.hp6.read_unread _
      iexact H9
    isplitl [H10]; · iexists _; iexact H10
    isplitl [H11]; · iexists _; iexact H11
    isplitl [H12]
    · iexists _; isplitr; · ipureintro; exact B.hwt.read_unread _
      iexact H12
    isplitl [H13]; · iexists _; iexact H13
    isplitl [Q0 Q1 Q2 Q3 Q4 Q5 Q6 Q7]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      iexact Q7
    isplitl [A0]; · iexact A0
    isplitl [A1]; · iexact A1
    iexists _; iexact HW

end Proof.Proj

end
-- ==== Proof.ProjRun.lean ====
module

public import proofs.«01_k».proof.Proof.ProjBody

@[expose] public section

set_option maxRecDepth 16384

noncomputable section

namespace Proof.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The run of the projections' backward kernel

The contents of the kernel's buffers after each of the eight blocks, the invariant between two blocks, and the
run of the whole program, over any float values: every execution ends with the arguments unchanged, every
semaphore at zero, and the three results at the contents stated here. -/

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first block is block 0. -/
theorem isFirst_iff (t : Fin cfg0.N) : isFirst (grid0.coords t) ↔ t.val = 0 := by
  have ht : t.val < 8 := Nat.lt_of_lt_of_eq t.isLt N_0
  have e : (grid0.coords t 0).val = t.val / 1 % 8 := Pipeline.Grid.coords_val t 0 (by decide) rfl
  have h : isFirst (grid0.coords t) ↔ t.val % 8 = 0 := by simp only [isFirst, e]; word_cmp
  rw [h]; omega

/-- The last block is block 7. -/
theorem isLast_iff (t : Fin cfg0.N) : isLast (grid0.coords t) ↔ t.val = 7 := by
  have ht : t.val < 8 := Nat.lt_of_lt_of_eq t.isLt N_0
  have e : (grid0.coords t 0).val = t.val / 1 % 8 := Pipeline.Grid.coords_val t 0 (by decide) rfl
  have h : isLast (grid0.coords t) ↔ t.val % 8 = 7 := by simp only [isLast, e]; word_cmp
  rw [h]; omega

/-! ## The contents after each block -/

/-- The scratch of the transposed weights. -/
abbrev scWt : Memref sig .tc .vmem S3328x1024 .bf16 := Memref.whole cc0_scratch0
/-- The scratch of the accumulated gradient. -/
abbrev scAcc : Memref sig .tc .vmem S3328x1024 .f32 := Memref.whole cc0_scratch1

/-- The staging buffer of window 0 at block `t`. -/
abbrev stg0 (t : Fin cfg0.N) : Memref sig .tc .vmem S512x1024 .f32 := win0_0.stage (cfg0.slots t 0)
/-- The staging buffer of window 1 at block `t`. -/
abbrev stg1 (t : Fin cfg0.N) : Memref sig .tc .vmem S512x1024 .f32 := win0_1.stage (cfg0.slots t 1)
/-- The staging buffer of window 2 at block `t`. -/
abbrev stg2 (t : Fin cfg0.N) : Memref sig .tc .vmem S1x1024 .f32 := win0_2.stage (cfg0.slots t 2)
/-- The staging buffer of window 3 at block `t`. -/
abbrev stg3 (t : Fin cfg0.N) : Memref sig .tc .vmem S512x768 .bf16 := win0_3.stage (cfg0.slots t 3)
/-- The staging buffer of window 4 at block `t`. -/
abbrev stg4 (t : Fin cfg0.N) : Memref sig .tc .vmem S512x512 .bf16 := win0_4.stage (cfg0.slots t 4)
/-- The staging buffer of window 5 at block `t`. -/
abbrev stg5 (t : Fin cfg0.N) : Memref sig .tc .vmem S512x512 .bf16 := win0_5.stage (cfg0.slots t 5)
/-- The staging buffer of window 6 at block `t`. -/
abbrev stg6 (t : Fin cfg0.N) : Memref sig .tc .vmem S512x512 .bf16 := win0_6.stage (cfg0.slots t 6)
/-- The staging buffer of window 7 at block `t`. -/
abbrev stg7 (t : Fin cfg0.N) : Memref sig .tc .vmem S512x512 .bf16 := win0_7.stage (cfg0.slots t 7)
/-- The staging buffer of window 8 at block `t`. -/
abbrev stg8 (t : Fin cfg0.N) : Memref sig .tc .vmem S512x256 .bf16 := win0_8.stage (cfg0.slots t 8)
/-- The staging buffer of window 9 at block `t`. -/
abbrev stg9 (t : Fin cfg0.N) : Memref sig .tc .vmem S512x256 .bf16 := win0_9.stage (cfg0.slots t 9)
/-- The staging buffer of window 10 at block `t`. -/
abbrev stg10 (t : Fin cfg0.N) : Memref sig .tc .vmem S512x1024 .f32 := win0_10.stage (cfg0.slots t 10)
/-- The staging buffer of window 11 at block `t`. -/
abbrev stg11 (t : Fin cfg0.N) : Memref sig .tc .vmem S8x128 .f32 := win0_11.stage (cfg0.slots t 11)

/-- The buffers of block `t`. -/
abbrev bufs (t : Fin cfg0.N) : Bufs where
  x := stg0 t
  dy := stg1 t
  g := stg2 t
  p0 := stg3 t
  p1 := stg4 t
  p2 := stg5 t
  p3 := stg6 t
  p4 := stg7 t
  p5 := stg8 t
  p6 := stg9 t
  gx := stg10 t
  gg := stg11 t
  wt := scWt
  acc := scAcc
  hx := hstage0_0 ((cfg0.slots t 0).cast nbuf0_0)
  hdy := hstage0_1 ((cfg0.slots t 1).cast nbuf0_1)
  hg := hstage0_2 ((cfg0.slots t 2).cast nbuf0_2)
  hp0 := hstage0_3 ((cfg0.slots t 3).cast nbuf0_3)
  hp1 := hstage0_4 ((cfg0.slots t 4).cast nbuf0_4)
  hp2 := hstage0_5 ((cfg0.slots t 5).cast nbuf0_5)
  hp3 := hstage0_6 ((cfg0.slots t 6).cast nbuf0_6)
  hp4 := hstage0_7 ((cfg0.slots t 7).cast nbuf0_7)
  hp5 := hstage0_8 ((cfg0.slots t 8).cast nbuf0_8)
  hp6 := hstage0_9 ((cfg0.slots t 9).cast nbuf0_9)
  hgx := hstage0_10 ((cfg0.slots t 10).cast nbuf0_10)
  hgg := hstage0_11 ((cfg0.slots t 11).cast nbuf0_11)
  hwt := Memref.isWhole_whole _
  hacc := Memref.isWhole_whole _

/-- The inputs of block `t`. -/
abbrev ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- The contents of the results' staging buffers, of the two scratches and of the gradient's array. -/
structure St (F : FTy → Type) (c : Dev nD) where
  gx : Vec F S512x1024 .f32
  gg : Vec F S8x128 .f32
  wt : Vec F S3328x1024 .bf16
  acc : Vec F S3328x1024 .f32
  gwt : HbBuf F c hbGwt

/-- The contents after the first block. -/
def first (c : Dev nD) (t : Fin cfg0.N) (h : t.val = 0) (fw : HbBuf F c hbWt) (fg : HbBuf F c hbGwt) : St F c :=
  let l := (runA c (grid0.coords t) (bufs t) ((isFirst_iff t).mpr h) (fun h' => by have := (isLast_iff t).mp h'; omega) (ins m c t) fw fg).1
  ⟨View.canon l.gx, View.canon l.gg, View.canon l.wt, View.canon l.acc, l.gwt⟩

/-- The contents after a middle block, from those before it. -/
def mid (c : Dev nD) (t : Fin cfg0.N) (h0 : t.val ≠ 0) (h7 : t.val ≠ 7) (fw : HbBuf F c hbWt) (s : St F c) : St F c :=
  let l := (runB c (grid0.coords t) (bufs t) (fun h => h0 ((isFirst_iff t).mp h)) (fun h => h7 ((isLast_iff t).mp h)) (ins m c t)
    s.gg s.wt s.acc fw s.gwt).1
  ⟨View.canon l.gx, View.canon l.gg, s.wt, View.canon l.acc, l.gwt⟩

/-- The contents after the last block, from those before it. -/
def last (c : Dev nD) (t : Fin cfg0.N) (h7 : t.val = 7) (fw : HbBuf F c hbWt) (s : St F c) : St F c :=
  let l := (runC c (grid0.coords t) (bufs t) (fun h => by have := (isFirst_iff t).mp h; omega) ((isLast_iff t).mpr h7) (ins m c t)
    s.gg s.wt s.acc fw s.gwt).1
  ⟨View.canon l.gx, View.canon l.gg, s.wt, View.canon l.acc, l.gwt⟩

/-- The contents after block `n`. -/
def state (c : Dev nD) : (n : ℕ) → n < cfg0.N → St F c
  | 0, h => first m c ⟨0, h⟩ rfl (V m c main_v15) (V m c main_v16_1)
  | n + 1, h =>
    if h7 : n + 1 = 7 then last m c ⟨n + 1, h⟩ h7 (V m c main_v15) (state c n (by omega))
    else mid m c ⟨n + 1, h⟩ (Nat.succ_ne_zero n) h7 (V m c main_v15) (state c n (by omega))

/-- The contents after the first block, unfolded. -/
theorem state_first (c : Dev nD) (t : Fin cfg0.N) (h : t.val = 0) :
    state m c t.val t.isLt = first m c t h (V m c main_v15) (V m c main_v16_1) := by
  obtain ⟨n, hn⟩ := t; cases n with
  | zero => rfl
  | succ n => exact absurd h (Nat.succ_ne_zero n)

/-- The contents after a middle block, unfolded. -/
theorem state_mid (c : Dev nD) (t : Fin cfg0.N) (h0 : t.val ≠ 0) (h7 : t.val ≠ 7) :
    state m c t.val t.isLt = mid m c t h0 h7 (V m c main_v15) (state m c (t.val - 1) (by have := t.isLt; omega)) := by
  obtain ⟨n, hn⟩ := t; cases n with
  | zero => exact absurd rfl h0
  | succ n => exact dif_neg h7

/-- The contents after the last block, unfolded. -/
theorem state_last (c : Dev nD) (t : Fin cfg0.N) (h7 : t.val = 7) :
    state m c t.val t.isLt = last m c t h7 (V m c main_v15) (state m c (t.val - 1) (by have := t.isLt; omega)) := by
  obtain ⟨n, hn⟩ := t; cases n with
  | zero => exact absurd h7 (Nat.zero_ne_add_one 6)
  | succ n => exact dif_pos h7

/-! ## The stores of a block cover the buffers they write -/

section
variable (c : Dev nD) (i : grid0.Coords) (B : Bufs) (h0 : isFirst i) (h7 : ¬isLast i) (x : Ins F) (fw : HbBuf F c hbWt) (fg : HbBuf F c hbGwt)
theorem coverA_gx (y : S512x1024.Idx) : ∃ p ∈ (runA c i B h0 h7 x fw fg).1.gx, y ∈ p.1.set :=
  View.cover_of_tiledBy (runA c i B h0 h7 x fw fg).1.gx ![512, 1024] (by sl_kernel_rfl) y
theorem coverA_gg (y : S8x128.Idx) : ∃ p ∈ (runA c i B h0 h7 x fw fg).1.gg, y ∈ p.1.set :=
  View.cover_of_tiledBy (runA c i B h0 h7 x fw fg).1.gg ![1, 128] (by sl_kernel_rfl) y
theorem coverA_wt (y : S3328x1024.Idx) : ∃ p ∈ (runA c i B h0 h7 x fw fg).1.wt, y ∈ p.1.set :=
  View.cover_of_tiledBy (runA c i B h0 h7 x fw fg).1.wt ![3328, 1024] (by sl_kernel_rfl) y
theorem coverA_acc (y : S3328x1024.Idx) : ∃ p ∈ (runA c i B h0 h7 x fw fg).1.acc, y ∈ p.1.set :=
  View.cover_of_tiledBy (runA c i B h0 h7 x fw fg).1.acc ![256, 1024] (by sl_kernel_rfl) y
end

section
variable (c : Dev nD) (i : grid0.Coords) (B : Bufs) (h0 : ¬isFirst i) (h7 : ¬isLast i) (x : Ins F) (gg : Vec F S8x128 .f32) (wt : Vec F S3328x1024 .bf16) (acc : Vec F S3328x1024 .f32) (fw : HbBuf F c hbWt) (fg : HbBuf F c hbGwt)
theorem coverB_gx (y : S512x1024.Idx) : ∃ p ∈ (runB c i B h0 h7 x gg wt acc fw fg).1.gx, y ∈ p.1.set :=
  View.cover_of_tiledBy (runB c i B h0 h7 x gg wt acc fw fg).1.gx ![512, 1024] (by sl_kernel_rfl) y
theorem coverB_gg (y : S8x128.Idx) : ∃ p ∈ (runB c i B h0 h7 x gg wt acc fw fg).1.gg, y ∈ p.1.set :=
  View.cover_of_tiledBy (runB c i B h0 h7 x gg wt acc fw fg).1.gg ![1, 128] (by sl_kernel_rfl) y
theorem coverB_acc (y : S3328x1024.Idx) : ∃ p ∈ (runB c i B h0 h7 x gg wt acc fw fg).1.acc, y ∈ p.1.set :=
  View.cover_of_tiledBy (runB c i B h0 h7 x gg wt acc fw fg).1.acc ![256, 1024] (by sl_kernel_rfl) y
end

section
variable (c : Dev nD) (i : grid0.Coords) (B : Bufs) (h0 : ¬isFirst i) (h7 : isLast i) (x : Ins F) (gg : Vec F S8x128 .f32) (wt : Vec F S3328x1024 .bf16) (acc : Vec F S3328x1024 .f32) (fw : HbBuf F c hbWt) (fg : HbBuf F c hbGwt)
theorem coverC_gx (y : S512x1024.Idx) : ∃ p ∈ (runC c i B h0 h7 x gg wt acc fw fg).1.gx, y ∈ p.1.set :=
  View.cover_of_tiledBy (runC c i B h0 h7 x gg wt acc fw fg).1.gx ![512, 1024] (by sl_kernel_rfl) y
theorem coverC_gg (y : S8x128.Idx) : ∃ p ∈ (runC c i B h0 h7 x gg wt acc fw fg).1.gg, y ∈ p.1.set :=
  View.cover_of_tiledBy (runC c i B h0 h7 x gg wt acc fw fg).1.gg ![1, 128] (by sl_kernel_rfl) y
theorem coverC_acc (y : S3328x1024.Idx) : ∃ p ∈ (runC c i B h0 h7 x gg wt acc fw fg).1.acc, y ∈ p.1.set :=
  View.cover_of_tiledBy (runC c i B h0 h7 x gg wt acc fw fg).1.acc ![256, 1024] (by sl_kernel_rfl) y
end

/-! ## The invariant between two blocks -/

/-- The kernel's own semaphores. -/
abbrev ownSems : Fin 8 → SemLoc sig := fun j => (![SemLoc.dma 22, SemLoc.dma 23, SemLoc.dma 24, SemLoc.dma 25, SemLoc.dma 26, SemLoc.dma 27, SemLoc.dma 28, SemLoc.dma 29] : Fin 8 → SemLoc sig) j
theorem ownSems_facts : Pipeline.OwnSemFacts spec0 ownSems := by decide
theorem ownSems_eq (c : Dev nD) :
    (Pipeline.ownSems0 (Ix := Unit) (Name := ℕ) (U := Pipeline.UD sig nD τ) (Lvl := ℕ) (Val := Elt F) (τ := τ) ownSems c : sProp 𝕄) = semsZero c := by
  rw [Pipeline.ownSems0_eq_of_list c ownSems [0, 1, 2, 3, 4, 5, 6, 7] (by decide) (by decide)]; rfl

/-- The array the body only reads from. -/
def readArr : Finset (Ref sig .tc) := {main_v15}
/-- The array the body writes by its own copies. -/
def writtenArr : Finset (Ref sig .tc) := {main_v16_1}
theorem readArr_sub : readArr ⊆ Pipeline.restRefs sig spec0 := by decide
theorem writtenArr_sub : writtenArr ⊆ Pipeline.restRefs sig spec0 \ readArr := by decide
theorem readArr_eq (c : Dev nD) :
    (bigSep readArr (fun b => ((c : Thread nD τ).loc b) ↦{fullShare} V m c b) : sProp 𝕄) = hbPt c hbWt (V m c main_v15) := by
  rw [BI.bigSep_eq_bigSepL_of_eq [main_v15] (by decide) (by decide)]; rfl

/-- What every invariant holds, the contents of the scratches (`wt`, `acc`) and of the gradient's array left open. -/
abbrev held (c : Dev nD) (wt acc : sProp 𝕄) (fg : HbBuf F c hbGwt) : sProp 𝕄 :=
  iprop(iprop(wt ∗ acc) ∗ (∃ r, prngReg c r) ∗ semsZero c ∗ hbPt c hbWt (V m c main_v15) ∗ hbPt c hbGwt fg)

/-- The launch's own form of the invariant, for any contents `G` of the arrays. -/
theorem launch_eq (c : Dev nD) (G : (c : Dev nD) → (b : Ref sig .tc) → Buf (Elt F) ((c.tc : Thread nD τ).loc b)) :
    (Pipeline.ΦDRG ownSems spec0 readArr writtenArr (V m) G c : sProp 𝕄)
      = held m c iprop(∃ d, owns (c : Thread nD τ) scWt fullShare d) iprop(∃ d, owns (c : Thread nD τ) scAcc fullShare d) (G c main_v16_1) := by
  rw [Pipeline.ΦDRG_eq, scopedRest0_eq, ownSems_eq, readArr_eq]
  unfold Pipeline.routed; rw [BI.bigSep_eq_bigSepL_of_eq [main_v16_1] (by decide) (by decide)]
  simp only [scWt, scAcc, owns_whole, BI.bigSepL_singleton]; rfl

/-- The invariant before block `n`: before the first the launch's; afterwards the scratches and the gradient's
array at what the block before left. -/
def Inv (c : Dev nD) : (n : ℕ) → n ≤ cfg0.N → sProp 𝕄
  | 0, _ => Pipeline.ΦDRG ownSems spec0 readArr writtenArr (V m) (V m) c
  | n + 1, h => held m c (owns (c : Thread nD τ) scWt fullShare (state m c n h).wt)
      (owns (c : Thread nD τ) scAcc fullShare (state m c n h).acc) (state m c n h).gwt

theorem Inv_zero (c : Dev nD) (n : ℕ) (h : n ≤ cfg0.N) (hz : n = 0) :
    Inv m c n h = Pipeline.ΦDRG ownSems spec0 readArr writtenArr (V m) (V m) c := by subst hz; rfl

theorem Inv_pos (c : Dev nD) (n : ℕ) (h : n ≤ cfg0.N) (hz : n ≠ 0) :
    Inv m c n h = held m c (owns (c : Thread nD τ) scWt fullShare (state m c (n - 1) (by omega)).wt)
      (owns (c : Thread nD τ) scAcc fullShare (state m c (n - 1) (by omega)).acc) (state m c (n - 1) (by omega)).gwt := by
  cases n with
  | zero => exact absurd rfl hz
  | succ n => rfl

/-! ## The pipeline's data -/

/-- The data of the kernel's pipeline on core `c`: the arrays as the kernel finds them, the staging buffers after
block `t`, the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (state m c t.val t.isLt).gx
    | ⟨11, _⟩ => (state m c t.val t.isLt).gg
  Φ t := Inv m c t.val (Nat.le_of_lt_succ t.isLt)
  q _ := fullShare
  owed _ := 0

theorem dats_A (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = (state m c t.val t.isLt).gx := by dsimp only [dats]
theorem after11 (c : Dev nD) (t : Fin cfg0.N) : (dats m 0 c).after 11 t = (state m c t.val t.isLt).gg := by dsimp only [dats]

/-! Each input's staging buffer holds its block at every block of the walk. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [dats_A]; try rfl) t d).trans
    (by unfold Dat.fetched Dat.blockOf iblk; rw [dats_A]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [dats_A]; try rfl) t d).trans
    (by unfold Dat.fetched Dat.blockOf iblk; rw [dats_A]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [dats_A]; try rfl) t d).trans
    (by unfold Dat.fetched Dat.blockOf iblk; rw [dats_A]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [dats_A]; try rfl) t d).trans
    (by unfold Dat.fetched Dat.blockOf iblk; rw [dats_A]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [dats_A]; try rfl) t d).trans
    (by unfold Dat.fetched Dat.blockOf iblk; rw [dats_A]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [dats_A]; try rfl) t d).trans
    (by unfold Dat.fetched Dat.blockOf iblk; rw [dats_A]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [dats_A]; try rfl) t d).trans
    (by unfold Dat.fetched Dat.blockOf iblk; rw [dats_A]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [dats_A]; try rfl) t d).trans
    (by unfold Dat.fetched Dat.blockOf iblk; rw [dats_A]; try rfl)
theorem before8 (c : Dev nD) (t : Fin cfg0.N) (d) : (dats m 0 c).before 8 t d = iblk m c 8 t :=
  ((dats m 0 c).before_in_eq_fetched 8 rfl (fun _ => rfl) (fun _ _ _ => rfl)
    (fun t => by rw [after8]; unfold Dat.blockOf iblk; rw [dats_A]; try rfl) t d).trans
    (by unfold Dat.fetched Dat.blockOf iblk; rw [dats_A]; try rfl)
theorem before9 (c : Dev nD) (t : Fin cfg0.N) (d) : (dats m 0 c).before 9 t d = iblk m c 9 t :=
  ((dats m 0 c).before_in_eq_fetched 9 rfl (fun _ => rfl) (fun _ _ _ => rfl)
    (fun t => by rw [after9]; unfold Dat.blockOf iblk; rw [dats_A]; try rfl) t d).trans
    (by unfold Dat.fetched Dat.blockOf iblk; rw [dats_A]; try rfl)

/-- After the first block the gain's staging buffer is not fetched again: it holds what the block before left. -/
theorem before11 (c : Dev nD) (t : Fin cfg0.N) (h0 : t.val ≠ 0) (d) :
    (dats m 0 c).before 11 t d = (state m c (t.val - 1) (by have := t.isLt; omega)).gg := by
  have hN : t.val < 8 := lt_of_lt_of_eq t.isLt (show cfg0.N = 8 from N_0)
  rw [Dat.before_out_kept _ 11 rfl t (by omega) (Bool.eq_false_iff.mpr fun h => by have := (flush0_11 _).mp h; dsimp only at this; omega)
    (fun _ => rfl) (fun _ _ => rfl)]
  dsimp only [dats]

/-- What the body is handed at block `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t))

set_option maxHeartbeats 14400000 in
/-- The body at any block, from the invariant and the staged buffers to the next invariant and the buffers as
`dats` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = held m c (owns (c : Thread nD τ) scWt fullShare (state m c t.val t.isLt).wt)
      (owns (c : Thread nD τ) scAcc fullShare (state m c t.val t.isLt).acc) (state m c t.val t.isLt).gwt from rfl,
    after0, after1, after2, after3, after4, after5, after6, after7, after8, after9, after10, after11]
  unfold Dat.owesAt Pipeline.owesWithin
  rw [show (dats m 0 c).owed t.castSucc = 0 from rfl, show (dats m 0 c).owed t.succ = 0 from rfl]
  by_cases h0 : t.val = 0
  · have h7 : t.val ≠ 7 := by omega
    rw [Inv_castSucc m c t, Inv_zero m c _ _ h0, launch_eq, state_first m c t h0]
    unfold first; dsimp only
    iintro ⟨⟨⟨HS0, HS1⟩, Hg, HQ, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords t) (bufs t) ((isFirst_iff t).mpr h0) (fun h => h7 ((isLast_iff t).mp h)) (ins m c t) (V m c main_v15) _).2 W _)
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [H11]; · iexists _; iexact H11
    isplitl [HS0]; · iexact HS0
    isplitl [HS1]; · iexact HS1
    isplitl [HQ]; · iexact HQ
    isplitl [Hh0]; · iexact Hh0
    isplitl [Hh1]; · iexact Hh1
    isplitl [HW]; · iexact HW
    iintro ⟨HI, ⟨%e10, H10⟩, ⟨%e11, H11⟩, ⟨%es0, HS0⟩, ⟨%es1, HS1⟩, HQ, Hh0, Hh1, ⟨%W', HW'⟩⟩
    isplitl [HS0 HS1 Hg HQ Hh0 Hh1]
    · isplitl [HS0 HS1]
      · isplitl [HS0]
        · unfold owns; iexists _; isplitr
          swap; · iexact HS0
          ipureintro; exact View.read_writes_eq_canon _ _ _ (coverA_wt c _ _ _ _ _ _ _)
        unfold owns; iexists _; isplitr
        swap; · iexact HS1
        ipureintro; exact View.read_writes_eq_canon _ _ _ (coverA_acc c _ _ _ _ _ _ _)
      isplitl [Hg]; · iexact Hg
      isplitl [HQ]; · iexact HQ
      isplitl [Hh0]; · iexact Hh0
      iexact Hh1
    isplitl [HW']
    · iexists W'; isplitr; · ipureintro; exact fun _ _ => Or.inl trivial
      iexact HW'
    icases HI with ⟨H0, H1, H2, H3, H4, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_eq_canon _ _ _ (coverA_gx c _ _ _ _ _ _ _)
    unfold owns; iexists _; isplitr
    swap; · iexact H11
    ipureintro; exact View.read_writes_eq_canon _ _ _ (coverA_gg c _ _ _ _ _ _ _)
  · by_cases h7 : t.val = 7
    · rw [Inv_castSucc m c t, Inv_pos m c _ _ h0, state_last m c t h7]
      simp only [before11 m c t h0]; unfold last; dsimp only
      iintro ⟨⟨⟨HS0, HS1⟩, Hg, HQ, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC c (grid0.coords t) (bufs t) (fun h => h0 ((isFirst_iff t).mp h)) ((isLast_iff t).mpr h7) (ins m c t) _ _ _ (V m c main_v15) _).2 W _)
      isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexists _; iexact H10
      isplitl [H11]; · iexact H11
      isplitl [HS0]; · iexact HS0
      isplitl [HS1]; · iexact HS1
      isplitl [HQ]; · iexact HQ
      isplitl [Hh0]; · iexact Hh0
      isplitl [Hh1]; · iexact Hh1
      isplitl [HW]; · iexact HW
      iintro ⟨HI, ⟨%e10, H10⟩, ⟨%e11, H11⟩, HS0, ⟨%es1, HS1⟩, HQ, Hh0, Hh1, ⟨%W', HW'⟩⟩
      isplitl [HS0 HS1 Hg HQ Hh0 Hh1]
      · isplitl [HS0 HS1]
        · isplitl [HS0]; · iexact HS0
          unfold owns; iexists _; isplitr
          swap; · iexact HS1
          ipureintro; exact View.read_writes_eq_canon _ _ _ (coverC_acc c _ _ _ _ _ _ _ _ _ _)
        isplitl [Hg]; · iexact Hg
        isplitl [HQ]; · iexact HQ
        isplitl [Hh0]; · iexact Hh0
        iexact Hh1
      isplitl [HW']
      · iexists W'; isplitr; · ipureintro; exact fun _ _ => Or.inl trivial
        iexact HW'
      icases HI with ⟨H0, H1, H2, H3, H4, H5, H6, H7, H8, H9⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_eq_canon _ _ _ (coverC_gx c _ _ _ _ _ _ _ _ _ _)
      unfold owns; iexists _; isplitr
      swap; · iexact H11
      ipureintro; exact View.read_writes_eq_canon _ _ _ (coverC_gg c _ _ _ _ _ _ _ _ _ _)
    · rw [Inv_castSucc m c t, Inv_pos m c _ _ h0, state_mid m c t h0 h7]
      simp only [before11 m c t h0]; unfold mid; dsimp only
      iintro ⟨⟨⟨HS0, HS1⟩, Hg, HQ, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB c (grid0.coords t) (bufs t) (fun h => h0 ((isFirst_iff t).mp h)) (fun h => h7 ((isLast_iff t).mp h)) (ins m c t) _ _ _ (V m c main_v15) _).2 W _)
      isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexists _; iexact H10
      isplitl [H11]; · iexact H11
      isplitl [HS0]; · iexact HS0
      isplitl [HS1]; · iexact HS1
      isplitl [HQ]; · iexact HQ
      isplitl [Hh0]; · iexact Hh0
      isplitl [Hh1]; · iexact Hh1
      isplitl [HW]; · iexact HW
      iintro ⟨HI, ⟨%e10, H10⟩, ⟨%e11, H11⟩, HS0, ⟨%es1, HS1⟩, HQ, Hh0, Hh1, ⟨%W', HW'⟩⟩
      isplitl [HS0 HS1 Hg HQ Hh0 Hh1]
      · isplitl [HS0 HS1]
        · isplitl [HS0]; · iexact HS0
          unfold owns; iexists _; isplitr
          swap; · iexact HS1
          ipureintro; exact View.read_writes_eq_canon _ _ _ (coverB_acc c _ _ _ _ _ _ _ _ _ _)
        isplitl [Hg]; · iexact Hg
        isplitl [HQ]; · iexact HQ
        isplitl [Hh0]; · iexact Hh0
        iexact Hh1
      isplitl [HW']
      · iexists W'; isplitr; · ipureintro; exact fun _ _ => Or.inl trivial
        iexact HW'
      icases HI with ⟨H0, H1, H2, H3, H4, H5, H6, H7, H8, H9⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_eq_canon _ _ _ (coverB_gx c _ _ _ _ _ _ _ _ _ _)
      unfold owns; iexists _; isplitr
      swap; · iexact H11
      ipureintro; exact View.read_writes_eq_canon _ _ _ (coverB_gg c _ _ _ _ _ _ _ _ _ _)

/-- The table's row of the body is the body. -/
theorem body_row (t : Fin cfg0.N) : defs₀ (F := F) .tc cfg0.body (cfg0.bodyArgs t (cfg0.slots t)) = bodyAt0 t := by
  unfold defs₀; rw [Defs.onTc_tc]

/-- The pipeline's obligation on the body, at every block. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

theorem lt_seven : 7 < cfg0.N := by have : cfg0.N = 8 := N_0; omega

/-- The arrays after the last block: the gradient's array at what that block left, the rest as found. -/
def ends (c : Dev nD) : (b : Ref sig .tc) → Buf (Elt F) ((c : Thread nD τ).loc b) :=
  Function.update (V m c) main_v16_1 (state m c 7 lt_seven).gwt

theorem ends_gwt (c : Dev nD) : ends m c main_v16_1 = (state m c 7 lt_seven).gwt := by
  unfold ends; simp only [Function.update_self]

theorem inv_start (c : Dev nD) : Pipeline.ΦDRG ownSems spec0 readArr writtenArr (V m) (V m) c ⊢ (dats m 0 c).Φ 0 := by
  rw [show (dats m 0 c).Φ 0 = Inv m c 0 (Nat.zero_le _) from rfl, Inv_zero m c 0 _ rfl]

theorem inv_end (c : Dev nD) : (dats m 0 c).Φ (Fin.last cfg0.N) ⊢ Pipeline.ΦDRG ownSems spec0 readArr writtenArr (V m) (ends m) c := by
  rw [show (dats m 0 c).Φ (Fin.last cfg0.N) = held m c (owns (c : Thread nD τ) scWt fullShare (state m c 7 lt_seven).wt)
      (owns (c : Thread nD τ) scAcc fullShare (state m c 7 lt_seven).acc) (state m c 7 lt_seven).gwt from rfl, launch_eq, ends_gwt]
  iintro ⟨⟨HS0, HS1⟩, Hg, HQ, Hh0, Hh1⟩
  isplitl [HS0 HS1]
  · isplitl [HS0]
    · iexists _; iexact HS0
    iexists _; iexact HS1
  isplitl [Hg]; · iexact Hg
  isplitl [HQ]; · iexact HQ
  isplitl [Hh0]; · iexact Hh0
  iexact Hh1

/-- The program up to the kernel's region leaves the arrays at `V`. -/
theorem main_to_region (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every execution from a memory with the semaphores at zero ends, the staged arrays at what the data
says, the gradient's array at what the last block left, the others as the kernel found them, every semaphore at
zero. -/
theorem run : θ_run defs (onTc (τ := τ) (main (F := F))) (s₀ m ρ)
    (fun r => Pipeline.FramePostRG cfgs (dats m) 0 writtenArr (V m) (ends m) r ∧ r.2.sem = fun _ => 0) :=
  Pipeline.θ_run_frame_dmaRG (Q' := _) cfgs (dats m) (0 : Fin 1) launch0 ownSems defs₀ Variants.none ownSems_facts readArr writtenArr
    readArr_sub writtenArr_sub m ρ main
    (hbody := fun c => (body_obligation m c).loose) (hshare := fun c => (dats m 0 c).share_full fun _ => rfl)
    (howed := fun _ _ => rfl) (V := V m) (hmain := main_to_region m Variants.none) (hA := dats_A m) (G := ends m)
    (hin := inv_start m) (hout := inv_end m)

/-- The frame: the arguments end unchanged and every semaphore at zero. -/
theorem frame_proj : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1.1 c).1 0).trans (((dats m 0 c).arrAt_in 0 rfl _).trans ((dats_A m c 0).trans (V_main_arg0 m c))),
      ((h.1.1 c).1 1).trans (((dats m 0 c).arrAt_in 1 rfl _).trans ((dats_A m c 1).trans (V_main_arg1 m c))),
      ((h.1.1 c).1 2).trans (((dats m 0 c).arrAt_in 2 rfl _).trans ((dats_A m c 2).trans (V_main_arg2 m c))),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c)⟩,
    h.2⟩) (run m ρ)

end Proof.Proj

end
-- ==== Proof.ProjFrame.lean ====
/-
  The frames of the projection's backward call.  The run of `ProjRun.lean` is stated of the program of
  the ideal reading, at any interpretation of the floats.  The program of the other reading is the same text,
  so part by part it is the same program: its table of bodies is shown equal, and its frame is then the
  same run at the machine's floats.
-/
module
public import proofs.«01_k».proof.Defs
public import proofs.«01_k».proof.Proof.ProjRun
public import proofs.«01_k».proof.Proof.Gen.Kernel2.Launch

@[expose] public section
open Idealize.ShloMosaic

namespace Proof.Proj

set_option maxRecDepth 65536
set_option maxHeartbeats 2000000

section
variable [Cert.Kernel2.Facts] [Cert.Kernel2Ideal.Facts]

/-- Part 1 of the body is the same program in both readings. -/
theorem part1 : @Cert.Kernel2.k0_part1 Bits _ = @Cert.Kernel2Ideal.k0_part1 Bits _ := by
  unfold Cert.Kernel2.k0_part1 Cert.Kernel2Ideal.k0_part1
  rfl

/-- Part 2 of the body is the same program in both readings. -/
theorem part2 : @Cert.Kernel2.k0_part2 Bits _ _ = @Cert.Kernel2Ideal.k0_part2 Bits _ _ := by
  unfold Cert.Kernel2.k0_part2 Cert.Kernel2Ideal.k0_part2
  rfl

/-- Part 3 of the body is the same program in both readings. -/
theorem part3 : @Cert.Kernel2.k0_part3 Bits _ _ = @Cert.Kernel2Ideal.k0_part3 Bits _ _ := by
  unfold Cert.Kernel2.k0_part3 Cert.Kernel2Ideal.k0_part3
  rfl

/-- Part 4 of the body is the same program in both readings. -/
theorem part4 : @Cert.Kernel2.k0_part4 Bits _ _ = @Cert.Kernel2Ideal.k0_part4 Bits _ _ := by
  unfold Cert.Kernel2.k0_part4 Cert.Kernel2Ideal.k0_part4
  rfl

/-- Part 5 of the body is the same program in both readings. -/
theorem part5 : @Cert.Kernel2.k0_part5 Bits _ _ = @Cert.Kernel2Ideal.k0_part5 Bits _ _ := by
  unfold Cert.Kernel2.k0_part5 Cert.Kernel2Ideal.k0_part5
  rfl

/-- Part 6 of the body is the same program in both readings. -/
theorem part6 : @Cert.Kernel2.k0_part6 Bits _ _ = @Cert.Kernel2Ideal.k0_part6 Bits _ _ := by
  unfold Cert.Kernel2.k0_part6 Cert.Kernel2Ideal.k0_part6
  rfl

/-- Part 7 of the body is the same program in both readings. -/
theorem part7 : @Cert.Kernel2.k0_part7 Bits _ _ = @Cert.Kernel2Ideal.k0_part7 Bits _ _ := by
  unfold Cert.Kernel2.k0_part7 Cert.Kernel2Ideal.k0_part7
  simp only [part1,part2,part3,part4,part5,part6]
  rfl

/-- The kernel's body is the same program in both readings. -/
theorem body_eq : @Cert.Kernel2.cc0_proj_bwd Bits _ _ = @Cert.Kernel2Ideal.cc0_proj_bwd Bits _ _ := by
  unfold Cert.Kernel2.cc0_proj_bwd Cert.Kernel2Ideal.cc0_proj_bwd
  simp only [part1, part7]
  rfl

end

/-- The one body of the pallas_call, read from the grid's coordinates, is the same in both readings. -/
theorem defs₀_eq : Cert.Kernel2.defs₀ (F := Bits) = Cert.Kernel2Ideal.defs₀ (F := Bits) := by
  unfold Cert.Kernel2.defs₀ Cert.Kernel2Ideal.defs₀
  simp only [body_eq]
  congr 1
  funext x y
  match x, y with
  | ⟨0, _⟩, (t, s) => rfl
  | ⟨_ + 1, h⟩, _ => exact absurd h (Nat.not_lt.2 (Nat.le_add_left _ _))

/-- The tables of bodies, with the pipeline around them, are the same in both readings. -/
theorem defs_eq : Cert.Kernel2.defs (F := Bits) = Cert.Kernel2Ideal.defs (F := Bits) := by
  unfold Cert.Kernel2.defs Cert.Kernel2Ideal.defs
  rw [defs₀_eq]
  rfl

/-- The printed kernel ends with its arguments unchanged and every semaphore at zero. -/
theorem frame_kernel2 : Cert.quiescent_Kernel2 := fun m ρ _ => by
  have h := Proof.Proj.frame_proj (F := Bits) m ρ
  rw [← defs_eq] at h
  exact h

/-- The kernel read over the extended reals ends with its arguments unchanged and every semaphore at zero. -/
theorem frame_kernel2_ideal : Cert.quiescent_Kernel2Ideal := fun m ρ _ => frame_proj m ρ

end Proof.Proj

end
-- ==== Proof.ProjUnit.lean ====
module

public import proofs.«01_k».proof.Proof.ProjRun
public import Idealize.ShloMosaic.Lib.Pipeline.ReadBack

/-!
  What one block of the projections' backward kernel leaves in its results and scratches, as functions of the block's inputs,
  of the weights in their scratch and of what the two accumulators held.
-/

@[expose] public section

noncomputable section

namespace Proof.Proj

open Cert.Kernel2Ideal Cert.Kernel2Ideal.Gen
open Idealize.ShloMosaic Idealize.ShloMosaic.TcCoe Idealize.ShloMosaic.Tactic Idealize.SL.Sem

variable {F : FTy → Type} [FloatOps F]

theorem inb2 {m n a b k l : ℕ} (h1 : a + k ≤ m) (h2 : b + l ≤ n) :
    ∀ i : Fin 2, (![a, b] : Fin 2 → ℕ) i + (![k, l] : Fin 2 → ℕ) i ≤ (![m, n] : Fin 2 → ℕ) i := by
  intro i; match i with | 0 => exact h1 | 1 => exact h2

/-- The seven bands of rows of the transposed weights and of their gradient: one for each projection. -/
abbrev rc0 : Rect S3328x1024 := Rect.unit ![0, 0] ![768, 1024] inb_S3328x1024_S768x1024_0_0
abbrev rc1 : Rect S3328x1024 := Rect.unit ![768, 0] ![512, 1024] inb_S3328x1024_S512x1024_768_0
abbrev rc2 : Rect S3328x1024 := Rect.unit ![1280, 0] ![512, 1024] inb_S3328x1024_S512x1024_1280_0
abbrev rc3 : Rect S3328x1024 := Rect.unit ![1792, 0] ![512, 1024] inb_S3328x1024_S512x1024_1792_0
abbrev rc4 : Rect S3328x1024 := Rect.unit ![2304, 0] ![512, 1024] inb_S3328x1024_S512x1024_2304_0
abbrev rc5 : Rect S3328x1024 := Rect.unit ![2816, 0] ![256, 1024] inb_S3328x1024_S256x1024_2816_0
abbrev rc6 : Rect S3328x1024 := Rect.unit ![3072, 0] ![256, 1024] inb_S3328x1024_S256x1024_3072_0

/-- Row `a` of the accumulator of the gain's gradient. -/
abbrev rG (a : ℕ) (h : a < 8) : Rect S8x128 := Rect.unit ![a, 0] ![1, 128] (inb2 (by omega) (by omega))

variable (I : Ins F) (w : Vec F S3328x1024 .bf16)

/-- The blocks as the body loads them. -/
def lx : Vec F S512x1024 .f32 := View.ld I.x (Rect.unit ![0, 0] ![512, 1024] inb_S512x1024_S512x1024_0_0)
def ldy : Vec F S512x1024 .f32 := View.ld I.dy (Rect.unit ![0, 0] ![512, 1024] inb_S512x1024_S512x1024_0_0)
def lg : Vec F S1x1024 .f32 := View.ld I.g (Rect.unit ![0, 0] ![1, 1024] inb_S1x1024_S1x1024_0_0)
def lp0 : Vec F S512x768 .bf16 := View.ld I.p0 (Rect.unit ![0, 0] ![512, 768] inb_S512x768_S512x768_0_0)
def lp1 : Vec F S512x512 .bf16 := View.ld I.p1 (Rect.unit ![0, 0] ![512, 512] inb_S512x512_S512x512_0_0)
def lp2 : Vec F S512x512 .bf16 := View.ld I.p2 (Rect.unit ![0, 0] ![512, 512] inb_S512x512_S512x512_0_0)
def lp3 : Vec F S512x512 .bf16 := View.ld I.p3 (Rect.unit ![0, 0] ![512, 512] inb_S512x512_S512x512_0_0)
def lp4 : Vec F S512x512 .bf16 := View.ld I.p4 (Rect.unit ![0, 0] ![512, 512] inb_S512x512_S512x512_0_0)
def lp5 : Vec F S512x256 .bf16 := View.ld I.p5 (Rect.unit ![0, 0] ![512, 256] inb_S512x256_S512x256_0_0)
def lp6 : Vec F S512x256 .bf16 := View.ld I.p6 (Rect.unit ![0, 0] ![512, 256] inb_S512x256_S512x256_0_0)

/-- The normalised rows, their product with the gain, and the gradient of that product. -/
def zv : FVec F S512x1024 .f32 := k0_pay4 (lx I)
def hv : FVec F S512x1024 .bf16 := k0_pay5 (lx I) (lg I)
def dhv : FVec F S512x1024 .f32 :=
  k0_pay22 (k0_pay17 (k0_pay12 (k0_pay7 (lp0 I) (View.ld w rc0)) (lp1 I) (View.ld w rc1) (lp2 I) (View.ld w rc2)) (lp3 I) (View.ld w rc3) (lp4 I) (View.ld w rc4))
    (lp5 I) (View.ld w rc5) (lp6 I) (View.ld w rc6)

/-- The gradient of the rows themselves. -/
def gxv : FVec F S512x1024 .f32 := k0_pay33 (k0_pay3 (lx I)) (zv I) (lg I) (dhv I w) (ldy I)

/-- The column sums of the gain's gradient, and what one row of their accumulator becomes. -/
def sg : FVec F S1x1024 .f32 := k0_pay24 (zv I) (dhv I w)

theorem slices (a : ℕ) (h : a < 8) : S1x1024.Slices ![0, 128 * a] S1x128 :=
  ⟨rfl, inb2 (m := 1) (n := 1024) (k := 1) (l := 128) (by omega) (by omega)⟩

def rowG (a : ℕ) (h : a < 8) (o : Vec F S1x128 .f32) : FVec F S1x128 .f32 :=
  addf (shapeCast S1x128 o shapeCasts_S1x128_S1x128) (extractStridedSlice S1x128 ![0, 128 * a] (sg I w) (slices a h))

/-- The stores in the accumulator of the weights' gradient, over the seven bands it held. -/
def piecesAcc (o0 : Vec F S768x1024 .f32) (o1 o2 o3 o4 : Vec F S512x1024 .f32) (o5 o6 : Vec F S256x1024 .f32) : List (View.Piece (Elt F) S3328x1024 .f32) :=
  [⟨rc6, k0_pay23 (hv I) (lp6 I) o6⟩, ⟨rc5, k0_pay20 (hv I) (lp5 I) o5⟩, ⟨rc4, k0_pay18 (hv I) (lp4 I) o4⟩, ⟨rc3, k0_pay15 (hv I) (lp3 I) o3⟩,
   ⟨rc2, k0_pay13 (hv I) (lp2 I) o2⟩, ⟨rc1, k0_pay10 (hv I) (lp1 I) o1⟩, ⟨rc0, k0_pay8 (lx I) (lg I) (lp0 I) o0⟩]

/-- The stores in the accumulator of the gain's gradient, over the eight rows it held. -/
def piecesG (o : (a : ℕ) → a < 8 → Vec F S1x128 .f32) : List (View.Piece (Elt F) S8x128 .f32) :=
  [⟨rG 7 (by decide), rowG I w 7 (by decide) (o 7 (by decide))⟩, ⟨rG 6 (by decide), rowG I w 6 (by decide) (o 6 (by decide))⟩, ⟨rG 5 (by decide), rowG I w 5 (by decide) (o 5 (by decide))⟩, ⟨rG 4 (by decide), rowG I w 4 (by decide) (o 4 (by decide))⟩, ⟨rG 3 (by decide), rowG I w 3 (by decide) (o 3 (by decide))⟩, ⟨rG 2 (by decide), rowG I w 2 (by decide) (o 2 (by decide))⟩, ⟨rG 1 (by decide), rowG I w 1 (by decide) (o 1 (by decide))⟩, ⟨rG 0 (by decide), rowG I w 0 (by decide) (o 0 (by decide))⟩]

/-- The bands read from the array the accumulator held. -/
abbrev piecesAccOf (o : Vec F S3328x1024 .f32) : List (View.Piece (Elt F) S3328x1024 .f32) :=
  piecesAcc I (View.ld o rc0) (View.ld o rc1) (View.ld o rc2) (View.ld o rc3) (View.ld o rc4) (View.ld o rc5) (View.ld o rc6)

/-- The one store in the gradient of the rows. -/
abbrev pieceX : List (View.Piece (Elt F) S512x1024 .f32) := [⟨Rect.unit ![0, 0] ![512, 1024] inb_S512x1024_S512x1024_0_0, gxv I w⟩]

/-- A load from the scratch filled whole reads the rectangle of what it was filled with. -/
theorem readCov_whole (v : View sig .tc .vmem S3328x1024 .bf16) (r : Rect S3328x1024) :
    v.readCov [⟨Rect.whole S3328x1024, w⟩] r.toLoadRect = View.ld w r := by
  have he : ∀ y : S3328x1024.Idx, (Rect.whole S3328x1024).emb y = y := fun y =>
    funext fun a => Fin.ext (by show 0 + 1 * (y a : ℕ) = y a; omega)
  have hc : ∀ y : S3328x1024.Idx, ∃ p ∈ [(⟨Rect.whole S3328x1024, w⟩ : View.Piece (Elt F) S3328x1024 .bf16)], y ∈ p.1.set :=
    fun y => ⟨_, List.mem_cons_self, (LoadRect.mem_set (r := (Rect.whole S3328x1024).toLoadRect)).mpr fun a => ⟨y a, (y a).isLt, by
      show (y a : ℕ) = 0 + 1 * (y a : ℕ); omega⟩⟩
  refine (View.readCov_eq_canon_ld v _ r hc).trans (congrArg (View.ld · r) (funext fun y => ?_))
  have h := View.canon_cons_emb (Rect.whole S3328x1024) w [] y
  rwa [he y] at h

/-- A slice read back where the last store was made through the same rectangle is that store. -/
theorem read_slice_writes {sp : Space} {S : Shape} {e : EltTy} (v : View sig .tc sp S e) (f : v.ty.Contents (Elt F)) (r : Rect S)
    (p : r.shape.Idx → Elt F e) (L : List (View.Piece (Elt F) S e)) :
    (v.slice r).read (Elt F) (v.writes (Elt F) f (⟨r, p⟩ :: L)) = p := by
  exact View.read_write_univ _ _

section Cases
set_option maxRecDepth 65536
set_option maxHeartbeats 1000000

variable (c : Dev nD) (i : grid0.Coords) (B : Bufs) (og : Vec F S8x128 .f32) (oa : Vec F S3328x1024 .f32)
  (fw : HbBuf F c hbWt) (fg : HbBuf F c hbGwt)

/-- The gradient of the rows after the first block. -/
theorem gx_A (h0 : isFirst i) (h7 : ¬isLast i) :
    (runA c i B h0 h7 I  fw fg).1.gx = pieceX I fw := by
  unfold runA
  dsimp only
  sl_unfold_words
  simp only [View.readAt_eq_ld, B.hx.read_unread, B.hdy.read_unread, B.hg.read_unread, B.hp0.read_unread, B.hp1.read_unread, B.hp2.read_unread, B.hp3.read_unread, B.hp4.read_unread, B.hp5.read_unread, B.hp6.read_unread, B.hgg.read_unread, B.hwt.read_unread, B.hacc.read_unread]
  simp only [readCov_whole]
  rfl
/-- The weights' scratch after the first block. -/
theorem wt_A (h0 : isFirst i) (h7 : ¬isLast i) :
    (runA c i B h0 h7 I  fw fg).1.wt = [⟨Rect.whole S3328x1024, fw⟩] := by
  unfold runA
  dsimp only
  sl_unfold_words
  simp only [View.readAt_eq_ld, B.hx.read_unread, B.hdy.read_unread, B.hg.read_unread, B.hp0.read_unread, B.hp1.read_unread, B.hp2.read_unread, B.hp3.read_unread, B.hp4.read_unread, B.hp5.read_unread, B.hp6.read_unread, B.hgg.read_unread, B.hwt.read_unread, B.hacc.read_unread]
  rfl
/-- The accumulator of the gain's gradient after the first block. -/
theorem gg_A (h0 : isFirst i) (h7 : ¬isLast i) :
    (runA c i B h0 h7 I  fw fg).1.gg = piecesG I fw (fun a h => View.ld k0_pay2 (rG a h)) ++ [⟨Rect.unit ![0, 0] ![8, 128] inb_S8x128_S8x128_0_0, k0_pay2⟩] := by
  unfold runA
  dsimp only
  sl_unfold_words
  simp only [View.readAt_eq_ld, B.hx.read_unread, B.hdy.read_unread, B.hg.read_unread, B.hp0.read_unread, B.hp1.read_unread, B.hp2.read_unread, B.hp3.read_unread, B.hp4.read_unread, B.hp5.read_unread, B.hp6.read_unread, B.hgg.read_unread, B.hwt.read_unread, B.hacc.read_unread]
  simp only [readCov_whole]
  simp (disch := decide) only [↓ View.readCov_skip]
  rw [View.readCov_fill _ _ _ _ (rG 0 (by decide)) (by decide),
    View.readCov_fill _ _ _ _ (rG 1 (by decide)) (by decide),
    View.readCov_fill _ _ _ _ (rG 2 (by decide)) (by decide),
    View.readCov_fill _ _ _ _ (rG 3 (by decide)) (by decide),
    View.readCov_fill _ _ _ _ (rG 4 (by decide)) (by decide),
    View.readCov_fill _ _ _ _ (rG 5 (by decide)) (by decide),
    View.readCov_fill _ _ _ _ (rG 6 (by decide)) (by decide),
    View.readCov_fill _ _ _ _ (rG 7 (by decide)) (by decide)]
  rfl
/-- The accumulator of the weights' gradient after the first block. -/
theorem acc_A (h0 : isFirst i) (h7 : ¬isLast i) :
    (runA c i B h0 h7 I  fw fg).1.acc = piecesAccOf I k0_pay1 ++ [⟨Rect.unit ![0, 0] ![3328, 1024] inb_S3328x1024_S3328x1024_0_0, k0_pay1⟩] := by
  unfold runA
  dsimp only
  sl_unfold_words
  simp only [View.readAt_eq_ld, B.hx.read_unread, B.hdy.read_unread, B.hg.read_unread, B.hp0.read_unread, B.hp1.read_unread, B.hp2.read_unread, B.hp3.read_unread, B.hp4.read_unread, B.hp5.read_unread, B.hp6.read_unread, B.hgg.read_unread, B.hwt.read_unread, B.hacc.read_unread]
  simp (disch := decide) only [↓ View.readCov_skip]
  rw [View.readCov_fill _ _ _ _ rc0 (by decide),
    View.readCov_fill _ _ _ _ rc1 (by decide),
    View.readCov_fill _ _ _ _ rc2 (by decide),
    View.readCov_fill _ _ _ _ rc3 (by decide),
    View.readCov_fill _ _ _ _ rc4 (by decide),
    View.readCov_fill _ _ _ _ rc5 (by decide),
    View.readCov_fill _ _ _ _ rc6 (by decide)]
  rfl
/-- The gradient of the rows after a middle block. -/
theorem gx_B (h0 : ¬isFirst i) (h7 : ¬isLast i) :
    (runB c i B h0 h7 I og w oa fw fg).1.gx = pieceX I w := by
  unfold runB
  dsimp only
  sl_unfold_words
  simp only [View.readAt_eq_ld, B.hx.read_unread, B.hdy.read_unread, B.hg.read_unread, B.hp0.read_unread, B.hp1.read_unread, B.hp2.read_unread, B.hp3.read_unread, B.hp4.read_unread, B.hp5.read_unread, B.hp6.read_unread, B.hgg.read_unread, B.hwt.read_unread, B.hacc.read_unread]
  rfl
/-- The accumulator of the gain's gradient after a middle block. -/
theorem gg_B (h0 : ¬isFirst i) (h7 : ¬isLast i) :
    (runB c i B h0 h7 I og w oa fw fg).1.gg = piecesG I w fun a h => View.ld og (rG a h) := by
  unfold runB
  dsimp only
  sl_unfold_words
  simp only [View.readAt_eq_ld, B.hx.read_unread, B.hdy.read_unread, B.hg.read_unread, B.hp0.read_unread, B.hp1.read_unread, B.hp2.read_unread, B.hp3.read_unread, B.hp4.read_unread, B.hp5.read_unread, B.hp6.read_unread, B.hgg.read_unread, B.hwt.read_unread, B.hacc.read_unread]
  rfl
/-- The accumulator of the weights' gradient after a middle block. -/
theorem acc_B (h0 : ¬isFirst i) (h7 : ¬isLast i) :
    (runB c i B h0 h7 I og w oa fw fg).1.acc = piecesAccOf I oa := by
  unfold runB
  dsimp only
  sl_unfold_words
  simp only [View.readAt_eq_ld, B.hx.read_unread, B.hdy.read_unread, B.hg.read_unread, B.hp0.read_unread, B.hp1.read_unread, B.hp2.read_unread, B.hp3.read_unread, B.hp4.read_unread, B.hp5.read_unread, B.hp6.read_unread, B.hgg.read_unread, B.hwt.read_unread, B.hacc.read_unread]
  rfl
/-- The gradient of the rows after the last block. -/
theorem gx_C (h0 : ¬isFirst i) (h7 : isLast i) :
    (runC c i B h0 h7 I og w oa fw fg).1.gx = pieceX I w := by
  unfold runC
  dsimp only
  sl_unfold_words
  simp only [View.readAt_eq_ld, B.hx.read_unread, B.hdy.read_unread, B.hg.read_unread, B.hp0.read_unread, B.hp1.read_unread, B.hp2.read_unread, B.hp3.read_unread, B.hp4.read_unread, B.hp5.read_unread, B.hp6.read_unread, B.hgg.read_unread, B.hwt.read_unread, B.hacc.read_unread]
  rfl
/-- The accumulator of the gain's gradient after the last block. -/
theorem gg_C (h0 : ¬isFirst i) (h7 : isLast i) :
    (runC c i B h0 h7 I og w oa fw fg).1.gg = piecesG I w fun a h => View.ld og (rG a h) := by
  unfold runC
  dsimp only
  sl_unfold_words
  simp only [View.readAt_eq_ld, B.hx.read_unread, B.hdy.read_unread, B.hg.read_unread, B.hp0.read_unread, B.hp1.read_unread, B.hp2.read_unread, B.hp3.read_unread, B.hp4.read_unread, B.hp5.read_unread, B.hp6.read_unread, B.hgg.read_unread, B.hwt.read_unread, B.hacc.read_unread]
  rfl
/-- The accumulator of the weights' gradient after the last block. -/
theorem acc_C (h0 : ¬isFirst i) (h7 : isLast i) :
    (runC c i B h0 h7 I og w oa fw fg).1.acc = piecesAccOf I oa := by
  unfold runC
  dsimp only
  sl_unfold_words
  simp only [View.readAt_eq_ld, B.hx.read_unread, B.hdy.read_unread, B.hg.read_unread, B.hp0.read_unread, B.hp1.read_unread, B.hp2.read_unread, B.hp3.read_unread, B.hp4.read_unread, B.hp5.read_unread, B.hp6.read_unread, B.hgg.read_unread, B.hwt.read_unread, B.hacc.read_unread]
  rfl
/-- The array of the weights' gradient after the last block: the same seven bands, copied out. -/
theorem gwt_C (h0 : ¬isFirst i) (h7 : isLast i) :
    (runC c i B h0 h7 I og w oa fw fg).1.gwt = (View.whole main_v16_1).writes (Elt F) fg (piecesAccOf I oa) := by
  unfold runC
  dsimp only
  sl_unfold_words
  simp only [View.readAt_eq_ld, B.hx.read_unread, B.hdy.read_unread, B.hg.read_unread, B.hp0.read_unread, B.hp1.read_unread, B.hp2.read_unread, B.hp3.read_unread, B.hp4.read_unread, B.hp5.read_unread, B.hp6.read_unread, B.hgg.read_unread, B.hwt.read_unread, B.hacc.read_unread]
  simp only [read_slice_writes]
  rfl
end Cases
end Proof.Proj

end

end
-- ==== Proof.OutUnit.lean ====
module

public import proofs.«01_k».proof.Proof.Gen.Kernel3Ideal.Value
public import Idealize.ShloMosaic.Lib.Pipeline.ReadBack

/-!
  What one grid point of the loss head leaves in its four output blocks, as functions of the point's six input blocks and of
  what the two accumulators held.
-/

@[expose] public section

noncomputable section

open Idealize.ShloMosaic Idealize.ShloMosaic.TcCoe Idealize.SL.Sem
open Idealize.ShloMosaic.Pipeline (Dat)

namespace Proof.Out

open Cert.Kernel3Ideal Cert.Kernel3Ideal.Gen

variable {F : FTy → Type} [FloatOps F]

/-- The six input blocks of one grid point. -/
structure Ins (F : FTy → Type) [FloatOps F] where
  x0 : Vec F S512x256 .bf16
  x1 : Vec F S512x512 .bf16
  x2 : Vec F S512x256 .bf16
  x3 : Vec F S512x1024 .f32
  x4 : Vec F S512x1024 .f32
  x5 : Vec F S1024x1024 .bf16

theorem inb2 {m n a b k l : ℕ} (h1 : a + k ≤ m) (h2 : b + l ≤ n) :
    ∀ i : Fin 2, (![a, b] : Fin 2 → ℕ) i + (![k, l] : Fin 2 → ℕ) i ≤ (![m, n] : Fin 2 → ℕ) i := by
  intro i; match i with | 0 => exact h1 | 1 => exact h2

/-- The three bands of rows of the output weight: one for each mixer. -/
abbrev wA : Rect S1024x1024 := Rect.unit ![0, 0] ![256, 1024] inb_S1024x1024_S256x1024_0_0
abbrev wB : Rect S1024x1024 := Rect.unit ![256, 0] ![512, 1024] inb_S1024x1024_S512x1024_256_0
abbrev wC : Rect S1024x1024 := Rect.unit ![768, 0] ![256, 1024] inb_S1024x1024_S256x1024_768_0

/-- Row `a` of the accumulator of the squared errors. -/
abbrev rL (a : ℕ) (h : a < 8) : Rect S8x128 := Rect.unit ![a, 0] ![1, 128] (inb2 (by omega) (by omega))

variable (I : Ins F)

/-- The blocks as the body loads them. -/
def l0 : Vec F S512x256 .bf16 := View.ld I.x0 (Rect.unit ![0, 0] ![512, 256] inb_S512x256_S512x256_0_0)
def l1 : Vec F S512x512 .bf16 := View.ld I.x1 (Rect.unit ![0, 0] ![512, 512] inb_S512x512_S512x512_0_0)
def l2 : Vec F S512x256 .bf16 := View.ld I.x2 (Rect.unit ![0, 0] ![512, 256] inb_S512x256_S512x256_0_0)
def l3 : Vec F S512x1024 .f32 := View.ld I.x3 (Rect.unit ![0, 0] ![512, 1024] inb_S512x1024_S512x1024_0_0)
def l4 : Vec F S512x1024 .f32 := View.ld I.x4 (Rect.unit ![0, 0] ![512, 1024] inb_S512x1024_S512x1024_0_0)
def l5 : Vec F S1024x1024 .bf16 := View.ld I.x5 (Rect.unit ![0, 0] ![1024, 1024] inb_S1024x1024_S1024x1024_0_0)

/-- The error, its scaling (the gradient of the output), and its product with the transposed weight. -/
def err : FVec F S512x1024 .f32 := k0_pay7 (l0 I) (l1 I) (l2 I) (View.ld I.x5 wA) (View.ld I.x5 wB) (View.ld I.x5 wC) (l3 I) (l4 I)
def dyv : FVec F S512x1024 .f32 := k0_pay17 (err I)
def dyc : FVec F S512x1024 .f32 := k0_pay19 (err I) (l5 I)

/-- The column sums of the squared errors, and what one row of their accumulator becomes. -/
def sq : FVec F S1x1024 .f32 := k0_pay8 (l0 I) (l1 I) (l2 I) (View.ld I.x5 wA) (View.ld I.x5 wB) (View.ld I.x5 wC) (l3 I) (l4 I)

theorem slices (a : ℕ) (h : a < 8) : S1x1024.Slices ![0, 128 * a] S1x128 :=
  ⟨rfl, inb2 (m := 1) (n := 1024) (k := 1) (l := 128) (by omega) (by omega)⟩

def rowS (a : ℕ) (h : a < 8) (o : Vec F S1x128 .f32) : FVec F S1x128 .f32 :=
  addf (shapeCast S1x128 o shapeCasts_S1x128_S1x128) (extractStridedSlice S1x128 ![0, 128 * a] (sq I) (slices a h))

/-- The stores in the accumulator of the weight's gradient, over the three bands it held. -/
def pieces8 (oA : Vec F S256x1024 .f32) (oB : Vec F S512x1024 .f32) (oC : Vec F S256x1024 .f32) : List (View.Piece (Elt F) S1024x1024 .f32) :=
  [⟨wC, k0_pay1 (k0_pay22 oC) (k0_pay23 (k0_pay6 (l2 I)) (err I))⟩, ⟨wB, k0_pay21 (k0_pay5 (l1 I)) (err I) oB⟩,
   ⟨wA, k0_pay20 (k0_pay4 (l0 I)) (err I) oA⟩]

/-- The stores in the accumulator of the squared errors, over the eight rows it held. -/
def pieces9 (o : (a : ℕ) → a < 8 → Vec F S1x128 .f32) : List (View.Piece (Elt F) S8x128 .f32) :=
  [⟨rL 7 (by decide), rowS I 7 (by decide) (o 7 (by decide))⟩, ⟨rL 6 (by decide), rowS I 6 (by decide) (o 6 (by decide))⟩, ⟨rL 5 (by decide), rowS I 5 (by decide) (o 5 (by decide))⟩, ⟨rL 4 (by decide), rowS I 4 (by decide) (o 4 (by decide))⟩, ⟨rL 3 (by decide), rowS I 3 (by decide) (o 3 (by decide))⟩, ⟨rL 2 (by decide), rowS I 2 (by decide) (o 2 (by decide))⟩, ⟨rL 1 (by decide), rowS I 1 (by decide) (o 1 (by decide))⟩, ⟨rL 0 (by decide), rowS I 0 (by decide) (o 0 (by decide))⟩]

section Cases
set_option maxRecDepth 65536

variable (c : Dev nD) (i : grid0.Coords) (a1 : Memref sig .tc .vmem S512x256 .bf16) (h1 : a1.IsWhole)
  (a2 : Memref sig .tc .vmem S512x512 .bf16) (h2 : a2.IsWhole)
  (a3 : Memref sig .tc .vmem S512x256 .bf16) (h3 : a3.IsWhole)
  (a4 : Memref sig .tc .vmem S512x1024 .f32) (h4 : a4.IsWhole)
  (a5 : Memref sig .tc .vmem S512x1024 .f32) (h5 : a5.IsWhole)
  (a6 : Memref sig .tc .vmem S1024x1024 .bf16) (h6 : a6.IsWhole)
  (a7 : Memref sig .tc .vmem S512x1024 .f32) (h7 : a7.IsWhole)
  (a8 : Memref sig .tc .vmem S512x1024 .f32) (h8 : a8.IsWhole)
  (a9 : Memref sig .tc .vmem S1024x1024 .f32) (h9 : a9.IsWhole)
  (a10 : Memref sig .tc .vmem S8x128 .f32) (h10 : a10.IsWhole)
  (x0 : Vec F S512x256 .bf16) (x1 : Vec F S512x512 .bf16) (x2 : Vec F S512x256 .bf16) (x3 : Vec F S512x1024 .f32) (x4 : Vec F S512x1024 .f32) (x5 : Vec F S1024x1024 .bf16) (o8 : Vec F S1024x1024 .f32) (o9 : Vec F S8x128 .f32)

/-- The block of the output's gradient after the first point. -/
theorem out6_A (hc0 : cond0_0 i) :
    out0_A_6 c i a1 h1 a2 h2 a3 h3 a4 h4 a5 h5 a6 h6 a7 h7 a8 h8 a9 h9 a10 h10 hc0 x0 x1 x2 x3 x4 x5 =
      View.canon [⟨Rect.unit ![0, 0] ![512, 1024] inb_S512x1024_S512x1024_0_0, dyv ⟨x0, x1, x2, x3, x4, x5⟩⟩] := by
  unfold out0_A_6
  rw [View.read_writes_eq_canon _ _ _ (cover0_A_6 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, h1.read_unread, h2.read_unread, h3.read_unread, h4.read_unread, h5.read_unread, h6.read_unread]
  rfl

/-- The block of the mixers' gradient after the first point. -/
theorem out7_A (hc0 : cond0_0 i) :
    out0_A_7 c i a1 h1 a2 h2 a3 h3 a4 h4 a5 h5 a6 h6 a7 h7 a8 h8 a9 h9 a10 h10 hc0 x0 x1 x2 x3 x4 x5 =
      View.canon [⟨Rect.unit ![0, 0] ![512, 1024] inb_S512x1024_S512x1024_0_0, dyc ⟨x0, x1, x2, x3, x4, x5⟩⟩] := by
  unfold out0_A_7
  rw [View.read_writes_eq_canon _ _ _ (cover0_A_7 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, h1.read_unread, h2.read_unread, h3.read_unread, h4.read_unread, h5.read_unread, h6.read_unread]
  rfl

/-- The accumulator of the weight's gradient after the first point. -/
theorem out8_A (hc0 : cond0_0 i) :
    out0_A_8 c i a1 h1 a2 h2 a3 h3 a4 h4 a5 h5 a6 h6 a7 h7 a8 h8 a9 h9 a10 h10 hc0 x0 x1 x2 x3 x4 x5 =
      View.canon (pieces8 ⟨x0, x1, x2, x3, x4, x5⟩ (View.ld k0_pay2 wA) (View.ld k0_pay2 wB) (View.ld k0_pay2 wC)
        ++ [⟨Rect.unit ![0, 0] ![1024, 1024] inb_S1024x1024_S1024x1024_0_0, k0_pay2⟩]) := by
  unfold out0_A_8
  rw [View.read_writes_eq_canon _ _ _ (cover0_A_8 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, h1.read_unread, h2.read_unread, h3.read_unread, h4.read_unread, h5.read_unread, h6.read_unread]
  simp (disch := decide) only [View.readCov_skip]
  rw [View.readCov_fill _ _ _ _ wA (by decide), View.readCov_fill _ _ _ _ wB (by decide), View.readCov_fill _ _ _ _ wC (by decide)]
  rfl

/-- The accumulator of the squared errors after the first point. -/
theorem out9_A (hc0 : cond0_0 i) :
    out0_A_9 c i a1 h1 a2 h2 a3 h3 a4 h4 a5 h5 a6 h6 a7 h7 a8 h8 a9 h9 a10 h10 hc0 x0 x1 x2 x3 x4 x5 =
      View.canon (pieces9 ⟨x0, x1, x2, x3, x4, x5⟩ (fun a h => View.ld k0_pay3 (rL a h)) ++ [⟨Rect.unit ![0, 0] ![8, 128] inb_S8x128_S8x128_0_0, k0_pay3⟩]) := by
  unfold out0_A_9
  rw [View.read_writes_eq_canon _ _ _ (cover0_A_9 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, h1.read_unread, h2.read_unread, h3.read_unread, h4.read_unread, h5.read_unread, h6.read_unread]
  simp (disch := decide) only [View.readCov_skip]
  rw [View.readCov_fill _ _ _ _ (rL 0 (by decide)) (by decide),
    View.readCov_fill _ _ _ _ (rL 1 (by decide)) (by decide),
    View.readCov_fill _ _ _ _ (rL 2 (by decide)) (by decide),
    View.readCov_fill _ _ _ _ (rL 3 (by decide)) (by decide),
    View.readCov_fill _ _ _ _ (rL 4 (by decide)) (by decide),
    View.readCov_fill _ _ _ _ (rL 5 (by decide)) (by decide),
    View.readCov_fill _ _ _ _ (rL 6 (by decide)) (by decide),
    View.readCov_fill _ _ _ _ (rL 7 (by decide)) (by decide)]
  rfl

/-- The block of the output's gradient after a later point. -/
theorem out6_B (hc0 : ¬cond0_0 i) :
    out0_B_6 c i a1 h1 a2 h2 a3 h3 a4 h4 a5 h5 a6 h6 a7 h7 a8 h8 a9 h9 a10 h10 hc0 x0 x1 x2 x3 x4 x5 o8 o9 =
      View.canon [⟨Rect.unit ![0, 0] ![512, 1024] inb_S512x1024_S512x1024_0_0, dyv ⟨x0, x1, x2, x3, x4, x5⟩⟩] := by
  unfold out0_B_6
  rw [View.read_writes_eq_canon _ _ _ (cover0_B_6 c i a1 h1 a2 h2 a3 h3 a4 h4 a5 h5 a6 h6 a7 h7 a8 h8 a9 h9 a10 h10 hc0 x0 x1 x2 x3 x4 x5 o8 o9)]
  unfold kernelRun0_B
  dsimp only
  sl_unfold_words
  simp only [View.readAt_eq_ld, h1.read_unread, h2.read_unread, h3.read_unread, h4.read_unread, h5.read_unread, h6.read_unread]
  rfl

/-- The block of the mixers' gradient after a later point. -/
theorem out7_B (hc0 : ¬cond0_0 i) :
    out0_B_7 c i a1 h1 a2 h2 a3 h3 a4 h4 a5 h5 a6 h6 a7 h7 a8 h8 a9 h9 a10 h10 hc0 x0 x1 x2 x3 x4 x5 o8 o9 =
      View.canon [⟨Rect.unit ![0, 0] ![512, 1024] inb_S512x1024_S512x1024_0_0, dyc ⟨x0, x1, x2, x3, x4, x5⟩⟩] := by
  unfold out0_B_7
  rw [View.read_writes_eq_canon _ _ _ (cover0_B_7 c i a1 h1 a2 h2 a3 h3 a4 h4 a5 h5 a6 h6 a7 h7 a8 h8 a9 h9 a10 h10 hc0 x0 x1 x2 x3 x4 x5 o8 o9)]
  unfold kernelRun0_B
  dsimp only
  sl_unfold_words
  simp only [View.readAt_eq_ld, h1.read_unread, h2.read_unread, h3.read_unread, h4.read_unread, h5.read_unread, h6.read_unread]
  rfl

/-- The accumulator of the weight's gradient after a later point. -/
theorem out8_B (hc0 : ¬cond0_0 i) :
    out0_B_8 c i a1 h1 a2 h2 a3 h3 a4 h4 a5 h5 a6 h6 a7 h7 a8 h8 a9 h9 a10 h10 hc0 x0 x1 x2 x3 x4 x5 o8 o9 =
      View.canon (pieces8 ⟨x0, x1, x2, x3, x4, x5⟩ (View.ld o8 wA) (View.ld o8 wB) (View.ld o8 wC)) := by
  unfold out0_B_8
  rw [View.read_writes_eq_canon _ _ _ (cover0_B_8 c i a1 h1 a2 h2 a3 h3 a4 h4 a5 h5 a6 h6 a7 h7 a8 h8 a9 h9 a10 h10 hc0 x0 x1 x2 x3 x4 x5 o8 o9)]
  unfold kernelRun0_B
  dsimp only
  sl_unfold_words
  simp only [View.readAt_eq_ld, h1.read_unread, h2.read_unread, h3.read_unread, h4.read_unread, h5.read_unread, h6.read_unread, h9.read_unread]
  rfl

/-- The accumulator of the squared errors after a later point. -/
theorem out9_B (hc0 : ¬cond0_0 i) :
    out0_B_9 c i a1 h1 a2 h2 a3 h3 a4 h4 a5 h5 a6 h6 a7 h7 a8 h8 a9 h9 a10 h10 hc0 x0 x1 x2 x3 x4 x5 o8 o9 =
      View.canon (pieces9 ⟨x0, x1, x2, x3, x4, x5⟩ fun a h => View.ld o9 (rL a h)) := by
  unfold out0_B_9
  rw [View.read_writes_eq_canon _ _ _ (cover0_B_9 c i a1 h1 a2 h2 a3 h3 a4 h4 a5 h5 a6 h6 a7 h7 a8 h8 a9 h9 a10 h10 hc0 x0 x1 x2 x3 x4 x5 o8 o9)]
  unfold kernelRun0_B
  dsimp only
  sl_unfold_words
  simp only [View.readAt_eq_ld, h1.read_unread, h2.read_unread, h3.read_unread, h4.read_unread, h5.read_unread, h6.read_unread, h10.read_unread]
  rfl

end Cases
end Proof.Out

end

end
-- ==== Proof.OutBlock.lean ====
module

public import proofs.«01_k».proof.Proof.OutUnit
public import Idealize.ShloMosaic.Lib.Pointwise

/-!
  The blocks of one grid point of the loss head as sums of extended reals: the output's gradient, the mixers' gradient, and what
  the two accumulators grow by.
-/

@[expose] public section

noncomputable section

open Idealize.ShloMosaic Idealize.ShloMosaic.TcCoe

namespace Proof.Out

/-- The call's arguments: the three mixers' outputs, the block's input, the target and the output weight. -/
structure Data where
  Yg : ℕ → ℕ → EReal
  Ya : ℕ → ℕ → EReal
  Ym : ℕ → ℕ → EReal
  X : ℕ → ℕ → EReal
  T : ℕ → ℕ → EReal
  W : ℕ → ℕ → EReal

namespace Data
variable (d : Data)

/-- The mixers' outputs side by side. -/
def Y (R k : ℕ) : EReal := if k < 256 then d.Yg R k else if k < 768 then d.Ya R (k - 256) else d.Ym R (k - 768)

/-- The error of the block's output against the target. -/
def e (R j : ℕ) : EReal :=
  d.X R j + (∑ k ∈ Finset.range 256, d.Yg R k * d.W k j + ∑ k ∈ Finset.range 512, d.Ya R k * d.W (256 + k) j
    + ∑ k ∈ Finset.range 256, d.Ym R k * d.W (768 + k) j) - d.T R j

/-- The gradient of the block's output. -/
def dy (R j : ℕ) : EReal := d.e R j * Ideal.ofBits .f32 0x3A800000#32

/-- The gradient of the mixers' outputs. -/
def dyc (R k : ℕ) : EReal := ∑ j ∈ Finset.range 1024, d.dy R j * d.W k j

/-- The terms of the weight's gradient and of the squared errors' column sums that the `n`th 512 rows give. -/
def gw (n k j : ℕ) : EReal := ∑ r ∈ Finset.range 512, d.Y (512 * n + r) k * d.dy (512 * n + r) j
def ls (n j : ℕ) : EReal := ∑ r ∈ Finset.range 512, d.e (512 * n + r) j * d.e (512 * n + r) j

end Data

open Cert.Kernel3Ideal Cert.Kernel3Ideal.Gen

/-- The six blocks of grid point `t` hold the arguments' rows `512 t …` and the whole weight. -/
structure Blk (d : Data) (t : ℕ) (I : Ins Ideal) : Prop where
  h0 : ∀ (r : Fin 512) (k : Fin 256), I.x0 (ix2 r k) = d.Yg (512 * t + r) k
  h1 : ∀ (r : Fin 512) (k : Fin 512), I.x1 (ix2 r k) = d.Ya (512 * t + r) k
  h2 : ∀ (r : Fin 512) (k : Fin 256), I.x2 (ix2 r k) = d.Ym (512 * t + r) k
  h3 : ∀ (r : Fin 512) (j : Fin 1024), I.x3 (ix2 r j) = d.X (512 * t + r) j
  h4 : ∀ (r : Fin 512) (j : Fin 1024), I.x4 (ix2 r j) = d.T (512 * t + r) j
  h5 : ∀ (k j : Fin 1024), I.x5 (ix2 k j) = d.W k j

theorem off0 : (![0, 0] : Fin 2 → ℕ) = fun _ => 0 := by funext a; fin_cases a <;> rfl

variable {d : Data} {t : ℕ} {I : Ins Ideal} (H : Blk d t I)
include H

theorem l0_apply (r : Fin 512) (k : Fin 256) : l0 I (ix2 r k) = d.Yg (512 * t + r) k :=
  (congrFun (View.ld_unit_zero (S := S512x256) off0 inb_S512x256_S512x256_0_0 I.x0) _).trans (H.h0 r k)
theorem l1_apply (r : Fin 512) (k : Fin 512) : l1 I (ix2 r k) = d.Ya (512 * t + r) k :=
  (congrFun (View.ld_unit_zero (S := S512x512) off0 inb_S512x512_S512x512_0_0 I.x1) _).trans (H.h1 r k)
theorem l2_apply (r : Fin 512) (k : Fin 256) : l2 I (ix2 r k) = d.Ym (512 * t + r) k :=
  (congrFun (View.ld_unit_zero (S := S512x256) off0 inb_S512x256_S512x256_0_0 I.x2) _).trans (H.h2 r k)
theorem l3_apply (r : Fin 512) (j : Fin 1024) : l3 I (ix2 r j) = d.X (512 * t + r) j :=
  (congrFun (View.ld_unit_zero (S := S512x1024) off0 inb_S512x1024_S512x1024_0_0 I.x3) _).trans (H.h3 r j)
theorem l4_apply (r : Fin 512) (j : Fin 1024) : l4 I (ix2 r j) = d.T (512 * t + r) j :=
  (congrFun (View.ld_unit_zero (S := S512x1024) off0 inb_S512x1024_S512x1024_0_0 I.x4) _).trans (H.h4 r j)
theorem l5_apply (k j : Fin 1024) : l5 I (ix2 k j) = d.W k j :=
  (congrFun (View.ld_unit_zero (S := S1024x1024) off0 inb_S1024x1024_S1024x1024_0_0 I.x5) _).trans (H.h5 k j)

theorem err_apply (r : Fin 512) (j : Fin 1024) : err I (ix2 r j) = d.e (512 * t + r) j := by
  have a0 := l0_apply H
  have a1 := l1_apply H
  have a2 := l2_apply H
  have a3 := l3_apply H
  have a4 := l4_apply H
  have b := H.h5
  unfold err
  generalize l0 I = v0 at a0 ⊢
  generalize l1 I = v1 at a1 ⊢
  generalize l2 I = v2 at a2 ⊢
  generalize l3 I = v3 at a3 ⊢
  generalize l4 I = v4 at a4 ⊢
  pointwise [k0_pay7, k0_pay4, k0_pay5, k0_pay6]
  simp only [a0, a1, a2, a3, a4, b]
  unfold Data.e
  simp only [Finset.sum_range]

theorem dyv_apply (r : Fin 512) (j : Fin 1024) : dyv I (ix2 r j) = d.dy (512 * t + r) j := by
  have a := err_apply H
  unfold dyv
  generalize err I = v at a ⊢
  pointwise [k0_pay17]
  rw [a]
  rfl

theorem dyc_apply (r : Fin 512) (k : Fin 1024) : dyc I (ix2 r k) = d.dyc (512 * t + r) k := by
  have a := dyv_apply H
  have b := l5_apply H
  unfold dyv at a
  unfold dyc
  generalize l5 I = w at b ⊢
  generalize err I = v at a ⊢
  pointwise [k0_pay19, k0_pay18]
  simp only [a, b]
  unfold Data.dyc
  simp only [Finset.sum_range]

theorem sq_apply (j : Fin 1024) : sq I (ix2 0 j) = d.ls t j := by
  have a := err_apply H
  have e : sq I = shapeCast S1x1024 (multiReduction .add [0] S1024 (mulf (err I) (err I)) 0x00000000#32 reduces_S512x1024_S1024 (.inl rfl) rfl) shapeCasts_S1024_S1x1024 := rfl
  rw [e]
  generalize err I = v at a ⊢
  pointwise []
  simp only [a]
  unfold Data.ls
  simp only [Finset.sum_range]

theorem rowS_apply (a : ℕ) (h : a < 8) (o : Vec Ideal S1x128 .f32) (l : Fin 128) :
    rowS I a h o (ix2 0 l) = o (ix2 0 l) + d.ls t (128 * a + l) := by
  have b := sq_apply H
  unfold rowS
  generalize sq I = v at b ⊢
  have e : extractStridedSlice S1x128 ![0, 128 * a] v (slices a h) (ix2 0 l) = v (ix2 0 ⟨128 * a + l, by omega⟩) := by
    refine congrArg v (funext fun x => Fin.ext ?_)
    match x with
    | ⟨0, _⟩ => rfl
    | ⟨1, _⟩ => rfl
  have e2 : shapeCast S1x128 o shapeCasts_S1x128_S1x128 (ix2 0 l) = o (ix2 0 l) := by pointwise []
  show shapeCast S1x128 o shapeCasts_S1x128_S1x128 (ix2 0 l) + extractStridedSlice S1x128 ![0, 128 * a] v (slices a h) (ix2 0 l) = _
  rw [e, e2, b]

theorem gwA_apply (o : Vec Ideal S256x1024 .f32) (k : Fin 256) (j : Fin 1024) :
    k0_pay20 (k0_pay4 (l0 I)) (err I) o (ix2 k j) = o (ix2 k j) + d.gw t k j := by
  have a := dyv_apply H
  have b := l0_apply H
  unfold dyv at a
  generalize l0 I = w at b ⊢
  generalize err I = v at a ⊢
  pointwise [k0_pay20, k0_pay18, k0_pay4]
  simp only [a, b]
  unfold Data.gw Data.Y
  simp only [if_pos k.isLt, Finset.sum_range]

theorem gwB_apply (o : Vec Ideal S512x1024 .f32) (k : Fin 512) (j : Fin 1024) :
    k0_pay21 (k0_pay5 (l1 I)) (err I) o (ix2 k j) = o (ix2 k j) + d.gw t (256 + k) j := by
  have a := dyv_apply H
  have b := l1_apply H
  unfold dyv at a
  generalize l1 I = w at b ⊢
  generalize err I = v at a ⊢
  pointwise [k0_pay21, k0_pay18, k0_pay5]
  simp only [a, b]
  unfold Data.gw Data.Y
  simp only [if_neg (show ¬ 256 + (k : ℕ) < 256 by omega), if_pos (show 256 + (k : ℕ) < 768 by omega), Nat.add_sub_cancel_left, Finset.sum_range]

theorem gwC_apply (o : Vec Ideal S256x1024 .f32) (k : Fin 256) (j : Fin 1024) :
    k0_pay1 (k0_pay22 o) (k0_pay23 (k0_pay6 (l2 I)) (err I)) (ix2 k j) = o (ix2 k j) + d.gw t (768 + k) j := by
  have a := dyv_apply H
  have b := l2_apply H
  unfold dyv at a
  generalize l2 I = w at b ⊢
  generalize err I = v at a ⊢
  pointwise [k0_pay1, k0_pay22, k0_pay23, k0_pay18, k0_pay6]
  simp only [a, b]
  unfold Data.gw Data.Y
  simp only [if_neg (show ¬ 768 + (k : ℕ) < 256 by omega), if_neg (show ¬ 768 + (k : ℕ) < 768 by omega), Nat.add_sub_cancel_left, Finset.sum_range]

/-! ## The accumulators after a point -/

omit H in
theorem eq_ix2 {m n : ℕ} (y : (⟨2, ![m, n]⟩ : Shape).Idx) : y = ix2 (y 0) (y 1) := by funext a; fin_cases a <;> rfl

/-- An array whose entries are a function of the two coordinates. -/
def arr2 {m n : ℕ} (A : ℕ → ℕ → EReal) (y : (⟨2, ![m, n]⟩ : Shape).Idx) : EReal := A (y 0) (y 1)

omit H in
/-- A box of rows and columns of such an array is such an array, shifted. -/
theorem ld_arr2 {m n a b k l : ℕ} (A : ℕ → ℕ → EReal) (h : ∀ i : Fin 2, (![a, b] : Fin 2 → ℕ) i + (![k, l] : Fin 2 → ℕ) i ≤ (![m, n] : Fin 2 → ℕ) i)
    (x : Fin k) (y : Fin l) :
    View.ld (Val := Elt Ideal) (e' := .f32) (S := ⟨2, ![m, n]⟩) (arr2 A) (Rect.unit ![a, b] ![k, l] h) (ix2 x y) = A (a + x) (b + y) := by
  show A (a + 1 * (x : ℕ)) (b + 1 * (y : ℕ)) = _
  rw [Nat.one_mul, Nat.one_mul]

/-- The weight's gradient, and the squared errors by 128 columns, after one more point. -/
abbrev next8 (d : Data) (t : ℕ) (A : ℕ → ℕ → EReal) (k j : ℕ) : EReal := A k j + d.gw t k j
abbrev next9 (d : Data) (t : ℕ) (A : ℕ → ℕ → EReal) (q l : ℕ) : EReal := A q l + d.ls t (128 * q + l)

theorem pieces8_ok (A : ℕ → ℕ → EReal) :
    View.PiecesOf (arr2 (next8 d t A)) (pieces8 I (View.ld (arr2 A) wA) (View.ld (arr2 A) wB) (View.ld (arr2 A) wC)) := by
  refine ⟨fun x => ?_, fun x => ?_, fun x => ?_, trivial⟩
  · obtain ⟨k, j, rfl⟩ : ∃ (k : Fin 256) (j : Fin 1024), x = ix2 k j := ⟨x 0, x 1, eq_ix2 x⟩
    refine (gwC_apply H _ k j).trans ((congrArg (· + _) (ld_arr2 A _ k j)).trans ?_)
    show _ = next8 d t A (768 + 1 * (k : ℕ)) (0 + 1 * (j : ℕ))
    simp only [Nat.one_mul, Nat.zero_add]
  · obtain ⟨k, j, rfl⟩ : ∃ (k : Fin 512) (j : Fin 1024), x = ix2 k j := ⟨x 0, x 1, eq_ix2 x⟩
    refine (gwB_apply H _ k j).trans ((congrArg (· + _) (ld_arr2 A _ k j)).trans ?_)
    show _ = next8 d t A (256 + 1 * (k : ℕ)) (0 + 1 * (j : ℕ))
    simp only [Nat.one_mul, Nat.zero_add]
  · obtain ⟨k, j, rfl⟩ : ∃ (k : Fin 256) (j : Fin 1024), x = ix2 k j := ⟨x 0, x 1, eq_ix2 x⟩
    refine (gwA_apply H _ k j).trans ((congrArg (· + _) (ld_arr2 A _ k j)).trans ?_)
    show _ = next8 d t A (0 + 1 * (k : ℕ)) (0 + 1 * (j : ℕ))
    simp only [Nat.one_mul, Nat.zero_add]

omit H in
theorem cover8 (oA : Vec Ideal S256x1024 .f32) (oB : Vec Ideal S512x1024 .f32) (oC : Vec Ideal S256x1024 .f32) (y : S1024x1024.Idx) :
    ∃ p ∈ pieces8 I oA oB oC, y ∈ p.1.set := by
  have h0 : (y 0 : ℕ) < 1024 := (y 0).isLt
  have h1 : (y 1 : ℕ) < 1024 := (y 1).isLt
  by_cases ha : (y 0 : ℕ) < 256
  · refine ⟨_, List.mem_cons_of_mem _ (List.mem_cons_of_mem _ List.mem_cons_self), ?_⟩
    rw [Rect.mem_set_unit]
    intro i
    match i with
    | 0 => exact (show 0 ≤ (y 0 : ℕ) ∧ (y 0 : ℕ) < 0 + 256 by omega)
    | 1 => exact (show 0 ≤ (y 1 : ℕ) ∧ (y 1 : ℕ) < 0 + 1024 by omega)
  · by_cases hb : (y 0 : ℕ) < 768
    · refine ⟨_, List.mem_cons_of_mem _ List.mem_cons_self, ?_⟩
      rw [Rect.mem_set_unit]
      intro i
      match i with
      | 0 => exact (show 256 ≤ (y 0 : ℕ) ∧ (y 0 : ℕ) < 256 + 512 by omega)
      | 1 => exact (show 0 ≤ (y 1 : ℕ) ∧ (y 1 : ℕ) < 0 + 1024 by omega)
    · refine ⟨_, List.mem_cons_self, ?_⟩
      rw [Rect.mem_set_unit]
      intro i
      match i with
      | 0 => exact (show 768 ≤ (y 0 : ℕ) ∧ (y 0 : ℕ) < 768 + 256 by omega)
      | 1 => exact (show 0 ≤ (y 1 : ℕ) ∧ (y 1 : ℕ) < 0 + 1024 by omega)

theorem val8_B (A : ℕ → ℕ → EReal) :
    View.canon (pieces8 I (View.ld (arr2 A) wA) (View.ld (arr2 A) wB) (View.ld (arr2 A) wC)) = arr2 (next8 d t A) :=
  funext fun y => View.canon_apply_of_pieces _ _ (pieces8_ok H A).mem y (cover8 _ _ _ y)

theorem val8_A (L : List (View.Piece (Elt Ideal) S1024x1024 .f32)) :
    View.canon (pieces8 I (View.ld (k0_pay2 (F := Ideal)) wA) (View.ld (k0_pay2 (F := Ideal)) wB) (View.ld (k0_pay2 (F := Ideal)) wC) ++ L)
      = arr2 (next8 d t fun _ _ => 0) := by
  have e : k0_pay2 (F := Ideal) = arr2 fun _ _ => 0 := by
    funext y
    show Ideal.ofBits .f32 0#32 = 0
    rw [Ideal.ofBits_zero_f32]
  rw [e]
  exact funext fun y => View.canon_append_of_piecesOf _ _ _ (pieces8_ok H _) y (cover8 _ _ _ y)

theorem row9_ok (A : ℕ → ℕ → EReal) (a : ℕ) (h : a < 8) (x : (rL a h).shape.Idx) :
    rowS I a h (View.ld (Val := Elt Ideal) (e' := .f32) (S := S8x128) (arr2 A) (rL a h)) x = arr2 (next9 d t A) ((rL a h).emb x) := by
  obtain ⟨l, rfl⟩ : ∃ l : Fin 128, x = ix2 (0 : Fin 1) l := ⟨x 1, by
    funext i
    match i with
    | ⟨0, _⟩ => exact Fin.ext (by have : (x 0 : ℕ) < 1 := (x 0).isLt; show (x 0 : ℕ) = 0; omega)
    | ⟨1, _⟩ => rfl⟩
  rw [rowS_apply H, ld_arr2]
  show _ = next9 d t A (a + 1 * 0) (0 + 1 * (l : ℕ))
  simp only [Nat.one_mul, Nat.zero_add, Nat.mul_zero, Nat.add_zero, Fin.val_zero]

theorem pieces9_ok (A : ℕ → ℕ → EReal) : View.PiecesOf (arr2 (next9 d t A)) (pieces9 I fun a h => View.ld (arr2 A) (rL a h)) :=
  ⟨row9_ok H A 7 _, row9_ok H A 6 _, row9_ok H A 5 _, row9_ok H A 4 _, row9_ok H A 3 _, row9_ok H A 2 _, row9_ok H A 1 _, row9_ok H A 0 _, trivial⟩

omit H in
theorem cover9 (o : (a : ℕ) → a < 8 → Vec Ideal S1x128 .f32) (y : S8x128.Idx) : ∃ p ∈ pieces9 I o, y ∈ p.1.set := by
  have h0 : (y 0 : ℕ) < 8 := (y 0).isLt
  have h1 : (y 1 : ℕ) < 128 := (y 1).isLt
  have key : ∀ a h, (y 0 : ℕ) = a → y ∈ (rL a h).set := by
    intro a h e
    rw [Rect.mem_set_unit]
    intro i
    match i with
    | 0 => exact (show a ≤ (y 0 : ℕ) ∧ (y 0 : ℕ) < a + 1 by omega)
    | 1 => exact (show 0 ≤ (y 1 : ℕ) ∧ (y 1 : ℕ) < 0 + 128 by omega)
  have hm : ∀ a (h : a < 8), ⟨rL a h, rowS I a h (o a h)⟩ ∈ pieces9 I o := by
    intro a h
    unfold pieces9
    match a, h with
    | 0, _ => simp
    | 1, _ => simp
    | 2, _ => simp
    | 3, _ => simp
    | 4, _ => simp
    | 5, _ => simp
    | 6, _ => simp
    | 7, _ => simp
  exact ⟨_, hm _ h0, key _ h0 rfl⟩

theorem val9_B (A : ℕ → ℕ → EReal) :
    View.canon (pieces9 I fun a h => View.ld (arr2 A) (rL a h)) = arr2 (next9 d t A) :=
  funext fun y => View.canon_apply_of_pieces _ _ (pieces9_ok H A).mem y (cover9 _ y)

theorem val9_A (L : List (View.Piece (Elt Ideal) S8x128 .f32)) :
    View.canon ((pieces9 I fun a h => View.ld (k0_pay3 (F := Ideal)) (rL a h)) ++ L) = arr2 (next9 d t fun _ _ => 0) := by
  have e : k0_pay3 (F := Ideal) = arr2 fun _ _ => 0 := by
    funext y
    show Ideal.ofBits .f32 0#32 = 0
    rw [Ideal.ofBits_zero_f32]
  rw [e]
  exact funext fun y => View.canon_append_of_piecesOf _ _ _ (pieces9_ok H _) y (cover9 _ y)

theorem val6 : View.canon (Val := Elt Ideal) (s := S512x1024) (e := .f32) [⟨Rect.unit ![0, 0] ![512, 1024] inb_S512x1024_S512x1024_0_0, dyv I⟩] = arr2 fun r j => d.dy (512 * t + r) j := by
  rw [View.canon_unit_zero (S := S512x1024) off0 inb_S512x1024_S512x1024_0_0]
  funext y
  obtain ⟨r, j, rfl⟩ : ∃ (r : Fin 512) (j : Fin 1024), y = ix2 r j := ⟨y 0, y 1, eq_ix2 y⟩
  exact dyv_apply H r j

theorem val7 : View.canon (Val := Elt Ideal) (s := S512x1024) (e := .f32) [⟨Rect.unit ![0, 0] ![512, 1024] inb_S512x1024_S512x1024_0_0, dyc I⟩] = arr2 fun r j => d.dyc (512 * t + r) j := by
  rw [View.canon_unit_zero (S := S512x1024) off0 inb_S512x1024_S512x1024_0_0]
  funext y
  obtain ⟨r, j, rfl⟩ : ∃ (r : Fin 512) (j : Fin 1024), y = ix2 r j := ⟨y 0, y 1, eq_ix2 y⟩
  exact dyc_apply H r j

end Proof.Out

end

end
-- ==== Proof.ProjBlock.lean ====
module

public import proofs.«01_k».proof.Proof.ProjUnit
public import proofs.«01_k».proof.Proof.OutBlock

/-!
  The blocks of one grid point of the projections' backward pass as sums of extended reals: the gradient of the rows, and what
  the accumulators of the weights' and of the gain's gradients grow by.
-/

@[expose] public section

noncomputable section

open Idealize.ShloMosaic Idealize.ShloMosaic.TcCoe

namespace Proof.Proj

open Proof.Out (arr2 off0 ld_arr2)

/-- The call's arguments: the block's input, the gradient of its output, the gain, the projections' weight and the gradient of
what they give. -/
structure Data where
  X : ℕ → ℕ → EReal
  DY : ℕ → ℕ → EReal
  G : ℕ → EReal
  W : ℕ → ℕ → EReal
  P : ℕ → ℕ → EReal

namespace Data
variable (d : Data)

/-- The mean square of a row, with the small constant added. -/
def var (R : ℕ) : EReal :=
  Ideal.div (∑ j ∈ Finset.range 1024, d.X R j * d.X R j) (Ideal.ofBits .f32 0x44800000#32) + Ideal.ofBits .f32 0x358637BD#32

/-- The factor that normalises a row, the normalised row, and its product with the gain. -/
def rs (R : ℕ) : EReal := Ideal.rsqrt (d.var R)
def z (R j : ℕ) : EReal := d.X R j * d.rs R
def h (R j : ℕ) : EReal := d.z R j * d.G j

/-- The gradients of that product, and of the normalised row. -/
def dh (R j : ℕ) : EReal := ∑ c ∈ Finset.range 3328, d.P R c * d.W j c
def dz (R j : ℕ) : EReal := d.dh R j * d.G j

/-- The gradient of the row. -/
def gx (R j : ℕ) : EReal :=
  d.DY R j + d.rs R * (d.dz R j - d.z R j * Ideal.div (∑ i ∈ Finset.range 1024, d.dz R i * d.z R i) (Ideal.ofBits .f32 0x44800000#32))

/-- The terms of the weights' and of the gain's gradients that the `n`th 512 rows give. -/
def gw (n c k : ℕ) : EReal := ∑ r ∈ Finset.range 512, d.P (512 * n + r) c * d.h (512 * n + r) k
def ls (n j : ℕ) : EReal := ∑ r ∈ Finset.range 512, d.dh (512 * n + r) j * d.z (512 * n + r) j

end Data

/-- A sum over the 3328 columns, projection by projection. -/
theorem sum_bands (f : ℕ → EReal) : ∑ c ∈ Finset.range 3328, f c
    = ∑ c ∈ Finset.range 768, f c + ∑ c ∈ Finset.range 512, f (768 + c) + ∑ c ∈ Finset.range 512, f (1280 + c)
      + ∑ c ∈ Finset.range 512, f (1792 + c) + ∑ c ∈ Finset.range 512, f (2304 + c) + ∑ c ∈ Finset.range 256, f (2816 + c)
      + ∑ c ∈ Finset.range 256, f (3072 + c) := by
  rw [show (3328 : ℕ) = 3072 + 256 from rfl, Finset.sum_range_add, show (3072 : ℕ) = 2816 + 256 from rfl, Finset.sum_range_add,
    show (2816 : ℕ) = 2304 + 512 from rfl, Finset.sum_range_add, show (2304 : ℕ) = 1792 + 512 from rfl, Finset.sum_range_add,
    show (1792 : ℕ) = 1280 + 512 from rfl, Finset.sum_range_add, show (1280 : ℕ) = 768 + 512 from rfl, Finset.sum_range_add]

open Cert.Kernel2Ideal Cert.Kernel2Ideal.Gen

/-- The blocks of grid point `t` hold the arguments' rows `512 t …`, and the scratch the transposed weight. -/
structure Blk (d : Data) (t : ℕ) (I : Ins Ideal) (w : Vec Ideal S3328x1024 .bf16) : Prop where
  hx : ∀ (r : Fin 512) (j : Fin 1024), I.x (ix2 r j) = d.X (512 * t + r) j
  hdy : ∀ (r : Fin 512) (j : Fin 1024), I.dy (ix2 r j) = d.DY (512 * t + r) j
  hg : ∀ j : Fin 1024, I.g (ix2 0 j) = d.G j
  hp0 : ∀ (r : Fin 512) (k : Fin 768), I.p0 (ix2 r k) = d.P (512 * t + r) k
  hp1 : ∀ (r : Fin 512) (k : Fin 512), I.p1 (ix2 r k) = d.P (512 * t + r) (768 + k)
  hp2 : ∀ (r : Fin 512) (k : Fin 512), I.p2 (ix2 r k) = d.P (512 * t + r) (1280 + k)
  hp3 : ∀ (r : Fin 512) (k : Fin 512), I.p3 (ix2 r k) = d.P (512 * t + r) (1792 + k)
  hp4 : ∀ (r : Fin 512) (k : Fin 512), I.p4 (ix2 r k) = d.P (512 * t + r) (2304 + k)
  hp5 : ∀ (r : Fin 512) (k : Fin 256), I.p5 (ix2 r k) = d.P (512 * t + r) (2816 + k)
  hp6 : ∀ (r : Fin 512) (k : Fin 256), I.p6 (ix2 r k) = d.P (512 * t + r) (3072 + k)
  hw : w = arr2 fun c j => d.W j c

/-- A band of rows of the weights' scratch. -/
theorem ld_band {a k : ℕ} (A : ℕ → ℕ → EReal) (h : ∀ i : Fin 2, (![a, 0] : Fin 2 → ℕ) i + (![k, 1024] : Fin 2 → ℕ) i ≤ (![3328, 1024] : Fin 2 → ℕ) i)
    (x : Fin k) (y : Fin 1024) :
    View.ld (Val := Elt Ideal) (e' := .bf16) (S := S3328x1024) (arr2 A) (Rect.unit ![a, 0] ![k, 1024] h) (ix2 x y) = A (a + x) y := by
  show A (a + 1 * (x : ℕ)) (0 + 1 * (y : ℕ)) = _
  rw [Nat.one_mul, Nat.one_mul, Nat.zero_add]

variable {d : Data} {t : ℕ} {I : Ins Ideal} {w : Vec Ideal S3328x1024 .bf16} (H : Blk d t I w)
include H

theorem lx_apply (r : Fin 512) (j : Fin 1024) : lx I (ix2 r j) = d.X (512 * t + r) j :=
  (congrFun (View.ld_unit_zero (S := S512x1024) off0 inb_S512x1024_S512x1024_0_0 I.x) _).trans (H.hx r j)
theorem ldy_apply (r : Fin 512) (j : Fin 1024) : ldy I (ix2 r j) = d.DY (512 * t + r) j :=
  (congrFun (View.ld_unit_zero (S := S512x1024) off0 inb_S512x1024_S512x1024_0_0 I.dy) _).trans (H.hdy r j)
theorem lg_apply (j : Fin 1024) : lg I (ix2 0 j) = d.G j :=
  (congrFun (View.ld_unit_zero (S := S1x1024) off0 inb_S1x1024_S1x1024_0_0 I.g) _).trans (H.hg j)
theorem lp0_apply (r : Fin 512) (k : Fin 768) : lp0 I (ix2 r k) = d.P (512 * t + r) k :=
  (congrFun (View.ld_unit_zero (S := S512x768) off0 inb_S512x768_S512x768_0_0 I.p0) _).trans (H.hp0 r k)
theorem lp1_apply (r : Fin 512) (k : Fin 512) : lp1 I (ix2 r k) = d.P (512 * t + r) (768 + k) :=
  (congrFun (View.ld_unit_zero (S := S512x512) off0 inb_S512x512_S512x512_0_0 I.p1) _).trans (H.hp1 r k)
theorem lp2_apply (r : Fin 512) (k : Fin 512) : lp2 I (ix2 r k) = d.P (512 * t + r) (1280 + k) :=
  (congrFun (View.ld_unit_zero (S := S512x512) off0 inb_S512x512_S512x512_0_0 I.p2) _).trans (H.hp2 r k)
theorem lp3_apply (r : Fin 512) (k : Fin 512) : lp3 I (ix2 r k) = d.P (512 * t + r) (1792 + k) :=
  (congrFun (View.ld_unit_zero (S := S512x512) off0 inb_S512x512_S512x512_0_0 I.p3) _).trans (H.hp3 r k)
theorem lp4_apply (r : Fin 512) (k : Fin 512) : lp4 I (ix2 r k) = d.P (512 * t + r) (2304 + k) :=
  (congrFun (View.ld_unit_zero (S := S512x512) off0 inb_S512x512_S512x512_0_0 I.p4) _).trans (H.hp4 r k)
theorem lp5_apply (r : Fin 512) (k : Fin 256) : lp5 I (ix2 r k) = d.P (512 * t + r) (2816 + k) :=
  (congrFun (View.ld_unit_zero (S := S512x256) off0 inb_S512x256_S512x256_0_0 I.p5) _).trans (H.hp5 r k)
theorem lp6_apply (r : Fin 512) (k : Fin 256) : lp6 I (ix2 r k) = d.P (512 * t + r) (3072 + k) :=
  (congrFun (View.ld_unit_zero (S := S512x256) off0 inb_S512x256_S512x256_0_0 I.p6) _).trans (H.hp6 r k)

theorem r_apply (r : Fin 512) : k0_pay3 (lx I) (ix2 r 0) = d.rs (512 * t + r) := by
  have a := lx_apply H
  generalize lx I = x at a ⊢
  pointwise [k0_pay3]
  simp only [a]
  unfold Data.rs Data.var
  simp only [Finset.sum_range]

theorem zv_apply (r : Fin 512) (j : Fin 1024) : zv I (ix2 r j) = d.z (512 * t + r) j := by
  have a := lx_apply H r j
  have b := r_apply H r
  have e : zv I (ix2 r j) = lx I (ix2 r j) * k0_pay3 (lx I) (ix2 r 0) := by
    unfold zv
    pointwise [k0_pay4]
  rw [e, a, b]
  rfl

theorem hv_apply (r : Fin 512) (j : Fin 1024) : hv I (ix2 r j) = d.h (512 * t + r) j := by
  have a := zv_apply H r j
  have b := lg_apply H j
  have e : hv I (ix2 r j) = zv I (ix2 r j) * lg I (ix2 0 j) := by
    unfold hv zv
    pointwise [k0_pay5]
  rw [e, a, b]
  rfl

theorem dhv_apply (r : Fin 512) (j : Fin 1024) : dhv I w (ix2 r j) = d.dh (512 * t + r) j := by
  have a0 := lp0_apply H
  have a1 := lp1_apply H
  have a2 := lp2_apply H
  have a3 := lp3_apply H
  have a4 := lp4_apply H
  have a5 := lp5_apply H
  have a6 := lp6_apply H
  obtain rfl := H.hw
  unfold dhv
  have b0 := ld_band (fun c j => d.W j c) inb_S3328x1024_S768x1024_0_0
  have b1 := ld_band (fun c j => d.W j c) inb_S3328x1024_S512x1024_768_0
  have b2 := ld_band (fun c j => d.W j c) inb_S3328x1024_S512x1024_1280_0
  have b3 := ld_band (fun c j => d.W j c) inb_S3328x1024_S512x1024_1792_0
  have b4 := ld_band (fun c j => d.W j c) inb_S3328x1024_S512x1024_2304_0
  have b5 := ld_band (fun c j => d.W j c) inb_S3328x1024_S256x1024_2816_0
  have b6 := ld_band (fun c j => d.W j c) inb_S3328x1024_S256x1024_3072_0
  generalize View.ld (Val := Elt Ideal) (e' := .bf16) (S := S3328x1024) (arr2 fun c j => d.W j c) rc0 = w0 at b0 ⊢
  generalize View.ld (Val := Elt Ideal) (e' := .bf16) (S := S3328x1024) (arr2 fun c j => d.W j c) rc1 = w1 at b1 ⊢
  generalize View.ld (Val := Elt Ideal) (e' := .bf16) (S := S3328x1024) (arr2 fun c j => d.W j c) rc2 = w2 at b2 ⊢
  generalize View.ld (Val := Elt Ideal) (e' := .bf16) (S := S3328x1024) (arr2 fun c j => d.W j c) rc3 = w3 at b3 ⊢
  generalize View.ld (Val := Elt Ideal) (e' := .bf16) (S := S3328x1024) (arr2 fun c j => d.W j c) rc4 = w4 at b4 ⊢
  generalize View.ld (Val := Elt Ideal) (e' := .bf16) (S := S3328x1024) (arr2 fun c j => d.W j c) rc5 = w5 at b5 ⊢
  generalize View.ld (Val := Elt Ideal) (e' := .bf16) (S := S3328x1024) (arr2 fun c j => d.W j c) rc6 = w6 at b6 ⊢
  generalize lp0 I = v0 at a0 ⊢
  generalize lp1 I = v1 at a1 ⊢
  generalize lp2 I = v2 at a2 ⊢
  generalize lp3 I = v3 at a3 ⊢
  generalize lp4 I = v4 at a4 ⊢
  generalize lp5 I = v5 at a5 ⊢
  generalize lp6 I = v6 at a6 ⊢
  pointwise [k0_pay22, k0_pay17, k0_pay12, k0_pay7, k0_pay6, k0_pay9, k0_pay11, k0_pay14, k0_pay16, k0_pay19, k0_pay21]
  simp only [a0, a1, a2, a3, a4, a5, a6, b0, b1, b2, b3, b4, b5, b6]
  unfold Data.dh
  rw [sum_bands]
  simp only [Finset.sum_range, Nat.zero_add, zero_add]

theorem gxv_apply (r : Fin 512) (j : Fin 1024) : gxv I w (ix2 r j) = d.gx (512 * t + r) j := by
  have a := dhv_apply H
  have b := zv_apply H
  have c := lg_apply H
  have e := r_apply H
  have f := ldy_apply H
  unfold gxv
  generalize dhv I w = v0 at a ⊢
  generalize zv I = v1 at b ⊢
  generalize k0_pay3 (lx I) = v2 at e ⊢
  generalize lg I = v3 at c ⊢
  generalize ldy I = v4 at f ⊢
  pointwise [k0_pay33]
  simp only [a, b, c, e, f]
  unfold Data.gx Data.dz
  simp only [Finset.sum_range]

theorem sg_apply (j : Fin 1024) : sg I w (ix2 0 j) = d.ls t j := by
  have a := dhv_apply H
  have b := zv_apply H
  unfold sg
  generalize dhv I w = v0 at a ⊢
  generalize zv I = v1 at b ⊢
  pointwise [k0_pay24]
  simp only [a, b]
  unfold Data.ls
  simp only [Finset.sum_range]

theorem rowG_apply (a : ℕ) (h : a < 8) (o : Vec Ideal S1x128 .f32) (l : Fin 128) :
    rowG I w a h o (ix2 0 l) = o (ix2 0 l) + d.ls t (128 * a + l) := by
  have b := sg_apply H
  unfold rowG
  generalize sg I w = v at b ⊢
  have e : extractStridedSlice S1x128 ![0, 128 * a] v (slices a h) (ix2 0 l) = v (ix2 0 ⟨128 * a + l, by omega⟩) := by
    refine congrArg v (funext fun x => Fin.ext ?_)
    match x with
    | ⟨0, _⟩ => rfl
    | ⟨1, _⟩ => rfl
  have e2 : shapeCast S1x128 o shapeCasts_S1x128_S1x128 (ix2 0 l) = o (ix2 0 l) := by pointwise []
  show shapeCast S1x128 o shapeCasts_S1x128_S1x128 (ix2 0 l) + extractStridedSlice S1x128 ![0, 128 * a] v (slices a h) (ix2 0 l) = _
  rw [e, e2, b]

theorem gw0_apply (o : Vec Ideal S768x1024 .f32) (k : Fin 768) (j : Fin 1024) :
    k0_pay8 (lx I) (lg I) (lp0 I) o (ix2 k j) = o (ix2 k j) + d.gw t k j := by
  have a := hv_apply H
  have b := lp0_apply H
  have e : k0_pay8 (lx I) (lg I) (lp0 I) o (ix2 k j) = o (ix2 k j) + ∑ r : Fin 512, lp0 I (ix2 r k) * hv I (ix2 r j) := by
    unfold hv
    generalize lp0 I = v
    unfold k0_pay8
    generalize k0_pay5 (lx I) (lg I) = u
    pointwise [k0_pay6]
  rw [e]
  simp only [a, b]
  unfold Data.gw
  simp only [Finset.sum_range]

theorem gw1_apply (o : Vec Ideal S512x1024 .f32) (k : Fin 512) (j : Fin 1024) :
    k0_pay10 (hv I) (lp1 I) o (ix2 k j) = o (ix2 k j) + d.gw t (768 + k) j := by
  have a := hv_apply H
  have b := lp1_apply H
  generalize hv I = u at a ⊢
  generalize lp1 I = v at b ⊢
  pointwise [k0_pay10, k0_pay9]
  simp only [a, b]
  unfold Data.gw
  simp only [Finset.sum_range]

theorem gw2_apply (o : Vec Ideal S512x1024 .f32) (k : Fin 512) (j : Fin 1024) :
    k0_pay13 (hv I) (lp2 I) o (ix2 k j) = o (ix2 k j) + d.gw t (1280 + k) j := by
  have a := hv_apply H
  have b := lp2_apply H
  generalize hv I = u at a ⊢
  generalize lp2 I = v at b ⊢
  pointwise [k0_pay13, k0_pay11]
  simp only [a, b]
  unfold Data.gw
  simp only [Finset.sum_range]

theorem gw3_apply (o : Vec Ideal S512x1024 .f32) (k : Fin 512) (j : Fin 1024) :
    k0_pay15 (hv I) (lp3 I) o (ix2 k j) = o (ix2 k j) + d.gw t (1792 + k) j := by
  have a := hv_apply H
  have b := lp3_apply H
  generalize hv I = u at a ⊢
  generalize lp3 I = v at b ⊢
  pointwise [k0_pay15, k0_pay14]
  simp only [a, b]
  unfold Data.gw
  simp only [Finset.sum_range]

theorem gw4_apply (o : Vec Ideal S512x1024 .f32) (k : Fin 512) (j : Fin 1024) :
    k0_pay18 (hv I) (lp4 I) o (ix2 k j) = o (ix2 k j) + d.gw t (2304 + k) j := by
  have a := hv_apply H
  have b := lp4_apply H
  generalize hv I = u at a ⊢
  generalize lp4 I = v at b ⊢
  pointwise [k0_pay18, k0_pay16]
  simp only [a, b]
  unfold Data.gw
  simp only [Finset.sum_range]

theorem gw5_apply (o : Vec Ideal S256x1024 .f32) (k : Fin 256) (j : Fin 1024) :
    k0_pay20 (hv I) (lp5 I) o (ix2 k j) = o (ix2 k j) + d.gw t (2816 + k) j := by
  have a := hv_apply H
  have b := lp5_apply H
  generalize hv I = u at a ⊢
  generalize lp5 I = v at b ⊢
  pointwise [k0_pay20, k0_pay19]
  simp only [a, b]
  unfold Data.gw
  simp only [Finset.sum_range]

theorem gw6_apply (o : Vec Ideal S256x1024 .f32) (k : Fin 256) (j : Fin 1024) :
    k0_pay23 (hv I) (lp6 I) o (ix2 k j) = o (ix2 k j) + d.gw t (3072 + k) j := by
  have a := hv_apply H
  have b := lp6_apply H
  generalize hv I = u at a ⊢
  generalize lp6 I = v at b ⊢
  pointwise [k0_pay23, k0_pay21]
  simp only [a, b]
  unfold Data.gw
  simp only [Finset.sum_range]

/-! ## The accumulators after a point -/

/-- The weights' gradient, and the gain's by 128 columns, after one more point. -/
abbrev nextW (d : Data) (t : ℕ) (A : ℕ → ℕ → EReal) (k j : ℕ) : EReal := A k j + d.gw t k j
abbrev nextG (d : Data) (t : ℕ) (A : ℕ → ℕ → EReal) (q l : ℕ) : EReal := A q l + d.ls t (128 * q + l)

theorem piecesAcc_ok (A : ℕ → ℕ → EReal) : View.PiecesOf (arr2 (nextW d t A)) (piecesAccOf I (arr2 A)) := by
  refine ⟨fun x => ?_, fun x => ?_, fun x => ?_, fun x => ?_, fun x => ?_, fun x => ?_, fun x => ?_, trivial⟩
  · obtain ⟨k, j, rfl⟩ : ∃ (k : Fin 256) (j : Fin 1024), x = ix2 k j := ⟨x 0, x 1, eq_ix2 x⟩
    refine (gw6_apply H _ k j).trans ((congrArg (· + _) (ld_arr2 A _ k j)).trans ?_)
    show _ = nextW d t A (3072 + 1 * (k : ℕ)) (0 + 1 * (j : ℕ))
    simp only [Nat.one_mul, Nat.zero_add]
  · obtain ⟨k, j, rfl⟩ : ∃ (k : Fin 256) (j : Fin 1024), x = ix2 k j := ⟨x 0, x 1, eq_ix2 x⟩
    refine (gw5_apply H _ k j).trans ((congrArg (· + _) (ld_arr2 A _ k j)).trans ?_)
    show _ = nextW d t A (2816 + 1 * (k : ℕ)) (0 + 1 * (j : ℕ))
    simp only [Nat.one_mul, Nat.zero_add]
  · obtain ⟨k, j, rfl⟩ : ∃ (k : Fin 512) (j : Fin 1024), x = ix2 k j := ⟨x 0, x 1, eq_ix2 x⟩
    refine (gw4_apply H _ k j).trans ((congrArg (· + _) (ld_arr2 A _ k j)).trans ?_)
    show _ = nextW d t A (2304 + 1 * (k : ℕ)) (0 + 1 * (j : ℕ))
    simp only [Nat.one_mul, Nat.zero_add]
  · obtain ⟨k, j, rfl⟩ : ∃ (k : Fin 512) (j : Fin 1024), x = ix2 k j := ⟨x 0, x 1, eq_ix2 x⟩
    refine (gw3_apply H _ k j).trans ((congrArg (· + _) (ld_arr2 A _ k j)).trans ?_)
    show _ = nextW d t A (1792 + 1 * (k : ℕ)) (0 + 1 * (j : ℕ))
    simp only [Nat.one_mul, Nat.zero_add]
  · obtain ⟨k, j, rfl⟩ : ∃ (k : Fin 512) (j : Fin 1024), x = ix2 k j := ⟨x 0, x 1, eq_ix2 x⟩
    refine (gw2_apply H _ k j).trans ((congrArg (· + _) (ld_arr2 A _ k j)).trans ?_)
    show _ = nextW d t A (1280 + 1 * (k : ℕ)) (0 + 1 * (j : ℕ))
    simp only [Nat.one_mul, Nat.zero_add]
  · obtain ⟨k, j, rfl⟩ : ∃ (k : Fin 512) (j : Fin 1024), x = ix2 k j := ⟨x 0, x 1, eq_ix2 x⟩
    refine (gw1_apply H _ k j).trans ((congrArg (· + _) (ld_arr2 A _ k j)).trans ?_)
    show _ = nextW d t A (768 + 1 * (k : ℕ)) (0 + 1 * (j : ℕ))
    simp only [Nat.one_mul, Nat.zero_add]
  · obtain ⟨k, j, rfl⟩ : ∃ (k : Fin 768) (j : Fin 1024), x = ix2 k j := ⟨x 0, x 1, eq_ix2 x⟩
    refine (gw0_apply H _ k j).trans ((congrArg (· + _) (ld_arr2 A _ k j)).trans ?_)
    show _ = nextW d t A (0 + 1 * (k : ℕ)) (0 + 1 * (j : ℕ))
    simp only [Nat.one_mul, Nat.zero_add]

omit H in
theorem cover_acc (o : Vec Ideal S3328x1024 .f32) (y : S3328x1024.Idx) : ∃ p ∈ piecesAccOf I o, y ∈ p.1.set := by
  have h0 : (y 0 : ℕ) < 3328 := (y 0).isLt
  have h1 : (y 1 : ℕ) < 1024 := (y 1).isLt
  have key : ∀ (a k : ℕ) (h : ∀ i : Fin 2, (![a, 0] : Fin 2 → ℕ) i + (![k, 1024] : Fin 2 → ℕ) i ≤ (![3328, 1024] : Fin 2 → ℕ) i),
      a ≤ (y 0 : ℕ) → (y 0 : ℕ) < a + k → y ∈ (Rect.unit (s := S3328x1024) ![a, 0] ![k, 1024] h).set := by
    intro a k h l u
    rw [Rect.mem_set_unit]
    intro i
    match i with
    | 0 => exact ⟨l, u⟩
    | 1 => exact (show 0 ≤ (y 1 : ℕ) ∧ (y 1 : ℕ) < 0 + 1024 by omega)
  by_cases c6 : 3072 ≤ (y 0 : ℕ)
  · exact ⟨_, List.mem_cons_self, key 3072 256 inb_S3328x1024_S256x1024_3072_0 c6 (by omega)⟩
  by_cases c5 : 2816 ≤ (y 0 : ℕ)
  · exact ⟨_, List.mem_cons_of_mem _ List.mem_cons_self, key 2816 256 inb_S3328x1024_S256x1024_2816_0 c5 (by omega)⟩
  by_cases c4 : 2304 ≤ (y 0 : ℕ)
  · exact ⟨_, List.mem_cons_of_mem _ (List.mem_cons_of_mem _ List.mem_cons_self), key 2304 512 inb_S3328x1024_S512x1024_2304_0 c4 (by omega)⟩
  by_cases c3 : 1792 ≤ (y 0 : ℕ)
  · exact ⟨_, List.mem_cons_of_mem _ (List.mem_cons_of_mem _ (List.mem_cons_of_mem _ List.mem_cons_self)), key 1792 512 inb_S3328x1024_S512x1024_1792_0 c3 (by omega)⟩
  by_cases c2 : 1280 ≤ (y 0 : ℕ)
  · exact ⟨_, List.mem_cons_of_mem _ (List.mem_cons_of_mem _ (List.mem_cons_of_mem _ (List.mem_cons_of_mem _ List.mem_cons_self))), key 1280 512 inb_S3328x1024_S512x1024_1280_0 c2 (by omega)⟩
  by_cases c1 : 768 ≤ (y 0 : ℕ)
  · exact ⟨_, List.mem_cons_of_mem _ (List.mem_cons_of_mem _ (List.mem_cons_of_mem _ (List.mem_cons_of_mem _ (List.mem_cons_of_mem _ List.mem_cons_self)))), key 768 512 inb_S3328x1024_S512x1024_768_0 c1 (by omega)⟩
  · exact ⟨_, List.mem_cons_of_mem _ (List.mem_cons_of_mem _ (List.mem_cons_of_mem _ (List.mem_cons_of_mem _ (List.mem_cons_of_mem _ (List.mem_cons_of_mem _ List.mem_cons_self))))), key 0 768 inb_S3328x1024_S768x1024_0_0 (Nat.zero_le _) (by omega)⟩

theorem acc_next (A : ℕ → ℕ → EReal) : View.canon (piecesAccOf I (arr2 A)) = arr2 (nextW d t A) :=
  funext fun y => View.canon_apply_of_pieces _ _ (piecesAcc_ok H A).mem y (cover_acc _ y)

theorem acc_start (L : List (View.Piece (Elt Ideal) S3328x1024 .f32)) :
    View.canon (piecesAccOf I (k0_pay1 (F := Ideal)) ++ L) = arr2 (nextW d t fun _ _ => 0) := by
  have e : k0_pay1 (F := Ideal) = arr2 fun _ _ => 0 := by
    funext y
    show Ideal.ofBits .f32 0#32 = 0
    rw [Ideal.ofBits_zero_f32]
  rw [e]
  exact funext fun y => View.canon_append_of_piecesOf _ _ _ (piecesAcc_ok H _) y (cover_acc _ y)

/-- An array written over by the seven copies reads as the weights' gradient. -/
theorem gwt_next {sp : Space} (v : View sig .tc sp S3328x1024 .f32) (f : v.ty.Contents (Elt Ideal)) (A : ℕ → ℕ → EReal) :
    v.read (Elt Ideal) (v.writes (Elt Ideal) f (piecesAccOf I (arr2 A))) = arr2 (nextW d t A) :=
  (View.read_writes_eq_canon v f _ (cover_acc _)).trans (acc_next H A)

theorem rowG_ok (A : ℕ → ℕ → EReal) (a : ℕ) (h : a < 8) (x : (rG a h).shape.Idx) :
    rowG I w a h (View.ld (Val := Elt Ideal) (e' := .f32) (S := S8x128) (arr2 A) (rG a h)) x = arr2 (nextG d t A) ((rG a h).emb x) := by
  obtain ⟨l, rfl⟩ : ∃ l : Fin 128, x = ix2 (0 : Fin 1) l := ⟨x 1, by
    funext i
    match i with
    | ⟨0, _⟩ => exact Fin.ext (by have : (x 0 : ℕ) < 1 := (x 0).isLt; show (x 0 : ℕ) = 0; omega)
    | ⟨1, _⟩ => rfl⟩
  rw [rowG_apply H, ld_arr2]
  show _ = nextG d t A (a + 1 * 0) (0 + 1 * (l : ℕ))
  simp only [Nat.one_mul, Nat.zero_add, Nat.mul_zero, Nat.add_zero, Fin.val_zero]

theorem piecesG_ok (A : ℕ → ℕ → EReal) : View.PiecesOf (arr2 (nextG d t A)) (piecesG I w fun a h => View.ld (arr2 A) (rG a h)) :=
  ⟨rowG_ok H A 7 _, rowG_ok H A 6 _, rowG_ok H A 5 _, rowG_ok H A 4 _, rowG_ok H A 3 _, rowG_ok H A 2 _, rowG_ok H A 1 _, rowG_ok H A 0 _, trivial⟩

omit H in
theorem cover_g (o : (a : ℕ) → a < 8 → Vec Ideal S1x128 .f32) (y : S8x128.Idx) : ∃ p ∈ piecesG I w o, y ∈ p.1.set := by
  have h0 : (y 0 : ℕ) < 8 := (y 0).isLt
  have h1 : (y 1 : ℕ) < 128 := (y 1).isLt
  have key : ∀ a h, (y 0 : ℕ) = a → y ∈ (rG a h).set := by
    intro a h e
    rw [Rect.mem_set_unit]
    intro i
    match i with
    | 0 => exact (show a ≤ (y 0 : ℕ) ∧ (y 0 : ℕ) < a + 1 by omega)
    | 1 => exact (show 0 ≤ (y 1 : ℕ) ∧ (y 1 : ℕ) < 0 + 128 by omega)
  have hm : ∀ a (h : a < 8), ⟨rG a h, rowG I w a h (o a h)⟩ ∈ piecesG I w o := by
    intro a h
    unfold piecesG
    match a, h with
    | 0, _ => simp
    | 1, _ => simp
    | 2, _ => simp
    | 3, _ => simp
    | 4, _ => simp
    | 5, _ => simp
    | 6, _ => simp
    | 7, _ => simp
  exact ⟨_, hm _ h0, key _ h0 rfl⟩

theorem g_next (A : ℕ → ℕ → EReal) :
    View.canon (piecesG I w fun a h => View.ld (arr2 A) (rG a h)) = arr2 (nextG d t A) :=
  funext fun y => View.canon_apply_of_pieces _ _ (piecesG_ok H A).mem y (cover_g _ y)

theorem g_start (L : List (View.Piece (Elt Ideal) S8x128 .f32)) :
    View.canon ((piecesG I w fun a h => View.ld (k0_pay2 (F := Ideal)) (rG a h)) ++ L) = arr2 (nextG d t fun _ _ => 0) := by
  have e : k0_pay2 (F := Ideal) = arr2 fun _ _ => 0 := by
    funext y
    show Ideal.ofBits .f32 0#32 = 0
    rw [Ideal.ofBits_zero_f32]
  rw [e]
  exact funext fun y => View.canon_append_of_piecesOf _ _ _ (piecesG_ok H _) y (cover_g _ y)

theorem gx_block : View.canon (pieceX I w) = arr2 fun r j => d.gx (512 * t + r) j := by
  rw [View.canon_unit_zero (S := S512x1024) off0 inb_S512x1024_S512x1024_0_0]
  funext y
  obtain ⟨r, j, rfl⟩ : ∃ (r : Fin 512) (j : Fin 1024), y = ix2 r j := ⟨y 0, y 1, eq_ix2 y⟩
  exact gxv_apply H r j

end Proof.Proj

end

end
-- ==== Proof.ProjAcc.lean ====
module

public import proofs.«01_k».proof.Proof.ProjBlock

/-!
  The results of the projections' backward pass: the blocks of the eight grid points put together, and the accumulators after
  the last point.
-/

@[expose] public section

noncomputable section

open Idealize.ShloMosaic Idealize.ShloMosaic.TcCoe Idealize.SL.Sem
open Idealize.ShloMosaic.Pipeline (Dat)

namespace Proof.Proj

open Proof.Out (arr2)
open Cert.Kernel2Ideal Cert.Kernel2Ideal.Gen

/-- The kernel's five arguments hold `d`. -/
structure Src (d : Data) (m : (ℓ : Loc nD τ sig) → Buf (Elt Ideal) ℓ) (c : Dev nD) : Prop where
  h0 : ∀ (R : Fin 4096) (j : Fin 1024), m ((c : Thread nD τ).loc main_arg0) (ix2 R j) = d.X R j
  h1 : ∀ (R : Fin 4096) (j : Fin 1024), m ((c : Thread nD τ).loc main_arg1) (ix2 R j) = d.DY R j
  h2 : ∀ j : Fin 1024, m ((c : Thread nD τ).loc main_arg2) (ix2 0 j) = d.G j
  h3 : ∀ (j : Fin 1024) (k : Fin 3328), m ((c : Thread nD τ).loc main_arg3) (ix2 j k) = d.W j k
  h4 : ∀ (R : Fin 4096) (k : Fin 3328), m ((c : Thread nD τ).loc main_arg4) (ix2 R k) = d.P R k

/-- A transposed array's entry, and a band of columns' entry. -/
theorem t_apply (v : FVec Ideal S1024x3328 .f32) (k : Fin 3328) (j : Fin 1024) :
    truncf .bf16 (transpose S3328x1024 [1, 0] v transposes_S1024x3328_S3328x1024_1_0) bitsLt_bf16_f32 (ix2 k j) = v (ix2 j k) := by
  pointwise []

theorem s_apply {n : ℕ} (o : ℕ) (v : FVec Ideal S4096x3328 .f32) (h : S4096x3328.Slices ![0, o] ⟨2, ![4096, n]⟩) (R : Fin 4096) (k : Fin n) (hk : o + k < 3328) :
    truncf .bf16 (extractStridedSlice ⟨2, ![4096, n]⟩ ![0, o] v h) bitsLt_bf16_f32 (ix2 R k) = v (ix2 R ⟨o + k, hk⟩) := by
  refine congrArg v (funext fun x => Fin.ext ?_)
  match x with
  | ⟨0, _⟩ => exact Nat.zero_add _
  | ⟨1, _⟩ => rfl

variable (m : (ℓ : Loc nD τ sig) → Buf (Elt Ideal) ℓ) (c : Dev nD)

theorem V_v15 (k : Fin 3328) (j : Fin 1024) : V m c main_v15 (ix2 k j) = m ((c : Thread nD τ).loc main_arg3) (ix2 j k) := by
  unfold_abbrev_sides
  after_results
  exact t_apply _ k j

theorem V_v1 (R : Fin 4096) (k : Fin 768) : V m c main_v1 (ix2 R k) = m ((c : Thread nD τ).loc main_arg4) (ix2 R ⟨0 + k, by omega⟩) := by
  unfold_abbrev_sides
  after_results
  exact s_apply 0 _ _ R k _

theorem V_v3 (R : Fin 4096) (k : Fin 512) : V m c main_v3 (ix2 R k) = m ((c : Thread nD τ).loc main_arg4) (ix2 R ⟨768 + k, by omega⟩) := by
  unfold_abbrev_sides
  after_results
  exact s_apply 768 _ _ R k _

theorem V_v5 (R : Fin 4096) (k : Fin 512) : V m c main_v5 (ix2 R k) = m ((c : Thread nD τ).loc main_arg4) (ix2 R ⟨1280 + k, by omega⟩) := by
  unfold_abbrev_sides
  after_results
  exact s_apply 1280 _ _ R k _

theorem V_v7 (R : Fin 4096) (k : Fin 512) : V m c main_v7 (ix2 R k) = m ((c : Thread nD τ).loc main_arg4) (ix2 R ⟨1792 + k, by omega⟩) := by
  unfold_abbrev_sides
  after_results
  exact s_apply 1792 _ _ R k _

theorem V_v9 (R : Fin 4096) (k : Fin 512) : V m c main_v9 (ix2 R k) = m ((c : Thread nD τ).loc main_arg4) (ix2 R ⟨2304 + k, by omega⟩) := by
  unfold_abbrev_sides
  after_results
  exact s_apply 2304 _ _ R k _

theorem V_v11 (R : Fin 4096) (k : Fin 256) : V m c main_v11 (ix2 R k) = m ((c : Thread nD τ).loc main_arg4) (ix2 R ⟨2816 + k, by omega⟩) := by
  unfold_abbrev_sides
  after_results
  exact s_apply 2816 _ _ R k _

theorem V_v13 (R : Fin 4096) (k : Fin 256) : V m c main_v13 (ix2 R k) = m ((c : Thread nD τ).loc main_arg4) (ix2 R ⟨3072 + k, by omega⟩) := by
  unfold_abbrev_sides
  after_results
  exact s_apply 3072 _ _ R k _

theorem idx : ∀ t : Fin cfg0.N, win0_0.index t 0 = t.val ∧ win0_0.index t 1 = 0 ∧ win0_1.index t 0 = t.val ∧ win0_1.index t 1 = 0 ∧ win0_2.index t 0 = 0 ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 ∧ win0_9.index t 0 = t.val ∧ win0_9.index t 1 = 0 :=
  (by decide +kernel : ∀ t : Fin grid0.N, _)

variable {m c} {d : Data} (H : Src d m c)
include H

theorem blk (t : Fin cfg0.N) : Blk d t (ins m c t) (V m c main_v15) := by
  have hN : cfg0.N = 8 := N_0
  have ht : t.val < 8 := hN ▸ t.isLt
  obtain ⟨i00, i01, i10, i11, i20, i21, i30, i31, i40, i41, i50, i51, i60, i61, i70, i71, i80, i81, i90, i91⟩ := idx t
  constructor
  · intro r j
    refine Eq.trans ?_ (H.h0 ⟨512 * t + r, by omega⟩ j)
    show V m c main_arg0 _ = _
    rw [V_main_arg0]
    refine congrArg _ (funext fun a => Fin.ext ?_)
    match a with
    | ⟨0, _⟩ => show win0_0.index t 0 * 512 + 1 * (r : ℕ) = 512 * t + r; rw [i00]; omega
    | ⟨1, _⟩ => show win0_0.index t 1 * 1024 + 1 * (j : ℕ) = j; rw [i01]; omega
  · intro r j
    refine Eq.trans ?_ (H.h1 ⟨512 * t + r, by omega⟩ j)
    show V m c main_arg1 _ = _
    rw [V_main_arg1]
    refine congrArg _ (funext fun a => Fin.ext ?_)
    match a with
    | ⟨0, _⟩ => show win0_1.index t 0 * 512 + 1 * (r : ℕ) = 512 * t + r; rw [i10]; omega
    | ⟨1, _⟩ => show win0_1.index t 1 * 1024 + 1 * (j : ℕ) = j; rw [i11]; omega
  · intro j
    refine Eq.trans ?_ (H.h2 j)
    show V m c main_arg2 _ = _
    rw [V_main_arg2]
    refine congrArg _ (funext fun a => Fin.ext ?_)
    match a with
    | ⟨0, _⟩ => show win0_2.index t 0 * 1 + 1 * 0 = 0; rw [i20]
    | ⟨1, _⟩ => show win0_2.index t 1 * 1024 + 1 * (j : ℕ) = j; rw [i21]; omega
  · intro r k
    refine Eq.trans (congrArg (V m c main_v1) ?_) (((V_v1 m c ⟨512 * t + r, by omega⟩ k).trans (H.h4 _ _)).trans (congrArg (d.P _) (Nat.zero_add _)))
    refine funext fun a => Fin.ext ?_
    match a with
    | ⟨0, _⟩ => show win0_3.index t 0 * 512 + 1 * (r : ℕ) = 512 * t + r; rw [i30]; omega
    | ⟨1, _⟩ => show win0_3.index t 1 * 768 + 1 * (k : ℕ) = k; rw [i31]; omega
  · intro r k
    refine Eq.trans (congrArg (V m c main_v3) ?_) (((V_v3 m c ⟨512 * t + r, by omega⟩ k).trans (H.h4 _ _)))
    refine funext fun a => Fin.ext ?_
    match a with
    | ⟨0, _⟩ => show win0_4.index t 0 * 512 + 1 * (r : ℕ) = 512 * t + r; rw [i40]; omega
    | ⟨1, _⟩ => show win0_4.index t 1 * 512 + 1 * (k : ℕ) = k; rw [i41]; omega
  · intro r k
    refine Eq.trans (congrArg (V m c main_v5) ?_) (((V_v5 m c ⟨512 * t + r, by omega⟩ k).trans (H.h4 _ _)))
    refine funext fun a => Fin.ext ?_
    match a with
    | ⟨0, _⟩ => show win0_5.index t 0 * 512 + 1 * (r : ℕ) = 512 * t + r; rw [i50]; omega
    | ⟨1, _⟩ => show win0_5.index t 1 * 512 + 1 * (k : ℕ) = k; rw [i51]; omega
  · intro r k
    refine Eq.trans (congrArg (V m c main_v7) ?_) (((V_v7 m c ⟨512 * t + r, by omega⟩ k).trans (H.h4 _ _)))
    refine funext fun a => Fin.ext ?_
    match a with
    | ⟨0, _⟩ => show win0_6.index t 0 * 512 + 1 * (r : ℕ) = 512 * t + r; rw [i60]; omega
    | ⟨1, _⟩ => show win0_6.index t 1 * 512 + 1 * (k : ℕ) = k; rw [i61]; omega
  · intro r k
    refine Eq.trans (congrArg (V m c main_v9) ?_) (((V_v9 m c ⟨512 * t + r, by omega⟩ k).trans (H.h4 _ _)))
    refine funext fun a => Fin.ext ?_
    match a with
    | ⟨0, _⟩ => show win0_7.index t 0 * 512 + 1 * (r : ℕ) = 512 * t + r; rw [i70]; omega
    | ⟨1, _⟩ => show win0_7.index t 1 * 512 + 1 * (k : ℕ) = k; rw [i71]; omega
  · intro r k
    refine Eq.trans (congrArg (V m c main_v11) ?_) (((V_v11 m c ⟨512 * t + r, by omega⟩ k).trans (H.h4 _ _)))
    refine funext fun a => Fin.ext ?_
    match a with
    | ⟨0, _⟩ => show win0_8.index t 0 * 512 + 1 * (r : ℕ) = 512 * t + r; rw [i80]; omega
    | ⟨1, _⟩ => show win0_8.index t 1 * 256 + 1 * (k : ℕ) = k; rw [i81]; omega
  · intro r k
    refine Eq.trans (congrArg (V m c main_v13) ?_) (((V_v13 m c ⟨512 * t + r, by omega⟩ k).trans (H.h4 _ _)))
    refine funext fun a => Fin.ext ?_
    match a with
    | ⟨0, _⟩ => show win0_9.index t 0 * 512 + 1 * (r : ℕ) = 512 * t + r; rw [i90]; omega
    | ⟨1, _⟩ => show win0_9.index t 1 * 256 + 1 * (k : ℕ) = k; rw [i91]; omega
  · funext y
    obtain ⟨k, j, rfl⟩ : ∃ (k : Fin 3328) (j : Fin 1024), y = ix2 k j := ⟨y 0, y 1, eq_ix2 y⟩
    exact (V_v15 m c k j).trans (H.h3 j k)

/-- What the buffers hold after point `t`. -/
structure After (d : Data) (m : (ℓ : Loc nD τ sig) → Buf (Elt Ideal) ℓ) (c : Dev nD) (t : ℕ) (s : St Ideal c) : Prop where
  gx : s.gx = arr2 fun r j => d.gx (512 * t + r) j
  gg : s.gg = arr2 fun q l => ∑ n ∈ Finset.range (t + 1), d.ls n (128 * q + l)
  wt : s.wt = V m c main_v15
  acc : s.acc = arr2 fun k j => ∑ n ∈ Finset.range (t + 1), d.gw n k j

omit H in
/-- The weights' scratch after the first block is what the copy brought. -/
theorem wt_whole (w : Vec Ideal S3328x1024 .bf16) :
    View.canon (Val := Elt Ideal) (s := S3328x1024) (e := .bf16) [⟨Rect.whole S3328x1024, w⟩] = w := by
  have he : ∀ y : S3328x1024.Idx, (Rect.whole S3328x1024).emb y = y := fun y =>
    funext fun a => Fin.ext (by show 0 + 1 * (y a : ℕ) = y a; omega)
  funext y
  have h := View.canon_cons_emb (Rect.whole S3328x1024) w [] y
  rwa [he y] at h

theorem step_first (t : Fin cfg0.N) (h : t.val = 0) : After d m c t (state m c t.val t.isLt) := by
  have B := blk H t
  rw [state_first m c t h]
  unfold first
  dsimp only
  constructor
  · dsimp only
    rw [gx_A]
    exact gx_block B
  · dsimp only
    rw [gg_A, g_start B]
    congr 1
    funext q l
    simp [h, nextG]
  · dsimp only
    rw [wt_A]
    exact wt_whole _
  · dsimp only
    rw [acc_A, acc_start B]
    congr 1
    funext k j
    simp [h, nextW]

theorem step_mid (t : Fin cfg0.N) (h0 : t.val ≠ 0) (h7 : t.val ≠ 7) (n : ℕ) (hn : t.val = n + 1)
    (P : After d m c n (state m c (t.val - 1) (by have := t.isLt; omega))) : After d m c t (state m c t.val t.isLt) := by
  have B := blk H t
  rw [state_mid m c t h0 h7]
  generalize state m c (t.val - 1) _ = s at P ⊢
  unfold mid
  dsimp only
  constructor
  · dsimp only
    rw [gx_B, P.wt]
    exact gx_block B
  · dsimp only
    rw [gg_B, P.wt, P.gg, g_next B, ← hn]
    congr 1
    funext q l
    exact (Finset.sum_range_succ _ _).symm
  · exact P.wt
  · dsimp only
    rw [acc_B, P.acc, acc_next B, ← hn]
    congr 1
    funext k j
    exact (Finset.sum_range_succ _ _).symm

omit H in
/-- The whole array of the weights' gradient. -/
abbrev gwtView : View sig .tc .hbm S3328x1024 .f32 := View.whole main_v16_1

omit H in
theorem read_gwt (f : gwtView.ty.Contents (Elt Ideal)) (L : List (View.Piece (Elt Ideal) S3328x1024 .f32)) :
    gwtView.read (Elt Ideal) (gwtView.writes (Elt Ideal) f L) = (View.whole main_v16_1).writes (Elt Ideal) f L := View.read_whole main_v16_1 _

theorem step_last (t : Fin cfg0.N) (h7 : t.val = 7) (n : ℕ) (hn : t.val = n + 1)
    (P : After d m c n (state m c (t.val - 1) (by have := t.isLt; omega))) :
    After d m c t (state m c t.val t.isLt) ∧ (state m c t.val t.isLt).gwt = (arr2 (fun k j => ∑ n ∈ Finset.range (t + 1), d.gw n k j) : S3328x1024.Idx → EReal) := by
  have B := blk H t
  rw [state_last m c t h7]
  generalize state m c (t.val - 1) _ = s at P ⊢
  have e : nextW d t (fun k j => ∑ n ∈ Finset.range (n + 1), d.gw n k j) = fun k j => ∑ n ∈ Finset.range (t + 1), d.gw n k j := by
    rw [← hn]
    funext k j
    exact (Finset.sum_range_succ _ _).symm
  unfold last
  dsimp only
  refine ⟨?_, ?_⟩
  · constructor
    · dsimp only
      rw [gx_C, P.wt]
      exact gx_block B
    · dsimp only
      rw [gg_C, P.wt, P.gg, g_next B, ← hn]
      congr 1
      funext q l
      exact (Finset.sum_range_succ _ _).symm
    · exact P.wt
    · dsimp only
      rw [acc_C, P.acc, acc_next B, e]
  · rw [gwt_C, P.acc]
    have g := gwt_next B gwtView s.gwt fun k j => ∑ n ∈ Finset.range (n + 1), d.gw n k j
    rw [e] at g
    exact (read_gwt _ _).symm.trans g

theorem after (n : ℕ) (hn : n < cfg0.N) : After d m c n (state m c n hn) := by
  have hN : cfg0.N = 8 := N_0
  induction n with
  | zero => exact step_first H ⟨0, hn⟩ rfl
  | succ n ih =>
    by_cases h7 : n + 1 = 7
    · exact (step_last H ⟨n + 1, hn⟩ h7 n rfl (ih (by omega))).1
    · exact step_mid H ⟨n + 1, hn⟩ (Nat.succ_ne_zero n) h7 n rfl (ih (by omega))

/-! ## The result arrays -/

theorem final_gwt : ends m c main_v16_1 = (arr2 (fun k j => ∑ n ∈ Finset.range 8, d.gw n k j) : S3328x1024.Idx → EReal) := by
  rw [ends_gwt]
  exact (step_last H ⟨7, lt_seven⟩ rfl 6 rfl (after H 6 (by have := lt_seven; omega))).2

omit H in
theorem oidx : ∀ t : Fin cfg0.N, win0_10.index t 0 = t.val ∧ win0_10.index t 1 = 0 ∧ win0_11.index t 0 = 0 ∧ win0_11.index t 1 = 0 :=
  (by decide +kernel : ∀ t : Fin grid0.N, _)

omit H in
theorem flushed10 (t : Fin cfg0.N) : (dats m 0 c).flushed 10 t = (cfg0.win 10).cut (grid0.coords t) (state m c t.val t.isLt).gx := by
  show (cfg0.win 10).cut (grid0.coords t) ((dats m 0 c).after 10 t) = _
  rw [after10]

omit H in
theorem flushed11 (t : Fin cfg0.N) : (dats m 0 c).flushed 11 t = (cfg0.win 11).cut (grid0.coords t) (state m c t.val t.isLt).gg := by
  show (cfg0.win 11).cut (grid0.coords t) ((dats m 0 c).after 11 t) = _
  rw [after11]

theorem final_gx : (dats m 0 c).arrAt 10 cfg0.N = (arr2 d.gx : S4096x1024.Idx → EReal) := by
  have hN : cfg0.N = 8 := N_0
  refine (dats m 0 c).arrAt_eq_of_cover 10 (arr2 d.gx : S4096x1024.Idx → EReal) (fun t _ => ?_) fun i => ?_
  · rw [flushed10, (after H t.val t.isLt).gx]
    obtain ⟨i0, i1, -⟩ := oidx t
    funext y
    show d.gx (512 * t + (y 0 : ℕ)) (y 1 : ℕ) = d.gx (win0_10.index t 0 * 512 + 1 * (y 0 : ℕ)) (win0_10.index t 1 * 1024 + 1 * (y 1 : ℕ))
    rw [i0, i1, Nat.mul_comm t.val 512, Nat.one_mul, Nat.one_mul, Nat.zero_mul, Nat.zero_add]
  · have h0 : (i 0 : ℕ) < 4096 := (i 0).isLt
    have h1 : (i 1 : ℕ) < 1024 := (i 1).isLt
    have ht : (i 0 : ℕ) / 512 < cfg0.N := by rw [hN]; omega
    obtain ⟨i0, i1, -⟩ := oidx ⟨_, ht⟩
    refine ⟨⟨_, ht⟩, flush0_10 _, ?_⟩
    show i ∈ ((View.whole main_v16_0).slice (win0_10.rect ⟨_, ht⟩)).set
    rw [View.set_slice_whole, Rect.mem_set_unit]
    intro a
    match a with
    | ⟨0, _⟩ =>
      show win0_10.index ⟨_, ht⟩ 0 * 512 ≤ (i 0 : ℕ) ∧ (i 0 : ℕ) < win0_10.index ⟨_, ht⟩ 0 * 512 + 512
      rw [i0]; dsimp only; omega
    | ⟨1, _⟩ =>
      show win0_10.index ⟨_, ht⟩ 1 * 1024 ≤ (i 1 : ℕ) ∧ (i 1 : ℕ) < win0_10.index ⟨_, ht⟩ 1 * 1024 + 1024
      rw [i1]; omega

omit H in
theorem arr_gg : (dats m 0 c).arrAt 11 cfg0.N = (state m c 7 lt_seven).gg := by
  have hN : cfg0.N = 8 := N_0
  refine (dats m 0 c).arrAt_eq_of_cover 11 (state m c 7 lt_seven).gg (fun t hf => ?_) fun i => ?_
  · have h3 : t.val = 7 := by have := (flush0_11 t).mp hf; have := t.isLt; omega
    obtain rfl : t = ⟨7, lt_seven⟩ := Fin.ext h3
    rw [flushed11]
    have hz : (fun a => win0_11.index ⟨7, lt_seven⟩ a * main_v16_2.ty.shape.size a) = fun _ => 0 := funext fun a => by
      obtain ⟨-, -, i0, i1⟩ := oidx ⟨7, lt_seven⟩
      match a with
      | ⟨0, _⟩ => exact (congrArg (· * 8) i0).trans (Nat.zero_mul _)
      | ⟨1, _⟩ => exact (congrArg (· * 128) i1).trans (Nat.zero_mul _)
    exact (Memref.read_access_unit_zero (Elt Ideal) main_v16_2 hz (fun a => by rw [congrFun hz a]; simp) (state m c 7 lt_seven).gg).symm
  · obtain ⟨-, -, i0, i1⟩ := oidx ⟨7, lt_seven⟩
    refine ⟨⟨7, lt_seven⟩, (flush0_11 _).mpr rfl, ?_⟩
    show i ∈ ((View.whole main_v16_2).slice (win0_11.rect ⟨7, lt_seven⟩)).set
    rw [View.set_slice_whole, Rect.mem_set_unit]
    have h0 : (i 0 : ℕ) < 8 := (i 0).isLt
    have h1 : (i 1 : ℕ) < 128 := (i 1).isLt
    intro a
    match a with
    | ⟨0, _⟩ => show win0_11.index ⟨7, lt_seven⟩ 0 * 8 ≤ (i 0 : ℕ) ∧ (i 0 : ℕ) < win0_11.index ⟨7, lt_seven⟩ 0 * 8 + 8; rw [i0]; omega
    | ⟨1, _⟩ => show win0_11.index ⟨7, lt_seven⟩ 1 * 128 ≤ (i 1 : ℕ) ∧ (i 1 : ℕ) < win0_11.index ⟨7, lt_seven⟩ 1 * 128 + 128; rw [i1]; omega

theorem final_gg : (dats m 0 c).arrAt 11 cfg0.N = (arr2 (fun q l => ∑ n ∈ Finset.range 8, d.ls n (128 * q + l)) : S8x128.Idx → EReal) :=
  arr_gg.trans (after H 7 lt_seven).gg

end Proof.Proj

end

end
-- ==== Proof.ProjReal.lean ====
module

public import Idealize.ShloMosaic.Lib.Pointwise

/-!
  The gradient through the root mean square norm, on the extended reals: the two ways of writing it agree at all values.
-/

@[expose] public section

noncomputable section

open Idealize.ShloMosaic

namespace Proof.Proj

/-- A factor that is real and not negative comes out of a sum. -/
theorem sum_mul_real (n : ℕ) (f : ℕ → EReal) (r : ℝ) (hr : 0 ≤ r) :
    ∑ i ∈ Finset.range n, f i * (r : EReal) = (∑ i ∈ Finset.range n, f i) * (r : EReal) := by
  induction n with
  | zero => simp
  | succ n ih =>
    rw [Finset.sum_range_succ, Finset.sum_range_succ, ih,
      EReal.right_distrib_of_nonneg_of_ne_top (EReal.coe_nonneg.mpr hr) (EReal.coe_ne_top r)]

/-- Any extended real added to itself is its double. -/
theorem add_self (u : EReal) : u + u = u * ((2 : ℝ) : EReal) := by
  induction u with
  | bot => rw [EReal.bot_mul_coe_of_pos (by norm_num)]; rfl
  | top => rw [EReal.top_mul_coe_of_pos (by norm_num)]; rfl
  | coe a => rw [← EReal.coe_add, ← EReal.coe_mul, mul_two]

/-- A square is not negative. -/
theorem sq_nonneg' (x : EReal) : 0 ≤ x * x := by
  induction x with
  | bot => rw [EReal.bot_mul_bot]; exact le_top
  | top => rw [EReal.top_mul_top]; exact le_top
  | coe a => rw [← EReal.coe_mul]; exact EReal.coe_nonneg.mpr (mul_self_nonneg a)

/-- An extended real whose square is not infinite is real. -/
theorem real_of_sq (x : EReal) (h : x * x ≠ ⊤) : ∃ a : ℝ, x = (a : EReal) := by
  induction x with
  | bot => exact absurd EReal.bot_mul_bot h
  | top => exact absurd EReal.top_mul_top h
  | coe a => exact ⟨a, rfl⟩

theorem c1024 : Ideal.ofBits .f32 0x44800000#32 = ((1024 : ℝ) : EReal) := by
  simp [Ideal.ofBits, Ideal.ieee, -EReal.coe_mul]; norm_num

theorem cHalf : Ideal.ofBits .f32 0xBF000000#32 = ((-(1 / 2) : ℝ) : EReal) := by
  simp [Ideal.ofBits, Ideal.ieee, -EReal.coe_mul]; norm_num

theorem cEps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- The two ways of writing the gradient of a row through its norm agree: with the sum of the normalised row's products, and with
the derivative of the inverse root. -/
theorem norm_grad (x dz : ℕ → EReal) (dy v r : EReal)
    (hv : v = Ideal.div (∑ j ∈ Finset.range 1024, x j * x j) (Ideal.ofBits .f32 0x44800000#32) + Ideal.ofBits .f32 0x358637BD#32)
    (hr : r = Ideal.rsqrt v) (j : ℕ) (hj : j < 1024) :
    dy + dz j * r
        + x j * Ideal.div ((∑ i ∈ Finset.range 1024, x i * dz i) * (Ideal.ofBits .f32 0xBF000000#32 * Ideal.div r v)) (Ideal.ofBits .f32 0x44800000#32)
        + Ideal.div ((∑ i ∈ Finset.range 1024, x i * dz i) * (Ideal.ofBits .f32 0xBF000000#32 * Ideal.div r v)) (Ideal.ofBits .f32 0x44800000#32) * x j
      = dy + r * (dz j - x j * r * Ideal.div (∑ i ∈ Finset.range 1024, dz i * (x i * r)) (Ideal.ofBits .f32 0x44800000#32)) := by
  obtain ⟨e, he, hE⟩ := cEps
  rw [c1024, hE, Ideal.div_coe (by norm_num)] at hv
  rw [c1024, cHalf, Ideal.div_coe (by norm_num), Ideal.div_coe (by norm_num)]
  have hq : ∀ i ∈ Finset.range 1024, 0 ≤ x i * x i := fun i _ => sq_nonneg' (x i)
  generalize hQ : ∑ i ∈ Finset.range 1024, x i * x i = q at hv
  have q0 : 0 ≤ q := hQ ▸ Finset.sum_nonneg hq
  induction q with
  | bot => exact absurd q0 (by simp)
  | top =>
    rw [EReal.top_mul_coe_of_pos (by norm_num), EReal.top_add_coe] at hv
    have hr0 : r = 0 := by rw [hr, hv]; exact Ideal.rsqrt_top
    have hd : Ideal.div r v = 0 := by
      rw [hr0, hv]
      unfold Ideal.div
      rw [if_neg EReal.top_ne_zero, zero_mul]
    rw [hd, hr0]
    simp only [mul_zero, zero_mul, add_zero]
  | coe q =>
    have q0' : 0 ≤ q := EReal.coe_nonneg.mp q0
    obtain ⟨ξ, hξ⟩ : ∃ a : ℝ, x j = (a : EReal) := real_of_sq _ fun ht => by
      have := Finset.single_le_sum hq (Finset.mem_range.mpr hj)
      rw [hQ, ht] at this
      exact absurd (top_le_iff.mp this) (EReal.coe_ne_top q)
    obtain ⟨p, hp, rfl⟩ : ∃ p : ℝ, 0 < p ∧ v = (p : EReal) :=
      ⟨q * (1 / 1024) + e, by positivity, by rw [hv, ← EReal.coe_mul, ← EReal.coe_add]⟩
    have hrp : r = (((Real.sqrt p)⁻¹ : ℝ) : EReal) := by
      rw [hr, Ideal.rsqrt_coe, if_neg (not_lt.mpr hp.le), if_neg hp.ne']
    set s : ℝ := (Real.sqrt p)⁻¹ with hs
    have hs0 : 0 ≤ s := inv_nonneg.mpr (Real.sqrt_nonneg p)
    have hss : s * s * p = 1 := by
      have h1 : Real.sqrt p ≠ 0 := (Real.sqrt_pos.mpr hp).ne'
      have h2 : (Real.sqrt p)⁻¹ * (Real.sqrt p)⁻¹ * (Real.sqrt p * Real.sqrt p) = 1 := by field_simp
      rwa [Real.mul_self_sqrt hp.le] at h2
    have hS : ∑ i ∈ Finset.range 1024, dz i * (x i * r) = (∑ i ∈ Finset.range 1024, x i * dz i) * (s : EReal) := by
      rw [← sum_mul_real 1024 _ s hs0, hrp]
      exact Finset.sum_congr rfl fun i _ => by rw [← mul_assoc, mul_comm (dz i)]
    rw [hS, hrp, hξ, Ideal.div_coe hp.ne']
    generalize ∑ i ∈ Finset.range 1024, x i * dz i = S
    generalize dz j = A
    have hU : S * (((-(1 / 2) : ℝ) : EReal) * ((s : EReal) * ((1 / p : ℝ) : EReal))) * ((1 / 1024 : ℝ) : EReal)
        = S * ((-(1 / 2) * (s * (1 / p)) * (1 / 1024) : ℝ) : EReal) := by
      rw [← EReal.coe_mul, ← EReal.coe_mul, mul_assoc, ← EReal.coe_mul]
    have hK : (ξ : EReal) * (s : EReal) * (S * (s : EReal) * ((1 / 1024 : ℝ) : EReal)) = S * ((ξ * s * (s * (1 / 1024)) : ℝ) : EReal) := by
      rw [← EReal.coe_mul, mul_assoc S, ← EReal.coe_mul, mul_left_comm, ← EReal.coe_mul]
    rw [hU, hK, mul_comm (S * _) (ξ : EReal), mul_left_comm (ξ : EReal) S, ← EReal.coe_mul, add_assoc (dy + _), add_self, mul_assoc S, ← EReal.coe_mul,
      sub_eq_add_neg, EReal.left_distrib_of_nonneg_of_ne_top (EReal.coe_nonneg.mpr hs0) (EReal.coe_ne_top s), ← add_assoc, mul_comm A,
      ← mul_neg, mul_left_comm (s : EReal) S, ← EReal.coe_neg, ← EReal.coe_mul]
    congr 3
    have h3 : 1 / p = s * s := by field_simp; linarith
    rw [h3]
    ring

end Proof.Proj

end

end
-- ==== Proof.OutRef.lean ====
module

public import proofs.«01_k».proof.Proof.OutBlock
public import proofs.«01_k».proof.Proof.Gen.Reference3Ideal.Read

/-!
  The reference of the loss head: its results are the same sums.
-/

@[expose] public section

noncomputable section

open Idealize.ShloMosaic Idealize.ShloMosaic.TcCoe

namespace Proof.Out

open Cert.Reference3Ideal Cert.Reference3Ideal.Gen Cert.Reference3Ideal.Read

/-- The reference's six arguments hold `d`. -/
structure RSrc (d : Data) (x0 : Vec Ideal S4096x256 .f32) (x1 : Vec Ideal S4096x512 .f32) (x2 : Vec Ideal S4096x256 .f32)
    (x3 x4 : Vec Ideal S4096x1024 .f32) (x5 : Vec Ideal S1024x1024 .f32) : Prop where
  h0 : ∀ (R : Fin 4096) (k : Fin 256), x0 (ix2 R k) = d.Yg R k
  h1 : ∀ (R : Fin 4096) (k : Fin 512), x1 (ix2 R k) = d.Ya R k
  h2 : ∀ (R : Fin 4096) (k : Fin 256), x2 (ix2 R k) = d.Ym R k
  h3 : ∀ (R : Fin 4096) (j : Fin 1024), x3 (ix2 R j) = d.X R j
  h4 : ∀ (R : Fin 4096) (j : Fin 1024), x4 (ix2 R j) = d.T R j
  h5 : ∀ (k j : Fin 1024), x5 (ix2 k j) = d.W k j

/-- The product of a row of the mixers' outputs with a column of the weight, mixer by mixer. -/
theorem sum_mixers (d : Data) (R j : ℕ) : ∑ k : Fin 1024, d.Y R k * d.W k j
    = ∑ k ∈ Finset.range 256, d.Yg R k * d.W k j + ∑ k ∈ Finset.range 512, d.Ya R k * d.W (256 + k) j
      + ∑ k ∈ Finset.range 256, d.Ym R k * d.W (768 + k) j := by
  rw [← Finset.sum_range fun k => d.Y R k * d.W k j, show (1024 : ℕ) = 768 + 256 from rfl, Finset.sum_range_add,
    show (768 : ℕ) = 256 + 512 from rfl, Finset.sum_range_add]
  refine congrArg₂ (· + ·) (congrArg₂ (· + ·) (Finset.sum_congr rfl fun k hk => ?_) (Finset.sum_congr rfl fun k hk => ?_)) (Finset.sum_congr rfl fun k hk => ?_)
  · rw [Finset.mem_range] at hk
    rw [Data.Y, if_pos hk]
  · rw [Finset.mem_range] at hk
    rw [Data.Y, if_neg (by omega), if_pos (by omega), Nat.add_sub_cancel_left]
  · rw [Finset.mem_range] at hk
    rw [Data.Y, if_neg (by omega), if_neg (by omega)]
    congr 2
    omega

/-- Half the square's derivative, averaged over 1024 columns, is the product with the one constant. -/
theorem scale_eq (x : EReal) :
    Ideal.div (Ideal.ofBits .f32 0x3F000000#32) (Ideal.ofBits .f32 0x44800000#32) * (Ideal.ofBits .f32 0x40000000#32 * x)
      = x * Ideal.ofBits .f32 0x3A800000#32 := by
  have h1 : Ideal.ofBits .f32 0x3F000000#32 = ((1 / 2 : ℝ) : EReal) := by
    simp [Ideal.ofBits, Ideal.ieee, -EReal.coe_mul]; norm_num
  have h2 : Ideal.ofBits .f32 0x44800000#32 = ((1024 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = ((1 / 1024 : ℝ) : EReal) := by
    simp [Ideal.ofBits, Ideal.ieee, -EReal.coe_mul]; norm_num
  rw [h1, h2, h3, h4, Ideal.div_coe (by norm_num), ← mul_assoc, ← EReal.coe_mul, mul_comm x]
  refine congrArg (fun r : ℝ => (r : EReal) * x) ?_
  norm_num

/-- A sum over 4096 rows, taken 512 at a time. -/
theorem sum_rows (f : ℕ → EReal) : ∑ R : Fin 4096, f R = ∑ n ∈ Finset.range 8, ∑ r ∈ Finset.range 512, f (512 * n + r) := by
  rw [← Finset.sum_range f]
  have key : ∀ m : ℕ, ∑ R ∈ Finset.range (512 * m), f R = ∑ n ∈ Finset.range m, ∑ r ∈ Finset.range 512, f (512 * n + r) := by
    intro m
    induction m with
    | zero => rfl
    | succ m ih => rw [Nat.mul_succ, Finset.sum_range_add, ih]; exact (Finset.sum_range_succ _ _).symm
  exact key 8

variable {d : Data} {x0 : Vec Ideal S4096x256 .f32} {x1 : Vec Ideal S4096x512 .f32} {x2 : Vec Ideal S4096x256 .f32}
    {x3 x4 : Vec Ideal S4096x1024 .f32} {x5 : Vec Ideal S1024x1024 .f32} (H : RSrc d x0 x1 x2 x3 x4 x5)
include H

theorem ref_Y (R : Fin 4096) (k : Fin 1024) : val_main_v0 x0 x1 x2 (ix2 R k) = d.Y R k := by
  pointwise [val_main_v0]
  simp only [H.h0, H.h1, H.h2]
  unfold Data.Y
  by_cases h : (k : ℕ) < 256
  · rw [dif_pos h, if_pos h]
  · by_cases h' : (k : ℕ) < 768
    · rw [dif_neg h, if_neg h, if_pos h', dif_pos (by omega)]
    · rw [dif_neg h, if_neg h, if_neg h', dif_neg (by omega), Nat.sub_sub]

theorem ref_e (R : Fin 4096) (j : Fin 1024) : val_main_v3 x0 x1 x2 x3 x4 x5 (ix2 R j) = d.e R j := by
  have a := ref_Y H
  generalize e : val_main_v0 x0 x1 x2 = y at a
  have b : val_main_v3 x0 x1 x2 x3 x4 x5 (ix2 R j) = x3 (ix2 R j) + (∑ k : Fin 1024, y (ix2 R k) * x5 (ix2 k j)) - x4 (ix2 R j) := by
    subst e
    pointwise [val_main_v3, val_main_v2, val_main_v1]
  rw [b, H.h3, H.h4]
  simp only [a, H.h5]
  rw [sum_mixers]
  rfl

theorem ref_0 (R : Fin 4096) (j : Fin 1024) : val_main_v17 x0 x1 x2 x3 x4 x5 (ix2 R j) = d.dy R j := by
  have a := ref_e H R j
  generalize e : val_main_v3 x0 x1 x2 x3 x4 x5 = y at a
  have b : val_main_v17 x0 x1 x2 x3 x4 x5 (ix2 R j) = Ideal.div (Ideal.ofBits .f32 0x3F000000#32) (Ideal.ofBits .f32 0x44800000#32)
      * (Ideal.ofBits .f32 0x40000000#32 * y (ix2 R j)) := by
    subst e
    pointwise [val_main_v17, val_main_v16, val_main_v15, val_main_v14, val_main_v13, val_main_v12, val_main_v6, val_main_v5, val_main_cst, val_main_cst_4, val_main_cst_5, val_main_cst_6]
  rw [b, scale_eq, a]
  rfl

theorem ref_1 (R : Fin 4096) (k : Fin 1024) : val_main_v20 x0 x1 x2 x3 x4 x5 (ix2 R k) = d.dyc R k := by
  have a := ref_0 H
  generalize e : val_main_v17 x0 x1 x2 x3 x4 x5 = y at a
  have b : val_main_v20 x0 x1 x2 x3 x4 x5 (ix2 R k) = ∑ j : Fin 1024, y (ix2 R j) * x5 (ix2 k j) := by
    subst e
    pointwise [val_main_v20]
  rw [b]
  simp only [a, H.h5]
  unfold Data.dyc
  simp only [Finset.sum_range]

theorem ref_2 (k j : Fin 1024) : val_main_v19 x0 x1 x2 x3 x4 x5 (ix2 k j) = ∑ n ∈ Finset.range 8, d.gw n k j := by
  have a := ref_0 H
  have a' := ref_Y H
  generalize e : val_main_v17 x0 x1 x2 x3 x4 x5 = y at a
  generalize e' : val_main_v0 x0 x1 x2 = z at a'
  have b : val_main_v19 x0 x1 x2 x3 x4 x5 (ix2 k j) = ∑ R : Fin 4096, y (ix2 R j) * z (ix2 R k) := by
    subst e
    subst e'
    pointwise [val_main_v19, val_main_v18]
  rw [b]
  simp only [a, a']
  rw [sum_rows fun R => d.dy R j * d.Y R k]
  unfold Data.gw
  simp only [mul_comm]

theorem ref_3 (q : Fin 8) (l : Fin 128) : val_main_v26 x0 x1 x2 x3 x4 x5 (ix2 q l) = ∑ n ∈ Finset.range 8, d.ls n (128 * q + l) := by
  have a := fun R => ref_e H R ⟨128 * q + l, by omega⟩
  generalize e : val_main_v3 x0 x1 x2 x3 x4 x5 = y at a
  have e2 : val_main_v23 x0 x1 x2 x3 x4 x5 = y := e
  have b : val_main_v26 x0 x1 x2 x3 x4 x5 (ix2 q l)
      = ∑ R : Fin 4096, y (ix2 R ⟨128 * q + l, by omega⟩) * y (ix2 R ⟨128 * q + l, by omega⟩) := by
    unfold val_main_v26 val_main_v25 val_main_v24
    rw [e2]
    pointwise [val_main_cst_7]
    simp only [Nat.mul_comm]
  rw [b]
  simp only [a]
  exact sum_rows fun R => d.e R (128 * q + l) * d.e R (128 * q + l)

end Proof.Out

end

end
-- ==== Proof.ProjRef.lean ====
module

public import proofs.«01_k».proof.Proof.ProjBlock
public import proofs.«01_k».proof.Proof.ProjReal
public import proofs.«01_k».proof.Proof.OutRef
public import proofs.«01_k».proof.Proof.Gen.Reference2Ideal.Read

/-!
  The reference of the projections' backward pass: its results are the same sums.
-/

@[expose] public section

noncomputable section

open Idealize.ShloMosaic Idealize.ShloMosaic.TcCoe

namespace Proof.Proj

open Cert.Reference2Ideal Cert.Reference2Ideal.Gen Cert.Reference2Ideal.Read
open Proof.Out (sum_rows)

/-- The reference's five arguments hold `d`. -/
structure RSrc (d : Data) (x0 x1 : Vec Ideal S4096x1024 .f32) (x2 : Vec Ideal S1x1024 .f32) (x3 : Vec Ideal S1024x3328 .f32)
    (x4 : Vec Ideal S4096x3328 .f32) : Prop where
  h0 : ∀ (R : Fin 4096) (j : Fin 1024), x0 (ix2 R j) = d.X R j
  h1 : ∀ (R : Fin 4096) (j : Fin 1024), x1 (ix2 R j) = d.DY R j
  h2 : ∀ j : Fin 1024, x2 (ix2 0 j) = d.G j
  h3 : ∀ (j : Fin 1024) (k : Fin 3328), x3 (ix2 j k) = d.W j k
  h4 : ∀ (R : Fin 4096) (k : Fin 3328), x4 (ix2 R k) = d.P R k

variable {d : Data} {x0 x1 : Vec Ideal S4096x1024 .f32} {x2 : Vec Ideal S1x1024 .f32} {x3 : Vec Ideal S1024x3328 .f32}
    {x4 : Vec Ideal S4096x3328 .f32} (H : RSrc d x0 x1 x2 x3 x4)
include H

theorem ref_var (R : Fin 4096) : val_main_v7 x0 (ix2 R 0) = d.var R := by
  pointwise [val_main_v7, val_main_v6, val_main_v5, val_main_v4, val_main_v3, val_main_v2, val_main_v1, val_main_cst, val_main_cst_0, val_main_cst_1]
  simp only [H.h0]
  unfold Data.var
  simp only [Finset.sum_range]

theorem ref_r (R : Fin 4096) : val_main_v8 x0 (ix2 R 0) = d.rs R := by
  have a := ref_var H R
  show Ideal.rsqrt (val_main_v7 x0 (ix2 R 0)) = _
  rw [a]
  rfl

theorem ref_z (R : Fin 4096) (j : Fin 1024) : val_main_v13 x0 (ix2 R j) = d.z R j := by
  have a := ref_r H R
  generalize e : val_main_v8 x0 = r at a
  have b : val_main_v13 x0 (ix2 R j) = x0 (ix2 R j) * r (ix2 R 0) := by
    subst e
    pointwise [val_main_v13, val_main_v12]
  rw [b, a, H.h0]
  rfl

theorem ref_h (R : Fin 4096) (j : Fin 1024) : val_main_v16 x0 x2 (ix2 R j) = d.h R j := by
  have a := ref_z H R j
  generalize e : val_main_v13 x0 = z at a
  have b : val_main_v16 x0 x2 (ix2 R j) = z (ix2 R j) * x2 (ix2 0 j) := by
    subst e
    pointwise [val_main_v16, val_main_v15, val_main_v14, val_main_v0]
  rw [b, a, H.h2]
  rfl

theorem ref_dh (R : Fin 4096) (j : Fin 1024) : val_main_v20 x3 x4 (ix2 R j) = d.dh R j := by
  pointwise [val_main_v20]
  simp only [H.h3, H.h4]
  unfold Data.dh
  simp only [Finset.sum_range]

theorem ref_dz (R : Fin 4096) (j : Fin 1024) : val_main_v25 x2 x3 x4 (ix2 R j) = d.dz R j := by
  have a := ref_dh H R j
  generalize e : val_main_v20 x3 x4 = z at a
  have b : val_main_v25 x2 x3 x4 (ix2 R j) = z (ix2 R j) * x2 (ix2 0 j) := by
    subst e
    pointwise [val_main_v25, val_main_v24, val_main_v14, val_main_v0]
  rw [b, a, H.h2]
  rfl

/-- The derivative of the inverse root, row by row. -/
theorem ref_t (R : Fin 4096) (j : Fin 1024) : val_main_v37 x0 x2 x3 x4 (ix2 R j)
    = Ideal.div ((∑ i ∈ Finset.range 1024, d.X R i * d.dz R i) * (Ideal.ofBits .f32 0xBF000000#32 * Ideal.div (d.rs R) (d.var R))) (Ideal.ofBits .f32 0x44800000#32) := by
  have a := ref_dz H R
  have b := ref_r H R
  have c := ref_var H R
  generalize e1 : val_main_v25 x2 x3 x4 = dz at a
  generalize e2 : val_main_v8 x0 = r at b
  generalize e3 : val_main_v7 x0 = v at c
  have h : val_main_v37 x0 x2 x3 x4 (ix2 R j) = Ideal.div ((∑ i : Fin 1024, x0 (ix2 R i) * dz (ix2 R i))
      * (Ideal.ofBits .f32 0xBF000000#32 * Ideal.div (r (ix2 R 0)) (v (ix2 R 0)))) (Ideal.ofBits .f32 0x44800000#32) := by
    unfold val_main_v37 val_main_v36 val_main_v35 val_main_v34 val_main_v33 val_main_v29 val_main_v28 val_main_v27 val_main_v11 val_main_v10 val_main_v9
    rw [e1, e2, e3]
    pointwise [val_main_cst_2, val_main_cst_5, val_main_cst_6, val_main_cst_7]
    try simp only [Fin.sum_univ_one]
  rw [h, b, c]
  simp only [a, H.h0, Finset.sum_range]

theorem ref_gx (R : Fin 4096) (j : Fin 1024) : val_main_v41 x0 x1 x2 x3 x4 (ix2 R j) = d.gx R j := by
  have a := ref_dz H R j
  have b := ref_r H R
  have c := ref_t H R j
  generalize e1 : val_main_v25 x2 x3 x4 = dz at a
  generalize e2 : val_main_v8 x0 = r at b
  generalize e3 : val_main_v37 x0 x2 x3 x4 = t at c
  have h : val_main_v41 x0 x1 x2 x3 x4 (ix2 R j)
      = x1 (ix2 R j) + dz (ix2 R j) * r (ix2 R 0) + x0 (ix2 R j) * t (ix2 R j) + t (ix2 R j) * x0 (ix2 R j) := by
    unfold val_main_v41 val_main_v40 val_main_v39 val_main_v38 val_main_v32 val_main_v31 val_main_v30
    rw [e1, e2, e3]
    pointwise []
  rw [h, a, b, c, H.h0, H.h1]
  exact norm_grad (d.X R) (d.dz R) (d.DY R j) (d.var R) (d.rs R) rfl rfl j j.isLt

theorem ref_gw (k : Fin 3328) (j : Fin 1024) : val_main_v43 x0 x2 x4 (ix2 k j) = ∑ n ∈ Finset.range 8, d.gw n k j := by
  have a := ref_h H
  generalize e : val_main_v16 x0 x2 = y at a
  have b : val_main_v43 x0 x2 x4 (ix2 k j) = ∑ R : Fin 4096, x4 (ix2 R k) * y (ix2 R j) := by
    subst e
    pointwise [val_main_v43, val_main_v19, val_main_v18]
  rw [b]
  simp only [a, H.h4]
  exact sum_rows fun R => d.P R k * d.h R j

theorem ref_gg (q : Fin 8) (l : Fin 128) : val_main_v44 x0 x3 x4 (ix2 q l) = ∑ n ∈ Finset.range 8, d.ls n (128 * q + l) := by
  have a := fun R => ref_z H R ⟨128 * q + l, by omega⟩
  have a' := fun R => ref_dh H R ⟨128 * q + l, by omega⟩
  generalize e : val_main_v13 x0 = y at a
  generalize e' : val_main_v20 x3 x4 = z at a'
  have b : val_main_v44 x0 x3 x4 (ix2 q l)
      = ∑ R : Fin 4096, y (ix2 R ⟨128 * q + l, by omega⟩) * z (ix2 R ⟨128 * q + l, by omega⟩) := by
    subst e
    subst e'
    pointwise [val_main_v44, val_main_v42, val_main_v26, val_main_v23, val_main_v22, val_main_v21, val_main_cst_3, val_main_cst_4]
    simp only [Fin.sum_univ_one, Nat.mul_comm]
  rw [b]
  simp only [a, a']
  rw [sum_rows fun R => d.z R (128 * q + l) * d.dh R (128 * q + l)]
  unfold Data.ls
  simp only [mul_comm]

end Proof.Proj

end

end
-- ==== Proof.ProjValue.lean ====
module

public import proofs.«01_k».proof.Defs
public import proofs.«01_k».proof.Proof.ProjAcc
public import proofs.«01_k».proof.Proof.ProjRef
public import proofs.«01_k».proof.Proof.Gen.Reference2Ideal.Run

/-!
  The projections' backward pass: the kernel and the reference end with equal results, at all inputs.
-/

@[expose] public section

noncomputable section

open Idealize.ShloMosaic Idealize.ShloMosaic.TcCoe Idealize.SL.Sem

namespace Proof.Proj

/-- Five arrays as functions of numbers: zero outside their bounds. -/
def dataOf (x0 x1 : Vec Ideal ⟨2, ![4096, 1024]⟩ .f32) (x2 : Vec Ideal ⟨2, ![1, 1024]⟩ .f32) (x3 : Vec Ideal ⟨2, ![1024, 3328]⟩ .f32) (x4 : Vec Ideal ⟨2, ![4096, 3328]⟩ .f32) : Data where
  X R j := if h : R < 4096 ∧ j < 1024 then (x0 (ix2 ⟨R, h.1⟩ ⟨j, h.2⟩) : EReal) else 0
  DY R j := if h : R < 4096 ∧ j < 1024 then (x1 (ix2 ⟨R, h.1⟩ ⟨j, h.2⟩) : EReal) else 0
  G j := if h : j < 1024 then (x2 (ix2 0 ⟨j, h⟩) : EReal) else 0
  W j k := if h : j < 1024 ∧ k < 3328 then (x3 (ix2 ⟨j, h.1⟩ ⟨k, h.2⟩) : EReal) else 0
  P R k := if h : R < 4096 ∧ k < 3328 then (x4 (ix2 ⟨R, h.1⟩ ⟨k, h.2⟩) : EReal) else 0

/-- The arrays hold their own functions. -/
theorem rsrc (x0 x1 : Vec Ideal ⟨2, ![4096, 1024]⟩ .f32) (x2 : Vec Ideal ⟨2, ![1, 1024]⟩ .f32) (x3 : Vec Ideal ⟨2, ![1024, 3328]⟩ .f32) (x4 : Vec Ideal ⟨2, ![4096, 3328]⟩ .f32) :
    RSrc (dataOf x0 x1 x2 x3 x4) x0 x1 x2 x3 x4 :=
  ⟨fun R k => by simp only [dataOf]; rw [dif_pos ⟨R.2, k.2⟩], fun R k => by simp only [dataOf]; rw [dif_pos ⟨R.2, k.2⟩],
    fun k => by simp only [dataOf]; rw [dif_pos k.2],
    fun R k => by simp only [dataOf]; rw [dif_pos ⟨R.2, k.2⟩], fun R k => by simp only [dataOf]; rw [dif_pos ⟨R.2, k.2⟩]⟩

section
open Cert.Kernel2Ideal Cert.Kernel2Ideal.Gen

/-- What the run leaves in the three result arrays, and that it leaves the arguments as they were. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16_0) = (dats m 0 c).arrAt 10 cfg0.N
      ∧ r.2.mem ((c.tc : Thread nD τ).loc main_v16_1) = ends m c main_v16_1
      ∧ r.2.mem ((c.tc : Thread nD τ).loc main_v16_2) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨(h.1.1 c).1 10, h.1.2 c main_v16_1 (by decide), (h.1.1 c).1 11,
      ((h.1.1 c).1 0).trans (((dats m 0 c).arrAt_in 0 rfl _).trans ((dats_A m c 0).trans (V_main_arg0 m c))),
      ((h.1.1 c).1 1).trans (((dats m 0 c).arrAt_in 1 rfl _).trans ((dats_A m c 1).trans (V_main_arg1 m c))),
      ((h.1.1 c).1 2).trans (((dats m 0 c).arrAt_in 2 rfl _).trans ((dats_A m c 2).trans (V_main_arg2 m c))),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c)⟩)
    (run m ρ)

end

/-- The algebraic claim of the projections' backward pass. -/
theorem algebraic : Cert.algebraic_Kernel2Ideal_Reference2Ideal := by
  intro m g m' g' _ hargs
  refine ⟨fun c => (dats m 0 c).arrAt 10 Cert.Kernel2Ideal.cfg0.N, fun c => ends m c Cert.Kernel2Ideal.main_v16_1,
    fun c => (dats m 0 c).arrAt 11 Cert.Kernel2Ideal.cfg0.N, ?_, ?_⟩
  · exact run_results m g
  · refine (θ_run _ _ _).mono (fun r h c => ?_) (Cert.Reference2Ideal.Value.run m' g')
    obtain ⟨h0, h1, h2, hk⟩ := h c
    obtain ⟨a0, a1, a2, a3, a4⟩ := hargs c
    have S := rsrc (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3))
      (m ((c : Thread Cert.Kernel2Ideal.nD Cert.Kernel2Ideal.τ).loc Cert.Kernel2Ideal.main_arg4))
    have Q : Src _ m c := ⟨S.h0, S.h1, S.h2, S.h3, S.h4⟩
    refine ⟨?_, ?_, ?_, hk⟩
    · rw [h0, Cert.Reference2Ideal.Read.val_main_v41_eq, a0, a1, a2, a3, a4]
      refine Eq.trans (funext fun i => ?_) (final_gx Q).symm
      obtain ⟨r, s, rfl⟩ : ∃ (r : Fin 4096) (s : Fin 1024), i = ix2 r s := ⟨i 0, i 1, eq_ix2 i⟩
      exact ref_gx S r s
    · rw [h1, Cert.Reference2Ideal.Read.val_main_v43_eq, a0, a2, a4]
      refine Eq.trans (funext fun i => ?_) (final_gwt Q).symm
      obtain ⟨r, s, rfl⟩ : ∃ (r : Fin 3328) (s : Fin 1024), i = ix2 r s := ⟨i 0, i 1, eq_ix2 i⟩
      exact ref_gw S r s
    · rw [h2, Cert.Reference2Ideal.Read.val_main_v44_eq, a0, a3, a4]
      refine Eq.trans (funext fun i => ?_) (final_gg Q).symm
      obtain ⟨r, s, rfl⟩ : ∃ (r : Fin 8) (s : Fin 128), i = ix2 r s := ⟨i 0, i 1, eq_ix2 i⟩
      exact ref_gg S r s

end Proof.Proj

end

end
-- ==== Proof.OutAcc.lean ====
module

public import proofs.«01_k».proof.Proof.OutBlock

/-!
  The loss head's results: the blocks of the eight grid points put together, and the two accumulators after the last point.
-/

@[expose] public section

noncomputable section

open Idealize.ShloMosaic Idealize.ShloMosaic.TcCoe Idealize.SL.Sem
open Idealize.ShloMosaic.Pipeline (Dat)

namespace Proof.Out

open Cert.Kernel3Ideal Cert.Kernel3Ideal.Gen Cert.Kernel3Ideal.Value

/-- The kernel's six arguments hold `d`. -/
structure Src (d : Data) (m : (ℓ : Loc nD τ sig) → Buf (Elt Ideal) ℓ) (c : Dev nD) : Prop where
  h0 : ∀ (R : Fin 4096) (k : Fin 256), m ((c : Thread nD τ).loc main_arg0) (ix2 R k) = d.Yg R k
  h1 : ∀ (R : Fin 4096) (k : Fin 512), m ((c : Thread nD τ).loc main_arg1) (ix2 R k) = d.Ya R k
  h2 : ∀ (R : Fin 4096) (k : Fin 256), m ((c : Thread nD τ).loc main_arg2) (ix2 R k) = d.Ym R k
  h3 : ∀ (R : Fin 4096) (j : Fin 1024), m ((c : Thread nD τ).loc main_arg3) (ix2 R j) = d.X R j
  h4 : ∀ (R : Fin 4096) (j : Fin 1024), m ((c : Thread nD τ).loc main_arg4) (ix2 R j) = d.T R j
  h5 : ∀ (k j : Fin 1024), m ((c : Thread nD τ).loc main_arg5) (ix2 k j) = d.W k j

variable (m : (ℓ : Loc nD τ sig) → Buf (Elt Ideal) ℓ) (c : Dev nD)

theorem V_v0 : V m c main_v0 = m ((c : Thread nD τ).loc main_arg0) := by
  unfold_abbrev_sides
  after_results
  rfl

theorem V_v1 : V m c main_v1 = m ((c : Thread nD τ).loc main_arg1) := by
  unfold_abbrev_sides
  after_results
  rfl

theorem V_v2 : V m c main_v2 = m ((c : Thread nD τ).loc main_arg2) := by
  unfold_abbrev_sides
  after_results
  rfl

theorem V_v3 : V m c main_v3 = m ((c : Thread nD τ).loc main_arg5) := by
  unfold_abbrev_sides
  after_results
  rfl

theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = 0 ∧ win0_5.index t 1 = 0 :=
  (by decide +kernel : ∀ t : Fin grid0.N, _)

variable {m c} {d : Data} (H : Src d m c)
include H

theorem blk (t : Fin cfg0.N) : Blk d t ⟨iblk m c 0 t, iblk m c 1 t, iblk m c 2 t, iblk m c 3 t, iblk m c 4 t, iblk m c 5 t⟩ := by
  have hN : cfg0.N = 8 := N_0
  have ht : t.val < 8 := hN ▸ t.isLt
  obtain ⟨i00, i01, i10, i11, i20, i21, i30, i31, i40, i41, i50, i51⟩ := idx t
  constructor
  · intro r k
    refine Eq.trans ?_ (H.h0 ⟨512 * t + r, by omega⟩ k)
    show V m c main_v0 _ = _
    rw [V_v0]
    refine congrArg _ (funext fun a => Fin.ext ?_)
    match a with
    | ⟨0, _⟩ => show win0_0.index t 0 * 512 + 1 * (r : ℕ) = 512 * t + r; rw [i00]; omega
    | ⟨1, _⟩ => show win0_0.index t 1 * 256 + 1 * (k : ℕ) = k; rw [i01]; omega
  · intro r k
    refine Eq.trans ?_ (H.h1 ⟨512 * t + r, by omega⟩ k)
    show V m c main_v1 _ = _
    rw [V_v1]
    refine congrArg _ (funext fun a => Fin.ext ?_)
    match a with
    | ⟨0, _⟩ => show win0_1.index t 0 * 512 + 1 * (r : ℕ) = 512 * t + r; rw [i10]; omega
    | ⟨1, _⟩ => show win0_1.index t 1 * 512 + 1 * (k : ℕ) = k; rw [i11]; omega
  · intro r k
    refine Eq.trans ?_ (H.h2 ⟨512 * t + r, by omega⟩ k)
    show V m c main_v2 _ = _
    rw [V_v2]
    refine congrArg _ (funext fun a => Fin.ext ?_)
    match a with
    | ⟨0, _⟩ => show win0_2.index t 0 * 512 + 1 * (r : ℕ) = 512 * t + r; rw [i20]; omega
    | ⟨1, _⟩ => show win0_2.index t 1 * 256 + 1 * (k : ℕ) = k; rw [i21]; omega
  · intro r k
    refine Eq.trans ?_ (H.h3 ⟨512 * t + r, by omega⟩ k)
    show V m c main_arg3 _ = _
    rw [V_main_arg3]
    refine congrArg _ (funext fun a => Fin.ext ?_)
    match a with
    | ⟨0, _⟩ => show win0_3.index t 0 * 512 + 1 * (r : ℕ) = 512 * t + r; rw [i30]; omega
    | ⟨1, _⟩ => show win0_3.index t 1 * 1024 + 1 * (k : ℕ) = k; rw [i31]; omega
  · intro r k
    refine Eq.trans ?_ (H.h4 ⟨512 * t + r, by omega⟩ k)
    show V m c main_arg4 _ = _
    rw [V_main_arg4]
    refine congrArg _ (funext fun a => Fin.ext ?_)
    match a with
    | ⟨0, _⟩ => show win0_4.index t 0 * 512 + 1 * (r : ℕ) = 512 * t + r; rw [i40]; omega
    | ⟨1, _⟩ => show win0_4.index t 1 * 1024 + 1 * (k : ℕ) = k; rw [i41]; omega
  · intro k j
    refine Eq.trans ?_ (H.h5 k j)
    show V m c main_v3 _ = _
    rw [V_v3]
    refine congrArg _ (funext fun a => Fin.ext ?_)
    match a with
    | ⟨0, _⟩ => show win0_5.index t 0 * 1024 + 1 * (k : ℕ) = k; rw [i50]; omega
    | ⟨1, _⟩ => show win0_5.index t 1 * 1024 + 1 * (j : ℕ) = j; rw [i51]; omega

/-- What the four result blocks hold after point `t`. -/
structure After (d : Data) (t : ℕ) (o6 o7 : Vec Ideal S512x1024 .f32) (o8 : Vec Ideal S1024x1024 .f32) (o9 : Vec Ideal S8x128 .f32) : Prop where
  h6 : o6 = arr2 fun r j => d.dy (512 * t + r) j
  h7 : o7 = arr2 fun r k => d.dyc (512 * t + r) k
  h8 : o8 = arr2 fun k j => ∑ n ∈ Finset.range (t + 1), d.gw n k j
  h9 : o9 = arr2 fun q l => ∑ n ∈ Finset.range (t + 1), d.ls n (128 * q + l)

/-- The results that point `t` leaves, as one quadruple. -/
abbrev AfterQ (d : Data) (t : ℕ) (o : Vec Ideal S512x1024 .f32 × Vec Ideal S512x1024 .f32 × Vec Ideal S1024x1024 .f32 × Vec Ideal S8x128 .f32) : Prop :=
  After d t o.1 o.2.1 o.2.2.1 o.2.2.2

theorem step_A (t : Fin cfg0.N) (h0 : t.val % 8 = 0) : AfterQ d t (outsAt0 m c t.val t.isLt) := by
  have hN : cfg0.N = 8 := N_0
  have ht : t.val = 0 := by have := t.isLt; omega
  have B := blk H t
  rw [outsAt0_A m c t h0, out6_A, out7_A, out8_A, out9_A]
  constructor
  · dsimp only
    exact val6 B
  · dsimp only
    exact val7 B
  · dsimp only
    have e := fun L => val8_A B L
    rw [e]
    congr 1
    funext k j
    simp [ht, next8]
  · dsimp only
    have e := fun L => val9_A B L
    rw [e]
    congr 1
    funext q l
    simp [ht, next9]

theorem step_B (t : Fin cfg0.N) (h0 : ¬ t.val % 8 = 0) (n : ℕ) (hn : t.val = n + 1)
    (P : AfterQ d n (outsAt0 m c (t.val - 1) (Nat.lt_of_le_of_lt (Nat.sub_le _ _) t.isLt))) :
    AfterQ d t (outsAt0 m c t.val t.isLt) := by
  have B := blk H t
  rw [outsAt0_B m c t h0, out6_B, out7_B, out8_B, out9_B]
  generalize outsAt0 m c (t.val - 1) _ = o at P ⊢
  obtain ⟨o6, o7, o8, o9⟩ := o
  obtain ⟨-, -, P8, P9⟩ := P
  dsimp only at P8 P9 ⊢
  constructor
  · dsimp only
    exact val6 B
  · dsimp only
    exact val7 B
  · dsimp only
    rw [P8, val8_B B, ← hn]
    congr 1
    funext k j
    exact (Finset.sum_range_succ _ _).symm
  · dsimp only
    rw [P9, val9_B B, ← hn]
    congr 1
    funext q l
    exact (Finset.sum_range_succ _ _).symm

theorem after (n : ℕ) (hn : n < cfg0.N) : AfterQ d n (outsAt0 m c n hn) := by
  have hN : cfg0.N = 8 := N_0
  induction n with
  | zero => exact step_A H ⟨0, hn⟩ rfl
  | succ n ih => exact step_B H ⟨n + 1, hn⟩ (by dsimp only; omega) n rfl (ih (by omega))

/-! ## The result arrays -/

omit H in
theorem oidx : ∀ t : Fin cfg0.N, win0_6.index t 0 = t.val ∧ win0_6.index t 1 = 0 ∧ win0_7.index t 0 = t.val ∧ win0_7.index t 1 = 0
    ∧ win0_8.index t 0 = 0 ∧ win0_8.index t 1 = 0 ∧ win0_9.index t 0 = 0 ∧ win0_9.index t 1 = 0 :=
  (by decide +kernel : ∀ t : Fin grid0.N, _)

theorem final6 : (dats m 0 c).arrAt 6 cfg0.N = (arr2 d.dy : S4096x1024.Idx → EReal) := by
  have hN : cfg0.N = 8 := N_0
  refine (dats m 0 c).arrAt_eq_of_cover 6 (arr2 d.dy : S4096x1024.Idx → EReal) (fun t _ => ?_) fun i => ?_
  · rw [flushed6, (after H t.val t.isLt).h6]
    obtain ⟨i0, i1, -⟩ := oidx t
    funext y
    show d.dy (512 * t + (y 0 : ℕ)) (y 1 : ℕ) = d.dy (win0_6.index t 0 * 512 + 1 * (y 0 : ℕ)) (win0_6.index t 1 * 1024 + 1 * (y 1 : ℕ))
    rw [i0, i1, Nat.mul_comm t.val 512, Nat.one_mul, Nat.one_mul, Nat.zero_mul, Nat.zero_add]
  · have h0 : (i 0 : ℕ) < 4096 := (i 0).isLt
    have h1 : (i 1 : ℕ) < 1024 := (i 1).isLt
    have ht : (i 0 : ℕ) / 512 < cfg0.N := by rw [hN]; omega
    obtain ⟨i0, i1, -⟩ := oidx ⟨_, ht⟩
    refine ⟨⟨_, ht⟩, flush0_6 _, ?_⟩
    show i ∈ ((View.whole main_v4_0).slice (win0_6.rect ⟨_, ht⟩)).set
    rw [View.set_slice_whole, Rect.mem_set_unit]
    intro a
    match a with
    | ⟨0, _⟩ =>
      show win0_6.index ⟨_, ht⟩ 0 * 512 ≤ (i 0 : ℕ) ∧ (i 0 : ℕ) < win0_6.index ⟨_, ht⟩ 0 * 512 + 512
      rw [i0]; dsimp only; omega
    | ⟨1, _⟩ =>
      show win0_6.index ⟨_, ht⟩ 1 * 1024 ≤ (i 1 : ℕ) ∧ (i 1 : ℕ) < win0_6.index ⟨_, ht⟩ 1 * 1024 + 1024
      rw [i1]; omega

theorem final7 : (dats m 0 c).arrAt 7 cfg0.N = (arr2 d.dyc : S4096x1024.Idx → EReal) := by
  have hN : cfg0.N = 8 := N_0
  refine (dats m 0 c).arrAt_eq_of_cover 7 (arr2 d.dyc : S4096x1024.Idx → EReal) (fun t _ => ?_) fun i => ?_
  · rw [flushed7, (after H t.val t.isLt).h7]
    obtain ⟨-, -, i0, i1, -⟩ := oidx t
    funext y
    show d.dyc (512 * t + (y 0 : ℕ)) (y 1 : ℕ) = d.dyc (win0_7.index t 0 * 512 + 1 * (y 0 : ℕ)) (win0_7.index t 1 * 1024 + 1 * (y 1 : ℕ))
    rw [i0, i1, Nat.mul_comm t.val 512, Nat.one_mul, Nat.one_mul, Nat.zero_mul, Nat.zero_add]
  · have h0 : (i 0 : ℕ) < 4096 := (i 0).isLt
    have h1 : (i 1 : ℕ) < 1024 := (i 1).isLt
    have ht : (i 0 : ℕ) / 512 < cfg0.N := by rw [hN]; omega
    obtain ⟨-, -, i0, i1, -⟩ := oidx ⟨_, ht⟩
    refine ⟨⟨_, ht⟩, flush0_7 _, ?_⟩
    show i ∈ ((View.whole main_v4_1).slice (win0_7.rect ⟨_, ht⟩)).set
    rw [View.set_slice_whole, Rect.mem_set_unit]
    intro a
    match a with
    | ⟨0, _⟩ =>
      show win0_7.index ⟨_, ht⟩ 0 * 512 ≤ (i 0 : ℕ) ∧ (i 0 : ℕ) < win0_7.index ⟨_, ht⟩ 0 * 512 + 512
      rw [i0]; dsimp only; omega
    | ⟨1, _⟩ =>
      show win0_7.index ⟨_, ht⟩ 1 * 1024 ≤ (i 1 : ℕ) ∧ (i 1 : ℕ) < win0_7.index ⟨_, ht⟩ 1 * 1024 + 1024
      rw [i1]; omega

omit H in
/-- The last point, which alone writes the two accumulators back. -/
theorem h7lt : 7 < cfg0.N := by rw [show cfg0.N = 8 from N_0]; decide

omit H in
theorem final8 : (dats m 0 c).arrAt 8 cfg0.N = (outsAt0 m c 7 h7lt).2.2.1 := by
  have hN : cfg0.N = 8 := N_0
  refine (dats m 0 c).arrAt_eq_of_cover 8 (outsAt0 m c 7 h7lt).2.2.1 (fun t hf => ?_) fun i => ?_
  · have h3 : t.val = 7 := by have := (flush0_8 t).mp hf; have := t.isLt; omega
    obtain rfl : t = ⟨7, h7lt⟩ := Fin.ext h3
    rw [flushed8]
    have hz : (fun a => win0_8.index ⟨7, h7lt⟩ a * main_v4_2.ty.shape.size a) = fun _ => 0 := funext fun a => by
      obtain ⟨-, -, -, -, i0, i1, -⟩ := oidx ⟨7, h7lt⟩
      match a with
      | ⟨0, _⟩ => exact (congrArg (· * 1024) i0).trans (Nat.zero_mul _)
      | ⟨1, _⟩ => exact (congrArg (· * 1024) i1).trans (Nat.zero_mul _)
    exact (Memref.read_access_unit_zero (Elt Ideal) main_v4_2 hz (fun a => by rw [congrFun hz a]; simp) (outsAt0 m c 7 h7lt).2.2.1).symm
  · obtain ⟨-, -, -, -, i0, i1, -⟩ := oidx ⟨7, h7lt⟩
    refine ⟨⟨7, h7lt⟩, (flush0_8 _).mpr rfl, ?_⟩
    show i ∈ ((View.whole main_v4_2).slice (win0_8.rect ⟨7, h7lt⟩)).set
    rw [View.set_slice_whole, Rect.mem_set_unit]
    have h0 : (i 0 : ℕ) < 1024 := (i 0).isLt
    have h1 : (i 1 : ℕ) < 1024 := (i 1).isLt
    intro a
    match a with
    | ⟨0, _⟩ => show win0_8.index ⟨7, h7lt⟩ 0 * 1024 ≤ (i 0 : ℕ) ∧ (i 0 : ℕ) < win0_8.index ⟨7, h7lt⟩ 0 * 1024 + 1024; rw [i0]; omega
    | ⟨1, _⟩ => show win0_8.index ⟨7, h7lt⟩ 1 * 1024 ≤ (i 1 : ℕ) ∧ (i 1 : ℕ) < win0_8.index ⟨7, h7lt⟩ 1 * 1024 + 1024; rw [i1]; omega

omit H in
theorem final9 : (dats m 0 c).arrAt 9 cfg0.N = (outsAt0 m c 7 h7lt).2.2.2 := by
  have hN : cfg0.N = 8 := N_0
  refine (dats m 0 c).arrAt_eq_of_cover 9 (outsAt0 m c 7 h7lt).2.2.2 (fun t hf => ?_) fun i => ?_
  · have h3 : t.val = 7 := by have := (flush0_9 t).mp hf; have := t.isLt; omega
    obtain rfl : t = ⟨7, h7lt⟩ := Fin.ext h3
    rw [flushed9]
    have hz : (fun a => win0_9.index ⟨7, h7lt⟩ a * main_v4_3.ty.shape.size a) = fun _ => 0 := funext fun a => by
      obtain ⟨-, -, -, -, -, -, i0, i1⟩ := oidx ⟨7, h7lt⟩
      match a with
      | ⟨0, _⟩ => exact (congrArg (· * 8) i0).trans (Nat.zero_mul _)
      | ⟨1, _⟩ => exact (congrArg (· * 128) i1).trans (Nat.zero_mul _)
    exact (Memref.read_access_unit_zero (Elt Ideal) main_v4_3 hz (fun a => by rw [congrFun hz a]; simp) (outsAt0 m c 7 h7lt).2.2.2).symm
  · obtain ⟨-, -, -, -, -, -, i0, i1⟩ := oidx ⟨7, h7lt⟩
    refine ⟨⟨7, h7lt⟩, (flush0_9 _).mpr rfl, ?_⟩
    show i ∈ ((View.whole main_v4_3).slice (win0_9.rect ⟨7, h7lt⟩)).set
    rw [View.set_slice_whole, Rect.mem_set_unit]
    have h0 : (i 0 : ℕ) < 8 := (i 0).isLt
    have h1 : (i 1 : ℕ) < 128 := (i 1).isLt
    intro a
    match a with
    | ⟨0, _⟩ => show win0_9.index ⟨7, h7lt⟩ 0 * 8 ≤ (i 0 : ℕ) ∧ (i 0 : ℕ) < win0_9.index ⟨7, h7lt⟩ 0 * 8 + 8; rw [i0]; omega
    | ⟨1, _⟩ => show win0_9.index ⟨7, h7lt⟩ 1 * 128 ≤ (i 1 : ℕ) ∧ (i 1 : ℕ) < win0_9.index ⟨7, h7lt⟩ 1 * 128 + 128; rw [i1]; omega

/-- What the four result arrays end holding. -/
theorem res : (dats m 0 c).arrAt 6 cfg0.N = (arr2 d.dy : S4096x1024.Idx → EReal) ∧ (dats m 0 c).arrAt 7 cfg0.N = (arr2 d.dyc : S4096x1024.Idx → EReal)
    ∧ (dats m 0 c).arrAt 8 cfg0.N = (arr2 (fun k j => ∑ n ∈ Finset.range 8, d.gw n k j) : S1024x1024.Idx → EReal)
    ∧ (dats m 0 c).arrAt 9 cfg0.N = (arr2 (fun q l => ∑ n ∈ Finset.range 8, d.ls n (128 * q + l)) : S8x128.Idx → EReal) :=
  ⟨final6 H, final7 H, final8.trans (after H 7 h7lt).h8, final9.trans (after H 7 h7lt).h9⟩

end Proof.Out

end

end
-- ==== Proof.OutValue.lean ====
module

public import proofs.«01_k».proof.Defs
public import proofs.«01_k».proof.Proof.OutAcc
public import proofs.«01_k».proof.Proof.OutRef
public import proofs.«01_k».proof.Proof.Gen.Reference3Ideal.Run

/-!
  The loss head: the kernel and the reference end with equal results, at all inputs.
-/

@[expose] public section

noncomputable section

open Idealize.ShloMosaic Idealize.ShloMosaic.TcCoe Idealize.SL.Sem

namespace Proof.Out

/-- Six arrays as functions of two numbers: zero outside their bounds. -/
def dataOf (x0 : Vec Ideal ⟨2, ![4096, 256]⟩ .f32) (x1 : Vec Ideal ⟨2, ![4096, 512]⟩ .f32) (x2 : Vec Ideal ⟨2, ![4096, 256]⟩ .f32) (x3 : Vec Ideal ⟨2, ![4096, 1024]⟩ .f32) (x4 : Vec Ideal ⟨2, ![4096, 1024]⟩ .f32) (x5 : Vec Ideal ⟨2, ![1024, 1024]⟩ .f32) : Data where
  Yg R k := if h : R < 4096 ∧ k < 256 then (x0 (ix2 ⟨R, h.1⟩ ⟨k, h.2⟩) : EReal) else 0
  Ya R k := if h : R < 4096 ∧ k < 512 then (x1 (ix2 ⟨R, h.1⟩ ⟨k, h.2⟩) : EReal) else 0
  Ym R k := if h : R < 4096 ∧ k < 256 then (x2 (ix2 ⟨R, h.1⟩ ⟨k, h.2⟩) : EReal) else 0
  X R k := if h : R < 4096 ∧ k < 1024 then (x3 (ix2 ⟨R, h.1⟩ ⟨k, h.2⟩) : EReal) else 0
  T R k := if h : R < 4096 ∧ k < 1024 then (x4 (ix2 ⟨R, h.1⟩ ⟨k, h.2⟩) : EReal) else 0
  W k j := if h : k < 1024 ∧ j < 1024 then (x5 (ix2 ⟨k, h.1⟩ ⟨j, h.2⟩) : EReal) else 0

/-- The arrays hold their own functions. -/
theorem rsrc (x0 : Vec Ideal ⟨2, ![4096, 256]⟩ .f32) (x1 : Vec Ideal ⟨2, ![4096, 512]⟩ .f32) (x2 : Vec Ideal ⟨2, ![4096, 256]⟩ .f32) (x3 : Vec Ideal ⟨2, ![4096, 1024]⟩ .f32) (x4 : Vec Ideal ⟨2, ![4096, 1024]⟩ .f32) (x5 : Vec Ideal ⟨2, ![1024, 1024]⟩ .f32) :
    RSrc (dataOf x0 x1 x2 x3 x4 x5) x0 x1 x2 x3 x4 x5 :=
  ⟨fun R k => by simp only [dataOf]; rw [dif_pos ⟨R.2, k.2⟩], fun R k => by simp only [dataOf]; rw [dif_pos ⟨R.2, k.2⟩],
    fun R k => by simp only [dataOf]; rw [dif_pos ⟨R.2, k.2⟩], fun R k => by simp only [dataOf]; rw [dif_pos ⟨R.2, k.2⟩],
    fun R k => by simp only [dataOf]; rw [dif_pos ⟨R.2, k.2⟩], fun R k => by simp only [dataOf]; rw [dif_pos ⟨R.2, k.2⟩]⟩

/-- The algebraic claim of the loss head. -/
theorem algebraic : Cert.algebraic_Kernel3Ideal_Reference3Ideal := by
  intro m g m' g' _ hargs
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N,
    fun c => (Cert.Kernel3Ideal.Gen.dats m 0 c).arrAt 8 Cert.Kernel3Ideal.cfg0.N, fun c => (Cert.Kernel3Ideal.Gen.dats m 0 c).arrAt 9 Cert.Kernel3Ideal.cfg0.N, ?_, ?_⟩
  · exact (θ_run _ _ _).mono (fun r h c => h c) (Cert.Kernel3Ideal.Value.run_blocks m g)
  · refine (θ_run _ _ _).mono (fun r h c => ?_) (Cert.Reference3Ideal.Value.run m' g')
    obtain ⟨h0, h1, h2, h3, hk⟩ := h c
    obtain ⟨a0, a1, a2, a3, a4, a5⟩ := hargs c
    have S := rsrc (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3))
      (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5))
    obtain ⟨K6, K7, K8, K9⟩ := res (m := m) (c := c) ⟨S.h0, S.h1, S.h2, S.h3, S.h4, S.h5⟩
    refine ⟨?_, ?_, ?_, ?_, hk⟩
    · rw [h0, Cert.Reference3Ideal.Read.val_main_v17_eq, a0, a1, a2, a3, a4, a5]
      refine Eq.trans (funext fun i => ?_) K6.symm
      obtain ⟨r, s, rfl⟩ : ∃ (r : Fin 4096) (s : Fin 1024), i = ix2 r s := ⟨i 0, i 1, eq_ix2 i⟩
      exact ref_0 S r s
    · rw [h1, Cert.Reference3Ideal.Read.val_main_v20_eq, a0, a1, a2, a3, a4, a5]
      refine Eq.trans (funext fun i => ?_) K7.symm
      obtain ⟨r, s, rfl⟩ : ∃ (r : Fin 4096) (s : Fin 1024), i = ix2 r s := ⟨i 0, i 1, eq_ix2 i⟩
      exact ref_1 S r s
    · rw [h2, Cert.Reference3Ideal.Read.val_main_v19_eq, a0, a1, a2, a3, a4, a5]
      refine Eq.trans (funext fun i => ?_) K8.symm
      obtain ⟨r, s, rfl⟩ : ∃ (r : Fin 1024) (s : Fin 1024), i = ix2 r s := ⟨i 0, i 1, eq_ix2 i⟩
      exact ref_2 S r s
    · rw [h3, Cert.Reference3Ideal.Read.val_main_v26_eq, a0, a1, a2, a3, a4, a5]
      refine Eq.trans (funext fun i => ?_) K9.symm
      obtain ⟨r, s, rfl⟩ : ∃ (r : Fin 8) (s : Fin 128), i = ix2 r s := ⟨i 0, i 1, eq_ix2 i⟩
      exact ref_3 S r s

end Proof.Out

end

end
-- ==== Proof.TinyBody.lean ====
module

public import proofs.«01_k».proof.Proof.Gen.Kernel8Ideal.Launch
public import proofs.«01_k».proof.Proof.Gen.Kernel8Ideal.Skeleton
public import proofs.«01_k».proof.Proof.Gen.Kernel8Ideal.Points
public import Idealize.ShloMosaic.Lib.Pipeline.FrameBody
public import Idealize.ShloMosaic.Lib.Claim
public import Idealize.ShloMosaic.Lib.Ring
public import Idealize.ShloMosaic.Lib.Tactic

/-!
  The body of the optimiser's step on the eight small weights: what it leaves in each of its 33 results, over any float values.
  Array 0 holds the packed gradients and the sums of the squared errors, arrays 1 to 8 the weights, 9 to 16 their first moments,
  17 to 24 their second moments. Result 25 is the loss; results `26 + 4 * k` on are weight `k`'s gradient, change and new moments.
-/

@[expose] public section

set_option maxRecDepth 16384

noncomputable section

namespace Proof.Tiny

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The parts of the arrays that the body reads and writes -/

abbrev tail : Rect S72x128 := Rect.unit (s := S72x128) ![64, 0] S8x128.size inb_S72x128_S8x128_64_0
abbrev one : Rect S1x1 := Rect.unit (s := S1x1) ![0, 0] S1x1.size inb_S1x1_S1x1_0_0
abbrev rowA0 : Rect S72x128 := Rect.unit (s := S72x128) ![0, 0] S1x128.size inb_S72x128_S1x128_0_0
abbrev rowA1 : Rect S72x128 := Rect.unit (s := S72x128) ![1, 0] S1x128.size inb_S72x128_S1x128_1_0
abbrev rowA2 : Rect S72x128 := Rect.unit (s := S72x128) ![2, 0] S1x128.size inb_S72x128_S1x128_2_0
abbrev rowA3 : Rect S72x128 := Rect.unit (s := S72x128) ![3, 0] S1x128.size inb_S72x128_S1x128_3_0
abbrev rowA4 : Rect S72x128 := Rect.unit (s := S72x128) ![4, 0] S1x128.size inb_S72x128_S1x128_4_0
abbrev rowA5 : Rect S72x128 := Rect.unit (s := S72x128) ![5, 0] S1x128.size inb_S72x128_S1x128_5_0
abbrev rowA6 : Rect S72x128 := Rect.unit (s := S72x128) ![6, 0] S1x128.size inb_S72x128_S1x128_6_0
abbrev rowA7 : Rect S72x128 := Rect.unit (s := S72x128) ![7, 0] S1x128.size inb_S72x128_S1x128_7_0
abbrev col0 : Rect S1x1024 := Rect.unit (s := S1x1024) ![0, 0] S1x128.size inb_S1x1024_S1x128_0_0
abbrev col1 : Rect S1x1024 := Rect.unit (s := S1x1024) ![0, 128] S1x128.size inb_S1x1024_S1x128_0_128
abbrev col2 : Rect S1x1024 := Rect.unit (s := S1x1024) ![0, 256] S1x128.size inb_S1x1024_S1x128_0_256
abbrev col3 : Rect S1x1024 := Rect.unit (s := S1x1024) ![0, 384] S1x128.size inb_S1x1024_S1x128_0_384
abbrev col4 : Rect S1x1024 := Rect.unit (s := S1x1024) ![0, 512] S1x128.size inb_S1x1024_S1x128_0_512
abbrev col5 : Rect S1x1024 := Rect.unit (s := S1x1024) ![0, 640] S1x128.size inb_S1x1024_S1x128_0_640
abbrev col6 : Rect S1x1024 := Rect.unit (s := S1x1024) ![0, 768] S1x128.size inb_S1x1024_S1x128_0_768
abbrev col7 : Rect S1x1024 := Rect.unit (s := S1x1024) ![0, 896] S1x128.size inb_S1x1024_S1x128_0_896
abbrev part1 : Rect S72x128 := Rect.unit (s := S72x128) ![8, 0] S4x64.size inb_S72x128_S4x64_8_0
abbrev all1 : Rect S4x64 := Rect.unit (s := S4x64) ![0, 0] S4x64.size inb_S4x64_S4x64_0_0
abbrev part2 : Rect S72x128 := Rect.unit (s := S72x128) ![16, 0] S4x128.size inb_S72x128_S4x128_16_0
abbrev all2 : Rect S4x128 := Rect.unit (s := S4x128) ![0, 0] S4x128.size inb_S4x128_S4x128_0_0
abbrev part3 : Rect S72x128 := Rect.unit (s := S72x128) ![24, 0] S1x64.size inb_S72x128_S1x64_24_0
abbrev all3 : Rect S1x64 := Rect.unit (s := S1x64) ![0, 0] S1x64.size inb_S1x64_S1x64_0_0
abbrev part4 : Rect S72x128 := Rect.unit (s := S72x128) ![32, 0] S1x64.size inb_S72x128_S1x64_32_0
abbrev rowB0 : Rect S72x128 := Rect.unit (s := S72x128) ![40, 0] S1x128.size inb_S72x128_S1x128_40_0
abbrev rowB1 : Rect S72x128 := Rect.unit (s := S72x128) ![41, 0] S1x128.size inb_S72x128_S1x128_41_0
abbrev rowB2 : Rect S72x128 := Rect.unit (s := S72x128) ![42, 0] S1x128.size inb_S72x128_S1x128_42_0
abbrev rowB3 : Rect S72x128 := Rect.unit (s := S72x128) ![43, 0] S1x128.size inb_S72x128_S1x128_43_0
abbrev rowB4 : Rect S72x128 := Rect.unit (s := S72x128) ![44, 0] S1x128.size inb_S72x128_S1x128_44_0
abbrev rowB5 : Rect S72x128 := Rect.unit (s := S72x128) ![45, 0] S1x128.size inb_S72x128_S1x128_45_0
abbrev rowB6 : Rect S72x128 := Rect.unit (s := S72x128) ![46, 0] S1x128.size inb_S72x128_S1x128_46_0
abbrev rowB7 : Rect S72x128 := Rect.unit (s := S72x128) ![47, 0] S1x128.size inb_S72x128_S1x128_47_0
abbrev part6 : Rect S72x128 := Rect.unit (s := S72x128) ![48, 0] S1x64.size inb_S72x128_S1x64_48_0
abbrev part7 : Rect S72x128 := Rect.unit (s := S72x128) ![56, 0] S1x64.size inb_S72x128_S1x64_56_0

/-! ## What the body leaves in each result -/

/-- The loss, from the packed array. -/
def out25 (x0 : Vec F S72x128 .f32) : Vec F S1x1 .f32 :=
  View.canon [⟨one, k0_pay1 (View.ld x0 tail)⟩]

/-- Weight 0's gradient, as the body stores it. -/
def out26 (x0 : Vec F S72x128 .f32) : Vec F S1x1024 .f32 :=
  View.canon [⟨col7, k0_pay9 (View.ld x0 rowA7)⟩,
    ⟨col6, k0_pay8 (View.ld x0 rowA6)⟩,
    ⟨col5, k0_pay7 (View.ld x0 rowA5)⟩,
    ⟨col4, k0_pay6 (View.ld x0 rowA4)⟩,
    ⟨col3, k0_pay5 (View.ld x0 rowA3)⟩,
    ⟨col2, k0_pay4 (View.ld x0 rowA2)⟩,
    ⟨col1, k0_pay3 (View.ld x0 rowA1)⟩,
    ⟨col0, k0_pay2 (View.ld x0 rowA0)⟩]

/-- Weight 0's change, as the body stores it. -/
def out27 (x0 : Vec F S72x128 .f32) (x1 : Vec F S1x1024 .f32) (x9 : Vec F S1x1024 .f32) (x17 : Vec F S1x1024 .f32) : Vec F S1x1024 .f32 :=
  View.canon [⟨col7, k0_pay40 (View.ld x1 col7) (k0_pay36 (k0_pay9 (View.ld x0 rowA7)) (View.ld x9 col7)) (k0_pay37 (View.ld x17 col7)) (k0_pay38 (k0_pay9 (View.ld x0 rowA7))) (Scalar.ofBits .f32 0x3A83126F#32)⟩,
    ⟨col6, k0_pay35 (k0_pay8 (View.ld x0 rowA6)) (View.ld x1 col6) (k0_pay32 (k0_pay8 (View.ld x0 rowA6)) (View.ld x9 col6)) (k0_pay33 (View.ld x17 col6))⟩,
    ⟨col5, k0_pay31 (k0_pay7 (View.ld x0 rowA5)) (View.ld x1 col5) (View.ld x17 col5) (k0_pay29 (k0_pay7 (View.ld x0 rowA5)) (View.ld x9 col5)) (Scalar.ofBits .f32 0x3F7FBE77#32)⟩,
    ⟨col4, k0_pay28 (k0_pay6 (View.ld x0 rowA4)) (View.ld x1 col4) (View.ld x17 col4) (k0_pay24 (View.ld x9 col4)) (k0_pay25 (k0_pay6 (View.ld x0 rowA4)))⟩,
    ⟨col3, k0_pay23 (k0_pay5 (View.ld x0 rowA3)) (View.ld x1 col3) (View.ld x17 col3) (k0_pay20 (View.ld x9 col3)) (Scalar.ofBits .f32 0x3DCCCCCD#32)⟩,
    ⟨col2, k0_pay19 (k0_pay4 (View.ld x0 rowA2)) (View.ld x1 col2) (View.ld x9 col2) (View.ld x17 col2) (k0_pay16 (F := F))⟩,
    ⟨col1, k0_pay15 (k0_pay3 (View.ld x0 rowA1)) (View.ld x1 col1) (View.ld x9 col1) (View.ld x17 col1)⟩,
    ⟨col0, k0_pay12 (k0_pay2 (View.ld x0 rowA0)) (View.ld x1 col0) (View.ld x9 col0) (View.ld x17 col0)⟩]

/-- Weight 0's new first moment, as the body stores it. -/
def out28 (x0 : Vec F S72x128 .f32) (x9 : Vec F S1x1024 .f32) : Vec F S1x1024 .f32 :=
  View.canon [⟨col7, k0_pay36 (k0_pay9 (View.ld x0 rowA7)) (View.ld x9 col7)⟩,
    ⟨col6, k0_pay32 (k0_pay8 (View.ld x0 rowA6)) (View.ld x9 col6)⟩,
    ⟨col5, k0_pay29 (k0_pay7 (View.ld x0 rowA5)) (View.ld x9 col5)⟩,
    ⟨col4, k0_pay26 (k0_pay24 (View.ld x9 col4)) (k0_pay25 (k0_pay6 (View.ld x0 rowA4)))⟩,
    ⟨col3, k0_pay21 (k0_pay5 (View.ld x0 rowA3)) (k0_pay20 (View.ld x9 col3)) (Scalar.ofBits .f32 0x3DCCCCCD#32)⟩,
    ⟨col2, k0_pay17 (k0_pay4 (View.ld x0 rowA2)) (View.ld x9 col2) (k0_pay16 (F := F))⟩,
    ⟨col1, k0_pay13 (k0_pay3 (View.ld x0 rowA1)) (View.ld x9 col1)⟩,
    ⟨col0, k0_pay10 (k0_pay2 (View.ld x0 rowA0)) (View.ld x9 col0)⟩]

/-- Weight 0's new second moment, as the body stores it. -/
def out29 (x0 : Vec F S72x128 .f32) (x17 : Vec F S1x1024 .f32) : Vec F S1x1024 .f32 :=
  View.canon [⟨col7, k0_pay39 (k0_pay37 (View.ld x17 col7)) (k0_pay38 (k0_pay9 (View.ld x0 rowA7))) (Scalar.ofBits .f32 0x3A83126F#32)⟩,
    ⟨col6, k0_pay34 (k0_pay8 (View.ld x0 rowA6)) (k0_pay33 (View.ld x17 col6))⟩,
    ⟨col5, k0_pay30 (k0_pay7 (View.ld x0 rowA5)) (View.ld x17 col5) (Scalar.ofBits .f32 0x3F7FBE77#32)⟩,
    ⟨col4, k0_pay27 (k0_pay6 (View.ld x0 rowA4)) (View.ld x17 col4)⟩,
    ⟨col3, k0_pay22 (k0_pay5 (View.ld x0 rowA3)) (View.ld x17 col3)⟩,
    ⟨col2, k0_pay18 (k0_pay4 (View.ld x0 rowA2)) (View.ld x17 col2)⟩,
    ⟨col1, k0_pay14 (k0_pay3 (View.ld x0 rowA1)) (View.ld x17 col1)⟩,
    ⟨col0, k0_pay11 (k0_pay2 (View.ld x0 rowA0)) (View.ld x17 col0)⟩]

/-- Weight 1's gradient, as the body stores it. -/
def out30 (x0 : Vec F S72x128 .f32) : Vec F S4x64 .f32 :=
  View.canon [⟨all1, k0_pay41 (View.ld x0 part1)⟩]

/-- Weight 1's change, as the body stores it. -/
def out31 (x0 : Vec F S72x128 .f32) (x2 : Vec F S4x64 .f32) (x10 : Vec F S4x64 .f32) (x18 : Vec F S4x64 .f32) : Vec F S4x64 .f32 :=
  View.canon [⟨all1, k0_pay46 (k0_pay41 (View.ld x0 part1)) (k0_pay42 (View.ld x2 all1)) (k0_pay43 (View.ld x18 all1)) (k0_pay44 (View.ld x0 part1) (View.ld x10 all1))⟩]

/-- Weight 1's new first moment, as the body stores it. -/
def out32 (x0 : Vec F S72x128 .f32) (x10 : Vec F S4x64 .f32) : Vec F S4x64 .f32 :=
  View.canon [⟨all1, k0_pay44 (View.ld x0 part1) (View.ld x10 all1)⟩]

/-- Weight 1's new second moment, as the body stores it. -/
def out33 (x0 : Vec F S72x128 .f32) (x18 : Vec F S4x64 .f32) : Vec F S4x64 .f32 :=
  View.canon [⟨all1, k0_pay45 (k0_pay41 (View.ld x0 part1)) (k0_pay43 (View.ld x18 all1))⟩]

/-- Weight 2's gradient, as the body stores it. -/
def out34 (x0 : Vec F S72x128 .f32) : Vec F S4x128 .f32 :=
  View.canon [⟨all2, k0_pay47 (View.ld x0 part2)⟩]

/-- Weight 2's change, as the body stores it. -/
def out35 (x0 : Vec F S72x128 .f32) (x3 : Vec F S4x128 .f32) (x11 : Vec F S4x128 .f32) (x19 : Vec F S4x128 .f32) : Vec F S4x128 .f32 :=
  View.canon [⟨all2, k0_pay54 (k0_pay47 (View.ld x0 part2)) (k0_pay48 (View.ld x3 all2)) (k0_pay49 (View.ld x11 all2)) (k0_pay50 (View.ld x19 all2)) (k0_pay51 (F := F))⟩]

/-- Weight 2's new first moment, as the body stores it. -/
def out36 (x0 : Vec F S72x128 .f32) (x11 : Vec F S4x128 .f32) : Vec F S4x128 .f32 :=
  View.canon [⟨all2, k0_pay52 (k0_pay47 (View.ld x0 part2)) (k0_pay49 (View.ld x11 all2)) (k0_pay51 (F := F))⟩]

/-- Weight 2's new second moment, as the body stores it. -/
def out37 (x0 : Vec F S72x128 .f32) (x19 : Vec F S4x128 .f32) : Vec F S4x128 .f32 :=
  View.canon [⟨all2, k0_pay53 (k0_pay47 (View.ld x0 part2)) (k0_pay50 (View.ld x19 all2))⟩]

/-- Weight 3's gradient, as the body stores it. -/
def out38 (x0 : Vec F S72x128 .f32) : Vec F S1x64 .f32 :=
  View.canon [⟨all3, k0_pay55 (View.ld x0 part3)⟩]

/-- Weight 3's change, as the body stores it. -/
def out39 (x0 : Vec F S72x128 .f32) (x4 : Vec F S1x64 .f32) (x12 : Vec F S1x64 .f32) (x20 : Vec F S1x64 .f32) : Vec F S1x64 .f32 :=
  View.canon [⟨all3, k0_pay58 (k0_pay55 (View.ld x0 part3)) (View.ld x4 all3) (View.ld x12 all3) (View.ld x20 all3)⟩]

/-- Weight 3's new first moment, as the body stores it. -/
def out40 (x0 : Vec F S72x128 .f32) (x12 : Vec F S1x64 .f32) : Vec F S1x64 .f32 :=
  View.canon [⟨all3, k0_pay56 (k0_pay55 (View.ld x0 part3)) (View.ld x12 all3)⟩]

/-- Weight 3's new second moment, as the body stores it. -/
def out41 (x0 : Vec F S72x128 .f32) (x20 : Vec F S1x64 .f32) : Vec F S1x64 .f32 :=
  View.canon [⟨all3, k0_pay57 (k0_pay55 (View.ld x0 part3)) (View.ld x20 all3)⟩]

/-- Weight 4's gradient, as the body stores it. -/
def out42 (x0 : Vec F S72x128 .f32) : Vec F S1x64 .f32 :=
  View.canon [⟨all3, k0_pay59 (View.ld x0 part4)⟩]

/-- Weight 4's change, as the body stores it. -/
def out43 (x0 : Vec F S72x128 .f32) (x5 : Vec F S1x64 .f32) (x13 : Vec F S1x64 .f32) (x21 : Vec F S1x64 .f32) : Vec F S1x64 .f32 :=
  View.canon [⟨all3, k0_pay62 (k0_pay59 (View.ld x0 part4)) (View.ld x5 all3) (View.ld x13 all3) (View.ld x21 all3)⟩]

/-- Weight 4's new first moment, as the body stores it. -/
def out44 (x0 : Vec F S72x128 .f32) (x13 : Vec F S1x64 .f32) : Vec F S1x64 .f32 :=
  View.canon [⟨all3, k0_pay60 (k0_pay59 (View.ld x0 part4)) (View.ld x13 all3)⟩]

/-- Weight 4's new second moment, as the body stores it. -/
def out45 (x0 : Vec F S72x128 .f32) (x21 : Vec F S1x64 .f32) : Vec F S1x64 .f32 :=
  View.canon [⟨all3, k0_pay61 (k0_pay59 (View.ld x0 part4)) (View.ld x21 all3)⟩]

/-- Weight 5's gradient, as the body stores it. -/
def out46 (x0 : Vec F S72x128 .f32) : Vec F S1x1024 .f32 :=
  View.canon [⟨col7, k0_pay70 (View.ld x0 rowB7)⟩,
    ⟨col6, k0_pay69 (View.ld x0 rowB6)⟩,
    ⟨col5, k0_pay68 (View.ld x0 rowB5)⟩,
    ⟨col4, k0_pay67 (View.ld x0 rowB4)⟩,
    ⟨col3, k0_pay66 (View.ld x0 rowB3)⟩,
    ⟨col2, k0_pay65 (View.ld x0 rowB2)⟩,
    ⟨col1, k0_pay64 (View.ld x0 rowB1)⟩,
    ⟨col0, k0_pay63 (View.ld x0 rowB0)⟩]

/-- Weight 5's change, as the body stores it. -/
def out47 (x0 : Vec F S72x128 .f32) (x6 : Vec F S1x1024 .f32) (x14 : Vec F S1x1024 .f32) (x22 : Vec F S1x1024 .f32) : Vec F S1x1024 .f32 :=
  View.canon [⟨col7, k0_pay99 (k0_pay70 (View.ld x0 rowB7)) (View.ld x6 col7) (View.ld x14 col7) (View.ld x22 col7)⟩,
    ⟨col6, k0_pay96 (k0_pay69 (View.ld x0 rowB6)) (View.ld x6 col6) (View.ld x14 col6) (View.ld x22 col6)⟩,
    ⟨col5, k0_pay93 (k0_pay68 (View.ld x0 rowB5)) (View.ld x6 col5) (View.ld x14 col5) (View.ld x22 col5)⟩,
    ⟨col4, k0_pay90 (k0_pay67 (View.ld x0 rowB4)) (View.ld x6 col4) (View.ld x14 col4) (View.ld x22 col4)⟩,
    ⟨col3, k0_pay87 (k0_pay66 (View.ld x0 rowB3)) (View.ld x6 col3) (View.ld x14 col3) (View.ld x22 col3)⟩,
    ⟨col2, k0_pay84 (k0_pay82 (k0_pay65 (View.ld x0 rowB2)) (View.ld x6 col2) (View.ld x14 col2) (View.ld x22 col2)) (k0_pay83 (F := F))⟩,
    ⟨col1, k0_pay79 (k0_pay78 (k0_pay64 (View.ld x0 rowB1)) (View.ld x6 col1) (View.ld x14 col1) (View.ld x22 col1))⟩,
    ⟨col0, k0_pay75 (View.ld x6 col0) (k0_pay73 (k0_pay63 (View.ld x0 rowB0)) (View.ld x14 col0) (View.ld x22 col0)) (k0_pay74 (F := F))⟩]

/-- Weight 5's new first moment, as the body stores it. -/
def out48 (x0 : Vec F S72x128 .f32) (x14 : Vec F S1x1024 .f32) : Vec F S1x1024 .f32 :=
  View.canon [⟨col7, k0_pay97 (k0_pay70 (View.ld x0 rowB7)) (View.ld x14 col7)⟩,
    ⟨col6, k0_pay94 (k0_pay69 (View.ld x0 rowB6)) (View.ld x14 col6)⟩,
    ⟨col5, k0_pay91 (k0_pay68 (View.ld x0 rowB5)) (View.ld x14 col5)⟩,
    ⟨col4, k0_pay88 (k0_pay67 (View.ld x0 rowB4)) (View.ld x14 col4)⟩,
    ⟨col3, k0_pay85 (k0_pay66 (View.ld x0 rowB3)) (View.ld x14 col3)⟩,
    ⟨col2, k0_pay80 (k0_pay65 (View.ld x0 rowB2)) (View.ld x14 col2)⟩,
    ⟨col1, k0_pay76 (k0_pay64 (View.ld x0 rowB1)) (View.ld x14 col1)⟩,
    ⟨col0, k0_pay71 (k0_pay63 (View.ld x0 rowB0)) (View.ld x14 col0)⟩]

/-- Weight 5's new second moment, as the body stores it. -/
def out49 (x0 : Vec F S72x128 .f32) (x22 : Vec F S1x1024 .f32) : Vec F S1x1024 .f32 :=
  View.canon [⟨col7, k0_pay98 (k0_pay70 (View.ld x0 rowB7)) (View.ld x22 col7)⟩,
    ⟨col6, k0_pay95 (k0_pay69 (View.ld x0 rowB6)) (View.ld x22 col6)⟩,
    ⟨col5, k0_pay92 (k0_pay68 (View.ld x0 rowB5)) (View.ld x22 col5)⟩,
    ⟨col4, k0_pay89 (k0_pay67 (View.ld x0 rowB4)) (View.ld x22 col4)⟩,
    ⟨col3, k0_pay86 (k0_pay66 (View.ld x0 rowB3)) (View.ld x22 col3)⟩,
    ⟨col2, k0_pay81 (k0_pay65 (View.ld x0 rowB2)) (View.ld x22 col2)⟩,
    ⟨col1, k0_pay77 (k0_pay64 (View.ld x0 rowB1)) (View.ld x22 col1)⟩,
    ⟨col0, k0_pay72 (k0_pay63 (View.ld x0 rowB0)) (View.ld x22 col0)⟩]

/-- Weight 6's gradient, as the body stores it. -/
def out50 (x0 : Vec F S72x128 .f32) : Vec F S1x64 .f32 :=
  View.canon [⟨all3, k0_pay100 (View.ld x0 part6)⟩]

/-- Weight 6's change, as the body stores it. -/
def out51 (x0 : Vec F S72x128 .f32) (x7 : Vec F S1x64 .f32) (x15 : Vec F S1x64 .f32) (x23 : Vec F S1x64 .f32) : Vec F S1x64 .f32 :=
  View.canon [⟨all3, k0_pay103 (View.ld x0 part6) (View.ld x7 all3) (View.ld x15 all3) (View.ld x23 all3)⟩]

/-- Weight 6's new first moment, as the body stores it. -/
def out52 (x0 : Vec F S72x128 .f32) (x15 : Vec F S1x64 .f32) : Vec F S1x64 .f32 :=
  View.canon [⟨all3, k0_pay101 (View.ld x0 part6) (View.ld x15 all3)⟩]

/-- Weight 6's new second moment, as the body stores it. -/
def out53 (x0 : Vec F S72x128 .f32) (x23 : Vec F S1x64 .f32) : Vec F S1x64 .f32 :=
  View.canon [⟨all3, k0_pay102 (View.ld x0 part6) (View.ld x23 all3)⟩]

/-- Weight 7's gradient, as the body stores it. -/
def out54 (x0 : Vec F S72x128 .f32) : Vec F S1x64 .f32 :=
  View.canon [⟨all3, k0_pay104 (View.ld x0 part7)⟩]

/-- Weight 7's change, as the body stores it. -/
def out55 (x0 : Vec F S72x128 .f32) (x8 : Vec F S1x64 .f32) (x16 : Vec F S1x64 .f32) (x24 : Vec F S1x64 .f32) : Vec F S1x64 .f32 :=
  View.canon [⟨all3, k0_pay107 (View.ld x0 part7) (View.ld x8 all3) (View.ld x16 all3) (View.ld x24 all3)⟩]

/-- Weight 7's new first moment, as the body stores it. -/
def out56 (x0 : Vec F S72x128 .f32) (x16 : Vec F S1x64 .f32) : Vec F S1x64 .f32 :=
  View.canon [⟨all3, k0_pay105 (View.ld x0 part7) (View.ld x16 all3)⟩]

/-- Weight 7's new second moment, as the body stores it. -/
def out57 (x0 : Vec F S72x128 .f32) (x24 : Vec F S1x64 .f32) : Vec F S1x64 .f32 :=
  View.canon [⟨all3, k0_pay106 (View.ld x0 part7) (View.ld x24 all3)⟩]

/-- The eight pieces of a row of 1024 are the whole row. -/
theorem cover_row (p0 p1 p2 p3 p4 p5 p6 p7 : Vec F S1x128 .f32) (y : S1x1024.Idx) :
    ∃ pc ∈ ([⟨col7, p0⟩, ⟨col6, p1⟩, ⟨col5, p2⟩, ⟨col4, p3⟩, ⟨col3, p4⟩, ⟨col2, p5⟩, ⟨col1, p6⟩, ⟨col0, p7⟩] : List (View.Piece (Elt F) S1x1024 .f32)), y ∈ pc.1.set :=
  View.cover_of_tiled [⟨col7, p0⟩, ⟨col6, p1⟩, ⟨col5, p2⟩, ⟨col4, p3⟩, ⟨col3, p4⟩, ⟨col2, p5⟩, ⟨col1, p6⟩, ⟨col0, p7⟩] S1x128.size (by rfl) y

/-- One piece of the whole shape covers it. -/
theorem cover_one (p : Vec F S1x1 .f32) (y : S1x1.Idx) : ∃ pc ∈ ([⟨one, p⟩] : List (View.Piece (Elt F) S1x1 .f32)), y ∈ pc.1.set :=
  View.cover_of_tiled [⟨one, p⟩] S1x1.size (by rfl) y

/-- One piece of the whole shape covers it. -/
theorem cover_all1 (p : Vec F S4x64 .f32) (y : S4x64.Idx) : ∃ pc ∈ ([⟨all1, p⟩] : List (View.Piece (Elt F) S4x64 .f32)), y ∈ pc.1.set :=
  View.cover_of_tiled [⟨all1, p⟩] S4x64.size (by rfl) y

/-- One piece of the whole shape covers it. -/
theorem cover_all2 (p : Vec F S4x128 .f32) (y : S4x128.Idx) : ∃ pc ∈ ([⟨all2, p⟩] : List (View.Piece (Elt F) S4x128 .f32)), y ∈ pc.1.set :=
  View.cover_of_tiled [⟨all2, p⟩] S4x128.size (by rfl) y

/-- One piece of the whole shape covers it. -/
theorem cover_all3 (p : Vec F S1x64 .f32) (y : S1x64.Idx) : ∃ pc ∈ ([⟨all3, p⟩] : List (View.Piece (Elt F) S1x64 .f32)), y ∈ pc.1.set :=
  View.cover_of_tiled [⟨all3, p⟩] S1x64.size (by rfl) y

set_option maxHeartbeats 4000000 in
/-- The body, run on whole buffers whose first 25 hold `x0` to `x24`, leaves these as they were and each result at its contents. -/
theorem sound_kernel (c : Dev nD) (E : Set ℕ)
    (a0 : Memref sig .tc .vmem S72x128 .f32) (h0 : a0.IsWhole) (a1 : Memref sig .tc .vmem S1x1024 .f32) (h1 : a1.IsWhole)
    (a2 : Memref sig .tc .vmem S4x64 .f32) (h2 : a2.IsWhole) (a3 : Memref sig .tc .vmem S4x128 .f32) (h3 : a3.IsWhole)
    (a4 : Memref sig .tc .vmem S1x64 .f32) (h4 : a4.IsWhole) (a5 : Memref sig .tc .vmem S1x64 .f32) (h5 : a5.IsWhole)
    (a6 : Memref sig .tc .vmem S1x1024 .f32) (h6 : a6.IsWhole) (a7 : Memref sig .tc .vmem S1x64 .f32) (h7 : a7.IsWhole)
    (a8 : Memref sig .tc .vmem S1x64 .f32) (h8 : a8.IsWhole) (a9 : Memref sig .tc .vmem S1x1024 .f32) (h9 : a9.IsWhole)
    (a10 : Memref sig .tc .vmem S4x64 .f32) (h10 : a10.IsWhole) (a11 : Memref sig .tc .vmem S4x128 .f32) (h11 : a11.IsWhole)
    (a12 : Memref sig .tc .vmem S1x64 .f32) (h12 : a12.IsWhole) (a13 : Memref sig .tc .vmem S1x64 .f32) (h13 : a13.IsWhole)
    (a14 : Memref sig .tc .vmem S1x1024 .f32) (h14 : a14.IsWhole) (a15 : Memref sig .tc .vmem S1x64 .f32) (h15 : a15.IsWhole)
    (a16 : Memref sig .tc .vmem S1x64 .f32) (h16 : a16.IsWhole) (a17 : Memref sig .tc .vmem S1x1024 .f32) (h17 : a17.IsWhole)
    (a18 : Memref sig .tc .vmem S4x64 .f32) (h18 : a18.IsWhole) (a19 : Memref sig .tc .vmem S4x128 .f32) (h19 : a19.IsWhole)
    (a20 : Memref sig .tc .vmem S1x64 .f32) (h20 : a20.IsWhole) (a21 : Memref sig .tc .vmem S1x64 .f32) (h21 : a21.IsWhole)
    (a22 : Memref sig .tc .vmem S1x1024 .f32) (h22 : a22.IsWhole) (a23 : Memref sig .tc .vmem S1x64 .f32) (h23 : a23.IsWhole)
    (a24 : Memref sig .tc .vmem S1x64 .f32) (h24 : a24.IsWhole) (a25 : Memref sig .tc .vmem S1x1 .f32) (h25 : a25.IsWhole)
    (a26 : Memref sig .tc .vmem S1x1024 .f32) (h26 : a26.IsWhole) (a27 : Memref sig .tc .vmem S1x1024 .f32) (h27 : a27.IsWhole)
    (a28 : Memref sig .tc .vmem S1x1024 .f32) (h28 : a28.IsWhole) (a29 : Memref sig .tc .vmem S1x1024 .f32) (h29 : a29.IsWhole)
    (a30 : Memref sig .tc .vmem S4x64 .f32) (h30 : a30.IsWhole) (a31 : Memref sig .tc .vmem S4x64 .f32) (h31 : a31.IsWhole)
    (a32 : Memref sig .tc .vmem S4x64 .f32) (h32 : a32.IsWhole) (a33 : Memref sig .tc .vmem S4x64 .f32) (h33 : a33.IsWhole)
    (a34 : Memref sig .tc .vmem S4x128 .f32) (h34 : a34.IsWhole) (a35 : Memref sig .tc .vmem S4x128 .f32) (h35 : a35.IsWhole)
    (a36 : Memref sig .tc .vmem S4x128 .f32) (h36 : a36.IsWhole) (a37 : Memref sig .tc .vmem S4x128 .f32) (h37 : a37.IsWhole)
    (a38 : Memref sig .tc .vmem S1x64 .f32) (h38 : a38.IsWhole) (a39 : Memref sig .tc .vmem S1x64 .f32) (h39 : a39.IsWhole)
    (a40 : Memref sig .tc .vmem S1x64 .f32) (h40 : a40.IsWhole) (a41 : Memref sig .tc .vmem S1x64 .f32) (h41 : a41.IsWhole)
    (a42 : Memref sig .tc .vmem S1x64 .f32) (h42 : a42.IsWhole) (a43 : Memref sig .tc .vmem S1x64 .f32) (h43 : a43.IsWhole)
    (a44 : Memref sig .tc .vmem S1x64 .f32) (h44 : a44.IsWhole) (a45 : Memref sig .tc .vmem S1x64 .f32) (h45 : a45.IsWhole)
    (a46 : Memref sig .tc .vmem S1x1024 .f32) (h46 : a46.IsWhole) (a47 : Memref sig .tc .vmem S1x1024 .f32) (h47 : a47.IsWhole)
    (a48 : Memref sig .tc .vmem S1x1024 .f32) (h48 : a48.IsWhole) (a49 : Memref sig .tc .vmem S1x1024 .f32) (h49 : a49.IsWhole)
    (a50 : Memref sig .tc .vmem S1x64 .f32) (h50 : a50.IsWhole) (a51 : Memref sig .tc .vmem S1x64 .f32) (h51 : a51.IsWhole)
    (a52 : Memref sig .tc .vmem S1x64 .f32) (h52 : a52.IsWhole) (a53 : Memref sig .tc .vmem S1x64 .f32) (h53 : a53.IsWhole)
    (a54 : Memref sig .tc .vmem S1x64 .f32) (h54 : a54.IsWhole) (a55 : Memref sig .tc .vmem S1x64 .f32) (h55 : a55.IsWhole)
    (a56 : Memref sig .tc .vmem S1x64 .f32) (h56 : a56.IsWhole) (a57 : Memref sig .tc .vmem S1x64 .f32) (h57 : a57.IsWhole)
    (x0 : Vec F S72x128 .f32) (x1 : Vec F S1x1024 .f32) (x2 : Vec F S4x64 .f32) (x3 : Vec F S4x128 .f32) (x4 : Vec F S1x64 .f32)
    (x5 : Vec F S1x64 .f32) (x6 : Vec F S1x1024 .f32) (x7 : Vec F S1x64 .f32) (x8 : Vec F S1x64 .f32) (x9 : Vec F S1x1024 .f32)
    (x10 : Vec F S4x64 .f32) (x11 : Vec F S4x128 .f32) (x12 : Vec F S1x64 .f32) (x13 : Vec F S1x64 .f32) (x14 : Vec F S1x1024 .f32)
    (x15 : Vec F S1x64 .f32) (x16 : Vec F S1x64 .f32) (x17 : Vec F S1x1024 .f32) (x18 : Vec F S4x64 .f32) (x19 : Vec F S4x128 .f32)
    (x20 : Vec F S1x64 .f32) (x21 : Vec F S1x64 .f32) (x22 : Vec F S1x1024 .f32) (x23 : Vec F S1x64 .f32) (x24 : Vec F S1x64 .f32) (K : PUnit → sProp 𝕄) :
    iprop(
      owns (c : Thread nD τ) a0 fullShare x0 ∗ owns (c : Thread nD τ) a1 fullShare x1 ∗ owns (c : Thread nD τ) a2 fullShare x2 ∗
      owns (c : Thread nD τ) a3 fullShare x3 ∗ owns (c : Thread nD τ) a4 fullShare x4 ∗ owns (c : Thread nD τ) a5 fullShare x5 ∗
      owns (c : Thread nD τ) a6 fullShare x6 ∗ owns (c : Thread nD τ) a7 fullShare x7 ∗ owns (c : Thread nD τ) a8 fullShare x8 ∗
      owns (c : Thread nD τ) a9 fullShare x9 ∗ owns (c : Thread nD τ) a10 fullShare x10 ∗ owns (c : Thread nD τ) a11 fullShare x11 ∗
      owns (c : Thread nD τ) a12 fullShare x12 ∗ owns (c : Thread nD τ) a13 fullShare x13 ∗ owns (c : Thread nD τ) a14 fullShare x14 ∗
      owns (c : Thread nD τ) a15 fullShare x15 ∗ owns (c : Thread nD τ) a16 fullShare x16 ∗ owns (c : Thread nD τ) a17 fullShare x17 ∗
      owns (c : Thread nD τ) a18 fullShare x18 ∗ owns (c : Thread nD τ) a19 fullShare x19 ∗ owns (c : Thread nD τ) a20 fullShare x20 ∗
      owns (c : Thread nD τ) a21 fullShare x21 ∗ owns (c : Thread nD τ) a22 fullShare x22 ∗ owns (c : Thread nD τ) a23 fullShare x23 ∗
      owns (c : Thread nD τ) a24 fullShare x24 ∗ (∃ d, owns (c : Thread nD τ) a25 fullShare d) ∗
      (∃ d, owns (c : Thread nD τ) a26 fullShare d) ∗ (∃ d, owns (c : Thread nD τ) a27 fullShare d) ∗
      (∃ d, owns (c : Thread nD τ) a28 fullShare d) ∗ (∃ d, owns (c : Thread nD τ) a29 fullShare d) ∗
      (∃ d, owns (c : Thread nD τ) a30 fullShare d) ∗ (∃ d, owns (c : Thread nD τ) a31 fullShare d) ∗
      (∃ d, owns (c : Thread nD τ) a32 fullShare d) ∗ (∃ d, owns (c : Thread nD τ) a33 fullShare d) ∗
      (∃ d, owns (c : Thread nD τ) a34 fullShare d) ∗ (∃ d, owns (c : Thread nD τ) a35 fullShare d) ∗
      (∃ d, owns (c : Thread nD τ) a36 fullShare d) ∗ (∃ d, owns (c : Thread nD τ) a37 fullShare d) ∗
      (∃ d, owns (c : Thread nD τ) a38 fullShare d) ∗ (∃ d, owns (c : Thread nD τ) a39 fullShare d) ∗
      (∃ d, owns (c : Thread nD τ) a40 fullShare d) ∗ (∃ d, owns (c : Thread nD τ) a41 fullShare d) ∗
      (∃ d, owns (c : Thread nD τ) a42 fullShare d) ∗ (∃ d, owns (c : Thread nD τ) a43 fullShare d) ∗
      (∃ d, owns (c : Thread nD τ) a44 fullShare d) ∗ (∃ d, owns (c : Thread nD τ) a45 fullShare d) ∗
      (∃ d, owns (c : Thread nD τ) a46 fullShare d) ∗ (∃ d, owns (c : Thread nD τ) a47 fullShare d) ∗
      (∃ d, owns (c : Thread nD τ) a48 fullShare d) ∗ (∃ d, owns (c : Thread nD τ) a49 fullShare d) ∗
      (∃ d, owns (c : Thread nD τ) a50 fullShare d) ∗ (∃ d, owns (c : Thread nD τ) a51 fullShare d) ∗
      (∃ d, owns (c : Thread nD τ) a52 fullShare d) ∗ (∃ d, owns (c : Thread nD τ) a53 fullShare d) ∗
      (∃ d, owns (c : Thread nD τ) a54 fullShare d) ∗ (∃ d, owns (c : Thread nD τ) a55 fullShare d) ∗
      (∃ d, owns (c : Thread nD τ) a56 fullShare d) ∗ (∃ d, owns (c : Thread nD τ) a57 fullShare d)
      ∗ (iprop(
        owns (c : Thread nD τ) a0 fullShare x0 ∗ owns (c : Thread nD τ) a1 fullShare x1 ∗ owns (c : Thread nD τ) a2 fullShare x2 ∗
        owns (c : Thread nD τ) a3 fullShare x3 ∗ owns (c : Thread nD τ) a4 fullShare x4 ∗ owns (c : Thread nD τ) a5 fullShare x5 ∗
        owns (c : Thread nD τ) a6 fullShare x6 ∗ owns (c : Thread nD τ) a7 fullShare x7 ∗ owns (c : Thread nD τ) a8 fullShare x8 ∗
        owns (c : Thread nD τ) a9 fullShare x9 ∗ owns (c : Thread nD τ) a10 fullShare x10 ∗ owns (c : Thread nD τ) a11 fullShare x11 ∗
        owns (c : Thread nD τ) a12 fullShare x12 ∗ owns (c : Thread nD τ) a13 fullShare x13 ∗ owns (c : Thread nD τ) a14 fullShare x14 ∗
        owns (c : Thread nD τ) a15 fullShare x15 ∗ owns (c : Thread nD τ) a16 fullShare x16 ∗ owns (c : Thread nD τ) a17 fullShare x17 ∗
        owns (c : Thread nD τ) a18 fullShare x18 ∗ owns (c : Thread nD τ) a19 fullShare x19 ∗ owns (c : Thread nD τ) a20 fullShare x20 ∗
        owns (c : Thread nD τ) a21 fullShare x21 ∗ owns (c : Thread nD τ) a22 fullShare x22 ∗ owns (c : Thread nD τ) a23 fullShare x23 ∗
        owns (c : Thread nD τ) a24 fullShare x24 ∗ owns (c : Thread nD τ) a25 fullShare (out25 x0) ∗
        owns (c : Thread nD τ) a26 fullShare (out26 x0) ∗ owns (c : Thread nD τ) a27 fullShare (out27 x0 x1 x9 x17) ∗
        owns (c : Thread nD τ) a28 fullShare (out28 x0 x9) ∗ owns (c : Thread nD τ) a29 fullShare (out29 x0 x17) ∗
        owns (c : Thread nD τ) a30 fullShare (out30 x0) ∗ owns (c : Thread nD τ) a31 fullShare (out31 x0 x2 x10 x18) ∗
        owns (c : Thread nD τ) a32 fullShare (out32 x0 x10) ∗ owns (c : Thread nD τ) a33 fullShare (out33 x0 x18) ∗
        owns (c : Thread nD τ) a34 fullShare (out34 x0) ∗ owns (c : Thread nD τ) a35 fullShare (out35 x0 x3 x11 x19) ∗
        owns (c : Thread nD τ) a36 fullShare (out36 x0 x11) ∗ owns (c : Thread nD τ) a37 fullShare (out37 x0 x19) ∗
        owns (c : Thread nD τ) a38 fullShare (out38 x0) ∗ owns (c : Thread nD τ) a39 fullShare (out39 x0 x4 x12 x20) ∗
        owns (c : Thread nD τ) a40 fullShare (out40 x0 x12) ∗ owns (c : Thread nD τ) a41 fullShare (out41 x0 x20) ∗
        owns (c : Thread nD τ) a42 fullShare (out42 x0) ∗ owns (c : Thread nD τ) a43 fullShare (out43 x0 x5 x13 x21) ∗
        owns (c : Thread nD τ) a44 fullShare (out44 x0 x13) ∗ owns (c : Thread nD τ) a45 fullShare (out45 x0 x21) ∗
        owns (c : Thread nD τ) a46 fullShare (out46 x0) ∗ owns (c : Thread nD τ) a47 fullShare (out47 x0 x6 x14 x22) ∗
        owns (c : Thread nD τ) a48 fullShare (out48 x0 x14) ∗ owns (c : Thread nD τ) a49 fullShare (out49 x0 x22) ∗
        owns (c : Thread nD τ) a50 fullShare (out50 x0) ∗ owns (c : Thread nD τ) a51 fullShare (out51 x0 x7 x15 x23) ∗
        owns (c : Thread nD τ) a52 fullShare (out52 x0 x15) ∗ owns (c : Thread nD τ) a53 fullShare (out53 x0 x23) ∗
        owns (c : Thread nD τ) a54 fullShare (out54 x0) ∗ owns (c : Thread nD τ) a55 fullShare (out55 x0 x8 x16 x24) ∗
        owns (c : Thread nD τ) a56 fullShare (out56 x0 x16) ∗ owns (c : Thread nD τ) a57 fullShare (out57 x0 x24)) -∗ K ⟨⟩))
      ⊢ wp frame (wpE (defs₀ (F := F)) Variants.none c none) E (cc0_adamw_tiny
        a0 h0 a1 h1 a2 h2 a3 h3 a4 h4 a5 h5 a6 h6 a7 h7 a8 h8 a9 h9 a10 h10 a11 h11 a12 h12 a13 h13 a14 h14 a15 h15 a16 h16 a17 h17 a18 h18
        a19 h19 a20 h20 a21 h21 a22 h22 a23 h23 a24 h24 a25 h25 a26 h26 a27 h27 a28 h28 a29 h29 a30 h30 a31 h31 a32 h32 a33 h33 a34 h34
        a35 h35 a36 h36 a37 h37 a38 h38 a39 h39 a40 h40 a41 h41 a42 h42 a43 h43 a44 h44 a45 h45 a46 h46 a47 h47 a48 h48 a49 h49 a50 h50
        a51 h51 a52 h52 a53 h53 a54 h54 a55 h55 a56 h56 a57 h57) K := by
  simp only [cc0_adamw_tiny_eq_skeleton]
  unfold cc0_adamw_tiny_skel
  simp only [
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton, k0_part23_eq_skeleton]
  unfold owns
  iintro ⟨
    ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩,
    ⟨%f15, %hf15, H15⟩, ⟨%f16, %hf16, H16⟩, ⟨%f17, %hf17, H17⟩, ⟨%f18, %hf18, H18⟩, ⟨%f19, %hf19, H19⟩, ⟨%f20, %hf20, H20⟩,
    ⟨%f21, %hf21, H21⟩, ⟨%f22, %hf22, H22⟩, ⟨%f23, %hf23, H23⟩, ⟨%f24, %hf24, H24⟩, ⟨%d25, %f25, -, H25⟩, ⟨%d26, %f26, -, H26⟩,
    ⟨%d27, %f27, -, H27⟩, ⟨%d28, %f28, -, H28⟩, ⟨%d29, %f29, -, H29⟩, ⟨%d30, %f30, -, H30⟩, ⟨%d31, %f31, -, H31⟩, ⟨%d32, %f32, -, H32⟩,
    ⟨%d33, %f33, -, H33⟩, ⟨%d34, %f34, -, H34⟩, ⟨%d35, %f35, -, H35⟩, ⟨%d36, %f36, -, H36⟩, ⟨%d37, %f37, -, H37⟩, ⟨%d38, %f38, -, H38⟩,
    ⟨%d39, %f39, -, H39⟩, ⟨%d40, %f40, -, H40⟩, ⟨%d41, %f41, -, H41⟩, ⟨%d42, %f42, -, H42⟩, ⟨%d43, %f43, -, H43⟩, ⟨%d44, %f44, -, H44⟩,
    ⟨%d45, %f45, -, H45⟩, ⟨%d46, %f46, -, H46⟩, ⟨%d47, %f47, -, H47⟩, ⟨%d48, %f48, -, H48⟩, ⟨%d49, %f49, -, H49⟩, ⟨%d50, %f50, -, H50⟩,
    ⟨%d51, %f51, -, H51⟩, ⟨%d52, %f52, -, H52⟩, ⟨%d53, %f53, -, H53⟩, ⟨%d54, %f54, -, H54⟩, ⟨%d55, %f55, -, H55⟩, ⟨%d56, %f56, -, H56⟩,
    ⟨%d57, %f57, -, H57⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  isplitl [H11]; · iexists f11; isplitr; · ipureintro; rfl
                   iexact H11
  isplitl [H12]; · iexists f12; isplitr; · ipureintro; rfl
                   iexact H12
  isplitl [H13]; · iexists f13; isplitr; · ipureintro; rfl
                   iexact H13
  isplitl [H14]; · iexists f14; isplitr; · ipureintro; rfl
                   iexact H14
  isplitl [H15]; · iexists f15; isplitr; · ipureintro; rfl
                   iexact H15
  isplitl [H16]; · iexists f16; isplitr; · ipureintro; rfl
                   iexact H16
  isplitl [H17]; · iexists f17; isplitr; · ipureintro; rfl
                   iexact H17
  isplitl [H18]; · iexists f18; isplitr; · ipureintro; rfl
                   iexact H18
  isplitl [H19]; · iexists f19; isplitr; · ipureintro; rfl
                   iexact H19
  isplitl [H20]; · iexists f20; isplitr; · ipureintro; rfl
                   iexact H20
  isplitl [H21]; · iexists f21; isplitr; · ipureintro; rfl
                   iexact H21
  isplitl [H22]; · iexists f22; isplitr; · ipureintro; rfl
                   iexact H22
  isplitl [H23]; · iexists f23; isplitr; · ipureintro; rfl
                   iexact H23
  isplitl [H24]; · iexists f24; isplitr; · ipureintro; rfl
                   iexact H24
  isplitl [H25]
  · iexists _; isplitr
    swap; · iexact H25
    ipureintro; exact (View.read_writes_eq_canon _ _ _ (cover_one _)).trans rfl
  isplitl [H26]
  · iexists _; isplitr
    swap; · iexact H26
    ipureintro; exact (View.read_writes_eq_canon _ _ _ (cover_row _ _ _ _ _ _ _ _)).trans rfl
  isplitl [H27]
  · iexists _; isplitr
    swap; · iexact H27
    ipureintro; exact (View.read_writes_eq_canon _ _ _ (cover_row _ _ _ _ _ _ _ _)).trans rfl
  isplitl [H28]
  · iexists _; isplitr
    swap; · iexact H28
    ipureintro; exact (View.read_writes_eq_canon _ _ _ (cover_row _ _ _ _ _ _ _ _)).trans rfl
  isplitl [H29]
  · iexists _; isplitr
    swap; · iexact H29
    ipureintro; exact (View.read_writes_eq_canon _ _ _ (cover_row _ _ _ _ _ _ _ _)).trans rfl
  isplitl [H30]
  · iexists _; isplitr
    swap; · iexact H30
    ipureintro; exact (View.read_writes_eq_canon _ _ _ (cover_all1 _)).trans rfl
  isplitl [H31]
  · iexists _; isplitr
    swap; · iexact H31
    ipureintro; exact (View.read_writes_eq_canon _ _ _ (cover_all1 _)).trans rfl
  isplitl [H32]
  · iexists _; isplitr
    swap; · iexact H32
    ipureintro; exact (View.read_writes_eq_canon _ _ _ (cover_all1 _)).trans rfl
  isplitl [H33]
  · iexists _; isplitr
    swap; · iexact H33
    ipureintro; exact (View.read_writes_eq_canon _ _ _ (cover_all1 _)).trans rfl
  isplitl [H34]
  · iexists _; isplitr
    swap; · iexact H34
    ipureintro; exact (View.read_writes_eq_canon _ _ _ (cover_all2 _)).trans rfl
  isplitl [H35]
  · iexists _; isplitr
    swap; · iexact H35
    ipureintro; exact (View.read_writes_eq_canon _ _ _ (cover_all2 _)).trans rfl
  isplitl [H36]
  · iexists _; isplitr
    swap; · iexact H36
    ipureintro; exact (View.read_writes_eq_canon _ _ _ (cover_all2 _)).trans rfl
  isplitl [H37]
  · iexists _; isplitr
    swap; · iexact H37
    ipureintro; exact (View.read_writes_eq_canon _ _ _ (cover_all2 _)).trans rfl
  isplitl [H38]
  · iexists _; isplitr
    swap; · iexact H38
    ipureintro; exact (View.read_writes_eq_canon _ _ _ (cover_all3 _)).trans rfl
  isplitl [H39]
  · iexists _; isplitr
    swap; · iexact H39
    ipureintro; exact (View.read_writes_eq_canon _ _ _ (cover_all3 _)).trans rfl
  isplitl [H40]
  · iexists _; isplitr
    swap; · iexact H40
    ipureintro; exact (View.read_writes_eq_canon _ _ _ (cover_all3 _)).trans rfl
  isplitl [H41]
  · iexists _; isplitr
    swap; · iexact H41
    ipureintro; exact (View.read_writes_eq_canon _ _ _ (cover_all3 _)).trans rfl
  isplitl [H42]
  · iexists _; isplitr
    swap; · iexact H42
    ipureintro; exact (View.read_writes_eq_canon _ _ _ (cover_all3 _)).trans rfl
  isplitl [H43]
  · iexists _; isplitr
    swap; · iexact H43
    ipureintro; exact (View.read_writes_eq_canon _ _ _ (cover_all3 _)).trans rfl
  isplitl [H44]
  · iexists _; isplitr
    swap; · iexact H44
    ipureintro; exact (View.read_writes_eq_canon _ _ _ (cover_all3 _)).trans rfl
  isplitl [H45]
  · iexists _; isplitr
    swap; · iexact H45
    ipureintro; exact (View.read_writes_eq_canon _ _ _ (cover_all3 _)).trans rfl
  isplitl [H46]
  · iexists _; isplitr
    swap; · iexact H46
    ipureintro; exact (View.read_writes_eq_canon _ _ _ (cover_row _ _ _ _ _ _ _ _)).trans rfl
  isplitl [H47]
  · iexists _; isplitr
    swap; · iexact H47
    ipureintro; exact (View.read_writes_eq_canon _ _ _ (cover_row _ _ _ _ _ _ _ _)).trans rfl
  isplitl [H48]
  · iexists _; isplitr
    swap; · iexact H48
    ipureintro; exact (View.read_writes_eq_canon _ _ _ (cover_row _ _ _ _ _ _ _ _)).trans rfl
  isplitl [H49]
  · iexists _; isplitr
    swap; · iexact H49
    ipureintro; exact (View.read_writes_eq_canon _ _ _ (cover_row _ _ _ _ _ _ _ _)).trans rfl
  isplitl [H50]
  · iexists _; isplitr
    swap; · iexact H50
    ipureintro; exact (View.read_writes_eq_canon _ _ _ (cover_all3 _)).trans rfl
  isplitl [H51]
  · iexists _; isplitr
    swap; · iexact H51
    ipureintro; exact (View.read_writes_eq_canon _ _ _ (cover_all3 _)).trans rfl
  isplitl [H52]
  · iexists _; isplitr
    swap; · iexact H52
    ipureintro; exact (View.read_writes_eq_canon _ _ _ (cover_all3 _)).trans rfl
  isplitl [H53]
  · iexists _; isplitr
    swap; · iexact H53
    ipureintro; exact (View.read_writes_eq_canon _ _ _ (cover_all3 _)).trans rfl
  isplitl [H54]
  · iexists _; isplitr
    swap; · iexact H54
    ipureintro; exact (View.read_writes_eq_canon _ _ _ (cover_all3 _)).trans rfl
  isplitl [H55]
  · iexists _; isplitr
    swap; · iexact H55
    ipureintro; exact (View.read_writes_eq_canon _ _ _ (cover_all3 _)).trans rfl
  isplitl [H56]
  · iexists _; isplitr
    swap; · iexact H56
    ipureintro; exact (View.read_writes_eq_canon _ _ _ (cover_all3 _)).trans rfl
  iexists _; isplitr
  swap; · iexact H57
  ipureintro; exact (View.read_writes_eq_canon _ _ _ (cover_all3 _)).trans rfl

end Proof.Tiny

end

end
-- ==== Proof.TinyRun.lean ====
module

public import proofs.«01_k».proof.Proof.TinyBody

/-!
  The run of the optimiser's step on the eight small weights, over any float values: from any memory the program ends with its
  arguments as they were, every semaphore at zero, and each result at what the body leaves there.
-/

@[expose] public section

set_option maxRecDepth 16384

noncomputable section

namespace Proof.Tiny

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's operations before the kernel -/

/-- Device `c`'s buffers after the host's operations. -/
abbrev V (c : Dev nD) (b : Ref sig .tc) : Buf (Elt F) ((c : Thread nD τ).loc b) :=
  StableHlo.after (List.flatten [
    hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16]) (fun b => m (c, b)) b

/-- No line of the host's operations asks for a new buffer. -/
theorem lines_fresh : [
    hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16].Forall fun l : List (HloOp τ sig (Elt F)) => l.Forall fun op => op.fresh = ∅ := by
  simp only [List.Forall]
  repeat' constructor

set_option maxHeartbeats 1600000 in
/-- The program is the host's operations, then the kernel. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [
      hostOps0, hostOps0_1, hostOps0_2, hostOps0_3, hostOps0_4, hostOps0_5, hostOps0_6, hostOps0_7, hostOps0_8, hostOps0_9, hostOps0_10,
      hostOps0_11, hostOps0_12, hostOps0_13, hostOps0_14, hostOps0_15, hostOps0_16]
    (by
      simp only [List.Forall]
      exact ⟨
        hostOps0_sub, hostOps0_1_sub, hostOps0_2_sub, hostOps0_3_sub, hostOps0_4_sub, hostOps0_5_sub, hostOps0_6_sub, hostOps0_7_sub,
        hostOps0_8_sub, hostOps0_9_sub, hostOps0_10_sub, hostOps0_11_sub, hostOps0_12_sub, hostOps0_13_sub, hostOps0_14_sub,
        hostOps0_15_sub, hostOps0_16_sub⟩)
    lines_fresh main_chain

/-- The buffers the host's operations write. -/
def hostWritten : List (Ref sig .tc) := [
    main_v0, main_cst, main_v1, main_v2, main_v3, main_c, main_call0_v0, main_v4, main_v5, main_c_0, main_call1_v0, main_v6, main_v7,
    main_c_1, main_call2_v0, main_v8, main_c_2, main_call3_v0, main_v9, main_c_3, main_call4_v0, main_v10, main_v11, main_c_4,
    main_call5_v0, main_v12, main_c_5, main_call6_v0, main_v13, main_c_6, main_call7_v0, main_v14, main_v15, main_v16, main_v17, main_v18,
    main_v19, main_v20, main_v21]

/-- A buffer outside the written ones is as it was when the kernel starts. -/
theorem V_of_not_written (b : Ref sig .tc) (hb : ∀ r ∈ hostWritten, b ≠ r) (c : Dev nD) :
    V m c b = m ((c : Thread nD τ).loc b) :=
  StableHlo.after_of_forall_not_mem (b := Proc.devRef .tc b) _ _ (List.forall_iff_forall_mem.mp (by
    simp only [
      hostOps0, hostOps0_1, hostOps0_2, hostOps0_3, hostOps0_4, hostOps0_5, hostOps0_6, hostOps0_7, hostOps0_8, hostOps0_9, hostOps0_10,
      hostOps0_11, hostOps0_12, hostOps0_13, hostOps0_14, hostOps0_15, hostOps0_16, List.flatten_cons, List.flatten_nil, List.append_nil,
      List.cons_append, List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (hb _ (by unfold hostWritten; decide))))

/-! ## What the body finds and leaves -/

/-- Array `w`'s block at point `t`, as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The arrays as the kernel finds them, and what the body leaves of each at its point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out25 (iblk m c 0 t)
    | ⟨26, _⟩ => out26 (iblk m c 0 t)
    | ⟨27, _⟩ => out27 (iblk m c 0 t) (iblk m c 1 t) (iblk m c 9 t) (iblk m c 17 t)
    | ⟨28, _⟩ => out28 (iblk m c 0 t) (iblk m c 9 t)
    | ⟨29, _⟩ => out29 (iblk m c 0 t) (iblk m c 17 t)
    | ⟨30, _⟩ => out30 (iblk m c 0 t)
    | ⟨31, _⟩ => out31 (iblk m c 0 t) (iblk m c 2 t) (iblk m c 10 t) (iblk m c 18 t)
    | ⟨32, _⟩ => out32 (iblk m c 0 t) (iblk m c 10 t)
    | ⟨33, _⟩ => out33 (iblk m c 0 t) (iblk m c 18 t)
    | ⟨34, _⟩ => out34 (iblk m c 0 t)
    | ⟨35, _⟩ => out35 (iblk m c 0 t) (iblk m c 3 t) (iblk m c 11 t) (iblk m c 19 t)
    | ⟨36, _⟩ => out36 (iblk m c 0 t) (iblk m c 11 t)
    | ⟨37, _⟩ => out37 (iblk m c 0 t) (iblk m c 19 t)
    | ⟨38, _⟩ => out38 (iblk m c 0 t)
    | ⟨39, _⟩ => out39 (iblk m c 0 t) (iblk m c 4 t) (iblk m c 12 t) (iblk m c 20 t)
    | ⟨40, _⟩ => out40 (iblk m c 0 t) (iblk m c 12 t)
    | ⟨41, _⟩ => out41 (iblk m c 0 t) (iblk m c 20 t)
    | ⟨42, _⟩ => out42 (iblk m c 0 t)
    | ⟨43, _⟩ => out43 (iblk m c 0 t) (iblk m c 5 t) (iblk m c 13 t) (iblk m c 21 t)
    | ⟨44, _⟩ => out44 (iblk m c 0 t) (iblk m c 13 t)
    | ⟨45, _⟩ => out45 (iblk m c 0 t) (iblk m c 21 t)
    | ⟨46, _⟩ => out46 (iblk m c 0 t)
    | ⟨47, _⟩ => out47 (iblk m c 0 t) (iblk m c 6 t) (iblk m c 14 t) (iblk m c 22 t)
    | ⟨48, _⟩ => out48 (iblk m c 0 t) (iblk m c 14 t)
    | ⟨49, _⟩ => out49 (iblk m c 0 t) (iblk m c 22 t)
    | ⟨50, _⟩ => out50 (iblk m c 0 t)
    | ⟨51, _⟩ => out51 (iblk m c 0 t) (iblk m c 7 t) (iblk m c 15 t) (iblk m c 23 t)
    | ⟨52, _⟩ => out52 (iblk m c 0 t) (iblk m c 15 t)
    | ⟨53, _⟩ => out53 (iblk m c 0 t) (iblk m c 23 t)
    | ⟨54, _⟩ => out54 (iblk m c 0 t)
    | ⟨55, _⟩ => out55 (iblk m c 0 t) (iblk m c 8 t) (iblk m c 16 t) (iblk m c 24 t)
    | ⟨56, _⟩ => out56 (iblk m c 0 t) (iblk m c 16 t)
    | ⟨57, _⟩ => out57 (iblk m c 0 t) (iblk m c 24 t)
    | ⟨_ + 58, h⟩ => absurd h (Nat.not_lt.2 (Nat.le_add_left _ _))
  Φ _ := Pipeline.ΦA spec0 c
  q _ := fullShare
  owed _ := 0

/-- The arrays at the start are as the kernel finds them. -/
theorem A_eq (c : Dev nD) (w : Fin cfg0.W) : (dats m 0 c).A w = V m c (Pipeline.arrRef spec0 w) := by
  dsimp only [dats]

/-- What the body leaves of array 0. -/
theorem after_0 (c : Dev nD) (t : Fin cfg0.N) : (dats m 0 c).after 0 t = iblk m c 0 t := by
  dsimp only [dats]
/-- What the body leaves of array 1. -/
theorem after_1 (c : Dev nD) (t : Fin cfg0.N) : (dats m 0 c).after 1 t = iblk m c 1 t := by
  dsimp only [dats]
/-- What the body leaves of array 2. -/
theorem after_2 (c : Dev nD) (t : Fin cfg0.N) : (dats m 0 c).after 2 t = iblk m c 2 t := by
  dsimp only [dats]
/-- What the body leaves of array 3. -/
theorem after_3 (c : Dev nD) (t : Fin cfg0.N) : (dats m 0 c).after 3 t = iblk m c 3 t := by
  dsimp only [dats]
/-- What the body leaves of array 4. -/
theorem after_4 (c : Dev nD) (t : Fin cfg0.N) : (dats m 0 c).after 4 t = iblk m c 4 t := by
  dsimp only [dats]
/-- What the body leaves of array 5. -/
theorem after_5 (c : Dev nD) (t : Fin cfg0.N) : (dats m 0 c).after 5 t = iblk m c 5 t := by
  dsimp only [dats]
/-- What the body leaves of array 6. -/
theorem after_6 (c : Dev nD) (t : Fin cfg0.N) : (dats m 0 c).after 6 t = iblk m c 6 t := by
  dsimp only [dats]
/-- What the body leaves of array 7. -/
theorem after_7 (c : Dev nD) (t : Fin cfg0.N) : (dats m 0 c).after 7 t = iblk m c 7 t := by
  dsimp only [dats]
/-- What the body leaves of array 8. -/
theorem after_8 (c : Dev nD) (t : Fin cfg0.N) : (dats m 0 c).after 8 t = iblk m c 8 t := by
  dsimp only [dats]
/-- What the body leaves of array 9. -/
theorem after_9 (c : Dev nD) (t : Fin cfg0.N) : (dats m 0 c).after 9 t = iblk m c 9 t := by
  dsimp only [dats]
/-- What the body leaves of array 10. -/
theorem after_10 (c : Dev nD) (t : Fin cfg0.N) : (dats m 0 c).after 10 t = iblk m c 10 t := by
  dsimp only [dats]
/-- What the body leaves of array 11. -/
theorem after_11 (c : Dev nD) (t : Fin cfg0.N) : (dats m 0 c).after 11 t = iblk m c 11 t := by
  dsimp only [dats]
/-- What the body leaves of array 12. -/
theorem after_12 (c : Dev nD) (t : Fin cfg0.N) : (dats m 0 c).after 12 t = iblk m c 12 t := by
  dsimp only [dats]
/-- What the body leaves of array 13. -/
theorem after_13 (c : Dev nD) (t : Fin cfg0.N) : (dats m 0 c).after 13 t = iblk m c 13 t := by
  dsimp only [dats]
/-- What the body leaves of array 14. -/
theorem after_14 (c : Dev nD) (t : Fin cfg0.N) : (dats m 0 c).after 14 t = iblk m c 14 t := by
  dsimp only [dats]
/-- What the body leaves of array 15. -/
theorem after_15 (c : Dev nD) (t : Fin cfg0.N) : (dats m 0 c).after 15 t = iblk m c 15 t := by
  dsimp only [dats]
/-- What the body leaves of array 16. -/
theorem after_16 (c : Dev nD) (t : Fin cfg0.N) : (dats m 0 c).after 16 t = iblk m c 16 t := by
  dsimp only [dats]
/-- What the body leaves of array 17. -/
theorem after_17 (c : Dev nD) (t : Fin cfg0.N) : (dats m 0 c).after 17 t = iblk m c 17 t := by
  dsimp only [dats]
/-- What the body leaves of array 18. -/
theorem after_18 (c : Dev nD) (t : Fin cfg0.N) : (dats m 0 c).after 18 t = iblk m c 18 t := by
  dsimp only [dats]
/-- What the body leaves of array 19. -/
theorem after_19 (c : Dev nD) (t : Fin cfg0.N) : (dats m 0 c).after 19 t = iblk m c 19 t := by
  dsimp only [dats]
/-- What the body leaves of array 20. -/
theorem after_20 (c : Dev nD) (t : Fin cfg0.N) : (dats m 0 c).after 20 t = iblk m c 20 t := by
  dsimp only [dats]
/-- What the body leaves of array 21. -/
theorem after_21 (c : Dev nD) (t : Fin cfg0.N) : (dats m 0 c).after 21 t = iblk m c 21 t := by
  dsimp only [dats]
/-- What the body leaves of array 22. -/
theorem after_22 (c : Dev nD) (t : Fin cfg0.N) : (dats m 0 c).after 22 t = iblk m c 22 t := by
  dsimp only [dats]
/-- What the body leaves of array 23. -/
theorem after_23 (c : Dev nD) (t : Fin cfg0.N) : (dats m 0 c).after 23 t = iblk m c 23 t := by
  dsimp only [dats]
/-- What the body leaves of array 24. -/
theorem after_24 (c : Dev nD) (t : Fin cfg0.N) : (dats m 0 c).after 24 t = iblk m c 24 t := by
  dsimp only [dats]
/-- What the body leaves of array 25. -/
theorem after_25 (c : Dev nD) (t : Fin cfg0.N) : (dats m 0 c).after 25 t = out25 (iblk m c 0 t) := by
  dsimp only [dats]
/-- What the body leaves of array 26. -/
theorem after_26 (c : Dev nD) (t : Fin cfg0.N) : (dats m 0 c).after 26 t = out26 (iblk m c 0 t) := by
  dsimp only [dats]
/-- What the body leaves of array 27. -/
theorem after_27 (c : Dev nD) (t : Fin cfg0.N) : (dats m 0 c).after 27 t = out27 (iblk m c 0 t) (iblk m c 1 t) (iblk m c 9 t) (iblk m c 17 t) := by
  dsimp only [dats]
/-- What the body leaves of array 28. -/
theorem after_28 (c : Dev nD) (t : Fin cfg0.N) : (dats m 0 c).after 28 t = out28 (iblk m c 0 t) (iblk m c 9 t) := by
  dsimp only [dats]
/-- What the body leaves of array 29. -/
theorem after_29 (c : Dev nD) (t : Fin cfg0.N) : (dats m 0 c).after 29 t = out29 (iblk m c 0 t) (iblk m c 17 t) := by
  dsimp only [dats]
/-- What the body leaves of array 30. -/
theorem after_30 (c : Dev nD) (t : Fin cfg0.N) : (dats m 0 c).after 30 t = out30 (iblk m c 0 t) := by
  dsimp only [dats]
/-- What the body leaves of array 31. -/
theorem after_31 (c : Dev nD) (t : Fin cfg0.N) : (dats m 0 c).after 31 t = out31 (iblk m c 0 t) (iblk m c 2 t) (iblk m c 10 t) (iblk m c 18 t) := by
  dsimp only [dats]
/-- What the body leaves of array 32. -/
theorem after_32 (c : Dev nD) (t : Fin cfg0.N) : (dats m 0 c).after 32 t = out32 (iblk m c 0 t) (iblk m c 10 t) := by
  dsimp only [dats]
/-- What the body leaves of array 33. -/
theorem after_33 (c : Dev nD) (t : Fin cfg0.N) : (dats m 0 c).after 33 t = out33 (iblk m c 0 t) (iblk m c 18 t) := by
  dsimp only [dats]
/-- What the body leaves of array 34. -/
theorem after_34 (c : Dev nD) (t : Fin cfg0.N) : (dats m 0 c).after 34 t = out34 (iblk m c 0 t) := by
  dsimp only [dats]
/-- What the body leaves of array 35. -/
theorem after_35 (c : Dev nD) (t : Fin cfg0.N) : (dats m 0 c).after 35 t = out35 (iblk m c 0 t) (iblk m c 3 t) (iblk m c 11 t) (iblk m c 19 t) := by
  dsimp only [dats]
/-- What the body leaves of array 36. -/
theorem after_36 (c : Dev nD) (t : Fin cfg0.N) : (dats m 0 c).after 36 t = out36 (iblk m c 0 t) (iblk m c 11 t) := by
  dsimp only [dats]
/-- What the body leaves of array 37. -/
theorem after_37 (c : Dev nD) (t : Fin cfg0.N) : (dats m 0 c).after 37 t = out37 (iblk m c 0 t) (iblk m c 19 t) := by
  dsimp only [dats]
/-- What the body leaves of array 38. -/
theorem after_38 (c : Dev nD) (t : Fin cfg0.N) : (dats m 0 c).after 38 t = out38 (iblk m c 0 t) := by
  dsimp only [dats]
/-- What the body leaves of array 39. -/
theorem after_39 (c : Dev nD) (t : Fin cfg0.N) : (dats m 0 c).after 39 t = out39 (iblk m c 0 t) (iblk m c 4 t) (iblk m c 12 t) (iblk m c 20 t) := by
  dsimp only [dats]
/-- What the body leaves of array 40. -/
theorem after_40 (c : Dev nD) (t : Fin cfg0.N) : (dats m 0 c).after 40 t = out40 (iblk m c 0 t) (iblk m c 12 t) := by
  dsimp only [dats]
/-- What the body leaves of array 41. -/
theorem after_41 (c : Dev nD) (t : Fin cfg0.N) : (dats m 0 c).after 41 t = out41 (iblk m c 0 t) (iblk m c 20 t) := by
  dsimp only [dats]
/-- What the body leaves of array 42. -/
theorem after_42 (c : Dev nD) (t : Fin cfg0.N) : (dats m 0 c).after 42 t = out42 (iblk m c 0 t) := by
  dsimp only [dats]
/-- What the body leaves of array 43. -/
theorem after_43 (c : Dev nD) (t : Fin cfg0.N) : (dats m 0 c).after 43 t = out43 (iblk m c 0 t) (iblk m c 5 t) (iblk m c 13 t) (iblk m c 21 t) := by
  dsimp only [dats]
/-- What the body leaves of array 44. -/
theorem after_44 (c : Dev nD) (t : Fin cfg0.N) : (dats m 0 c).after 44 t = out44 (iblk m c 0 t) (iblk m c 13 t) := by
  dsimp only [dats]
/-- What the body leaves of array 45. -/
theorem after_45 (c : Dev nD) (t : Fin cfg0.N) : (dats m 0 c).after 45 t = out45 (iblk m c 0 t) (iblk m c 21 t) := by
  dsimp only [dats]
/-- What the body leaves of array 46. -/
theorem after_46 (c : Dev nD) (t : Fin cfg0.N) : (dats m 0 c).after 46 t = out46 (iblk m c 0 t) := by
  dsimp only [dats]
/-- What the body leaves of array 47. -/
theorem after_47 (c : Dev nD) (t : Fin cfg0.N) : (dats m 0 c).after 47 t = out47 (iblk m c 0 t) (iblk m c 6 t) (iblk m c 14 t) (iblk m c 22 t) := by
  dsimp only [dats]
/-- What the body leaves of array 48. -/
theorem after_48 (c : Dev nD) (t : Fin cfg0.N) : (dats m 0 c).after 48 t = out48 (iblk m c 0 t) (iblk m c 14 t) := by
  dsimp only [dats]
/-- What the body leaves of array 49. -/
theorem after_49 (c : Dev nD) (t : Fin cfg0.N) : (dats m 0 c).after 49 t = out49 (iblk m c 0 t) (iblk m c 22 t) := by
  dsimp only [dats]
/-- What the body leaves of array 50. -/
theorem after_50 (c : Dev nD) (t : Fin cfg0.N) : (dats m 0 c).after 50 t = out50 (iblk m c 0 t) := by
  dsimp only [dats]
/-- What the body leaves of array 51. -/
theorem after_51 (c : Dev nD) (t : Fin cfg0.N) : (dats m 0 c).after 51 t = out51 (iblk m c 0 t) (iblk m c 7 t) (iblk m c 15 t) (iblk m c 23 t) := by
  dsimp only [dats]
/-- What the body leaves of array 52. -/
theorem after_52 (c : Dev nD) (t : Fin cfg0.N) : (dats m 0 c).after 52 t = out52 (iblk m c 0 t) (iblk m c 15 t) := by
  dsimp only [dats]
/-- What the body leaves of array 53. -/
theorem after_53 (c : Dev nD) (t : Fin cfg0.N) : (dats m 0 c).after 53 t = out53 (iblk m c 0 t) (iblk m c 23 t) := by
  dsimp only [dats]
/-- What the body leaves of array 54. -/
theorem after_54 (c : Dev nD) (t : Fin cfg0.N) : (dats m 0 c).after 54 t = out54 (iblk m c 0 t) := by
  dsimp only [dats]
/-- What the body leaves of array 55. -/
theorem after_55 (c : Dev nD) (t : Fin cfg0.N) : (dats m 0 c).after 55 t = out55 (iblk m c 0 t) (iblk m c 8 t) (iblk m c 16 t) (iblk m c 24 t) := by
  dsimp only [dats]
/-- What the body leaves of array 56. -/
theorem after_56 (c : Dev nD) (t : Fin cfg0.N) : (dats m 0 c).after 56 t = out56 (iblk m c 0 t) (iblk m c 16 t) := by
  dsimp only [dats]
/-- What the body leaves of array 57. -/
theorem after_57 (c : Dev nD) (t : Fin cfg0.N) : (dats m 0 c).after 57 t = out57 (iblk m c 0 t) (iblk m c 24 t) := by
  dsimp only [dats]
/-- Array 0's buffer holds its block when the body starts. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]) t d).trans
    (by unfold Dat.fetched Dat.blockOf iblk; rw [A_eq]; try rfl)
/-- Array 1's buffer holds its block when the body starts. -/
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]) t d).trans
    (by unfold Dat.fetched Dat.blockOf iblk; rw [A_eq]; try rfl)
/-- Array 2's buffer holds its block when the body starts. -/
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]) t d).trans
    (by unfold Dat.fetched Dat.blockOf iblk; rw [A_eq]; try rfl)
/-- Array 3's buffer holds its block when the body starts. -/
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]) t d).trans
    (by unfold Dat.fetched Dat.blockOf iblk; rw [A_eq]; try rfl)
/-- Array 4's buffer holds its block when the body starts. -/
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]) t d).trans
    (by unfold Dat.fetched Dat.blockOf iblk; rw [A_eq]; try rfl)
/-- Array 5's buffer holds its block when the body starts. -/
theorem before_5 (c : Dev nD) (t : Fin cfg0.N) (d) : (dats m 0 c).before 5 t d = iblk m c 5 t :=
  ((dats m 0 c).before_in_eq_fetched 5 rfl (fun _ => rfl) (fun _ _ _ => rfl)
      (fun t => by rw [after_5]; unfold Dat.blockOf iblk; rw [A_eq]) t d).trans
    (by unfold Dat.fetched Dat.blockOf iblk; rw [A_eq]; try rfl)
/-- Array 6's buffer holds its block when the body starts. -/
theorem before_6 (c : Dev nD) (t : Fin cfg0.N) (d) : (dats m 0 c).before 6 t d = iblk m c 6 t :=
  ((dats m 0 c).before_in_eq_fetched 6 rfl (fun _ => rfl) (fun _ _ _ => rfl)
      (fun t => by rw [after_6]; unfold Dat.blockOf iblk; rw [A_eq]) t d).trans
    (by unfold Dat.fetched Dat.blockOf iblk; rw [A_eq]; try rfl)
/-- Array 7's buffer holds its block when the body starts. -/
theorem before_7 (c : Dev nD) (t : Fin cfg0.N) (d) : (dats m 0 c).before 7 t d = iblk m c 7 t :=
  ((dats m 0 c).before_in_eq_fetched 7 rfl (fun _ => rfl) (fun _ _ _ => rfl)
      (fun t => by rw [after_7]; unfold Dat.blockOf iblk; rw [A_eq]) t d).trans
    (by unfold Dat.fetched Dat.blockOf iblk; rw [A_eq]; try rfl)
/-- Array 8's buffer holds its block when the body starts. -/
theorem before_8 (c : Dev nD) (t : Fin cfg0.N) (d) : (dats m 0 c).before 8 t d = iblk m c 8 t :=
  ((dats m 0 c).before_in_eq_fetched 8 rfl (fun _ => rfl) (fun _ _ _ => rfl)
      (fun t => by rw [after_8]; unfold Dat.blockOf iblk; rw [A_eq]) t d).trans
    (by unfold Dat.fetched Dat.blockOf iblk; rw [A_eq]; try rfl)
/-- Array 9's buffer holds its block when the body starts. -/
theorem before_9 (c : Dev nD) (t : Fin cfg0.N) (d) : (dats m 0 c).before 9 t d = iblk m c 9 t :=
  ((dats m 0 c).before_in_eq_fetched 9 rfl (fun _ => rfl) (fun _ _ _ => rfl)
      (fun t => by rw [after_9]; unfold Dat.blockOf iblk; rw [A_eq]) t d).trans
    (by unfold Dat.fetched Dat.blockOf iblk; rw [A_eq]; try rfl)
/-- Array 10's buffer holds its block when the body starts. -/
theorem before_10 (c : Dev nD) (t : Fin cfg0.N) (d) : (dats m 0 c).before 10 t d = iblk m c 10 t :=
  ((dats m 0 c).before_in_eq_fetched 10 rfl (fun _ => rfl) (fun _ _ _ => rfl)
      (fun t => by rw [after_10]; unfold Dat.blockOf iblk; rw [A_eq]) t d).trans
    (by unfold Dat.fetched Dat.blockOf iblk; rw [A_eq]; try rfl)
/-- Array 11's buffer holds its block when the body starts. -/
theorem before_11 (c : Dev nD) (t : Fin cfg0.N) (d) : (dats m 0 c).before 11 t d = iblk m c 11 t :=
  ((dats m 0 c).before_in_eq_fetched 11 rfl (fun _ => rfl) (fun _ _ _ => rfl)
      (fun t => by rw [after_11]; unfold Dat.blockOf iblk; rw [A_eq]) t d).trans
    (by unfold Dat.fetched Dat.blockOf iblk; rw [A_eq]; try rfl)
/-- Array 12's buffer holds its block when the body starts. -/
theorem before_12 (c : Dev nD) (t : Fin cfg0.N) (d) : (dats m 0 c).before 12 t d = iblk m c 12 t :=
  ((dats m 0 c).before_in_eq_fetched 12 rfl (fun _ => rfl) (fun _ _ _ => rfl)
      (fun t => by rw [after_12]; unfold Dat.blockOf iblk; rw [A_eq]) t d).trans
    (by unfold Dat.fetched Dat.blockOf iblk; rw [A_eq]; try rfl)
/-- Array 13's buffer holds its block when the body starts. -/
theorem before_13 (c : Dev nD) (t : Fin cfg0.N) (d) : (dats m 0 c).before 13 t d = iblk m c 13 t :=
  ((dats m 0 c).before_in_eq_fetched 13 rfl (fun _ => rfl) (fun _ _ _ => rfl)
      (fun t => by rw [after_13]; unfold Dat.blockOf iblk; rw [A_eq]) t d).trans
    (by unfold Dat.fetched Dat.blockOf iblk; rw [A_eq]; try rfl)
/-- Array 14's buffer holds its block when the body starts. -/
theorem before_14 (c : Dev nD) (t : Fin cfg0.N) (d) : (dats m 0 c).before 14 t d = iblk m c 14 t :=
  ((dats m 0 c).before_in_eq_fetched 14 rfl (fun _ => rfl) (fun _ _ _ => rfl)
      (fun t => by rw [after_14]; unfold Dat.blockOf iblk; rw [A_eq]) t d).trans
    (by unfold Dat.fetched Dat.blockOf iblk; rw [A_eq]; try rfl)
/-- Array 15's buffer holds its block when the body starts. -/
theorem before_15 (c : Dev nD) (t : Fin cfg0.N) (d) : (dats m 0 c).before 15 t d = iblk m c 15 t :=
  ((dats m 0 c).before_in_eq_fetched 15 rfl (fun _ => rfl) (fun _ _ _ => rfl)
      (fun t => by rw [after_15]; unfold Dat.blockOf iblk; rw [A_eq]) t d).trans
    (by unfold Dat.fetched Dat.blockOf iblk; rw [A_eq]; try rfl)
/-- Array 16's buffer holds its block when the body starts. -/
theorem before_16 (c : Dev nD) (t : Fin cfg0.N) (d) : (dats m 0 c).before 16 t d = iblk m c 16 t :=
  ((dats m 0 c).before_in_eq_fetched 16 rfl (fun _ => rfl) (fun _ _ _ => rfl)
      (fun t => by rw [after_16]; unfold Dat.blockOf iblk; rw [A_eq]) t d).trans
    (by unfold Dat.fetched Dat.blockOf iblk; rw [A_eq]; try rfl)
/-- Array 17's buffer holds its block when the body starts. -/
theorem before_17 (c : Dev nD) (t : Fin cfg0.N) (d) : (dats m 0 c).before 17 t d = iblk m c 17 t :=
  ((dats m 0 c).before_in_eq_fetched 17 rfl (fun _ => rfl) (fun _ _ _ => rfl)
      (fun t => by rw [after_17]; unfold Dat.blockOf iblk; rw [A_eq]) t d).trans
    (by unfold Dat.fetched Dat.blockOf iblk; rw [A_eq]; try rfl)
/-- Array 18's buffer holds its block when the body starts. -/
theorem before_18 (c : Dev nD) (t : Fin cfg0.N) (d) : (dats m 0 c).before 18 t d = iblk m c 18 t :=
  ((dats m 0 c).before_in_eq_fetched 18 rfl (fun _ => rfl) (fun _ _ _ => rfl)
      (fun t => by rw [after_18]; unfold Dat.blockOf iblk; rw [A_eq]) t d).trans
    (by unfold Dat.fetched Dat.blockOf iblk; rw [A_eq]; try rfl)
/-- Array 19's buffer holds its block when the body starts. -/
theorem before_19 (c : Dev nD) (t : Fin cfg0.N) (d) : (dats m 0 c).before 19 t d = iblk m c 19 t :=
  ((dats m 0 c).before_in_eq_fetched 19 rfl (fun _ => rfl) (fun _ _ _ => rfl)
      (fun t => by rw [after_19]; unfold Dat.blockOf iblk; rw [A_eq]) t d).trans
    (by unfold Dat.fetched Dat.blockOf iblk; rw [A_eq]; try rfl)
/-- Array 20's buffer holds its block when the body starts. -/
theorem before_20 (c : Dev nD) (t : Fin cfg0.N) (d) : (dats m 0 c).before 20 t d = iblk m c 20 t :=
  ((dats m 0 c).before_in_eq_fetched 20 rfl (fun _ => rfl) (fun _ _ _ => rfl)
      (fun t => by rw [after_20]; unfold Dat.blockOf iblk; rw [A_eq]) t d).trans
    (by unfold Dat.fetched Dat.blockOf iblk; rw [A_eq]; try rfl)
/-- Array 21's buffer holds its block when the body starts. -/
theorem before_21 (c : Dev nD) (t : Fin cfg0.N) (d) : (dats m 0 c).before 21 t d = iblk m c 21 t :=
  ((dats m 0 c).before_in_eq_fetched 21 rfl (fun _ => rfl) (fun _ _ _ => rfl)
      (fun t => by rw [after_21]; unfold Dat.blockOf iblk; rw [A_eq]) t d).trans
    (by unfold Dat.fetched Dat.blockOf iblk; rw [A_eq]; try rfl)
/-- Array 22's buffer holds its block when the body starts. -/
theorem before_22 (c : Dev nD) (t : Fin cfg0.N) (d) : (dats m 0 c).before 22 t d = iblk m c 22 t :=
  ((dats m 0 c).before_in_eq_fetched 22 rfl (fun _ => rfl) (fun _ _ _ => rfl)
      (fun t => by rw [after_22]; unfold Dat.blockOf iblk; rw [A_eq]) t d).trans
    (by unfold Dat.fetched Dat.blockOf iblk; rw [A_eq]; try rfl)
/-- Array 23's buffer holds its block when the body starts. -/
theorem before_23 (c : Dev nD) (t : Fin cfg0.N) (d) : (dats m 0 c).before 23 t d = iblk m c 23 t :=
  ((dats m 0 c).before_in_eq_fetched 23 rfl (fun _ => rfl) (fun _ _ _ => rfl)
      (fun t => by rw [after_23]; unfold Dat.blockOf iblk; rw [A_eq]) t d).trans
    (by unfold Dat.fetched Dat.blockOf iblk; rw [A_eq]; try rfl)
/-- Array 24's buffer holds its block when the body starts. -/
theorem before_24 (c : Dev nD) (t : Fin cfg0.N) (d) : (dats m 0 c).before 24 t d = iblk m c 24 t :=
  ((dats m 0 c).before_in_eq_fetched 24 rfl (fun _ => rfl) (fun _ _ _ => rfl)
      (fun t => by rw [after_24]; unfold Dat.blockOf iblk; rw [A_eq]) t d).trans
    (by unfold Dat.fetched Dat.blockOf iblk; rw [A_eq]; try rfl)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t))

set_option maxHeartbeats 8000000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [
    before_0, before_1, before_2, before_3, before_4, before_5, before_6, before_7, before_8, before_9, before_10, before_11, before_12,
    before_13, before_14, before_15, before_16, before_17, before_18, before_19, before_20, before_21, before_22, before_23, before_24]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13,
    after_14, after_15, after_16, after_17, after_18, after_19, after_20, after_21, after_22, after_23, after_24, after_25, after_26,
    after_27, after_28, after_29, after_30, after_31, after_32, after_33, after_34, after_35, after_36, after_37, after_38, after_39,
    after_40, after_41, after_42, after_43, after_44, after_45, after_46, after_47, after_48, after_49, after_50, after_51, after_52,
    after_53, after_54, after_55, after_56, after_57]
  iintro ⟨HΦ, Ho,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩,
    ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩,
    ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩,
    ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩,
    ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩,
    ⟨%d52, H52⟩, ⟨%d53, H53⟩, ⟨%d54, H54⟩, ⟨%d55, H55⟩, ⟨%d56, H56⟩, ⟨%d57, H57⟩⟩
  iapply (sound_kernel c Set.univ
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t) (iblk m c 16 t)
    (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  iexact H57

/-- The body table's row at point `t` is the body at that point's buffers. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 1600000 in
/-- The run: each array ends at what the pipeline leaves there, every other buffer as the kernel found it, every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A value that is a buffer's at the kernel's start is its value as launched, if the host does not write it. -/
theorem args_end (b : Ref sig .tc) (hb : ∀ r ∈ hostWritten, b ≠ r) (c : Dev nD) {x : Buf (Elt F) ((c : Thread nD τ).loc b)}
    (hx : x = V m c b) : x = m ((c : Thread nD τ).loc b) := hx.trans (V_of_not_written m b hb c)

/-- Every argument of the program is in memory `M` as it is in `m`. -/
abbrev ArgsKept (M : (ℓ : Loc nD τ sig) → Buf (Elt F) ℓ) (c : Dev nD) : Prop :=
  M ((c.tc : Thread nD τ).loc main_arg0) = m ((c.tc : Thread nD τ).loc main_arg0)
  ∧ M ((c.tc : Thread nD τ).loc main_arg1) = m ((c.tc : Thread nD τ).loc main_arg1)
  ∧ M ((c.tc : Thread nD τ).loc main_arg2) = m ((c.tc : Thread nD τ).loc main_arg2)
  ∧ M ((c.tc : Thread nD τ).loc main_arg3) = m ((c.tc : Thread nD τ).loc main_arg3)
  ∧ M ((c.tc : Thread nD τ).loc main_arg4) = m ((c.tc : Thread nD τ).loc main_arg4)
  ∧ M ((c.tc : Thread nD τ).loc main_arg5) = m ((c.tc : Thread nD τ).loc main_arg5)
  ∧ M ((c.tc : Thread nD τ).loc main_arg6) = m ((c.tc : Thread nD τ).loc main_arg6)
  ∧ M ((c.tc : Thread nD τ).loc main_arg7) = m ((c.tc : Thread nD τ).loc main_arg7)
  ∧ M ((c.tc : Thread nD τ).loc main_arg8) = m ((c.tc : Thread nD τ).loc main_arg8)
  ∧ M ((c.tc : Thread nD τ).loc main_arg9) = m ((c.tc : Thread nD τ).loc main_arg9)
  ∧ M ((c.tc : Thread nD τ).loc main_arg10) = m ((c.tc : Thread nD τ).loc main_arg10)
  ∧ M ((c.tc : Thread nD τ).loc main_arg11) = m ((c.tc : Thread nD τ).loc main_arg11)
  ∧ M ((c.tc : Thread nD τ).loc main_arg12) = m ((c.tc : Thread nD τ).loc main_arg12)
  ∧ M ((c.tc : Thread nD τ).loc main_arg13) = m ((c.tc : Thread nD τ).loc main_arg13)
  ∧ M ((c.tc : Thread nD τ).loc main_arg14) = m ((c.tc : Thread nD τ).loc main_arg14)
  ∧ M ((c.tc : Thread nD τ).loc main_arg15) = m ((c.tc : Thread nD τ).loc main_arg15)
  ∧ M ((c.tc : Thread nD τ).loc main_arg16) = m ((c.tc : Thread nD τ).loc main_arg16)
  ∧ M ((c.tc : Thread nD τ).loc main_arg17) = m ((c.tc : Thread nD τ).loc main_arg17)
  ∧ M ((c.tc : Thread nD τ).loc main_arg18) = m ((c.tc : Thread nD τ).loc main_arg18)
  ∧ M ((c.tc : Thread nD τ).loc main_arg19) = m ((c.tc : Thread nD τ).loc main_arg19)
  ∧ M ((c.tc : Thread nD τ).loc main_arg20) = m ((c.tc : Thread nD τ).loc main_arg20)
  ∧ M ((c.tc : Thread nD τ).loc main_arg21) = m ((c.tc : Thread nD τ).loc main_arg21)
  ∧ M ((c.tc : Thread nD τ).loc main_arg22) = m ((c.tc : Thread nD τ).loc main_arg22)
  ∧ M ((c.tc : Thread nD τ).loc main_arg23) = m ((c.tc : Thread nD τ).loc main_arg23)
  ∧ M ((c.tc : Thread nD τ).loc main_arg24) = m ((c.tc : Thread nD τ).loc main_arg24)
  ∧ M ((c.tc : Thread nD τ).loc main_arg25) = m ((c.tc : Thread nD τ).loc main_arg25)
  ∧ M ((c.tc : Thread nD τ).loc main_arg26) = m ((c.tc : Thread nD τ).loc main_arg26)
  ∧ M ((c.tc : Thread nD τ).loc main_arg27) = m ((c.tc : Thread nD τ).loc main_arg27)
  ∧ M ((c.tc : Thread nD τ).loc main_arg28) = m ((c.tc : Thread nD τ).loc main_arg28)
  ∧ M ((c.tc : Thread nD τ).loc main_arg29) = m ((c.tc : Thread nD τ).loc main_arg29)
  ∧ M ((c.tc : Thread nD τ).loc main_arg30) = m ((c.tc : Thread nD τ).loc main_arg30)
  ∧ M ((c.tc : Thread nD τ).loc main_arg31) = m ((c.tc : Thread nD τ).loc main_arg31)
  ∧ M ((c.tc : Thread nD τ).loc main_arg32) = m ((c.tc : Thread nD τ).loc main_arg32)

set_option maxHeartbeats 4000000 in
/-- At the end of the run the arguments are as they were. -/
theorem args_kept {r : _} (h : Pipeline.FramePost cfgs (dats m) 0 (V m) r) (c : Dev nD) : ArgsKept m r.2.mem c := ⟨
  args_end m main_arg0 (by unfold hostWritten; decide) c ((h c).2 main_arg0 (Pipeline.mem_restRefs_of main_arg0 (by decide) (by decide))),
  args_end m main_arg1 (by unfold hostWritten; decide) c ((h c).2 main_arg1 (Pipeline.mem_restRefs_of main_arg1 (by decide) (by decide))),
  args_end m main_arg2 (by unfold hostWritten; decide) c ((h c).2 main_arg2 (Pipeline.mem_restRefs_of main_arg2 (by decide) (by decide))),
  args_end m main_arg3 (by unfold hostWritten; decide) c ((h c).2 main_arg3 (Pipeline.mem_restRefs_of main_arg3 (by decide) (by decide))),
  args_end m main_arg4 (by unfold hostWritten; decide) c ((h c).2 main_arg4 (Pipeline.mem_restRefs_of main_arg4 (by decide) (by decide))),
  args_end m main_arg5 (by unfold hostWritten; decide) c ((h c).2 main_arg5 (Pipeline.mem_restRefs_of main_arg5 (by decide) (by decide))),
  args_end m main_arg6 (by unfold hostWritten; decide) c ((h c).2 main_arg6 (Pipeline.mem_restRefs_of main_arg6 (by decide) (by decide))),
  args_end m main_arg7 (by unfold hostWritten; decide) c ((h c).2 main_arg7 (Pipeline.mem_restRefs_of main_arg7 (by decide) (by decide))),
  args_end m main_arg8 (by unfold hostWritten; decide) c ((h c).2 main_arg8 (Pipeline.mem_restRefs_of main_arg8 (by decide) (by decide))),
  args_end m main_arg9 (by unfold hostWritten; decide) c (((h c).1 1).trans (((dats m 0 c).arrAt_in 1 rfl _).trans (A_eq m c 1))),
  args_end m main_arg10 (by unfold hostWritten; decide) c ((h c).2 main_arg10 (Pipeline.mem_restRefs_of main_arg10 (by decide) (by decide))),
  args_end m main_arg11 (by unfold hostWritten; decide) c ((h c).2 main_arg11 (Pipeline.mem_restRefs_of main_arg11 (by decide) (by decide))),
  args_end m main_arg12 (by unfold hostWritten; decide) c (((h c).1 4).trans (((dats m 0 c).arrAt_in 4 rfl _).trans (A_eq m c 4))),
  args_end m main_arg13 (by unfold hostWritten; decide) c (((h c).1 5).trans (((dats m 0 c).arrAt_in 5 rfl _).trans (A_eq m c 5))),
  args_end m main_arg14 (by unfold hostWritten; decide) c (((h c).1 6).trans (((dats m 0 c).arrAt_in 6 rfl _).trans (A_eq m c 6))),
  args_end m main_arg15 (by unfold hostWritten; decide) c (((h c).1 7).trans (((dats m 0 c).arrAt_in 7 rfl _).trans (A_eq m c 7))),
  args_end m main_arg16 (by unfold hostWritten; decide) c (((h c).1 8).trans (((dats m 0 c).arrAt_in 8 rfl _).trans (A_eq m c 8))),
  args_end m main_arg17 (by unfold hostWritten; decide) c (((h c).1 9).trans (((dats m 0 c).arrAt_in 9 rfl _).trans (A_eq m c 9))),
  args_end m main_arg18 (by unfold hostWritten; decide) c ((h c).2 main_arg18 (Pipeline.mem_restRefs_of main_arg18 (by decide) (by decide))),
  args_end m main_arg19 (by unfold hostWritten; decide) c ((h c).2 main_arg19 (Pipeline.mem_restRefs_of main_arg19 (by decide) (by decide))),
  args_end m main_arg20 (by unfold hostWritten; decide) c (((h c).1 12).trans (((dats m 0 c).arrAt_in 12 rfl _).trans (A_eq m c 12))),
  args_end m main_arg21 (by unfold hostWritten; decide) c (((h c).1 13).trans (((dats m 0 c).arrAt_in 13 rfl _).trans (A_eq m c 13))),
  args_end m main_arg22 (by unfold hostWritten; decide) c (((h c).1 14).trans (((dats m 0 c).arrAt_in 14 rfl _).trans (A_eq m c 14))),
  args_end m main_arg23 (by unfold hostWritten; decide) c (((h c).1 15).trans (((dats m 0 c).arrAt_in 15 rfl _).trans (A_eq m c 15))),
  args_end m main_arg24 (by unfold hostWritten; decide) c (((h c).1 16).trans (((dats m 0 c).arrAt_in 16 rfl _).trans (A_eq m c 16))),
  args_end m main_arg25 (by unfold hostWritten; decide) c (((h c).1 17).trans (((dats m 0 c).arrAt_in 17 rfl _).trans (A_eq m c 17))),
  args_end m main_arg26 (by unfold hostWritten; decide) c ((h c).2 main_arg26 (Pipeline.mem_restRefs_of main_arg26 (by decide) (by decide))),
  args_end m main_arg27 (by unfold hostWritten; decide) c ((h c).2 main_arg27 (Pipeline.mem_restRefs_of main_arg27 (by decide) (by decide))),
  args_end m main_arg28 (by unfold hostWritten; decide) c (((h c).1 20).trans (((dats m 0 c).arrAt_in 20 rfl _).trans (A_eq m c 20))),
  args_end m main_arg29 (by unfold hostWritten; decide) c (((h c).1 21).trans (((dats m 0 c).arrAt_in 21 rfl _).trans (A_eq m c 21))),
  args_end m main_arg30 (by unfold hostWritten; decide) c (((h c).1 22).trans (((dats m 0 c).arrAt_in 22 rfl _).trans (A_eq m c 22))),
  args_end m main_arg31 (by unfold hostWritten; decide) c (((h c).1 23).trans (((dats m 0 c).arrAt_in 23 rfl _).trans (A_eq m c 23))),
  args_end m main_arg32 (by unfold hostWritten; decide) c (((h c).1 24).trans (((dats m 0 c).arrAt_in 24 rfl _).trans (A_eq m c 24)))⟩

/-- The program ends with its arguments as they were and every semaphore at zero. -/
theorem frame_tiny : θ_run defs (onTc (τ := τ) (main (F := F))) ⟨m, fun _ => 0, ρ⟩
    (fun r => (∀ c : Dev nD, ArgsKept m r.2.mem c) ∧ r.2.sem = fun _ => 0) :=
  (θ_run defs _ _).mono (fun _ h => ⟨fun c => args_kept m h.1 c, h.2⟩) (run_main m ρ)

end Proof.Tiny

end

end
-- ==== Proof.AdamStep.lean ====
module

public import Idealize.ShloMosaic.Lib.Pointwise

/-!
  One step of AdamW on one entry of a weight, over the extended reals.
-/

@[expose] public section

noncomputable section

open Idealize.ShloMosaic

namespace Proof.Adam

/-- The new first moment of an entry, from its gradient and its old first moment. -/
def newM (g m : Ideal .f32) : Ideal .f32 :=
  FloatOps.addf (FloatOps.mulf (Scalar.ofBits .f32 0x3F666666#32) m) (FloatOps.mulf (Scalar.ofBits .f32 0x3DCCCCCD#32) g)

/-- The new second moment of an entry, from its gradient and its old second moment. -/
def newV (g v : Ideal .f32) : Ideal .f32 :=
  FloatOps.addf (FloatOps.mulf (Scalar.ofBits .f32 0x3F7FBE77#32) v) (FloatOps.mulf (Scalar.ofBits .f32 0x3A83126F#32) (FloatOps.mulf g g))

/-- The change of an entry, from its weight, its gradient and its two old moments. -/
def delta (w g m v : Ideal .f32) : Ideal .f32 :=
  FloatOps.mulf (Scalar.ofBits .f32 0xBA83126F#32) (FloatOps.addf
    (FloatOps.divf (FloatOps.divf (newM g m) (Scalar.ofBits .f32 0x3F26BD02#32))
      (FloatOps.addf (FloatOps.sqrt (FloatOps.divf (newV g v) (Scalar.ofBits .f32 0x3C231ACC#32))) (Scalar.ofBits .f32 0x322BCC77#32)))
    (FloatOps.mulf (Scalar.ofBits .f32 0x3C23D70A#32) w))

end Proof.Adam

end

end
-- ==== Proof.TinyVals.lean ====
module

public import proofs.«01_k».proof.Proof.TinyBody
public import proofs.«01_k».proof.Proof.AdamStep
public import Idealize.ShloMosaic.Lib.Pipeline.Value
public import Idealize.ShloMosaic.Lib.Pipeline.ValueKit

/-!
  What the step on the eight small weights leaves in each result, entry by entry over the extended reals: each entry's gradient
  is read at its place in the packed array, and its change and its new moments are those of `AdamStep.lean`.
-/

@[expose] public section

set_option maxRecDepth 16384

noncomputable section

namespace Proof.Tiny

open Cert.Kernel8Ideal Cert.Kernel8Ideal.Gen
open Idealize.ShloMosaic Idealize.ShloMosaic.Pipeline
open Proof.Adam

/-- The place in the packed array of an entry of a row of 1024 that is packed in eight rows of 128 from row `b` on. -/
def place (b : ℕ) (hb : b ≤ 64) (i : S1x1024.Idx) : S72x128.Idx := fun a => match a with
  | ⟨0, _⟩ => ⟨b + (i 1).val / 128, by have h : (i 1).val < 1024 := (i 1).isLt; show _ < 72; omega⟩
  | ⟨1, _⟩ => ⟨(i 1).val % 128, Nat.mod_lt _ (by decide)⟩

/-- The row of 1024 packed from row `b` on. -/
def row (b : ℕ) (hb : b ≤ 64) (x : Vec Ideal S72x128 .f32) : Vec Ideal S1x1024 .f32 := fun i => x (place b hb i)

/-- The eight pieces of a row are one array once each piece is that array's part. -/
theorem row_canon (f : S1x1024.Idx → Ideal .f32) (p7 p6 p5 p4 p3 p2 p1 p0 : Vec Ideal S1x128 .f32)
    (h7 : ∀ y, p7 y = f (col7.idx y)) (h6 : ∀ y, p6 y = f (col6.idx y)) (h5 : ∀ y, p5 y = f (col5.idx y))
    (h4 : ∀ y, p4 y = f (col4.idx y)) (h3 : ∀ y, p3 y = f (col3.idx y)) (h2 : ∀ y, p2 y = f (col2.idx y))
    (h1 : ∀ y, p1 y = f (col1.idx y)) (h0 : ∀ y, p0 y = f (col0.idx y)) :
    View.canon ([⟨col7, p7⟩, ⟨col6, p6⟩, ⟨col5, p5⟩, ⟨col4, p4⟩, ⟨col3, p3⟩, ⟨col2, p2⟩, ⟨col1, p1⟩, ⟨col0, p0⟩] : List (View.Piece (Elt Ideal) S1x1024 .f32)) = f := by
  funext i
  exact View.canon_eq_of_allAt _ i _ (cover_row _ _ _ _ _ _ _ _ i)
    (View.allAt_cons _ _ _ (fun x hx => hx ▸ h7 x) (View.allAt_cons _ _ _ (fun x hx => hx ▸ h6 x)
      (View.allAt_cons _ _ _ (fun x hx => hx ▸ h5 x) (View.allAt_cons _ _ _ (fun x hx => hx ▸ h4 x)
        (View.allAt_cons _ _ _ (fun x hx => hx ▸ h3 x) (View.allAt_cons _ _ _ (fun x hx => hx ▸ h2 x)
          (View.allAt_cons _ _ _ (fun x hx => hx ▸ h1 x) (View.allAt_cons _ _ _ (fun x hx => hx ▸ h0 x) (View.allAt_nil _ _)))))))))

/-- Row 0 of the packed array is piece 0 of the row packed from row 0 on. -/
theorem ld_rowA0 (x : Vec Ideal S72x128 .f32) : View.ld x rowA0 = fun y : S1x128.Idx => row 0 (by decide) x (col0.idx y) := by
  funext y
  have h0 : (y 0).val < 1 := (y 0).isLt
  have h1 : (y 1).val < 128 := (y 1).isLt
  refine congrArg x (funext fun a => ?_)
  match a with
  | ⟨0, _⟩ => exact Fin.ext (by show 0 + 1 * (y 0).val = 0 + (0 + 1 * (y 1).val) / 128; omega)
  | ⟨1, _⟩ => exact Fin.ext (by show 0 + 1 * (y 1).val = (0 + 1 * (y 1).val) % 128; omega)
/-- Row 1 of the packed array is piece 1 of the row packed from row 0 on. -/
theorem ld_rowA1 (x : Vec Ideal S72x128 .f32) : View.ld x rowA1 = fun y : S1x128.Idx => row 0 (by decide) x (col1.idx y) := by
  funext y
  have h0 : (y 0).val < 1 := (y 0).isLt
  have h1 : (y 1).val < 128 := (y 1).isLt
  refine congrArg x (funext fun a => ?_)
  match a with
  | ⟨0, _⟩ => exact Fin.ext (by show 1 + 1 * (y 0).val = 0 + (128 + 1 * (y 1).val) / 128; omega)
  | ⟨1, _⟩ => exact Fin.ext (by show 0 + 1 * (y 1).val = (128 + 1 * (y 1).val) % 128; omega)
/-- Row 2 of the packed array is piece 2 of the row packed from row 0 on. -/
theorem ld_rowA2 (x : Vec Ideal S72x128 .f32) : View.ld x rowA2 = fun y : S1x128.Idx => row 0 (by decide) x (col2.idx y) := by
  funext y
  have h0 : (y 0).val < 1 := (y 0).isLt
  have h1 : (y 1).val < 128 := (y 1).isLt
  refine congrArg x (funext fun a => ?_)
  match a with
  | ⟨0, _⟩ => exact Fin.ext (by show 2 + 1 * (y 0).val = 0 + (256 + 1 * (y 1).val) / 128; omega)
  | ⟨1, _⟩ => exact Fin.ext (by show 0 + 1 * (y 1).val = (256 + 1 * (y 1).val) % 128; omega)
/-- Row 3 of the packed array is piece 3 of the row packed from row 0 on. -/
theorem ld_rowA3 (x : Vec Ideal S72x128 .f32) : View.ld x rowA3 = fun y : S1x128.Idx => row 0 (by decide) x (col3.idx y) := by
  funext y
  have h0 : (y 0).val < 1 := (y 0).isLt
  have h1 : (y 1).val < 128 := (y 1).isLt
  refine congrArg x (funext fun a => ?_)
  match a with
  | ⟨0, _⟩ => exact Fin.ext (by show 3 + 1 * (y 0).val = 0 + (384 + 1 * (y 1).val) / 128; omega)
  | ⟨1, _⟩ => exact Fin.ext (by show 0 + 1 * (y 1).val = (384 + 1 * (y 1).val) % 128; omega)
/-- Row 4 of the packed array is piece 4 of the row packed from row 0 on. -/
theorem ld_rowA4 (x : Vec Ideal S72x128 .f32) : View.ld x rowA4 = fun y : S1x128.Idx => row 0 (by decide) x (col4.idx y) := by
  funext y
  have h0 : (y 0).val < 1 := (y 0).isLt
  have h1 : (y 1).val < 128 := (y 1).isLt
  refine congrArg x (funext fun a => ?_)
  match a with
  | ⟨0, _⟩ => exact Fin.ext (by show 4 + 1 * (y 0).val = 0 + (512 + 1 * (y 1).val) / 128; omega)
  | ⟨1, _⟩ => exact Fin.ext (by show 0 + 1 * (y 1).val = (512 + 1 * (y 1).val) % 128; omega)
/-- Row 5 of the packed array is piece 5 of the row packed from row 0 on. -/
theorem ld_rowA5 (x : Vec Ideal S72x128 .f32) : View.ld x rowA5 = fun y : S1x128.Idx => row 0 (by decide) x (col5.idx y) := by
  funext y
  have h0 : (y 0).val < 1 := (y 0).isLt
  have h1 : (y 1).val < 128 := (y 1).isLt
  refine congrArg x (funext fun a => ?_)
  match a with
  | ⟨0, _⟩ => exact Fin.ext (by show 5 + 1 * (y 0).val = 0 + (640 + 1 * (y 1).val) / 128; omega)
  | ⟨1, _⟩ => exact Fin.ext (by show 0 + 1 * (y 1).val = (640 + 1 * (y 1).val) % 128; omega)
/-- Row 6 of the packed array is piece 6 of the row packed from row 0 on. -/
theorem ld_rowA6 (x : Vec Ideal S72x128 .f32) : View.ld x rowA6 = fun y : S1x128.Idx => row 0 (by decide) x (col6.idx y) := by
  funext y
  have h0 : (y 0).val < 1 := (y 0).isLt
  have h1 : (y 1).val < 128 := (y 1).isLt
  refine congrArg x (funext fun a => ?_)
  match a with
  | ⟨0, _⟩ => exact Fin.ext (by show 6 + 1 * (y 0).val = 0 + (768 + 1 * (y 1).val) / 128; omega)
  | ⟨1, _⟩ => exact Fin.ext (by show 0 + 1 * (y 1).val = (768 + 1 * (y 1).val) % 128; omega)
/-- Row 7 of the packed array is piece 7 of the row packed from row 0 on. -/
theorem ld_rowA7 (x : Vec Ideal S72x128 .f32) : View.ld x rowA7 = fun y : S1x128.Idx => row 0 (by decide) x (col7.idx y) := by
  funext y
  have h0 : (y 0).val < 1 := (y 0).isLt
  have h1 : (y 1).val < 128 := (y 1).isLt
  refine congrArg x (funext fun a => ?_)
  match a with
  | ⟨0, _⟩ => exact Fin.ext (by show 7 + 1 * (y 0).val = 0 + (896 + 1 * (y 1).val) / 128; omega)
  | ⟨1, _⟩ => exact Fin.ext (by show 0 + 1 * (y 1).val = (896 + 1 * (y 1).val) % 128; omega)
/-- Row 40 of the packed array is piece 0 of the row packed from row 40 on. -/
theorem ld_rowB0 (x : Vec Ideal S72x128 .f32) : View.ld x rowB0 = fun y : S1x128.Idx => row 40 (by decide) x (col0.idx y) := by
  funext y
  have h0 : (y 0).val < 1 := (y 0).isLt
  have h1 : (y 1).val < 128 := (y 1).isLt
  refine congrArg x (funext fun a => ?_)
  match a with
  | ⟨0, _⟩ => exact Fin.ext (by show 40 + 1 * (y 0).val = 40 + (0 + 1 * (y 1).val) / 128; omega)
  | ⟨1, _⟩ => exact Fin.ext (by show 0 + 1 * (y 1).val = (0 + 1 * (y 1).val) % 128; omega)
/-- Row 41 of the packed array is piece 1 of the row packed from row 40 on. -/
theorem ld_rowB1 (x : Vec Ideal S72x128 .f32) : View.ld x rowB1 = fun y : S1x128.Idx => row 40 (by decide) x (col1.idx y) := by
  funext y
  have h0 : (y 0).val < 1 := (y 0).isLt
  have h1 : (y 1).val < 128 := (y 1).isLt
  refine congrArg x (funext fun a => ?_)
  match a with
  | ⟨0, _⟩ => exact Fin.ext (by show 41 + 1 * (y 0).val = 40 + (128 + 1 * (y 1).val) / 128; omega)
  | ⟨1, _⟩ => exact Fin.ext (by show 0 + 1 * (y 1).val = (128 + 1 * (y 1).val) % 128; omega)
/-- Row 42 of the packed array is piece 2 of the row packed from row 40 on. -/
theorem ld_rowB2 (x : Vec Ideal S72x128 .f32) : View.ld x rowB2 = fun y : S1x128.Idx => row 40 (by decide) x (col2.idx y) := by
  funext y
  have h0 : (y 0).val < 1 := (y 0).isLt
  have h1 : (y 1).val < 128 := (y 1).isLt
  refine congrArg x (funext fun a => ?_)
  match a with
  | ⟨0, _⟩ => exact Fin.ext (by show 42 + 1 * (y 0).val = 40 + (256 + 1 * (y 1).val) / 128; omega)
  | ⟨1, _⟩ => exact Fin.ext (by show 0 + 1 * (y 1).val = (256 + 1 * (y 1).val) % 128; omega)
/-- Row 43 of the packed array is piece 3 of the row packed from row 40 on. -/
theorem ld_rowB3 (x : Vec Ideal S72x128 .f32) : View.ld x rowB3 = fun y : S1x128.Idx => row 40 (by decide) x (col3.idx y) := by
  funext y
  have h0 : (y 0).val < 1 := (y 0).isLt
  have h1 : (y 1).val < 128 := (y 1).isLt
  refine congrArg x (funext fun a => ?_)
  match a with
  | ⟨0, _⟩ => exact Fin.ext (by show 43 + 1 * (y 0).val = 40 + (384 + 1 * (y 1).val) / 128; omega)
  | ⟨1, _⟩ => exact Fin.ext (by show 0 + 1 * (y 1).val = (384 + 1 * (y 1).val) % 128; omega)
/-- Row 44 of the packed array is piece 4 of the row packed from row 40 on. -/
theorem ld_rowB4 (x : Vec Ideal S72x128 .f32) : View.ld x rowB4 = fun y : S1x128.Idx => row 40 (by decide) x (col4.idx y) := by
  funext y
  have h0 : (y 0).val < 1 := (y 0).isLt
  have h1 : (y 1).val < 128 := (y 1).isLt
  refine congrArg x (funext fun a => ?_)
  match a with
  | ⟨0, _⟩ => exact Fin.ext (by show 44 + 1 * (y 0).val = 40 + (512 + 1 * (y 1).val) / 128; omega)
  | ⟨1, _⟩ => exact Fin.ext (by show 0 + 1 * (y 1).val = (512 + 1 * (y 1).val) % 128; omega)
/-- Row 45 of the packed array is piece 5 of the row packed from row 40 on. -/
theorem ld_rowB5 (x : Vec Ideal S72x128 .f32) : View.ld x rowB5 = fun y : S1x128.Idx => row 40 (by decide) x (col5.idx y) := by
  funext y
  have h0 : (y 0).val < 1 := (y 0).isLt
  have h1 : (y 1).val < 128 := (y 1).isLt
  refine congrArg x (funext fun a => ?_)
  match a with
  | ⟨0, _⟩ => exact Fin.ext (by show 45 + 1 * (y 0).val = 40 + (640 + 1 * (y 1).val) / 128; omega)
  | ⟨1, _⟩ => exact Fin.ext (by show 0 + 1 * (y 1).val = (640 + 1 * (y 1).val) % 128; omega)
/-- Row 46 of the packed array is piece 6 of the row packed from row 40 on. -/
theorem ld_rowB6 (x : Vec Ideal S72x128 .f32) : View.ld x rowB6 = fun y : S1x128.Idx => row 40 (by decide) x (col6.idx y) := by
  funext y
  have h0 : (y 0).val < 1 := (y 0).isLt
  have h1 : (y 1).val < 128 := (y 1).isLt
  refine congrArg x (funext fun a => ?_)
  match a with
  | ⟨0, _⟩ => exact Fin.ext (by show 46 + 1 * (y 0).val = 40 + (768 + 1 * (y 1).val) / 128; omega)
  | ⟨1, _⟩ => exact Fin.ext (by show 0 + 1 * (y 1).val = (768 + 1 * (y 1).val) % 128; omega)
/-- Row 47 of the packed array is piece 7 of the row packed from row 40 on. -/
theorem ld_rowB7 (x : Vec Ideal S72x128 .f32) : View.ld x rowB7 = fun y : S1x128.Idx => row 40 (by decide) x (col7.idx y) := by
  funext y
  have h0 : (y 0).val < 1 := (y 0).isLt
  have h1 : (y 1).val < 128 := (y 1).isLt
  refine congrArg x (funext fun a => ?_)
  match a with
  | ⟨0, _⟩ => exact Fin.ext (by show 47 + 1 * (y 0).val = 40 + (896 + 1 * (y 1).val) / 128; omega)
  | ⟨1, _⟩ => exact Fin.ext (by show 0 + 1 * (y 1).val = (896 + 1 * (y 1).val) % 128; omega)
/-- An array loaded whole is the array. -/
theorem ld_all1 (x : Vec Ideal S4x64 .f32) : View.ld x all1 = x := View.ld_unit_lit _ x (by decide)
/-- One piece of the whole shape is the array. -/
theorem canon_all1 (p : Vec Ideal S4x64 .f32) : View.canon ([⟨all1, p⟩] : List (View.Piece (Elt Ideal) S4x64 .f32)) = p :=
  View.canon_cons_unit_lit _ p [] (by decide)
/-- An array loaded whole is the array. -/
theorem ld_all2 (x : Vec Ideal S4x128 .f32) : View.ld x all2 = x := View.ld_unit_lit _ x (by decide)
/-- One piece of the whole shape is the array. -/
theorem canon_all2 (p : Vec Ideal S4x128 .f32) : View.canon ([⟨all2, p⟩] : List (View.Piece (Elt Ideal) S4x128 .f32)) = p :=
  View.canon_cons_unit_lit _ p [] (by decide)
/-- An array loaded whole is the array. -/
theorem ld_all3 (x : Vec Ideal S1x64 .f32) : View.ld x all3 = x := View.ld_unit_lit _ x (by decide)
/-- One piece of the whole shape is the array. -/
theorem canon_all3 (p : Vec Ideal S1x64 .f32) : View.canon ([⟨all3, p⟩] : List (View.Piece (Elt Ideal) S1x64 .f32)) = p :=
  View.canon_cons_unit_lit _ p [] (by decide)

/-- Weight 0's gradient, entry by entry. -/
theorem val26 (x0 : Vec Ideal S72x128 .f32) : out26 x0 = fun i : S1x1024.Idx => row 0 (by decide) x0 i := by
  refine row_canon _ _ _ _ _ _ _ _ _ ?_ ?_ ?_ ?_ ?_ ?_ ?_ ?_
  · intro y; simp only [k0_pay2, k0_pay3, k0_pay4, k0_pay5, k0_pay6, k0_pay7, k0_pay8, k0_pay9, shapeCast_self, ld_rowA7]
  · intro y; simp only [k0_pay2, k0_pay3, k0_pay4, k0_pay5, k0_pay6, k0_pay7, k0_pay8, k0_pay9, shapeCast_self, ld_rowA6]
  · intro y; simp only [k0_pay2, k0_pay3, k0_pay4, k0_pay5, k0_pay6, k0_pay7, k0_pay8, k0_pay9, shapeCast_self, ld_rowA5]
  · intro y; simp only [k0_pay2, k0_pay3, k0_pay4, k0_pay5, k0_pay6, k0_pay7, k0_pay8, k0_pay9, shapeCast_self, ld_rowA4]
  · intro y; simp only [k0_pay2, k0_pay3, k0_pay4, k0_pay5, k0_pay6, k0_pay7, k0_pay8, k0_pay9, shapeCast_self, ld_rowA3]
  · intro y; simp only [k0_pay2, k0_pay3, k0_pay4, k0_pay5, k0_pay6, k0_pay7, k0_pay8, k0_pay9, shapeCast_self, ld_rowA2]
  · intro y; simp only [k0_pay2, k0_pay3, k0_pay4, k0_pay5, k0_pay6, k0_pay7, k0_pay8, k0_pay9, shapeCast_self, ld_rowA1]
  · intro y; simp only [k0_pay2, k0_pay3, k0_pay4, k0_pay5, k0_pay6, k0_pay7, k0_pay8, k0_pay9, shapeCast_self, ld_rowA0]
/-- Weight 0's change, entry by entry. -/
theorem val27 (x0 : Vec Ideal S72x128 .f32) (x1 : Vec Ideal S1x1024 .f32) (x9 : Vec Ideal S1x1024 .f32) (x17 : Vec Ideal S1x1024 .f32) : out27 x0 x1 x9 x17 = fun i : S1x1024.Idx => delta (x1 i) (row 0 (by decide) x0 i) (x9 i) (x17 i) := by
  refine row_canon _ _ _ _ _ _ _ _ _ ?_ ?_ ?_ ?_ ?_ ?_ ?_ ?_
  · intro y; simp only [k0_pay2, k0_pay3, k0_pay4, k0_pay5, k0_pay6, k0_pay7, k0_pay8, k0_pay9, shapeCast_self, ld_rowA7]; rfl
  · intro y; simp only [k0_pay2, k0_pay3, k0_pay4, k0_pay5, k0_pay6, k0_pay7, k0_pay8, k0_pay9, shapeCast_self, ld_rowA6]; rfl
  · intro y; simp only [k0_pay2, k0_pay3, k0_pay4, k0_pay5, k0_pay6, k0_pay7, k0_pay8, k0_pay9, shapeCast_self, ld_rowA5]; rfl
  · intro y; simp only [k0_pay2, k0_pay3, k0_pay4, k0_pay5, k0_pay6, k0_pay7, k0_pay8, k0_pay9, shapeCast_self, ld_rowA4]; rfl
  · intro y; simp only [k0_pay2, k0_pay3, k0_pay4, k0_pay5, k0_pay6, k0_pay7, k0_pay8, k0_pay9, shapeCast_self, ld_rowA3]; rfl
  · intro y; simp only [k0_pay2, k0_pay3, k0_pay4, k0_pay5, k0_pay6, k0_pay7, k0_pay8, k0_pay9, shapeCast_self, ld_rowA2]; rfl
  · intro y; simp only [k0_pay2, k0_pay3, k0_pay4, k0_pay5, k0_pay6, k0_pay7, k0_pay8, k0_pay9, shapeCast_self, ld_rowA1]; rfl
  · intro y; simp only [k0_pay2, k0_pay3, k0_pay4, k0_pay5, k0_pay6, k0_pay7, k0_pay8, k0_pay9, shapeCast_self, ld_rowA0]; rfl
/-- Weight 0's new first moment, entry by entry. -/
theorem val28 (x0 : Vec Ideal S72x128 .f32) (x9 : Vec Ideal S1x1024 .f32) : out28 x0 x9 = fun i : S1x1024.Idx => newM (row 0 (by decide) x0 i) (x9 i) := by
  refine row_canon _ _ _ _ _ _ _ _ _ ?_ ?_ ?_ ?_ ?_ ?_ ?_ ?_
  · intro y; simp only [k0_pay2, k0_pay3, k0_pay4, k0_pay5, k0_pay6, k0_pay7, k0_pay8, k0_pay9, shapeCast_self, ld_rowA7]; rfl
  · intro y; simp only [k0_pay2, k0_pay3, k0_pay4, k0_pay5, k0_pay6, k0_pay7, k0_pay8, k0_pay9, shapeCast_self, ld_rowA6]; rfl
  · intro y; simp only [k0_pay2, k0_pay3, k0_pay4, k0_pay5, k0_pay6, k0_pay7, k0_pay8, k0_pay9, shapeCast_self, ld_rowA5]; rfl
  · intro y; simp only [k0_pay2, k0_pay3, k0_pay4, k0_pay5, k0_pay6, k0_pay7, k0_pay8, k0_pay9, shapeCast_self, ld_rowA4]; rfl
  · intro y; simp only [k0_pay2, k0_pay3, k0_pay4, k0_pay5, k0_pay6, k0_pay7, k0_pay8, k0_pay9, shapeCast_self, ld_rowA3]; rfl
  · intro y; simp only [k0_pay2, k0_pay3, k0_pay4, k0_pay5, k0_pay6, k0_pay7, k0_pay8, k0_pay9, shapeCast_self, ld_rowA2]; rfl
  · intro y; simp only [k0_pay2, k0_pay3, k0_pay4, k0_pay5, k0_pay6, k0_pay7, k0_pay8, k0_pay9, shapeCast_self, ld_rowA1]; rfl
  · intro y; simp only [k0_pay2, k0_pay3, k0_pay4, k0_pay5, k0_pay6, k0_pay7, k0_pay8, k0_pay9, shapeCast_self, ld_rowA0]; rfl
/-- Weight 0's new second moment, entry by entry. -/
theorem val29 (x0 : Vec Ideal S72x128 .f32) (x17 : Vec Ideal S1x1024 .f32) : out29 x0 x17 = fun i : S1x1024.Idx => newV (row 0 (by decide) x0 i) (x17 i) := by
  refine row_canon _ _ _ _ _ _ _ _ _ ?_ ?_ ?_ ?_ ?_ ?_ ?_ ?_
  · intro y; simp only [k0_pay2, k0_pay3, k0_pay4, k0_pay5, k0_pay6, k0_pay7, k0_pay8, k0_pay9, shapeCast_self, ld_rowA7]; rfl
  · intro y; simp only [k0_pay2, k0_pay3, k0_pay4, k0_pay5, k0_pay6, k0_pay7, k0_pay8, k0_pay9, shapeCast_self, ld_rowA6]; rfl
  · intro y; simp only [k0_pay2, k0_pay3, k0_pay4, k0_pay5, k0_pay6, k0_pay7, k0_pay8, k0_pay9, shapeCast_self, ld_rowA5]; rfl
  · intro y; simp only [k0_pay2, k0_pay3, k0_pay4, k0_pay5, k0_pay6, k0_pay7, k0_pay8, k0_pay9, shapeCast_self, ld_rowA4]; rfl
  · intro y; simp only [k0_pay2, k0_pay3, k0_pay4, k0_pay5, k0_pay6, k0_pay7, k0_pay8, k0_pay9, shapeCast_self, ld_rowA3]; rfl
  · intro y; simp only [k0_pay2, k0_pay3, k0_pay4, k0_pay5, k0_pay6, k0_pay7, k0_pay8, k0_pay9, shapeCast_self, ld_rowA2]; rfl
  · intro y; simp only [k0_pay2, k0_pay3, k0_pay4, k0_pay5, k0_pay6, k0_pay7, k0_pay8, k0_pay9, shapeCast_self, ld_rowA1]; rfl
  · intro y; simp only [k0_pay2, k0_pay3, k0_pay4, k0_pay5, k0_pay6, k0_pay7, k0_pay8, k0_pay9, shapeCast_self, ld_rowA0]; rfl
/-- Weight 1's gradient, entry by entry. -/
theorem val30 (x0 : Vec Ideal S72x128 .f32) : out30 x0 = fun i : S4x64.Idx => View.ld x0 part1 i := by
  refine (canon_all1 _).trans (funext fun i => ?_)
  simp only [k0_pay41, shapeCast_self]
/-- Weight 1's change, entry by entry. -/
theorem val31 (x0 : Vec Ideal S72x128 .f32) (x2 : Vec Ideal S4x64 .f32) (x10 : Vec Ideal S4x64 .f32) (x18 : Vec Ideal S4x64 .f32) : out31 x0 x2 x10 x18 = fun i : S4x64.Idx => delta (x2 i) (View.ld x0 part1 i) (x10 i) (x18 i) := by
  refine (canon_all1 _).trans (funext fun i => ?_)
  simp only [k0_pay41, k0_pay42, k0_pay43, k0_pay44, shapeCast_self, ld_all1]
  rfl
/-- Weight 1's new first moment, entry by entry. -/
theorem val32 (x0 : Vec Ideal S72x128 .f32) (x10 : Vec Ideal S4x64 .f32) : out32 x0 x10 = fun i : S4x64.Idx => newM (View.ld x0 part1 i) (x10 i) := by
  refine (canon_all1 _).trans (funext fun i => ?_)
  simp only [k0_pay41, k0_pay44, shapeCast_self, ld_all1]
  rfl
/-- Weight 1's new second moment, entry by entry. -/
theorem val33 (x0 : Vec Ideal S72x128 .f32) (x18 : Vec Ideal S4x64 .f32) : out33 x0 x18 = fun i : S4x64.Idx => newV (View.ld x0 part1 i) (x18 i) := by
  refine (canon_all1 _).trans (funext fun i => ?_)
  simp only [k0_pay41, k0_pay43, shapeCast_self, ld_all1]
  rfl
/-- Weight 2's gradient, entry by entry. -/
theorem val34 (x0 : Vec Ideal S72x128 .f32) : out34 x0 = fun i : S4x128.Idx => View.ld x0 part2 i := by
  refine (canon_all2 _).trans (funext fun i => ?_)
  simp only [k0_pay47, shapeCast_self]
/-- Weight 2's change, entry by entry. -/
theorem val35 (x0 : Vec Ideal S72x128 .f32) (x3 : Vec Ideal S4x128 .f32) (x11 : Vec Ideal S4x128 .f32) (x19 : Vec Ideal S4x128 .f32) : out35 x0 x3 x11 x19 = fun i : S4x128.Idx => delta (x3 i) (View.ld x0 part2 i) (x11 i) (x19 i) := by
  refine (canon_all2 _).trans (funext fun i => ?_)
  simp only [k0_pay47, k0_pay48, k0_pay49, k0_pay50, shapeCast_self, ld_all2]
  rfl
/-- Weight 2's new first moment, entry by entry. -/
theorem val36 (x0 : Vec Ideal S72x128 .f32) (x11 : Vec Ideal S4x128 .f32) : out36 x0 x11 = fun i : S4x128.Idx => newM (View.ld x0 part2 i) (x11 i) := by
  refine (canon_all2 _).trans (funext fun i => ?_)
  simp only [k0_pay47, k0_pay49, shapeCast_self, ld_all2]
  rfl
/-- Weight 2's new second moment, entry by entry. -/
theorem val37 (x0 : Vec Ideal S72x128 .f32) (x19 : Vec Ideal S4x128 .f32) : out37 x0 x19 = fun i : S4x128.Idx => newV (View.ld x0 part2 i) (x19 i) := by
  refine (canon_all2 _).trans (funext fun i => ?_)
  simp only [k0_pay47, k0_pay50, shapeCast_self, ld_all2]
  rfl
/-- Weight 3's gradient, entry by entry. -/
theorem val38 (x0 : Vec Ideal S72x128 .f32) : out38 x0 = fun i : S1x64.Idx => View.ld x0 part3 i := by
  refine (canon_all3 _).trans (funext fun i => ?_)
  simp only [k0_pay55, shapeCast_self]
/-- Weight 3's change, entry by entry. -/
theorem val39 (x0 : Vec Ideal S72x128 .f32) (x4 : Vec Ideal S1x64 .f32) (x12 : Vec Ideal S1x64 .f32) (x20 : Vec Ideal S1x64 .f32) : out39 x0 x4 x12 x20 = fun i : S1x64.Idx => delta (x4 i) (View.ld x0 part3 i) (x12 i) (x20 i) := by
  refine (canon_all3 _).trans (funext fun i => ?_)
  simp only [k0_pay55, shapeCast_self, ld_all3]
  rfl
/-- Weight 3's new first moment, entry by entry. -/
theorem val40 (x0 : Vec Ideal S72x128 .f32) (x12 : Vec Ideal S1x64 .f32) : out40 x0 x12 = fun i : S1x64.Idx => newM (View.ld x0 part3 i) (x12 i) := by
  refine (canon_all3 _).trans (funext fun i => ?_)
  simp only [k0_pay55, shapeCast_self, ld_all3]
  rfl
/-- Weight 3's new second moment, entry by entry. -/
theorem val41 (x0 : Vec Ideal S72x128 .f32) (x20 : Vec Ideal S1x64 .f32) : out41 x0 x20 = fun i : S1x64.Idx => newV (View.ld x0 part3 i) (x20 i) := by
  refine (canon_all3 _).trans (funext fun i => ?_)
  simp only [k0_pay55, shapeCast_self, ld_all3]
  rfl
/-- Weight 4's gradient, entry by entry. -/
theorem val42 (x0 : Vec Ideal S72x128 .f32) : out42 x0 = fun i : S1x64.Idx => View.ld x0 part4 i := by
  refine (canon_all3 _).trans (funext fun i => ?_)
  simp only [k0_pay59, shapeCast_self]
/-- Weight 4's change, entry by entry. -/
theorem val43 (x0 : Vec Ideal S72x128 .f32) (x5 : Vec Ideal S1x64 .f32) (x13 : Vec Ideal S1x64 .f32) (x21 : Vec Ideal S1x64 .f32) : out43 x0 x5 x13 x21 = fun i : S1x64.Idx => delta (x5 i) (View.ld x0 part4 i) (x13 i) (x21 i) := by
  refine (canon_all3 _).trans (funext fun i => ?_)
  simp only [k0_pay59, shapeCast_self, ld_all3]
  rfl
/-- Weight 4's new first moment, entry by entry. -/
theorem val44 (x0 : Vec Ideal S72x128 .f32) (x13 : Vec Ideal S1x64 .f32) : out44 x0 x13 = fun i : S1x64.Idx => newM (View.ld x0 part4 i) (x13 i) := by
  refine (canon_all3 _).trans (funext fun i => ?_)
  simp only [k0_pay59, shapeCast_self, ld_all3]
  rfl
/-- Weight 4's new second moment, entry by entry. -/
theorem val45 (x0 : Vec Ideal S72x128 .f32) (x21 : Vec Ideal S1x64 .f32) : out45 x0 x21 = fun i : S1x64.Idx => newV (View.ld x0 part4 i) (x21 i) := by
  refine (canon_all3 _).trans (funext fun i => ?_)
  simp only [k0_pay59, shapeCast_self, ld_all3]
  rfl
/-- Weight 5's gradient, entry by entry. -/
theorem val46 (x0 : Vec Ideal S72x128 .f32) : out46 x0 = fun i : S1x1024.Idx => row 40 (by decide) x0 i := by
  refine row_canon _ _ _ _ _ _ _ _ _ ?_ ?_ ?_ ?_ ?_ ?_ ?_ ?_
  · intro y; simp only [k0_pay63, k0_pay64, k0_pay65, k0_pay66, k0_pay67, k0_pay68, k0_pay69, k0_pay70, shapeCast_self, ld_rowB7]
  · intro y; simp only [k0_pay63, k0_pay64, k0_pay65, k0_pay66, k0_pay67, k0_pay68, k0_pay69, k0_pay70, shapeCast_self, ld_rowB6]
  · intro y; simp only [k0_pay63, k0_pay64, k0_pay65, k0_pay66, k0_pay67, k0_pay68, k0_pay69, k0_pay70, shapeCast_self, ld_rowB5]
  · intro y; simp only [k0_pay63, k0_pay64, k0_pay65, k0_pay66, k0_pay67, k0_pay68, k0_pay69, k0_pay70, shapeCast_self, ld_rowB4]
  · intro y; simp only [k0_pay63, k0_pay64, k0_pay65, k0_pay66, k0_pay67, k0_pay68, k0_pay69, k0_pay70, shapeCast_self, ld_rowB3]
  · intro y; simp only [k0_pay63, k0_pay64, k0_pay65, k0_pay66, k0_pay67, k0_pay68, k0_pay69, k0_pay70, shapeCast_self, ld_rowB2]
  · intro y; simp only [k0_pay63, k0_pay64, k0_pay65, k0_pay66, k0_pay67, k0_pay68, k0_pay69, k0_pay70, shapeCast_self, ld_rowB1]
  · intro y; simp only [k0_pay63, k0_pay64, k0_pay65, k0_pay66, k0_pay67, k0_pay68, k0_pay69, k0_pay70, shapeCast_self, ld_rowB0]
/-- Weight 5's change, entry by entry. -/
theorem val47 (x0 : Vec Ideal S72x128 .f32) (x6 : Vec Ideal S1x1024 .f32) (x14 : Vec Ideal S1x1024 .f32) (x22 : Vec Ideal S1x1024 .f32) : out47 x0 x6 x14 x22 = fun i : S1x1024.Idx => delta (x6 i) (row 40 (by decide) x0 i) (x14 i) (x22 i) := by
  refine row_canon _ _ _ _ _ _ _ _ _ ?_ ?_ ?_ ?_ ?_ ?_ ?_ ?_
  · intro y; simp only [k0_pay63, k0_pay64, k0_pay65, k0_pay66, k0_pay67, k0_pay68, k0_pay69, k0_pay70, shapeCast_self, ld_rowB7]; rfl
  · intro y; simp only [k0_pay63, k0_pay64, k0_pay65, k0_pay66, k0_pay67, k0_pay68, k0_pay69, k0_pay70, shapeCast_self, ld_rowB6]; rfl
  · intro y; simp only [k0_pay63, k0_pay64, k0_pay65, k0_pay66, k0_pay67, k0_pay68, k0_pay69, k0_pay70, shapeCast_self, ld_rowB5]; rfl
  · intro y; simp only [k0_pay63, k0_pay64, k0_pay65, k0_pay66, k0_pay67, k0_pay68, k0_pay69, k0_pay70, shapeCast_self, ld_rowB4]; rfl
  · intro y; simp only [k0_pay63, k0_pay64, k0_pay65, k0_pay66, k0_pay67, k0_pay68, k0_pay69, k0_pay70, shapeCast_self, ld_rowB3]; rfl
  · intro y; simp only [k0_pay63, k0_pay64, k0_pay65, k0_pay66, k0_pay67, k0_pay68, k0_pay69, k0_pay70, shapeCast_self, ld_rowB2]; rfl
  · intro y; simp only [k0_pay63, k0_pay64, k0_pay65, k0_pay66, k0_pay67, k0_pay68, k0_pay69, k0_pay70, shapeCast_self, ld_rowB1]; rfl
  · intro y; simp only [k0_pay63, k0_pay64, k0_pay65, k0_pay66, k0_pay67, k0_pay68, k0_pay69, k0_pay70, shapeCast_self, ld_rowB0]; rfl
/-- Weight 5's new first moment, entry by entry. -/
theorem val48 (x0 : Vec Ideal S72x128 .f32) (x14 : Vec Ideal S1x1024 .f32) : out48 x0 x14 = fun i : S1x1024.Idx => newM (row 40 (by decide) x0 i) (x14 i) := by
  refine row_canon _ _ _ _ _ _ _ _ _ ?_ ?_ ?_ ?_ ?_ ?_ ?_ ?_
  · intro y; simp only [k0_pay63, k0_pay64, k0_pay65, k0_pay66, k0_pay67, k0_pay68, k0_pay69, k0_pay70, shapeCast_self, ld_rowB7]; rfl
  · intro y; simp only [k0_pay63, k0_pay64, k0_pay65, k0_pay66, k0_pay67, k0_pay68, k0_pay69, k0_pay70, shapeCast_self, ld_rowB6]; rfl
  · intro y; simp only [k0_pay63, k0_pay64, k0_pay65, k0_pay66, k0_pay67, k0_pay68, k0_pay69, k0_pay70, shapeCast_self, ld_rowB5]; rfl
  · intro y; simp only [k0_pay63, k0_pay64, k0_pay65, k0_pay66, k0_pay67, k0_pay68, k0_pay69, k0_pay70, shapeCast_self, ld_rowB4]; rfl
  · intro y; simp only [k0_pay63, k0_pay64, k0_pay65, k0_pay66, k0_pay67, k0_pay68, k0_pay69, k0_pay70, shapeCast_self, ld_rowB3]; rfl
  · intro y; simp only [k0_pay63, k0_pay64, k0_pay65, k0_pay66, k0_pay67, k0_pay68, k0_pay69, k0_pay70, shapeCast_self, ld_rowB2]; rfl
  · intro y; simp only [k0_pay63, k0_pay64, k0_pay65, k0_pay66, k0_pay67, k0_pay68, k0_pay69, k0_pay70, shapeCast_self, ld_rowB1]; rfl
  · intro y; simp only [k0_pay63, k0_pay64, k0_pay65, k0_pay66, k0_pay67, k0_pay68, k0_pay69, k0_pay70, shapeCast_self, ld_rowB0]; rfl
/-- Weight 5's new second moment, entry by entry. -/
theorem val49 (x0 : Vec Ideal S72x128 .f32) (x22 : Vec Ideal S1x1024 .f32) : out49 x0 x22 = fun i : S1x1024.Idx => newV (row 40 (by decide) x0 i) (x22 i) := by
  refine row_canon _ _ _ _ _ _ _ _ _ ?_ ?_ ?_ ?_ ?_ ?_ ?_ ?_
  · intro y; simp only [k0_pay63, k0_pay64, k0_pay65, k0_pay66, k0_pay67, k0_pay68, k0_pay69, k0_pay70, shapeCast_self, ld_rowB7]; rfl
  · intro y; simp only [k0_pay63, k0_pay64, k0_pay65, k0_pay66, k0_pay67, k0_pay68, k0_pay69, k0_pay70, shapeCast_self, ld_rowB6]; rfl
  · intro y; simp only [k0_pay63, k0_pay64, k0_pay65, k0_pay66, k0_pay67, k0_pay68, k0_pay69, k0_pay70, shapeCast_self, ld_rowB5]; rfl
  · intro y; simp only [k0_pay63, k0_pay64, k0_pay65, k0_pay66, k0_pay67, k0_pay68, k0_pay69, k0_pay70, shapeCast_self, ld_rowB4]; rfl
  · intro y; simp only [k0_pay63, k0_pay64, k0_pay65, k0_pay66, k0_pay67, k0_pay68, k0_pay69, k0_pay70, shapeCast_self, ld_rowB3]; rfl
  · intro y; simp only [k0_pay63, k0_pay64, k0_pay65, k0_pay66, k0_pay67, k0_pay68, k0_pay69, k0_pay70, shapeCast_self, ld_rowB2]; rfl
  · intro y; simp only [k0_pay63, k0_pay64, k0_pay65, k0_pay66, k0_pay67, k0_pay68, k0_pay69, k0_pay70, shapeCast_self, ld_rowB1]; rfl
  · intro y; simp only [k0_pay63, k0_pay64, k0_pay65, k0_pay66, k0_pay67, k0_pay68, k0_pay69, k0_pay70, shapeCast_self, ld_rowB0]; rfl
/-- Weight 6's gradient, entry by entry. -/
theorem val50 (x0 : Vec Ideal S72x128 .f32) : out50 x0 = fun i : S1x64.Idx => View.ld x0 part6 i := by
  refine (canon_all3 _).trans (funext fun i => ?_)
  simp only [k0_pay100, shapeCast_self]
/-- Weight 6's change, entry by entry. -/
theorem val51 (x0 : Vec Ideal S72x128 .f32) (x7 : Vec Ideal S1x64 .f32) (x15 : Vec Ideal S1x64 .f32) (x23 : Vec Ideal S1x64 .f32) : out51 x0 x7 x15 x23 = fun i : S1x64.Idx => delta (x7 i) (View.ld x0 part6 i) (x15 i) (x23 i) := by
  refine (canon_all3 _).trans (funext fun i => ?_)
  simp only [k0_pay100, k0_pay101, k0_pay102, k0_pay103, shapeCast_self, ld_all3]
  rfl
/-- Weight 6's new first moment, entry by entry. -/
theorem val52 (x0 : Vec Ideal S72x128 .f32) (x15 : Vec Ideal S1x64 .f32) : out52 x0 x15 = fun i : S1x64.Idx => newM (View.ld x0 part6 i) (x15 i) := by
  refine (canon_all3 _).trans (funext fun i => ?_)
  simp only [k0_pay100, k0_pay101, shapeCast_self, ld_all3]
  rfl
/-- Weight 6's new second moment, entry by entry. -/
theorem val53 (x0 : Vec Ideal S72x128 .f32) (x23 : Vec Ideal S1x64 .f32) : out53 x0 x23 = fun i : S1x64.Idx => newV (View.ld x0 part6 i) (x23 i) := by
  refine (canon_all3 _).trans (funext fun i => ?_)
  simp only [k0_pay100, k0_pay102, shapeCast_self, ld_all3]
  rfl
/-- Weight 7's gradient, entry by entry. -/
theorem val54 (x0 : Vec Ideal S72x128 .f32) : out54 x0 = fun i : S1x64.Idx => View.ld x0 part7 i := by
  refine (canon_all3 _).trans (funext fun i => ?_)
  simp only [k0_pay104, shapeCast_self]
/-- Weight 7's change, entry by entry. -/
theorem val55 (x0 : Vec Ideal S72x128 .f32) (x8 : Vec Ideal S1x64 .f32) (x16 : Vec Ideal S1x64 .f32) (x24 : Vec Ideal S1x64 .f32) : out55 x0 x8 x16 x24 = fun i : S1x64.Idx => delta (x8 i) (View.ld x0 part7 i) (x16 i) (x24 i) := by
  refine (canon_all3 _).trans (funext fun i => ?_)
  simp only [k0_pay104, k0_pay105, k0_pay106, k0_pay107, shapeCast_self, ld_all3]
  rfl
/-- Weight 7's new first moment, entry by entry. -/
theorem val56 (x0 : Vec Ideal S72x128 .f32) (x16 : Vec Ideal S1x64 .f32) : out56 x0 x16 = fun i : S1x64.Idx => newM (View.ld x0 part7 i) (x16 i) := by
  refine (canon_all3 _).trans (funext fun i => ?_)
  simp only [k0_pay104, k0_pay105, shapeCast_self, ld_all3]
  rfl
/-- Weight 7's new second moment, entry by entry. -/
theorem val57 (x0 : Vec Ideal S72x128 .f32) (x24 : Vec Ideal S1x64 .f32) : out57 x0 x24 = fun i : S1x64.Idx => newV (View.ld x0 part7 i) (x24 i) := by
  refine (canon_all3 _).trans (funext fun i => ?_)
  simp only [k0_pay104, k0_pay106, shapeCast_self, ld_all3]
  rfl

end Proof.Tiny

end

end
-- ==== Proof.TinyHost.lean ====
module

public import proofs.«01_k».proof.Proof.TinyRun
public import proofs.«01_k».proof.Proof.TinyVals
public import Idealize.ShloMosaic.Lib.KernelVsHost

/-!
  What the host hands to the step on the eight small weights: the packed array holds each small gradient at its rows and the column
  sums of the squared errors in its last eight.
-/

@[expose] public section

set_option maxRecDepth 16384

noncomputable section

namespace Proof.Tiny

open Cert.Kernel8Ideal Cert.Kernel8Ideal.Gen
open Idealize.ShloMosaic Idealize.ShloMosaic.TcCoe Idealize.ShloMosaic.Pipeline

/-- Nine tiles of 8x128, one below the other. -/
def stack (p0 p1 p2 p3 p4 p5 p6 p7 p8 : Vec Ideal S8x128 .f32) : Vec Ideal S72x128 .f32 :=
  concatenate S72x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩]
    concatenates_S8x128_S8x128_S8x128_S8x128_S8x128_S8x128_S8x128_S8x128_S8x128_S72x128_d0

variable (p0 p1 p2 p3 p4 p5 p6 p7 p8 : Vec Ideal S8x128 .f32)

/-- The rows from 0 on are those of tile 0. -/
theorem stack0 (j : S72x128.Idx) (i : S8x128.Idx) (h0 : 0 + (i 0).val = (j 0).val) (h1 : (i 1).val = (j 1).val) :
    stack p0 p1 p2 p3 p4 p5 p6 p7 p8 j = p0 i := by
  unfold stack
  exact concatenate_apply_piece 0 _ _ j 0 (by show 0 < 9; decide) S8x128 p0 rfl rfl 0 rfl i
    (fun b hb => match b with | ⟨0, _⟩ => absurd rfl hb | ⟨1, _⟩ => h1) h0

/-- The rows from 8 on are those of tile 1. -/
theorem stack1 (j : S72x128.Idx) (i : S8x128.Idx) (h0 : 8 + (i 0).val = (j 0).val) (h1 : (i 1).val = (j 1).val) :
    stack p0 p1 p2 p3 p4 p5 p6 p7 p8 j = p1 i := by
  unfold stack
  exact concatenate_apply_piece 0 _ _ j 1 (by show 1 < 9; decide) S8x128 p1 rfl rfl 8 rfl i
    (fun b hb => match b with | ⟨0, _⟩ => absurd rfl hb | ⟨1, _⟩ => h1) h0

/-- The rows from 16 on are those of tile 2. -/
theorem stack2 (j : S72x128.Idx) (i : S8x128.Idx) (h0 : 16 + (i 0).val = (j 0).val) (h1 : (i 1).val = (j 1).val) :
    stack p0 p1 p2 p3 p4 p5 p6 p7 p8 j = p2 i := by
  unfold stack
  exact concatenate_apply_piece 0 _ _ j 2 (by show 2 < 9; decide) S8x128 p2 rfl rfl 16 rfl i
    (fun b hb => match b with | ⟨0, _⟩ => absurd rfl hb | ⟨1, _⟩ => h1) h0

/-- The rows from 24 on are those of tile 3. -/
theorem stack3 (j : S72x128.Idx) (i : S8x128.Idx) (h0 : 24 + (i 0).val = (j 0).val) (h1 : (i 1).val = (j 1).val) :
    stack p0 p1 p2 p3 p4 p5 p6 p7 p8 j = p3 i := by
  unfold stack
  exact concatenate_apply_piece 0 _ _ j 3 (by show 3 < 9; decide) S8x128 p3 rfl rfl 24 rfl i
    (fun b hb => match b with | ⟨0, _⟩ => absurd rfl hb | ⟨1, _⟩ => h1) h0

/-- The rows from 32 on are those of tile 4. -/
theorem stack4 (j : S72x128.Idx) (i : S8x128.Idx) (h0 : 32 + (i 0).val = (j 0).val) (h1 : (i 1).val = (j 1).val) :
    stack p0 p1 p2 p3 p4 p5 p6 p7 p8 j = p4 i := by
  unfold stack
  exact concatenate_apply_piece 0 _ _ j 4 (by show 4 < 9; decide) S8x128 p4 rfl rfl 32 rfl i
    (fun b hb => match b with | ⟨0, _⟩ => absurd rfl hb | ⟨1, _⟩ => h1) h0

/-- The rows from 40 on are those of tile 5. -/
theorem stack5 (j : S72x128.Idx) (i : S8x128.Idx) (h0 : 40 + (i 0).val = (j 0).val) (h1 : (i 1).val = (j 1).val) :
    stack p0 p1 p2 p3 p4 p5 p6 p7 p8 j = p5 i := by
  unfold stack
  exact concatenate_apply_piece 0 _ _ j 5 (by show 5 < 9; decide) S8x128 p5 rfl rfl 40 rfl i
    (fun b hb => match b with | ⟨0, _⟩ => absurd rfl hb | ⟨1, _⟩ => h1) h0

/-- The rows from 48 on are those of tile 6. -/
theorem stack6 (j : S72x128.Idx) (i : S8x128.Idx) (h0 : 48 + (i 0).val = (j 0).val) (h1 : (i 1).val = (j 1).val) :
    stack p0 p1 p2 p3 p4 p5 p6 p7 p8 j = p6 i := by
  unfold stack
  exact concatenate_apply_piece 0 _ _ j 6 (by show 6 < 9; decide) S8x128 p6 rfl rfl 48 rfl i
    (fun b hb => match b with | ⟨0, _⟩ => absurd rfl hb | ⟨1, _⟩ => h1) h0

/-- The rows from 56 on are those of tile 7. -/
theorem stack7 (j : S72x128.Idx) (i : S8x128.Idx) (h0 : 56 + (i 0).val = (j 0).val) (h1 : (i 1).val = (j 1).val) :
    stack p0 p1 p2 p3 p4 p5 p6 p7 p8 j = p7 i := by
  unfold stack
  exact concatenate_apply_piece 0 _ _ j 7 (by show 7 < 9; decide) S8x128 p7 rfl rfl 56 rfl i
    (fun b hb => match b with | ⟨0, _⟩ => absurd rfl hb | ⟨1, _⟩ => h1) h0

/-- The rows from 64 on are those of tile 8. -/
theorem stack8 (j : S72x128.Idx) (i : S8x128.Idx) (h0 : 64 + (i 0).val = (j 0).val) (h1 : (i 1).val = (j 1).val) :
    stack p0 p1 p2 p3 p4 p5 p6 p7 p8 j = p8 i := by
  unfold stack
  exact concatenate_apply_piece 0 _ _ j 8 (by show 8 < 9; decide) S8x128 p8 rfl rfl 64 rfl i
    (fun b hb => match b with | ⟨0, _⟩ => absurd rfl hb | ⟨1, _⟩ => h1) h0

/-- The value the host pads with. -/
def fill : FVec Ideal S_ .f32 := sitofp .f32 (constantI S_ 32 0#32)

/-- A row of 1024 as a tile. -/
def tileRow (x : Vec Ideal S1x1024 .f32) : Vec Ideal S8x128 .f32 :=
  pad S8x128 ![0, 0] ![0, 0] ![0, 0] (shapeCast S8x128 x shapeCasts_S1x1024_S8x128) fill pads_S8x128_S8x128_000_000 h_S_

/-- Four rows of 64 as a tile. -/
def tileGate (x : Vec Ideal S4x64 .f32) : Vec Ideal S8x128 .f32 :=
  pad S8x128 ![0, 0] ![4, 64] ![0, 0] x fill pads_S4x64_S8x128_040_0640 h_S_

/-- Four rows of 128 as a tile. -/
def tileWide (x : Vec Ideal S4x128 .f32) : Vec Ideal S8x128 .f32 :=
  pad S8x128 ![0, 0] ![4, 0] ![0, 0] x fill pads_S4x128_S8x128_040_000 h_S_

/-- One row of 64 as a tile. -/
def tileHead (x : Vec Ideal S1x64 .f32) : Vec Ideal S8x128 .f32 :=
  pad S8x128 ![0, 0] ![7, 64] ![0, 0] x fill pads_S1x64_S8x128_070_0640 h_S_

/-- The entry of a row of 1024 at column `i` stands in its tile at row `i / 128` and column `i % 128`. -/
theorem tileRow_at (x : Vec Ideal S1x1024 .f32) (j : S8x128.Idx) (i : S1x1024.Idx) (h : (j 0).val * 128 + (j 1).val = (i 1).val) :
    tileRow x j = x i := by
  have hi : (i 0).val < 1 := (i 0).isLt
  refine (pad_apply_of_inside _ _ _ _ _ _ _ j j (fun a => by match a with
    | ⟨0, _⟩ => show (j 0).val = 0 + (j 0).val * 1; omega
    | ⟨1, _⟩ => show (j 1).val = 0 + (j 1).val * 1; omega)).trans ?_
  refine shapeCast_apply _ _ j i ?_
  rw [Shape.rowMajor_val_two, Shape.rowMajor_val_two]
  show (i 0).val * 1024 + (i 1).val = (j 0).val * 128 + (j 1).val
  omega

/-- An entry of four rows of 64 stands at the same place in its tile. -/
theorem tileGate_at (x : Vec Ideal S4x64 .f32) (j : S8x128.Idx) (i : S4x64.Idx) (h0 : (j 0).val = (i 0).val) (h1 : (j 1).val = (i 1).val) :
    tileGate x j = x i :=
  pad_apply_of_inside _ _ _ _ _ _ _ j i (fun a => by match a with
    | ⟨0, _⟩ => show (j 0).val = 0 + (i 0).val * 1; omega
    | ⟨1, _⟩ => show (j 1).val = 0 + (i 1).val * 1; omega)

/-- An entry of four rows of 128 stands at the same place in its tile. -/
theorem tileWide_at (x : Vec Ideal S4x128 .f32) (j : S8x128.Idx) (i : S4x128.Idx) (h0 : (j 0).val = (i 0).val) (h1 : (j 1).val = (i 1).val) :
    tileWide x j = x i :=
  pad_apply_of_inside _ _ _ _ _ _ _ j i (fun a => by match a with
    | ⟨0, _⟩ => show (j 0).val = 0 + (i 0).val * 1; omega
    | ⟨1, _⟩ => show (j 1).val = 0 + (i 1).val * 1; omega)

/-- An entry of one row of 64 stands at the same place in its tile. -/
theorem tileHead_at (x : Vec Ideal S1x64 .f32) (j : S8x128.Idx) (i : S1x64.Idx) (h0 : (j 0).val = (i 0).val) (h1 : (j 1).val = (i 1).val) :
    tileHead x j = x i :=
  pad_apply_of_inside _ _ _ _ _ _ _ j i (fun a => by match a with
    | ⟨0, _⟩ => show (j 0).val = 0 + (i 0).val * 1; omega
    | ⟨1, _⟩ => show (j 1).val = 0 + (i 1).val * 1; omega)

/-- The row of 1024 read from row 0 on is the one tile 0 was made of. -/
theorem stack_row0 (x : Vec Ideal S1x1024 .f32) (h : p0 = tileRow x) : row 0 (by decide) (stack p0 p1 p2 p3 p4 p5 p6 p7 p8) = x := by
  funext i
  have hi : (i 1).val < 1024 := (i 1).isLt
  refine (stack0 p0 p1 p2 p3 p4 p5 p6 p7 p8 _ (fun a => match a with
    | ⟨0, _⟩ => ⟨(i 1).val / 128, by show _ < 8; omega⟩
    | ⟨1, _⟩ => ⟨(i 1).val % 128, Nat.mod_lt _ (by decide)⟩) rfl rfl).trans ?_
  rw [h]
  exact tileRow_at x _ i (by show (i 1).val / 128 * 128 + (i 1).val % 128 = (i 1).val; omega)

/-- The row of 1024 read from row 40 on is the one tile 5 was made of. -/
theorem stack_row40 (x : Vec Ideal S1x1024 .f32) (h : p5 = tileRow x) : row 40 (by decide) (stack p0 p1 p2 p3 p4 p5 p6 p7 p8) = x := by
  funext i
  have hi : (i 1).val < 1024 := (i 1).isLt
  refine (stack5 p0 p1 p2 p3 p4 p5 p6 p7 p8 _ (fun a => match a with
    | ⟨0, _⟩ => ⟨(i 1).val / 128, by show _ < 8; omega⟩
    | ⟨1, _⟩ => ⟨(i 1).val % 128, Nat.mod_lt _ (by decide)⟩) rfl rfl).trans ?_
  rw [h]
  exact tileRow_at x _ i (by show (i 1).val / 128 * 128 + (i 1).val % 128 = (i 1).val; omega)

/-- The rows read at the place of tile 1 are those the tile was made of. -/
theorem stack_part1 (x : Vec Ideal S4x64 .f32) (h : p1 = tileGate x) : View.ld (stack p0 p1 p2 p3 p4 p5 p6 p7 p8) part1 = x := by
  funext i
  have h0 : (i 0).val < 4 := (i 0).isLt
  have h1 : (i 1).val < 64 := (i 1).isLt
  refine (stack1 p0 p1 p2 p3 p4 p5 p6 p7 p8 _ (fun a => match a with
    | ⟨0, _⟩ => ⟨(i 0).val, by show _ < 8; omega⟩
    | ⟨1, _⟩ => ⟨(i 1).val, by show _ < 128; omega⟩)
    (by show 8 + (i 0).val = 8 + 1 * (i 0).val; omega) (by show (i 1).val = 0 + 1 * (i 1).val; omega)).trans ?_
  rw [h]
  exact tileGate_at x _ i rfl rfl

/-- The rows read at the place of tile 2 are those the tile was made of. -/
theorem stack_part2 (x : Vec Ideal S4x128 .f32) (h : p2 = tileWide x) : View.ld (stack p0 p1 p2 p3 p4 p5 p6 p7 p8) part2 = x := by
  funext i
  have h0 : (i 0).val < 4 := (i 0).isLt
  have h1 : (i 1).val < 128 := (i 1).isLt
  refine (stack2 p0 p1 p2 p3 p4 p5 p6 p7 p8 _ (fun a => match a with
    | ⟨0, _⟩ => ⟨(i 0).val, by show _ < 8; omega⟩
    | ⟨1, _⟩ => ⟨(i 1).val, by show _ < 128; omega⟩)
    (by show 16 + (i 0).val = 16 + 1 * (i 0).val; omega) (by show (i 1).val = 0 + 1 * (i 1).val; omega)).trans ?_
  rw [h]
  exact tileWide_at x _ i rfl rfl

/-- The rows read at the place of tile 3 are those the tile was made of. -/
theorem stack_part3 (x : Vec Ideal S1x64 .f32) (h : p3 = tileHead x) : View.ld (stack p0 p1 p2 p3 p4 p5 p6 p7 p8) part3 = x := by
  funext i
  have h0 : (i 0).val < 1 := (i 0).isLt
  have h1 : (i 1).val < 64 := (i 1).isLt
  refine (stack3 p0 p1 p2 p3 p4 p5 p6 p7 p8 _ (fun a => match a with
    | ⟨0, _⟩ => ⟨(i 0).val, by show _ < 8; omega⟩
    | ⟨1, _⟩ => ⟨(i 1).val, by show _ < 128; omega⟩)
    (by show 24 + (i 0).val = 24 + 1 * (i 0).val; omega) (by show (i 1).val = 0 + 1 * (i 1).val; omega)).trans ?_
  rw [h]
  exact tileHead_at x _ i rfl rfl

/-- The rows read at the place of tile 4 are those the tile was made of. -/
theorem stack_part4 (x : Vec Ideal S1x64 .f32) (h : p4 = tileHead x) : View.ld (stack p0 p1 p2 p3 p4 p5 p6 p7 p8) part4 = x := by
  funext i
  have h0 : (i 0).val < 1 := (i 0).isLt
  have h1 : (i 1).val < 64 := (i 1).isLt
  refine (stack4 p0 p1 p2 p3 p4 p5 p6 p7 p8 _ (fun a => match a with
    | ⟨0, _⟩ => ⟨(i 0).val, by show _ < 8; omega⟩
    | ⟨1, _⟩ => ⟨(i 1).val, by show _ < 128; omega⟩)
    (by show 32 + (i 0).val = 32 + 1 * (i 0).val; omega) (by show (i 1).val = 0 + 1 * (i 1).val; omega)).trans ?_
  rw [h]
  exact tileHead_at x _ i rfl rfl

/-- The rows read at the place of tile 6 are those the tile was made of. -/
theorem stack_part6 (x : Vec Ideal S1x64 .f32) (h : p6 = tileHead x) : View.ld (stack p0 p1 p2 p3 p4 p5 p6 p7 p8) part6 = x := by
  funext i
  have h0 : (i 0).val < 1 := (i 0).isLt
  have h1 : (i 1).val < 64 := (i 1).isLt
  refine (stack6 p0 p1 p2 p3 p4 p5 p6 p7 p8 _ (fun a => match a with
    | ⟨0, _⟩ => ⟨(i 0).val, by show _ < 8; omega⟩
    | ⟨1, _⟩ => ⟨(i 1).val, by show _ < 128; omega⟩)
    (by show 48 + (i 0).val = 48 + 1 * (i 0).val; omega) (by show (i 1).val = 0 + 1 * (i 1).val; omega)).trans ?_
  rw [h]
  exact tileHead_at x _ i rfl rfl

/-- The rows read at the place of tile 7 are those the tile was made of. -/
theorem stack_part7 (x : Vec Ideal S1x64 .f32) (h : p7 = tileHead x) : View.ld (stack p0 p1 p2 p3 p4 p5 p6 p7 p8) part7 = x := by
  funext i
  have h0 : (i 0).val < 1 := (i 0).isLt
  have h1 : (i 1).val < 64 := (i 1).isLt
  refine (stack7 p0 p1 p2 p3 p4 p5 p6 p7 p8 _ (fun a => match a with
    | ⟨0, _⟩ => ⟨(i 0).val, by show _ < 8; omega⟩
    | ⟨1, _⟩ => ⟨(i 1).val, by show _ < 128; omega⟩)
    (by show 56 + (i 0).val = 56 + 1 * (i 0).val; omega) (by show (i 1).val = 0 + 1 * (i 1).val; omega)).trans ?_
  rw [h]
  exact tileHead_at x _ i rfl rfl

/-- The last eight rows are the last tile. -/
theorem stack_tail : View.ld (stack p0 p1 p2 p3 p4 p5 p6 p7 p8) tail = p8 := by
  funext i
  exact stack8 p0 p1 p2 p3 p4 p5 p6 p7 p8 _ i
    (by show 64 + (i 0).val = 64 + 1 * (i 0).val; omega) (by show (i 1).val = 0 + 1 * (i 1).val; omega)

/-- The column sums of the squared errors, as a tile. -/
def tileSums (e : FVec Ideal S32768x1024 .f32) : FVec Ideal S8x128 .f32 :=
  shapeCast S8x128 (Host.reduceAdd (mulf e e) (constant S_ .f32 0x00000000#32) reducesTo_S32768x1024_S1024_d0 h_S_ : FVec Ideal S1024 .f32) shapeCasts_S1024_S8x128

variable (m : (ℓ : Loc nD τ sig) → Buf (Elt Ideal) ℓ) (c : Dev nD)

/-- The packed array the host makes. -/
theorem host_packed : V m c main_v15 = stack (tileRow (m ((c : Thread nD τ).loc main_arg1)))
    (tileGate (shapeCast S4x64 (m ((c : Thread nD τ).loc main_arg2)) shapeCasts_S1x4x64_S4x64))
    (tileWide (shapeCast S4x128 (m ((c : Thread nD τ).loc main_arg3)) shapeCasts_S1x4x128_S4x128))
    (tileHead (m ((c : Thread nD τ).loc main_arg4))) (tileHead (m ((c : Thread nD τ).loc main_arg5)))
    (tileRow (m ((c : Thread nD τ).loc main_arg6))) (tileHead (m ((c : Thread nD τ).loc main_arg7)))
    (tileHead (m ((c : Thread nD τ).loc main_arg8))) (tileSums (m ((c : Thread nD τ).loc main_arg0))) := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results
  rfl

/-- The host's value 16 is argument 10 without its unit axis. -/
theorem host_v16 : V m c main_v16 = shapeCast S4x64 (m ((c : Thread nD τ).loc main_arg10)) shapeCasts_S1x4x64_S4x64 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results
  rfl

/-- The host's value 17 is argument 11 without its unit axis. -/
theorem host_v17 : V m c main_v17 = shapeCast S4x128 (m ((c : Thread nD τ).loc main_arg11)) shapeCasts_S1x4x128_S4x128 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results
  rfl

/-- The host's value 18 is argument 18 without its unit axis. -/
theorem host_v18 : V m c main_v18 = shapeCast S4x64 (m ((c : Thread nD τ).loc main_arg18)) shapeCasts_S1x4x64_S4x64 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results
  rfl

/-- The host's value 19 is argument 19 without its unit axis. -/
theorem host_v19 : V m c main_v19 = shapeCast S4x128 (m ((c : Thread nD τ).loc main_arg19)) shapeCasts_S1x4x128_S4x128 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results
  rfl

/-- The host's value 20 is argument 26 without its unit axis. -/
theorem host_v20 : V m c main_v20 = shapeCast S4x64 (m ((c : Thread nD τ).loc main_arg26)) shapeCasts_S1x4x64_S4x64 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results
  rfl

/-- The host's value 21 is argument 27 without its unit axis. -/
theorem host_v21 : V m c main_v21 = shapeCast S4x128 (m ((c : Thread nD τ).loc main_arg27)) shapeCasts_S1x4x128_S4x128 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results
  rfl

end Proof.Tiny

end
-- ==== Proof.TinyArr.lean ====
module

public import proofs.«01_k».proof.Proof.TinyRun
public import proofs.«01_k».proof.Proof.TinyVals

/-!
  The arrays of the step on the eight small weights. The kernel has one point, where each array is one block: so each array it
  reads is the one the host hands over, and each result array ends at what the body leaves.
-/

@[expose] public section

set_option maxRecDepth 16384

noncomputable section

namespace Proof.Tiny

open Cert.Kernel8Ideal Cert.Kernel8Ideal.Gen
open Idealize.ShloMosaic Idealize.ShloMosaic.TcCoe Idealize.ShloMosaic.Pipeline

variable (m : (ℓ : Loc nD τ sig) → Buf (Elt Ideal) ℓ) (c : Dev nD)

/-- A coordinate in block 0 is the coordinate in the array. -/
theorem at_zero {k : ℕ} (s y : ℕ) (h : k = 0) : k * s + 1 * y = y := by rw [h]; omega

/-- A coordinate within the array's size is in block 0. -/
theorem in_zero {k : ℕ} (s y : ℕ) (h : k = 0) (hy : y < s) : k * s ≤ y ∧ y < k * s + s := by rw [h]; omega

/-- The one point. -/
def point : Fin cfg0.N := ⟨0, by rw [show cfg0.N = 1 from N_0]; decide⟩

/-- Array 0 has one block. -/
theorem idx0 : ∀ t : Fin cfg0.N, win0_0.index t 0 = 0 ∧ win0_0.index t 1 = 0 := (by decide +kernel : ∀ t : Fin grid0.N, _)
/-- Array 1 has one block. -/
theorem idx1 : ∀ t : Fin cfg0.N, win0_1.index t 0 = 0 ∧ win0_1.index t 1 = 0 := (by decide +kernel : ∀ t : Fin grid0.N, _)
/-- Array 2 has one block. -/
theorem idx2 : ∀ t : Fin cfg0.N, win0_2.index t 0 = 0 ∧ win0_2.index t 1 = 0 := (by decide +kernel : ∀ t : Fin grid0.N, _)
/-- Array 3 has one block. -/
theorem idx3 : ∀ t : Fin cfg0.N, win0_3.index t 0 = 0 ∧ win0_3.index t 1 = 0 := (by decide +kernel : ∀ t : Fin grid0.N, _)
/-- Array 4 has one block. -/
theorem idx4 : ∀ t : Fin cfg0.N, win0_4.index t 0 = 0 ∧ win0_4.index t 1 = 0 := (by decide +kernel : ∀ t : Fin grid0.N, _)
/-- Array 5 has one block. -/
theorem idx5 : ∀ t : Fin cfg0.N, win0_5.index t 0 = 0 ∧ win0_5.index t 1 = 0 := (by decide +kernel : ∀ t : Fin grid0.N, _)
/-- Array 6 has one block. -/
theorem idx6 : ∀ t : Fin cfg0.N, win0_6.index t 0 = 0 ∧ win0_6.index t 1 = 0 := (by decide +kernel : ∀ t : Fin grid0.N, _)
/-- Array 7 has one block. -/
theorem idx7 : ∀ t : Fin cfg0.N, win0_7.index t 0 = 0 ∧ win0_7.index t 1 = 0 := (by decide +kernel : ∀ t : Fin grid0.N, _)
/-- Array 8 has one block. -/
theorem idx8 : ∀ t : Fin cfg0.N, win0_8.index t 0 = 0 ∧ win0_8.index t 1 = 0 := (by decide +kernel : ∀ t : Fin grid0.N, _)
/-- Array 9 has one block. -/
theorem idx9 : ∀ t : Fin cfg0.N, win0_9.index t 0 = 0 ∧ win0_9.index t 1 = 0 := (by decide +kernel : ∀ t : Fin grid0.N, _)
/-- Array 10 has one block. -/
theorem idx10 : ∀ t : Fin cfg0.N, win0_10.index t 0 = 0 ∧ win0_10.index t 1 = 0 := (by decide +kernel : ∀ t : Fin grid0.N, _)
/-- Array 11 has one block. -/
theorem idx11 : ∀ t : Fin cfg0.N, win0_11.index t 0 = 0 ∧ win0_11.index t 1 = 0 := (by decide +kernel : ∀ t : Fin grid0.N, _)
/-- Array 12 has one block. -/
theorem idx12 : ∀ t : Fin cfg0.N, win0_12.index t 0 = 0 ∧ win0_12.index t 1 = 0 := (by decide +kernel : ∀ t : Fin grid0.N, _)
/-- Array 13 has one block. -/
theorem idx13 : ∀ t : Fin cfg0.N, win0_13.index t 0 = 0 ∧ win0_13.index t 1 = 0 := (by decide +kernel : ∀ t : Fin grid0.N, _)
/-- Array 14 has one block. -/
theorem idx14 : ∀ t : Fin cfg0.N, win0_14.index t 0 = 0 ∧ win0_14.index t 1 = 0 := (by decide +kernel : ∀ t : Fin grid0.N, _)
/-- Array 15 has one block. -/
theorem idx15 : ∀ t : Fin cfg0.N, win0_15.index t 0 = 0 ∧ win0_15.index t 1 = 0 := (by decide +kernel : ∀ t : Fin grid0.N, _)
/-- Array 16 has one block. -/
theorem idx16 : ∀ t : Fin cfg0.N, win0_16.index t 0 = 0 ∧ win0_16.index t 1 = 0 := (by decide +kernel : ∀ t : Fin grid0.N, _)
/-- Array 17 has one block. -/
theorem idx17 : ∀ t : Fin cfg0.N, win0_17.index t 0 = 0 ∧ win0_17.index t 1 = 0 := (by decide +kernel : ∀ t : Fin grid0.N, _)
/-- Array 18 has one block. -/
theorem idx18 : ∀ t : Fin cfg0.N, win0_18.index t 0 = 0 ∧ win0_18.index t 1 = 0 := (by decide +kernel : ∀ t : Fin grid0.N, _)
/-- Array 19 has one block. -/
theorem idx19 : ∀ t : Fin cfg0.N, win0_19.index t 0 = 0 ∧ win0_19.index t 1 = 0 := (by decide +kernel : ∀ t : Fin grid0.N, _)
/-- Array 20 has one block. -/
theorem idx20 : ∀ t : Fin cfg0.N, win0_20.index t 0 = 0 ∧ win0_20.index t 1 = 0 := (by decide +kernel : ∀ t : Fin grid0.N, _)
/-- Array 21 has one block. -/
theorem idx21 : ∀ t : Fin cfg0.N, win0_21.index t 0 = 0 ∧ win0_21.index t 1 = 0 := (by decide +kernel : ∀ t : Fin grid0.N, _)
/-- Array 22 has one block. -/
theorem idx22 : ∀ t : Fin cfg0.N, win0_22.index t 0 = 0 ∧ win0_22.index t 1 = 0 := (by decide +kernel : ∀ t : Fin grid0.N, _)
/-- Array 23 has one block. -/
theorem idx23 : ∀ t : Fin cfg0.N, win0_23.index t 0 = 0 ∧ win0_23.index t 1 = 0 := (by decide +kernel : ∀ t : Fin grid0.N, _)
/-- Array 24 has one block. -/
theorem idx24 : ∀ t : Fin cfg0.N, win0_24.index t 0 = 0 ∧ win0_24.index t 1 = 0 := (by decide +kernel : ∀ t : Fin grid0.N, _)
/-- Array 25 has one block. -/
theorem idx25 : ∀ t : Fin cfg0.N, win0_25.index t 0 = 0 ∧ win0_25.index t 1 = 0 := (by decide +kernel : ∀ t : Fin grid0.N, _)
/-- Array 26 has one block. -/
theorem idx26 : ∀ t : Fin cfg0.N, win0_26.index t 0 = 0 ∧ win0_26.index t 1 = 0 := (by decide +kernel : ∀ t : Fin grid0.N, _)
/-- Array 27 has one block. -/
theorem idx27 : ∀ t : Fin cfg0.N, win0_27.index t 0 = 0 ∧ win0_27.index t 1 = 0 := (by decide +kernel : ∀ t : Fin grid0.N, _)
/-- Array 28 has one block. -/
theorem idx28 : ∀ t : Fin cfg0.N, win0_28.index t 0 = 0 ∧ win0_28.index t 1 = 0 := (by decide +kernel : ∀ t : Fin grid0.N, _)
/-- Array 29 has one block. -/
theorem idx29 : ∀ t : Fin cfg0.N, win0_29.index t 0 = 0 ∧ win0_29.index t 1 = 0 := (by decide +kernel : ∀ t : Fin grid0.N, _)
/-- Array 30 has one block. -/
theorem idx30 : ∀ t : Fin cfg0.N, win0_30.index t 0 = 0 ∧ win0_30.index t 1 = 0 := (by decide +kernel : ∀ t : Fin grid0.N, _)
/-- Array 31 has one block. -/
theorem idx31 : ∀ t : Fin cfg0.N, win0_31.index t 0 = 0 ∧ win0_31.index t 1 = 0 := (by decide +kernel : ∀ t : Fin grid0.N, _)
/-- Array 32 has one block. -/
theorem idx32 : ∀ t : Fin cfg0.N, win0_32.index t 0 = 0 ∧ win0_32.index t 1 = 0 := (by decide +kernel : ∀ t : Fin grid0.N, _)
/-- Array 33 has one block. -/
theorem idx33 : ∀ t : Fin cfg0.N, win0_33.index t 0 = 0 ∧ win0_33.index t 1 = 0 := (by decide +kernel : ∀ t : Fin grid0.N, _)
/-- Array 34 has one block. -/
theorem idx34 : ∀ t : Fin cfg0.N, win0_34.index t 0 = 0 ∧ win0_34.index t 1 = 0 := (by decide +kernel : ∀ t : Fin grid0.N, _)
/-- Array 35 has one block. -/
theorem idx35 : ∀ t : Fin cfg0.N, win0_35.index t 0 = 0 ∧ win0_35.index t 1 = 0 := (by decide +kernel : ∀ t : Fin grid0.N, _)
/-- Array 36 has one block. -/
theorem idx36 : ∀ t : Fin cfg0.N, win0_36.index t 0 = 0 ∧ win0_36.index t 1 = 0 := (by decide +kernel : ∀ t : Fin grid0.N, _)
/-- Array 37 has one block. -/
theorem idx37 : ∀ t : Fin cfg0.N, win0_37.index t 0 = 0 ∧ win0_37.index t 1 = 0 := (by decide +kernel : ∀ t : Fin grid0.N, _)
/-- Array 38 has one block. -/
theorem idx38 : ∀ t : Fin cfg0.N, win0_38.index t 0 = 0 ∧ win0_38.index t 1 = 0 := (by decide +kernel : ∀ t : Fin grid0.N, _)
/-- Array 39 has one block. -/
theorem idx39 : ∀ t : Fin cfg0.N, win0_39.index t 0 = 0 ∧ win0_39.index t 1 = 0 := (by decide +kernel : ∀ t : Fin grid0.N, _)
/-- Array 40 has one block. -/
theorem idx40 : ∀ t : Fin cfg0.N, win0_40.index t 0 = 0 ∧ win0_40.index t 1 = 0 := (by decide +kernel : ∀ t : Fin grid0.N, _)
/-- Array 41 has one block. -/
theorem idx41 : ∀ t : Fin cfg0.N, win0_41.index t 0 = 0 ∧ win0_41.index t 1 = 0 := (by decide +kernel : ∀ t : Fin grid0.N, _)
/-- Array 42 has one block. -/
theorem idx42 : ∀ t : Fin cfg0.N, win0_42.index t 0 = 0 ∧ win0_42.index t 1 = 0 := (by decide +kernel : ∀ t : Fin grid0.N, _)
/-- Array 43 has one block. -/
theorem idx43 : ∀ t : Fin cfg0.N, win0_43.index t 0 = 0 ∧ win0_43.index t 1 = 0 := (by decide +kernel : ∀ t : Fin grid0.N, _)
/-- Array 44 has one block. -/
theorem idx44 : ∀ t : Fin cfg0.N, win0_44.index t 0 = 0 ∧ win0_44.index t 1 = 0 := (by decide +kernel : ∀ t : Fin grid0.N, _)
/-- Array 45 has one block. -/
theorem idx45 : ∀ t : Fin cfg0.N, win0_45.index t 0 = 0 ∧ win0_45.index t 1 = 0 := (by decide +kernel : ∀ t : Fin grid0.N, _)
/-- Array 46 has one block. -/
theorem idx46 : ∀ t : Fin cfg0.N, win0_46.index t 0 = 0 ∧ win0_46.index t 1 = 0 := (by decide +kernel : ∀ t : Fin grid0.N, _)
/-- Array 47 has one block. -/
theorem idx47 : ∀ t : Fin cfg0.N, win0_47.index t 0 = 0 ∧ win0_47.index t 1 = 0 := (by decide +kernel : ∀ t : Fin grid0.N, _)
/-- Array 48 has one block. -/
theorem idx48 : ∀ t : Fin cfg0.N, win0_48.index t 0 = 0 ∧ win0_48.index t 1 = 0 := (by decide +kernel : ∀ t : Fin grid0.N, _)
/-- Array 49 has one block. -/
theorem idx49 : ∀ t : Fin cfg0.N, win0_49.index t 0 = 0 ∧ win0_49.index t 1 = 0 := (by decide +kernel : ∀ t : Fin grid0.N, _)
/-- Array 50 has one block. -/
theorem idx50 : ∀ t : Fin cfg0.N, win0_50.index t 0 = 0 ∧ win0_50.index t 1 = 0 := (by decide +kernel : ∀ t : Fin grid0.N, _)
/-- Array 51 has one block. -/
theorem idx51 : ∀ t : Fin cfg0.N, win0_51.index t 0 = 0 ∧ win0_51.index t 1 = 0 := (by decide +kernel : ∀ t : Fin grid0.N, _)
/-- Array 52 has one block. -/
theorem idx52 : ∀ t : Fin cfg0.N, win0_52.index t 0 = 0 ∧ win0_52.index t 1 = 0 := (by decide +kernel : ∀ t : Fin grid0.N, _)
/-- Array 53 has one block. -/
theorem idx53 : ∀ t : Fin cfg0.N, win0_53.index t 0 = 0 ∧ win0_53.index t 1 = 0 := (by decide +kernel : ∀ t : Fin grid0.N, _)
/-- Array 54 has one block. -/
theorem idx54 : ∀ t : Fin cfg0.N, win0_54.index t 0 = 0 ∧ win0_54.index t 1 = 0 := (by decide +kernel : ∀ t : Fin grid0.N, _)
/-- Array 55 has one block. -/
theorem idx55 : ∀ t : Fin cfg0.N, win0_55.index t 0 = 0 ∧ win0_55.index t 1 = 0 := (by decide +kernel : ∀ t : Fin grid0.N, _)
/-- Array 56 has one block. -/
theorem idx56 : ∀ t : Fin cfg0.N, win0_56.index t 0 = 0 ∧ win0_56.index t 1 = 0 := (by decide +kernel : ∀ t : Fin grid0.N, _)
/-- Array 57 has one block. -/
theorem idx57 : ∀ t : Fin cfg0.N, win0_57.index t 0 = 0 ∧ win0_57.index t 1 = 0 := (by decide +kernel : ∀ t : Fin grid0.N, _)
/-- Array 0 as the body finds it is the array the host hands over. -/
theorem iblk0 (t : Fin cfg0.N) : (iblk m c 0 t : Vec Ideal S72x128 .f32) = V m c main_v15 := by
  funext y
  obtain ⟨a, b⟩ := idx0 t
  show V m c main_v15 _ = V m c main_v15 y
  refine congrArg (V m c main_v15) (funext fun x => ?_)
  match x with
  | ⟨0, _⟩ => exact Fin.ext (at_zero 72 (y 0).val a)
  | ⟨1, _⟩ => exact Fin.ext (at_zero 128 (y 1).val b)
/-- Array 1 as the body finds it is the array the host hands over. -/
theorem iblk1 (t : Fin cfg0.N) : (iblk m c 1 t : Vec Ideal S1x1024 .f32) = V m c main_arg9 := by
  funext y
  obtain ⟨a, b⟩ := idx1 t
  show V m c main_arg9 _ = V m c main_arg9 y
  refine congrArg (V m c main_arg9) (funext fun x => ?_)
  match x with
  | ⟨0, _⟩ => exact Fin.ext (at_zero 1 (y 0).val a)
  | ⟨1, _⟩ => exact Fin.ext (at_zero 1024 (y 1).val b)
/-- Array 2 as the body finds it is the array the host hands over. -/
theorem iblk2 (t : Fin cfg0.N) : (iblk m c 2 t : Vec Ideal S4x64 .f32) = V m c main_v16 := by
  funext y
  obtain ⟨a, b⟩ := idx2 t
  show V m c main_v16 _ = V m c main_v16 y
  refine congrArg (V m c main_v16) (funext fun x => ?_)
  match x with
  | ⟨0, _⟩ => exact Fin.ext (at_zero 4 (y 0).val a)
  | ⟨1, _⟩ => exact Fin.ext (at_zero 64 (y 1).val b)
/-- Array 3 as the body finds it is the array the host hands over. -/
theorem iblk3 (t : Fin cfg0.N) : (iblk m c 3 t : Vec Ideal S4x128 .f32) = V m c main_v17 := by
  funext y
  obtain ⟨a, b⟩ := idx3 t
  show V m c main_v17 _ = V m c main_v17 y
  refine congrArg (V m c main_v17) (funext fun x => ?_)
  match x with
  | ⟨0, _⟩ => exact Fin.ext (at_zero 4 (y 0).val a)
  | ⟨1, _⟩ => exact Fin.ext (at_zero 128 (y 1).val b)
/-- Array 4 as the body finds it is the array the host hands over. -/
theorem iblk4 (t : Fin cfg0.N) : (iblk m c 4 t : Vec Ideal S1x64 .f32) = V m c main_arg12 := by
  funext y
  obtain ⟨a, b⟩ := idx4 t
  show V m c main_arg12 _ = V m c main_arg12 y
  refine congrArg (V m c main_arg12) (funext fun x => ?_)
  match x with
  | ⟨0, _⟩ => exact Fin.ext (at_zero 1 (y 0).val a)
  | ⟨1, _⟩ => exact Fin.ext (at_zero 64 (y 1).val b)
/-- Array 5 as the body finds it is the array the host hands over. -/
theorem iblk5 (t : Fin cfg0.N) : (iblk m c 5 t : Vec Ideal S1x64 .f32) = V m c main_arg13 := by
  funext y
  obtain ⟨a, b⟩ := idx5 t
  show V m c main_arg13 _ = V m c main_arg13 y
  refine congrArg (V m c main_arg13) (funext fun x => ?_)
  match x with
  | ⟨0, _⟩ => exact Fin.ext (at_zero 1 (y 0).val a)
  | ⟨1, _⟩ => exact Fin.ext (at_zero 64 (y 1).val b)
/-- Array 6 as the body finds it is the array the host hands over. -/
theorem iblk6 (t : Fin cfg0.N) : (iblk m c 6 t : Vec Ideal S1x1024 .f32) = V m c main_arg14 := by
  funext y
  obtain ⟨a, b⟩ := idx6 t
  show V m c main_arg14 _ = V m c main_arg14 y
  refine congrArg (V m c main_arg14) (funext fun x => ?_)
  match x with
  | ⟨0, _⟩ => exact Fin.ext (at_zero 1 (y 0).val a)
  | ⟨1, _⟩ => exact Fin.ext (at_zero 1024 (y 1).val b)
/-- Array 7 as the body finds it is the array the host hands over. -/
theorem iblk7 (t : Fin cfg0.N) : (iblk m c 7 t : Vec Ideal S1x64 .f32) = V m c main_arg15 := by
  funext y
  obtain ⟨a, b⟩ := idx7 t
  show V m c main_arg15 _ = V m c main_arg15 y
  refine congrArg (V m c main_arg15) (funext fun x => ?_)
  match x with
  | ⟨0, _⟩ => exact Fin.ext (at_zero 1 (y 0).val a)
  | ⟨1, _⟩ => exact Fin.ext (at_zero 64 (y 1).val b)
/-- Array 8 as the body finds it is the array the host hands over. -/
theorem iblk8 (t : Fin cfg0.N) : (iblk m c 8 t : Vec Ideal S1x64 .f32) = V m c main_arg16 := by
  funext y
  obtain ⟨a, b⟩ := idx8 t
  show V m c main_arg16 _ = V m c main_arg16 y
  refine congrArg (V m c main_arg16) (funext fun x => ?_)
  match x with
  | ⟨0, _⟩ => exact Fin.ext (at_zero 1 (y 0).val a)
  | ⟨1, _⟩ => exact Fin.ext (at_zero 64 (y 1).val b)
/-- Array 9 as the body finds it is the array the host hands over. -/
theorem iblk9 (t : Fin cfg0.N) : (iblk m c 9 t : Vec Ideal S1x1024 .f32) = V m c main_arg17 := by
  funext y
  obtain ⟨a, b⟩ := idx9 t
  show V m c main_arg17 _ = V m c main_arg17 y
  refine congrArg (V m c main_arg17) (funext fun x => ?_)
  match x with
  | ⟨0, _⟩ => exact Fin.ext (at_zero 1 (y 0).val a)
  | ⟨1, _⟩ => exact Fin.ext (at_zero 1024 (y 1).val b)
/-- Array 10 as the body finds it is the array the host hands over. -/
theorem iblk10 (t : Fin cfg0.N) : (iblk m c 10 t : Vec Ideal S4x64 .f32) = V m c main_v18 := by
  funext y
  obtain ⟨a, b⟩ := idx10 t
  show V m c main_v18 _ = V m c main_v18 y
  refine congrArg (V m c main_v18) (funext fun x => ?_)
  match x with
  | ⟨0, _⟩ => exact Fin.ext (at_zero 4 (y 0).val a)
  | ⟨1, _⟩ => exact Fin.ext (at_zero 64 (y 1).val b)
/-- Array 11 as the body finds it is the array the host hands over. -/
theorem iblk11 (t : Fin cfg0.N) : (iblk m c 11 t : Vec Ideal S4x128 .f32) = V m c main_v19 := by
  funext y
  obtain ⟨a, b⟩ := idx11 t
  show V m c main_v19 _ = V m c main_v19 y
  refine congrArg (V m c main_v19) (funext fun x => ?_)
  match x with
  | ⟨0, _⟩ => exact Fin.ext (at_zero 4 (y 0).val a)
  | ⟨1, _⟩ => exact Fin.ext (at_zero 128 (y 1).val b)
/-- Array 12 as the body finds it is the array the host hands over. -/
theorem iblk12 (t : Fin cfg0.N) : (iblk m c 12 t : Vec Ideal S1x64 .f32) = V m c main_arg20 := by
  funext y
  obtain ⟨a, b⟩ := idx12 t
  show V m c main_arg20 _ = V m c main_arg20 y
  refine congrArg (V m c main_arg20) (funext fun x => ?_)
  match x with
  | ⟨0, _⟩ => exact Fin.ext (at_zero 1 (y 0).val a)
  | ⟨1, _⟩ => exact Fin.ext (at_zero 64 (y 1).val b)
/-- Array 13 as the body finds it is the array the host hands over. -/
theorem iblk13 (t : Fin cfg0.N) : (iblk m c 13 t : Vec Ideal S1x64 .f32) = V m c main_arg21 := by
  funext y
  obtain ⟨a, b⟩ := idx13 t
  show V m c main_arg21 _ = V m c main_arg21 y
  refine congrArg (V m c main_arg21) (funext fun x => ?_)
  match x with
  | ⟨0, _⟩ => exact Fin.ext (at_zero 1 (y 0).val a)
  | ⟨1, _⟩ => exact Fin.ext (at_zero 64 (y 1).val b)
/-- Array 14 as the body finds it is the array the host hands over. -/
theorem iblk14 (t : Fin cfg0.N) : (iblk m c 14 t : Vec Ideal S1x1024 .f32) = V m c main_arg22 := by
  funext y
  obtain ⟨a, b⟩ := idx14 t
  show V m c main_arg22 _ = V m c main_arg22 y
  refine congrArg (V m c main_arg22) (funext fun x => ?_)
  match x with
  | ⟨0, _⟩ => exact Fin.ext (at_zero 1 (y 0).val a)
  | ⟨1, _⟩ => exact Fin.ext (at_zero 1024 (y 1).val b)
/-- Array 15 as the body finds it is the array the host hands over. -/
theorem iblk15 (t : Fin cfg0.N) : (iblk m c 15 t : Vec Ideal S1x64 .f32) = V m c main_arg23 := by
  funext y
  obtain ⟨a, b⟩ := idx15 t
  show V m c main_arg23 _ = V m c main_arg23 y
  refine congrArg (V m c main_arg23) (funext fun x => ?_)
  match x with
  | ⟨0, _⟩ => exact Fin.ext (at_zero 1 (y 0).val a)
  | ⟨1, _⟩ => exact Fin.ext (at_zero 64 (y 1).val b)
/-- Array 16 as the body finds it is the array the host hands over. -/
theorem iblk16 (t : Fin cfg0.N) : (iblk m c 16 t : Vec Ideal S1x64 .f32) = V m c main_arg24 := by
  funext y
  obtain ⟨a, b⟩ := idx16 t
  show V m c main_arg24 _ = V m c main_arg24 y
  refine congrArg (V m c main_arg24) (funext fun x => ?_)
  match x with
  | ⟨0, _⟩ => exact Fin.ext (at_zero 1 (y 0).val a)
  | ⟨1, _⟩ => exact Fin.ext (at_zero 64 (y 1).val b)
/-- Array 17 as the body finds it is the array the host hands over. -/
theorem iblk17 (t : Fin cfg0.N) : (iblk m c 17 t : Vec Ideal S1x1024 .f32) = V m c main_arg25 := by
  funext y
  obtain ⟨a, b⟩ := idx17 t
  show V m c main_arg25 _ = V m c main_arg25 y
  refine congrArg (V m c main_arg25) (funext fun x => ?_)
  match x with
  | ⟨0, _⟩ => exact Fin.ext (at_zero 1 (y 0).val a)
  | ⟨1, _⟩ => exact Fin.ext (at_zero 1024 (y 1).val b)
/-- Array 18 as the body finds it is the array the host hands over. -/
theorem iblk18 (t : Fin cfg0.N) : (iblk m c 18 t : Vec Ideal S4x64 .f32) = V m c main_v20 := by
  funext y
  obtain ⟨a, b⟩ := idx18 t
  show V m c main_v20 _ = V m c main_v20 y
  refine congrArg (V m c main_v20) (funext fun x => ?_)
  match x with
  | ⟨0, _⟩ => exact Fin.ext (at_zero 4 (y 0).val a)
  | ⟨1, _⟩ => exact Fin.ext (at_zero 64 (y 1).val b)
/-- Array 19 as the body finds it is the array the host hands over. -/
theorem iblk19 (t : Fin cfg0.N) : (iblk m c 19 t : Vec Ideal S4x128 .f32) = V m c main_v21 := by
  funext y
  obtain ⟨a, b⟩ := idx19 t
  show V m c main_v21 _ = V m c main_v21 y
  refine congrArg (V m c main_v21) (funext fun x => ?_)
  match x with
  | ⟨0, _⟩ => exact Fin.ext (at_zero 4 (y 0).val a)
  | ⟨1, _⟩ => exact Fin.ext (at_zero 128 (y 1).val b)
/-- Array 20 as the body finds it is the array the host hands over. -/
theorem iblk20 (t : Fin cfg0.N) : (iblk m c 20 t : Vec Ideal S1x64 .f32) = V m c main_arg28 := by
  funext y
  obtain ⟨a, b⟩ := idx20 t
  show V m c main_arg28 _ = V m c main_arg28 y
  refine congrArg (V m c main_arg28) (funext fun x => ?_)
  match x with
  | ⟨0, _⟩ => exact Fin.ext (at_zero 1 (y 0).val a)
  | ⟨1, _⟩ => exact Fin.ext (at_zero 64 (y 1).val b)
/-- Array 21 as the body finds it is the array the host hands over. -/
theorem iblk21 (t : Fin cfg0.N) : (iblk m c 21 t : Vec Ideal S1x64 .f32) = V m c main_arg29 := by
  funext y
  obtain ⟨a, b⟩ := idx21 t
  show V m c main_arg29 _ = V m c main_arg29 y
  refine congrArg (V m c main_arg29) (funext fun x => ?_)
  match x with
  | ⟨0, _⟩ => exact Fin.ext (at_zero 1 (y 0).val a)
  | ⟨1, _⟩ => exact Fin.ext (at_zero 64 (y 1).val b)
/-- Array 22 as the body finds it is the array the host hands over. -/
theorem iblk22 (t : Fin cfg0.N) : (iblk m c 22 t : Vec Ideal S1x1024 .f32) = V m c main_arg30 := by
  funext y
  obtain ⟨a, b⟩ := idx22 t
  show V m c main_arg30 _ = V m c main_arg30 y
  refine congrArg (V m c main_arg30) (funext fun x => ?_)
  match x with
  | ⟨0, _⟩ => exact Fin.ext (at_zero 1 (y 0).val a)
  | ⟨1, _⟩ => exact Fin.ext (at_zero 1024 (y 1).val b)
/-- Array 23 as the body finds it is the array the host hands over. -/
theorem iblk23 (t : Fin cfg0.N) : (iblk m c 23 t : Vec Ideal S1x64 .f32) = V m c main_arg31 := by
  funext y
  obtain ⟨a, b⟩ := idx23 t
  show V m c main_arg31 _ = V m c main_arg31 y
  refine congrArg (V m c main_arg31) (funext fun x => ?_)
  match x with
  | ⟨0, _⟩ => exact Fin.ext (at_zero 1 (y 0).val a)
  | ⟨1, _⟩ => exact Fin.ext (at_zero 64 (y 1).val b)
/-- Array 24 as the body finds it is the array the host hands over. -/
theorem iblk24 (t : Fin cfg0.N) : (iblk m c 24 t : Vec Ideal S1x64 .f32) = V m c main_arg32 := by
  funext y
  obtain ⟨a, b⟩ := idx24 t
  show V m c main_arg32 _ = V m c main_arg32 y
  refine congrArg (V m c main_arg32) (funext fun x => ?_)
  match x with
  | ⟨0, _⟩ => exact Fin.ext (at_zero 1 (y 0).val a)
  | ⟨1, _⟩ => exact Fin.ext (at_zero 64 (y 1).val b)
/-- Result array 25 after the kernel. -/
theorem end25 : (dats m 0 c).arrAt 25 cfg0.N = (out25 (V m c main_v15) : S1x1.Idx → EReal) := by
  refine (dats m 0 c).arrAt_eq_of_cover 25 (_ : S1x1.Idx → EReal) (fun t _ => ?_) fun i => ?_
  · show (cfg0.win 25).cut (grid0.coords t) ((dats m 0 c).after 25 t) = _
    rw [after_25, iblk0]
    funext y
    obtain ⟨a, b⟩ := idx25 t
    generalize out25 (V m c main_v15) = f
    refine congrArg f (funext fun x => ?_)
    match x with
    | ⟨0, _⟩ => exact Fin.ext (at_zero 1 (y 0).val a).symm
    | ⟨1, _⟩ => exact Fin.ext (at_zero 1 (y 1).val b).symm
  · obtain ⟨a, b⟩ := idx25 point
    refine ⟨point, flush0_25 _, ?_⟩
    show i ∈ ((View.whole main_v22_0).slice (win0_25.rect point)).set
    rw [View.set_slice_whole, Rect.mem_set_unit]
    intro x
    match x with
    | ⟨0, _⟩ => exact in_zero 1 (i 0).val a (i 0).isLt
    | ⟨1, _⟩ => exact in_zero 1 (i 1).val b (i 1).isLt
/-- Result array 26 after the kernel. -/
theorem end26 : (dats m 0 c).arrAt 26 cfg0.N = (out26 (V m c main_v15) : S1x1024.Idx → EReal) := by
  refine (dats m 0 c).arrAt_eq_of_cover 26 (_ : S1x1024.Idx → EReal) (fun t _ => ?_) fun i => ?_
  · show (cfg0.win 26).cut (grid0.coords t) ((dats m 0 c).after 26 t) = _
    rw [after_26, iblk0]
    funext y
    obtain ⟨a, b⟩ := idx26 t
    generalize out26 (V m c main_v15) = f
    refine congrArg f (funext fun x => ?_)
    match x with
    | ⟨0, _⟩ => exact Fin.ext (at_zero 1 (y 0).val a).symm
    | ⟨1, _⟩ => exact Fin.ext (at_zero 1024 (y 1).val b).symm
  · obtain ⟨a, b⟩ := idx26 point
    refine ⟨point, flush0_26 _, ?_⟩
    show i ∈ ((View.whole main_v22_1).slice (win0_26.rect point)).set
    rw [View.set_slice_whole, Rect.mem_set_unit]
    intro x
    match x with
    | ⟨0, _⟩ => exact in_zero 1 (i 0).val a (i 0).isLt
    | ⟨1, _⟩ => exact in_zero 1024 (i 1).val b (i 1).isLt
/-- Result array 27 after the kernel. -/
theorem end27 : (dats m 0 c).arrAt 27 cfg0.N = (out27 (V m c main_v15) (V m c main_arg9) (V m c main_arg17) (V m c main_arg25) : S1x1024.Idx → EReal) := by
  refine (dats m 0 c).arrAt_eq_of_cover 27 (_ : S1x1024.Idx → EReal) (fun t _ => ?_) fun i => ?_
  · show (cfg0.win 27).cut (grid0.coords t) ((dats m 0 c).after 27 t) = _
    rw [after_27, iblk0, iblk1, iblk9, iblk17]
    funext y
    obtain ⟨a, b⟩ := idx27 t
    generalize out27 (V m c main_v15) (V m c main_arg9) (V m c main_arg17) (V m c main_arg25) = f
    refine congrArg f (funext fun x => ?_)
    match x with
    | ⟨0, _⟩ => exact Fin.ext (at_zero 1 (y 0).val a).symm
    | ⟨1, _⟩ => exact Fin.ext (at_zero 1024 (y 1).val b).symm
  · obtain ⟨a, b⟩ := idx27 point
    refine ⟨point, flush0_27 _, ?_⟩
    show i ∈ ((View.whole main_v22_2).slice (win0_27.rect point)).set
    rw [View.set_slice_whole, Rect.mem_set_unit]
    intro x
    match x with
    | ⟨0, _⟩ => exact in_zero 1 (i 0).val a (i 0).isLt
    | ⟨1, _⟩ => exact in_zero 1024 (i 1).val b (i 1).isLt
/-- Result array 28 after the kernel. -/
theorem end28 : (dats m 0 c).arrAt 28 cfg0.N = (out28 (V m c main_v15) (V m c main_arg17) : S1x1024.Idx → EReal) := by
  refine (dats m 0 c).arrAt_eq_of_cover 28 (_ : S1x1024.Idx → EReal) (fun t _ => ?_) fun i => ?_
  · show (cfg0.win 28).cut (grid0.coords t) ((dats m 0 c).after 28 t) = _
    rw [after_28, iblk0, iblk9]
    funext y
    obtain ⟨a, b⟩ := idx28 t
    generalize out28 (V m c main_v15) (V m c main_arg17) = f
    refine congrArg f (funext fun x => ?_)
    match x with
    | ⟨0, _⟩ => exact Fin.ext (at_zero 1 (y 0).val a).symm
    | ⟨1, _⟩ => exact Fin.ext (at_zero 1024 (y 1).val b).symm
  · obtain ⟨a, b⟩ := idx28 point
    refine ⟨point, flush0_28 _, ?_⟩
    show i ∈ ((View.whole main_v22_3).slice (win0_28.rect point)).set
    rw [View.set_slice_whole, Rect.mem_set_unit]
    intro x
    match x with
    | ⟨0, _⟩ => exact in_zero 1 (i 0).val a (i 0).isLt
    | ⟨1, _⟩ => exact in_zero 1024 (i 1).val b (i 1).isLt
/-- Result array 29 after the kernel. -/
theorem end29 : (dats m 0 c).arrAt 29 cfg0.N = (out29 (V m c main_v15) (V m c main_arg25) : S1x1024.Idx → EReal) := by
  refine (dats m 0 c).arrAt_eq_of_cover 29 (_ : S1x1024.Idx → EReal) (fun t _ => ?_) fun i => ?_
  · show (cfg0.win 29).cut (grid0.coords t) ((dats m 0 c).after 29 t) = _
    rw [after_29, iblk0, iblk17]
    funext y
    obtain ⟨a, b⟩ := idx29 t
    generalize out29 (V m c main_v15) (V m c main_arg25) = f
    refine congrArg f (funext fun x => ?_)
    match x with
    | ⟨0, _⟩ => exact Fin.ext (at_zero 1 (y 0).val a).symm
    | ⟨1, _⟩ => exact Fin.ext (at_zero 1024 (y 1).val b).symm
  · obtain ⟨a, b⟩ := idx29 point
    refine ⟨point, flush0_29 _, ?_⟩
    show i ∈ ((View.whole main_v22_4).slice (win0_29.rect point)).set
    rw [View.set_slice_whole, Rect.mem_set_unit]
    intro x
    match x with
    | ⟨0, _⟩ => exact in_zero 1 (i 0).val a (i 0).isLt
    | ⟨1, _⟩ => exact in_zero 1024 (i 1).val b (i 1).isLt
/-- Result array 30 after the kernel. -/
theorem end30 : (dats m 0 c).arrAt 30 cfg0.N = (out30 (V m c main_v15) : S4x64.Idx → EReal) := by
  refine (dats m 0 c).arrAt_eq_of_cover 30 (_ : S4x64.Idx → EReal) (fun t _ => ?_) fun i => ?_
  · show (cfg0.win 30).cut (grid0.coords t) ((dats m 0 c).after 30 t) = _
    rw [after_30, iblk0]
    funext y
    obtain ⟨a, b⟩ := idx30 t
    generalize out30 (V m c main_v15) = f
    refine congrArg f (funext fun x => ?_)
    match x with
    | ⟨0, _⟩ => exact Fin.ext (at_zero 4 (y 0).val a).symm
    | ⟨1, _⟩ => exact Fin.ext (at_zero 64 (y 1).val b).symm
  · obtain ⟨a, b⟩ := idx30 point
    refine ⟨point, flush0_30 _, ?_⟩
    show i ∈ ((View.whole main_v22_5).slice (win0_30.rect point)).set
    rw [View.set_slice_whole, Rect.mem_set_unit]
    intro x
    match x with
    | ⟨0, _⟩ => exact in_zero 4 (i 0).val a (i 0).isLt
    | ⟨1, _⟩ => exact in_zero 64 (i 1).val b (i 1).isLt
/-- Result array 31 after the kernel. -/
theorem end31 : (dats m 0 c).arrAt 31 cfg0.N = (out31 (V m c main_v15) (V m c main_v16) (V m c main_v18) (V m c main_v20) : S4x64.Idx → EReal) := by
  refine (dats m 0 c).arrAt_eq_of_cover 31 (_ : S4x64.Idx → EReal) (fun t _ => ?_) fun i => ?_
  · show (cfg0.win 31).cut (grid0.coords t) ((dats m 0 c).after 31 t) = _
    rw [after_31, iblk0, iblk2, iblk10, iblk18]
    funext y
    obtain ⟨a, b⟩ := idx31 t
    generalize out31 (V m c main_v15) (V m c main_v16) (V m c main_v18) (V m c main_v20) = f
    refine congrArg f (funext fun x => ?_)
    match x with
    | ⟨0, _⟩ => exact Fin.ext (at_zero 4 (y 0).val a).symm
    | ⟨1, _⟩ => exact Fin.ext (at_zero 64 (y 1).val b).symm
  · obtain ⟨a, b⟩ := idx31 point
    refine ⟨point, flush0_31 _, ?_⟩
    show i ∈ ((View.whole main_v22_6).slice (win0_31.rect point)).set
    rw [View.set_slice_whole, Rect.mem_set_unit]
    intro x
    match x with
    | ⟨0, _⟩ => exact in_zero 4 (i 0).val a (i 0).isLt
    | ⟨1, _⟩ => exact in_zero 64 (i 1).val b (i 1).isLt
/-- Result array 32 after the kernel. -/
theorem end32 : (dats m 0 c).arrAt 32 cfg0.N = (out32 (V m c main_v15) (V m c main_v18) : S4x64.Idx → EReal) := by
  refine (dats m 0 c).arrAt_eq_of_cover 32 (_ : S4x64.Idx → EReal) (fun t _ => ?_) fun i => ?_
  · show (cfg0.win 32).cut (grid0.coords t) ((dats m 0 c).after 32 t) = _
    rw [after_32, iblk0, iblk10]
    funext y
    obtain ⟨a, b⟩ := idx32 t
    generalize out32 (V m c main_v15) (V m c main_v18) = f
    refine congrArg f (funext fun x => ?_)
    match x with
    | ⟨0, _⟩ => exact Fin.ext (at_zero 4 (y 0).val a).symm
    | ⟨1, _⟩ => exact Fin.ext (at_zero 64 (y 1).val b).symm
  · obtain ⟨a, b⟩ := idx32 point
    refine ⟨point, flush0_32 _, ?_⟩
    show i ∈ ((View.whole main_v22_7).slice (win0_32.rect point)).set
    rw [View.set_slice_whole, Rect.mem_set_unit]
    intro x
    match x with
    | ⟨0, _⟩ => exact in_zero 4 (i 0).val a (i 0).isLt
    | ⟨1, _⟩ => exact in_zero 64 (i 1).val b (i 1).isLt
/-- Result array 33 after the kernel. -/
theorem end33 : (dats m 0 c).arrAt 33 cfg0.N = (out33 (V m c main_v15) (V m c main_v20) : S4x64.Idx → EReal) := by
  refine (dats m 0 c).arrAt_eq_of_cover 33 (_ : S4x64.Idx → EReal) (fun t _ => ?_) fun i => ?_
  · show (cfg0.win 33).cut (grid0.coords t) ((dats m 0 c).after 33 t) = _
    rw [after_33, iblk0, iblk18]
    funext y
    obtain ⟨a, b⟩ := idx33 t
    generalize out33 (V m c main_v15) (V m c main_v20) = f
    refine congrArg f (funext fun x => ?_)
    match x with
    | ⟨0, _⟩ => exact Fin.ext (at_zero 4 (y 0).val a).symm
    | ⟨1, _⟩ => exact Fin.ext (at_zero 64 (y 1).val b).symm
  · obtain ⟨a, b⟩ := idx33 point
    refine ⟨point, flush0_33 _, ?_⟩
    show i ∈ ((View.whole main_v22_8).slice (win0_33.rect point)).set
    rw [View.set_slice_whole, Rect.mem_set_unit]
    intro x
    match x with
    | ⟨0, _⟩ => exact in_zero 4 (i 0).val a (i 0).isLt
    | ⟨1, _⟩ => exact in_zero 64 (i 1).val b (i 1).isLt
/-- Result array 34 after the kernel. -/
theorem end34 : (dats m 0 c).arrAt 34 cfg0.N = (out34 (V m c main_v15) : S4x128.Idx → EReal) := by
  refine (dats m 0 c).arrAt_eq_of_cover 34 (_ : S4x128.Idx → EReal) (fun t _ => ?_) fun i => ?_
  · show (cfg0.win 34).cut (grid0.coords t) ((dats m 0 c).after 34 t) = _
    rw [after_34, iblk0]
    funext y
    obtain ⟨a, b⟩ := idx34 t
    generalize out34 (V m c main_v15) = f
    refine congrArg f (funext fun x => ?_)
    match x with
    | ⟨0, _⟩ => exact Fin.ext (at_zero 4 (y 0).val a).symm
    | ⟨1, _⟩ => exact Fin.ext (at_zero 128 (y 1).val b).symm
  · obtain ⟨a, b⟩ := idx34 point
    refine ⟨point, flush0_34 _, ?_⟩
    show i ∈ ((View.whole main_v22_9).slice (win0_34.rect point)).set
    rw [View.set_slice_whole, Rect.mem_set_unit]
    intro x
    match x with
    | ⟨0, _⟩ => exact in_zero 4 (i 0).val a (i 0).isLt
    | ⟨1, _⟩ => exact in_zero 128 (i 1).val b (i 1).isLt
/-- Result array 35 after the kernel. -/
theorem end35 : (dats m 0 c).arrAt 35 cfg0.N = (out35 (V m c main_v15) (V m c main_v17) (V m c main_v19) (V m c main_v21) : S4x128.Idx → EReal) := by
  refine (dats m 0 c).arrAt_eq_of_cover 35 (_ : S4x128.Idx → EReal) (fun t _ => ?_) fun i => ?_
  · show (cfg0.win 35).cut (grid0.coords t) ((dats m 0 c).after 35 t) = _
    rw [after_35, iblk0, iblk3, iblk11, iblk19]
    funext y
    obtain ⟨a, b⟩ := idx35 t
    generalize out35 (V m c main_v15) (V m c main_v17) (V m c main_v19) (V m c main_v21) = f
    refine congrArg f (funext fun x => ?_)
    match x with
    | ⟨0, _⟩ => exact Fin.ext (at_zero 4 (y 0).val a).symm
    | ⟨1, _⟩ => exact Fin.ext (at_zero 128 (y 1).val b).symm
  · obtain ⟨a, b⟩ := idx35 point
    refine ⟨point, flush0_35 _, ?_⟩
    show i ∈ ((View.whole main_v22_10).slice (win0_35.rect point)).set
    rw [View.set_slice_whole, Rect.mem_set_unit]
    intro x
    match x with
    | ⟨0, _⟩ => exact in_zero 4 (i 0).val a (i 0).isLt
    | ⟨1, _⟩ => exact in_zero 128 (i 1).val b (i 1).isLt
/-- Result array 36 after the kernel. -/
theorem end36 : (dats m 0 c).arrAt 36 cfg0.N = (out36 (V m c main_v15) (V m c main_v19) : S4x128.Idx → EReal) := by
  refine (dats m 0 c).arrAt_eq_of_cover 36 (_ : S4x128.Idx → EReal) (fun t _ => ?_) fun i => ?_
  · show (cfg0.win 36).cut (grid0.coords t) ((dats m 0 c).after 36 t) = _
    rw [after_36, iblk0, iblk11]
    funext y
    obtain ⟨a, b⟩ := idx36 t
    generalize out36 (V m c main_v15) (V m c main_v19) = f
    refine congrArg f (funext fun x => ?_)
    match x with
    | ⟨0, _⟩ => exact Fin.ext (at_zero 4 (y 0).val a).symm
    | ⟨1, _⟩ => exact Fin.ext (at_zero 128 (y 1).val b).symm
  · obtain ⟨a, b⟩ := idx36 point
    refine ⟨point, flush0_36 _, ?_⟩
    show i ∈ ((View.whole main_v22_11).slice (win0_36.rect point)).set
    rw [View.set_slice_whole, Rect.mem_set_unit]
    intro x
    match x with
    | ⟨0, _⟩ => exact in_zero 4 (i 0).val a (i 0).isLt
    | ⟨1, _⟩ => exact in_zero 128 (i 1).val b (i 1).isLt
/-- Result array 37 after the kernel. -/
theorem end37 : (dats m 0 c).arrAt 37 cfg0.N = (out37 (V m c main_v15) (V m c main_v21) : S4x128.Idx → EReal) := by
  refine (dats m 0 c).arrAt_eq_of_cover 37 (_ : S4x128.Idx → EReal) (fun t _ => ?_) fun i => ?_
  · show (cfg0.win 37).cut (grid0.coords t) ((dats m 0 c).after 37 t) = _
    rw [after_37, iblk0, iblk19]
    funext y
    obtain ⟨a, b⟩ := idx37 t
    generalize out37 (V m c main_v15) (V m c main_v21) = f
    refine congrArg f (funext fun x => ?_)
    match x with
    | ⟨0, _⟩ => exact Fin.ext (at_zero 4 (y 0).val a).symm
    | ⟨1, _⟩ => exact Fin.ext (at_zero 128 (y 1).val b).symm
  · obtain ⟨a, b⟩ := idx37 point
    refine ⟨point, flush0_37 _, ?_⟩
    show i ∈ ((View.whole main_v22_12).slice (win0_37.rect point)).set
    rw [View.set_slice_whole, Rect.mem_set_unit]
    intro x
    match x with
    | ⟨0, _⟩ => exact in_zero 4 (i 0).val a (i 0).isLt
    | ⟨1, _⟩ => exact in_zero 128 (i 1).val b (i 1).isLt
/-- Result array 38 after the kernel. -/
theorem end38 : (dats m 0 c).arrAt 38 cfg0.N = (out38 (V m c main_v15) : S1x64.Idx → EReal) := by
  refine (dats m 0 c).arrAt_eq_of_cover 38 (_ : S1x64.Idx → EReal) (fun t _ => ?_) fun i => ?_
  · show (cfg0.win 38).cut (grid0.coords t) ((dats m 0 c).after 38 t) = _
    rw [after_38, iblk0]
    funext y
    obtain ⟨a, b⟩ := idx38 t
    generalize out38 (V m c main_v15) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx38 point
    refine ⟨point, flush0_38 _, ?_⟩
    show i ∈ ((View.whole main_v22_13).slice (win0_38.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 39 after the kernel. -/
theorem end39 : (dats m 0 c).arrAt 39 cfg0.N = (out39 (V m c main_v15) (V m c main_arg12) (V m c main_arg20) (V m c main_arg28) : S1x64.Idx → EReal) := by
  refine (dats m 0 c).arrAt_eq_of_cover 39 (_ : S1x64.Idx → EReal) (fun t _ => ?_) fun i => ?_
  · show (cfg0.win 39).cut (grid0.coords t) ((dats m 0 c).after 39 t) = _
    rw [after_39, iblk0, iblk4, iblk12, iblk20]
    funext y
    obtain ⟨a, b⟩ := idx39 t
    generalize out39 (V m c main_v15) (V m c main_arg12) (V m c main_arg20) (V m c main_arg28) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx39 point
    refine ⟨point, flush0_39 _, ?_⟩
    show i ∈ ((View.whole main_v22_14).slice (win0_39.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 40 after the kernel. -/
theorem end40 : (dats m 0 c).arrAt 40 cfg0.N = (out40 (V m c main_v15) (V m c main_arg20) : S1x64.Idx → EReal) := by
  refine (dats m 0 c).arrAt_eq_of_cover 40 (_ : S1x64.Idx → EReal) (fun t _ => ?_) fun i => ?_
  · show (cfg0.win 40).cut (grid0.coords t) ((dats m 0 c).after 40 t) = _
    rw [after_40, iblk0, iblk12]
    funext y
    obtain ⟨a, b⟩ := idx40 t
    generalize out40 (V m c main_v15) (V m c main_arg20) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx40 point
    refine ⟨point, flush0_40 _, ?_⟩
    show i ∈ ((View.whole main_v22_15).slice (win0_40.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 41 after the kernel. -/
theorem end41 : (dats m 0 c).arrAt 41 cfg0.N = (out41 (V m c main_v15) (V m c main_arg28) : S1x64.Idx → EReal) := by
  refine (dats m 0 c).arrAt_eq_of_cover 41 (_ : S1x64.Idx → EReal) (fun t _ => ?_) fun i => ?_
  · show (cfg0.win 41).cut (grid0.coords t) ((dats m 0 c).after 41 t) = _
    rw [after_41, iblk0, iblk20]
    funext y
    obtain ⟨a, b⟩ := idx41 t
    generalize out41 (V m c main_v15) (V m c main_arg28) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx41 point
    refine ⟨point, flush0_41 _, ?_⟩
    show i ∈ ((View.whole main_v22_16).slice (win0_41.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 42 after the kernel. -/
theorem end42 : (dats m 0 c).arrAt 42 cfg0.N = (out42 (V m c main_v15) : S1x64.Idx → EReal) := by
  refine (dats m 0 c).arrAt_eq_of_cover 42 (_ : S1x64.Idx → EReal) (fun t _ => ?_) fun i => ?_
  · show (cfg0.win 42).cut (grid0.coords t) ((dats m 0 c).after 42 t) = _
    rw [after_42, iblk0]
    funext y
    obtain ⟨a, b⟩ := idx42 t
    generalize out42 (V m c main_v15) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx42 point
    refine ⟨point, flush0_42 _, ?_⟩
    show i ∈ ((View.whole main_v22_17).slice (win0_42.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 43 after the kernel. -/
theorem end43 : (dats m 0 c).arrAt 43 cfg0.N = (out43 (V m c main_v15) (V m c main_arg13) (V m c main_arg21) (V m c main_arg29) : S1x64.Idx → EReal) := by
  refine (dats m 0 c).arrAt_eq_of_cover 43 (_ : S1x64.Idx → EReal) (fun t _ => ?_) fun i => ?_
  · show (cfg0.win 43).cut (grid0.coords t) ((dats m 0 c).after 43 t) = _
    rw [after_43, iblk0, iblk5, iblk13, iblk21]
    funext y
    obtain ⟨a, b⟩ := idx43 t
    generalize out43 (V m c main_v15) (V m c main_arg13) (V m c main_arg21) (V m c main_arg29) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx43 point
    refine ⟨point, flush0_43 _, ?_⟩
    show i ∈ ((View.whole main_v22_18).slice (win0_43.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 44 after the kernel. -/
theorem end44 : (dats m 0 c).arrAt 44 cfg0.N = (out44 (V m c main_v15) (V m c main_arg21) : S1x64.Idx → EReal) := by
  refine (dats m 0 c).arrAt_eq_of_cover 44 (_ : S1x64.Idx → EReal) (fun t _ => ?_) fun i => ?_
  · show (cfg0.win 44).cut (grid0.coords t) ((dats m 0 c).after 44 t) = _
    rw [after_44, iblk0, iblk13]
    funext y
    obtain ⟨a, b⟩ := idx44 t
    generalize out44 (V m c main_v15) (V m c main_arg21) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx44 point
    refine ⟨point, flush0_44 _, ?_⟩
    show i ∈ ((View.whole main_v22_19).slice (win0_44.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 45 after the kernel. -/
theorem end45 : (dats m 0 c).arrAt 45 cfg0.N = (out45 (V m c main_v15) (V m c main_arg29) : S1x64.Idx → EReal) := by
  refine (dats m 0 c).arrAt_eq_of_cover 45 (_ : S1x64.Idx → EReal) (fun t _ => ?_) fun i => ?_
  · show (cfg0.win 45).cut (grid0.coords t) ((dats m 0 c).after 45 t) = _
    rw [after_45, iblk0, iblk21]
    funext y
    obtain ⟨a, b⟩ := idx45 t
    generalize out45 (V m c main_v15) (V m c main_arg29) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx45 point
    refine ⟨point, flush0_45 _, ?_⟩
    show i ∈ ((View.whole main_v22_20).slice (win0_45.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 46 after the kernel. -/
theorem end46 : (dats m 0 c).arrAt 46 cfg0.N = (out46 (V m c main_v15) : S1x1024.Idx → EReal) := by
  refine (dats m 0 c).arrAt_eq_of_cover 46 (_ : S1x1024.Idx → EReal) (fun t _ => ?_) fun i => ?_
  · show (cfg0.win 46).cut (grid0.coords t) ((dats m 0 c).after 46 t) = _
    rw [after_46, iblk0]
    funext y
    obtain ⟨a, b⟩ := idx46 t
    generalize out46 (V m c main_v15) = f
    refine congrArg f (funext fun x => ?_)
    match x with
    | ⟨0, _⟩ => exact Fin.ext (at_zero 1 (y 0).val a).symm
    | ⟨1, _⟩ => exact Fin.ext (at_zero 1024 (y 1).val b).symm
  · obtain ⟨a, b⟩ := idx46 point
    refine ⟨point, flush0_46 _, ?_⟩
    show i ∈ ((View.whole main_v22_21).slice (win0_46.rect point)).set
    rw [View.set_slice_whole, Rect.mem_set_unit]
    intro x
    match x with
    | ⟨0, _⟩ => exact in_zero 1 (i 0).val a (i 0).isLt
    | ⟨1, _⟩ => exact in_zero 1024 (i 1).val b (i 1).isLt
/-- Result array 47 after the kernel. -/
theorem end47 : (dats m 0 c).arrAt 47 cfg0.N = (out47 (V m c main_v15) (V m c main_arg14) (V m c main_arg22) (V m c main_arg30) : S1x1024.Idx → EReal) := by
  refine (dats m 0 c).arrAt_eq_of_cover 47 (_ : S1x1024.Idx → EReal) (fun t _ => ?_) fun i => ?_
  · show (cfg0.win 47).cut (grid0.coords t) ((dats m 0 c).after 47 t) = _
    rw [after_47, iblk0, iblk6, iblk14, iblk22]
    funext y
    obtain ⟨a, b⟩ := idx47 t
    generalize out47 (V m c main_v15) (V m c main_arg14) (V m c main_arg22) (V m c main_arg30) = f
    refine congrArg f (funext fun x => ?_)
    match x with
    | ⟨0, _⟩ => exact Fin.ext (at_zero 1 (y 0).val a).symm
    | ⟨1, _⟩ => exact Fin.ext (at_zero 1024 (y 1).val b).symm
  · obtain ⟨a, b⟩ := idx47 point
    refine ⟨point, flush0_47 _, ?_⟩
    show i ∈ ((View.whole main_v22_22).slice (win0_47.rect point)).set
    rw [View.set_slice_whole, Rect.mem_set_unit]
    intro x
    match x with
    | ⟨0, _⟩ => exact in_zero 1 (i 0).val a (i 0).isLt
    | ⟨1, _⟩ => exact in_zero 1024 (i 1).val b (i 1).isLt
/-- Result array 48 after the kernel. -/
theorem end48 : (dats m 0 c).arrAt 48 cfg0.N = (out48 (V m c main_v15) (V m c main_arg22) : S1x1024.Idx → EReal) := by
  refine (dats m 0 c).arrAt_eq_of_cover 48 (_ : S1x1024.Idx → EReal) (fun t _ => ?_) fun i => ?_
  · show (cfg0.win 48).cut (grid0.coords t) ((dats m 0 c).after 48 t) = _
    rw [after_48, iblk0, iblk14]
    funext y
    obtain ⟨a, b⟩ := idx48 t
    generalize out48 (V m c main_v15) (V m c main_arg22) = f
    refine congrArg f (funext fun x => ?_)
    match x with
    | ⟨0, _⟩ => exact Fin.ext (at_zero 1 (y 0).val a).symm
    | ⟨1, _⟩ => exact Fin.ext (at_zero 1024 (y 1).val b).symm
  · obtain ⟨a, b⟩ := idx48 point
    refine ⟨point, flush0_48 _, ?_⟩
    show i ∈ ((View.whole main_v22_23).slice (win0_48.rect point)).set
    rw [View.set_slice_whole, Rect.mem_set_unit]
    intro x
    match x with
    | ⟨0, _⟩ => exact in_zero 1 (i 0).val a (i 0).isLt
    | ⟨1, _⟩ => exact in_zero 1024 (i 1).val b (i 1).isLt
/-- Result array 49 after the kernel. -/
theorem end49 : (dats m 0 c).arrAt 49 cfg0.N = (out49 (V m c main_v15) (V m c main_arg30) : S1x1024.Idx → EReal) := by
  refine (dats m 0 c).arrAt_eq_of_cover 49 (_ : S1x1024.Idx → EReal) (fun t _ => ?_) fun i => ?_
  · show (cfg0.win 49).cut (grid0.coords t) ((dats m 0 c).after 49 t) = _
    rw [after_49, iblk0, iblk22]
    funext y
    obtain ⟨a, b⟩ := idx49 t
    generalize out49 (V m c main_v15) (V m c main_arg30) = f
    refine congrArg f (funext fun x => ?_)
    match x with
    | ⟨0, _⟩ => exact Fin.ext (at_zero 1 (y 0).val a).symm
    | ⟨1, _⟩ => exact Fin.ext (at_zero 1024 (y 1).val b).symm
  · obtain ⟨a, b⟩ := idx49 point
    refine ⟨point, flush0_49 _, ?_⟩
    show i ∈ ((View.whole main_v22_24).slice (win0_49.rect point)).set
    rw [View.set_slice_whole, Rect.mem_set_unit]
    intro x
    match x with
    | ⟨0, _⟩ => exact in_zero 1 (i 0).val a (i 0).isLt
    | ⟨1, _⟩ => exact in_zero 1024 (i 1).val b (i 1).isLt
/-- Result array 50 after the kernel. -/
theorem end50 : (dats m 0 c).arrAt 50 cfg0.N = (out50 (V m c main_v15) : S1x64.Idx → EReal) := by
  refine (dats m 0 c).arrAt_eq_of_cover 50 (_ : S1x64.Idx → EReal) (fun t _ => ?_) fun i => ?_
  · show (cfg0.win 50).cut (grid0.coords t) ((dats m 0 c).after 50 t) = _
    rw [after_50, iblk0]
    funext y
    obtain ⟨a, b⟩ := idx50 t
    generalize out50 (V m c main_v15) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx50 point
    refine ⟨point, flush0_50 _, ?_⟩
    show i ∈ ((View.whole main_v22_25).slice (win0_50.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 51 after the kernel. -/
theorem end51 : (dats m 0 c).arrAt 51 cfg0.N = (out51 (V m c main_v15) (V m c main_arg15) (V m c main_arg23) (V m c main_arg31) : S1x64.Idx → EReal) := by
  refine (dats m 0 c).arrAt_eq_of_cover 51 (_ : S1x64.Idx → EReal) (fun t _ => ?_) fun i => ?_
  · show (cfg0.win 51).cut (grid0.coords t) ((dats m 0 c).after 51 t) = _
    rw [after_51, iblk0, iblk7, iblk15, iblk23]
    funext y
    obtain ⟨a, b⟩ := idx51 t
    generalize out51 (V m c main_v15) (V m c main_arg15) (V m c main_arg23) (V m c main_arg31) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx51 point
    refine ⟨point, flush0_51 _, ?_⟩
    show i ∈ ((View.whole main_v22_26).slice (win0_51.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 52 after the kernel. -/
theorem end52 : (dats m 0 c).arrAt 52 cfg0.N = (out52 (V m c main_v15) (V m c main_arg23) : S1x64.Idx → EReal) := by
  refine (dats m 0 c).arrAt_eq_of_cover 52 (_ : S1x64.Idx → EReal) (fun t _ => ?_) fun i => ?_
  · show (cfg0.win 52).cut (grid0.coords t) ((dats m 0 c).after 52 t) = _
    rw [after_52, iblk0, iblk15]
    funext y
    obtain ⟨a, b⟩ := idx52 t
    generalize out52 (V m c main_v15) (V m c main_arg23) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx52 point
    refine ⟨point, flush0_52 _, ?_⟩
    show i ∈ ((View.whole main_v22_27).slice (win0_52.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 53 after the kernel. -/
theorem end53 : (dats m 0 c).arrAt 53 cfg0.N = (out53 (V m c main_v15) (V m c main_arg31) : S1x64.Idx → EReal) := by
  refine (dats m 0 c).arrAt_eq_of_cover 53 (_ : S1x64.Idx → EReal) (fun t _ => ?_) fun i => ?_
  · show (cfg0.win 53).cut (grid0.coords t) ((dats m 0 c).after 53 t) = _
    rw [after_53, iblk0, iblk23]
    funext y
    obtain ⟨a, b⟩ := idx53 t
    generalize out53 (V m c main_v15) (V m c main_arg31) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx53 point
    refine ⟨point, flush0_53 _, ?_⟩
    show i ∈ ((View.whole main_v22_28).slice (win0_53.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 54 after the kernel. -/
theorem end54 : (dats m 0 c).arrAt 54 cfg0.N = (out54 (V m c main_v15) : S1x64.Idx → EReal) := by
  refine (dats m 0 c).arrAt_eq_of_cover 54 (_ : S1x64.Idx → EReal) (fun t _ => ?_) fun i => ?_
  · show (cfg0.win 54).cut (grid0.coords t) ((dats m 0 c).after 54 t) = _
    rw [after_54, iblk0]
    funext y
    obtain ⟨a, b⟩ := idx54 t
    generalize out54 (V m c main_v15) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx54 point
    refine ⟨point, flush0_54 _, ?_⟩
    show i ∈ ((View.whole main_v22_29).slice (win0_54.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 55 after the kernel. -/
theorem end55 : (dats m 0 c).arrAt 55 cfg0.N = (out55 (V m c main_v15) (V m c main_arg16) (V m c main_arg24) (V m c main_arg32) : S1x64.Idx → EReal) := by
  refine (dats m 0 c).arrAt_eq_of_cover 55 (_ : S1x64.Idx → EReal) (fun t _ => ?_) fun i => ?_
  · show (cfg0.win 55).cut (grid0.coords t) ((dats m 0 c).after 55 t) = _
    rw [after_55, iblk0, iblk8, iblk16, iblk24]
    funext y
    obtain ⟨a, b⟩ := idx55 t
    generalize out55 (V m c main_v15) (V m c main_arg16) (V m c main_arg24) (V m c main_arg32) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx55 point
    refine ⟨point, flush0_55 _, ?_⟩
    show i ∈ ((View.whole main_v22_30).slice (win0_55.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 56 after the kernel. -/
theorem end56 : (dats m 0 c).arrAt 56 cfg0.N = (out56 (V m c main_v15) (V m c main_arg24) : S1x64.Idx → EReal) := by
  refine (dats m 0 c).arrAt_eq_of_cover 56 (_ : S1x64.Idx → EReal) (fun t _ => ?_) fun i => ?_
  · show (cfg0.win 56).cut (grid0.coords t) ((dats m 0 c).after 56 t) = _
    rw [after_56, iblk0, iblk16]
    funext y
    obtain ⟨a, b⟩ := idx56 t
    generalize out56 (V m c main_v15) (V m c main_arg24) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx56 point
    refine ⟨point, flush0_56 _, ?_⟩
    show i ∈ ((View.whole main_v22_31).slice (win0_56.rect point)).set
    rw [View.set_slice_whole, Rect.mem_set_unit]
    intro x
    match x with
    | ⟨0, _⟩ => exact in_zero 1 (i 0).val a (i 0).isLt
    | ⟨1, _⟩ => exact in_zero 64 (i 1).val b (i 1).isLt
/-- Result array 57 after the kernel. -/
theorem end57 : (dats m 0 c).arrAt 57 cfg0.N = (out57 (V m c main_v15) (V m c main_arg32) : S1x64.Idx → EReal) := by
  refine (dats m 0 c).arrAt_eq_of_cover 57 (_ : S1x64.Idx → EReal) (fun t _ => ?_) fun i => ?_
  · show (cfg0.win 57).cut (grid0.coords t) ((dats m 0 c).after 57 t) = _
    rw [after_57, iblk0, iblk24]
    funext y
    obtain ⟨a, b⟩ := idx57 t
    generalize out57 (V m c main_v15) (V m c main_arg32) = f
    refine congrArg f (funext fun x => ?_)
    match x with
    | ⟨0, _⟩ => exact Fin.ext (at_zero 1 (y 0).val a).symm
    | ⟨1, _⟩ => exact Fin.ext (at_zero 64 (y 1).val b).symm
  · obtain ⟨a, b⟩ := idx57 point
    refine ⟨point, flush0_57 _, ?_⟩
    show i ∈ ((View.whole main_v22_32).slice (win0_57.rect point)).set
    rw [View.set_slice_whole, Rect.mem_set_unit]
    intro x
    match x with
    | ⟨0, _⟩ => exact in_zero 1 (i 0).val a (i 0).isLt
    | ⟨1, _⟩ => exact in_zero 64 (i 1).val b (i 1).isLt

end Proof.Tiny

end

end
-- ==== Proof.TinyLoss.lean ====
module

public import proofs.«01_k».proof.Proof.TinyBody
public import Idealize.ShloMosaic.Lib.IdealHost
public import Idealize.ShloMosaic.Lib.Pipeline.Value

/-!
  The loss over the extended reals. The kernel's program sums the squared errors down each of the 1024 columns, packs the sums in
  eight rows of 128, adds these up and multiplies once by 2⁻¹¹. The reference takes the mean of each row's squared errors, adds
  the means up and halves. Both are 2⁻¹¹ times the sum of all squared errors.
-/

@[expose] public section

set_option maxRecDepth 16384

noncomputable section

namespace Proof.Tiny

open Cert.Kernel8Ideal Cert.Kernel8Ideal.Gen
open Idealize.ShloMosaic Idealize.ShloMosaic.Pipeline Idealize.ShloMosaic.ValueIdx

/-- The sums left by a reduction add up to the sum of all entries. -/
theorem sum_reduced {s t : Shape} {axes : List (Fin s.rank)} (h : s.ReducesTo axes t) (x : s.Idx → EReal) :
    ∑ j : t.Idx, Ideal.hostReduceAdd h x 0 j = ∑ i : s.Idx, x i := by
  unfold Ideal.hostReduceAdd
  simp only [zero_add]
  exact Finset.sum_fiberwise Finset.univ h.drop x

/-- A reshape keeps the sum of all entries. -/
theorem sum_reshaped {s t : Shape} (h : s.ShapeCasts t) (x : s.Idx → EReal) :
    ∑ j : t.Idx, shapeCast t x h j = ∑ i : s.Idx, x i :=
  Equiv.sum_comp (Shape.reshapeEquiv h) x

/-- A nonnegative finite factor goes out of a sum. -/
theorem sum_mul_of_nonneg {ι : Type} (u : Finset ι) (f : ι → EReal) (r : ℝ) (hr : 0 ≤ r) :
    ∑ i ∈ u, f i * (r : EReal) = (∑ i ∈ u, f i) * (r : EReal) := by
  classical
  induction u using Finset.induction_on with
  | empty => simp
  | insert a u ha ih =>
    rw [Finset.sum_insert ha, Finset.sum_insert ha, ih,
      EReal.right_distrib_of_nonneg_of_ne_top (EReal.coe_nonneg.2 hr) (EReal.coe_ne_top r)]

/-- The factor 2⁻¹¹. -/
theorem bits_2048th : Ideal.ofBits .f32 0x3A000000#32 = ((1 / 2048 : ℝ) : EReal) := by
  simp [Ideal.ofBits, Ideal.ieee, -EReal.coe_mul]; norm_num

/-- The number 1024. -/
theorem bits_1024 : Ideal.ofBits .f32 0x44800000#32 = ((1024 : ℝ) : EReal) := by
  simp [Ideal.ofBits, Ideal.ieee, -EReal.coe_mul]; norm_num

/-- One half. -/
theorem bits_half : Ideal.ofBits .f32 0x3F000000#32 = ((1 / 2 : ℝ) : EReal) := by
  simp [Ideal.ofBits, Ideal.ieee, -EReal.coe_mul]; norm_num

/-- What the kernel makes of the packed column sums: 2⁻¹¹ times their sum. -/
theorem pay_total (x : Vec Ideal S8x128 .f32) (j : S1x1.Idx) :
    k0_pay1 x j = ((1 / 2048 : ℝ) : EReal) * ∑ i : S8x128.Idx, x i := by
  unfold k0_pay1
  refine congrArg₂ (fun a b : EReal => a * b) bits_2048th ?_
  refine (Ideal.multiReduction_add_total (shapeCast S1x8x128 (shapeCast S8x128 x shapeCasts_S8x128_S8x128) shapeCasts_S8x128_S1x8x128)
    0x00000000#32 reduces_S1x8x128_S1 (fun b => by match b with | ⟨0, _⟩ => rfl) (.inl rfl) rfl _).trans ?_
  exact (sum_reshaped _ _).trans (sum_reshaped _ _)

/-- One number for each of the 32768 rows of errors. -/
abbrev RowSums : Shape := ⟨1, ![32768]⟩

/-- The kernel's loss is the reference's: 2⁻¹¹ times the packed column sums of the squared errors is half the sum of the rows' means. -/
theorem loss_eq (e : FVec Ideal S32768x1024 .f32) (z : FVec Ideal S_ .f32) (hz : z (Shape.Idx.first h_S_) = 0)
    (k1 : S32768x1024.ReducesTo [1] RowSums) (k2 : RowSums.ReducesTo [0] S_) (kb : S_.BroadcastsInDim RowSums ![]) (ks : S_.ShapeCasts S1x1) :
    k0_pay1 (shapeCast S8x128 (Host.reduceAdd (mulf e e) z reducesTo_S32768x1024_S1024_d0 h_S_ : FVec Ideal S1024 .f32) shapeCasts_S1024_S8x128)
      = shapeCast S1x1 (mulf (constant S_ .f32 0x3F000000#32)
          (Host.reduceAdd (Host.divf (Host.reduceAdd (mulf e e) z k1 h_S_ : FVec Ideal RowSums .f32)
            (broadcastInDim RowSums ![] kb (constant S_ .f32 0x44800000#32))) z k2 h_S_ : FVec Ideal S_ .f32)) ks := by
  funext j
  rw [pay_total, sum_reshaped]
  have hl : ∑ i : S1024.Idx, (Host.reduceAdd (mulf e e) z reducesTo_S32768x1024_S1024_d0 h_S_ : FVec Ideal S1024 .f32) i
      = ∑ i : S32768x1024.Idx, mulf e e i := by
    refine Eq.trans (Finset.sum_congr rfl fun i _ => ?_) (sum_reduced reducesTo_S32768x1024_S1024_d0 (mulf e e))
    rw [hostReduceAdd_apply, hz]
  have hr : ∀ i, (Host.divf (Host.reduceAdd (mulf e e) z k1 h_S_ : FVec Ideal RowSums .f32)
      (broadcastInDim RowSums ![] kb (constant S_ .f32 0x44800000#32))) i
      = Ideal.hostReduceAdd k1 (mulf e e) 0 i * ((1 / 1024 : ℝ) : EReal) := fun i => by
    rw [hostDivf_apply, hostReduceAdd_apply, hz]
    refine Eq.trans (congrArg (Ideal.div _) bits_1024) (Ideal.div_coe (by norm_num) _)
  rw [hl]
  refine Eq.symm ((congrArg₂ (fun a b : EReal => a * b) bits_half (show _ = (∑ i : S32768x1024.Idx, mulf e e i) * ((1 / 1024 : ℝ) : EReal) from ?_)).trans ?_)
  · refine (hostReduceAdd_apply _ _ _ _ _).trans ?_
    rw [hz, Ideal.hostReduceAdd_total _ (fun b => b.elim0), zero_add]
    refine (Finset.sum_congr rfl fun i _ => hr i).trans ?_
    rw [sum_mul_of_nonneg _ _ _ (by norm_num), sum_reduced]
  · show ((1 / 2 : ℝ) : EReal) * _ = _
    rw [mul_comm (∑ i : S32768x1024.Idx, mulf e e i), ← mul_assoc, ← EReal.coe_mul]
    norm_num

end Proof.Tiny

end
-- ==== Proof.TinyValue.lean ====
module

public import proofs.«01_k».proof.Defs
public import proofs.«01_k».proof.Proof.TinyHost
public import proofs.«01_k».proof.Proof.TinyArr
public import proofs.«01_k».proof.Proof.TinyLoss
public import proofs.«01_k».proof.Proof.Gen.Reference8Ideal
public import proofs.«01_k».proof.Proof.Gen.Reference8Ideal.Run

/-!
  The algebraic claim of the step on the eight small weights: the loss, the eight gradients, and each weight's change and new
  moments are the reference's.
-/

@[expose] public section

set_option maxRecDepth 16384

noncomputable section

namespace Proof.Tiny

open Cert.Kernel8Ideal Cert.Kernel8Ideal.Gen
open Idealize.ShloMosaic Idealize.ShloMosaic.TcCoe Idealize.ShloMosaic.Pipeline
open Proof.Adam

section
variable (m : (ℓ : Loc nD τ sig) → Buf (Elt Ideal) ℓ) (c : Dev nD)

/-- The host leaves argument 9 as it was. -/
theorem kept9 : V m c main_arg9 = m ((c : Thread nD τ).loc main_arg9) := V_of_not_written m main_arg9 (by unfold hostWritten; decide) c

/-- The host leaves argument 12 as it was. -/
theorem kept12 : V m c main_arg12 = m ((c : Thread nD τ).loc main_arg12) := V_of_not_written m main_arg12 (by unfold hostWritten; decide) c

/-- The host leaves argument 13 as it was. -/
theorem kept13 : V m c main_arg13 = m ((c : Thread nD τ).loc main_arg13) := V_of_not_written m main_arg13 (by unfold hostWritten; decide) c

/-- The host leaves argument 14 as it was. -/
theorem kept14 : V m c main_arg14 = m ((c : Thread nD τ).loc main_arg14) := V_of_not_written m main_arg14 (by unfold hostWritten; decide) c

/-- The host leaves argument 15 as it was. -/
theorem kept15 : V m c main_arg15 = m ((c : Thread nD τ).loc main_arg15) := V_of_not_written m main_arg15 (by unfold hostWritten; decide) c

/-- The host leaves argument 16 as it was. -/
theorem kept16 : V m c main_arg16 = m ((c : Thread nD τ).loc main_arg16) := V_of_not_written m main_arg16 (by unfold hostWritten; decide) c

/-- The host leaves argument 17 as it was. -/
theorem kept17 : V m c main_arg17 = m ((c : Thread nD τ).loc main_arg17) := V_of_not_written m main_arg17 (by unfold hostWritten; decide) c

/-- The host leaves argument 20 as it was. -/
theorem kept20 : V m c main_arg20 = m ((c : Thread nD τ).loc main_arg20) := V_of_not_written m main_arg20 (by unfold hostWritten; decide) c

/-- The host leaves argument 21 as it was. -/
theorem kept21 : V m c main_arg21 = m ((c : Thread nD τ).loc main_arg21) := V_of_not_written m main_arg21 (by unfold hostWritten; decide) c

/-- The host leaves argument 22 as it was. -/
theorem kept22 : V m c main_arg22 = m ((c : Thread nD τ).loc main_arg22) := V_of_not_written m main_arg22 (by unfold hostWritten; decide) c

/-- The host leaves argument 23 as it was. -/
theorem kept23 : V m c main_arg23 = m ((c : Thread nD τ).loc main_arg23) := V_of_not_written m main_arg23 (by unfold hostWritten; decide) c

/-- The host leaves argument 24 as it was. -/
theorem kept24 : V m c main_arg24 = m ((c : Thread nD τ).loc main_arg24) := V_of_not_written m main_arg24 (by unfold hostWritten; decide) c

/-- The host leaves argument 25 as it was. -/
theorem kept25 : V m c main_arg25 = m ((c : Thread nD τ).loc main_arg25) := V_of_not_written m main_arg25 (by unfold hostWritten; decide) c

/-- The host leaves argument 28 as it was. -/
theorem kept28 : V m c main_arg28 = m ((c : Thread nD τ).loc main_arg28) := V_of_not_written m main_arg28 (by unfold hostWritten; decide) c

/-- The host leaves argument 29 as it was. -/
theorem kept29 : V m c main_arg29 = m ((c : Thread nD τ).loc main_arg29) := V_of_not_written m main_arg29 (by unfold hostWritten; decide) c

/-- The host leaves argument 30 as it was. -/
theorem kept30 : V m c main_arg30 = m ((c : Thread nD τ).loc main_arg30) := V_of_not_written m main_arg30 (by unfold hostWritten; decide) c

/-- The host leaves argument 31 as it was. -/
theorem kept31 : V m c main_arg31 = m ((c : Thread nD τ).loc main_arg31) := V_of_not_written m main_arg31 (by unfold hostWritten; decide) c

/-- The host leaves argument 32 as it was. -/
theorem kept32 : V m c main_arg32 = m ((c : Thread nD τ).loc main_arg32) := V_of_not_written m main_arg32 (by unfold hostWritten; decide) c

/-- The gradient read for small weight 0 is argument 1. -/
theorem grad0 : row 0 (by decide) (V m c main_v15) = (m ((c : Thread nD τ).loc main_arg1)) := by
  rw [host_packed]
  exact stack_row0 _ _ _ _ _ _ _ _ _ _ rfl

/-- The gradient read for small weight 1 is argument 2. -/
theorem grad1 : View.ld (V m c main_v15) part1 = (shapeCast S4x64 (m ((c : Thread nD τ).loc main_arg2)) shapeCasts_S1x4x64_S4x64) := by
  rw [host_packed]
  exact stack_part1 _ _ _ _ _ _ _ _ _ _ rfl

/-- The gradient read for small weight 2 is argument 3. -/
theorem grad2 : View.ld (V m c main_v15) part2 = (shapeCast S4x128 (m ((c : Thread nD τ).loc main_arg3)) shapeCasts_S1x4x128_S4x128) := by
  rw [host_packed]
  exact stack_part2 _ _ _ _ _ _ _ _ _ _ rfl

/-- The gradient read for small weight 3 is argument 4. -/
theorem grad3 : View.ld (V m c main_v15) part3 = (m ((c : Thread nD τ).loc main_arg4)) := by
  rw [host_packed]
  exact stack_part3 _ _ _ _ _ _ _ _ _ _ rfl

/-- The gradient read for small weight 4 is argument 5. -/
theorem grad4 : View.ld (V m c main_v15) part4 = (m ((c : Thread nD τ).loc main_arg5)) := by
  rw [host_packed]
  exact stack_part4 _ _ _ _ _ _ _ _ _ _ rfl

/-- The gradient read for small weight 5 is argument 6. -/
theorem grad5 : row 40 (by decide) (V m c main_v15) = (m ((c : Thread nD τ).loc main_arg6)) := by
  rw [host_packed]
  exact stack_row40 _ _ _ _ _ _ _ _ _ _ rfl

/-- The gradient read for small weight 6 is argument 7. -/
theorem grad6 : View.ld (V m c main_v15) part6 = (m ((c : Thread nD τ).loc main_arg7)) := by
  rw [host_packed]
  exact stack_part6 _ _ _ _ _ _ _ _ _ _ rfl

/-- The gradient read for small weight 7 is argument 8. -/
theorem grad7 : View.ld (V m c main_v15) part7 = (m ((c : Thread nD τ).loc main_arg8)) := by
  rw [host_packed]
  exact stack_part7 _ _ _ _ _ _ _ _ _ _ rfl

/-- The packed sums read for the loss are the column sums of the squared errors. -/
theorem sums : View.ld (V m c main_v15) tail = tileSums (m ((c : Thread nD τ).loc main_arg0)) := by
  rw [host_packed]
  exact stack_tail _ _ _ _ _ _ _ _ _

/-- The one entry of the loss is what is stored there. -/
theorem canon_one (p : Vec Ideal S1x1 .f32) : View.canon ([⟨one, p⟩] : List (View.Piece (Elt Ideal) S1x1 .f32)) = p :=
  View.canon_cons_unit_lit _ p [] (by decide)

/-- The loss the kernel's program leaves. -/
theorem fin25 : (dats m 0 c).arrAt 25 cfg0.N = (k0_pay1 (F := Ideal) (tileSums (m ((c : Thread nD τ).loc main_arg0))) : S1x1.Idx → EReal) := by
  refine (end25 m c).trans ?_
  unfold out25
  rw [sums]
  exact canon_one _

/-- The gradient of small weight 0, as the kernel's program leaves it. -/
theorem fin26 : (dats m 0 c).arrAt 26 cfg0.N = ((m ((c : Thread nD τ).loc main_arg1)) : S1x1024.Idx → EReal) := by
  refine (end26 m c).trans ((val26 _).trans ?_)
  rw [grad0]

/-- The change of small weight 0, as the kernel's program leaves it. -/
theorem fin27 : (dats m 0 c).arrAt 27 cfg0.N = (fun i : S1x1024.Idx => delta ((m ((c : Thread nD τ).loc main_arg9)) i) ((m ((c : Thread nD τ).loc main_arg1)) i) ((m ((c : Thread nD τ).loc main_arg17)) i) ((m ((c : Thread nD τ).loc main_arg25)) i)) := by
  refine (end27 m c).trans ((val27 _ _ _ _).trans ?_)
  rw [grad0, kept9, kept17, kept25]

/-- The new first moment of small weight 0, as the kernel's program leaves it. -/
theorem fin28 : (dats m 0 c).arrAt 28 cfg0.N = (fun i : S1x1024.Idx => newM ((m ((c : Thread nD τ).loc main_arg1)) i) ((m ((c : Thread nD τ).loc main_arg17)) i)) := by
  refine (end28 m c).trans ((val28 _ _).trans ?_)
  rw [grad0, kept17]

/-- The new second moment of small weight 0, as the kernel's program leaves it. -/
theorem fin29 : (dats m 0 c).arrAt 29 cfg0.N = (fun i : S1x1024.Idx => newV ((m ((c : Thread nD τ).loc main_arg1)) i) ((m ((c : Thread nD τ).loc main_arg25)) i)) := by
  refine (end29 m c).trans ((val29 _ _).trans ?_)
  rw [grad0, kept25]

/-- The gradient of small weight 1, as the kernel's program leaves it. -/
theorem fin30 : (dats m 0 c).arrAt 30 cfg0.N = ((shapeCast S4x64 (m ((c : Thread nD τ).loc main_arg2)) shapeCasts_S1x4x64_S4x64) : S4x64.Idx → EReal) := by
  refine (end30 m c).trans ((val30 _).trans ?_)
  rw [grad1]

/-- The change of small weight 1, as the kernel's program leaves it. -/
theorem fin31 : (dats m 0 c).arrAt 31 cfg0.N = (fun i : S4x64.Idx => delta ((shapeCast S4x64 (m ((c : Thread nD τ).loc main_arg10)) shapeCasts_S1x4x64_S4x64) i) ((shapeCast S4x64 (m ((c : Thread nD τ).loc main_arg2)) shapeCasts_S1x4x64_S4x64) i) ((shapeCast S4x64 (m ((c : Thread nD τ).loc main_arg18)) shapeCasts_S1x4x64_S4x64) i) ((shapeCast S4x64 (m ((c : Thread nD τ).loc main_arg26)) shapeCasts_S1x4x64_S4x64) i)) := by
  refine (end31 m c).trans ((val31 _ _ _ _).trans ?_)
  rw [grad1, host_v16, host_v18, host_v20]

/-- The new first moment of small weight 1, as the kernel's program leaves it. -/
theorem fin32 : (dats m 0 c).arrAt 32 cfg0.N = (fun i : S4x64.Idx => newM ((shapeCast S4x64 (m ((c : Thread nD τ).loc main_arg2)) shapeCasts_S1x4x64_S4x64) i) ((shapeCast S4x64 (m ((c : Thread nD τ).loc main_arg18)) shapeCasts_S1x4x64_S4x64) i)) := by
  refine (end32 m c).trans ((val32 _ _).trans ?_)
  rw [grad1, host_v18]

/-- The new second moment of small weight 1, as the kernel's program leaves it. -/
theorem fin33 : (dats m 0 c).arrAt 33 cfg0.N = (fun i : S4x64.Idx => newV ((shapeCast S4x64 (m ((c : Thread nD τ).loc main_arg2)) shapeCasts_S1x4x64_S4x64) i) ((shapeCast S4x64 (m ((c : Thread nD τ).loc main_arg26)) shapeCasts_S1x4x64_S4x64) i)) := by
  refine (end33 m c).trans ((val33 _ _).trans ?_)
  rw [grad1, host_v20]

/-- The gradient of small weight 2, as the kernel's program leaves it. -/
theorem fin34 : (dats m 0 c).arrAt 34 cfg0.N = ((shapeCast S4x128 (m ((c : Thread nD τ).loc main_arg3)) shapeCasts_S1x4x128_S4x128) : S4x128.Idx → EReal) := by
  refine (end34 m c).trans ((val34 _).trans ?_)
  rw [grad2]

/-- The change of small weight 2, as the kernel's program leaves it. -/
theorem fin35 : (dats m 0 c).arrAt 35 cfg0.N = (fun i : S4x128.Idx => delta ((shapeCast S4x128 (m ((c : Thread nD τ).loc main_arg11)) shapeCasts_S1x4x128_S4x128) i) ((shapeCast S4x128 (m ((c : Thread nD τ).loc main_arg3)) shapeCasts_S1x4x128_S4x128) i) ((shapeCast S4x128 (m ((c : Thread nD τ).loc main_arg19)) shapeCasts_S1x4x128_S4x128) i) ((shapeCast S4x128 (m ((c : Thread nD τ).loc main_arg27)) shapeCasts_S1x4x128_S4x128) i)) := by
  refine (end35 m c).trans ((val35 _ _ _ _).trans ?_)
  rw [grad2, host_v17, host_v19, host_v21]

/-- The new first moment of small weight 2, as the kernel's program leaves it. -/
theorem fin36 : (dats m 0 c).arrAt 36 cfg0.N = (fun i : S4x128.Idx => newM ((shapeCast S4x128 (m ((c : Thread nD τ).loc main_arg3)) shapeCasts_S1x4x128_S4x128) i) ((shapeCast S4x128 (m ((c : Thread nD τ).loc main_arg19)) shapeCasts_S1x4x128_S4x128) i)) := by
  refine (end36 m c).trans ((val36 _ _).trans ?_)
  rw [grad2, host_v19]

/-- The new second moment of small weight 2, as the kernel's program leaves it. -/
theorem fin37 : (dats m 0 c).arrAt 37 cfg0.N = (fun i : S4x128.Idx => newV ((shapeCast S4x128 (m ((c : Thread nD τ).loc main_arg3)) shapeCasts_S1x4x128_S4x128) i) ((shapeCast S4x128 (m ((c : Thread nD τ).loc main_arg27)) shapeCasts_S1x4x128_S4x128) i)) := by
  refine (end37 m c).trans ((val37 _ _).trans ?_)
  rw [grad2, host_v21]

/-- The gradient of small weight 3, as the kernel's program leaves it. -/
theorem fin38 : (dats m 0 c).arrAt 38 cfg0.N = ((m ((c : Thread nD τ).loc main_arg4)) : S1x64.Idx → EReal) := by
  refine (end38 m c).trans ((val38 _).trans ?_)
  rw [grad3]

/-- The change of small weight 3, as the kernel's program leaves it. -/
theorem fin39 : (dats m 0 c).arrAt 39 cfg0.N = (fun i : S1x64.Idx => delta ((m ((c : Thread nD τ).loc main_arg12)) i) ((m ((c : Thread nD τ).loc main_arg4)) i) ((m ((c : Thread nD τ).loc main_arg20)) i) ((m ((c : Thread nD τ).loc main_arg28)) i)) := by
  refine (end39 m c).trans ((val39 _ _ _ _).trans ?_)
  rw [grad3, kept12, kept20, kept28]

/-- The new first moment of small weight 3, as the kernel's program leaves it. -/
theorem fin40 : (dats m 0 c).arrAt 40 cfg0.N = (fun i : S1x64.Idx => newM ((m ((c : Thread nD τ).loc main_arg4)) i) ((m ((c : Thread nD τ).loc main_arg20)) i)) := by
  refine (end40 m c).trans ((val40 _ _).trans ?_)
  rw [grad3, kept20]

/-- The new second moment of small weight 3, as the kernel's program leaves it. -/
theorem fin41 : (dats m 0 c).arrAt 41 cfg0.N = (fun i : S1x64.Idx => newV ((m ((c : Thread nD τ).loc main_arg4)) i) ((m ((c : Thread nD τ).loc main_arg28)) i)) := by
  refine (end41 m c).trans ((val41 _ _).trans ?_)
  rw [grad3, kept28]

/-- The gradient of small weight 4, as the kernel's program leaves it. -/
theorem fin42 : (dats m 0 c).arrAt 42 cfg0.N = ((m ((c : Thread nD τ).loc main_arg5)) : S1x64.Idx → EReal) := by
  refine (end42 m c).trans ((val42 _).trans ?_)
  rw [grad4]

/-- The change of small weight 4, as the kernel's program leaves it. -/
theorem fin43 : (dats m 0 c).arrAt 43 cfg0.N = (fun i : S1x64.Idx => delta ((m ((c : Thread nD τ).loc main_arg13)) i) ((m ((c : Thread nD τ).loc main_arg5)) i) ((m ((c : Thread nD τ).loc main_arg21)) i) ((m ((c : Thread nD τ).loc main_arg29)) i)) := by
  refine (end43 m c).trans ((val43 _ _ _ _).trans ?_)
  rw [grad4, kept13, kept21, kept29]

/-- The new first moment of small weight 4, as the kernel's program leaves it. -/
theorem fin44 : (dats m 0 c).arrAt 44 cfg0.N = (fun i : S1x64.Idx => newM ((m ((c : Thread nD τ).loc main_arg5)) i) ((m ((c : Thread nD τ).loc main_arg21)) i)) := by
  refine (end44 m c).trans ((val44 _ _).trans ?_)
  rw [grad4, kept21]

/-- The new second moment of small weight 4, as the kernel's program leaves it. -/
theorem fin45 : (dats m 0 c).arrAt 45 cfg0.N = (fun i : S1x64.Idx => newV ((m ((c : Thread nD τ).loc main_arg5)) i) ((m ((c : Thread nD τ).loc main_arg29)) i)) := by
  refine (end45 m c).trans ((val45 _ _).trans ?_)
  rw [grad4, kept29]

/-- The gradient of small weight 5, as the kernel's program leaves it. -/
theorem fin46 : (dats m 0 c).arrAt 46 cfg0.N = ((m ((c : Thread nD τ).loc main_arg6)) : S1x1024.Idx → EReal) := by
  refine (end46 m c).trans ((val46 _).trans ?_)
  rw [grad5]

/-- The change of small weight 5, as the kernel's program leaves it. -/
theorem fin47 : (dats m 0 c).arrAt 47 cfg0.N = (fun i : S1x1024.Idx => delta ((m ((c : Thread nD τ).loc main_arg14)) i) ((m ((c : Thread nD τ).loc main_arg6)) i) ((m ((c : Thread nD τ).loc main_arg22)) i) ((m ((c : Thread nD τ).loc main_arg30)) i)) := by
  refine (end47 m c).trans ((val47 _ _ _ _).trans ?_)
  rw [grad5, kept14, kept22, kept30]

/-- The new first moment of small weight 5, as the kernel's program leaves it. -/
theorem fin48 : (dats m 0 c).arrAt 48 cfg0.N = (fun i : S1x1024.Idx => newM ((m ((c : Thread nD τ).loc main_arg6)) i) ((m ((c : Thread nD τ).loc main_arg22)) i)) := by
  refine (end48 m c).trans ((val48 _ _).trans ?_)
  rw [grad5, kept22]

/-- The new second moment of small weight 5, as the kernel's program leaves it. -/
theorem fin49 : (dats m 0 c).arrAt 49 cfg0.N = (fun i : S1x1024.Idx => newV ((m ((c : Thread nD τ).loc main_arg6)) i) ((m ((c : Thread nD τ).loc main_arg30)) i)) := by
  refine (end49 m c).trans ((val49 _ _).trans ?_)
  rw [grad5, kept30]

/-- The gradient of small weight 6, as the kernel's program leaves it. -/
theorem fin50 : (dats m 0 c).arrAt 50 cfg0.N = ((m ((c : Thread nD τ).loc main_arg7)) : S1x64.Idx → EReal) := by
  refine (end50 m c).trans ((val50 _).trans ?_)
  rw [grad6]

/-- The change of small weight 6, as the kernel's program leaves it. -/
theorem fin51 : (dats m 0 c).arrAt 51 cfg0.N = (fun i : S1x64.Idx => delta ((m ((c : Thread nD τ).loc main_arg15)) i) ((m ((c : Thread nD τ).loc main_arg7)) i) ((m ((c : Thread nD τ).loc main_arg23)) i) ((m ((c : Thread nD τ).loc main_arg31)) i)) := by
  refine (end51 m c).trans ((val51 _ _ _ _).trans ?_)
  rw [grad6, kept15, kept23, kept31]

/-- The new first moment of small weight 6, as the kernel's program leaves it. -/
theorem fin52 : (dats m 0 c).arrAt 52 cfg0.N = (fun i : S1x64.Idx => newM ((m ((c : Thread nD τ).loc main_arg7)) i) ((m ((c : Thread nD τ).loc main_arg23)) i)) := by
  refine (end52 m c).trans ((val52 _ _).trans ?_)
  rw [grad6, kept23]

/-- The new second moment of small weight 6, as the kernel's program leaves it. -/
theorem fin53 : (dats m 0 c).arrAt 53 cfg0.N = (fun i : S1x64.Idx => newV ((m ((c : Thread nD τ).loc main_arg7)) i) ((m ((c : Thread nD τ).loc main_arg31)) i)) := by
  refine (end53 m c).trans ((val53 _ _).trans ?_)
  rw [grad6, kept31]

/-- The gradient of small weight 7, as the kernel's program leaves it. -/
theorem fin54 : (dats m 0 c).arrAt 54 cfg0.N = ((m ((c : Thread nD τ).loc main_arg8)) : S1x64.Idx → EReal) := by
  refine (end54 m c).trans ((val54 _).trans ?_)
  rw [grad7]

/-- The change of small weight 7, as the kernel's program leaves it. -/
theorem fin55 : (dats m 0 c).arrAt 55 cfg0.N = (fun i : S1x64.Idx => delta ((m ((c : Thread nD τ).loc main_arg16)) i) ((m ((c : Thread nD τ).loc main_arg8)) i) ((m ((c : Thread nD τ).loc main_arg24)) i) ((m ((c : Thread nD τ).loc main_arg32)) i)) := by
  refine (end55 m c).trans ((val55 _ _ _ _).trans ?_)
  rw [grad7, kept16, kept24, kept32]

/-- The new first moment of small weight 7, as the kernel's program leaves it. -/
theorem fin56 : (dats m 0 c).arrAt 56 cfg0.N = (fun i : S1x64.Idx => newM ((m ((c : Thread nD τ).loc main_arg8)) i) ((m ((c : Thread nD τ).loc main_arg24)) i)) := by
  refine (end56 m c).trans ((val56 _ _).trans ?_)
  rw [grad7, kept24]

/-- The new second moment of small weight 7, as the kernel's program leaves it. -/
theorem fin57 : (dats m 0 c).arrAt 57 cfg0.N = (fun i : S1x64.Idx => newV ((m ((c : Thread nD τ).loc main_arg8)) i) ((m ((c : Thread nD τ).loc main_arg32)) i)) := by
  refine (end57 m c).trans ((val57 _ _).trans ?_)
  rw [grad7, kept32]

end

set_option maxHeartbeats 8000000 in
/-- The algebraic claim of the step on the eight small weights. -/
theorem algebraic : Cert.algebraic_Kernel8Ideal_Reference8Ideal := by
  intro m g m' g' _ hargs
  refine ⟨fun c => (dats m 0 c).arrAt 25 cfg0.N, fun c => (dats m 0 c).arrAt 26 cfg0.N, fun c => (dats m 0 c).arrAt 30 cfg0.N, fun c => (dats m 0 c).arrAt 34 cfg0.N, fun c => (dats m 0 c).arrAt 38 cfg0.N, fun c => (dats m 0 c).arrAt 42 cfg0.N, fun c => (dats m 0 c).arrAt 46 cfg0.N, fun c => (dats m 0 c).arrAt 50 cfg0.N, fun c => (dats m 0 c).arrAt 54 cfg0.N, fun c => (dats m 0 c).arrAt 27 cfg0.N, fun c => (dats m 0 c).arrAt 31 cfg0.N, fun c => (dats m 0 c).arrAt 35 cfg0.N, fun c => (dats m 0 c).arrAt 39 cfg0.N, fun c => (dats m 0 c).arrAt 43 cfg0.N, fun c => (dats m 0 c).arrAt 47 cfg0.N, fun c => (dats m 0 c).arrAt 51 cfg0.N, fun c => (dats m 0 c).arrAt 55 cfg0.N, fun c => (dats m 0 c).arrAt 28 cfg0.N, fun c => (dats m 0 c).arrAt 32 cfg0.N, fun c => (dats m 0 c).arrAt 36 cfg0.N, fun c => (dats m 0 c).arrAt 40 cfg0.N, fun c => (dats m 0 c).arrAt 44 cfg0.N, fun c => (dats m 0 c).arrAt 48 cfg0.N, fun c => (dats m 0 c).arrAt 52 cfg0.N, fun c => (dats m 0 c).arrAt 56 cfg0.N, fun c => (dats m 0 c).arrAt 29 cfg0.N, fun c => (dats m 0 c).arrAt 33 cfg0.N, fun c => (dats m 0 c).arrAt 37 cfg0.N, fun c => (dats m 0 c).arrAt 41 cfg0.N, fun c => (dats m 0 c).arrAt 45 cfg0.N, fun c => (dats m 0 c).arrAt 49 cfg0.N, fun c => (dats m 0 c).arrAt 53 cfg0.N, fun c => (dats m 0 c).arrAt 57 cfg0.N, ?_, ?_⟩
  · exact (θ_run _ _ _).mono (fun r h c => ⟨(h.1 c).1 25, (h.1 c).1 26, (h.1 c).1 30, (h.1 c).1 34, (h.1 c).1 38, (h.1 c).1 42, (h.1 c).1 46, (h.1 c).1 50, (h.1 c).1 54, (h.1 c).1 27, (h.1 c).1 31, (h.1 c).1 35, (h.1 c).1 39, (h.1 c).1 43, (h.1 c).1 47, (h.1 c).1 51, (h.1 c).1 55, (h.1 c).1 28, (h.1 c).1 32, (h.1 c).1 36, (h.1 c).1 40, (h.1 c).1 44, (h.1 c).1 48, (h.1 c).1 52, (h.1 c).1 56, (h.1 c).1 29, (h.1 c).1 33, (h.1 c).1 37, (h.1 c).1 41, (h.1 c).1 45, (h.1 c).1 49, (h.1 c).1 53, (h.1 c).1 57, args_kept m h.1 c⟩) (run_main m g)
  · refine (θ_run _ _ _).mono (fun r h c => ?_) (Cert.Reference8Ideal.Value.run m' g')
    obtain ⟨h25, h26, h30, h34, h38, h42, h46, h50, h54, h27, h31, h35, h39, h43, h47, h51, h55, h28, h32, h36, h40, h44, h48, h52, h56, h29, h33, h37, h41, h45, h49, h53, h57, hk⟩ := h c
    obtain ⟨a0, a1, a2, a3, a4, a5, a6, a7, a8, a9, a10, a11, a12, a13, a14, a15, a16, a17, a18, a19, a20, a21, a22, a23, a24, a25, a26, a27, a28, a29, a30, a31, a32⟩ := hargs c
    have e0 : (StableHlo.launchContents m' c) (Proc.devRef .tc Cert.Reference8Ideal.main_arg0) = m ((c : Thread nD τ).loc main_arg0) := a0
    have e1 : (StableHlo.launchContents m' c) (Proc.devRef .tc Cert.Reference8Ideal.main_arg1) = m ((c : Thread nD τ).loc main_arg1) := a1
    have e2 : (StableHlo.launchContents m' c) (Proc.devRef .tc Cert.Reference8Ideal.main_arg2) = m ((c : Thread nD τ).loc main_arg2) := a2
    have e3 : (StableHlo.launchContents m' c) (Proc.devRef .tc Cert.Reference8Ideal.main_arg3) = m ((c : Thread nD τ).loc main_arg3) := a3
    have e4 : (StableHlo.launchContents m' c) (Proc.devRef .tc Cert.Reference8Ideal.main_arg4) = m ((c : Thread nD τ).loc main_arg4) := a4
    have e5 : (StableHlo.launchContents m' c) (Proc.devRef .tc Cert.Reference8Ideal.main_arg5) = m ((c : Thread nD τ).loc main_arg5) := a5
    have e6 : (StableHlo.launchContents m' c) (Proc.devRef .tc Cert.Reference8Ideal.main_arg6) = m ((c : Thread nD τ).loc main_arg6) := a6
    have e7 : (StableHlo.launchContents m' c) (Proc.devRef .tc Cert.Reference8Ideal.main_arg7) = m ((c : Thread nD τ).loc main_arg7) := a7
    have e8 : (StableHlo.launchContents m' c) (Proc.devRef .tc Cert.Reference8Ideal.main_arg8) = m ((c : Thread nD τ).loc main_arg8) := a8
    have e9 : (StableHlo.launchContents m' c) (Proc.devRef .tc Cert.Reference8Ideal.main_arg9) = m ((c : Thread nD τ).loc main_arg9) := a9
    have e10 : (StableHlo.launchContents m' c) (Proc.devRef .tc Cert.Reference8Ideal.main_arg10) = m ((c : Thread nD τ).loc main_arg10) := a10
    have e11 : (StableHlo.launchContents m' c) (Proc.devRef .tc Cert.Reference8Ideal.main_arg11) = m ((c : Thread nD τ).loc main_arg11) := a11
    have e12 : (StableHlo.launchContents m' c) (Proc.devRef .tc Cert.Reference8Ideal.main_arg12) = m ((c : Thread nD τ).loc main_arg12) := a12
    have e13 : (StableHlo.launchContents m' c) (Proc.devRef .tc Cert.Reference8Ideal.main_arg13) = m ((c : Thread nD τ).loc main_arg13) := a13
    have e14 : (StableHlo.launchContents m' c) (Proc.devRef .tc Cert.Reference8Ideal.main_arg14) = m ((c : Thread nD τ).loc main_arg14) := a14
    have e15 : (StableHlo.launchContents m' c) (Proc.devRef .tc Cert.Reference8Ideal.main_arg15) = m ((c : Thread nD τ).loc main_arg15) := a15
    have e16 : (StableHlo.launchContents m' c) (Proc.devRef .tc Cert.Reference8Ideal.main_arg16) = m ((c : Thread nD τ).loc main_arg16) := a16
    have e17 : (StableHlo.launchContents m' c) (Proc.devRef .tc Cert.Reference8Ideal.main_arg17) = m ((c : Thread nD τ).loc main_arg17) := a17
    have e18 : (StableHlo.launchContents m' c) (Proc.devRef .tc Cert.Reference8Ideal.main_arg18) = m ((c : Thread nD τ).loc main_arg18) := a18
    have e19 : (StableHlo.launchContents m' c) (Proc.devRef .tc Cert.Reference8Ideal.main_arg19) = m ((c : Thread nD τ).loc main_arg19) := a19
    have e20 : (StableHlo.launchContents m' c) (Proc.devRef .tc Cert.Reference8Ideal.main_arg20) = m ((c : Thread nD τ).loc main_arg20) := a20
    have e21 : (StableHlo.launchContents m' c) (Proc.devRef .tc Cert.Reference8Ideal.main_arg21) = m ((c : Thread nD τ).loc main_arg21) := a21
    have e22 : (StableHlo.launchContents m' c) (Proc.devRef .tc Cert.Reference8Ideal.main_arg22) = m ((c : Thread nD τ).loc main_arg22) := a22
    have e23 : (StableHlo.launchContents m' c) (Proc.devRef .tc Cert.Reference8Ideal.main_arg23) = m ((c : Thread nD τ).loc main_arg23) := a23
    have e24 : (StableHlo.launchContents m' c) (Proc.devRef .tc Cert.Reference8Ideal.main_arg24) = m ((c : Thread nD τ).loc main_arg24) := a24
    have e25 : (StableHlo.launchContents m' c) (Proc.devRef .tc Cert.Reference8Ideal.main_arg25) = m ((c : Thread nD τ).loc main_arg25) := a25
    have e26 : (StableHlo.launchContents m' c) (Proc.devRef .tc Cert.Reference8Ideal.main_arg26) = m ((c : Thread nD τ).loc main_arg26) := a26
    have e27 : (StableHlo.launchContents m' c) (Proc.devRef .tc Cert.Reference8Ideal.main_arg27) = m ((c : Thread nD τ).loc main_arg27) := a27
    have e28 : (StableHlo.launchContents m' c) (Proc.devRef .tc Cert.Reference8Ideal.main_arg28) = m ((c : Thread nD τ).loc main_arg28) := a28
    have e29 : (StableHlo.launchContents m' c) (Proc.devRef .tc Cert.Reference8Ideal.main_arg29) = m ((c : Thread nD τ).loc main_arg29) := a29
    have e30 : (StableHlo.launchContents m' c) (Proc.devRef .tc Cert.Reference8Ideal.main_arg30) = m ((c : Thread nD τ).loc main_arg30) := a30
    have e31 : (StableHlo.launchContents m' c) (Proc.devRef .tc Cert.Reference8Ideal.main_arg31) = m ((c : Thread nD τ).loc main_arg31) := a31
    have e32 : (StableHlo.launchContents m' c) (Proc.devRef .tc Cert.Reference8Ideal.main_arg32) = m ((c : Thread nD τ).loc main_arg32) := a32
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, hk⟩
    · rw [h25, e0]
      exact (loss_eq _ _ (Idealize.ShloMosaic.Ideal.ofBits_zero_f32) _ _ _ _).symm.trans (fin25 m c).symm
    · rw [h26, e1]
      exact (fin26 m c).symm
    · rw [h30, e2]
      exact (fin30 m c).symm
    · rw [h34, e3]
      exact (fin34 m c).symm
    · rw [h38, e4]
      exact (fin38 m c).symm
    · rw [h42, e5]
      exact (fin42 m c).symm
    · rw [h46, e6]
      exact (fin46 m c).symm
    · rw [h50, e7]
      exact (fin50 m c).symm
    · rw [h54, e8]
      exact (fin54 m c).symm
    · rw [h27, e1, e9, e17, e25]
      exact (fin27 m c).symm
    · rw [h31, Cert.Reference8Ideal.Value.res_main_v34, Cert.Reference8Ideal.Value.res_main_v40, e2, e10, e18, e26]
      exact (fin31 m c).symm
    · rw [h35, Cert.Reference8Ideal.Value.res_main_v58, Cert.Reference8Ideal.Value.res_main_v64, e3, e11, e19, e27]
      exact (fin35 m c).symm
    · rw [h39, e4, e12, e20, e28]
      exact (fin39 m c).symm
    · rw [h43, e5, e13, e21, e29]
      exact (fin43 m c).symm
    · rw [h47, e6, e14, e22, e30]
      exact (fin47 m c).symm
    · rw [h51, e7, e15, e23, e31]
      exact (fin51 m c).symm
    · rw [h55, e8, e16, e24, e32]
      exact (fin55 m c).symm
    · rw [h28, e1, e17]
      exact (fin28 m c).symm
    · rw [h32, Cert.Reference8Ideal.Value.res_main_v34, e2, e18]
      exact (fin32 m c).symm
    · rw [h36, Cert.Reference8Ideal.Value.res_main_v58, e3, e19]
      exact (fin36 m c).symm
    · rw [h40, e4, e20]
      exact (fin40 m c).symm
    · rw [h44, e5, e21]
      exact (fin44 m c).symm
    · rw [h48, e6, e22]
      exact (fin48 m c).symm
    · rw [h52, e7, e23]
      exact (fin52 m c).symm
    · rw [h56, e8, e24]
      exact (fin56 m c).symm
    · rw [h29, e1, e25]
      exact (fin29 m c).symm
    · rw [h33, Cert.Reference8Ideal.Value.res_main_v40, e2, e26]
      exact (fin33 m c).symm
    · rw [h37, Cert.Reference8Ideal.Value.res_main_v64, e3, e27]
      exact (fin37 m c).symm
    · rw [h41, e4, e28]
      exact (fin41 m c).symm
    · rw [h45, e5, e29]
      exact (fin45 m c).symm
    · rw [h49, e6, e30]
      exact (fin49 m c).symm
    · rw [h53, e7, e31]
      exact (fin53 m c).symm
    · rw [h57, e8, e32]
      exact (fin57 m c).symm

end Proof.Tiny

end
-- ==== Proof.TinyFrame.lean ====
module

public import proofs.«01_k».proof.Defs
public import proofs.«01_k».proof.Proof.TinyRun
public import proofs.«01_k».proof.Proof.BitsRun

/-!
  The frames of the step on the eight small weights, of the printed program and of its ideal reading.
-/

@[expose] public section
open Idealize.ShloMosaic

namespace Proof.Tiny

/-- The printed kernel ends with its arguments unchanged and every semaphore at zero. -/
theorem frame_kernel8 : Cert.quiescent_Kernel8 := fun m ρ _ => Proof.TinyBits.frame_tiny m ρ

/-- The kernel read over the extended reals ends with its arguments unchanged and every semaphore at zero. -/
theorem frame_kernel8_ideal : Cert.quiescent_Kernel8Ideal := fun m ρ _ => frame_tiny m ρ

end Proof.Tiny

end
-- ==== Proof.AdamWi.lean ====
module

public import proofs.«01_k».proof.Defs
public import proofs.«01_k».proof.Proof.AdamStep
public import proofs.«01_k».proof.Proof.Gen.Kernel4Ideal.Value
public import proofs.«01_k».proof.Proof.Gen.Reference4Ideal.Run

/-!
  The optimiser's step on the input projection's weights: the kernel and the reference end with equal results, at all inputs.
  The gradient comes in four pieces of 256 columns.
-/

@[expose] public section

noncomputable section

open Idealize.ShloMosaic Idealize.ShloMosaic.TcCoe Idealize.SL.Sem
open Idealize.ShloMosaic.Pipeline (Dat)

namespace Proof.Adam.Wi

open Cert.Kernel4Ideal Cert.Kernel4Ideal.Gen Cert.Kernel4Ideal.Value

variable (m : (ℓ : Loc nD τ sig) → Buf (Elt Ideal) ℓ) (c : Dev nD)

/-- An argument as the call takes it: transposed. -/
abbrev rows (x : Vec Ideal S1x1024x832 .f32) : Vec Ideal S832x1024 .f32 :=
  transpose S832x1024 [1, 0] (shapeCast _ x shapeCasts_S1x1024x832_S1024x832) transposes_S1024x832_S832x1024_1_0

/-- The gradient, transposed: the call takes it in four pieces. -/
abbrev G : Vec Ideal S832x1024 .f32 := rows (m ((c : Thread nD τ).loc main_arg1))

/-! What the host hands to the call: the weight, the two moments, and the four pieces of the gradient. -/

theorem arg_w : V m c main_v7 = rows (m ((c : Thread nD τ).loc main_arg0)) := by
  unfold_abbrev_sides
  after_results
  rfl

theorem arg_m : V m c main_v9 = rows (m ((c : Thread nD τ).loc main_arg2)) := by
  unfold_abbrev_sides
  after_results
  rfl

theorem arg_v : V m c main_v11 = rows (m ((c : Thread nD τ).loc main_arg3)) := by
  unfold_abbrev_sides
  after_results
  rfl

theorem arg_g0 : V m c main_v2 = extractStridedSlice S832x256 ![0, 0] (G m c) slices_S832x1024_S832x256_0_0 := by
  unfold_abbrev_sides
  after_results
  rfl

theorem arg_g1 : V m c main_v3 = extractStridedSlice S832x256 ![0, 256] (G m c) slices_S832x1024_S832x256_0_256 := by
  unfold_abbrev_sides
  after_results
  rfl

theorem arg_g2 : V m c main_v4 = extractStridedSlice S832x256 ![0, 512] (G m c) slices_S832x1024_S832x256_0_512 := by
  unfold_abbrev_sides
  after_results
  rfl

theorem arg_g3 : V m c main_v5 = extractStridedSlice S832x256 ![0, 768] (G m c) slices_S832x1024_S832x256_0_768 := by
  unfold_abbrev_sides
  after_results
  rfl

/-- The windows' block indices: point `t` takes the rows from `208 * t` on. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 ∧ win0_9.index t 0 = t.val ∧ win0_9.index t 1 = 0 ∧ win0_10.index t 0 = t.val ∧ win0_10.index t 1 = 0 :=
  (by decide +kernel : ∀ t : Fin grid0.N, _)

/-- The place of a block's entry in the whole array. -/
def pos (t : Fin cfg0.N) (y : S208x1024.Idx) : S832x1024.Idx := fun a => match a with
  | ⟨0, _⟩ => ⟨208 * t.val + (y 0).val, by have := t.isLt; have hN : cfg0.N = 4 := N_0; have h0 : (y 0).val < 208 := (y 0).isLt; show _ < 832; omega⟩
  | ⟨1, _⟩ => ⟨(y 1).val, (y 1).isLt⟩

/-- An index with the coordinates of that place is that place. -/
theorem pos_eq (t : Fin cfg0.N) (y : S208x1024.Idx) (i : S832x1024.Idx) (k0 k1 : ℕ) (e0 : k0 = t.val) (e1 : k1 = 0)
    (h0 : (i 0 : ℕ) = k0 * 208 + 1 * (y 0 : ℕ)) (h1 : (i 1 : ℕ) = k1 * 1024 + 1 * (y 1 : ℕ)) : i = pos t y := by
  funext a
  match a with
  | ⟨0, _⟩ => exact Fin.ext (by show (i 0 : ℕ) = 208 * t.val + (y 0 : ℕ); rw [h0, e0]; omega)
  | ⟨1, _⟩ => exact Fin.ext (by show (i 1 : ℕ) = (y 1 : ℕ); rw [h1, e1]; omega)

/-- A block loaded whole is the block. -/
theorem ld_whole (P : Vec Ideal S208x1024 .f32) (y : S208x1024.Idx) : View.ld P r0_1 y = P y := by
  refine congrArg P (funext fun a => ?_)
  match a with
  | ⟨0, _⟩ => exact Fin.ext ((Nat.zero_add _).trans (Nat.one_mul _))
  | ⟨1, _⟩ => exact Fin.ext ((Nat.zero_add _).trans (Nat.one_mul _))

/-- A piece's block loaded whole is the block. -/
theorem ld_piece (P : Vec Ideal S208x256 .f32) (y : S208x256.Idx) : View.ld P r0_0 y = P y := by
  refine congrArg P (funext fun a => ?_)
  match a with
  | ⟨0, _⟩ => exact Fin.ext ((Nat.zero_add _).trans (Nat.one_mul _))
  | ⟨1, _⟩ => exact Fin.ext ((Nat.zero_add _).trans (Nat.one_mul _))

/-- The same, with the cast that leaves the shape as it is. -/
theorem piece_read (P : Vec Ideal S208x256 .f32) (y : S208x256.Idx) :
    shapeCast S208x256 (View.ld P r0_0) shapeCasts_S208x256_S208x256 y = P y :=
  (congrFun (shapeCast_self (View.ld P r0_0) shapeCasts_S208x256_S208x256) y).trans (ld_piece P y)

/-! The blocks that point `t` loads. -/

theorem blk_w (t : Fin cfg0.N) (y : S208x1024.Idx) : View.ld (iblk m c 0 t) r0_1 y = V m c main_v7 (pos t y) := by
  obtain ⟨a, b, -⟩ := idx t
  refine (ld_whole _ y).trans ?_
  show V m c main_v7 _ = _
  exact congrArg _ (pos_eq t y _ _ _ a b rfl rfl)

theorem blk_m (t : Fin cfg0.N) (y : S208x1024.Idx) : View.ld (iblk m c 1 t) r0_1 y = V m c main_v9 (pos t y) := by
  obtain ⟨-, -, a, b, -⟩ := idx t
  refine (ld_whole _ y).trans ?_
  show V m c main_v9 _ = _
  exact congrArg _ (pos_eq t y _ _ _ a b rfl rfl)

theorem blk_v (t : Fin cfg0.N) (y : S208x1024.Idx) : View.ld (iblk m c 2 t) r0_1 y = V m c main_v11 (pos t y) := by
  obtain ⟨-, -, -, -, a, b, -⟩ := idx t
  refine (ld_whole _ y).trans ?_
  show V m c main_v11 _ = _
  exact congrArg _ (pos_eq t y _ _ _ a b rfl rfl)

theorem blk_g0 (t : Fin cfg0.N) (z : S208x256.Idx) (y : S208x1024.Idx) (h0 : (z 0 : ℕ) = y 0) (h1 : 0 + (z 1 : ℕ) = y 1) :
    shapeCast S208x256 (View.ld (iblk m c 3 t) r0_0) shapeCasts_S208x256_S208x256 z = G m c (pos t y) := by
  obtain ⟨-, -, -, -, -, -, a, b, -⟩ := idx t
  refine (piece_read _ z).trans ?_
  show V m c main_v2 _ = _
  rw [arg_g0]
  refine congrArg (G m c) (pos_eq t y _ t.val 0 rfl rfl ?_ ?_)
  · show 0 + (win0_3.index t 0 * 208 + 1 * (z 0 : ℕ)) = _
    rw [a, h0]; omega
  · show 0 + (win0_3.index t 1 * 256 + 1 * (z 1 : ℕ)) = _
    rw [b]; omega

theorem blk_g1 (t : Fin cfg0.N) (z : S208x256.Idx) (y : S208x1024.Idx) (h0 : (z 0 : ℕ) = y 0) (h1 : 256 + (z 1 : ℕ) = y 1) :
    shapeCast S208x256 (View.ld (iblk m c 4 t) r0_0) shapeCasts_S208x256_S208x256 z = G m c (pos t y) := by
  obtain ⟨-, -, -, -, -, -, -, -, a, b, -⟩ := idx t
  refine (piece_read _ z).trans ?_
  show V m c main_v3 _ = _
  rw [arg_g1]
  refine congrArg (G m c) (pos_eq t y _ t.val 0 rfl rfl ?_ ?_)
  · show 0 + (win0_4.index t 0 * 208 + 1 * (z 0 : ℕ)) = _
    rw [a, h0]; omega
  · show 256 + (win0_4.index t 1 * 256 + 1 * (z 1 : ℕ)) = _
    rw [b]; omega

theorem blk_g2 (t : Fin cfg0.N) (z : S208x256.Idx) (y : S208x1024.Idx) (h0 : (z 0 : ℕ) = y 0) (h1 : 512 + (z 1 : ℕ) = y 1) :
    shapeCast S208x256 (View.ld (iblk m c 5 t) r0_0) shapeCasts_S208x256_S208x256 z = G m c (pos t y) := by
  obtain ⟨-, -, -, -, -, -, -, -, -, -, a, b, -⟩ := idx t
  refine (piece_read _ z).trans ?_
  show V m c main_v4 _ = _
  rw [arg_g2]
  refine congrArg (G m c) (pos_eq t y _ t.val 0 rfl rfl ?_ ?_)
  · show 0 + (win0_5.index t 0 * 208 + 1 * (z 0 : ℕ)) = _
    rw [a, h0]; omega
  · show 512 + (win0_5.index t 1 * 256 + 1 * (z 1 : ℕ)) = _
    rw [b]; omega

theorem blk_g3 (t : Fin cfg0.N) (z : S208x256.Idx) (y : S208x1024.Idx) (h0 : (z 0 : ℕ) = y 0) (h1 : 768 + (z 1 : ℕ) = y 1) :
    shapeCast S208x256 (View.ld (iblk m c 6 t) r0_0) shapeCasts_S208x256_S208x256 z = G m c (pos t y) := by
  obtain ⟨-, -, -, -, -, -, -, -, -, -, -, -, a, b, -⟩ := idx t
  refine (piece_read _ z).trans ?_
  show V m c main_v5 _ = _
  rw [arg_g3]
  refine congrArg (G m c) (pos_eq t y _ t.val 0 rfl rfl ?_ ?_)
  · show 0 + (win0_6.index t 0 * 208 + 1 * (z 0 : ℕ)) = _
    rw [a, h0]; omega
  · show 768 + (win0_6.index t 1 * 256 + 1 * (z 1 : ℕ)) = _
    rw [b]; omega

/-- The four pieces' blocks side by side are the gradient's rows. -/
theorem blk_g (t : Fin cfg0.N) (y : S208x1024.Idx) :
    E10 (View.ld (iblk m c 3 t) r0_0) (View.ld (iblk m c 4 t) r0_0) (View.ld (iblk m c 5 t) r0_0) (View.ld (iblk m c 6 t) r0_0) y = G m c (pos t y) := by
  have hy : (y 1 : ℕ) < 1024 := (y 1).isLt
  have cases : (y 1 : ℕ) / 256 = 0 ∨ (y 1 : ℕ) / 256 = 1 ∨ (y 1 : ℕ) / 256 = 2 ∨ (y 1 : ℕ) / 256 = 3 := by omega
  dsimp only [E10]
  rcases cases with h | h | h | h
  · rw [show csel10_0 y = (⟨0, by decide⟩ : Fin 4) from Fin.ext h]
    exact blk_g0 m c t (ix10_0 y) y rfl (by show 0 + (y 1 : ℕ) % 256 = (y 1 : ℕ); omega)
  · rw [show csel10_0 y = (⟨1, by decide⟩ : Fin 4) from Fin.ext h]
    exact blk_g1 m c t (ix10_0 y) y rfl (by show 256 + (y 1 : ℕ) % 256 = (y 1 : ℕ); omega)
  · rw [show csel10_0 y = (⟨2, by decide⟩ : Fin 4) from Fin.ext h]
    exact blk_g2 m c t (ix10_0 y) y rfl (by show 512 + (y 1 : ℕ) % 256 = (y 1 : ℕ); omega)
  · rw [show csel10_0 y = (⟨3, by decide⟩ : Fin 4) from Fin.ext h]
    exact blk_g3 m c t (ix10_0 y) y rfl (by show 768 + (y 1 : ℕ) % 256 = (y 1 : ℕ); omega)

/-- The result array of the changes after the last point. -/
theorem final7 : (dats m 0 c).arrAt 7 cfg0.N
    = (fun i => delta (V m c main_v7 i) (G m c i) (V m c main_v9 i) (V m c main_v11 i) : S832x1024.Idx → EReal) := by
  have hN : cfg0.N = 4 := N_0
  refine (dats m 0 c).arrAt_eq_of_cover 7 (_ : S832x1024.Idx → EReal) (fun t _ => ?_) fun i => ?_
  · rw [flushed7]
    funext y
    obtain ⟨-, -, -, -, -, -, -, -, -, -, -, -, -, -, a, b, -⟩ := idx t
    generalize hf : (fun i => delta (V m c main_v7 i) (G m c i) (V m c main_v9 i) (V m c main_v11 i) : S832x1024.Idx → EReal) = f
    refine Eq.trans ?_ (congrArg f (pos_eq t y _ _ _ a b rfl rfl)).symm
    show out0_7 _ _ _ _ _ _ _ y = _
    rw [out0_7, canon7_eq]
    have e : ∀ y : S208x1024.Idx, ix7_0 y = y := fun y => by
      funext a; match a with | ⟨0, _⟩ => rfl | ⟨1, _⟩ => rfl
    have g := blk_g m c t y
    rw [← hf]
    show delta (View.ld (iblk m c 0 t) r0_1 (ix7_5 y)) (E10 (View.ld (iblk m c 3 t) r0_0) (View.ld (iblk m c 4 t) r0_0) (View.ld (iblk m c 5 t) r0_0) (View.ld (iblk m c 6 t) r0_0) y) (View.ld (iblk m c 1 t) r0_1 (ix7_0 y)) (View.ld (iblk m c 2 t) r0_1 (ix7_2 y)) = _
    rw [g, show ix7_0 y = y from e y, show ix7_2 y = y from e y, show ix7_5 y = y from e y, blk_m, blk_v, blk_w]
  · have h0 : (i 0 : ℕ) < 832 := (i 0).isLt
    have h1 : (i 1 : ℕ) < 1024 := (i 1).isLt
    have ht : (i 0 : ℕ) / 208 < cfg0.N := by rw [hN]; omega
    obtain ⟨-, -, -, -, -, -, -, -, -, -, -, -, -, -, i0, i1, -⟩ := idx ⟨_, ht⟩
    refine ⟨⟨_, ht⟩, flush0_7 _, ?_⟩
    show i ∈ ((View.whole main_v12_0).slice (win0_7.rect ⟨_, ht⟩)).set
    rw [View.set_slice_whole, Rect.mem_set_unit]
    intro a
    match a with
    | ⟨0, _⟩ =>
      show win0_7.index ⟨_, ht⟩ 0 * 208 ≤ (i 0 : ℕ) ∧ (i 0 : ℕ) < win0_7.index ⟨_, ht⟩ 0 * 208 + 208
      rw [i0]; dsimp only; omega
    | ⟨1, _⟩ =>
      show win0_7.index ⟨_, ht⟩ 1 * 1024 ≤ (i 1 : ℕ) ∧ (i 1 : ℕ) < win0_7.index ⟨_, ht⟩ 1 * 1024 + 1024
      rw [i1]; omega

/-- The result array of the new first moments after the last point. -/
theorem final8 : (dats m 0 c).arrAt 8 cfg0.N
    = (fun i => newM (G m c i) (V m c main_v9 i) : S832x1024.Idx → EReal) := by
  have hN : cfg0.N = 4 := N_0
  refine (dats m 0 c).arrAt_eq_of_cover 8 (_ : S832x1024.Idx → EReal) (fun t _ => ?_) fun i => ?_
  · rw [flushed8]
    funext y
    obtain ⟨-, -, -, -, -, -, -, -, -, -, -, -, -, -, -, -, a, b, -⟩ := idx t
    generalize hf : (fun i => newM (G m c i) (V m c main_v9 i) : S832x1024.Idx → EReal) = f
    refine Eq.trans ?_ (congrArg f (pos_eq t y _ _ _ a b rfl rfl)).symm
    show out0_8 _ _ _ _ _ _ _ y = _
    rw [out0_8, canon8_eq]
    have e : ∀ y : S208x1024.Idx, ix8_0 y = y := fun y => by
      funext a; match a with | ⟨0, _⟩ => rfl | ⟨1, _⟩ => rfl
    have g := blk_g m c t y
    rw [← hf]
    show newM (E10 (View.ld (iblk m c 3 t) r0_0) (View.ld (iblk m c 4 t) r0_0) (View.ld (iblk m c 5 t) r0_0) (View.ld (iblk m c 6 t) r0_0) y) (View.ld (iblk m c 1 t) r0_1 (ix8_0 y)) = _
    rw [g, show ix8_0 y = y from e y, blk_m]
  · have h0 : (i 0 : ℕ) < 832 := (i 0).isLt
    have h1 : (i 1 : ℕ) < 1024 := (i 1).isLt
    have ht : (i 0 : ℕ) / 208 < cfg0.N := by rw [hN]; omega
    obtain ⟨-, -, -, -, -, -, -, -, -, -, -, -, -, -, -, -, i0, i1, -⟩ := idx ⟨_, ht⟩
    refine ⟨⟨_, ht⟩, flush0_8 _, ?_⟩
    show i ∈ ((View.whole main_v12_1).slice (win0_8.rect ⟨_, ht⟩)).set
    rw [View.set_slice_whole, Rect.mem_set_unit]
    intro a
    match a with
    | ⟨0, _⟩ =>
      show win0_8.index ⟨_, ht⟩ 0 * 208 ≤ (i 0 : ℕ) ∧ (i 0 : ℕ) < win0_8.index ⟨_, ht⟩ 0 * 208 + 208
      rw [i0]; dsimp only; omega
    | ⟨1, _⟩ =>
      show win0_8.index ⟨_, ht⟩ 1 * 1024 ≤ (i 1 : ℕ) ∧ (i 1 : ℕ) < win0_8.index ⟨_, ht⟩ 1 * 1024 + 1024
      rw [i1]; omega

/-- The result array of the new second moments after the last point. -/
theorem final9 : (dats m 0 c).arrAt 9 cfg0.N
    = (fun i => newV (G m c i) (V m c main_v11 i) : S832x1024.Idx → EReal) := by
  have hN : cfg0.N = 4 := N_0
  refine (dats m 0 c).arrAt_eq_of_cover 9 (_ : S832x1024.Idx → EReal) (fun t _ => ?_) fun i => ?_
  · rw [flushed9]
    funext y
    obtain ⟨-, -, -, -, -, -, -, -, -, -, -, -, -, -, -, -, -, -, a, b, -⟩ := idx t
    generalize hf : (fun i => newV (G m c i) (V m c main_v11 i) : S832x1024.Idx → EReal) = f
    refine Eq.trans ?_ (congrArg f (pos_eq t y _ _ _ a b rfl rfl)).symm
    show out0_9 _ _ _ _ _ _ _ y = _
    rw [out0_9, canon9_eq]
    have e : ∀ y : S208x1024.Idx, ix9_0 y = y := fun y => by
      funext a; match a with | ⟨0, _⟩ => rfl | ⟨1, _⟩ => rfl
    have g := blk_g m c t y
    rw [← hf]
    show newV (E10 (View.ld (iblk m c 3 t) r0_0) (View.ld (iblk m c 4 t) r0_0) (View.ld (iblk m c 5 t) r0_0) (View.ld (iblk m c 6 t) r0_0) y) (View.ld (iblk m c 2 t) r0_1 (ix9_0 y)) = _
    rw [g, show ix9_0 y = y from e y, blk_v]
  · have h0 : (i 0 : ℕ) < 832 := (i 0).isLt
    have h1 : (i 1 : ℕ) < 1024 := (i 1).isLt
    have ht : (i 0 : ℕ) / 208 < cfg0.N := by rw [hN]; omega
    obtain ⟨-, -, -, -, -, -, -, -, -, -, -, -, -, -, -, -, -, -, i0, i1, -⟩ := idx ⟨_, ht⟩
    refine ⟨⟨_, ht⟩, flush0_9 _, ?_⟩
    show i ∈ ((View.whole main_v12_2).slice (win0_9.rect ⟨_, ht⟩)).set
    rw [View.set_slice_whole, Rect.mem_set_unit]
    intro a
    match a with
    | ⟨0, _⟩ =>
      show win0_9.index ⟨_, ht⟩ 0 * 208 ≤ (i 0 : ℕ) ∧ (i 0 : ℕ) < win0_9.index ⟨_, ht⟩ 0 * 208 + 208
      rw [i0]; dsimp only; omega
    | ⟨1, _⟩ =>
      show win0_9.index ⟨_, ht⟩ 1 * 1024 ≤ (i 1 : ℕ) ∧ (i 1 : ℕ) < win0_9.index ⟨_, ht⟩ 1 * 1024 + 1024
      rw [i1]; omega

/-- The result array of the gradient, put together after the last point. -/
theorem final10 : (dats m 0 c).arrAt 10 cfg0.N
    = (G m c : S832x1024.Idx → EReal) := by
  have hN : cfg0.N = 4 := N_0
  refine (dats m 0 c).arrAt_eq_of_cover 10 (_ : S832x1024.Idx → EReal) (fun t _ => ?_) fun i => ?_
  · rw [flushed10]
    funext y
    obtain ⟨-, -, -, -, -, -, -, -, -, -, -, -, -, -, -, -, -, -, -, -, a, b⟩ := idx t
    generalize hf : (G m c : S832x1024.Idx → EReal) = f
    refine Eq.trans ?_ (congrArg f (pos_eq t y _ _ _ a b rfl rfl)).symm
    show out0_10 _ _ _ _ _ _ _ y = _
    rw [out0_10, canon10_eq]
    rw [← hf]
    exact blk_g m c t y
  · have h0 : (i 0 : ℕ) < 832 := (i 0).isLt
    have h1 : (i 1 : ℕ) < 1024 := (i 1).isLt
    have ht : (i 0 : ℕ) / 208 < cfg0.N := by rw [hN]; omega
    obtain ⟨-, -, -, -, -, -, -, -, -, -, -, -, -, -, -, -, -, -, -, -, i0, i1⟩ := idx ⟨_, ht⟩
    refine ⟨⟨_, ht⟩, flush0_10 _, ?_⟩
    show i ∈ ((View.whole main_v12_3).slice (win0_10.rect ⟨_, ht⟩)).set
    rw [View.set_slice_whole, Rect.mem_set_unit]
    intro a
    match a with
    | ⟨0, _⟩ =>
      show win0_10.index ⟨_, ht⟩ 0 * 208 ≤ (i 0 : ℕ) ∧ (i 0 : ℕ) < win0_10.index ⟨_, ht⟩ 0 * 208 + 208
      rw [i0]; dsimp only; omega
    | ⟨1, _⟩ =>
      show win0_10.index ⟨_, ht⟩ 1 * 1024 ≤ (i 1 : ℕ) ∧ (i 1 : ℕ) < win0_10.index ⟨_, ht⟩ 1 * 1024 + 1024
      rw [i1]; omega

/-- The algebraic claim of the step on the input projection's weights. -/
theorem algebraic : Cert.algebraic_Kernel4Ideal_Reference4Ideal := by
  intro m g m' g' _ hargs
  refine ⟨fun c => (dats m 0 c).arrAt 10 cfg0.N, fun c => (dats m 0 c).arrAt 7 cfg0.N, fun c => (dats m 0 c).arrAt 8 cfg0.N, fun c => (dats m 0 c).arrAt 9 cfg0.N, ?_, ?_⟩
  · exact (θ_run _ _ _).mono (fun r h c => by obtain ⟨h0, h1, h2, h3, hk⟩ := h c; exact ⟨h3, h0, h1, h2, hk⟩) (run_blocks m g)
  · refine (θ_run _ _ _).mono (fun r h c => ?_) (Cert.Reference4Ideal.Value.run m' g')
    obtain ⟨h0, h1, h2, h3, hk⟩ := h c
    obtain ⟨a0, a1, a2, a3⟩ := hargs c
    refine ⟨?_, ?_, ?_, ?_, hk⟩
    · rw [h0, a1]
      exact (final10 m c).symm
    · rw [h1, a0, a1, a2, a3]
      refine Eq.trans ?_ (final7 m c).symm
      rw [arg_w, arg_m, arg_v]
      rfl
    · rw [h2, a1, a2]
      refine Eq.trans ?_ (final8 m c).symm
      rw [arg_m]
      rfl
    · rw [h3, a1, a3]
      refine Eq.trans ?_ (final9 m c).symm
      rw [arg_v]
      rfl

end Proof.Adam.Wi

end

end
-- ==== Proof.AdamWs.lean ====
module

public import proofs.«01_k».proof.Defs
public import proofs.«01_k».proof.Proof.AdamStep
public import proofs.«01_k».proof.Proof.Gen.Kernel5Ideal.Value
public import proofs.«01_k».proof.Proof.Gen.Reference5Ideal.Run

/-!
  The optimiser's step on the mixing weights of the gated MLP: the kernel and the reference end with equal results, at all inputs.
-/

@[expose] public section

noncomputable section

open Idealize.ShloMosaic Idealize.ShloMosaic.TcCoe Idealize.SL.Sem
open Idealize.ShloMosaic.Pipeline (Dat)

namespace Proof.Adam.Ws

open Cert.Kernel5Ideal Cert.Kernel5Ideal.Gen Cert.Kernel5Ideal.Value

variable (m : (ℓ : Loc nD τ sig) → Buf (Elt Ideal) ℓ) (c : Dev nD)

/-- An argument as the call takes it. -/
abbrev rows (x : Vec Ideal S1x4x128x128 .f32) : Vec Ideal S512x128 .f32 := shapeCast _ x shapeCasts_S1x4x128x128_S512x128

/-! What the host hands to the call: the four arguments. -/

theorem arg_w : V m c main_v0 = rows (m ((c : Thread nD τ).loc main_arg0)) := by
  unfold_abbrev_sides
  after_results
  rfl

theorem arg_g : V m c main_v1 = rows (m ((c : Thread nD τ).loc main_arg1)) := by
  unfold_abbrev_sides
  after_results
  rfl

theorem arg_m : V m c main_v2 = rows (m ((c : Thread nD τ).loc main_arg2)) := by
  unfold_abbrev_sides
  after_results
  rfl

theorem arg_v : V m c main_v3 = rows (m ((c : Thread nD τ).loc main_arg3)) := by
  unfold_abbrev_sides
  after_results
  rfl

/-- The windows' block indices: point `t` takes the rows from `256 * t` on. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 :=
  (by decide +kernel : ∀ t : Fin grid0.N, _)

/-- The place of a block's entry in the whole array. -/
def pos (t : Fin cfg0.N) (y : S256x128.Idx) : S512x128.Idx := fun a => match a with
  | ⟨0, _⟩ => ⟨256 * t.val + (y 0).val, by have := t.isLt; have hN : cfg0.N = 2 := N_0; have h0 : (y 0).val < 256 := (y 0).isLt; show _ < 512; omega⟩
  | ⟨1, _⟩ => ⟨(y 1).val, (y 1).isLt⟩

/-- An index with the coordinates of that place is that place. -/
theorem pos_eq (t : Fin cfg0.N) (y : S256x128.Idx) (i : S512x128.Idx) (k0 k1 : ℕ) (e0 : k0 = t.val) (e1 : k1 = 0)
    (h0 : (i 0 : ℕ) = k0 * 256 + 1 * (y 0 : ℕ)) (h1 : (i 1 : ℕ) = k1 * 128 + 1 * (y 1 : ℕ)) : i = pos t y := by
  funext a
  match a with
  | ⟨0, _⟩ => exact Fin.ext (by show (i 0 : ℕ) = 256 * t.val + (y 0 : ℕ); rw [h0, e0]; omega)
  | ⟨1, _⟩ => exact Fin.ext (by show (i 1 : ℕ) = (y 1 : ℕ); rw [h1, e1]; omega)

/-- A block loaded whole is the block. -/
theorem ld_whole (P : Vec Ideal S256x128 .f32) (y : S256x128.Idx) : View.ld P r0_0 y = P y := by
  refine congrArg P (funext fun a => ?_)
  match a with
  | ⟨0, _⟩ => exact Fin.ext ((Nat.zero_add _).trans (Nat.one_mul _))
  | ⟨1, _⟩ => exact Fin.ext ((Nat.zero_add _).trans (Nat.one_mul _))

/-! The blocks that point `t` loads. -/

theorem blk_w (t : Fin cfg0.N) (y : S256x128.Idx) : View.ld (iblk m c 0 t) r0_0 y = V m c main_v0 (pos t y) := by
  obtain ⟨a, b, -⟩ := idx t
  refine (ld_whole _ y).trans ?_
  show V m c main_v0 _ = _
  exact congrArg _ (pos_eq t y _ _ _ a b rfl rfl)

theorem blk_g (t : Fin cfg0.N) (y : S256x128.Idx) : View.ld (iblk m c 3 t) r0_0 y = V m c main_v1 (pos t y) := by
  obtain ⟨-, -, -, -, -, -, a, b, -⟩ := idx t
  refine (ld_whole _ y).trans ?_
  show V m c main_v1 _ = _
  exact congrArg _ (pos_eq t y _ _ _ a b rfl rfl)

theorem blk_m (t : Fin cfg0.N) (y : S256x128.Idx) : View.ld (iblk m c 1 t) r0_0 y = V m c main_v2 (pos t y) := by
  obtain ⟨-, -, a, b, -⟩ := idx t
  refine (ld_whole _ y).trans ?_
  show V m c main_v2 _ = _
  exact congrArg _ (pos_eq t y _ _ _ a b rfl rfl)

theorem blk_v (t : Fin cfg0.N) (y : S256x128.Idx) : View.ld (iblk m c 2 t) r0_0 y = V m c main_v3 (pos t y) := by
  obtain ⟨-, -, -, -, a, b, -⟩ := idx t
  refine (ld_whole _ y).trans ?_
  show V m c main_v3 _ = _
  exact congrArg _ (pos_eq t y _ _ _ a b rfl rfl)

/-- The result array of the changes after the last point. -/
theorem final4 : (dats m 0 c).arrAt 4 cfg0.N
    = (fun i => delta (V m c main_v0 i) (V m c main_v1 i) (V m c main_v2 i) (V m c main_v3 i) : S512x128.Idx → EReal) := by
  have hN : cfg0.N = 2 := N_0
  refine (dats m 0 c).arrAt_eq_of_cover 4 (_ : S512x128.Idx → EReal) (fun t _ => ?_) fun i => ?_
  · rw [flushed4]
    funext y
    obtain ⟨-, -, -, -, -, -, -, -, a, b, -⟩ := idx t
    generalize hf : (fun i => delta (V m c main_v0 i) (V m c main_v1 i) (V m c main_v2 i) (V m c main_v3 i) : S512x128.Idx → EReal) = f
    refine Eq.trans ?_ (congrArg f (pos_eq t y _ _ _ a b rfl rfl)).symm
    show out0_4 _ _ _ _ y = _
    rw [out0_4, canon4_eq]
    have e : ∀ y : S256x128.Idx, ix4_0 y = y := fun y => by
      funext a; match a with | ⟨0, _⟩ => rfl | ⟨1, _⟩ => rfl
    simp only [E4]
    rw [show ix4_0 y = y from e y, show ix4_1 y = y from e y, show ix4_2 y = y from e y, show ix4_3 y = y from e y, show ix4_4 y = y from e y, show ix4_5 y = y from e y, blk_w, blk_g, blk_m, blk_v, ← hf]
    rfl
  · have h0 : (i 0 : ℕ) < 512 := (i 0).isLt
    have h1 : (i 1 : ℕ) < 128 := (i 1).isLt
    have ht : (i 0 : ℕ) / 256 < cfg0.N := by rw [hN]; omega
    obtain ⟨-, -, -, -, -, -, -, -, i0, i1, -⟩ := idx ⟨_, ht⟩
    refine ⟨⟨_, ht⟩, flush0_4 _, ?_⟩
    show i ∈ ((View.whole main_v4_0).slice (win0_4.rect ⟨_, ht⟩)).set
    rw [View.set_slice_whole, Rect.mem_set_unit]
    intro a
    match a with
    | ⟨0, _⟩ =>
      show win0_4.index ⟨_, ht⟩ 0 * 256 ≤ (i 0 : ℕ) ∧ (i 0 : ℕ) < win0_4.index ⟨_, ht⟩ 0 * 256 + 256
      rw [i0]; dsimp only; omega
    | ⟨1, _⟩ =>
      show win0_4.index ⟨_, ht⟩ 1 * 128 ≤ (i 1 : ℕ) ∧ (i 1 : ℕ) < win0_4.index ⟨_, ht⟩ 1 * 128 + 128
      rw [i1]; omega

/-- The result array of the new first moments after the last point. -/
theorem final5 : (dats m 0 c).arrAt 5 cfg0.N
    = (fun i => newM (V m c main_v1 i) (V m c main_v2 i) : S512x128.Idx → EReal) := by
  have hN : cfg0.N = 2 := N_0
  refine (dats m 0 c).arrAt_eq_of_cover 5 (_ : S512x128.Idx → EReal) (fun t _ => ?_) fun i => ?_
  · rw [flushed5]
    funext y
    obtain ⟨-, -, -, -, -, -, -, -, -, -, a, b, -⟩ := idx t
    generalize hf : (fun i => newM (V m c main_v1 i) (V m c main_v2 i) : S512x128.Idx → EReal) = f
    refine Eq.trans ?_ (congrArg f (pos_eq t y _ _ _ a b rfl rfl)).symm
    show out0_5 _ _ _ _ y = _
    rw [out0_5, canon5_eq]
    have e : ∀ y : S256x128.Idx, ix5_0 y = y := fun y => by
      funext a; match a with | ⟨0, _⟩ => rfl | ⟨1, _⟩ => rfl
    simp only [E5]
    rw [show ix5_0 y = y from e y, show ix5_1 y = y from e y, blk_g, blk_m, ← hf]
    rfl
  · have h0 : (i 0 : ℕ) < 512 := (i 0).isLt
    have h1 : (i 1 : ℕ) < 128 := (i 1).isLt
    have ht : (i 0 : ℕ) / 256 < cfg0.N := by rw [hN]; omega
    obtain ⟨-, -, -, -, -, -, -, -, -, -, i0, i1, -⟩ := idx ⟨_, ht⟩
    refine ⟨⟨_, ht⟩, flush0_5 _, ?_⟩
    show i ∈ ((View.whole main_v4_1).slice (win0_5.rect ⟨_, ht⟩)).set
    rw [View.set_slice_whole, Rect.mem_set_unit]
    intro a
    match a with
    | ⟨0, _⟩ =>
      show win0_5.index ⟨_, ht⟩ 0 * 256 ≤ (i 0 : ℕ) ∧ (i 0 : ℕ) < win0_5.index ⟨_, ht⟩ 0 * 256 + 256
      rw [i0]; dsimp only; omega
    | ⟨1, _⟩ =>
      show win0_5.index ⟨_, ht⟩ 1 * 128 ≤ (i 1 : ℕ) ∧ (i 1 : ℕ) < win0_5.index ⟨_, ht⟩ 1 * 128 + 128
      rw [i1]; omega

/-- The result array of the new second moments after the last point. -/
theorem final6 : (dats m 0 c).arrAt 6 cfg0.N
    = (fun i => newV (V m c main_v1 i) (V m c main_v3 i) : S512x128.Idx → EReal) := by
  have hN : cfg0.N = 2 := N_0
  refine (dats m 0 c).arrAt_eq_of_cover 6 (_ : S512x128.Idx → EReal) (fun t _ => ?_) fun i => ?_
  · rw [flushed6]
    funext y
    obtain ⟨-, -, -, -, -, -, -, -, -, -, -, -, a, b⟩ := idx t
    generalize hf : (fun i => newV (V m c main_v1 i) (V m c main_v3 i) : S512x128.Idx → EReal) = f
    refine Eq.trans ?_ (congrArg f (pos_eq t y _ _ _ a b rfl rfl)).symm
    show out0_6 _ _ _ _ y = _
    rw [out0_6, canon6_eq]
    have e : ∀ y : S256x128.Idx, ix6_0 y = y := fun y => by
      funext a; match a with | ⟨0, _⟩ => rfl | ⟨1, _⟩ => rfl
    simp only [E6]
    rw [show ix6_0 y = y from e y, show ix6_1 y = y from e y, show ix6_2 y = y from e y, blk_g, blk_v, ← hf]
    rfl
  · have h0 : (i 0 : ℕ) < 512 := (i 0).isLt
    have h1 : (i 1 : ℕ) < 128 := (i 1).isLt
    have ht : (i 0 : ℕ) / 256 < cfg0.N := by rw [hN]; omega
    obtain ⟨-, -, -, -, -, -, -, -, -, -, -, -, i0, i1⟩ := idx ⟨_, ht⟩
    refine ⟨⟨_, ht⟩, flush0_6 _, ?_⟩
    show i ∈ ((View.whole main_v4_2).slice (win0_6.rect ⟨_, ht⟩)).set
    rw [View.set_slice_whole, Rect.mem_set_unit]
    intro a
    match a with
    | ⟨0, _⟩ =>
      show win0_6.index ⟨_, ht⟩ 0 * 256 ≤ (i 0 : ℕ) ∧ (i 0 : ℕ) < win0_6.index ⟨_, ht⟩ 0 * 256 + 256
      rw [i0]; dsimp only; omega
    | ⟨1, _⟩ =>
      show win0_6.index ⟨_, ht⟩ 1 * 128 ≤ (i 1 : ℕ) ∧ (i 1 : ℕ) < win0_6.index ⟨_, ht⟩ 1 * 128 + 128
      rw [i1]; omega

/-- The algebraic claim of the step on the mixing weights of the gated MLP. -/
theorem algebraic : Cert.algebraic_Kernel5Ideal_Reference5Ideal := by
  intro m g m' g' _ hargs
  refine ⟨fun c => (dats m 0 c).arrAt 4 cfg0.N, fun c => (dats m 0 c).arrAt 5 cfg0.N, fun c => (dats m 0 c).arrAt 6 cfg0.N, ?_, ?_⟩
  · exact (θ_run _ _ _).mono (fun r h c => h c) (run_blocks m g)
  · refine (θ_run _ _ _).mono (fun r h c => ?_) (Cert.Reference5Ideal.Value.run m' g')
    obtain ⟨h0, h1, h2, hk⟩ := h c
    obtain ⟨a0, a1, a2, a3⟩ := hargs c
    refine ⟨?_, ?_, ?_, hk⟩
    · rw [h0, a0, a1, a2, a3]
      refine Eq.trans ?_ (final4 m c).symm
      rw [arg_w, arg_g, arg_m, arg_v]
      rfl
    · rw [h1, a1, a2]
      refine Eq.trans ?_ (final5 m c).symm
      rw [arg_g, arg_m]
      rfl
    · rw [h2, a1, a3]
      refine Eq.trans ?_ (final6 m c).symm
      rw [arg_g, arg_v]
      rfl

end Proof.Adam.Ws

end

end
-- ==== Proof.AdamWkv.lean ====
module

public import proofs.«01_k».proof.Defs
public import proofs.«01_k».proof.Proof.AdamStep
public import proofs.«01_k».proof.Proof.Gen.Kernel6Ideal.Value
public import proofs.«01_k».proof.Proof.Gen.Reference6Ideal.Run

/-!
  The optimiser's step on the memory's key and value weights: the kernel and the reference end with equal results, at all inputs.
-/

@[expose] public section

noncomputable section

open Idealize.ShloMosaic Idealize.ShloMosaic.TcCoe Idealize.SL.Sem
open Idealize.ShloMosaic.Pipeline (Dat)

namespace Proof.Adam.Wkv

open Cert.Kernel6Ideal Cert.Kernel6Ideal.Gen Cert.Kernel6Ideal.Value

variable (m : (ℓ : Loc nD τ sig) → Buf (Elt Ideal) ℓ) (c : Dev nD)

/-- An argument as the call takes it. -/
abbrev rows (x : Vec Ideal S1x256x512 .f32) : Vec Ideal S256x512 .f32 := shapeCast _ x shapeCasts_S1x256x512_S256x512

/-! What the host hands to the call: the four arguments. -/

theorem arg_w : V m c main_v0 = rows (m ((c : Thread nD τ).loc main_arg0)) := by
  unfold_abbrev_sides
  after_results
  rfl

theorem arg_g : V m c main_v1 = rows (m ((c : Thread nD τ).loc main_arg1)) := by
  unfold_abbrev_sides
  after_results
  rfl

theorem arg_m : V m c main_v2 = rows (m ((c : Thread nD τ).loc main_arg2)) := by
  unfold_abbrev_sides
  after_results
  rfl

theorem arg_v : V m c main_v3 = rows (m ((c : Thread nD τ).loc main_arg3)) := by
  unfold_abbrev_sides
  after_results
  rfl

/-- The windows' block indices: point `t` takes the rows from `256 * t` on. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 :=
  (by decide +kernel : ∀ t : Fin grid0.N, _)

/-- The place of a block's entry in the whole array. -/
def pos (t : Fin cfg0.N) (y : S256x512.Idx) : S256x512.Idx := fun a => match a with
  | ⟨0, _⟩ => ⟨256 * t.val + (y 0).val, by have := t.isLt; have hN : cfg0.N = 1 := N_0; have h0 : (y 0).val < 256 := (y 0).isLt; show _ < 256; omega⟩
  | ⟨1, _⟩ => ⟨(y 1).val, (y 1).isLt⟩

/-- An index with the coordinates of that place is that place. -/
theorem pos_eq (t : Fin cfg0.N) (y : S256x512.Idx) (i : S256x512.Idx) (k0 k1 : ℕ) (e0 : k0 = t.val) (e1 : k1 = 0)
    (h0 : (i 0 : ℕ) = k0 * 256 + 1 * (y 0 : ℕ)) (h1 : (i 1 : ℕ) = k1 * 512 + 1 * (y 1 : ℕ)) : i = pos t y := by
  funext a
  match a with
  | ⟨0, _⟩ => exact Fin.ext (by show (i 0 : ℕ) = 256 * t.val + (y 0 : ℕ); rw [h0, e0]; omega)
  | ⟨1, _⟩ => exact Fin.ext (by show (i 1 : ℕ) = (y 1 : ℕ); rw [h1, e1]; omega)

/-- A block loaded whole is the block. -/
theorem ld_whole (P : Vec Ideal S256x512 .f32) (y : S256x512.Idx) : View.ld P r0_0 y = P y := by
  refine congrArg P (funext fun a => ?_)
  match a with
  | ⟨0, _⟩ => exact Fin.ext ((Nat.zero_add _).trans (Nat.one_mul _))
  | ⟨1, _⟩ => exact Fin.ext ((Nat.zero_add _).trans (Nat.one_mul _))

/-! The blocks that point `t` loads. -/

theorem blk_w (t : Fin cfg0.N) (y : S256x512.Idx) : View.ld (iblk m c 0 t) r0_0 y = V m c main_v0 (pos t y) := by
  obtain ⟨a, b, -⟩ := idx t
  refine (ld_whole _ y).trans ?_
  show V m c main_v0 _ = _
  exact congrArg _ (pos_eq t y _ _ _ a b rfl rfl)

theorem blk_g (t : Fin cfg0.N) (y : S256x512.Idx) : View.ld (iblk m c 3 t) r0_0 y = V m c main_v1 (pos t y) := by
  obtain ⟨-, -, -, -, -, -, a, b, -⟩ := idx t
  refine (ld_whole _ y).trans ?_
  show V m c main_v1 _ = _
  exact congrArg _ (pos_eq t y _ _ _ a b rfl rfl)

theorem blk_m (t : Fin cfg0.N) (y : S256x512.Idx) : View.ld (iblk m c 1 t) r0_0 y = V m c main_v2 (pos t y) := by
  obtain ⟨-, -, a, b, -⟩ := idx t
  refine (ld_whole _ y).trans ?_
  show V m c main_v2 _ = _
  exact congrArg _ (pos_eq t y _ _ _ a b rfl rfl)

theorem blk_v (t : Fin cfg0.N) (y : S256x512.Idx) : View.ld (iblk m c 2 t) r0_0 y = V m c main_v3 (pos t y) := by
  obtain ⟨-, -, -, -, a, b, -⟩ := idx t
  refine (ld_whole _ y).trans ?_
  show V m c main_v3 _ = _
  exact congrArg _ (pos_eq t y _ _ _ a b rfl rfl)

/-- The result array of the changes after the last point. -/
theorem final4 : (dats m 0 c).arrAt 4 cfg0.N
    = (fun i => delta (V m c main_v0 i) (V m c main_v1 i) (V m c main_v2 i) (V m c main_v3 i) : S256x512.Idx → EReal) := by
  have hN : cfg0.N = 1 := N_0
  refine (dats m 0 c).arrAt_eq_of_cover 4 (_ : S256x512.Idx → EReal) (fun t _ => ?_) fun i => ?_
  · rw [flushed4]
    funext y
    obtain ⟨-, -, -, -, -, -, -, -, a, b, -⟩ := idx t
    generalize hf : (fun i => delta (V m c main_v0 i) (V m c main_v1 i) (V m c main_v2 i) (V m c main_v3 i) : S256x512.Idx → EReal) = f
    refine Eq.trans ?_ (congrArg f (pos_eq t y _ _ _ a b rfl rfl)).symm
    show out0_4 _ _ _ _ y = _
    rw [out0_4, canon4_eq]
    have e : ∀ y : S256x512.Idx, ix4_0 y = y := fun y => by
      funext a; match a with | ⟨0, _⟩ => rfl | ⟨1, _⟩ => rfl
    simp only [E4]
    rw [show ix4_0 y = y from e y, show ix4_1 y = y from e y, show ix4_2 y = y from e y, show ix4_3 y = y from e y, show ix4_4 y = y from e y, show ix4_5 y = y from e y, blk_w, blk_g, blk_m, blk_v, ← hf]
    rfl
  · have h0 : (i 0 : ℕ) < 256 := (i 0).isLt
    have h1 : (i 1 : ℕ) < 512 := (i 1).isLt
    have ht : (i 0 : ℕ) / 256 < cfg0.N := by rw [hN]; omega
    obtain ⟨-, -, -, -, -, -, -, -, i0, i1, -⟩ := idx ⟨_, ht⟩
    refine ⟨⟨_, ht⟩, flush0_4 _, ?_⟩
    show i ∈ ((View.whole main_v4_0).slice (win0_4.rect ⟨_, ht⟩)).set
    rw [View.set_slice_whole, Rect.mem_set_unit]
    intro a
    match a with
    | ⟨0, _⟩ =>
      show win0_4.index ⟨_, ht⟩ 0 * 256 ≤ (i 0 : ℕ) ∧ (i 0 : ℕ) < win0_4.index ⟨_, ht⟩ 0 * 256 + 256
      rw [i0]; dsimp only; omega
    | ⟨1, _⟩ =>
      show win0_4.index ⟨_, ht⟩ 1 * 512 ≤ (i 1 : ℕ) ∧ (i 1 : ℕ) < win0_4.index ⟨_, ht⟩ 1 * 512 + 512
      rw [i1]; omega

/-- The result array of the new first moments after the last point. -/
theorem final5 : (dats m 0 c).arrAt 5 cfg0.N
    = (fun i => newM (V m c main_v1 i) (V m c main_v2 i) : S256x512.Idx → EReal) := by
  have hN : cfg0.N = 1 := N_0
  refine (dats m 0 c).arrAt_eq_of_cover 5 (_ : S256x512.Idx → EReal) (fun t _ => ?_) fun i => ?_
  · rw [flushed5]
    funext y
    obtain ⟨-, -, -, -, -, -, -, -, -, -, a, b, -⟩ := idx t
    generalize hf : (fun i => newM (V m c main_v1 i) (V m c main_v2 i) : S256x512.Idx → EReal) = f
    refine Eq.trans ?_ (congrArg f (pos_eq t y _ _ _ a b rfl rfl)).symm
    show out0_5 _ _ _ _ y = _
    rw [out0_5, canon5_eq]
    have e : ∀ y : S256x512.Idx, ix5_0 y = y := fun y => by
      funext a; match a with | ⟨0, _⟩ => rfl | ⟨1, _⟩ => rfl
    simp only [E5]
    rw [show ix5_0 y = y from e y, show ix5_1 y = y from e y, blk_g, blk_m, ← hf]
    rfl
  · have h0 : (i 0 : ℕ) < 256 := (i 0).isLt
    have h1 : (i 1 : ℕ) < 512 := (i 1).isLt
    have ht : (i 0 : ℕ) / 256 < cfg0.N := by rw [hN]; omega
    obtain ⟨-, -, -, -, -, -, -, -, -, -, i0, i1, -⟩ := idx ⟨_, ht⟩
    refine ⟨⟨_, ht⟩, flush0_5 _, ?_⟩
    show i ∈ ((View.whole main_v4_1).slice (win0_5.rect ⟨_, ht⟩)).set
    rw [View.set_slice_whole, Rect.mem_set_unit]
    intro a
    match a with
    | ⟨0, _⟩ =>
      show win0_5.index ⟨_, ht⟩ 0 * 256 ≤ (i 0 : ℕ) ∧ (i 0 : ℕ) < win0_5.index ⟨_, ht⟩ 0 * 256 + 256
      rw [i0]; dsimp only; omega
    | ⟨1, _⟩ =>
      show win0_5.index ⟨_, ht⟩ 1 * 512 ≤ (i 1 : ℕ) ∧ (i 1 : ℕ) < win0_5.index ⟨_, ht⟩ 1 * 512 + 512
      rw [i1]; omega

/-- The result array of the new second moments after the last point. -/
theorem final6 : (dats m 0 c).arrAt 6 cfg0.N
    = (fun i => newV (V m c main_v1 i) (V m c main_v3 i) : S256x512.Idx → EReal) := by
  have hN : cfg0.N = 1 := N_0
  refine (dats m 0 c).arrAt_eq_of_cover 6 (_ : S256x512.Idx → EReal) (fun t _ => ?_) fun i => ?_
  · rw [flushed6]
    funext y
    obtain ⟨-, -, -, -, -, -, -, -, -, -, -, -, a, b⟩ := idx t
    generalize hf : (fun i => newV (V m c main_v1 i) (V m c main_v3 i) : S256x512.Idx → EReal) = f
    refine Eq.trans ?_ (congrArg f (pos_eq t y _ _ _ a b rfl rfl)).symm
    show out0_6 _ _ _ _ y = _
    rw [out0_6, canon6_eq]
    have e : ∀ y : S256x512.Idx, ix6_0 y = y := fun y => by
      funext a; match a with | ⟨0, _⟩ => rfl | ⟨1, _⟩ => rfl
    simp only [E6]
    rw [show ix6_0 y = y from e y, show ix6_1 y = y from e y, show ix6_2 y = y from e y, blk_g, blk_v, ← hf]
    rfl
  · have h0 : (i 0 : ℕ) < 256 := (i 0).isLt
    have h1 : (i 1 : ℕ) < 512 := (i 1).isLt
    have ht : (i 0 : ℕ) / 256 < cfg0.N := by rw [hN]; omega
    obtain ⟨-, -, -, -, -, -, -, -, -, -, -, -, i0, i1⟩ := idx ⟨_, ht⟩
    refine ⟨⟨_, ht⟩, flush0_6 _, ?_⟩
    show i ∈ ((View.whole main_v4_2).slice (win0_6.rect ⟨_, ht⟩)).set
    rw [View.set_slice_whole, Rect.mem_set_unit]
    intro a
    match a with
    | ⟨0, _⟩ =>
      show win0_6.index ⟨_, ht⟩ 0 * 256 ≤ (i 0 : ℕ) ∧ (i 0 : ℕ) < win0_6.index ⟨_, ht⟩ 0 * 256 + 256
      rw [i0]; dsimp only; omega
    | ⟨1, _⟩ =>
      show win0_6.index ⟨_, ht⟩ 1 * 512 ≤ (i 1 : ℕ) ∧ (i 1 : ℕ) < win0_6.index ⟨_, ht⟩ 1 * 512 + 512
      rw [i1]; omega

/-- The algebraic claim of the step on the memory's key and value weights. -/
theorem algebraic : Cert.algebraic_Kernel6Ideal_Reference6Ideal := by
  intro m g m' g' _ hargs
  refine ⟨fun c => (dats m 0 c).arrAt 4 cfg0.N, fun c => (dats m 0 c).arrAt 5 cfg0.N, fun c => (dats m 0 c).arrAt 6 cfg0.N, ?_, ?_⟩
  · exact (θ_run _ _ _).mono (fun r h c => h c) (run_blocks m g)
  · refine (θ_run _ _ _).mono (fun r h c => ?_) (Cert.Reference6Ideal.Value.run m' g')
    obtain ⟨h0, h1, h2, hk⟩ := h c
    obtain ⟨a0, a1, a2, a3⟩ := hargs c
    refine ⟨?_, ?_, ?_, hk⟩
    · rw [h0, a0, a1, a2, a3]
      refine Eq.trans ?_ (final4 m c).symm
      rw [arg_w, arg_g, arg_m, arg_v]
      rfl
    · rw [h1, a1, a2]
      refine Eq.trans ?_ (final5 m c).symm
      rw [arg_g, arg_m]
      rfl
    · rw [h2, a1, a3]
      refine Eq.trans ?_ (final6 m c).symm
      rw [arg_g, arg_v]
      rfl

end Proof.Adam.Wkv

end

end
-- ==== Proof.AdamWo.lean ====
module

public import proofs.«01_k».proof.Defs
public import proofs.«01_k».proof.Proof.AdamStep
public import proofs.«01_k».proof.Proof.Gen.Kernel7Ideal.Value
public import proofs.«01_k».proof.Proof.Gen.Reference7Ideal.Run

/-!
  The optimiser's step on the output weights: the kernel and the reference end with equal results, at all inputs.
-/

@[expose] public section

noncomputable section

open Idealize.ShloMosaic Idealize.ShloMosaic.TcCoe Idealize.SL.Sem
open Idealize.ShloMosaic.Pipeline (Dat)

namespace Proof.Adam.Wo

open Cert.Kernel7Ideal Cert.Kernel7Ideal.Gen Cert.Kernel7Ideal.Value

variable (m : (ℓ : Loc nD τ sig) → Buf (Elt Ideal) ℓ) (c : Dev nD)

/-- An argument as the call takes it. -/
abbrev rows (x : Vec Ideal S1x256x1024 .f32) : Vec Ideal S256x1024 .f32 := shapeCast _ x shapeCasts_S1x256x1024_S256x1024

/-! What the host hands to the call: the four arguments. -/

theorem arg_w : V m c main_v0 = rows (m ((c : Thread nD τ).loc main_arg0)) := by
  unfold_abbrev_sides
  after_results
  rfl

theorem arg_g : V m c main_v1 = rows (m ((c : Thread nD τ).loc main_arg1)) := by
  unfold_abbrev_sides
  after_results
  rfl

theorem arg_m : V m c main_v2 = rows (m ((c : Thread nD τ).loc main_arg2)) := by
  unfold_abbrev_sides
  after_results
  rfl

theorem arg_v : V m c main_v3 = rows (m ((c : Thread nD τ).loc main_arg3)) := by
  unfold_abbrev_sides
  after_results
  rfl

/-- The windows' block indices: point `t` takes the rows from `256 * t` on. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 :=
  (by decide +kernel : ∀ t : Fin grid0.N, _)

/-- The place of a block's entry in the whole array. -/
def pos (t : Fin cfg0.N) (y : S256x1024.Idx) : S256x1024.Idx := fun a => match a with
  | ⟨0, _⟩ => ⟨256 * t.val + (y 0).val, by have := t.isLt; have hN : cfg0.N = 1 := N_0; have h0 : (y 0).val < 256 := (y 0).isLt; show _ < 256; omega⟩
  | ⟨1, _⟩ => ⟨(y 1).val, (y 1).isLt⟩

/-- An index with the coordinates of that place is that place. -/
theorem pos_eq (t : Fin cfg0.N) (y : S256x1024.Idx) (i : S256x1024.Idx) (k0 k1 : ℕ) (e0 : k0 = t.val) (e1 : k1 = 0)
    (h0 : (i 0 : ℕ) = k0 * 256 + 1 * (y 0 : ℕ)) (h1 : (i 1 : ℕ) = k1 * 1024 + 1 * (y 1 : ℕ)) : i = pos t y := by
  funext a
  match a with
  | ⟨0, _⟩ => exact Fin.ext (by show (i 0 : ℕ) = 256 * t.val + (y 0 : ℕ); rw [h0, e0]; omega)
  | ⟨1, _⟩ => exact Fin.ext (by show (i 1 : ℕ) = (y 1 : ℕ); rw [h1, e1]; omega)

/-- A block loaded whole is the block. -/
theorem ld_whole (P : Vec Ideal S256x1024 .f32) (y : S256x1024.Idx) : View.ld P r0_0 y = P y := by
  refine congrArg P (funext fun a => ?_)
  match a with
  | ⟨0, _⟩ => exact Fin.ext ((Nat.zero_add _).trans (Nat.one_mul _))
  | ⟨1, _⟩ => exact Fin.ext ((Nat.zero_add _).trans (Nat.one_mul _))

/-! The blocks that point `t` loads. -/

theorem blk_w (t : Fin cfg0.N) (y : S256x1024.Idx) : View.ld (iblk m c 0 t) r0_0 y = V m c main_v0 (pos t y) := by
  obtain ⟨a, b, -⟩ := idx t
  refine (ld_whole _ y).trans ?_
  show V m c main_v0 _ = _
  exact congrArg _ (pos_eq t y _ _ _ a b rfl rfl)

theorem blk_g (t : Fin cfg0.N) (y : S256x1024.Idx) : View.ld (iblk m c 3 t) r0_0 y = V m c main_v1 (pos t y) := by
  obtain ⟨-, -, -, -, -, -, a, b, -⟩ := idx t
  refine (ld_whole _ y).trans ?_
  show V m c main_v1 _ = _
  exact congrArg _ (pos_eq t y _ _ _ a b rfl rfl)

theorem blk_m (t : Fin cfg0.N) (y : S256x1024.Idx) : View.ld (iblk m c 1 t) r0_0 y = V m c main_v2 (pos t y) := by
  obtain ⟨-, -, a, b, -⟩ := idx t
  refine (ld_whole _ y).trans ?_
  show V m c main_v2 _ = _
  exact congrArg _ (pos_eq t y _ _ _ a b rfl rfl)

theorem blk_v (t : Fin cfg0.N) (y : S256x1024.Idx) : View.ld (iblk m c 2 t) r0_0 y = V m c main_v3 (pos t y) := by
  obtain ⟨-, -, -, -, a, b, -⟩ := idx t
  refine (ld_whole _ y).trans ?_
  show V m c main_v3 _ = _
  exact congrArg _ (pos_eq t y _ _ _ a b rfl rfl)

/-- The result array of the changes after the last point. -/
theorem final4 : (dats m 0 c).arrAt 4 cfg0.N
    = (fun i => delta (V m c main_v0 i) (V m c main_v1 i) (V m c main_v2 i) (V m c main_v3 i) : S256x1024.Idx → EReal) := by
  have hN : cfg0.N = 1 := N_0
  refine (dats m 0 c).arrAt_eq_of_cover 4 (_ : S256x1024.Idx → EReal) (fun t _ => ?_) fun i => ?_
  · rw [flushed4]
    funext y
    obtain ⟨-, -, -, -, -, -, -, -, a, b, -⟩ := idx t
    generalize hf : (fun i => delta (V m c main_v0 i) (V m c main_v1 i) (V m c main_v2 i) (V m c main_v3 i) : S256x1024.Idx → EReal) = f
    refine Eq.trans ?_ (congrArg f (pos_eq t y _ _ _ a b rfl rfl)).symm
    show out0_4 _ _ _ _ y = _
    rw [out0_4, canon4_eq]
    have e : ∀ y : S256x1024.Idx, ix4_0 y = y := fun y => by
      funext a; match a with | ⟨0, _⟩ => rfl | ⟨1, _⟩ => rfl
    simp only [E4]
    rw [show ix4_0 y = y from e y, show ix4_1 y = y from e y, show ix4_2 y = y from e y, show ix4_3 y = y from e y, show ix4_4 y = y from e y, show ix4_5 y = y from e y, blk_w, blk_g, blk_m, blk_v, ← hf]
    rfl
  · have h0 : (i 0 : ℕ) < 256 := (i 0).isLt
    have h1 : (i 1 : ℕ) < 1024 := (i 1).isLt
    have ht : (i 0 : ℕ) / 256 < cfg0.N := by rw [hN]; omega
    obtain ⟨-, -, -, -, -, -, -, -, i0, i1, -⟩ := idx ⟨_, ht⟩
    refine ⟨⟨_, ht⟩, flush0_4 _, ?_⟩
    show i ∈ ((View.whole main_v4_0).slice (win0_4.rect ⟨_, ht⟩)).set
    rw [View.set_slice_whole, Rect.mem_set_unit]
    intro a
    match a with
    | ⟨0, _⟩ =>
      show win0_4.index ⟨_, ht⟩ 0 * 256 ≤ (i 0 : ℕ) ∧ (i 0 : ℕ) < win0_4.index ⟨_, ht⟩ 0 * 256 + 256
      rw [i0]; dsimp only; omega
    | ⟨1, _⟩ =>
      show win0_4.index ⟨_, ht⟩ 1 * 1024 ≤ (i 1 : ℕ) ∧ (i 1 : ℕ) < win0_4.index ⟨_, ht⟩ 1 * 1024 + 1024
      rw [i1]; omega

/-- The result array of the new first moments after the last point. -/
theorem final5 : (dats m 0 c).arrAt 5 cfg0.N
    = (fun i => newM (V m c main_v1 i) (V m c main_v2 i) : S256x1024.Idx → EReal) := by
  have hN : cfg0.N = 1 := N_0
  refine (dats m 0 c).arrAt_eq_of_cover 5 (_ : S256x1024.Idx → EReal) (fun t _ => ?_) fun i => ?_
  · rw [flushed5]
    funext y
    obtain ⟨-, -, -, -, -, -, -, -, -, -, a, b, -⟩ := idx t
    generalize hf : (fun i => newM (V m c main_v1 i) (V m c main_v2 i) : S256x1024.Idx → EReal) = f
    refine Eq.trans ?_ (congrArg f (pos_eq t y _ _ _ a b rfl rfl)).symm
    show out0_5 _ _ _ _ y = _
    rw [out0_5, canon5_eq]
    have e : ∀ y : S256x1024.Idx, ix5_0 y = y := fun y => by
      funext a; match a with | ⟨0, _⟩ => rfl | ⟨1, _⟩ => rfl
    simp only [E5]
    rw [show ix5_0 y = y from e y, show ix5_1 y = y from e y, blk_g, blk_m, ← hf]
    rfl
  · have h0 : (i 0 : ℕ) < 256 := (i 0).isLt
    have h1 : (i 1 : ℕ) < 1024 := (i 1).isLt
    have ht : (i 0 : ℕ) / 256 < cfg0.N := by rw [hN]; omega
    obtain ⟨-, -, -, -, -, -, -, -, -, -, i0, i1, -⟩ := idx ⟨_, ht⟩
    refine ⟨⟨_, ht⟩, flush0_5 _, ?_⟩
    show i ∈ ((View.whole main_v4_1).slice (win0_5.rect ⟨_, ht⟩)).set
    rw [View.set_slice_whole, Rect.mem_set_unit]
    intro a
    match a with
    | ⟨0, _⟩ =>
      show win0_5.index ⟨_, ht⟩ 0 * 256 ≤ (i 0 : ℕ) ∧ (i 0 : ℕ) < win0_5.index ⟨_, ht⟩ 0 * 256 + 256
      rw [i0]; dsimp only; omega
    | ⟨1, _⟩ =>
      show win0_5.index ⟨_, ht⟩ 1 * 1024 ≤ (i 1 : ℕ) ∧ (i 1 : ℕ) < win0_5.index ⟨_, ht⟩ 1 * 1024 + 1024
      rw [i1]; omega

/-- The result array of the new second moments after the last point. -/
theorem final6 : (dats m 0 c).arrAt 6 cfg0.N
    = (fun i => newV (V m c main_v1 i) (V m c main_v3 i) : S256x1024.Idx → EReal) := by
  have hN : cfg0.N = 1 := N_0
  refine (dats m 0 c).arrAt_eq_of_cover 6 (_ : S256x1024.Idx → EReal) (fun t _ => ?_) fun i => ?_
  · rw [flushed6]
    funext y
    obtain ⟨-, -, -, -, -, -, -, -, -, -, -, -, a, b⟩ := idx t
    generalize hf : (fun i => newV (V m c main_v1 i) (V m c main_v3 i) : S256x1024.Idx → EReal) = f
    refine Eq.trans ?_ (congrArg f (pos_eq t y _ _ _ a b rfl rfl)).symm
    show out0_6 _ _ _ _ y = _
    rw [out0_6, canon6_eq]
    have e : ∀ y : S256x1024.Idx, ix6_0 y = y := fun y => by
      funext a; match a with | ⟨0, _⟩ => rfl | ⟨1, _⟩ => rfl
    simp only [E6]
    rw [show ix6_0 y = y from e y, show ix6_1 y = y from e y, show ix6_2 y = y from e y, blk_g, blk_v, ← hf]
    rfl
  · have h0 : (i 0 : ℕ) < 256 := (i 0).isLt
    have h1 : (i 1 : ℕ) < 1024 := (i 1).isLt
    have ht : (i 0 : ℕ) / 256 < cfg0.N := by rw [hN]; omega
    obtain ⟨-, -, -, -, -, -, -, -, -, -, -, -, i0, i1⟩ := idx ⟨_, ht⟩
    refine ⟨⟨_, ht⟩, flush0_6 _, ?_⟩
    show i ∈ ((View.whole main_v4_2).slice (win0_6.rect ⟨_, ht⟩)).set
    rw [View.set_slice_whole, Rect.mem_set_unit]
    intro a
    match a with
    | ⟨0, _⟩ =>
      show win0_6.index ⟨_, ht⟩ 0 * 256 ≤ (i 0 : ℕ) ∧ (i 0 : ℕ) < win0_6.index ⟨_, ht⟩ 0 * 256 + 256
      rw [i0]; dsimp only; omega
    | ⟨1, _⟩ =>
      show win0_6.index ⟨_, ht⟩ 1 * 1024 ≤ (i 1 : ℕ) ∧ (i 1 : ℕ) < win0_6.index ⟨_, ht⟩ 1 * 1024 + 1024
      rw [i1]; omega

/-- The algebraic claim of the step on the output weights. -/
theorem algebraic : Cert.algebraic_Kernel7Ideal_Reference7Ideal := by
  intro m g m' g' _ hargs
  refine ⟨fun c => (dats m 0 c).arrAt 4 cfg0.N, fun c => (dats m 0 c).arrAt 5 cfg0.N, fun c => (dats m 0 c).arrAt 6 cfg0.N, ?_, ?_⟩
  · exact (θ_run _ _ _).mono (fun r h c => h c) (run_blocks m g)
  · refine (θ_run _ _ _).mono (fun r h c => ?_) (Cert.Reference7Ideal.Value.run m' g')
    obtain ⟨h0, h1, h2, hk⟩ := h c
    obtain ⟨a0, a1, a2, a3⟩ := hargs c
    refine ⟨?_, ?_, ?_, hk⟩
    · rw [h0, a0, a1, a2, a3]
      refine Eq.trans ?_ (final4 m c).symm
      rw [arg_w, arg_g, arg_m, arg_v]
      rfl
    · rw [h1, a1, a2]
      refine Eq.trans ?_ (final5 m c).symm
      rw [arg_g, arg_m]
      rfl
    · rw [h2, a1, a3]
      refine Eq.trans ?_ (final6 m c).symm
      rw [arg_g, arg_v]
      rfl

end Proof.Adam.Wo

end

end
-- ==== Proof.lean ====
/-
  The proof of `Cert.Claim`: the frames of the kernels, of their ideal readings and of the references, and the equality
  of each kernel's and its reference's results, the gated MLP at finite inputs, the other calls at every input.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.GmlpValue
public import proofs.«01_k».proof.Proof.ProjFrame
public import proofs.«01_k».proof.Proof.ProjValue
public import proofs.«01_k».proof.Proof.OutValue
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.TinyValue
public import proofs.«01_k».proof.Proof.TinyFrame
public import proofs.«01_k».proof.Proof.AdamWi
public import proofs.«01_k».proof.Proof.AdamWs
public import proofs.«01_k».proof.Proof.AdamWkv
public import proofs.«01_k».proof.Proof.AdamWo

@[expose] public section

noncomputable section

namespace Cert.Proof

open Idealize.ShloMosaic Idealize.SL.Sem

/-- The gated MLP's reference runs and keeps its arguments; it declares no semaphore. -/
theorem frame_reference : Cert.quiescent_ReferenceIdeal := fun m ρ _ =>
  (θ_run _ _ _).mono (fun r h => ⟨fun c => (h c).2.2.2.2, sem_eq_zero_of_no_sems (by decide) r.2⟩) (Cert.ReferenceIdeal.Value.run m ρ)

/-- The projections' reference runs and keeps its arguments; it declares no semaphore. -/
theorem frame_reference2 : Cert.quiescent_Reference2Ideal := fun m ρ _ =>
  (θ_run _ _ _).mono (fun r h => ⟨fun c => (h c).2.2.2, sem_eq_zero_of_no_sems (by decide) r.2⟩) (Cert.Reference2Ideal.Value.run m ρ)

/-- The loss head's reference runs and keeps its arguments; it declares no semaphore. -/
theorem frame_reference3 : Cert.quiescent_Reference3Ideal := fun m ρ _ =>
  (θ_run _ _ _).mono (fun r h => ⟨fun c => (h c).2.2.2.2, sem_eq_zero_of_no_sems (by decide) r.2⟩) (Cert.Reference3Ideal.Value.run m ρ)

/-- The optimiser's step on the input projection's weight: the reference runs and keeps its arguments; it declares no semaphore. -/
theorem frame_reference4 : Cert.quiescent_Reference4Ideal := fun m ρ _ =>
  (θ_run _ _ _).mono (fun r h => ⟨fun c => (h c).2.2.2.2, sem_eq_zero_of_no_sems (by decide) r.2⟩) (Cert.Reference4Ideal.Value.run m ρ)

/-- The optimiser's step on the gated MLP's mixing weights: the reference runs and keeps its arguments; it declares no semaphore. -/
theorem frame_reference5 : Cert.quiescent_Reference5Ideal := fun m ρ _ =>
  (θ_run _ _ _).mono (fun r h => ⟨fun c => (h c).2.2.2, sem_eq_zero_of_no_sems (by decide) r.2⟩) (Cert.Reference5Ideal.Value.run m ρ)

/-- The optimiser's step on the memory's weight: the reference runs and keeps its arguments; it declares no semaphore. -/
theorem frame_reference6 : Cert.quiescent_Reference6Ideal := fun m ρ _ =>
  (θ_run _ _ _).mono (fun r h => ⟨fun c => (h c).2.2.2, sem_eq_zero_of_no_sems (by decide) r.2⟩) (Cert.Reference6Ideal.Value.run m ρ)

/-- The optimiser's step on the output weight: the reference runs and keeps its arguments; it declares no semaphore. -/
theorem frame_reference7 : Cert.quiescent_Reference7Ideal := fun m ρ _ =>
  (θ_run _ _ _).mono (fun r h => ⟨fun c => (h c).2.2.2, sem_eq_zero_of_no_sems (by decide) r.2⟩) (Cert.Reference7Ideal.Value.run m ρ)

/-- The optimiser's step on the eight small weights, with the loss: the reference runs and keeps its arguments; it declares no semaphore. -/
theorem frame_reference8 : Cert.quiescent_Reference8Ideal := fun m ρ _ =>
  (θ_run _ _ _).mono (fun r h => ⟨fun c => (h c).2.2.2.2.2.2.2.2.2.2.2.2.2.2.2.2.2.2.2.2.2.2.2.2.2.2.2.2.2.2.2.2.2, sem_eq_zero_of_no_sems (by decide) r.2⟩) (Cert.Reference8Ideal.Value.run m ρ)

/-- Every claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Gen.facts, Cert.On_written.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    Proof.Proj.frame_kernel2, Proof.Proj.frame_kernel2_ideal, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    Proof.Tiny.frame_kernel8, Proof.Tiny.frame_kernel8_ideal, frame_reference8,
    trivial, Proof.Gmlp.algebraic, trivial, Proof.Proj.algebraic, trivial, Proof.Out.algebraic,
    trivial, Proof.Adam.Wi.algebraic, trivial, Proof.Adam.Ws.algebraic, trivial, Proof.Adam.Wkv.algebraic, trivial, Proof.Adam.Wo.algebraic,
    trivial, Proof.Tiny.algebraic⟩

end Cert.Proof

end

end
